-- ==== Defs.lean ====
def Pre_Kernel (m : (ℓ : Loc Cert.Kernel.nD Cert.Kernel.τ Cert.Kernel.sig) → Buf (Elt Bits) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m ((c.tc : Thread Cert.TailReferenceIdeal.nD Cert.TailReferenceIdeal.τ).loc Cert.TailReferenceIdeal.main_arg10)
      ∧ r.2.mem ((c.tc : Thread Cert.TailReferenceIdeal.nD Cert.TailReferenceIdeal.τ).loc Cert.TailReferenceIdeal.main_arg11) = m ((c.tc : Thread Cert.TailReferenceIdeal.nD Cert.TailReferenceIdeal.τ).loc Cert.TailReferenceIdeal.main_arg11)
      ∧ r.2.mem ((c.tc : Thread Cert.TailReferenceIdeal.nD Cert.TailReferenceIdeal.τ).loc Cert.TailReferenceIdeal.main_arg12) = m ((c.tc : Thread Cert.TailReferenceIdeal.nD Cert.TailReferenceIdeal.τ).loc Cert.TailReferenceIdeal.main_arg12))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5))
      ∧ r.2.sem = fun _ => 0)

def preserves_Tail_TailIdeal : Prop :=
  True

def algebraic_TailIdeal_TailReferenceIdeal [hTailIdeal : Cert.TailIdeal.Facts] [hTailReferenceIdeal : Cert.TailReferenceIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)
      ∧ m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6)
      ∧ m' ((c.tc : Thread Cert.TailReferenceIdeal.nD Cert.TailReferenceIdeal.τ).loc Cert.TailReferenceIdeal.main_arg7) = m ((c.tc : Thread Cert.TailIdeal.nD Cert.TailIdeal.τ).loc Cert.TailIdeal.main_arg7)
      ∧ m' ((c.tc : Thread Cert.TailReferenceIdeal.nD Cert.TailReferenceIdeal.τ).loc Cert.TailReferenceIdeal.main_arg8) = m ((c.tc : Thread Cert.TailIdeal.nD Cert.TailIdeal.τ).loc Cert.TailIdeal.main_arg8)
      ∧ m' ((c.tc : Thread Cert.TailReferenceIdeal.nD Cert.TailReferenceIdeal.τ).loc Cert.TailReferenceIdeal.main_arg9) = m ((c.tc : Thread Cert.TailIdeal.nD Cert.TailIdeal.τ).loc Cert.TailIdeal.main_arg9)
      ∧ m' ((c.tc : Thread Cert.TailReferenceIdeal.nD Cert.TailReferenceIdeal.τ).loc Cert.TailReferenceIdeal.main_arg10) = m ((c.tc : Thread Cert.TailIdeal.nD Cert.TailIdeal.τ).loc Cert.TailIdeal.main_arg10)
      ∧ m' ((c.tc : Thread Cert.TailReferenceIdeal.nD Cert.TailReferenceIdeal.τ).loc Cert.TailReferenceIdeal.main_arg11) = m ((c.tc : Thread Cert.TailIdeal.nD Cert.TailIdeal.τ).loc Cert.TailIdeal.main_arg11)
      ∧ m' ((c.tc : Thread Cert.TailReferenceIdeal.nD Cert.TailReferenceIdeal.τ).loc Cert.TailReferenceIdeal.main_arg12) = m ((c.tc : Thread Cert.TailIdeal.nD Cert.TailIdeal.τ).loc Cert.TailIdeal.main_arg12)) →
    ∃ (v0 : (c : Dev Cert.TailIdeal.nD) → Buf (Elt Ideal) ((c.tc : Thread Cert.TailIdeal.nD Cert.TailIdeal.τ).loc Cert.TailIdeal.main_v19)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v19) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v101) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
          ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8)
          ∧ r.2.mem ((c.tc : Thread Cert.TailReferenceIdeal.nD Cert.TailReferenceIdeal.τ).loc Cert.TailReferenceIdeal.main_arg9) = m' ((c.tc : Thread Cert.TailReferenceIdeal.nD Cert.TailReferenceIdeal.τ).loc Cert.TailReferenceIdeal.main_arg9)
          ∧ r.2.mem ((c.tc : Thread Cert.TailReferenceIdeal.nD Cert.TailReferenceIdeal.τ).loc Cert.TailReferenceIdeal.main_arg10) = m' ((c.tc : Thread Cert.TailReferenceIdeal.nD Cert.TailReferenceIdeal.τ).loc Cert.TailReferenceIdeal.main_arg10)
          ∧ r.2.mem ((c.tc : Thread Cert.TailReferenceIdeal.nD Cert.TailReferenceIdeal.τ).loc Cert.TailReferenceIdeal.main_arg11) = m' ((c.tc : Thread Cert.TailReferenceIdeal.nD Cert.TailReferenceIdeal.τ).loc Cert.TailReferenceIdeal.main_arg11)
          ∧ r.2.mem ((c.tc : Thread Cert.TailReferenceIdeal.nD Cert.TailReferenceIdeal.τ).loc Cert.TailReferenceIdeal.main_arg12) = m' ((c.tc : Thread Cert.TailReferenceIdeal.nD Cert.TailReferenceIdeal.τ).loc Cert.TailReferenceIdeal.main_arg12))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)
      ∧ m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)) →
    ∃ (v0 : (c : Dev Cert.InprojIdeal.nD) → Buf (Elt Ideal) ((c.tc : Thread Cert.InprojIdeal.nD Cert.InprojIdeal.τ).loc Cert.InprojIdeal.main_v35_0)) (v1 : (c : Dev Cert.InprojIdeal.nD) → Buf (Elt Ideal) ((c.tc : Thread Cert.InprojIdeal.nD Cert.InprojIdeal.τ).loc Cert.InprojIdeal.main_v35_1)) (v2 : (c : Dev Cert.InprojIdeal.nD) → Buf (Elt Ideal) ((c.tc : Thread Cert.InprojIdeal.nD Cert.InprojIdeal.τ).loc Cert.InprojIdeal.main_v35_2)) (v3 : (c : Dev Cert.InprojIdeal.nD) → Buf (Elt Ideal) ((c.tc : Thread Cert.InprojIdeal.nD Cert.InprojIdeal.τ).loc Cert.InprojIdeal.main_v35_3)) (v4 : (c : Dev Cert.InprojIdeal.nD) → Buf (Elt Ideal) ((c.tc : Thread Cert.InprojIdeal.nD Cert.InprojIdeal.τ).loc Cert.InprojIdeal.main_v35_4)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v35_0) = v0 c
          ∧ r.2.mem ((c.tc : Thread Cert.InprojIdeal.nD Cert.InprojIdeal.τ).loc Cert.InprojIdeal.main_v35_1) = v1 c
          ∧ r.2.mem ((c.tc : Thread Cert.InprojIdeal.nD Cert.InprojIdeal.τ).loc Cert.InprojIdeal.main_v35_2) = v2 c
          ∧ r.2.mem ((c.tc : Thread Cert.InprojIdeal.nD Cert.InprojIdeal.τ).loc Cert.InprojIdeal.main_v35_3) = v3 c
          ∧ r.2.mem ((c.tc : Thread Cert.InprojIdeal.nD Cert.InprojIdeal.τ).loc Cert.InprojIdeal.main_v35_4) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v207) = v0 c
          ∧ r.2.mem ((c.tc : Thread Cert.InprojReferenceIdeal.nD Cert.InprojReferenceIdeal.τ).loc Cert.InprojReferenceIdeal.main_v45) = v1 c
          ∧ r.2.mem ((c.tc : Thread Cert.InprojReferenceIdeal.nD Cert.InprojReferenceIdeal.τ).loc Cert.InprojReferenceIdeal.main_v46) = v2 c
          ∧ r.2.mem ((c.tc : Thread Cert.InprojReferenceIdeal.nD Cert.InprojReferenceIdeal.τ).loc Cert.InprojReferenceIdeal.main_v39) = v3 c
          ∧ r.2.mem ((c.tc : Thread Cert.InprojReferenceIdeal.nD Cert.InprojReferenceIdeal.τ).loc Cert.InprojReferenceIdeal.main_v44) = v4 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5))

def Claim : Prop :=
  ∃ (hKernel : Cert.Kernel.Facts) (hTail : Cert.Tail.Facts) (hTailIdeal : Cert.TailIdeal.Facts) (hTailReferenceIdeal : Cert.TailReferenceIdeal.Facts) (hInproj : Cert.Inproj.Facts) (hInprojIdeal : Cert.InprojIdeal.Facts) (hInprojReferenceIdeal : Cert.InprojReferenceIdeal.Facts),
    quiescent_Kernel (hKernel := hKernel)
    ∧ quiescent_Tail (hTail := hTail)
    ∧ quiescent_TailIdeal (hTailIdeal := hTailIdeal)
    ∧ quiescent_TailReferenceIdeal (hTailReferenceIdeal := hTailReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ preserves_Tail_TailIdeal
    ∧ algebraic_TailIdeal_TailReferenceIdeal (hTailIdeal := hTailIdeal) (hTailReferenceIdeal := hTailReferenceIdeal)
    ∧ preserves_Inproj_InprojIdeal
    ∧ algebraic_InprojIdeal_InprojReferenceIdeal (hInprojIdeal := hInprojIdeal) (hInprojReferenceIdeal := hInprojReferenceIdeal)
-- ==== Kernel.lean ====
abbrev S16384x1664 : Shape := ⟨2, ![16384, 1664]⟩
abbrev S4x16x512x256 : Shape := ⟨4, ![4, 16, 512, 256]⟩
abbrev S16384x128 : Shape := ⟨2, ![16384, 128]⟩
abbrev S4x16x256 : Shape := ⟨3, ![4, 16, 256]⟩
abbrev S8x256x256 : Shape := ⟨3, ![8, 256, 256]⟩
abbrev S16384x512 : Shape := ⟨2, ![16384, 512]⟩
abbrev S256x512 : Shape := ⟨2, ![256, 512]⟩
abbrev S4096x512 : Shape := ⟨2, ![4096, 512]⟩
abbrev S1x16x512x256 : Shape := ⟨4, ![1, 16, 512, 256]⟩
abbrev S4096x128 : Shape := ⟨2, ![4096, 128]⟩
abbrev S256x128 : Shape := ⟨2, ![256, 128]⟩
abbrev S1x16x256 : Shape := ⟨3, ![1, 16, 256]⟩
abbrev S16x256x256 : Shape := ⟨3, ![16, 256, 256]⟩
abbrev S32x16x8x256 : Shape := ⟨4, ![32, 16, 8, 256]⟩
abbrev S16x8x256 : Shape := ⟨3, ![16, 8, 256]⟩
abbrev S8x256x128 : Shape := ⟨3, ![8, 256, 128]⟩
abbrev S8x8x256 : Shape := ⟨3, ![8, 8, 256]⟩
abbrev S8x80x256 : Shape := ⟨3, ![8, 80, 256]⟩
abbrev S256x256 : Shape := ⟨2, ![256, 256]⟩
abbrev S128x256 : Shape := ⟨2, ![128, 256]⟩
abbrev S1x256 : Shape := ⟨2, ![1, 256]⟩
abbrev S1x256x256 : Shape := ⟨3, ![1, 256, 256]⟩
abbrev S32x8x256 : Shape := ⟨3, ![32, 8, 256]⟩
abbrev S1x8x256 : Shape := ⟨3, ![1, 8, 256]⟩
abbrev S8x256 : Shape := ⟨2, ![8, 256]⟩
abbrev S1x1x8x256 : Shape := ⟨4, ![1, 1, 8, 256]⟩
abbrev S16x256 : Shape := ⟨2, ![16, 256]⟩
abbrev S256x64 : Shape := ⟨2, ![256, 64]⟩
abbrev S16x64 : Shape := ⟨2, ![16, 64]⟩
abbrev S256 : Shape := ⟨1, ![256]⟩
abbrev S1x256x128 : Shape := ⟨3, ![1, 256, 128]⟩
abbrev S1x16x8x256 : Shape := ⟨4, ![1, 16, 8, 256]⟩
abbrev S1x1x256 : Shape := ⟨3, ![1, 1, 256]⟩
abbrev S1 : Shape := ⟨1, ![1]⟩
abbrev S1x1x1 : Shape := ⟨3, ![1, 1, 1]⟩
abbrev S1x1x64x256 : Shape := ⟨4, ![1, 1, 64, 256]⟩
abbrev S64x256 : Shape := ⟨2, ![64, 256]⟩
abbrev S80x256 : Shape := ⟨2, ![80, 256]⟩
abbrev S10x8x256 : Shape := ⟨3, ![10, 8, 256]⟩
abbrev S1x80x256 : Shape := ⟨3, ![1, 80, 256]⟩
abbrev S1x64x256 : Shape := ⟨3, ![1, 64, 256]⟩
abbrev S512x256 : Shape := ⟨2, ![512, 256]⟩

abbrev nBuf : Space → Nat
  | .hbm => 7
  | .vmem => 26
  | .smem => 0
  | _ => 0

abbrev bufTy : (tb : Table) → Fin (tcTables nBuf tb) → BufTy
  | .hbm, ⟨0, _⟩ => ⟨S16384x1664, .bf16⟩
  | .hbm, ⟨1, _⟩ => ⟨S4x16x512x256, .bf16⟩
  | .hbm, ⟨2, _⟩ => ⟨S16384x128, .f32⟩
  | .hbm, ⟨3, _⟩ => ⟨S4x16x256, .f32⟩
  | .hbm, ⟨4, _⟩ => ⟨S8x256x256, .f32⟩
  | .hbm, ⟨5, _⟩ => ⟨S8x256x256, .f32⟩
  | .hbm, ⟨6, _⟩ => ⟨S16384x512, .bf16⟩
  | .local _ .vmem, ⟨0, _⟩ => ⟨S256x512, .bf16⟩
  | .local _ .vmem, ⟨1, _⟩ => ⟨S256x512, .bf16⟩
  | .local _ .vmem, ⟨2, _⟩ => ⟨S4096x512, .bf16⟩
  | .local _ .vmem, ⟨3, _⟩ => ⟨S4096x512, .bf16⟩
  | .local _ .vmem, ⟨4, _⟩ => ⟨S1x16x512x256, .bf16⟩
  | .local _ .vmem, ⟨5, _⟩ => ⟨S1x16x512x256, .bf16⟩
  | .local _ .vmem, ⟨6, _⟩ => ⟨S256x512, .bf16⟩
  | .local _ .vmem, ⟨7, _⟩ => ⟨S256x512, .bf16⟩
  | .local _ .vmem, ⟨8, _⟩ => ⟨S4096x128, .bf16⟩
  | .local _ .vmem, ⟨9, _⟩ => ⟨S4096x128, .bf16⟩
  | .local _ .vmem, ⟨10, _⟩ => ⟨S256x128, .f32⟩
  | .local _ .vmem, ⟨11, _⟩ => ⟨S256x128, .f32⟩
  | .local _ .vmem, ⟨12, _⟩ => ⟨S1x16x256, .f32⟩
  | .local _ .vmem, ⟨13, _⟩ => ⟨S1x16x256, .f32⟩
  | .local _ .vmem, ⟨14, _⟩ => ⟨S8x256x256, .f32⟩
  | .local _ .vmem, ⟨15, _⟩ => ⟨S8x256x256, .f32⟩
  | .local _ .vmem, ⟨16, _⟩ => ⟨S256x512, .bf16⟩
  | .local _ .vmem, ⟨17, _⟩ => ⟨S256x512, .bf16⟩
  | .local _ .vmem, ⟨18, _⟩ => ⟨S16x256x256, .i32⟩
  | .local _ .vmem, ⟨19, _⟩ => ⟨S32x16x8x256, .i32⟩
  | .local _ .vmem, ⟨20, _⟩ => ⟨S16x8x256, .i32⟩
  | .local _ .vmem, ⟨21, _⟩ => ⟨S16x256x256, .f32⟩
  | .local _ .vmem, ⟨22, _⟩ => ⟨S4x16x256, .f32⟩
  | .local _ .vmem, ⟨23, _⟩ => ⟨S8x256x128, .bf16⟩
  | .local _ .vmem, ⟨24, _⟩ => ⟨S8x8x256, .f32⟩
  | .local _ .vmem, ⟨25, _⟩ => ⟨S8x80x256, .f32⟩
  | _, _ => ⟨S16384x1664, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [BitOps F]

abbrev grid0 : Pipeline.Grid := ⟨2, ![4, 16], ![false, false]⟩

@[reducible] def k0_t1_loop (i : grid0.Coords) : Scf.Loop 32 :=
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_10 : BitVec 32 := 1#32
  ⟨c0_i32_8, v30, c1_i32_10⟩
def k0_mult1 (i : grid0.Coords) (k0_t1 : Fin (k0_t1_loop i).trips) : BitVec 32 :=
  let c4_i32_515 : BitVec 32 := 4#32
  let c0_i32_8 : BitVec 32 := 0#32
  let c1_i32_10 : BitVec 32 := 1#32
  let arg20 : BitVec 32 := Scf.iv c0_i32_8 c1_i32_10 k0_t1
  let v902 : BitVec 32 := Scalar.muli c4_i32_515 arg20
  let c0_i32_516 : BitVec 32 := 0#32
  let v903 : BitVec 32 := Scalar.addi v902 c0_i32_516
  let c256_i32_523 : BitVec 32 := 256#32
  let v910 : BitVec 32 := Scalar.muli v903 c256_i32_523
  v910
def k0_off1 (i : grid0.Coords) (k0_t1 : Fin (k0_t1_loop i).trips) (c0_i32_516 : BitVec 32) : Fin 2 → Nat :=
  let c4_i32_515 : BitVec 32 := 4#32
  let c0_i32_8 : BitVec 32 := 0#32
  let c1_i32_10 : BitVec 32 := 1#32
  let arg20 : BitVec 32 := Scf.iv c0_i32_8 c1_i32_10 k0_t1
  let v902 : BitVec 32 := Scalar.muli c4_i32_515 arg20
  let v903 : BitVec 32 := Scalar.addi v902 c0_i32_516
  let c256_i32_523 : BitVec 32 := 256#32
  let v910 : BitVec 32 := Scalar.muli v903 c256_i32_523
  let v911 : BitVec 32 := v910
  let v912 : Index := Scalar.indexCast v911
  let c0_524 : Index := 0#32
  ![v912.toNat, 0]
def k0_mult2 (i : grid0.Coords) (k0_t1 : Fin (k0_t1_loop i).trips) : BitVec 32 :=
  let c4_i32_517 : BitVec 32 := 4#32
  let c0_i32_8 : BitVec 32 := 0#32
  let c1_i32_10 : BitVec 32 := 1#32
  let arg20 : BitVec 32 := Scf.iv c0_i32_8 c1_i32_10 k0_t1
  let v904 : BitVec 32 := Scalar.muli c4_i32_517 arg20
  let c1_i32_518 : BitVec 32 := 1#32
  let v905 : BitVec 32 := Scalar.addi v904 c1_i32_518
  let c256_i32_546 : BitVec 32 := 256#32
  let v989 : BitVec 32 := Scalar.muli v905 c256_i32_546
  v989
def k0_mult3 (i : grid0.Coords) (k0_t1 : Fin (k0_t1_loop i).trips) : BitVec 32 :=
  let c4_i32_519 : BitVec 32 := 4#32
  let c0_i32_8 : BitVec 32 := 0#32
  let c1_i32_10 : BitVec 32 := 1#32
  let arg20 : BitVec 32 := Scf.iv c0_i32_8 c1_i32_10 k0_t1
  let v906 : BitVec 32 := Scalar.muli c4_i32_519 arg20
  let c2_i32_520 : BitVec 32 := 2#32
  let v907 : BitVec 32 := Scalar.addi v906 c2_i32_520
  let c256_i32_570 : BitVec 32 := 256#32
  let v1068 : BitVec 32 := Scalar.muli v907 c256_i32_570
  v1068
def k0_mult4 (i : grid0.Coords) (k0_t1 : Fin (k0_t1_loop i).trips) : BitVec 32 :=
  let c4_i32_521 : BitVec 32 := 4#32
  let c0_i32_8 : BitVec 32 := 0#32
  let c1_i32_10 : BitVec 32 := 1#32
  let arg20 : BitVec 32 := Scf.iv c0_i32_8 c1_i32_10 k0_t1
  let v908 : BitVec 32 := Scalar.muli c4_i32_521 arg20
  let c3_i32_522 : BitVec 32 := 3#32
  let v909 : BitVec 32 := Scalar.addi v908 c3_i32_522
  let c256_i32_594 : BitVec 32 := 256#32
  let v1147 : BitVec 32 := Scalar.muli v909 c256_i32_594
  v1147
def k0_off2 (i : grid0.Coords) (k0_t1 : Fin (k0_t1_loop i).trips) (c0_i32_516 : BitVec 32) : Fin 3 → Nat :=
  let c4_i32_515 : BitVec 32 := 4#32
  let c0_i32_8 : BitVec 32 := 0#32
  let c1_i32_10 : BitVec 32 := 1#32
  let arg20 : BitVec 32 := Scf.iv c0_i32_8 c1_i32_10 k0_t1
  let v902 : BitVec 32 := Scalar.muli c4_i32_515 arg20
  let v903 : BitVec 32 := Scalar.addi v902 c0_i32_516
  let v1232 : Index := Scalar.indexCast v903
  let c0_619 : Index := 0#32
  let c0_620 : Index := 0#32
  ![v1232.toNat, 0, 0]
def k0_off3 (i : grid0.Coords) (k0_t1 : Fin (k0_t1_loop i).trips) (c0_i32_516 : BitVec 32) : Fin 4 → Nat :=
  let c0_857 : Index := 0#32
  let c4_i32_515 : BitVec 32 := 4#32
  let c0_i32_8 : BitVec 32 := 0#32
  let c1_i32_10 : BitVec 32 := 1#32
  let arg20 : BitVec 32 := Scf.iv c0_i32_8 c1_i32_10 k0_t1
  let v902 : BitVec 32 := Scalar.muli c4_i32_515 arg20
  let v903 : BitVec 32 := Scalar.addi v902 c0_i32_516
  let v2023 : Index := Scalar.indexCast v903
  let c0_858 : Index := 0#32
  let c0_859 : Index := 0#32
  ![0, v2023.toNat, 0, 0]
def k0_off4 (i : grid0.Coords) (k0_t1 : Fin (k0_t1_loop i).trips) (c0_i32_516 : BitVec 32) : Fin 4 → Nat :=
  let c1_860 : Index := 1#32
  let c4_i32_515 : BitVec 32 := 4#32
  let c0_i32_8 : BitVec 32 := 0#32
  let c1_i32_10 : BitVec 32 := 1#32
  let arg20 : BitVec 32 := Scf.iv c0_i32_8 c1_i32_10 k0_t1
  let v902 : BitVec 32 := Scalar.muli c4_i32_515 arg20
  let v903 : BitVec 32 := Scalar.addi v902 c0_i32_516
  let v2027 : Index := Scalar.indexCast v903
  let c0_861 : Index := 0#32
  let c0_862 : Index := 0#32
  ![1, v2027.toNat, 0, 0]
def k0_off5 (i : grid0.Coords) (k0_t1 : Fin (k0_t1_loop i).trips) (c0_i32_516 : BitVec 32) : Fin 4 → Nat :=
  let c2_863 : Index := 2#32
  let c4_i32_515 : BitVec 32 := 4#32
  let c0_i32_8 : BitVec 32 := 0#32
  let c1_i32_10 : BitVec 32 := 1#32
  let arg20 : BitVec 32 := Scf.iv c0_i32_8 c1_i32_10 k0_t1
  let v902 : BitVec 32 := Scalar.muli c4_i32_515 arg20
  let v903 : BitVec 32 := Scalar.addi v902 c0_i32_516
  let v2031 : Index := Scalar.indexCast v903
  let c0_864 : Index := 0#32
  let c0_865 : Index := 0#32
  ![2, v2031.toNat, 0, 0]
def k0_off6 (i : grid0.Coords) (k0_t1 : Fin (k0_t1_loop i).trips) (c0_i32_516 : BitVec 32) : Fin 4 → Nat :=
  let c3_866 : Index := 3#32
  let c4_i32_515 : BitVec 32 := 4#32
  let c0_i32_8 : BitVec 32 := 0#32
  let c1_i32_10 : BitVec 32 := 1#32
  let arg20 : BitVec 32 := Scf.iv c0_i32_8 c1_i32_10 k0_t1
  let v902 : BitVec 32 := Scalar.muli c4_i32_515 arg20
  let v903 : BitVec 32 := Scalar.addi v902 c0_i32_516
  let v2035 : Index := Scalar.indexCast v903
  let c0_867 : Index := 0#32
  let c0_868 : Index := 0#32
  ![3, v2035.toNat, 0, 0]
def k0_off7 (i : grid0.Coords) (k0_t1 : Fin (k0_t1_loop i).trips) (c0_i32_516 : BitVec 32) : Fin 4 → Nat :=
  let c4_869 : Index := 4#32
  let c4_i32_515 : BitVec 32 := 4#32
  let c0_i32_8 : BitVec 32 := 0#32
  let c1_i32_10 : BitVec 32 := 1#32
  let arg20 : BitVec 32 := Scf.iv c0_i32_8 c1_i32_10 k0_t1
  let v902 : BitVec 32 := Scalar.muli c4_i32_515 arg20
  let v903 : BitVec 32 := Scalar.addi v902 c0_i32_516
  let v2039 : Index := Scalar.indexCast v903
  let c0_870 : Index := 0#32
  let c0_871 : Index := 0#32
  ![4, v2039.toNat, 0, 0]
def k0_off8 (i : grid0.Coords) (k0_t1 : Fin (k0_t1_loop i).trips) (c0_i32_516 : BitVec 32) : Fin 4 → Nat :=
  let c5_872 : Index := 5#32
  let c4_i32_515 : BitVec 32 := 4#32
  let c0_i32_8 : BitVec 32 := 0#32
  let c1_i32_10 : BitVec 32 := 1#32
  let arg20 : BitVec 32 := Scf.iv c0_i32_8 c1_i32_10 k0_t1
  let v902 : BitVec 32 := Scalar.muli c4_i32_515 arg20
  let v903 : BitVec 32 := Scalar.addi v902 c0_i32_516
  let v2043 : Index := Scalar.indexCast v903
  let c0_873 : Index := 0#32
  let c0_874 : Index := 0#32
  ![5, v2043.toNat, 0, 0]
def k0_off9 (i : grid0.Coords) (k0_t1 : Fin (k0_t1_loop i).trips) (c0_i32_516 : BitVec 32) : Fin 4 → Nat :=
  let c6_875 : Index := 6#32
  let c4_i32_515 : BitVec 32 := 4#32
  let c0_i32_8 : BitVec 32 := 0#32
  let c1_i32_10 : BitVec 32 := 1#32
  let arg20 : BitVec 32 := Scf.iv c0_i32_8 c1_i32_10 k0_t1
  let v902 : BitVec 32 := Scalar.muli c4_i32_515 arg20
  let v903 : BitVec 32 := Scalar.addi v902 c0_i32_516
  let v2047 : Index := Scalar.indexCast v903
  let c0_876 : Index := 0#32
  let c0_877 : Index := 0#32
  ![6, v2047.toNat, 0, 0]
def k0_off10 (i : grid0.Coords) (k0_t1 : Fin (k0_t1_loop i).trips) (c0_i32_516 : BitVec 32) : Fin 4 → Nat :=
  let c7_878 : Index := 7#32
  let c4_i32_515 : BitVec 32 := 4#32
  let c0_i32_8 : BitVec 32 := 0#32
  let c1_i32_10 : BitVec 32 := 1#32
  let arg20 : BitVec 32 := Scf.iv c0_i32_8 c1_i32_10 k0_t1
  let v902 : BitVec 32 := Scalar.muli c4_i32_515 arg20
  let v903 : BitVec 32 := Scalar.addi v902 c0_i32_516
  let v2051 : Index := Scalar.indexCast v903
  let c0_879 : Index := 0#32
  let c0_880 : Index := 0#32
  ![7, v2051.toNat, 0, 0]
def k0_off11 (i : grid0.Coords) (k0_t1 : Fin (k0_t1_loop i).trips) (c0_i32_516 : BitVec 32) : Fin 4 → Nat :=
  let c8_881 : Index := 8#32
  let c4_i32_515 : BitVec 32 := 4#32
  let c0_i32_8 : BitVec 32 := 0#32
  let c1_i32_10 : BitVec 32 := 1#32
  let arg20 : BitVec 32 := Scf.iv c0_i32_8 c1_i32_10 k0_t1
  let v902 : BitVec 32 := Scalar.muli c4_i32_515 arg20
  let v903 : BitVec 32 := Scalar.addi v902 c0_i32_516
  let v2055 : Index := Scalar.indexCast v903
  let c0_882 : Index := 0#32
  let c0_883 : Index := 0#32
  ![8, v2055.toNat, 0, 0]
def k0_off12 (i : grid0.Coords) (k0_t1 : Fin (k0_t1_loop i).trips) (c0_i32_516 : BitVec 32) : Fin 4 → Nat :=
  let c9_884 : Index := 9#32
  let c4_i32_515 : BitVec 32 := 4#32
  let c0_i32_8 : BitVec 32 := 0#32
  let c1_i32_10 : BitVec 32 := 1#32
  let arg20 : BitVec 32 := Scf.iv c0_i32_8 c1_i32_10 k0_t1
  let v902 : BitVec 32 := Scalar.muli c4_i32_515 arg20
  let v903 : BitVec 32 := Scalar.addi v902 c0_i32_516
  let v2059 : Index := Scalar.indexCast v903
  let c0_885 : Index := 0#32
  let c0_886 : Index := 0#32
  ![9, v2059.toNat, 0, 0]
def k0_off13 (i : grid0.Coords) (k0_t1 : Fin (k0_t1_loop i).trips) (c0_i32_516 : BitVec 32) : Fin 4 → Nat :=
  let c10_887 : Index := 10#32
  let c4_i32_515 : BitVec 32 := 4#32
  let c0_i32_8 : BitVec 32 := 0#32
  let c1_i32_10 : BitVec 32 := 1#32
  let arg20 : BitVec 32 := Scf.iv c0_i32_8 c1_i32_10 k0_t1
  let v902 : BitVec 32 := Scalar.muli c4_i32_515 arg20
  let v903 : BitVec 32 := Scalar.addi v902 c0_i32_516
  let v2063 : Index := Scalar.indexCast v903
  let c0_888 : Index := 0#32
  let c0_889 : Index := 0#32
  ![10, v2063.toNat, 0, 0]
def k0_off14 (i : grid0.Coords) (k0_t1 : Fin (k0_t1_loop i).trips) (c0_i32_516 : BitVec 32) : Fin 4 → Nat :=
  let c11_890 : Index := 11#32
  let c4_i32_515 : BitVec 32 := 4#32
  let c0_i32_8 : BitVec 32 := 0#32
  let c1_i32_10 : BitVec 32 := 1#32
  let arg20 : BitVec 32 := Scf.iv c0_i32_8 c1_i32_10 k0_t1
  let v902 : BitVec 32 := Scalar.muli c4_i32_515 arg20
  let v903 : BitVec 32 := Scalar.addi v902 c0_i32_516
  let v2067 : Index := Scalar.indexCast v903
  let c0_891 : Index := 0#32
  let c0_892 : Index := 0#32
  ![11, v2067.toNat, 0, 0]
def k0_off15 (i : grid0.Coords) (k0_t1 : Fin (k0_t1_loop i).trips) (c0_i32_516 : BitVec 32) : Fin 4 → Nat :=
  let c12_893 : Index := 12#32
  let c4_i32_515 : BitVec 32 := 4#32
  let c0_i32_8 : BitVec 32 := 0#32
  let c1_i32_10 : BitVec 32 := 1#32
  let arg20 : BitVec 32 := Scf.iv c0_i32_8 c1_i32_10 k0_t1
  let v902 : BitVec 32 := Scalar.muli c4_i32_515 arg20
  let v903 : BitVec 32 := Scalar.addi v902 c0_i32_516
  let v2071 : Index := Scalar.indexCast v903
  let c0_894 : Index := 0#32
  let c0_895 : Index := 0#32
  ![12, v2071.toNat, 0, 0]
def k0_off16 (i : grid0.Coords) (k0_t1 : Fin (k0_t1_loop i).trips) (c0_i32_516 : BitVec 32) : Fin 4 → Nat :=
  let c13_896 : Index := 13#32
  let c4_i32_515 : BitVec 32 := 4#32
  let c0_i32_8 : BitVec 32 := 0#32
  let c1_i32_10 : BitVec 32 := 1#32
  let arg20 : BitVec 32 := Scf.iv c0_i32_8 c1_i32_10 k0_t1
  let v902 : BitVec 32 := Scalar.muli c4_i32_515 arg20
  let v903 : BitVec 32 := Scalar.addi v902 c0_i32_516
  let v2075 : Index := Scalar.indexCast v903
  let c0_897 : Index := 0#32
  let c0_898 : Index := 0#32
  ![13, v2075.toNat, 0, 0]
def k0_off17 (i : grid0.Coords) (k0_t1 : Fin (k0_t1_loop i).trips) (c0_i32_516 : BitVec 32) : Fin 4 → Nat :=
  let c14_899 : Index := 14#32
  let c4_i32_515 : BitVec 32 := 4#32
  let c0_i32_8 : BitVec 32 := 0#32
  let c1_i32_10 : BitVec 32 := 1#32
  let arg20 : BitVec 32 := Scf.iv c0_i32_8 c1_i32_10 k0_t1
  let v902 : BitVec 32 := Scalar.muli c4_i32_515 arg20
  let v903 : BitVec 32 := Scalar.addi v902 c0_i32_516
  let v2079 : Index := Scalar.indexCast v903
  let c0_900 : Index := 0#32
  let c0_901 : Index := 0#32
  ![14, v2079.toNat, 0, 0]
def k0_off18 (i : grid0.Coords) (k0_t1 : Fin (k0_t1_loop i).trips) (c0_i32_516 : BitVec 32) : Fin 4 → Nat :=
  let c15_902 : Index := 15#32
  let c4_i32_515 : BitVec 32 := 4#32
  let c0_i32_8 : BitVec 32 := 0#32
  let c1_i32_10 : BitVec 32 := 1#32
  let arg20 : BitVec 32 := Scf.iv c0_i32_8 c1_i32_10 k0_t1
  let v902 : BitVec 32 := Scalar.muli c4_i32_515 arg20
  let v903 : BitVec 32 := Scalar.addi v902 c0_i32_516
  let v2083 : Index := Scalar.indexCast v903
  let c0_903 : Index := 0#32
  let c0_904 : Index := 0#32
  ![15, v2083.toNat, 0, 0]
def k0_off19 (i : grid0.Coords) (k0_t1 : Fin (k0_t1_loop i).trips) (c0_i32_516 : BitVec 32) : Fin 4 → Nat :=
  let c16_905 : Index := 16#32
  let c4_i32_515 : BitVec 32 := 4#32
  let c0_i32_8 : BitVec 32 := 0#32
  let c1_i32_10 : BitVec 32 := 1#32
  let arg20 : BitVec 32 := Scf.iv c0_i32_8 c1_i32_10 k0_t1
  let v902 : BitVec 32 := Scalar.muli c4_i32_515 arg20
  let v903 : BitVec 32 := Scalar.addi v902 c0_i32_516
  let v2087 : Index := Scalar.indexCast v903
  let c0_906 : Index := 0#32
  let c0_907 : Index := 0#32
  ![16, v2087.toNat, 0, 0]
def k0_off20 (i : grid0.Coords) (k0_t1 : Fin (k0_t1_loop i).trips) (c0_i32_516 : BitVec 32) : Fin 4 → Nat :=
  let c17_908 : Index := 17#32
  let c4_i32_515 : BitVec 32 := 4#32
  let c0_i32_8 : BitVec 32 := 0#32
  let c1_i32_10 : BitVec 32 := 1#32
  let arg20 : BitVec 32 := Scf.iv c0_i32_8 c1_i32_10 k0_t1
  let v902 : BitVec 32 := Scalar.muli c4_i32_515 arg20
  let v903 : BitVec 32 := Scalar.addi v902 c0_i32_516
  let v2091 : Index := Scalar.indexCast v903
  let c0_909 : Index := 0#32
  let c0_910 : Index := 0#32
  ![17, v2091.toNat, 0, 0]
def k0_off21 (i : grid0.Coords) (k0_t1 : Fin (k0_t1_loop i).trips) (c0_i32_516 : BitVec 32) : Fin 4 → Nat :=
  let c18_911 : Index := 18#32
  let c4_i32_515 : BitVec 32 := 4#32
  let c0_i32_8 : BitVec 32 := 0#32
  let c1_i32_10 : BitVec 32 := 1#32
  let arg20 : BitVec 32 := Scf.iv c0_i32_8 c1_i32_10 k0_t1
  let v902 : BitVec 32 := Scalar.muli c4_i32_515 arg20
  let v903 : BitVec 32 := Scalar.addi v902 c0_i32_516
  let v2095 : Index := Scalar.indexCast v903
  let c0_912 : Index := 0#32
  let c0_913 : Index := 0#32
  ![18, v2095.toNat, 0, 0]
def k0_off22 (i : grid0.Coords) (k0_t1 : Fin (k0_t1_loop i).trips) (c0_i32_516 : BitVec 32) : Fin 4 → Nat :=
  let c19_914 : Index := 19#32
  let c4_i32_515 : BitVec 32 := 4#32
  let c0_i32_8 : BitVec 32 := 0#32
  let c1_i32_10 : BitVec 32 := 1#32
  let arg20 : BitVec 32 := Scf.iv c0_i32_8 c1_i32_10 k0_t1
  let v902 : BitVec 32 := Scalar.muli c4_i32_515 arg20
  let v903 : BitVec 32 := Scalar.addi v902 c0_i32_516
  let v2099 : Index := Scalar.indexCast v903
  let c0_915 : Index := 0#32
  let c0_916 : Index := 0#32
  ![19, v2099.toNat, 0, 0]
def k0_off23 (i : grid0.Coords) (k0_t1 : Fin (k0_t1_loop i).trips) (c0_i32_516 : BitVec 32) : Fin 4 → Nat :=
  let c20_917 : Index := 20#32
  let c4_i32_515 : BitVec 32 := 4#32
  let c0_i32_8 : BitVec 32 := 0#32
  let c1_i32_10 : BitVec 32 := 1#32
  let arg20 : BitVec 32 := Scf.iv c0_i32_8 c1_i32_10 k0_t1
  let v902 : BitVec 32 := Scalar.muli c4_i32_515 arg20
  let v903 : BitVec 32 := Scalar.addi v902 c0_i32_516
  let v2103 : Index := Scalar.indexCast v903
  let c0_918 : Index := 0#32
  let c0_919 : Index := 0#32
  ![20, v2103.toNat, 0, 0]
def k0_off24 (i : grid0.Coords) (k0_t1 : Fin (k0_t1_loop i).trips) (c0_i32_516 : BitVec 32) : Fin 4 → Nat :=
  let c21_920 : Index := 21#32
  let c4_i32_515 : BitVec 32 := 4#32
  let c0_i32_8 : BitVec 32 := 0#32
  let c1_i32_10 : BitVec 32 := 1#32
  let arg20 : BitVec 32 := Scf.iv c0_i32_8 c1_i32_10 k0_t1
  let v902 : BitVec 32 := Scalar.muli c4_i32_515 arg20
  let v903 : BitVec 32 := Scalar.addi v902 c0_i32_516
  let v2107 : Index := Scalar.indexCast v903
  let c0_921 : Index := 0#32
  let c0_922 : Index := 0#32
  ![21, v2107.toNat, 0, 0]
def k0_off25 (i : grid0.Coords) (k0_t1 : Fin (k0_t1_loop i).trips) (c0_i32_516 : BitVec 32) : Fin 4 → Nat :=
  let c22_923 : Index := 22#32
  let c4_i32_515 : BitVec 32 := 4#32
  let c0_i32_8 : BitVec 32 := 0#32
  let c1_i32_10 : BitVec 32 := 1#32
  let arg20 : BitVec 32 := Scf.iv c0_i32_8 c1_i32_10 k0_t1
  let v902 : BitVec 32 := Scalar.muli c4_i32_515 arg20
  let v903 : BitVec 32 := Scalar.addi v902 c0_i32_516
  let v2111 : Index := Scalar.indexCast v903
  let c0_924 : Index := 0#32
  let c0_925 : Index := 0#32
  ![22, v2111.toNat, 0, 0]
def k0_off26 (i : grid0.Coords) (k0_t1 : Fin (k0_t1_loop i).trips) (c0_i32_516 : BitVec 32) : Fin 4 → Nat :=
  let c23_926 : Index := 23#32
  let c4_i32_515 : BitVec 32 := 4#32
  let c0_i32_8 : BitVec 32 := 0#32
  let c1_i32_10 : BitVec 32 := 1#32
  let arg20 : BitVec 32 := Scf.iv c0_i32_8 c1_i32_10 k0_t1
  let v902 : BitVec 32 := Scalar.muli c4_i32_515 arg20
  let v903 : BitVec 32 := Scalar.addi v902 c0_i32_516
  let v2115 : Index := Scalar.indexCast v903
  let c0_927 : Index := 0#32
  let c0_928 : Index := 0#32
  ![23, v2115.toNat, 0, 0]
def k0_off27 (i : grid0.Coords) (k0_t1 : Fin (k0_t1_loop i).trips) (c0_i32_516 : BitVec 32) : Fin 4 → Nat :=
  let c24_929 : Index := 24#32
  let c4_i32_515 : BitVec 32 := 4#32
  let c0_i32_8 : BitVec 32 := 0#32
  let c1_i32_10 : BitVec 32 := 1#32
  let arg20 : BitVec 32 := Scf.iv c0_i32_8 c1_i32_10 k0_t1
  let v902 : BitVec 32 := Scalar.muli c4_i32_515 arg20
  let v903 : BitVec 32 := Scalar.addi v902 c0_i32_516
  let v2119 : Index := Scalar.indexCast v903
  let c0_930 : Index := 0#32
  let c0_931 : Index := 0#32
  ![24, v2119.toNat, 0, 0]
def k0_off28 (i : grid0.Coords) (k0_t1 : Fin (k0_t1_loop i).trips) (c0_i32_516 : BitVec 32) : Fin 4 → Nat :=
  let c25_932 : Index := 25#32
  let c4_i32_515 : BitVec 32 := 4#32
  let c0_i32_8 : BitVec 32 := 0#32
  let c1_i32_10 : BitVec 32 := 1#32
  let arg20 : BitVec 32 := Scf.iv c0_i32_8 c1_i32_10 k0_t1
  let v902 : BitVec 32 := Scalar.muli c4_i32_515 arg20
  let v903 : BitVec 32 := Scalar.addi v902 c0_i32_516
  let v2123 : Index := Scalar.indexCast v903
  let c0_933 : Index := 0#32
  let c0_934 : Index := 0#32
  ![25, v2123.toNat, 0, 0]
def k0_off29 (i : grid0.Coords) (k0_t1 : Fin (k0_t1_loop i).trips) (c0_i32_516 : BitVec 32) : Fin 4 → Nat :=
  let c26_935 : Index := 26#32
  let c4_i32_515 : BitVec 32 := 4#32
  let c0_i32_8 : BitVec 32 := 0#32
  let c1_i32_10 : BitVec 32 := 1#32
  let arg20 : BitVec 32 := Scf.iv c0_i32_8 c1_i32_10 k0_t1
  let v902 : BitVec 32 := Scalar.muli c4_i32_515 arg20
  let v903 : BitVec 32 := Scalar.addi v902 c0_i32_516
  let v2127 : Index := Scalar.indexCast v903
  let c0_936 : Index := 0#32
  let c0_937 : Index := 0#32
  ![26, v2127.toNat, 0, 0]
def k0_off30 (i : grid0.Coords) (k0_t1 : Fin (k0_t1_loop i).trips) (c0_i32_516 : BitVec 32) : Fin 4 → Nat :=
  let c27_938 : Index := 27#32
  let c4_i32_515 : BitVec 32 := 4#32
  let c0_i32_8 : BitVec 32 := 0#32
  let c1_i32_10 : BitVec 32 := 1#32
  let arg20 : BitVec 32 := Scf.iv c0_i32_8 c1_i32_10 k0_t1
  let v902 : BitVec 32 := Scalar.muli c4_i32_515 arg20
  let v903 : BitVec 32 := Scalar.addi v902 c0_i32_516
  let v2131 : Index := Scalar.indexCast v903
  let c0_939 : Index := 0#32
  let c0_940 : Index := 0#32
  ![27, v2131.toNat, 0, 0]
def k0_off31 (i : grid0.Coords) (k0_t1 : Fin (k0_t1_loop i).trips) (c0_i32_516 : BitVec 32) : Fin 4 → Nat :=
  let c28_941 : Index := 28#32
  let c4_i32_515 : BitVec 32 := 4#32
  let c0_i32_8 : BitVec 32 := 0#32
  let c1_i32_10 : BitVec 32 := 1#32
  let arg20 : BitVec 32 := Scf.iv c0_i32_8 c1_i32_10 k0_t1
  let v902 : BitVec 32 := Scalar.muli c4_i32_515 arg20
  let v903 : BitVec 32 := Scalar.addi v902 c0_i32_516
  let v2135 : Index := Scalar.indexCast v903
  let c0_942 : Index := 0#32
  let c0_943 : Index := 0#32
  ![28, v2135.toNat, 0, 0]
def k0_off32 (i : grid0.Coords) (k0_t1 : Fin (k0_t1_loop i).trips) (c0_i32_516 : BitVec 32) : Fin 4 → Nat :=
  let c29_944 : Index := 29#32
  let c4_i32_515 : BitVec 32 := 4#32
  let c0_i32_8 : BitVec 32 := 0#32
  let c1_i32_10 : BitVec 32 := 1#32
  let arg20 : BitVec 32 := Scf.iv c0_i32_8 c1_i32_10 k0_t1
  let v902 : BitVec 32 := Scalar.muli c4_i32_515 arg20
  let v903 : BitVec 32 := Scalar.addi v902 c0_i32_516
  let v2139 : Index := Scalar.indexCast v903
  let c0_945 : Index := 0#32
  let c0_946 : Index := 0#32
  ![29, v2139.toNat, 0, 0]
def k0_off33 (i : grid0.Coords) (k0_t1 : Fin (k0_t1_loop i).trips) (c0_i32_516 : BitVec 32) : Fin 4 → Nat :=
  let c30_947 : Index := 30#32
  let c4_i32_515 : BitVec 32 := 4#32
  let c0_i32_8 : BitVec 32 := 0#32
  let c1_i32_10 : BitVec 32 := 1#32
  let arg20 : BitVec 32 := Scf.iv c0_i32_8 c1_i32_10 k0_t1
  let v902 : BitVec 32 := Scalar.muli c4_i32_515 arg20
  let v903 : BitVec 32 := Scalar.addi v902 c0_i32_516
  let v2143 : Index := Scalar.indexCast v903
  let c0_948 : Index := 0#32
  let c0_949 : Index := 0#32
  ![30, v2143.toNat, 0, 0]
def k0_off34 (i : grid0.Coords) (k0_t1 : Fin (k0_t1_loop i).trips) (c0_i32_516 : BitVec 32) : Fin 4 → Nat :=
  let c31_950 : Index := 31#32
  let c4_i32_515 : BitVec 32 := 4#32
  let c0_i32_8 : BitVec 32 := 0#32
  let c1_i32_10 : BitVec 32 := 1#32
  let arg20 : BitVec 32 := Scf.iv c0_i32_8 c1_i32_10 k0_t1
  let v902 : BitVec 32 := Scalar.muli c4_i32_515 arg20
  let v903 : BitVec 32 := Scalar.addi v902 c0_i32_516
  let v2147 : Index := Scalar.indexCast v903
  let c0_951 : Index := 0#32
  let c0_952 : Index := 0#32
  ![31, v2147.toNat, 0, 0]
@[reducible] def k0_t2_loop (i : grid0.Coords) : Scf.Loop 32 :=
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let v27 : BitVec 32 := Scalar.addi c0_i32_8 v26
  let c1_i32_11 : BitVec 32 := 1#32
  ⟨v30, v27, c1_i32_11⟩
def k0_mult5 (i : grid0.Coords) (k0_t2 : Fin (k0_t2_loop i).trips) : BitVec 32 :=
  let c4_i32_515 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v902 : BitVec 32 := Scalar.muli c4_i32_515 arg20
  let c0_i32_516 : BitVec 32 := 0#32
  let v903 : BitVec 32 := Scalar.addi v902 c0_i32_516
  let c256_i32_523 : BitVec 32 := 256#32
  let v910 : BitVec 32 := Scalar.muli v903 c256_i32_523
  v910
def k0_off35 (i : grid0.Coords) (k0_t2 : Fin (k0_t2_loop i).trips) (c0_i32_516 : BitVec 32) : Fin 2 → Nat :=
  let c4_i32_515 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v902 : BitVec 32 := Scalar.muli c4_i32_515 arg20
  let v903 : BitVec 32 := Scalar.addi v902 c0_i32_516
  let c256_i32_523 : BitVec 32 := 256#32
  let v910 : BitVec 32 := Scalar.muli v903 c256_i32_523
  let v911 : BitVec 32 := v910
  let v912 : Index := Scalar.indexCast v911
  let c0_524 : Index := 0#32
  ![v912.toNat, 0]
def k0_mult6 (i : grid0.Coords) (k0_t2 : Fin (k0_t2_loop i).trips) : BitVec 32 :=
  let c4_i32_517 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v904 : BitVec 32 := Scalar.muli c4_i32_517 arg20
  let c1_i32_518 : BitVec 32 := 1#32
  let v905 : BitVec 32 := Scalar.addi v904 c1_i32_518
  let c256_i32_546 : BitVec 32 := 256#32
  let v989 : BitVec 32 := Scalar.muli v905 c256_i32_546
  v989
def k0_mult7 (i : grid0.Coords) (k0_t2 : Fin (k0_t2_loop i).trips) : BitVec 32 :=
  let c4_i32_519 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v906 : BitVec 32 := Scalar.muli c4_i32_519 arg20
  let c2_i32_520 : BitVec 32 := 2#32
  let v907 : BitVec 32 := Scalar.addi v906 c2_i32_520
  let c256_i32_570 : BitVec 32 := 256#32
  let v1068 : BitVec 32 := Scalar.muli v907 c256_i32_570
  v1068
def k0_mult8 (i : grid0.Coords) (k0_t2 : Fin (k0_t2_loop i).trips) : BitVec 32 :=
  let c4_i32_521 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v908 : BitVec 32 := Scalar.muli c4_i32_521 arg20
  let c3_i32_522 : BitVec 32 := 3#32
  let v909 : BitVec 32 := Scalar.addi v908 c3_i32_522
  let c256_i32_594 : BitVec 32 := 256#32
  let v1147 : BitVec 32 := Scalar.muli v909 c256_i32_594
  v1147
def k0_off36 (i : grid0.Coords) (k0_t2 : Fin (k0_t2_loop i).trips) (c0_i32_516 : BitVec 32) : Fin 3 → Nat :=
  let c4_i32_515 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v902 : BitVec 32 := Scalar.muli c4_i32_515 arg20
  let v903 : BitVec 32 := Scalar.addi v902 c0_i32_516
  let v1232 : Index := Scalar.indexCast v903
  let c0_619 : Index := 0#32
  let c0_620 : Index := 0#32
  ![v1232.toNat, 0, 0]
def k0_off37 (i : grid0.Coords) (k0_t2 : Fin (k0_t2_loop i).trips) (c0_i32_516 : BitVec 32) : Fin 4 → Nat :=
  let c0_857 : Index := 0#32
  let c4_i32_515 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v902 : BitVec 32 := Scalar.muli c4_i32_515 arg20
  let v903 : BitVec 32 := Scalar.addi v902 c0_i32_516
  let v2023 : Index := Scalar.indexCast v903
  let c0_858 : Index := 0#32
  let c0_859 : Index := 0#32
  ![0, v2023.toNat, 0, 0]
def k0_off38 (i : grid0.Coords) (k0_t2 : Fin (k0_t2_loop i).trips) (c0_i32_516 : BitVec 32) : Fin 4 → Nat :=
  let c1_860 : Index := 1#32
  let c4_i32_515 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v902 : BitVec 32 := Scalar.muli c4_i32_515 arg20
  let v903 : BitVec 32 := Scalar.addi v902 c0_i32_516
  let v2027 : Index := Scalar.indexCast v903
  let c0_861 : Index := 0#32
  let c0_862 : Index := 0#32
  ![1, v2027.toNat, 0, 0]
def k0_off39 (i : grid0.Coords) (k0_t2 : Fin (k0_t2_loop i).trips) (c0_i32_516 : BitVec 32) : Fin 4 → Nat :=
  let c2_863 : Index := 2#32
  let c4_i32_515 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v902 : BitVec 32 := Scalar.muli c4_i32_515 arg20
  let v903 : BitVec 32 := Scalar.addi v902 c0_i32_516
  let v2031 : Index := Scalar.indexCast v903
  let c0_864 : Index := 0#32
  let c0_865 : Index := 0#32
  ![2, v2031.toNat, 0, 0]
def k0_off40 (i : grid0.Coords) (k0_t2 : Fin (k0_t2_loop i).trips) (c0_i32_516 : BitVec 32) : Fin 4 → Nat :=
  let c3_866 : Index := 3#32
  let c4_i32_515 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v902 : BitVec 32 := Scalar.muli c4_i32_515 arg20
  let v903 : BitVec 32 := Scalar.addi v902 c0_i32_516
  let v2035 : Index := Scalar.indexCast v903
  let c0_867 : Index := 0#32
  let c0_868 : Index := 0#32
  ![3, v2035.toNat, 0, 0]
def k0_off41 (i : grid0.Coords) (k0_t2 : Fin (k0_t2_loop i).trips) (c0_i32_516 : BitVec 32) : Fin 4 → Nat :=
  let c4_869 : Index := 4#32
  let c4_i32_515 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v902 : BitVec 32 := Scalar.muli c4_i32_515 arg20
  let v903 : BitVec 32 := Scalar.addi v902 c0_i32_516
  let v2039 : Index := Scalar.indexCast v903
  let c0_870 : Index := 0#32
  let c0_871 : Index := 0#32
  ![4, v2039.toNat, 0, 0]
def k0_off42 (i : grid0.Coords) (k0_t2 : Fin (k0_t2_loop i).trips) (c0_i32_516 : BitVec 32) : Fin 4 → Nat :=
  let c5_872 : Index := 5#32
  let c4_i32_515 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v902 : BitVec 32 := Scalar.muli c4_i32_515 arg20
  let v903 : BitVec 32 := Scalar.addi v902 c0_i32_516
  let v2043 : Index := Scalar.indexCast v903
  let c0_873 : Index := 0#32
  let c0_874 : Index := 0#32
  ![5, v2043.toNat, 0, 0]
def k0_off43 (i : grid0.Coords) (k0_t2 : Fin (k0_t2_loop i).trips) (c0_i32_516 : BitVec 32) : Fin 4 → Nat :=
  let c6_875 : Index := 6#32
  let c4_i32_515 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v902 : BitVec 32 := Scalar.muli c4_i32_515 arg20
  let v903 : BitVec 32 := Scalar.addi v902 c0_i32_516
  let v2047 : Index := Scalar.indexCast v903
  let c0_876 : Index := 0#32
  let c0_877 : Index := 0#32
  ![6, v2047.toNat, 0, 0]
def k0_off44 (i : grid0.Coords) (k0_t2 : Fin (k0_t2_loop i).trips) (c0_i32_516 : BitVec 32) : Fin 4 → Nat :=
  let c7_878 : Index := 7#32
  let c4_i32_515 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v902 : BitVec 32 := Scalar.muli c4_i32_515 arg20
  let v903 : BitVec 32 := Scalar.addi v902 c0_i32_516
  let v2051 : Index := Scalar.indexCast v903
  let c0_879 : Index := 0#32
  let c0_880 : Index := 0#32
  ![7, v2051.toNat, 0, 0]
def k0_off45 (i : grid0.Coords) (k0_t2 : Fin (k0_t2_loop i).trips) (c0_i32_516 : BitVec 32) : Fin 4 → Nat :=
  let c8_881 : Index := 8#32
  let c4_i32_515 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v902 : BitVec 32 := Scalar.muli c4_i32_515 arg20
  let v903 : BitVec 32 := Scalar.addi v902 c0_i32_516
  let v2055 : Index := Scalar.indexCast v903
  let c0_882 : Index := 0#32
  let c0_883 : Index := 0#32
  ![8, v2055.toNat, 0, 0]
def k0_off46 (i : grid0.Coords) (k0_t2 : Fin (k0_t2_loop i).trips) (c0_i32_516 : BitVec 32) : Fin 4 → Nat :=
  let c9_884 : Index := 9#32
  let c4_i32_515 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v902 : BitVec 32 := Scalar.muli c4_i32_515 arg20
  let v903 : BitVec 32 := Scalar.addi v902 c0_i32_516
  let v2059 : Index := Scalar.indexCast v903
  let c0_885 : Index := 0#32
  let c0_886 : Index := 0#32
  ![9, v2059.toNat, 0, 0]
def k0_off47 (i : grid0.Coords) (k0_t2 : Fin (k0_t2_loop i).trips) (c0_i32_516 : BitVec 32) : Fin 4 → Nat :=
  let c10_887 : Index := 10#32
  let c4_i32_515 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v902 : BitVec 32 := Scalar.muli c4_i32_515 arg20
  let v903 : BitVec 32 := Scalar.addi v902 c0_i32_516
  let v2063 : Index := Scalar.indexCast v903
  let c0_888 : Index := 0#32
  let c0_889 : Index := 0#32
  ![10, v2063.toNat, 0, 0]
def k0_off48 (i : grid0.Coords) (k0_t2 : Fin (k0_t2_loop i).trips) (c0_i32_516 : BitVec 32) : Fin 4 → Nat :=
  let c11_890 : Index := 11#32
  let c4_i32_515 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v902 : BitVec 32 := Scalar.muli c4_i32_515 arg20
  let v903 : BitVec 32 := Scalar.addi v902 c0_i32_516
  let v2067 : Index := Scalar.indexCast v903
  let c0_891 : Index := 0#32
  let c0_892 : Index := 0#32
  ![11, v2067.toNat, 0, 0]
def k0_off49 (i : grid0.Coords) (k0_t2 : Fin (k0_t2_loop i).trips) (c0_i32_516 : BitVec 32) : Fin 4 → Nat :=
  let c12_893 : Index := 12#32
  let c4_i32_515 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v902 : BitVec 32 := Scalar.muli c4_i32_515 arg20
  let v903 : BitVec 32 := Scalar.addi v902 c0_i32_516
  let v2071 : Index := Scalar.indexCast v903
  let c0_894 : Index := 0#32
  let c0_895 : Index := 0#32
  ![12, v2071.toNat, 0, 0]
def k0_off50 (i : grid0.Coords) (k0_t2 : Fin (k0_t2_loop i).trips) (c0_i32_516 : BitVec 32) : Fin 4 → Nat :=
  let c13_896 : Index := 13#32
  let c4_i32_515 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v902 : BitVec 32 := Scalar.muli c4_i32_515 arg20
  let v903 : BitVec 32 := Scalar.addi v902 c0_i32_516
  let v2075 : Index := Scalar.indexCast v903
  let c0_897 : Index := 0#32
  let c0_898 : Index := 0#32
  ![13, v2075.toNat, 0, 0]
def k0_off51 (i : grid0.Coords) (k0_t2 : Fin (k0_t2_loop i).trips) (c0_i32_516 : BitVec 32) : Fin 4 → Nat :=
  let c14_899 : Index := 14#32
  let c4_i32_515 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v902 : BitVec 32 := Scalar.muli c4_i32_515 arg20
  let v903 : BitVec 32 := Scalar.addi v902 c0_i32_516
  let v2079 : Index := Scalar.indexCast v903
  let c0_900 : Index := 0#32
  let c0_901 : Index := 0#32
  ![14, v2079.toNat, 0, 0]
def k0_off52 (i : grid0.Coords) (k0_t2 : Fin (k0_t2_loop i).trips) (c0_i32_516 : BitVec 32) : Fin 4 → Nat :=
  let c15_902 : Index := 15#32
  let c4_i32_515 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v902 : BitVec 32 := Scalar.muli c4_i32_515 arg20
  let v903 : BitVec 32 := Scalar.addi v902 c0_i32_516
  let v2083 : Index := Scalar.indexCast v903
  let c0_903 : Index := 0#32
  let c0_904 : Index := 0#32
  ![15, v2083.toNat, 0, 0]
def k0_off53 (i : grid0.Coords) (k0_t2 : Fin (k0_t2_loop i).trips) (c0_i32_516 : BitVec 32) : Fin 4 → Nat :=
  let c16_905 : Index := 16#32
  let c4_i32_515 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v902 : BitVec 32 := Scalar.muli c4_i32_515 arg20
  let v903 : BitVec 32 := Scalar.addi v902 c0_i32_516
  let v2087 : Index := Scalar.indexCast v903
  let c0_906 : Index := 0#32
  let c0_907 : Index := 0#32
  ![16, v2087.toNat, 0, 0]
def k0_off54 (i : grid0.Coords) (k0_t2 : Fin (k0_t2_loop i).trips) (c0_i32_516 : BitVec 32) : Fin 4 → Nat :=
  let c17_908 : Index := 17#32
  let c4_i32_515 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v902 : BitVec 32 := Scalar.muli c4_i32_515 arg20
  let v903 : BitVec 32 := Scalar.addi v902 c0_i32_516
  let v2091 : Index := Scalar.indexCast v903
  let c0_909 : Index := 0#32
  let c0_910 : Index := 0#32
  ![17, v2091.toNat, 0, 0]
def k0_off55 (i : grid0.Coords) (k0_t2 : Fin (k0_t2_loop i).trips) (c0_i32_516 : BitVec 32) : Fin 4 → Nat :=
  let c18_911 : Index := 18#32
  let c4_i32_515 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v902 : BitVec 32 := Scalar.muli c4_i32_515 arg20
  let v903 : BitVec 32 := Scalar.addi v902 c0_i32_516
  let v2095 : Index := Scalar.indexCast v903
  let c0_912 : Index := 0#32
  let c0_913 : Index := 0#32
  ![18, v2095.toNat, 0, 0]
def k0_off56 (i : grid0.Coords) (k0_t2 : Fin (k0_t2_loop i).trips) (c0_i32_516 : BitVec 32) : Fin 4 → Nat :=
  let c19_914 : Index := 19#32
  let c4_i32_515 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v902 : BitVec 32 := Scalar.muli c4_i32_515 arg20
  let v903 : BitVec 32 := Scalar.addi v902 c0_i32_516
  let v2099 : Index := Scalar.indexCast v903
  let c0_915 : Index := 0#32
  let c0_916 : Index := 0#32
  ![19, v2099.toNat, 0, 0]
def k0_off57 (i : grid0.Coords) (k0_t2 : Fin (k0_t2_loop i).trips) (c0_i32_516 : BitVec 32) : Fin 4 → Nat :=
  let c20_917 : Index := 20#32
  let c4_i32_515 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v902 : BitVec 32 := Scalar.muli c4_i32_515 arg20
  let v903 : BitVec 32 := Scalar.addi v902 c0_i32_516
  let v2103 : Index := Scalar.indexCast v903
  let c0_918 : Index := 0#32
  let c0_919 : Index := 0#32
  ![20, v2103.toNat, 0, 0]
def k0_off58 (i : grid0.Coords) (k0_t2 : Fin (k0_t2_loop i).trips) (c0_i32_516 : BitVec 32) : Fin 4 → Nat :=
  let c21_920 : Index := 21#32
  let c4_i32_515 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v902 : BitVec 32 := Scalar.muli c4_i32_515 arg20
  let v903 : BitVec 32 := Scalar.addi v902 c0_i32_516
  let v2107 : Index := Scalar.indexCast v903
  let c0_921 : Index := 0#32
  let c0_922 : Index := 0#32
  ![21, v2107.toNat, 0, 0]
def k0_off59 (i : grid0.Coords) (k0_t2 : Fin (k0_t2_loop i).trips) (c0_i32_516 : BitVec 32) : Fin 4 → Nat :=
  let c22_923 : Index := 22#32
  let c4_i32_515 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v902 : BitVec 32 := Scalar.muli c4_i32_515 arg20
  let v903 : BitVec 32 := Scalar.addi v902 c0_i32_516
  let v2111 : Index := Scalar.indexCast v903
  let c0_924 : Index := 0#32
  let c0_925 : Index := 0#32
  ![22, v2111.toNat, 0, 0]
def k0_off60 (i : grid0.Coords) (k0_t2 : Fin (k0_t2_loop i).trips) (c0_i32_516 : BitVec 32) : Fin 4 → Nat :=
  let c23_926 : Index := 23#32
  let c4_i32_515 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v902 : BitVec 32 := Scalar.muli c4_i32_515 arg20
  let v903 : BitVec 32 := Scalar.addi v902 c0_i32_516
  let v2115 : Index := Scalar.indexCast v903
  let c0_927 : Index := 0#32
  let c0_928 : Index := 0#32
  ![23, v2115.toNat, 0, 0]
def k0_off61 (i : grid0.Coords) (k0_t2 : Fin (k0_t2_loop i).trips) (c0_i32_516 : BitVec 32) : Fin 4 → Nat :=
  let c24_929 : Index := 24#32
  let c4_i32_515 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v902 : BitVec 32 := Scalar.muli c4_i32_515 arg20
  let v903 : BitVec 32 := Scalar.addi v902 c0_i32_516
  let v2119 : Index := Scalar.indexCast v903
  let c0_930 : Index := 0#32
  let c0_931 : Index := 0#32
  ![24, v2119.toNat, 0, 0]
def k0_off62 (i : grid0.Coords) (k0_t2 : Fin (k0_t2_loop i).trips) (c0_i32_516 : BitVec 32) : Fin 4 → Nat :=
  let c25_932 : Index := 25#32
  let c4_i32_515 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v902 : BitVec 32 := Scalar.muli c4_i32_515 arg20
  let v903 : BitVec 32 := Scalar.addi v902 c0_i32_516
  let v2123 : Index := Scalar.indexCast v903
  let c0_933 : Index := 0#32
  let c0_934 : Index := 0#32
  ![25, v2123.toNat, 0, 0]
def k0_off63 (i : grid0.Coords) (k0_t2 : Fin (k0_t2_loop i).trips) (c0_i32_516 : BitVec 32) : Fin 4 → Nat :=
  let c26_935 : Index := 26#32
  let c4_i32_515 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v902 : BitVec 32 := Scalar.muli c4_i32_515 arg20
  let v903 : BitVec 32 := Scalar.addi v902 c0_i32_516
  let v2127 : Index := Scalar.indexCast v903
  let c0_936 : Index := 0#32
  let c0_937 : Index := 0#32
  ![26, v2127.toNat, 0, 0]
def k0_off64 (i : grid0.Coords) (k0_t2 : Fin (k0_t2_loop i).trips) (c0_i32_516 : BitVec 32) : Fin 4 → Nat :=
  let c27_938 : Index := 27#32
  let c4_i32_515 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v902 : BitVec 32 := Scalar.muli c4_i32_515 arg20
  let v903 : BitVec 32 := Scalar.addi v902 c0_i32_516
  let v2131 : Index := Scalar.indexCast v903
  let c0_939 : Index := 0#32
  let c0_940 : Index := 0#32
  ![27, v2131.toNat, 0, 0]
def k0_off65 (i : grid0.Coords) (k0_t2 : Fin (k0_t2_loop i).trips) (c0_i32_516 : BitVec 32) : Fin 4 → Nat :=
  let c28_941 : Index := 28#32
  let c4_i32_515 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v902 : BitVec 32 := Scalar.muli c4_i32_515 arg20
  let v903 : BitVec 32 := Scalar.addi v902 c0_i32_516
  let v2135 : Index := Scalar.indexCast v903
  let c0_942 : Index := 0#32
  let c0_943 : Index := 0#32
  ![28, v2135.toNat, 0, 0]
def k0_off66 (i : grid0.Coords) (k0_t2 : Fin (k0_t2_loop i).trips) (c0_i32_516 : BitVec 32) : Fin 4 → Nat :=
  let c29_944 : Index := 29#32
  let c4_i32_515 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v902 : BitVec 32 := Scalar.muli c4_i32_515 arg20
  let v903 : BitVec 32 := Scalar.addi v902 c0_i32_516
  let v2139 : Index := Scalar.indexCast v903
  let c0_945 : Index := 0#32
  let c0_946 : Index := 0#32
  ![29, v2139.toNat, 0, 0]
def k0_off67 (i : grid0.Coords) (k0_t2 : Fin (k0_t2_loop i).trips) (c0_i32_516 : BitVec 32) : Fin 4 → Nat :=
  let c30_947 : Index := 30#32
  let c4_i32_515 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v902 : BitVec 32 := Scalar.muli c4_i32_515 arg20
  let v903 : BitVec 32 := Scalar.addi v902 c0_i32_516
  let v2143 : Index := Scalar.indexCast v903
  let c0_948 : Index := 0#32
  let c0_949 : Index := 0#32
  ![30, v2143.toNat, 0, 0]
def k0_off68 (i : grid0.Coords) (k0_t2 : Fin (k0_t2_loop i).trips) (c0_i32_516 : BitVec 32) : Fin 4 → Nat :=
  let c31_950 : Index := 31#32
  let c4_i32_515 : BitVec 32 := 4#32
  let c0_i32_8 : BitVec 32 := 0#32
  let arg1 : BitVec 32 := BitVec.ofNat 32 (i 1).val
  let c0_i32 : BitVec 32 := 0#32
  let v10 : BitVec 1 := Scalar.cmpi .sgt arg1 c0_i32
  let v11 : BitVec 32 := Scalar.extui v10
  let c0_i32_3 : BitVec 32 := 0#32
  let v12 : BitVec 1 := Scalar.cmpi .slt arg1 c0_i32_3
  let v13 : BitVec 32 := Scalar.extui v12
  let v14 : BitVec 32 := Scalar.subi v11 v13
  let c4_i32 : BitVec 32 := 4#32
  let c0_i32_4 : BitVec 32 := 0#32
  let v15 : BitVec 1 := Scalar.cmpi .sgt c4_i32 c0_i32_4
  let v16 : BitVec 32 := Scalar.extui v15
  let c0_i32_5 : BitVec 32 := 0#32
  let v17 : BitVec 1 := Scalar.cmpi .slt c4_i32 c0_i32_5
  let v18 : BitVec 32 := Scalar.extui v17
  let v19 : BitVec 32 := Scalar.subi v16 v18
  let v20 : BitVec 1 := Scalar.cmpi .ne v14 v19
  let v21 : BitVec 32 := Scalar.remsi arg1 c4_i32
  let c0_i32_6 : BitVec 32 := 0#32
  let v22 : BitVec 1 := Scalar.cmpi .ne v21 c0_i32_6
  let v23 : BitVec 1 := Scalar.andi v20 v22
  let v9 : BitVec 32 := Scalar.divsi arg1 c4_i32
  let c1_i32 : BitVec 32 := 1#32
  let v24 : BitVec 32 := Scalar.subi v9 c1_i32
  let v25 : BitVec 32 := Scalar.select v23 v24 v9
  let v26 : BitVec 32 := Scalar.subi v25 c0_i32_8
  let c1_i32_9 : BitVec 32 := 1#32
  let v28 : BitVec 32 := Scalar.divsi v26 c1_i32_9
  let v29 : BitVec 32 := Scalar.muli v28 c1_i32_9
  let v30 : BitVec 32 := Scalar.addi c0_i32_8 v29
  let c1_i32_11 : BitVec 32 := 1#32
  let arg20 : BitVec 32 := Scf.iv v30 c1_i32_11 k0_t2
  let v902 : BitVec 32 := Scalar.muli c4_i32_515 arg20
  let v903 : BitVec 32 := Scalar.addi v902 c0_i32_516
  let v2147 : Index := Scalar.indexCast v903
  let c0_951 : Index := 0#32
  let c0_952 : Index := 0#32
  ![31, v2147.toNat, 0, 0]
def k0_cond1 (i : grid0.Coords) : BitVec 1 :=
  let arg1 : BitVec 32 := BitVec.ofNat 32 (i 1).val
  let c4_i32_12 : BitVec 32 := 4#32
  let c0_i32_13 : BitVec 32 := 0#32
  let v31 : BitVec 1 := Scalar.cmpi .eq c4_i32_12 c0_i32_13
  let c1_i32_14 : BitVec 32 := 1#32
  let v32 : BitVec 32 := Scalar.select v31 c1_i32_14 c4_i32_12
  let v33 : BitVec 32 := Scalar.remsi arg1 v32
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let c0_i32_15 : BitVec 32 := 0#32
  let v34 : BitVec 1 := Scalar.cmpi .ne v33 c0_i32_15
  let v38 : BitVec 1 := Scalar.andi v37 v34
  let v39 : BitVec 32 := Scalar.addi v33 v32
  let v40 : BitVec 32 := Scalar.select v38 v39 v33
  let c0_i32_18 : BitVec 32 := 0#32
  let v41 : BitVec 1 := Scalar.cmpi .eq v40 c0_i32_18
  let v42 : BitVec 32 := Scalar.extui v41
  let c0_i32_19 : BitVec 32 := 0#32
  let v43 : BitVec 1 := Scalar.cmpi .ne v42 c0_i32_19
  v43

def k0_mult9 (i : grid0.Coords) : BitVec 32 :=
  let arg1 : BitVec 32 := BitVec.ofNat 32 (i 1).val
  let c256_i32_674 : BitVec 32 := 256#32
  let v1267 : BitVec 32 := Scalar.muli arg1 c256_i32_674
  v1267
def k0_off69 (i : grid0.Coords) : Fin 2 → Nat :=
  let arg1 : BitVec 32 := BitVec.ofNat 32 (i 1).val
  let c256_i32_674 : BitVec 32 := 256#32
  let v1267 : BitVec 32 := Scalar.muli arg1 c256_i32_674
  let v1268 : BitVec 32 := v1267
  let v1269 : Index := Scalar.indexCast v1268
  let c0_675 : Index := 0#32
  ![v1269.toNat, 0]
def k0_off70 (i : grid0.Coords) : Fin 3 → Nat :=
  let arg1 : BitVec 32 := BitVec.ofNat 32 (i 1).val
  let v1354 : Index := Scalar.indexCast arg1
  let c0_700 : Index := 0#32
  let c0_701 : Index := 0#32
  ![v1354.toNat, 0, 0]
def k0_off71 (i : grid0.Coords) : Fin 4 → Nat :=
  let c0_938 : Index := 0#32
  let arg1 : BitVec 32 := BitVec.ofNat 32 (i 1).val
  let v2145 : Index := Scalar.indexCast arg1
  let c0_939 : Index := 0#32
  let c0_940 : Index := 0#32
  ![0, v2145.toNat, 0, 0]
def k0_off72 (i : grid0.Coords) : Fin 4 → Nat :=
  let c1_941 : Index := 1#32
  let arg1 : BitVec 32 := BitVec.ofNat 32 (i 1).val
  let v2149 : Index := Scalar.indexCast arg1
  let c0_942 : Index := 0#32
  let c0_943 : Index := 0#32
  ![1, v2149.toNat, 0, 0]
def k0_off73 (i : grid0.Coords) : Fin 4 → Nat :=
  let c2_944 : Index := 2#32
  let arg1 : BitVec 32 := BitVec.ofNat 32 (i 1).val
  let v2153 : Index := Scalar.indexCast arg1
  let c0_945 : Index := 0#32
  let c0_946 : Index := 0#32
  ![2, v2153.toNat, 0, 0]
def k0_off74 (i : grid0.Coords) : Fin 4 → Nat :=
  let c3_947 : Index := 3#32
  let arg1 : BitVec 32 := BitVec.ofNat 32 (i 1).val
  let v2157 : Index := Scalar.indexCast arg1
  let c0_948 : Index := 0#32
  let c0_949 : Index := 0#32
  ![3, v2157.toNat, 0, 0]
def k0_off75 (i : grid0.Coords) : Fin 4 → Nat :=
  let c4_950 : Index := 4#32
  let arg1 : BitVec 32 := BitVec.ofNat 32 (i 1).val
  let v2161 : Index := Scalar.indexCast arg1
  let c0_951 : Index := 0#32
  let c0_952 : Index := 0#32
  ![4, v2161.toNat, 0, 0]
def k0_off76 (i : grid0.Coords) : Fin 4 → Nat :=
  let c5_953 : Index := 5#32
  let arg1 : BitVec 32 := BitVec.ofNat 32 (i 1).val
  let v2165 : Index := Scalar.indexCast arg1
  let c0_954 : Index := 0#32
  let c0_955 : Index := 0#32
  ![5, v2165.toNat, 0, 0]
def k0_off77 (i : grid0.Coords) : Fin 4 → Nat :=
  let c6_956 : Index := 6#32
  let arg1 : BitVec 32 := BitVec.ofNat 32 (i 1).val
  let v2169 : Index := Scalar.indexCast arg1
  let c0_957 : Index := 0#32
  let c0_958 : Index := 0#32
  ![6, v2169.toNat, 0, 0]
def k0_off78 (i : grid0.Coords) : Fin 4 → Nat :=
  let c7_959 : Index := 7#32
  let arg1 : BitVec 32 := BitVec.ofNat 32 (i 1).val
  let v2173 : Index := Scalar.indexCast arg1
  let c0_960 : Index := 0#32
  let c0_961 : Index := 0#32
  ![7, v2173.toNat, 0, 0]
def k0_off79 (i : grid0.Coords) : Fin 4 → Nat :=
  let c8_962 : Index := 8#32
  let arg1 : BitVec 32 := BitVec.ofNat 32 (i 1).val
  let v2177 : Index := Scalar.indexCast arg1
  let c0_963 : Index := 0#32
  let c0_964 : Index := 0#32
  ![8, v2177.toNat, 0, 0]
def k0_off80 (i : grid0.Coords) : Fin 4 → Nat :=
  let c9_965 : Index := 9#32
  let arg1 : BitVec 32 := BitVec.ofNat 32 (i 1).val
  let v2181 : Index := Scalar.indexCast arg1
  let c0_966 : Index := 0#32
  let c0_967 : Index := 0#32
  ![9, v2181.toNat, 0, 0]
def k0_off81 (i : grid0.Coords) : Fin 4 → Nat :=
  let c10_968 : Index := 10#32
  let arg1 : BitVec 32 := BitVec.ofNat 32 (i 1).val
  let v2185 : Index := Scalar.indexCast arg1
  let c0_969 : Index := 0#32
  let c0_970 : Index := 0#32
  ![10, v2185.toNat, 0, 0]
def k0_off82 (i : grid0.Coords) : Fin 4 → Nat :=
  let c11_971 : Index := 11#32
  let arg1 : BitVec 32 := BitVec.ofNat 32 (i 1).val
  let v2189 : Index := Scalar.indexCast arg1
  let c0_972 : Index := 0#32
  let c0_973 : Index := 0#32
  ![11, v2189.toNat, 0, 0]
def k0_off83 (i : grid0.Coords) : Fin 4 → Nat :=
  let c12_974 : Index := 12#32
  let arg1 : BitVec 32 := BitVec.ofNat 32 (i 1).val
  let v2193 : Index := Scalar.indexCast arg1
  let c0_975 : Index := 0#32
  let c0_976 : Index := 0#32
  ![12, v2193.toNat, 0, 0]
def k0_off84 (i : grid0.Coords) : Fin 4 → Nat :=
  let c13_977 : Index := 13#32
  let arg1 : BitVec 32 := BitVec.ofNat 32 (i 1).val
  let v2197 : Index := Scalar.indexCast arg1
  let c0_978 : Index := 0#32
  let c0_979 : Index := 0#32
  ![13, v2197.toNat, 0, 0]
def k0_off85 (i : grid0.Coords) : Fin 4 → Nat :=
  let c14_980 : Index := 14#32
  let arg1 : BitVec 32 := BitVec.ofNat 32 (i 1).val
  let v2201 : Index := Scalar.indexCast arg1
  let c0_981 : Index := 0#32
  let c0_982 : Index := 0#32
  ![14, v2201.toNat, 0, 0]
def k0_off86 (i : grid0.Coords) : Fin 4 → Nat :=
  let c15_983 : Index := 15#32
  let arg1 : BitVec 32 := BitVec.ofNat 32 (i 1).val
  let v2205 : Index := Scalar.indexCast arg1
  let c0_984 : Index := 0#32
  let c0_985 : Index := 0#32
  ![15, v2205.toNat, 0, 0]
def k0_off87 (i : grid0.Coords) : Fin 4 → Nat :=
  let c16_986 : Index := 16#32
  let arg1 : BitVec 32 := BitVec.ofNat 32 (i 1).val
  let v2209 : Index := Scalar.indexCast arg1
  let c0_987 : Index := 0#32
  let c0_988 : Index := 0#32
  ![16, v2209.toNat, 0, 0]
def k0_off88 (i : grid0.Coords) : Fin 4 → Nat :=
  let c17_989 : Index := 17#32
  let arg1 : BitVec 32 := BitVec.ofNat 32 (i 1).val
  let v2213 : Index := Scalar.indexCast arg1
  let c0_990 : Index := 0#32
  let c0_991 : Index := 0#32
  ![17, v2213.toNat, 0, 0]
def k0_off89 (i : grid0.Coords) : Fin 4 → Nat :=
  let c18_992 : Index := 18#32
  let arg1 : BitVec 32 := BitVec.ofNat 32 (i 1).val
  let v2217 : Index := Scalar.indexCast arg1
  let c0_993 : Index := 0#32
  let c0_994 : Index := 0#32
  ![18, v2217.toNat, 0, 0]
def k0_off90 (i : grid0.Coords) : Fin 4 → Nat :=
  let c19_995 : Index := 19#32
  let arg1 : BitVec 32 := BitVec.ofNat 32 (i 1).val
  let v2221 : Index := Scalar.indexCast arg1
  let c0_996 : Index := 0#32
  let c0_997 : Index := 0#32
  ![19, v2221.toNat, 0, 0]
def k0_off91 (i : grid0.Coords) : Fin 4 → Nat :=
  let c20_998 : Index := 20#32
  let arg1 : BitVec 32 := BitVec.ofNat 32 (i 1).val
  let v2225 : Index := Scalar.indexCast arg1
  let c0_999 : Index := 0#32
  let c0_1000 : Index := 0#32
  ![20, v2225.toNat, 0, 0]
def k0_off92 (i : grid0.Coords) : Fin 4 → Nat :=
  let c21_1001 : Index := 21#32
  let arg1 : BitVec 32 := BitVec.ofNat 32 (i 1).val
  let v2229 : Index := Scalar.indexCast arg1
  let c0_1002 : Index := 0#32
  let c0_1003 : Index := 0#32
  ![21, v2229.toNat, 0, 0]
def k0_off93 (i : grid0.Coords) : Fin 4 → Nat :=
  let c22_1004 : Index := 22#32
  let arg1 : BitVec 32 := BitVec.ofNat 32 (i 1).val
  let v2233 : Index := Scalar.indexCast arg1
  let c0_1005 : Index := 0#32
  let c0_1006 : Index := 0#32
  ![22, v2233.toNat, 0, 0]
def k0_off94 (i : grid0.Coords) : Fin 4 → Nat :=
  let c23_1007 : Index := 23#32
  let arg1 : BitVec 32 := BitVec.ofNat 32 (i 1).val
  let v2237 : Index := Scalar.indexCast arg1
  let c0_1008 : Index := 0#32
  let c0_1009 : Index := 0#32
  ![23, v2237.toNat, 0, 0]
def k0_off95 (i : grid0.Coords) : Fin 4 → Nat :=
  let c24_1010 : Index := 24#32
  let arg1 : BitVec 32 := BitVec.ofNat 32 (i 1).val
  let v2241 : Index := Scalar.indexCast arg1
  let c0_1011 : Index := 0#32
  let c0_1012 : Index := 0#32
  ![24, v2241.toNat, 0, 0]
def k0_off96 (i : grid0.Coords) : Fin 4 → Nat :=
  let c25_1013 : Index := 25#32
  let arg1 : BitVec 32 := BitVec.ofNat 32 (i 1).val
  let v2245 : Index := Scalar.indexCast arg1
  let c0_1014 : Index := 0#32
  let c0_1015 : Index := 0#32
  ![25, v2245.toNat, 0, 0]
def k0_off97 (i : grid0.Coords) : Fin 4 → Nat :=
  let c26_1016 : Index := 26#32
  let arg1 : BitVec 32 := BitVec.ofNat 32 (i 1).val
  let v2249 : Index := Scalar.indexCast arg1
  let c0_1017 : Index := 0#32
  let c0_1018 : Index := 0#32
  ![26, v2249.toNat, 0, 0]
def k0_off98 (i : grid0.Coords) : Fin 4 → Nat :=
  let c27_1019 : Index := 27#32
  let arg1 : BitVec 32 := BitVec.ofNat 32 (i 1).val
  let v2253 : Index := Scalar.indexCast arg1
  let c0_1020 : Index := 0#32
  let c0_1021 : Index := 0#32
  ![27, v2253.toNat, 0, 0]
def k0_off99 (i : grid0.Coords) : Fin 4 → Nat :=
  let c28_1022 : Index := 28#32
  let arg1 : BitVec 32 := BitVec.ofNat 32 (i 1).val
  let v2257 : Index := Scalar.indexCast arg1
  let c0_1023 : Index := 0#32
  let c0_1024 : Index := 0#32
  ![28, v2257.toNat, 0, 0]
def k0_off100 (i : grid0.Coords) : Fin 4 → Nat :=
  let c29_1025 : Index := 29#32
  let arg1 : BitVec 32 := BitVec.ofNat 32 (i 1).val
  let v2261 : Index := Scalar.indexCast arg1
  let c0_1026 : Index := 0#32
  let c0_1027 : Index := 0#32
  ![29, v2261.toNat, 0, 0]
def k0_off101 (i : grid0.Coords) : Fin 4 → Nat :=
  let c30_1028 : Index := 30#32
  let arg1 : BitVec 32 := BitVec.ofNat 32 (i 1).val
  let v2265 : Index := Scalar.indexCast arg1
  let c0_1029 : Index := 0#32
  let c0_1030 : Index := 0#32
  ![30, v2265.toNat, 0, 0]
def k0_off102 (i : grid0.Coords) : Fin 4 → Nat :=
  let c31_1031 : Index := 31#32
  let arg1 : BitVec 32 := BitVec.ofNat 32 (i 1).val
  let v2269 : Index := Scalar.indexCast arg1
  let c0_1032 : Index := 0#32
  let c0_1033 : Index := 0#32
  ![31, v2269.toNat, 0, 0]
def k0_cond2 (i : grid0.Coords) : BitVec 1 :=
  let arg1 : BitVec 32 := BitVec.ofNat 32 (i 1).val
  let c4_i32_12 : BitVec 32 := 4#32
  let c0_i32_13 : BitVec 32 := 0#32
  let v31 : BitVec 1 := Scalar.cmpi .eq c4_i32_12 c0_i32_13
  let c1_i32_14 : BitVec 32 := 1#32
  let v32 : BitVec 32 := Scalar.select v31 c1_i32_14 c4_i32_12
  let v33 : BitVec 32 := Scalar.remsi arg1 v32
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let c0_i32_15 : BitVec 32 := 0#32
  let v34 : BitVec 1 := Scalar.cmpi .ne v33 c0_i32_15
  let v38 : BitVec 1 := Scalar.andi v37 v34
  let v39 : BitVec 32 := Scalar.addi v33 v32
  let v40 : BitVec 32 := Scalar.select v38 v39 v33
  let c1_i32_20 : BitVec 32 := 1#32
  let v44 : BitVec 1 := Scalar.cmpi .eq v40 c1_i32_20
  let v45 : BitVec 32 := Scalar.extui v44
  let c0_i32_21 : BitVec 32 := 0#32
  let v46 : BitVec 1 := Scalar.cmpi .ne v45 c0_i32_21
  v46

def k0_mult10 (i : grid0.Coords) : BitVec 32 :=
  let arg1 : BitVec 32 := BitVec.ofNat 32 (i 1).val
  let c1_i32_674 : BitVec 32 := 1#32
  let v1267 : BitVec 32 := Scalar.subi arg1 c1_i32_674
  let c0_i32_675 : BitVec 32 := 0#32
  let v1268 : BitVec 32 := Scalar.addi v1267 c0_i32_675
  let c256_i32_676 : BitVec 32 := 256#32
  let v1269 : BitVec 32 := Scalar.muli v1268 c256_i32_676
  v1269
def k0_off103 (i : grid0.Coords) : Fin 2 → Nat :=
  let arg1 : BitVec 32 := BitVec.ofNat 32 (i 1).val
  let c1_i32_674 : BitVec 32 := 1#32
  let v1267 : BitVec 32 := Scalar.subi arg1 c1_i32_674
  let c0_i32_675 : BitVec 32 := 0#32
  let v1268 : BitVec 32 := Scalar.addi v1267 c0_i32_675
  let c256_i32_676 : BitVec 32 := 256#32
  let v1269 : BitVec 32 := Scalar.muli v1268 c256_i32_676
  let v1270 : BitVec 32 := v1269
  let v1271 : Index := Scalar.indexCast v1270
  let c0_677 : Index := 0#32
  ![v1271.toNat, 0]
def k0_mult11 (i : grid0.Coords) : BitVec 32 :=
  let arg1 : BitVec 32 := BitVec.ofNat 32 (i 1).val
  let c256_i32_700 : BitVec 32 := 256#32
  let v1348 : BitVec 32 := Scalar.muli arg1 c256_i32_700
  v1348
def k0_off104 (i : grid0.Coords) : Fin 2 → Nat :=
  let arg1 : BitVec 32 := BitVec.ofNat 32 (i 1).val
  let c256_i32_700 : BitVec 32 := 256#32
  let v1348 : BitVec 32 := Scalar.muli arg1 c256_i32_700
  let v1349 : BitVec 32 := v1348
  let v1350 : Index := Scalar.indexCast v1349
  let c0_701 : Index := 0#32
  ![v1350.toNat, 0]
def k0_off105 (i : grid0.Coords) : Fin 3 → Nat :=
  let arg1 : BitVec 32 := BitVec.ofNat 32 (i 1).val
  let c1_i32_674 : BitVec 32 := 1#32
  let v1267 : BitVec 32 := Scalar.subi arg1 c1_i32_674
  let c0_i32_675 : BitVec 32 := 0#32
  let v1268 : BitVec 32 := Scalar.addi v1267 c0_i32_675
  let v1433 : Index := Scalar.indexCast v1268
  let c0_725 : Index := 0#32
  let c0_726 : Index := 0#32
  ![v1433.toNat, 0, 0]
def k0_off106 (i : grid0.Coords) : Fin 4 → Nat :=
  let c0_963 : Index := 0#32
  let arg1 : BitVec 32 := BitVec.ofNat 32 (i 1).val
  let c1_i32_674 : BitVec 32 := 1#32
  let v1267 : BitVec 32 := Scalar.subi arg1 c1_i32_674
  let c0_i32_675 : BitVec 32 := 0#32
  let v1268 : BitVec 32 := Scalar.addi v1267 c0_i32_675
  let v2224 : Index := Scalar.indexCast v1268
  let c0_964 : Index := 0#32
  let c0_965 : Index := 0#32
  ![0, v2224.toNat, 0, 0]
def k0_off107 (i : grid0.Coords) : Fin 4 → Nat :=
  let c1_966 : Index := 1#32
  let arg1 : BitVec 32 := BitVec.ofNat 32 (i 1).val
  let c1_i32_674 : BitVec 32 := 1#32
  let v1267 : BitVec 32 := Scalar.subi arg1 c1_i32_674
  let c0_i32_675 : BitVec 32 := 0#32
  let v1268 : BitVec 32 := Scalar.addi v1267 c0_i32_675
  let v2228 : Index := Scalar.indexCast v1268
  let c0_967 : Index := 0#32
  let c0_968 : Index := 0#32
  ![1, v2228.toNat, 0, 0]
def k0_off108 (i : grid0.Coords) : Fin 4 → Nat :=
  let c2_969 : Index := 2#32
  let arg1 : BitVec 32 := BitVec.ofNat 32 (i 1).val
  let c1_i32_674 : BitVec 32 := 1#32
  let v1267 : BitVec 32 := Scalar.subi arg1 c1_i32_674
  let c0_i32_675 : BitVec 32 := 0#32
  let v1268 : BitVec 32 := Scalar.addi v1267 c0_i32_675
  let v2232 : Index := Scalar.indexCast v1268
  let c0_970 : Index := 0#32
  let c0_971 : Index := 0#32
  ![2, v2232.toNat, 0, 0]
def k0_off109 (i : grid0.Coords) : Fin 4 → Nat :=
  let c3_972 : Index := 3#32
  let arg1 : BitVec 32 := BitVec.ofNat 32 (i 1).val
  let c1_i32_674 : BitVec 32 := 1#32
  let v1267 : BitVec 32 := Scalar.subi arg1 c1_i32_674
  let c0_i32_675 : BitVec 32 := 0#32
  let v1268 : BitVec 32 := Scalar.addi v1267 c0_i32_675
  let v2236 : Index := Scalar.indexCast v1268
  let c0_973 : Index := 0#32
  let c0_974 : Index := 0#32
  ![3, v2236.toNat, 0, 0]
def k0_off110 (i : grid0.Coords) : Fin 4 → Nat :=
  let c4_975 : Index := 4#32
  let arg1 : BitVec 32 := BitVec.ofNat 32 (i 1).val
  let c1_i32_674 : BitVec 32 := 1#32
  let v1267 : BitVec 32 := Scalar.subi arg1 c1_i32_674
  let c0_i32_675 : BitVec 32 := 0#32
  let v1268 : BitVec 32 := Scalar.addi v1267 c0_i32_675
  let v2240 : Index := Scalar.indexCast v1268
  let c0_976 : Index := 0#32
  let c0_977 : Index := 0#32
  ![4, v2240.toNat, 0, 0]
def k0_off111 (i : grid0.Coords) : Fin 4 → Nat :=
  let c5_978 : Index := 5#32
  let arg1 : BitVec 32 := BitVec.ofNat 32 (i 1).val
  let c1_i32_674 : BitVec 32 := 1#32
  let v1267 : BitVec 32 := Scalar.subi arg1 c1_i32_674
  let c0_i32_675 : BitVec 32 := 0#32
  let v1268 : BitVec 32 := Scalar.addi v1267 c0_i32_675
  let v2244 : Index := Scalar.indexCast v1268
  let c0_979 : Index := 0#32
  let c0_980 : Index := 0#32
  ![5, v2244.toNat, 0, 0]
def k0_off112 (i : grid0.Coords) : Fin 4 → Nat :=
  let c6_981 : Index := 6#32
  let arg1 : BitVec 32 := BitVec.ofNat 32 (i 1).val
  let c1_i32_674 : BitVec 32 := 1#32
  let v1267 : BitVec 32 := Scalar.subi arg1 c1_i32_674
  let c0_i32_675 : BitVec 32 := 0#32
  let v1268 : BitVec 32 := Scalar.addi v1267 c0_i32_675
  let v2248 : Index := Scalar.indexCast v1268
  let c0_982 : Index := 0#32
  let c0_983 : Index := 0#32
  ![6, v2248.toNat, 0, 0]
def k0_off113 (i : grid0.Coords) : Fin 4 → Nat :=
  let c7_984 : Index := 7#32
  let arg1 : BitVec 32 := BitVec.ofNat 32 (i 1).val
  let c1_i32_674 : BitVec 32 := 1#32
  let v1267 : BitVec 32 := Scalar.subi arg1 c1_i32_674
  let c0_i32_675 : BitVec 32 := 0#32
  let v1268 : BitVec 32 := Scalar.addi v1267 c0_i32_675
  let v2252 : Index := Scalar.indexCast v1268
  let c0_985 : Index := 0#32
  let c0_986 : Index := 0#32
  ![7, v2252.toNat, 0, 0]
def k0_off114 (i : grid0.Coords) : Fin 4 → Nat :=
  let c8_987 : Index := 8#32
  let arg1 : BitVec 32 := BitVec.ofNat 32 (i 1).val
  let c1_i32_674 : BitVec 32 := 1#32
  let v1267 : BitVec 32 := Scalar.subi arg1 c1_i32_674
  let c0_i32_675 : BitVec 32 := 0#32
  let v1268 : BitVec 32 := Scalar.addi v1267 c0_i32_675
  let v2256 : Index := Scalar.indexCast v1268
  let c0_988 : Index := 0#32
  let c0_989 : Index := 0#32
  ![8, v2256.toNat, 0, 0]
def k0_off115 (i : grid0.Coords) : Fin 4 → Nat :=
  let c9_990 : Index := 9#32
  let arg1 : BitVec 32 := BitVec.ofNat 32 (i 1).val
  let c1_i32_674 : BitVec 32 := 1#32
  let v1267 : BitVec 32 := Scalar.subi arg1 c1_i32_674
  let c0_i32_675 : BitVec 32 := 0#32
  let v1268 : BitVec 32 := Scalar.addi v1267 c0_i32_675
  let v2260 : Index := Scalar.indexCast v1268
  let c0_991 : Index := 0#32
  let c0_992 : Index := 0#32
  ![9, v2260.toNat, 0, 0]
def k0_off116 (i : grid0.Coords) : Fin 4 → Nat :=
  let c10_993 : Index := 10#32
  let arg1 : BitVec 32 := BitVec.ofNat 32 (i 1).val
  let c1_i32_674 : BitVec 32 := 1#32
  let v1267 : BitVec 32 := Scalar.subi arg1 c1_i32_674
  let c0_i32_675 : BitVec 32 := 0#32
  let v1268 : BitVec 32 := Scalar.addi v1267 c0_i32_675
  let v2264 : Index := Scalar.indexCast v1268
  let c0_994 : Index := 0#32
  let c0_995 : Index := 0#32
  ![10, v2264.toNat, 0, 0]
def k0_off117 (i : grid0.Coords) : Fin 4 → Nat :=
  let c11_996 : Index := 11#32
  let arg1 : BitVec 32 := BitVec.ofNat 32 (i 1).val
  let c1_i32_674 : BitVec 32 := 1#32
  let v1267 : BitVec 32 := Scalar.subi arg1 c1_i32_674
  let c0_i32_675 : BitVec 32 := 0#32
  let v1268 : BitVec 32 := Scalar.addi v1267 c0_i32_675
  let v2268 : Index := Scalar.indexCast v1268
  let c0_997 : Index := 0#32
  let c0_998 : Index := 0#32
  ![11, v2268.toNat, 0, 0]
def k0_off118 (i : grid0.Coords) : Fin 4 → Nat :=
  let c12_999 : Index := 12#32
  let arg1 : BitVec 32 := BitVec.ofNat 32 (i 1).val
  let c1_i32_674 : BitVec 32 := 1#32
  let v1267 : BitVec 32 := Scalar.subi arg1 c1_i32_674
  let c0_i32_675 : BitVec 32 := 0#32
  let v1268 : BitVec 32 := Scalar.addi v1267 c0_i32_675
  let v2272 : Index := Scalar.indexCast v1268
  let c0_1000 : Index := 0#32
  let c0_1001 : Index := 0#32
  ![12, v2272.toNat, 0, 0]
def k0_off119 (i : grid0.Coords) : Fin 4 → Nat :=
  let c13_1002 : Index := 13#32
  let arg1 : BitVec 32 := BitVec.ofNat 32 (i 1).val
  let c1_i32_674 : BitVec 32 := 1#32
  let v1267 : BitVec 32 := Scalar.subi arg1 c1_i32_674
  let c0_i32_675 : BitVec 32 := 0#32
  let v1268 : BitVec 32 := Scalar.addi v1267 c0_i32_675
  let v2276 : Index := Scalar.indexCast v1268
  let c0_1003 : Index := 0#32
  let c0_1004 : Index := 0#32
  ![13, v2276.toNat, 0, 0]
def k0_off120 (i : grid0.Coords) : Fin 4 → Nat :=
  let c14_1005 : Index := 14#32
  let arg1 : BitVec 32 := BitVec.ofNat 32 (i 1).val
  let c1_i32_674 : BitVec 32 := 1#32
  let v1267 : BitVec 32 := Scalar.subi arg1 c1_i32_674
  let c0_i32_675 : BitVec 32 := 0#32
  let v1268 : BitVec 32 := Scalar.addi v1267 c0_i32_675
  let v2280 : Index := Scalar.indexCast v1268
  let c0_1006 : Index := 0#32
  let c0_1007 : Index := 0#32
  ![14, v2280.toNat, 0, 0]
def k0_off121 (i : grid0.Coords) : Fin 4 → Nat :=
  let c15_1008 : Index := 15#32
  let arg1 : BitVec 32 := BitVec.ofNat 32 (i 1).val
  let c1_i32_674 : BitVec 32 := 1#32
  let v1267 : BitVec 32 := Scalar.subi arg1 c1_i32_674
  let c0_i32_675 : BitVec 32 := 0#32
  let v1268 : BitVec 32 := Scalar.addi v1267 c0_i32_675
  let v2284 : Index := Scalar.indexCast v1268
  let c0_1009 : Index := 0#32
  let c0_1010 : Index := 0#32
  ![15, v2284.toNat, 0, 0]
def k0_off122 (i : grid0.Coords) : Fin 4 → Nat :=
  let c16_1011 : Index := 16#32
  let arg1 : BitVec 32 := BitVec.ofNat 32 (i 1).val
  let c1_i32_674 : BitVec 32 := 1#32
  let v1267 : BitVec 32 := Scalar.subi arg1 c1_i32_674
  let c0_i32_675 : BitVec 32 := 0#32
  let v1268 : BitVec 32 := Scalar.addi v1267 c0_i32_675
  let v2288 : Index := Scalar.indexCast v1268
  let c0_1012 : Index := 0#32
  let c0_1013 : Index := 0#32
  ![16, v2288.toNat, 0, 0]
def k0_off123 (i : grid0.Coords) : Fin 4 → Nat :=
  let c17_1014 : Index := 17#32
  let arg1 : BitVec 32 := BitVec.ofNat 32 (i 1).val
  let c1_i32_674 : BitVec 32 := 1#32
  let v1267 : BitVec 32 := Scalar.subi arg1 c1_i32_674
  let c0_i32_675 : BitVec 32 := 0#32
  let v1268 : BitVec 32 := Scalar.addi v1267 c0_i32_675
  let v2292 : Index := Scalar.indexCast v1268
  let c0_1015 : Index := 0#32
  let c0_1016 : Index := 0#32
  ![17, v2292.toNat, 0, 0]
def k0_off124 (i : grid0.Coords) : Fin 4 → Nat :=
  let c18_1017 : Index := 18#32
  let arg1 : BitVec 32 := BitVec.ofNat 32 (i 1).val
  let c1_i32_674 : BitVec 32 := 1#32
  let v1267 : BitVec 32 := Scalar.subi arg1 c1_i32_674
  let c0_i32_675 : BitVec 32 := 0#32
  let v1268 : BitVec 32 := Scalar.addi v1267 c0_i32_675
  let v2296 : Index := Scalar.indexCast v1268
  let c0_1018 : Index := 0#32
  let c0_1019 : Index := 0#32
  ![18, v2296.toNat, 0, 0]
def k0_off125 (i : grid0.Coords) : Fin 4 → Nat :=
  let c19_1020 : Index := 19#32
  let arg1 : BitVec 32 := BitVec.ofNat 32 (i 1).val
  let c1_i32_674 : BitVec 32 := 1#32
  let v1267 : BitVec 32 := Scalar.subi arg1 c1_i32_674
  let c0_i32_675 : BitVec 32 := 0#32
  let v1268 : BitVec 32 := Scalar.addi v1267 c0_i32_675
  let v2300 : Index := Scalar.indexCast v1268
  let c0_1021 : Index := 0#32
  let c0_1022 : Index := 0#32
  ![19, v2300.toNat, 0, 0]
def k0_off126 (i : grid0.Coords) : Fin 4 → Nat :=
  let c20_1023 : Index := 20#32
  let arg1 : BitVec 32 := BitVec.ofNat 32 (i 1).val
  let c1_i32_674 : BitVec 32 := 1#32
  let v1267 : BitVec 32 := Scalar.subi arg1 c1_i32_674
  let c0_i32_675 : BitVec 32 := 0#32
  let v1268 : BitVec 32 := Scalar.addi v1267 c0_i32_675
  let v2304 : Index := Scalar.indexCast v1268
  let c0_1024 : Index := 0#32
  let c0_1025 : Index := 0#32
  ![20, v2304.toNat, 0, 0]
def k0_off127 (i : grid0.Coords) : Fin 4 → Nat :=
  let c21_1026 : Index := 21#32
  let arg1 : BitVec 32 := BitVec.ofNat 32 (i 1).val
  let c1_i32_674 : BitVec 32 := 1#32
  let v1267 : BitVec 32 := Scalar.subi arg1 c1_i32_674
  let c0_i32_675 : BitVec 32 := 0#32
  let v1268 : BitVec 32 := Scalar.addi v1267 c0_i32_675
  let v2308 : Index := Scalar.indexCast v1268
  let c0_1027 : Index := 0#32
  let c0_1028 : Index := 0#32
  ![21, v2308.toNat, 0, 0]
def k0_off128 (i : grid0.Coords) : Fin 4 → Nat :=
  let c22_1029 : Index := 22#32
  let arg1 : BitVec 32 := BitVec.ofNat 32 (i 1).val
  let c1_i32_674 : BitVec 32 := 1#32
  let v1267 : BitVec 32 := Scalar.subi arg1 c1_i32_674
  let c0_i32_675 : BitVec 32 := 0#32
  let v1268 : BitVec 32 := Scalar.addi v1267 c0_i32_675
  let v2312 : Index := Scalar.indexCast v1268
  let c0_1030 : Index := 0#32
  let c0_1031 : Index := 0#32
  ![22, v2312.toNat, 0, 0]
def k0_off129 (i : grid0.Coords) : Fin 4 → Nat :=
  let c23_1032 : Index := 23#32
  let arg1 : BitVec 32 := BitVec.ofNat 32 (i 1).val
  let c1_i32_674 : BitVec 32 := 1#32
  let v1267 : BitVec 32 := Scalar.subi arg1 c1_i32_674
  let c0_i32_675 : BitVec 32 := 0#32
  let v1268 : BitVec 32 := Scalar.addi v1267 c0_i32_675
  let v2316 : Index := Scalar.indexCast v1268
  let c0_1033 : Index := 0#32
  let c0_1034 : Index := 0#32
  ![23, v2316.toNat, 0, 0]
def k0_off130 (i : grid0.Coords) : Fin 4 → Nat :=
  let c24_1035 : Index := 24#32
  let arg1 : BitVec 32 := BitVec.ofNat 32 (i 1).val
  let c1_i32_674 : BitVec 32 := 1#32
  let v1267 : BitVec 32 := Scalar.subi arg1 c1_i32_674
  let c0_i32_675 : BitVec 32 := 0#32
  let v1268 : BitVec 32 := Scalar.addi v1267 c0_i32_675
  let v2320 : Index := Scalar.indexCast v1268
  let c0_1036 : Index := 0#32
  let c0_1037 : Index := 0#32
  ![24, v2320.toNat, 0, 0]
def k0_off131 (i : grid0.Coords) : Fin 4 → Nat :=
  let c25_1038 : Index := 25#32
  let arg1 : BitVec 32 := BitVec.ofNat 32 (i 1).val
  let c1_i32_674 : BitVec 32 := 1#32
  let v1267 : BitVec 32 := Scalar.subi arg1 c1_i32_674
  let c0_i32_675 : BitVec 32 := 0#32
  let v1268 : BitVec 32 := Scalar.addi v1267 c0_i32_675
  let v2324 : Index := Scalar.indexCast v1268
  let c0_1039 : Index := 0#32
  let c0_1040 : Index := 0#32
  ![25, v2324.toNat, 0, 0]
def k0_off132 (i : grid0.Coords) : Fin 4 → Nat :=
  let c26_1041 : Index := 26#32
  let arg1 : BitVec 32 := BitVec.ofNat 32 (i 1).val
  let c1_i32_674 : BitVec 32 := 1#32
  let v1267 : BitVec 32 := Scalar.subi arg1 c1_i32_674
  let c0_i32_675 : BitVec 32 := 0#32
  let v1268 : BitVec 32 := Scalar.addi v1267 c0_i32_675
  let v2328 : Index := Scalar.indexCast v1268
  let c0_1042 : Index := 0#32
  let c0_1043 : Index := 0#32
  ![26, v2328.toNat, 0, 0]
def k0_off133 (i : grid0.Coords) : Fin 4 → Nat :=
  let c27_1044 : Index := 27#32
  let arg1 : BitVec 32 := BitVec.ofNat 32 (i 1).val
  let c1_i32_674 : BitVec 32 := 1#32
  let v1267 : BitVec 32 := Scalar.subi arg1 c1_i32_674
  let c0_i32_675 : BitVec 32 := 0#32
  let v1268 : BitVec 32 := Scalar.addi v1267 c0_i32_675
  let v2332 : Index := Scalar.indexCast v1268
  let c0_1045 : Index := 0#32
  let c0_1046 : Index := 0#32
  ![27, v2332.toNat, 0, 0]
def k0_off134 (i : grid0.Coords) : Fin 4 → Nat :=
  let c28_1047 : Index := 28#32
  let arg1 : BitVec 32 := BitVec.ofNat 32 (i 1).val
  let c1_i32_674 : BitVec 32 := 1#32
  let v1267 : BitVec 32 := Scalar.subi arg1 c1_i32_674
  let c0_i32_675 : BitVec 32 := 0#32
  let v1268 : BitVec 32 := Scalar.addi v1267 c0_i32_675
  let v2336 : Index := Scalar.indexCast v1268
  let c0_1048 : Index := 0#32
  let c0_1049 : Index := 0#32
  ![28, v2336.toNat, 0, 0]
def k0_off135 (i : grid0.Coords) : Fin 4 → Nat :=
  let c29_1050 : Index := 29#32
  let arg1 : BitVec 32 := BitVec.ofNat 32 (i 1).val
  let c1_i32_674 : BitVec 32 := 1#32
  let v1267 : BitVec 32 := Scalar.subi arg1 c1_i32_674
  let c0_i32_675 : BitVec 32 := 0#32
  let v1268 : BitVec 32 := Scalar.addi v1267 c0_i32_675
  let v2340 : Index := Scalar.indexCast v1268
  let c0_1051 : Index := 0#32
  let c0_1052 : Index := 0#32
  ![29, v2340.toNat, 0, 0]
def k0_off136 (i : grid0.Coords) : Fin 4 → Nat :=
  let c30_1053 : Index := 30#32
  let arg1 : BitVec 32 := BitVec.ofNat 32 (i 1).val
  let c1_i32_674 : BitVec 32 := 1#32
  let v1267 : BitVec 32 := Scalar.subi arg1 c1_i32_674
  let c0_i32_675 : BitVec 32 := 0#32
  let v1268 : BitVec 32 := Scalar.addi v1267 c0_i32_675
  let v2344 : Index := Scalar.indexCast v1268
  let c0_1054 : Index := 0#32
  let c0_1055 : Index := 0#32
  ![30, v2344.toNat, 0, 0]
def k0_off137 (i : grid0.Coords) : Fin 4 → Nat :=
  let c31_1056 : Index := 31#32
  let arg1 : BitVec 32 := BitVec.ofNat 32 (i 1).val
  let c1_i32_674 : BitVec 32 := 1#32
  let v1267 : BitVec 32 := Scalar.subi arg1 c1_i32_674
  let c0_i32_675 : BitVec 32 := 0#32
  let v1268 : BitVec 32 := Scalar.addi v1267 c0_i32_675
  let v2348 : Index := Scalar.indexCast v1268
  let c0_1057 : Index := 0#32
  let c0_1058 : Index := 0#32
  ![31, v2348.toNat, 0, 0]
def k0_off138 (i : grid0.Coords) : Fin 3 → Nat :=
  let arg1 : BitVec 32 := BitVec.ofNat 32 (i 1).val
  let v2360 : Index := Scalar.indexCast arg1
  let c0_1062 : Index := 0#32
  let c0_1063 : Index := 0#32
  ![v2360.toNat, 0, 0]
def k0_off139 (i : grid0.Coords) : Fin 4 → Nat :=
  let c0_1305 : Index := 0#32
  let arg1 : BitVec 32 := BitVec.ofNat 32 (i 1).val
  let v3151 : Index := Scalar.indexCast arg1
  let c0_1306 : Index := 0#32
  let c0_1307 : Index := 0#32
  ![0, v3151.toNat, 0, 0]
def k0_off140 (i : grid0.Coords) : Fin 4 → Nat :=
  let c1_1308 : Index := 1#32
  let arg1 : BitVec 32 := BitVec.ofNat 32 (i 1).val
  let v3155 : Index := Scalar.indexCast arg1
  let c0_1309 : Index := 0#32
  let c0_1310 : Index := 0#32
  ![1, v3155.toNat, 0, 0]
def k0_off141 (i : grid0.Coords) : Fin 4 → Nat :=
  let c2_1311 : Index := 2#32
  let arg1 : BitVec 32 := BitVec.ofNat 32 (i 1).val
  let v3159 : Index := Scalar.indexCast arg1
  let c0_1312 : Index := 0#32
  let c0_1313 : Index := 0#32
  ![2, v3159.toNat, 0, 0]
def k0_off142 (i : grid0.Coords) : Fin 4 → Nat :=
  let c3_1314 : Index := 3#32
  let arg1 : BitVec 32 := BitVec.ofNat 32 (i 1).val
  let v3163 : Index := Scalar.indexCast arg1
  let c0_1315 : Index := 0#32
  let c0_1316 : Index := 0#32
  ![3, v3163.toNat, 0, 0]
def k0_off143 (i : grid0.Coords) : Fin 4 → Nat :=
  let c4_1317 : Index := 4#32
  let arg1 : BitVec 32 := BitVec.ofNat 32 (i 1).val
  let v3167 : Index := Scalar.indexCast arg1
  let c0_1318 : Index := 0#32
  let c0_1319 : Index := 0#32
  ![4, v3167.toNat, 0, 0]
def k0_off144 (i : grid0.Coords) : Fin 4 → Nat :=
  let c5_1320 : Index := 5#32
  let arg1 : BitVec 32 := BitVec.ofNat 32 (i 1).val
  let v3171 : Index := Scalar.indexCast arg1
  let c0_1321 : Index := 0#32
  let c0_1322 : Index := 0#32
  ![5, v3171.toNat, 0, 0]
def k0_off145 (i : grid0.Coords) : Fin 4 → Nat :=
  let c6_1323 : Index := 6#32
  let arg1 : BitVec 32 := BitVec.ofNat 32 (i 1).val
  let v3175 : Index := Scalar.indexCast arg1
  let c0_1324 : Index := 0#32
  let c0_1325 : Index := 0#32
  ![6, v3175.toNat, 0, 0]
def k0_off146 (i : grid0.Coords) : Fin 4 → Nat :=
  let c7_1326 : Index := 7#32
  let arg1 : BitVec 32 := BitVec.ofNat 32 (i 1).val
  let v3179 : Index := Scalar.indexCast arg1
  let c0_1327 : Index := 0#32
  let c0_1328 : Index := 0#32
  ![7, v3179.toNat, 0, 0]
def k0_off147 (i : grid0.Coords) : Fin 4 → Nat :=
  let c8_1329 : Index := 8#32
  let arg1 : BitVec 32 := BitVec.ofNat 32 (i 1).val
  let v3183 : Index := Scalar.indexCast arg1
  let c0_1330 : Index := 0#32
  let c0_1331 : Index := 0#32
  ![8, v3183.toNat, 0, 0]
def k0_off148 (i : grid0.Coords) : Fin 4 → Nat :=
  let c9_1332 : Index := 9#32
  let arg1 : BitVec 32 := BitVec.ofNat 32 (i 1).val
  let v3187 : Index := Scalar.indexCast arg1
  let c0_1333 : Index := 0#32
  let c0_1334 : Index := 0#32
  ![9, v3187.toNat, 0, 0]
def k0_off149 (i : grid0.Coords) : Fin 4 → Nat :=
  let c10_1335 : Index := 10#32
  let arg1 : BitVec 32 := BitVec.ofNat 32 (i 1).val
  let v3191 : Index := Scalar.indexCast arg1
  let c0_1336 : Index := 0#32
  let c0_1337 : Index := 0#32
  ![10, v3191.toNat, 0, 0]
def k0_off150 (i : grid0.Coords) : Fin 4 → Nat :=
  let c11_1338 : Index := 11#32
  let arg1 : BitVec 32 := BitVec.ofNat 32 (i 1).val
  let v3195 : Index := Scalar.indexCast arg1
  let c0_1339 : Index := 0#32
  let c0_1340 : Index := 0#32
  ![11, v3195.toNat, 0, 0]
def k0_off151 (i : grid0.Coords) : Fin 4 → Nat :=
  let c12_1341 : Index := 12#32
  let arg1 : BitVec 32 := BitVec.ofNat 32 (i 1).val
  let v3199 : Index := Scalar.indexCast arg1
  let c0_1342 : Index := 0#32
  let c0_1343 : Index := 0#32
  ![12, v3199.toNat, 0, 0]
def k0_off152 (i : grid0.Coords) : Fin 4 → Nat :=
  let c13_1344 : Index := 13#32
  let arg1 : BitVec 32 := BitVec.ofNat 32 (i 1).val
  let v3203 : Index := Scalar.indexCast arg1
  let c0_1345 : Index := 0#32
  let c0_1346 : Index := 0#32
  ![13, v3203.toNat, 0, 0]
def k0_off153 (i : grid0.Coords) : Fin 4 → Nat :=
  let c14_1347 : Index := 14#32
  let arg1 : BitVec 32 := BitVec.ofNat 32 (i 1).val
  let v3207 : Index := Scalar.indexCast arg1
  let c0_1348 : Index := 0#32
  let c0_1349 : Index := 0#32
  ![14, v3207.toNat, 0, 0]
def k0_off154 (i : grid0.Coords) : Fin 4 → Nat :=
  let c15_1350 : Index := 15#32
  let arg1 : BitVec 32 := BitVec.ofNat 32 (i 1).val
  let v3211 : Index := Scalar.indexCast arg1
  let c0_1351 : Index := 0#32
  let c0_1352 : Index := 0#32
  ![15, v3211.toNat, 0, 0]
def k0_off155 (i : grid0.Coords) : Fin 4 → Nat :=
  let c16_1353 : Index := 16#32
  let arg1 : BitVec 32 := BitVec.ofNat 32 (i 1).val
  let v3215 : Index := Scalar.indexCast arg1
  let c0_1354 : Index := 0#32
  let c0_1355 : Index := 0#32
  ![16, v3215.toNat, 0, 0]
def k0_off156 (i : grid0.Coords) : Fin 4 → Nat :=
  let c17_1356 : Index := 17#32
  let arg1 : BitVec 32 := BitVec.ofNat 32 (i 1).val
  let v3219 : Index := Scalar.indexCast arg1
  let c0_1357 : Index := 0#32
  let c0_1358 : Index := 0#32
  ![17, v3219.toNat, 0, 0]
def k0_off157 (i : grid0.Coords) : Fin 4 → Nat :=
  let c18_1359 : Index := 18#32
  let arg1 : BitVec 32 := BitVec.ofNat 32 (i 1).val
  let v3223 : Index := Scalar.indexCast arg1
  let c0_1360 : Index := 0#32
  let c0_1361 : Index := 0#32
  ![18, v3223.toNat, 0, 0]
def k0_off158 (i : grid0.Coords) : Fin 4 → Nat :=
  let c19_1362 : Index := 19#32
  let arg1 : BitVec 32 := BitVec.ofNat 32 (i 1).val
  let v3227 : Index := Scalar.indexCast arg1
  let c0_1363 : Index := 0#32
  let c0_1364 : Index := 0#32
  ![19, v3227.toNat, 0, 0]
def k0_off159 (i : grid0.Coords) : Fin 4 → Nat :=
  let c20_1365 : Index := 20#32
  let arg1 : BitVec 32 := BitVec.ofNat 32 (i 1).val
  let v3231 : Index := Scalar.indexCast arg1
  let c0_1366 : Index := 0#32
  let c0_1367 : Index := 0#32
  ![20, v3231.toNat, 0, 0]
def k0_off160 (i : grid0.Coords) : Fin 4 → Nat :=
  let c21_1368 : Index := 21#32
  let arg1 : BitVec 32 := BitVec.ofNat 32 (i 1).val
  let v3235 : Index := Scalar.indexCast arg1
  let c0_1369 : Index := 0#32
  let c0_1370 : Index := 0#32
  ![21, v3235.toNat, 0, 0]
def k0_off161 (i : grid0.Coords) : Fin 4 → Nat :=
  let c22_1371 : Index := 22#32
  let arg1 : BitVec 32 := BitVec.ofNat 32 (i 1).val
  let v3239 : Index := Scalar.indexCast arg1
  let c0_1372 : Index := 0#32
  let c0_1373 : Index := 0#32
  ![22, v3239.toNat, 0, 0]
def k0_off162 (i : grid0.Coords) : Fin 4 → Nat :=
  let c23_1374 : Index := 23#32
  let arg1 : BitVec 32 := BitVec.ofNat 32 (i 1).val
  let v3243 : Index := Scalar.indexCast arg1
  let c0_1375 : Index := 0#32
  let c0_1376 : Index := 0#32
  ![23, v3243.toNat, 0, 0]
def k0_off163 (i : grid0.Coords) : Fin 4 → Nat :=
  let c24_1377 : Index := 24#32
  let arg1 : BitVec 32 := BitVec.ofNat 32 (i 1).val
  let v3247 : Index := Scalar.indexCast arg1
  let c0_1378 : Index := 0#32
  let c0_1379 : Index := 0#32
  ![24, v3247.toNat, 0, 0]
def k0_off164 (i : grid0.Coords) : Fin 4 → Nat :=
  let c25_1380 : Index := 25#32
  let arg1 : BitVec 32 := BitVec.ofNat 32 (i 1).val
  let v3251 : Index := Scalar.indexCast arg1
  let c0_1381 : Index := 0#32
  let c0_1382 : Index := 0#32
  ![25, v3251.toNat, 0, 0]
def k0_off165 (i : grid0.Coords) : Fin 4 → Nat :=
  let c26_1383 : Index := 26#32
  let arg1 : BitVec 32 := BitVec.ofNat 32 (i 1).val
  let v3255 : Index := Scalar.indexCast arg1
  let c0_1384 : Index := 0#32
  let c0_1385 : Index := 0#32
  ![26, v3255.toNat, 0, 0]
def k0_off166 (i : grid0.Coords) : Fin 4 → Nat :=
  let c27_1386 : Index := 27#32
  let arg1 : BitVec 32 := BitVec.ofNat 32 (i 1).val
  let v3259 : Index := Scalar.indexCast arg1
  let c0_1387 : Index := 0#32
  let c0_1388 : Index := 0#32
  ![27, v3259.toNat, 0, 0]
def k0_off167 (i : grid0.Coords) : Fin 4 → Nat :=
  let c28_1389 : Index := 28#32
  let arg1 : BitVec 32 := BitVec.ofNat 32 (i 1).val
  let v3263 : Index := Scalar.indexCast arg1
  let c0_1390 : Index := 0#32
  let c0_1391 : Index := 0#32
  ![28, v3263.toNat, 0, 0]
def k0_off168 (i : grid0.Coords) : Fin 4 → Nat :=
  let c29_1392 : Index := 29#32
  let arg1 : BitVec 32 := BitVec.ofNat 32 (i 1).val
  let v3267 : Index := Scalar.indexCast arg1
  let c0_1393 : Index := 0#32
  let c0_1394 : Index := 0#32
  ![29, v3267.toNat, 0, 0]
def k0_off169 (i : grid0.Coords) : Fin 4 → Nat :=
  let c30_1395 : Index := 30#32
  let arg1 : BitVec 32 := BitVec.ofNat 32 (i 1).val
  let v3271 : Index := Scalar.indexCast arg1
  let c0_1396 : Index := 0#32
  let c0_1397 : Index := 0#32
  ![30, v3271.toNat, 0, 0]
def k0_off170 (i : grid0.Coords) : Fin 4 → Nat :=
  let c31_1398 : Index := 31#32
  let arg1 : BitVec 32 := BitVec.ofNat 32 (i 1).val
  let v3275 : Index := Scalar.indexCast arg1
  let c0_1399 : Index := 0#32
  let c0_1400 : Index := 0#32
  ![31, v3275.toNat, 0, 0]
def k0_cond3 (i : grid0.Coords) : BitVec 1 :=
  let arg1 : BitVec 32 := BitVec.ofNat 32 (i 1).val
  let c4_i32_12 : BitVec 32 := 4#32
  let c0_i32_13 : BitVec 32 := 0#32
  let v31 : BitVec 1 := Scalar.cmpi .eq c4_i32_12 c0_i32_13
  let c1_i32_14 : BitVec 32 := 1#32
  let v32 : BitVec 32 := Scalar.select v31 c1_i32_14 c4_i32_12
  let v33 : BitVec 32 := Scalar.remsi arg1 v32
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let c0_i32_15 : BitVec 32 := 0#32
  let v34 : BitVec 1 := Scalar.cmpi .ne v33 c0_i32_15
  let v38 : BitVec 1 := Scalar.andi v37 v34
  let v39 : BitVec 32 := Scalar.addi v33 v32
  let v40 : BitVec 32 := Scalar.select v38 v39 v33
  let c2_i32 : BitVec 32 := 2#32
  let v47 : BitVec 1 := Scalar.cmpi .eq v40 c2_i32
  let v48 : BitVec 32 := Scalar.extui v47
  let c0_i32_22 : BitVec 32 := 0#32
  let v49 : BitVec 1 := Scalar.cmpi .ne v48 c0_i32_22
  v49

def k0_mult12 (i : grid0.Coords) : BitVec 32 :=
  let arg1 : BitVec 32 := BitVec.ofNat 32 (i 1).val
  let c2_i32_674 : BitVec 32 := 2#32
  let v1267 : BitVec 32 := Scalar.subi arg1 c2_i32_674
  let c0_i32_675 : BitVec 32 := 0#32
  let v1268 : BitVec 32 := Scalar.addi v1267 c0_i32_675
  let c256_i32_678 : BitVec 32 := 256#32
  let v1271 : BitVec 32 := Scalar.muli v1268 c256_i32_678
  v1271
def k0_off171 (i : grid0.Coords) (c0_i32_675 : BitVec 32) : Fin 2 → Nat :=
  let arg1 : BitVec 32 := BitVec.ofNat 32 (i 1).val
  let c2_i32_674 : BitVec 32 := 2#32
  let v1267 : BitVec 32 := Scalar.subi arg1 c2_i32_674
  let v1268 : BitVec 32 := Scalar.addi v1267 c0_i32_675
  let c256_i32_678 : BitVec 32 := 256#32
  let v1271 : BitVec 32 := Scalar.muli v1268 c256_i32_678
  let v1272 : BitVec 32 := v1271
  let v1273 : Index := Scalar.indexCast v1272
  let c0_679 : Index := 0#32
  ![v1273.toNat, 0]
def k0_mult13 (i : grid0.Coords) : BitVec 32 :=
  let arg1 : BitVec 32 := BitVec.ofNat 32 (i 1).val
  let c2_i32_676 : BitVec 32 := 2#32
  let v1269 : BitVec 32 := Scalar.subi arg1 c2_i32_676
  let c1_i32_677 : BitVec 32 := 1#32
  let v1270 : BitVec 32 := Scalar.addi v1269 c1_i32_677
  let c256_i32_702 : BitVec 32 := 256#32
  let v1350 : BitVec 32 := Scalar.muli v1270 c256_i32_702
  v1350
def k0_mult14 (i : grid0.Coords) : BitVec 32 :=
  let arg1 : BitVec 32 := BitVec.ofNat 32 (i 1).val
  let c256_i32_726 : BitVec 32 := 256#32
  let v1429 : BitVec 32 := Scalar.muli arg1 c256_i32_726
  v1429
def k0_off172 (i : grid0.Coords) : Fin 2 → Nat :=
  let arg1 : BitVec 32 := BitVec.ofNat 32 (i 1).val
  let c256_i32_726 : BitVec 32 := 256#32
  let v1429 : BitVec 32 := Scalar.muli arg1 c256_i32_726
  let v1430 : BitVec 32 := v1429
  let v1431 : Index := Scalar.indexCast v1430
  let c0_727 : Index := 0#32
  ![v1431.toNat, 0]
def k0_off173 (i : grid0.Coords) (c0_i32_675 : BitVec 32) : Fin 3 → Nat :=
  let arg1 : BitVec 32 := BitVec.ofNat 32 (i 1).val
  let c2_i32_674 : BitVec 32 := 2#32
  let v1267 : BitVec 32 := Scalar.subi arg1 c2_i32_674
  let v1268 : BitVec 32 := Scalar.addi v1267 c0_i32_675
  let v1514 : Index := Scalar.indexCast v1268
  let c0_751 : Index := 0#32
  let c0_752 : Index := 0#32
  ![v1514.toNat, 0, 0]
def k0_off174 (i : grid0.Coords) (c0_i32_675 : BitVec 32) : Fin 4 → Nat :=
  let c0_989 : Index := 0#32
  let arg1 : BitVec 32 := BitVec.ofNat 32 (i 1).val
  let c2_i32_674 : BitVec 32 := 2#32
  let v1267 : BitVec 32 := Scalar.subi arg1 c2_i32_674
  let v1268 : BitVec 32 := Scalar.addi v1267 c0_i32_675
  let v2305 : Index := Scalar.indexCast v1268
  let c0_990 : Index := 0#32
  let c0_991 : Index := 0#32
  ![0, v2305.toNat, 0, 0]
def k0_off175 (i : grid0.Coords) (c0_i32_675 : BitVec 32) : Fin 4 → Nat :=
  let c1_992 : Index := 1#32
  let arg1 : BitVec 32 := BitVec.ofNat 32 (i 1).val
  let c2_i32_674 : BitVec 32 := 2#32
  let v1267 : BitVec 32 := Scalar.subi arg1 c2_i32_674
  let v1268 : BitVec 32 := Scalar.addi v1267 c0_i32_675
  let v2309 : Index := Scalar.indexCast v1268
  let c0_993 : Index := 0#32
  let c0_994 : Index := 0#32
  ![1, v2309.toNat, 0, 0]
def k0_off176 (i : grid0.Coords) (c0_i32_675 : BitVec 32) : Fin 4 → Nat :=
  let c2_995 : Index := 2#32
  let arg1 : BitVec 32 := BitVec.ofNat 32 (i 1).val
  let c2_i32_674 : BitVec 32 := 2#32
  let v1267 : BitVec 32 := Scalar.subi arg1 c2_i32_674
  let v1268 : BitVec 32 := Scalar.addi v1267 c0_i32_675
  let v2313 : Index := Scalar.indexCast v1268
  let c0_996 : Index := 0#32
  let c0_997 : Index := 0#32
  ![2, v2313.toNat, 0, 0]
def k0_off177 (i : grid0.Coords) (c0_i32_675 : BitVec 32) : Fin 4 → Nat :=
  let c3_998 : Index := 3#32
  let arg1 : BitVec 32 := BitVec.ofNat 32 (i 1).val
  let c2_i32_674 : BitVec 32 := 2#32
  let v1267 : BitVec 32 := Scalar.subi arg1 c2_i32_674
  let v1268 : BitVec 32 := Scalar.addi v1267 c0_i32_675
  let v2317 : Index := Scalar.indexCast v1268
  let c0_999 : Index := 0#32
  let c0_1000 : Index := 0#32
  ![3, v2317.toNat, 0, 0]
def k0_off178 (i : grid0.Coords) (c0_i32_675 : BitVec 32) : Fin 4 → Nat :=
  let c4_1001 : Index := 4#32
  let arg1 : BitVec 32 := BitVec.ofNat 32 (i 1).val
  let c2_i32_674 : BitVec 32 := 2#32
  let v1267 : BitVec 32 := Scalar.subi arg1 c2_i32_674
  let v1268 : BitVec 32 := Scalar.addi v1267 c0_i32_675
  let v2321 : Index := Scalar.indexCast v1268
  let c0_1002 : Index := 0#32
  let c0_1003 : Index := 0#32
  ![4, v2321.toNat, 0, 0]
def k0_off179 (i : grid0.Coords) (c0_i32_675 : BitVec 32) : Fin 4 → Nat :=
  let c5_1004 : Index := 5#32
  let arg1 : BitVec 32 := BitVec.ofNat 32 (i 1).val
  let c2_i32_674 : BitVec 32 := 2#32
  let v1267 : BitVec 32 := Scalar.subi arg1 c2_i32_674
  let v1268 : BitVec 32 := Scalar.addi v1267 c0_i32_675
  let v2325 : Index := Scalar.indexCast v1268
  let c0_1005 : Index := 0#32
  let c0_1006 : Index := 0#32
  ![5, v2325.toNat, 0, 0]
def k0_off180 (i : grid0.Coords) (c0_i32_675 : BitVec 32) : Fin 4 → Nat :=
  let c6_1007 : Index := 6#32
  let arg1 : BitVec 32 := BitVec.ofNat 32 (i 1).val
  let c2_i32_674 : BitVec 32 := 2#32
  let v1267 : BitVec 32 := Scalar.subi arg1 c2_i32_674
  let v1268 : BitVec 32 := Scalar.addi v1267 c0_i32_675
  let v2329 : Index := Scalar.indexCast v1268
  let c0_1008 : Index := 0#32
  let c0_1009 : Index := 0#32
  ![6, v2329.toNat, 0, 0]
def k0_off181 (i : grid0.Coords) (c0_i32_675 : BitVec 32) : Fin 4 → Nat :=
  let c7_1010 : Index := 7#32
  let arg1 : BitVec 32 := BitVec.ofNat 32 (i 1).val
  let c2_i32_674 : BitVec 32 := 2#32
  let v1267 : BitVec 32 := Scalar.subi arg1 c2_i32_674
  let v1268 : BitVec 32 := Scalar.addi v1267 c0_i32_675
  let v2333 : Index := Scalar.indexCast v1268
  let c0_1011 : Index := 0#32
  let c0_1012 : Index := 0#32
  ![7, v2333.toNat, 0, 0]
def k0_off182 (i : grid0.Coords) (c0_i32_675 : BitVec 32) : Fin 4 → Nat :=
  let c8_1013 : Index := 8#32
  let arg1 : BitVec 32 := BitVec.ofNat 32 (i 1).val
  let c2_i32_674 : BitVec 32 := 2#32
  let v1267 : BitVec 32 := Scalar.subi arg1 c2_i32_674
  let v1268 : BitVec 32 := Scalar.addi v1267 c0_i32_675
  let v2337 : Index := Scalar.indexCast v1268
  let c0_1014 : Index := 0#32
  let c0_1015 : Index := 0#32
  ![8, v2337.toNat, 0, 0]
def k0_off183 (i : grid0.Coords) (c0_i32_675 : BitVec 32) : Fin 4 → Nat :=
  let c9_1016 : Index := 9#32
  let arg1 : BitVec 32 := BitVec.ofNat 32 (i 1).val
  let c2_i32_674 : BitVec 32 := 2#32
  let v1267 : BitVec 32 := Scalar.subi arg1 c2_i32_674
  let v1268 : BitVec 32 := Scalar.addi v1267 c0_i32_675
  let v2341 : Index := Scalar.indexCast v1268
  let c0_1017 : Index := 0#32
  let c0_1018 : Index := 0#32
  ![9, v2341.toNat, 0, 0]
def k0_off184 (i : grid0.Coords) (c0_i32_675 : BitVec 32) : Fin 4 → Nat :=
  let c10_1019 : Index := 10#32
  let arg1 : BitVec 32 := BitVec.ofNat 32 (i 1).val
  let c2_i32_674 : BitVec 32 := 2#32
  let v1267 : BitVec 32 := Scalar.subi arg1 c2_i32_674
  let v1268 : BitVec 32 := Scalar.addi v1267 c0_i32_675
  let v2345 : Index := Scalar.indexCast v1268
  let c0_1020 : Index := 0#32
  let c0_1021 : Index := 0#32
  ![10, v2345.toNat, 0, 0]
def k0_off185 (i : grid0.Coords) (c0_i32_675 : BitVec 32) : Fin 4 → Nat :=
  let c11_1022 : Index := 11#32
  let arg1 : BitVec 32 := BitVec.ofNat 32 (i 1).val
  let c2_i32_674 : BitVec 32 := 2#32
  let v1267 : BitVec 32 := Scalar.subi arg1 c2_i32_674
  let v1268 : BitVec 32 := Scalar.addi v1267 c0_i32_675
  let v2349 : Index := Scalar.indexCast v1268
  let c0_1023 : Index := 0#32
  let c0_1024 : Index := 0#32
  ![11, v2349.toNat, 0, 0]
def k0_off186 (i : grid0.Coords) (c0_i32_675 : BitVec 32) : Fin 4 → Nat :=
  let c12_1025 : Index := 12#32
  let arg1 : BitVec 32 := BitVec.ofNat 32 (i 1).val
  let c2_i32_674 : BitVec 32 := 2#32
  let v1267 : BitVec 32 := Scalar.subi arg1 c2_i32_674
  let v1268 : BitVec 32 := Scalar.addi v1267 c0_i32_675
  let v2353 : Index := Scalar.indexCast v1268
  let c0_1026 : Index := 0#32
  let c0_1027 : Index := 0#32
  ![12, v2353.toNat, 0, 0]
def k0_off187 (i : grid0.Coords) (c0_i32_675 : BitVec 32) : Fin 4 → Nat :=
  let c13_1028 : Index := 13#32
  let arg1 : BitVec 32 := BitVec.ofNat 32 (i 1).val
  let c2_i32_674 : BitVec 32 := 2#32
  let v1267 : BitVec 32 := Scalar.subi arg1 c2_i32_674
  let v1268 : BitVec 32 := Scalar.addi v1267 c0_i32_675
  let v2357 : Index := Scalar.indexCast v1268
  let c0_1029 : Index := 0#32
  let c0_1030 : Index := 0#32
  ![13, v2357.toNat, 0, 0]
def k0_off188 (i : grid0.Coords) (c0_i32_675 : BitVec 32) : Fin 4 → Nat :=
  let c14_1031 : Index := 14#32
  let arg1 : BitVec 32 := BitVec.ofNat 32 (i 1).val
  let c2_i32_674 : BitVec 32 := 2#32
  let v1267 : BitVec 32 := Scalar.subi arg1 c2_i32_674
  let v1268 : BitVec 32 := Scalar.addi v1267 c0_i32_675
  let v2361 : Index := Scalar.indexCast v1268
  let c0_1032 : Index := 0#32
  let c0_1033 : Index := 0#32
  ![14, v2361.toNat, 0, 0]
def k0_off189 (i : grid0.Coords) (c0_i32_675 : BitVec 32) : Fin 4 → Nat :=
  let c15_1034 : Index := 15#32
  let arg1 : BitVec 32 := BitVec.ofNat 32 (i 1).val
  let c2_i32_674 : BitVec 32 := 2#32
  let v1267 : BitVec 32 := Scalar.subi arg1 c2_i32_674
  let v1268 : BitVec 32 := Scalar.addi v1267 c0_i32_675
  let v2365 : Index := Scalar.indexCast v1268
  let c0_1035 : Index := 0#32
  let c0_1036 : Index := 0#32
  ![15, v2365.toNat, 0, 0]
def k0_off190 (i : grid0.Coords) (c0_i32_675 : BitVec 32) : Fin 4 → Nat :=
  let c16_1037 : Index := 16#32
  let arg1 : BitVec 32 := BitVec.ofNat 32 (i 1).val
  let c2_i32_674 : BitVec 32 := 2#32
  let v1267 : BitVec 32 := Scalar.subi arg1 c2_i32_674
  let v1268 : BitVec 32 := Scalar.addi v1267 c0_i32_675
  let v2369 : Index := Scalar.indexCast v1268
  let c0_1038 : Index := 0#32
  let c0_1039 : Index := 0#32
  ![16, v2369.toNat, 0, 0]
def k0_off191 (i : grid0.Coords) (c0_i32_675 : BitVec 32) : Fin 4 → Nat :=
  let c17_1040 : Index := 17#32
  let arg1 : BitVec 32 := BitVec.ofNat 32 (i 1).val
  let c2_i32_674 : BitVec 32 := 2#32
  let v1267 : BitVec 32 := Scalar.subi arg1 c2_i32_674
  let v1268 : BitVec 32 := Scalar.addi v1267 c0_i32_675
  let v2373 : Index := Scalar.indexCast v1268
  let c0_1041 : Index := 0#32
  let c0_1042 : Index := 0#32
  ![17, v2373.toNat, 0, 0]
def k0_off192 (i : grid0.Coords) (c0_i32_675 : BitVec 32) : Fin 4 → Nat :=
  let c18_1043 : Index := 18#32
  let arg1 : BitVec 32 := BitVec.ofNat 32 (i 1).val
  let c2_i32_674 : BitVec 32 := 2#32
  let v1267 : BitVec 32 := Scalar.subi arg1 c2_i32_674
  let v1268 : BitVec 32 := Scalar.addi v1267 c0_i32_675
  let v2377 : Index := Scalar.indexCast v1268
  let c0_1044 : Index := 0#32
  let c0_1045 : Index := 0#32
  ![18, v2377.toNat, 0, 0]
def k0_off193 (i : grid0.Coords) (c0_i32_675 : BitVec 32) : Fin 4 → Nat :=
  let c19_1046 : Index := 19#32
  let arg1 : BitVec 32 := BitVec.ofNat 32 (i 1).val
  let c2_i32_674 : BitVec 32 := 2#32
  let v1267 : BitVec 32 := Scalar.subi arg1 c2_i32_674
  let v1268 : BitVec 32 := Scalar.addi v1267 c0_i32_675
  let v2381 : Index := Scalar.indexCast v1268
  let c0_1047 : Index := 0#32
  let c0_1048 : Index := 0#32
  ![19, v2381.toNat, 0, 0]
def k0_off194 (i : grid0.Coords) (c0_i32_675 : BitVec 32) : Fin 4 → Nat :=
  let c20_1049 : Index := 20#32
  let arg1 : BitVec 32 := BitVec.ofNat 32 (i 1).val
  let c2_i32_674 : BitVec 32 := 2#32
  let v1267 : BitVec 32 := Scalar.subi arg1 c2_i32_674
  let v1268 : BitVec 32 := Scalar.addi v1267 c0_i32_675
  let v2385 : Index := Scalar.indexCast v1268
  let c0_1050 : Index := 0#32
  let c0_1051 : Index := 0#32
  ![20, v2385.toNat, 0, 0]
def k0_off195 (i : grid0.Coords) (c0_i32_675 : BitVec 32) : Fin 4 → Nat :=
  let c21_1052 : Index := 21#32
  let arg1 : BitVec 32 := BitVec.ofNat 32 (i 1).val
  let c2_i32_674 : BitVec 32 := 2#32
  let v1267 : BitVec 32 := Scalar.subi arg1 c2_i32_674
  let v1268 : BitVec 32 := Scalar.addi v1267 c0_i32_675
  let v2389 : Index := Scalar.indexCast v1268
  let c0_1053 : Index := 0#32
  let c0_1054 : Index := 0#32
  ![21, v2389.toNat, 0, 0]
def k0_off196 (i : grid0.Coords) (c0_i32_675 : BitVec 32) : Fin 4 → Nat :=
  let c22_1055 : Index := 22#32
  let arg1 : BitVec 32 := BitVec.ofNat 32 (i 1).val
  let c2_i32_674 : BitVec 32 := 2#32
  let v1267 : BitVec 32 := Scalar.subi arg1 c2_i32_674
  let v1268 : BitVec 32 := Scalar.addi v1267 c0_i32_675
  let v2393 : Index := Scalar.indexCast v1268
  let c0_1056 : Index := 0#32
  let c0_1057 : Index := 0#32
  ![22, v2393.toNat, 0, 0]
def k0_off197 (i : grid0.Coords) (c0_i32_675 : BitVec 32) : Fin 4 → Nat :=
  let c23_1058 : Index := 23#32
  let arg1 : BitVec 32 := BitVec.ofNat 32 (i 1).val
  let c2_i32_674 : BitVec 32 := 2#32
  let v1267 : BitVec 32 := Scalar.subi arg1 c2_i32_674
  let v1268 : BitVec 32 := Scalar.addi v1267 c0_i32_675
  let v2397 : Index := Scalar.indexCast v1268
  let c0_1059 : Index := 0#32
  let c0_1060 : Index := 0#32
  ![23, v2397.toNat, 0, 0]
def k0_off198 (i : grid0.Coords) (c0_i32_675 : BitVec 32) : Fin 4 → Nat :=
  let c24_1061 : Index := 24#32
  let arg1 : BitVec 32 := BitVec.ofNat 32 (i 1).val
  let c2_i32_674 : BitVec 32 := 2#32
  let v1267 : BitVec 32 := Scalar.subi arg1 c2_i32_674
  let v1268 : BitVec 32 := Scalar.addi v1267 c0_i32_675
  let v2401 : Index := Scalar.indexCast v1268
  let c0_1062 : Index := 0#32
  let c0_1063 : Index := 0#32
  ![24, v2401.toNat, 0, 0]
def k0_off199 (i : grid0.Coords) (c0_i32_675 : BitVec 32) : Fin 4 → Nat :=
  let c25_1064 : Index := 25#32
  let arg1 : BitVec 32 := BitVec.ofNat 32 (i 1).val
  let c2_i32_674 : BitVec 32 := 2#32
  let v1267 : BitVec 32 := Scalar.subi arg1 c2_i32_674
  let v1268 : BitVec 32 := Scalar.addi v1267 c0_i32_675
  let v2405 : Index := Scalar.indexCast v1268
  let c0_1065 : Index := 0#32
  let c0_1066 : Index := 0#32
  ![25, v2405.toNat, 0, 0]
def k0_off200 (i : grid0.Coords) (c0_i32_675 : BitVec 32) : Fin 4 → Nat :=
  let c26_1067 : Index := 26#32
  let arg1 : BitVec 32 := BitVec.ofNat 32 (i 1).val
  let c2_i32_674 : BitVec 32 := 2#32
  let v1267 : BitVec 32 := Scalar.subi arg1 c2_i32_674
  let v1268 : BitVec 32 := Scalar.addi v1267 c0_i32_675
  let v2409 : Index := Scalar.indexCast v1268
  let c0_1068 : Index := 0#32
  let c0_1069 : Index := 0#32
  ![26, v2409.toNat, 0, 0]
def k0_off201 (i : grid0.Coords) (c0_i32_675 : BitVec 32) : Fin 4 → Nat :=
  let c27_1070 : Index := 27#32
  let arg1 : BitVec 32 := BitVec.ofNat 32 (i 1).val
  let c2_i32_674 : BitVec 32 := 2#32
  let v1267 : BitVec 32 := Scalar.subi arg1 c2_i32_674
  let v1268 : BitVec 32 := Scalar.addi v1267 c0_i32_675
  let v2413 : Index := Scalar.indexCast v1268
  let c0_1071 : Index := 0#32
  let c0_1072 : Index := 0#32
  ![27, v2413.toNat, 0, 0]
def k0_off202 (i : grid0.Coords) (c0_i32_675 : BitVec 32) : Fin 4 → Nat :=
  let c28_1073 : Index := 28#32
  let arg1 : BitVec 32 := BitVec.ofNat 32 (i 1).val
  let c2_i32_674 : BitVec 32 := 2#32
  let v1267 : BitVec 32 := Scalar.subi arg1 c2_i32_674
  let v1268 : BitVec 32 := Scalar.addi v1267 c0_i32_675
  let v2417 : Index := Scalar.indexCast v1268
  let c0_1074 : Index := 0#32
  let c0_1075 : Index := 0#32
  ![28, v2417.toNat, 0, 0]
def k0_off203 (i : grid0.Coords) (c0_i32_675 : BitVec 32) : Fin 4 → Nat :=
  let c29_1076 : Index := 29#32
  let arg1 : BitVec 32 := BitVec.ofNat 32 (i 1).val
  let c2_i32_674 : BitVec 32 := 2#32
  let v1267 : BitVec 32 := Scalar.subi arg1 c2_i32_674
  let v1268 : BitVec 32 := Scalar.addi v1267 c0_i32_675
  let v2421 : Index := Scalar.indexCast v1268
  let c0_1077 : Index := 0#32
  let c0_1078 : Index := 0#32
  ![29, v2421.toNat, 0, 0]
def k0_off204 (i : grid0.Coords) (c0_i32_675 : BitVec 32) : Fin 4 → Nat :=
  let c30_1079 : Index := 30#32
  let arg1 : BitVec 32 := BitVec.ofNat 32 (i 1).val
  let c2_i32_674 : BitVec 32 := 2#32
  let v1267 : BitVec 32 := Scalar.subi arg1 c2_i32_674
  let v1268 : BitVec 32 := Scalar.addi v1267 c0_i32_675
  let v2425 : Index := Scalar.indexCast v1268
  let c0_1080 : Index := 0#32
  let c0_1081 : Index := 0#32
  ![30, v2425.toNat, 0, 0]
def k0_off205 (i : grid0.Coords) (c0_i32_675 : BitVec 32) : Fin 4 → Nat :=
  let c31_1082 : Index := 31#32
  let arg1 : BitVec 32 := BitVec.ofNat 32 (i 1).val
  let c2_i32_674 : BitVec 32 := 2#32
  let v1267 : BitVec 32 := Scalar.subi arg1 c2_i32_674
  let v1268 : BitVec 32 := Scalar.addi v1267 c0_i32_675
  let v2429 : Index := Scalar.indexCast v1268
  let c0_1083 : Index := 0#32
  let c0_1084 : Index := 0#32
  ![31, v2429.toNat, 0, 0]
def k0_off206 (i : grid0.Coords) : Fin 3 → Nat :=
  let arg1 : BitVec 32 := BitVec.ofNat 32 (i 1).val
  let v3366 : Index := Scalar.indexCast arg1
  let c0_1429 : Index := 0#32
  let c0_1430 : Index := 0#32
  ![v3366.toNat, 0, 0]
def k0_off207 (i : grid0.Coords) : Fin 4 → Nat :=
  let c0_1672 : Index := 0#32
  let arg1 : BitVec 32 := BitVec.ofNat 32 (i 1).val
  let v4157 : Index := Scalar.indexCast arg1
  let c0_1673 : Index := 0#32
  let c0_1674 : Index := 0#32
  ![0, v4157.toNat, 0, 0]
def k0_off208 (i : grid0.Coords) : Fin 4 → Nat :=
  let c1_1675 : Index := 1#32
  let arg1 : BitVec 32 := BitVec.ofNat 32 (i 1).val
  let v4161 : Index := Scalar.indexCast arg1
  let c0_1676 : Index := 0#32
  let c0_1677 : Index := 0#32
  ![1, v4161.toNat, 0, 0]
def k0_off209 (i : grid0.Coords) : Fin 4 → Nat :=
  let c2_1678 : Index := 2#32
  let arg1 : BitVec 32 := BitVec.ofNat 32 (i 1).val
  let v4165 : Index := Scalar.indexCast arg1
  let c0_1679 : Index := 0#32
  let c0_1680 : Index := 0#32
  ![2, v4165.toNat, 0, 0]
def k0_off210 (i : grid0.Coords) : Fin 4 → Nat :=
  let c3_1681 : Index := 3#32
  let arg1 : BitVec 32 := BitVec.ofNat 32 (i 1).val
  let v4169 : Index := Scalar.indexCast arg1
  let c0_1682 : Index := 0#32
  let c0_1683 : Index := 0#32
  ![3, v4169.toNat, 0, 0]
def k0_off211 (i : grid0.Coords) : Fin 4 → Nat :=
  let c4_1684 : Index := 4#32
  let arg1 : BitVec 32 := BitVec.ofNat 32 (i 1).val
  let v4173 : Index := Scalar.indexCast arg1
  let c0_1685 : Index := 0#32
  let c0_1686 : Index := 0#32
  ![4, v4173.toNat, 0, 0]
def k0_off212 (i : grid0.Coords) : Fin 4 → Nat :=
  let c5_1687 : Index := 5#32
  let arg1 : BitVec 32 := BitVec.ofNat 32 (i 1).val
  let v4177 : Index := Scalar.indexCast arg1
  let c0_1688 : Index := 0#32
  let c0_1689 : Index := 0#32
  ![5, v4177.toNat, 0, 0]
def k0_off213 (i : grid0.Coords) : Fin 4 → Nat :=
  let c6_1690 : Index := 6#32
  let arg1 : BitVec 32 := BitVec.ofNat 32 (i 1).val
  let v4181 : Index := Scalar.indexCast arg1
  let c0_1691 : Index := 0#32
  let c0_1692 : Index := 0#32
  ![6, v4181.toNat, 0, 0]
def k0_off214 (i : grid0.Coords) : Fin 4 → Nat :=
  let c7_1693 : Index := 7#32
  let arg1 : BitVec 32 := BitVec.ofNat 32 (i 1).val
  let v4185 : Index := Scalar.indexCast arg1
  let c0_1694 : Index := 0#32
  let c0_1695 : Index := 0#32
  ![7, v4185.toNat, 0, 0]
def k0_off215 (i : grid0.Coords) : Fin 4 → Nat :=
  let c8_1696 : Index := 8#32
  let arg1 : BitVec 32 := BitVec.ofNat 32 (i 1).val
  let v4189 : Index := Scalar.indexCast arg1
  let c0_1697 : Index := 0#32
  let c0_1698 : Index := 0#32
  ![8, v4189.toNat, 0, 0]
def k0_off216 (i : grid0.Coords) : Fin 4 → Nat :=
  let c9_1699 : Index := 9#32
  let arg1 : BitVec 32 := BitVec.ofNat 32 (i 1).val
  let v4193 : Index := Scalar.indexCast arg1
  let c0_1700 : Index := 0#32
  let c0_1701 : Index := 0#32
  ![9, v4193.toNat, 0, 0]
def k0_off217 (i : grid0.Coords) : Fin 4 → Nat :=
  let c10_1702 : Index := 10#32
  let arg1 : BitVec 32 := BitVec.ofNat 32 (i 1).val
  let v4197 : Index := Scalar.indexCast arg1
  let c0_1703 : Index := 0#32
  let c0_1704 : Index := 0#32
  ![10, v4197.toNat, 0, 0]
def k0_off218 (i : grid0.Coords) : Fin 4 → Nat :=
  let c11_1705 : Index := 11#32
  let arg1 : BitVec 32 := BitVec.ofNat 32 (i 1).val
  let v4201 : Index := Scalar.indexCast arg1
  let c0_1706 : Index := 0#32
  let c0_1707 : Index := 0#32
  ![11, v4201.toNat, 0, 0]
def k0_off219 (i : grid0.Coords) : Fin 4 → Nat :=
  let c12_1708 : Index := 12#32
  let arg1 : BitVec 32 := BitVec.ofNat 32 (i 1).val
  let v4205 : Index := Scalar.indexCast arg1
  let c0_1709 : Index := 0#32
  let c0_1710 : Index := 0#32
  ![12, v4205.toNat, 0, 0]
def k0_off220 (i : grid0.Coords) : Fin 4 → Nat :=
  let c13_1711 : Index := 13#32
  let arg1 : BitVec 32 := BitVec.ofNat 32 (i 1).val
  let v4209 : Index := Scalar.indexCast arg1
  let c0_1712 : Index := 0#32
  let c0_1713 : Index := 0#32
  ![13, v4209.toNat, 0, 0]
def k0_off221 (i : grid0.Coords) : Fin 4 → Nat :=
  let c14_1714 : Index := 14#32
  let arg1 : BitVec 32 := BitVec.ofNat 32 (i 1).val
  let v4213 : Index := Scalar.indexCast arg1
  let c0_1715 : Index := 0#32
  let c0_1716 : Index := 0#32
  ![14, v4213.toNat, 0, 0]
def k0_off222 (i : grid0.Coords) : Fin 4 → Nat :=
  let c15_1717 : Index := 15#32
  let arg1 : BitVec 32 := BitVec.ofNat 32 (i 1).val
  let v4217 : Index := Scalar.indexCast arg1
  let c0_1718 : Index := 0#32
  let c0_1719 : Index := 0#32
  ![15, v4217.toNat, 0, 0]
def k0_off223 (i : grid0.Coords) : Fin 4 → Nat :=
  let c16_1720 : Index := 16#32
  let arg1 : BitVec 32 := BitVec.ofNat 32 (i 1).val
  let v4221 : Index := Scalar.indexCast arg1
  let c0_1721 : Index := 0#32
  let c0_1722 : Index := 0#32
  ![16, v4221.toNat, 0, 0]
def k0_off224 (i : grid0.Coords) : Fin 4 → Nat :=
  let c17_1723 : Index := 17#32
  let arg1 : BitVec 32 := BitVec.ofNat 32 (i 1).val
  let v4225 : Index := Scalar.indexCast arg1
  let c0_1724 : Index := 0#32
  let c0_1725 : Index := 0#32
  ![17, v4225.toNat, 0, 0]
def k0_off225 (i : grid0.Coords) : Fin 4 → Nat :=
  let c18_1726 : Index := 18#32
  let arg1 : BitVec 32 := BitVec.ofNat 32 (i 1).val
  let v4229 : Index := Scalar.indexCast arg1
  let c0_1727 : Index := 0#32
  let c0_1728 : Index := 0#32
  ![18, v4229.toNat, 0, 0]
def k0_off226 (i : grid0.Coords) : Fin 4 → Nat :=
  let c19_1729 : Index := 19#32
  let arg1 : BitVec 32 := BitVec.ofNat 32 (i 1).val
  let v4233 : Index := Scalar.indexCast arg1
  let c0_1730 : Index := 0#32
  let c0_1731 : Index := 0#32
  ![19, v4233.toNat, 0, 0]
def k0_off227 (i : grid0.Coords) : Fin 4 → Nat :=
  let c20_1732 : Index := 20#32
  let arg1 : BitVec 32 := BitVec.ofNat 32 (i 1).val
  let v4237 : Index := Scalar.indexCast arg1
  let c0_1733 : Index := 0#32
  let c0_1734 : Index := 0#32
  ![20, v4237.toNat, 0, 0]
def k0_off228 (i : grid0.Coords) : Fin 4 → Nat :=
  let c21_1735 : Index := 21#32
  let arg1 : BitVec 32 := BitVec.ofNat 32 (i 1).val
  let v4241 : Index := Scalar.indexCast arg1
  let c0_1736 : Index := 0#32
  let c0_1737 : Index := 0#32
  ![21, v4241.toNat, 0, 0]
def k0_off229 (i : grid0.Coords) : Fin 4 → Nat :=
  let c22_1738 : Index := 22#32
  let arg1 : BitVec 32 := BitVec.ofNat 32 (i 1).val
  let v4245 : Index := Scalar.indexCast arg1
  let c0_1739 : Index := 0#32
  let c0_1740 : Index := 0#32
  ![22, v4245.toNat, 0, 0]
def k0_off230 (i : grid0.Coords) : Fin 4 → Nat :=
  let c23_1741 : Index := 23#32
  let arg1 : BitVec 32 := BitVec.ofNat 32 (i 1).val
  let v4249 : Index := Scalar.indexCast arg1
  let c0_1742 : Index := 0#32
  let c0_1743 : Index := 0#32
  ![23, v4249.toNat, 0, 0]
def k0_off231 (i : grid0.Coords) : Fin 4 → Nat :=
  let c24_1744 : Index := 24#32
  let arg1 : BitVec 32 := BitVec.ofNat 32 (i 1).val
  let v4253 : Index := Scalar.indexCast arg1
  let c0_1745 : Index := 0#32
  let c0_1746 : Index := 0#32
  ![24, v4253.toNat, 0, 0]
def k0_off232 (i : grid0.Coords) : Fin 4 → Nat :=
  let c25_1747 : Index := 25#32
  let arg1 : BitVec 32 := BitVec.ofNat 32 (i 1).val
  let v4257 : Index := Scalar.indexCast arg1
  let c0_1748 : Index := 0#32
  let c0_1749 : Index := 0#32
  ![25, v4257.toNat, 0, 0]
def k0_off233 (i : grid0.Coords) : Fin 4 → Nat :=
  let c26_1750 : Index := 26#32
  let arg1 : BitVec 32 := BitVec.ofNat 32 (i 1).val
  let v4261 : Index := Scalar.indexCast arg1
  let c0_1751 : Index := 0#32
  let c0_1752 : Index := 0#32
  ![26, v4261.toNat, 0, 0]
def k0_off234 (i : grid0.Coords) : Fin 4 → Nat :=
  let c27_1753 : Index := 27#32
  let arg1 : BitVec 32 := BitVec.ofNat 32 (i 1).val
  let v4265 : Index := Scalar.indexCast arg1
  let c0_1754 : Index := 0#32
  let c0_1755 : Index := 0#32
  ![27, v4265.toNat, 0, 0]
def k0_off235 (i : grid0.Coords) : Fin 4 → Nat :=
  let c28_1756 : Index := 28#32
  let arg1 : BitVec 32 := BitVec.ofNat 32 (i 1).val
  let v4269 : Index := Scalar.indexCast arg1
  let c0_1757 : Index := 0#32
  let c0_1758 : Index := 0#32
  ![28, v4269.toNat, 0, 0]
def k0_off236 (i : grid0.Coords) : Fin 4 → Nat :=
  let c29_1759 : Index := 29#32
  let arg1 : BitVec 32 := BitVec.ofNat 32 (i 1).val
  let v4273 : Index := Scalar.indexCast arg1
  let c0_1760 : Index := 0#32
  let c0_1761 : Index := 0#32
  ![29, v4273.toNat, 0, 0]
def k0_off237 (i : grid0.Coords) : Fin 4 → Nat :=
  let c30_1762 : Index := 30#32
  let arg1 : BitVec 32 := BitVec.ofNat 32 (i 1).val
  let v4277 : Index := Scalar.indexCast arg1
  let c0_1763 : Index := 0#32
  let c0_1764 : Index := 0#32
  ![30, v4277.toNat, 0, 0]
def k0_off238 (i : grid0.Coords) : Fin 4 → Nat :=
  let c31_1765 : Index := 31#32
  let arg1 : BitVec 32 := BitVec.ofNat 32 (i 1).val
  let v4281 : Index := Scalar.indexCast arg1
  let c0_1766 : Index := 0#32
  let c0_1767 : Index := 0#32
  ![31, v4281.toNat, 0, 0]
def k0_cond4 (i : grid0.Coords) : BitVec 1 :=
  let arg1 : BitVec 32 := BitVec.ofNat 32 (i 1).val
  let c4_i32_12 : BitVec 32 := 4#32
  let c0_i32_13 : BitVec 32 := 0#32
  let v31 : BitVec 1 := Scalar.cmpi .eq c4_i32_12 c0_i32_13
  let c1_i32_14 : BitVec 32 := 1#32
  let v32 : BitVec 32 := Scalar.select v31 c1_i32_14 c4_i32_12
  let v33 : BitVec 32 := Scalar.remsi arg1 v32
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let c0_i32_15 : BitVec 32 := 0#32
  let v34 : BitVec 1 := Scalar.cmpi .ne v33 c0_i32_15
  let v38 : BitVec 1 := Scalar.andi v37 v34
  let v39 : BitVec 32 := Scalar.addi v33 v32
  let v40 : BitVec 32 := Scalar.select v38 v39 v33
  let c3_i32 : BitVec 32 := 3#32
  let v50 : BitVec 1 := Scalar.cmpi .eq v40 c3_i32
  let v51 : BitVec 32 := Scalar.extui v50
  let c0_i32_23 : BitVec 32 := 0#32
  let v52 : BitVec 1 := Scalar.cmpi .ne v51 c0_i32_23
  v52

def k0_mult15 (i : grid0.Coords) : BitVec 32 :=
  let arg1 : BitVec 32 := BitVec.ofNat 32 (i 1).val
  let c3_i32_674 : BitVec 32 := 3#32
  let v1267 : BitVec 32 := Scalar.subi arg1 c3_i32_674
  let c0_i32_675 : BitVec 32 := 0#32
  let v1268 : BitVec 32 := Scalar.addi v1267 c0_i32_675
  let c256_i32_680 : BitVec 32 := 256#32
  let v1273 : BitVec 32 := Scalar.muli v1268 c256_i32_680
  v1273
def k0_off239 (i : grid0.Coords) (c0_i32_675 : BitVec 32) : Fin 2 → Nat :=
  let arg1 : BitVec 32 := BitVec.ofNat 32 (i 1).val
  let c3_i32_674 : BitVec 32 := 3#32
  let v1267 : BitVec 32 := Scalar.subi arg1 c3_i32_674
  let v1268 : BitVec 32 := Scalar.addi v1267 c0_i32_675
  let c256_i32_680 : BitVec 32 := 256#32
  let v1273 : BitVec 32 := Scalar.muli v1268 c256_i32_680
  let v1274 : BitVec 32 := v1273
  let v1275 : Index := Scalar.indexCast v1274
  let c0_681 : Index := 0#32
  ![v1275.toNat, 0]
def k0_mult16 (i : grid0.Coords) : BitVec 32 :=
  let arg1 : BitVec 32 := BitVec.ofNat 32 (i 1).val
  let c3_i32_676 : BitVec 32 := 3#32
  let v1269 : BitVec 32 := Scalar.subi arg1 c3_i32_676
  let c1_i32_677 : BitVec 32 := 1#32
  let v1270 : BitVec 32 := Scalar.addi v1269 c1_i32_677
  let c256_i32_704 : BitVec 32 := 256#32
  let v1352 : BitVec 32 := Scalar.muli v1270 c256_i32_704
  v1352
def k0_mult17 (i : grid0.Coords) : BitVec 32 :=
  let arg1 : BitVec 32 := BitVec.ofNat 32 (i 1).val
  let c3_i32_678 : BitVec 32 := 3#32
  let v1271 : BitVec 32 := Scalar.subi arg1 c3_i32_678
  let c2_i32_679 : BitVec 32 := 2#32
  let v1272 : BitVec 32 := Scalar.addi v1271 c2_i32_679
  let c256_i32_728 : BitVec 32 := 256#32
  let v1431 : BitVec 32 := Scalar.muli v1272 c256_i32_728
  v1431
def k0_mult18 (i : grid0.Coords) : BitVec 32 :=
  let arg1 : BitVec 32 := BitVec.ofNat 32 (i 1).val
  let c256_i32_752 : BitVec 32 := 256#32
  let v1510 : BitVec 32 := Scalar.muli arg1 c256_i32_752
  v1510
def k0_off240 (i : grid0.Coords) : Fin 2 → Nat :=
  let arg1 : BitVec 32 := BitVec.ofNat 32 (i 1).val
  let c256_i32_752 : BitVec 32 := 256#32
  let v1510 : BitVec 32 := Scalar.muli arg1 c256_i32_752
  let v1511 : BitVec 32 := v1510
  let v1512 : Index := Scalar.indexCast v1511
  let c0_753 : Index := 0#32
  ![v1512.toNat, 0]
def k0_off241 (i : grid0.Coords) (c0_i32_675 : BitVec 32) : Fin 3 → Nat :=
  let arg1 : BitVec 32 := BitVec.ofNat 32 (i 1).val
  let c3_i32_674 : BitVec 32 := 3#32
  let v1267 : BitVec 32 := Scalar.subi arg1 c3_i32_674
  let v1268 : BitVec 32 := Scalar.addi v1267 c0_i32_675
  let v1595 : Index := Scalar.indexCast v1268
  let c0_777 : Index := 0#32
  let c0_778 : Index := 0#32
  ![v1595.toNat, 0, 0]
def k0_off242 (i : grid0.Coords) (c0_i32_675 : BitVec 32) : Fin 4 → Nat :=
  let c0_1015 : Index := 0#32
  let arg1 : BitVec 32 := BitVec.ofNat 32 (i 1).val
  let c3_i32_674 : BitVec 32 := 3#32
  let v1267 : BitVec 32 := Scalar.subi arg1 c3_i32_674
  let v1268 : BitVec 32 := Scalar.addi v1267 c0_i32_675
  let v2386 : Index := Scalar.indexCast v1268
  let c0_1016 : Index := 0#32
  let c0_1017 : Index := 0#32
  ![0, v2386.toNat, 0, 0]
def k0_off243 (i : grid0.Coords) (c0_i32_675 : BitVec 32) : Fin 4 → Nat :=
  let c1_1018 : Index := 1#32
  let arg1 : BitVec 32 := BitVec.ofNat 32 (i 1).val
  let c3_i32_674 : BitVec 32 := 3#32
  let v1267 : BitVec 32 := Scalar.subi arg1 c3_i32_674
  let v1268 : BitVec 32 := Scalar.addi v1267 c0_i32_675
  let v2390 : Index := Scalar.indexCast v1268
  let c0_1019 : Index := 0#32
  let c0_1020 : Index := 0#32
  ![1, v2390.toNat, 0, 0]
def k0_off244 (i : grid0.Coords) (c0_i32_675 : BitVec 32) : Fin 4 → Nat :=
  let c2_1021 : Index := 2#32
  let arg1 : BitVec 32 := BitVec.ofNat 32 (i 1).val
  let c3_i32_674 : BitVec 32 := 3#32
  let v1267 : BitVec 32 := Scalar.subi arg1 c3_i32_674
  let v1268 : BitVec 32 := Scalar.addi v1267 c0_i32_675
  let v2394 : Index := Scalar.indexCast v1268
  let c0_1022 : Index := 0#32
  let c0_1023 : Index := 0#32
  ![2, v2394.toNat, 0, 0]
def k0_off245 (i : grid0.Coords) (c0_i32_675 : BitVec 32) : Fin 4 → Nat :=
  let c3_1024 : Index := 3#32
  let arg1 : BitVec 32 := BitVec.ofNat 32 (i 1).val
  let c3_i32_674 : BitVec 32 := 3#32
  let v1267 : BitVec 32 := Scalar.subi arg1 c3_i32_674
  let v1268 : BitVec 32 := Scalar.addi v1267 c0_i32_675
  let v2398 : Index := Scalar.indexCast v1268
  let c0_1025 : Index := 0#32
  let c0_1026 : Index := 0#32
  ![3, v2398.toNat, 0, 0]
def k0_off246 (i : grid0.Coords) (c0_i32_675 : BitVec 32) : Fin 4 → Nat :=
  let c4_1027 : Index := 4#32
  let arg1 : BitVec 32 := BitVec.ofNat 32 (i 1).val
  let c3_i32_674 : BitVec 32 := 3#32
  let v1267 : BitVec 32 := Scalar.subi arg1 c3_i32_674
  let v1268 : BitVec 32 := Scalar.addi v1267 c0_i32_675
  let v2402 : Index := Scalar.indexCast v1268
  let c0_1028 : Index := 0#32
  let c0_1029 : Index := 0#32
  ![4, v2402.toNat, 0, 0]
def k0_off247 (i : grid0.Coords) (c0_i32_675 : BitVec 32) : Fin 4 → Nat :=
  let c5_1030 : Index := 5#32
  let arg1 : BitVec 32 := BitVec.ofNat 32 (i 1).val
  let c3_i32_674 : BitVec 32 := 3#32
  let v1267 : BitVec 32 := Scalar.subi arg1 c3_i32_674
  let v1268 : BitVec 32 := Scalar.addi v1267 c0_i32_675
  let v2406 : Index := Scalar.indexCast v1268
  let c0_1031 : Index := 0#32
  let c0_1032 : Index := 0#32
  ![5, v2406.toNat, 0, 0]
def k0_off248 (i : grid0.Coords) (c0_i32_675 : BitVec 32) : Fin 4 → Nat :=
  let c6_1033 : Index := 6#32
  let arg1 : BitVec 32 := BitVec.ofNat 32 (i 1).val
  let c3_i32_674 : BitVec 32 := 3#32
  let v1267 : BitVec 32 := Scalar.subi arg1 c3_i32_674
  let v1268 : BitVec 32 := Scalar.addi v1267 c0_i32_675
  let v2410 : Index := Scalar.indexCast v1268
  let c0_1034 : Index := 0#32
  let c0_1035 : Index := 0#32
  ![6, v2410.toNat, 0, 0]
def k0_off249 (i : grid0.Coords) (c0_i32_675 : BitVec 32) : Fin 4 → Nat :=
  let c7_1036 : Index := 7#32
  let arg1 : BitVec 32 := BitVec.ofNat 32 (i 1).val
  let c3_i32_674 : BitVec 32 := 3#32
  let v1267 : BitVec 32 := Scalar.subi arg1 c3_i32_674
  let v1268 : BitVec 32 := Scalar.addi v1267 c0_i32_675
  let v2414 : Index := Scalar.indexCast v1268
  let c0_1037 : Index := 0#32
  let c0_1038 : Index := 0#32
  ![7, v2414.toNat, 0, 0]
def k0_off250 (i : grid0.Coords) (c0_i32_675 : BitVec 32) : Fin 4 → Nat :=
  let c8_1039 : Index := 8#32
  let arg1 : BitVec 32 := BitVec.ofNat 32 (i 1).val
  let c3_i32_674 : BitVec 32 := 3#32
  let v1267 : BitVec 32 := Scalar.subi arg1 c3_i32_674
  let v1268 : BitVec 32 := Scalar.addi v1267 c0_i32_675
  let v2418 : Index := Scalar.indexCast v1268
  let c0_1040 : Index := 0#32
  let c0_1041 : Index := 0#32
  ![8, v2418.toNat, 0, 0]
def k0_off251 (i : grid0.Coords) (c0_i32_675 : BitVec 32) : Fin 4 → Nat :=
  let c9_1042 : Index := 9#32
  let arg1 : BitVec 32 := BitVec.ofNat 32 (i 1).val
  let c3_i32_674 : BitVec 32 := 3#32
  let v1267 : BitVec 32 := Scalar.subi arg1 c3_i32_674
  let v1268 : BitVec 32 := Scalar.addi v1267 c0_i32_675
  let v2422 : Index := Scalar.indexCast v1268
  let c0_1043 : Index := 0#32
  let c0_1044 : Index := 0#32
  ![9, v2422.toNat, 0, 0]
def k0_off252 (i : grid0.Coords) (c0_i32_675 : BitVec 32) : Fin 4 → Nat :=
  let c10_1045 : Index := 10#32
  let arg1 : BitVec 32 := BitVec.ofNat 32 (i 1).val
  let c3_i32_674 : BitVec 32 := 3#32
  let v1267 : BitVec 32 := Scalar.subi arg1 c3_i32_674
  let v1268 : BitVec 32 := Scalar.addi v1267 c0_i32_675
  let v2426 : Index := Scalar.indexCast v1268
  let c0_1046 : Index := 0#32
  let c0_1047 : Index := 0#32
  ![10, v2426.toNat, 0, 0]
def k0_off253 (i : grid0.Coords) (c0_i32_675 : BitVec 32) : Fin 4 → Nat :=
  let c11_1048 : Index := 11#32
  let arg1 : BitVec 32 := BitVec.ofNat 32 (i 1).val
  let c3_i32_674 : BitVec 32 := 3#32
  let v1267 : BitVec 32 := Scalar.subi arg1 c3_i32_674
  let v1268 : BitVec 32 := Scalar.addi v1267 c0_i32_675
  let v2430 : Index := Scalar.indexCast v1268
  let c0_1049 : Index := 0#32
  let c0_1050 : Index := 0#32
  ![11, v2430.toNat, 0, 0]
def k0_off254 (i : grid0.Coords) (c0_i32_675 : BitVec 32) : Fin 4 → Nat :=
  let c12_1051 : Index := 12#32
  let arg1 : BitVec 32 := BitVec.ofNat 32 (i 1).val
  let c3_i32_674 : BitVec 32 := 3#32
  let v1267 : BitVec 32 := Scalar.subi arg1 c3_i32_674
  let v1268 : BitVec 32 := Scalar.addi v1267 c0_i32_675
  let v2434 : Index := Scalar.indexCast v1268
  let c0_1052 : Index := 0#32
  let c0_1053 : Index := 0#32
  ![12, v2434.toNat, 0, 0]
def k0_off255 (i : grid0.Coords) (c0_i32_675 : BitVec 32) : Fin 4 → Nat :=
  let c13_1054 : Index := 13#32
  let arg1 : BitVec 32 := BitVec.ofNat 32 (i 1).val
  let c3_i32_674 : BitVec 32 := 3#32
  let v1267 : BitVec 32 := Scalar.subi arg1 c3_i32_674
  let v1268 : BitVec 32 := Scalar.addi v1267 c0_i32_675
  let v2438 : Index := Scalar.indexCast v1268
  let c0_1055 : Index := 0#32
  let c0_1056 : Index := 0#32
  ![13, v2438.toNat, 0, 0]
def k0_off256 (i : grid0.Coords) (c0_i32_675 : BitVec 32) : Fin 4 → Nat :=
  let c14_1057 : Index := 14#32
  let arg1 : BitVec 32 := BitVec.ofNat 32 (i 1).val
  let c3_i32_674 : BitVec 32 := 3#32
  let v1267 : BitVec 32 := Scalar.subi arg1 c3_i32_674
  let v1268 : BitVec 32 := Scalar.addi v1267 c0_i32_675
  let v2442 : Index := Scalar.indexCast v1268
  let c0_1058 : Index := 0#32
  let c0_1059 : Index := 0#32
  ![14, v2442.toNat, 0, 0]
def k0_off257 (i : grid0.Coords) (c0_i32_675 : BitVec 32) : Fin 4 → Nat :=
  let c15_1060 : Index := 15#32
  let arg1 : BitVec 32 := BitVec.ofNat 32 (i 1).val
  let c3_i32_674 : BitVec 32 := 3#32
  let v1267 : BitVec 32 := Scalar.subi arg1 c3_i32_674
  let v1268 : BitVec 32 := Scalar.addi v1267 c0_i32_675
  let v2446 : Index := Scalar.indexCast v1268
  let c0_1061 : Index := 0#32
  let c0_1062 : Index := 0#32
  ![15, v2446.toNat, 0, 0]
def k0_off258 (i : grid0.Coords) (c0_i32_675 : BitVec 32) : Fin 4 → Nat :=
  let c16_1063 : Index := 16#32
  let arg1 : BitVec 32 := BitVec.ofNat 32 (i 1).val
  let c3_i32_674 : BitVec 32 := 3#32
  let v1267 : BitVec 32 := Scalar.subi arg1 c3_i32_674
  let v1268 : BitVec 32 := Scalar.addi v1267 c0_i32_675
  let v2450 : Index := Scalar.indexCast v1268
  let c0_1064 : Index := 0#32
  let c0_1065 : Index := 0#32
  ![16, v2450.toNat, 0, 0]
def k0_off259 (i : grid0.Coords) (c0_i32_675 : BitVec 32) : Fin 4 → Nat :=
  let c17_1066 : Index := 17#32
  let arg1 : BitVec 32 := BitVec.ofNat 32 (i 1).val
  let c3_i32_674 : BitVec 32 := 3#32
  let v1267 : BitVec 32 := Scalar.subi arg1 c3_i32_674
  let v1268 : BitVec 32 := Scalar.addi v1267 c0_i32_675
  let v2454 : Index := Scalar.indexCast v1268
  let c0_1067 : Index := 0#32
  let c0_1068 : Index := 0#32
  ![17, v2454.toNat, 0, 0]
def k0_off260 (i : grid0.Coords) (c0_i32_675 : BitVec 32) : Fin 4 → Nat :=
  let c18_1069 : Index := 18#32
  let arg1 : BitVec 32 := BitVec.ofNat 32 (i 1).val
  let c3_i32_674 : BitVec 32 := 3#32
  let v1267 : BitVec 32 := Scalar.subi arg1 c3_i32_674
  let v1268 : BitVec 32 := Scalar.addi v1267 c0_i32_675
  let v2458 : Index := Scalar.indexCast v1268
  let c0_1070 : Index := 0#32
  let c0_1071 : Index := 0#32
  ![18, v2458.toNat, 0, 0]
def k0_off261 (i : grid0.Coords) (c0_i32_675 : BitVec 32) : Fin 4 → Nat :=
  let c19_1072 : Index := 19#32
  let arg1 : BitVec 32 := BitVec.ofNat 32 (i 1).val
  let c3_i32_674 : BitVec 32 := 3#32
  let v1267 : BitVec 32 := Scalar.subi arg1 c3_i32_674
  let v1268 : BitVec 32 := Scalar.addi v1267 c0_i32_675
  let v2462 : Index := Scalar.indexCast v1268
  let c0_1073 : Index := 0#32
  let c0_1074 : Index := 0#32
  ![19, v2462.toNat, 0, 0]
def k0_off262 (i : grid0.Coords) (c0_i32_675 : BitVec 32) : Fin 4 → Nat :=
  let c20_1075 : Index := 20#32
  let arg1 : BitVec 32 := BitVec.ofNat 32 (i 1).val
  let c3_i32_674 : BitVec 32 := 3#32
  let v1267 : BitVec 32 := Scalar.subi arg1 c3_i32_674
  let v1268 : BitVec 32 := Scalar.addi v1267 c0_i32_675
  let v2466 : Index := Scalar.indexCast v1268
  let c0_1076 : Index := 0#32
  let c0_1077 : Index := 0#32
  ![20, v2466.toNat, 0, 0]
def k0_off263 (i : grid0.Coords) (c0_i32_675 : BitVec 32) : Fin 4 → Nat :=
  let c21_1078 : Index := 21#32
  let arg1 : BitVec 32 := BitVec.ofNat 32 (i 1).val
  let c3_i32_674 : BitVec 32 := 3#32
  let v1267 : BitVec 32 := Scalar.subi arg1 c3_i32_674
  let v1268 : BitVec 32 := Scalar.addi v1267 c0_i32_675
  let v2470 : Index := Scalar.indexCast v1268
  let c0_1079 : Index := 0#32
  let c0_1080 : Index := 0#32
  ![21, v2470.toNat, 0, 0]
def k0_off264 (i : grid0.Coords) (c0_i32_675 : BitVec 32) : Fin 4 → Nat :=
  let c22_1081 : Index := 22#32
  let arg1 : BitVec 32 := BitVec.ofNat 32 (i 1).val
  let c3_i32_674 : BitVec 32 := 3#32
  let v1267 : BitVec 32 := Scalar.subi arg1 c3_i32_674
  let v1268 : BitVec 32 := Scalar.addi v1267 c0_i32_675
  let v2474 : Index := Scalar.indexCast v1268
  let c0_1082 : Index := 0#32
  let c0_1083 : Index := 0#32
  ![22, v2474.toNat, 0, 0]
def k0_off265 (i : grid0.Coords) (c0_i32_675 : BitVec 32) : Fin 4 → Nat :=
  let c23_1084 : Index := 23#32
  let arg1 : BitVec 32 := BitVec.ofNat 32 (i 1).val
  let c3_i32_674 : BitVec 32 := 3#32
  let v1267 : BitVec 32 := Scalar.subi arg1 c3_i32_674
  let v1268 : BitVec 32 := Scalar.addi v1267 c0_i32_675
  let v2478 : Index := Scalar.indexCast v1268
  let c0_1085 : Index := 0#32
  let c0_1086 : Index := 0#32
  ![23, v2478.toNat, 0, 0]
def k0_off266 (i : grid0.Coords) (c0_i32_675 : BitVec 32) : Fin 4 → Nat :=
  let c24_1087 : Index := 24#32
  let arg1 : BitVec 32 := BitVec.ofNat 32 (i 1).val
  let c3_i32_674 : BitVec 32 := 3#32
  let v1267 : BitVec 32 := Scalar.subi arg1 c3_i32_674
  let v1268 : BitVec 32 := Scalar.addi v1267 c0_i32_675
  let v2482 : Index := Scalar.indexCast v1268
  let c0_1088 : Index := 0#32
  let c0_1089 : Index := 0#32
  ![24, v2482.toNat, 0, 0]
def k0_off267 (i : grid0.Coords) (c0_i32_675 : BitVec 32) : Fin 4 → Nat :=
  let c25_1090 : Index := 25#32
  let arg1 : BitVec 32 := BitVec.ofNat 32 (i 1).val
  let c3_i32_674 : BitVec 32 := 3#32
  let v1267 : BitVec 32 := Scalar.subi arg1 c3_i32_674
  let v1268 : BitVec 32 := Scalar.addi v1267 c0_i32_675
  let v2486 : Index := Scalar.indexCast v1268
  let c0_1091 : Index := 0#32
  let c0_1092 : Index := 0#32
  ![25, v2486.toNat, 0, 0]
def k0_off268 (i : grid0.Coords) (c0_i32_675 : BitVec 32) : Fin 4 → Nat :=
  let c26_1093 : Index := 26#32
  let arg1 : BitVec 32 := BitVec.ofNat 32 (i 1).val
  let c3_i32_674 : BitVec 32 := 3#32
  let v1267 : BitVec 32 := Scalar.subi arg1 c3_i32_674
  let v1268 : BitVec 32 := Scalar.addi v1267 c0_i32_675
  let v2490 : Index := Scalar.indexCast v1268
  let c0_1094 : Index := 0#32
  let c0_1095 : Index := 0#32
  ![26, v2490.toNat, 0, 0]
def k0_off269 (i : grid0.Coords) (c0_i32_675 : BitVec 32) : Fin 4 → Nat :=
  let c27_1096 : Index := 27#32
  let arg1 : BitVec 32 := BitVec.ofNat 32 (i 1).val
  let c3_i32_674 : BitVec 32 := 3#32
  let v1267 : BitVec 32 := Scalar.subi arg1 c3_i32_674
  let v1268 : BitVec 32 := Scalar.addi v1267 c0_i32_675
  let v2494 : Index := Scalar.indexCast v1268
  let c0_1097 : Index := 0#32
  let c0_1098 : Index := 0#32
  ![27, v2494.toNat, 0, 0]
def k0_off270 (i : grid0.Coords) (c0_i32_675 : BitVec 32) : Fin 4 → Nat :=
  let c28_1099 : Index := 28#32
  let arg1 : BitVec 32 := BitVec.ofNat 32 (i 1).val
  let c3_i32_674 : BitVec 32 := 3#32
  let v1267 : BitVec 32 := Scalar.subi arg1 c3_i32_674
  let v1268 : BitVec 32 := Scalar.addi v1267 c0_i32_675
  let v2498 : Index := Scalar.indexCast v1268
  let c0_1100 : Index := 0#32
  let c0_1101 : Index := 0#32
  ![28, v2498.toNat, 0, 0]
def k0_off271 (i : grid0.Coords) (c0_i32_675 : BitVec 32) : Fin 4 → Nat :=
  let c29_1102 : Index := 29#32
  let arg1 : BitVec 32 := BitVec.ofNat 32 (i 1).val
  let c3_i32_674 : BitVec 32 := 3#32
  let v1267 : BitVec 32 := Scalar.subi arg1 c3_i32_674
  let v1268 : BitVec 32 := Scalar.addi v1267 c0_i32_675
  let v2502 : Index := Scalar.indexCast v1268
  let c0_1103 : Index := 0#32
  let c0_1104 : Index := 0#32
  ![29, v2502.toNat, 0, 0]
def k0_off272 (i : grid0.Coords) (c0_i32_675 : BitVec 32) : Fin 4 → Nat :=
  let c30_1105 : Index := 30#32
  let arg1 : BitVec 32 := BitVec.ofNat 32 (i 1).val
  let c3_i32_674 : BitVec 32 := 3#32
  let v1267 : BitVec 32 := Scalar.subi arg1 c3_i32_674
  let v1268 : BitVec 32 := Scalar.addi v1267 c0_i32_675
  let v2506 : Index := Scalar.indexCast v1268
  let c0_1106 : Index := 0#32
  let c0_1107 : Index := 0#32
  ![30, v2506.toNat, 0, 0]
def k0_off273 (i : grid0.Coords) (c0_i32_675 : BitVec 32) : Fin 4 → Nat :=
  let c31_1108 : Index := 31#32
  let arg1 : BitVec 32 := BitVec.ofNat 32 (i 1).val
  let c3_i32_674 : BitVec 32 := 3#32
  let v1267 : BitVec 32 := Scalar.subi arg1 c3_i32_674
  let v1268 : BitVec 32 := Scalar.addi v1267 c0_i32_675
  let v2510 : Index := Scalar.indexCast v1268
  let c0_1109 : Index := 0#32
  let c0_1110 : Index := 0#32
  ![31, v2510.toNat, 0, 0]
def k0_off274 (i : grid0.Coords) : Fin 3 → Nat :=
  let arg1 : BitVec 32 := BitVec.ofNat 32 (i 1).val
  let v4372 : Index := Scalar.indexCast arg1
  let c0_1796 : Index := 0#32
  let c0_1797 : Index := 0#32
  ![v4372.toNat, 0, 0]
def k0_off275 (i : grid0.Coords) : Fin 4 → Nat :=
  let c0_2039 : Index := 0#32
  let arg1 : BitVec 32 := BitVec.ofNat 32 (i 1).val
  let v5163 : Index := Scalar.indexCast arg1
  let c0_2040 : Index := 0#32
  let c0_2041 : Index := 0#32
  ![0, v5163.toNat, 0, 0]
def k0_off276 (i : grid0.Coords) : Fin 4 → Nat :=
  let c1_2042 : Index := 1#32
  let arg1 : BitVec 32 := BitVec.ofNat 32 (i 1).val
  let v5167 : Index := Scalar.indexCast arg1
  let c0_2043 : Index := 0#32
  let c0_2044 : Index := 0#32
  ![1, v5167.toNat, 0, 0]
def k0_off277 (i : grid0.Coords) : Fin 4 → Nat :=
  let c2_2045 : Index := 2#32
  let arg1 : BitVec 32 := BitVec.ofNat 32 (i 1).val
  let v5171 : Index := Scalar.indexCast arg1
  let c0_2046 : Index := 0#32
  let c0_2047 : Index := 0#32
  ![2, v5171.toNat, 0, 0]
def k0_off278 (i : grid0.Coords) : Fin 4 → Nat :=
  let c3_2048 : Index := 3#32
  let arg1 : BitVec 32 := BitVec.ofNat 32 (i 1).val
  let v5175 : Index := Scalar.indexCast arg1
  let c0_2049 : Index := 0#32
  let c0_2050 : Index := 0#32
  ![3, v5175.toNat, 0, 0]
def k0_off279 (i : grid0.Coords) : Fin 4 → Nat :=
  let c4_2051 : Index := 4#32
  let arg1 : BitVec 32 := BitVec.ofNat 32 (i 1).val
  let v5179 : Index := Scalar.indexCast arg1
  let c0_2052 : Index := 0#32
  let c0_2053 : Index := 0#32
  ![4, v5179.toNat, 0, 0]
def k0_off280 (i : grid0.Coords) : Fin 4 → Nat :=
  let c5_2054 : Index := 5#32
  let arg1 : BitVec 32 := BitVec.ofNat 32 (i 1).val
  let v5183 : Index := Scalar.indexCast arg1
  let c0_2055 : Index := 0#32
  let c0_2056 : Index := 0#32
  ![5, v5183.toNat, 0, 0]
def k0_off281 (i : grid0.Coords) : Fin 4 → Nat :=
  let c6_2057 : Index := 6#32
  let arg1 : BitVec 32 := BitVec.ofNat 32 (i 1).val
  let v5187 : Index := Scalar.indexCast arg1
  let c0_2058 : Index := 0#32
  let c0_2059 : Index := 0#32
  ![6, v5187.toNat, 0, 0]
def k0_off282 (i : grid0.Coords) : Fin 4 → Nat :=
  let c7_2060 : Index := 7#32
  let arg1 : BitVec 32 := BitVec.ofNat 32 (i 1).val
  let v5191 : Index := Scalar.indexCast arg1
  let c0_2061 : Index := 0#32
  let c0_2062 : Index := 0#32
  ![7, v5191.toNat, 0, 0]
def k0_off283 (i : grid0.Coords) : Fin 4 → Nat :=
  let c8_2063 : Index := 8#32
  let arg1 : BitVec 32 := BitVec.ofNat 32 (i 1).val
  let v5195 : Index := Scalar.indexCast arg1
  let c0_2064 : Index := 0#32
  let c0_2065 : Index := 0#32
  ![8, v5195.toNat, 0, 0]
def k0_off284 (i : grid0.Coords) : Fin 4 → Nat :=
  let c9_2066 : Index := 9#32
  let arg1 : BitVec 32 := BitVec.ofNat 32 (i 1).val
  let v5199 : Index := Scalar.indexCast arg1
  let c0_2067 : Index := 0#32
  let c0_2068 : Index := 0#32
  ![9, v5199.toNat, 0, 0]
def k0_off285 (i : grid0.Coords) : Fin 4 → Nat :=
  let c10_2069 : Index := 10#32
  let arg1 : BitVec 32 := BitVec.ofNat 32 (i 1).val
  let v5203 : Index := Scalar.indexCast arg1
  let c0_2070 : Index := 0#32
  let c0_2071 : Index := 0#32
  ![10, v5203.toNat, 0, 0]
def k0_off286 (i : grid0.Coords) : Fin 4 → Nat :=
  let c11_2072 : Index := 11#32
  let arg1 : BitVec 32 := BitVec.ofNat 32 (i 1).val
  let v5207 : Index := Scalar.indexCast arg1
  let c0_2073 : Index := 0#32
  let c0_2074 : Index := 0#32
  ![11, v5207.toNat, 0, 0]
def k0_off287 (i : grid0.Coords) : Fin 4 → Nat :=
  let c12_2075 : Index := 12#32
  let arg1 : BitVec 32 := BitVec.ofNat 32 (i 1).val
  let v5211 : Index := Scalar.indexCast arg1
  let c0_2076 : Index := 0#32
  let c0_2077 : Index := 0#32
  ![12, v5211.toNat, 0, 0]
def k0_off288 (i : grid0.Coords) : Fin 4 → Nat :=
  let c13_2078 : Index := 13#32
  let arg1 : BitVec 32 := BitVec.ofNat 32 (i 1).val
  let v5215 : Index := Scalar.indexCast arg1
  let c0_2079 : Index := 0#32
  let c0_2080 : Index := 0#32
  ![13, v5215.toNat, 0, 0]
def k0_off289 (i : grid0.Coords) : Fin 4 → Nat :=
  let c14_2081 : Index := 14#32
  let arg1 : BitVec 32 := BitVec.ofNat 32 (i 1).val
  let v5219 : Index := Scalar.indexCast arg1
  let c0_2082 : Index := 0#32
  let c0_2083 : Index := 0#32
  ![14, v5219.toNat, 0, 0]
def k0_off290 (i : grid0.Coords) : Fin 4 → Nat :=
  let c15_2084 : Index := 15#32
  let arg1 : BitVec 32 := BitVec.ofNat 32 (i 1).val
  let v5223 : Index := Scalar.indexCast arg1
  let c0_2085 : Index := 0#32
  let c0_2086 : Index := 0#32
  ![15, v5223.toNat, 0, 0]
def k0_off291 (i : grid0.Coords) : Fin 4 → Nat :=
  let c16_2087 : Index := 16#32
  let arg1 : BitVec 32 := BitVec.ofNat 32 (i 1).val
  let v5227 : Index := Scalar.indexCast arg1
  let c0_2088 : Index := 0#32
  let c0_2089 : Index := 0#32
  ![16, v5227.toNat, 0, 0]
def k0_off292 (i : grid0.Coords) : Fin 4 → Nat :=
  let c17_2090 : Index := 17#32
  let arg1 : BitVec 32 := BitVec.ofNat 32 (i 1).val
  let v5231 : Index := Scalar.indexCast arg1
  let c0_2091 : Index := 0#32
  let c0_2092 : Index := 0#32
  ![17, v5231.toNat, 0, 0]
def k0_off293 (i : grid0.Coords) : Fin 4 → Nat :=
  let c18_2093 : Index := 18#32
  let arg1 : BitVec 32 := BitVec.ofNat 32 (i 1).val
  let v5235 : Index := Scalar.indexCast arg1
  let c0_2094 : Index := 0#32
  let c0_2095 : Index := 0#32
  ![18, v5235.toNat, 0, 0]
def k0_off294 (i : grid0.Coords) : Fin 4 → Nat :=
  let c19_2096 : Index := 19#32
  let arg1 : BitVec 32 := BitVec.ofNat 32 (i 1).val
  let v5239 : Index := Scalar.indexCast arg1
  let c0_2097 : Index := 0#32
  let c0_2098 : Index := 0#32
  ![19, v5239.toNat, 0, 0]
def k0_off295 (i : grid0.Coords) : Fin 4 → Nat :=
  let c20_2099 : Index := 20#32
  let arg1 : BitVec 32 := BitVec.ofNat 32 (i 1).val
  let v5243 : Index := Scalar.indexCast arg1
  let c0_2100 : Index := 0#32
  let c0_2101 : Index := 0#32
  ![20, v5243.toNat, 0, 0]
def k0_off296 (i : grid0.Coords) : Fin 4 → Nat :=
  let c21_2102 : Index := 21#32
  let arg1 : BitVec 32 := BitVec.ofNat 32 (i 1).val
  let v5247 : Index := Scalar.indexCast arg1
  let c0_2103 : Index := 0#32
  let c0_2104 : Index := 0#32
  ![21, v5247.toNat, 0, 0]
def k0_off297 (i : grid0.Coords) : Fin 4 → Nat :=
  let c22_2105 : Index := 22#32
  let arg1 : BitVec 32 := BitVec.ofNat 32 (i 1).val
  let v5251 : Index := Scalar.indexCast arg1
  let c0_2106 : Index := 0#32
  let c0_2107 : Index := 0#32
  ![22, v5251.toNat, 0, 0]
def k0_off298 (i : grid0.Coords) : Fin 4 → Nat :=
  let c23_2108 : Index := 23#32
  let arg1 : BitVec 32 := BitVec.ofNat 32 (i 1).val
  let v5255 : Index := Scalar.indexCast arg1
  let c0_2109 : Index := 0#32
  let c0_2110 : Index := 0#32
  ![23, v5255.toNat, 0, 0]
def k0_off299 (i : grid0.Coords) : Fin 4 → Nat :=
  let c24_2111 : Index := 24#32
  let arg1 : BitVec 32 := BitVec.ofNat 32 (i 1).val
  let v5259 : Index := Scalar.indexCast arg1
  let c0_2112 : Index := 0#32
  let c0_2113 : Index := 0#32
  ![24, v5259.toNat, 0, 0]
def k0_off300 (i : grid0.Coords) : Fin 4 → Nat :=
  let c25_2114 : Index := 25#32
  let arg1 : BitVec 32 := BitVec.ofNat 32 (i 1).val
  let v5263 : Index := Scalar.indexCast arg1
  let c0_2115 : Index := 0#32
  let c0_2116 : Index := 0#32
  ![25, v5263.toNat, 0, 0]
def k0_off301 (i : grid0.Coords) : Fin 4 → Nat :=
  let c26_2117 : Index := 26#32
  let arg1 : BitVec 32 := BitVec.ofNat 32 (i 1).val
  let v5267 : Index := Scalar.indexCast arg1
  let c0_2118 : Index := 0#32
  let c0_2119 : Index := 0#32
  ![26, v5267.toNat, 0, 0]
def k0_off302 (i : grid0.Coords) : Fin 4 → Nat :=
  let c27_2120 : Index := 27#32
  let arg1 : BitVec 32 := BitVec.ofNat 32 (i 1).val
  let v5271 : Index := Scalar.indexCast arg1
  let c0_2121 : Index := 0#32
  let c0_2122 : Index := 0#32
  ![27, v5271.toNat, 0, 0]
def k0_off303 (i : grid0.Coords) : Fin 4 → Nat :=
  let c28_2123 : Index := 28#32
  let arg1 : BitVec 32 := BitVec.ofNat 32 (i 1).val
  let v5275 : Index := Scalar.indexCast arg1
  let c0_2124 : Index := 0#32
  let c0_2125 : Index := 0#32
  ![28, v5275.toNat, 0, 0]
def k0_off304 (i : grid0.Coords) : Fin 4 → Nat :=
  let c29_2126 : Index := 29#32
  let arg1 : BitVec 32 := BitVec.ofNat 32 (i 1).val
  let v5279 : Index := Scalar.indexCast arg1
  let c0_2127 : Index := 0#32
  let c0_2128 : Index := 0#32
  ![29, v5279.toNat, 0, 0]
def k0_off305 (i : grid0.Coords) : Fin 4 → Nat :=
  let c30_2129 : Index := 30#32
  let arg1 : BitVec 32 := BitVec.ofNat 32 (i 1).val
  let v5283 : Index := Scalar.indexCast arg1
  let c0_2130 : Index := 0#32
  let c0_2131 : Index := 0#32
  ![30, v5283.toNat, 0, 0]
def k0_off306 (i : grid0.Coords) : Fin 4 → Nat :=
  let c31_2132 : Index := 31#32
  let arg1 : BitVec 32 := BitVec.ofNat 32 (i 1).val
  let v5287 : Index := Scalar.indexCast arg1
  let c0_2133 : Index := 0#32
  let c0_2134 : Index := 0#32
  ![31, v5287.toNat, 0, 0]
@[reducible] def k0_t3_loop (i : grid0.Coords) : Scf.Loop 32 :=
  let c0_i32_516 : BitVec 32 := 0#32
  let arg1 : BitVec 32 := BitVec.ofNat 32 (i 1).val
  let v902 : BitVec 32 := Scalar.subi arg1 c0_i32_516
  let c1_i32_517 : BitVec 32 := 1#32
  let v904 : BitVec 32 := Scalar.divsi v902 c1_i32_517
  let v905 : BitVec 32 := Scalar.muli v904 c1_i32_517
  let v906 : BitVec 32 := Scalar.addi c0_i32_516 v905
  let c1_i32_518 : BitVec 32 := 1#32
  ⟨c0_i32_516, v906, c1_i32_518⟩
def k0_off307 (i : grid0.Coords) (k0_t3 : Fin (k0_t3_loop i).trips) : Fin 3 → Nat :=
  let c0_i32_516 : BitVec 32 := 0#32
  let c1_i32_518 : BitVec 32 := 1#32
  let arg20 : BitVec 32 := Scf.iv c0_i32_516 c1_i32_518 k0_t3
  let v920 : Index := Scalar.indexCast arg20
  let c0_526 : Index := 0#32
  let c0_527 : Index := 0#32
  ![v920.toNat, 0, 0]
@[reducible] def k0_t4_loop (i : grid0.Coords) : Scf.Loop 32 :=
  let c0_i32_516 : BitVec 32 := 0#32
  let arg1 : BitVec 32 := BitVec.ofNat 32 (i 1).val
  let v902 : BitVec 32 := Scalar.subi arg1 c0_i32_516
  let c1_i32_517 : BitVec 32 := 1#32
  let v904 : BitVec 32 := Scalar.divsi v902 c1_i32_517
  let v905 : BitVec 32 := Scalar.muli v904 c1_i32_517
  let v906 : BitVec 32 := Scalar.addi c0_i32_516 v905
  let v903 : BitVec 32 := Scalar.addi c0_i32_516 v902
  let c1_i32_519 : BitVec 32 := 1#32
  ⟨v906, v903, c1_i32_519⟩
def k0_off308 (i : grid0.Coords) (k0_t4 : Fin (k0_t4_loop i).trips) : Fin 3 → Nat :=
  let c0_i32_516 : BitVec 32 := 0#32
  let arg1 : BitVec 32 := BitVec.ofNat 32 (i 1).val
  let v902 : BitVec 32 := Scalar.subi arg1 c0_i32_516
  let c1_i32_517 : BitVec 32 := 1#32
  let v904 : BitVec 32 := Scalar.divsi v902 c1_i32_517
  let v905 : BitVec 32 := Scalar.muli v904 c1_i32_517
  let v906 : BitVec 32 := Scalar.addi c0_i32_516 v905
  let c1_i32_519 : BitVec 32 := 1#32
  let arg20 : BitVec 32 := Scf.iv v906 c1_i32_519 k0_t4
  let v920 : Index := Scalar.indexCast arg20
  let c0_526 : Index := 0#32
  let c0_527 : Index := 0#32
  ![v920.toNat, 0, 0]
def k0_off309 (i : grid0.Coords) : Fin 3 → Nat :=
  let arg1 : BitVec 32 := BitVec.ofNat 32 (i 1).val
  let v907 : Index := Scalar.indexCast arg1
  let c0_520 : Index := 0#32
  let c0_521 : Index := 0#32
  ![v907.toNat, 0, 0]
@[reducible] def k0_t5_loop (i : grid0.Coords) : Scf.Loop 32 :=
  let c0_i32_518 : BitVec 32 := 0#32
  let arg1 : BitVec 32 := BitVec.ofNat 32 (i 1).val
  let v909 : BitVec 32 := Scalar.subi arg1 c0_i32_518
  let c1_i32_519 : BitVec 32 := 1#32
  let v911 : BitVec 32 := Scalar.divsi v909 c1_i32_519
  let v912 : BitVec 32 := Scalar.muli v911 c1_i32_519
  let v913 : BitVec 32 := Scalar.addi c0_i32_518 v912
  let c1_i32_520 : BitVec 32 := 1#32
  ⟨c0_i32_518, v913, c1_i32_520⟩
def k0_off310 (i : grid0.Coords) (k0_t5 : Fin (k0_t5_loop i).trips) : Fin 3 → Nat :=
  let c0_i32_518 : BitVec 32 := 0#32
  let c1_i32_520 : BitVec 32 := 1#32
  let arg20 : BitVec 32 := Scf.iv c0_i32_518 c1_i32_520 k0_t5
  let v942 : Index := Scalar.indexCast arg20
  let c0_531 : Index := 0#32
  let c0_532 : Index := 0#32
  ![v942.toNat, 0, 0]
@[reducible] def k0_t6_loop (i : grid0.Coords) : Scf.Loop 32 :=
  let c0_i32_518 : BitVec 32 := 0#32
  let arg1 : BitVec 32 := BitVec.ofNat 32 (i 1).val
  let v909 : BitVec 32 := Scalar.subi arg1 c0_i32_518
  let c1_i32_519 : BitVec 32 := 1#32
  let v911 : BitVec 32 := Scalar.divsi v909 c1_i32_519
  let v912 : BitVec 32 := Scalar.muli v911 c1_i32_519
  let v913 : BitVec 32 := Scalar.addi c0_i32_518 v912
  let v910 : BitVec 32 := Scalar.addi c0_i32_518 v909
  let c1_i32_521 : BitVec 32 := 1#32
  ⟨v913, v910, c1_i32_521⟩
def k0_off311 (i : grid0.Coords) (k0_t6 : Fin (k0_t6_loop i).trips) : Fin 3 → Nat :=
  let c0_i32_518 : BitVec 32 := 0#32
  let arg1 : BitVec 32 := BitVec.ofNat 32 (i 1).val
  let v909 : BitVec 32 := Scalar.subi arg1 c0_i32_518
  let c1_i32_519 : BitVec 32 := 1#32
  let v911 : BitVec 32 := Scalar.divsi v909 c1_i32_519
  let v912 : BitVec 32 := Scalar.muli v911 c1_i32_519
  let v913 : BitVec 32 := Scalar.addi c0_i32_518 v912
  let c1_i32_521 : BitVec 32 := 1#32
  let arg20 : BitVec 32 := Scf.iv v913 c1_i32_521 k0_t6
  let v942 : Index := Scalar.indexCast arg20
  let c0_531 : Index := 0#32
  let c0_532 : Index := 0#32
  ![v942.toNat, 0, 0]
def k0_off312 (i : grid0.Coords) : Fin 3 → Nat :=
  let arg1 : BitVec 32 := BitVec.ofNat 32 (i 1).val
  let v916 : Index := Scalar.indexCast arg1
  let c0_522 : Index := 0#32
  let c0_523 : Index := 0#32
  ![v916.toNat, 0, 0]
@[reducible] def k0_t7_loop (i : grid0.Coords) : Scf.Loop 32 :=
  let c0_i32_442 : BitVec 32 := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c0_i32_435 : BitVec 32 := 0#32
  let v796 : BitVec 1 := Scalar.cmpi .sgt v794 c0_i32_435
  let v797 : BitVec 32 := Scalar.extui v796
  let c0_i32_436 : BitVec 32 := 0#32
  let v798 : BitVec 1 := Scalar.cmpi .slt v794 c0_i32_436
  let v799 : BitVec 32 := Scalar.extui v798
  let v800 : BitVec 32 := Scalar.subi v797 v799
  let c4_i32_434 : BitVec 32 := 4#32
  let c0_i32_437 : BitVec 32 := 0#32
  let v801 : BitVec 1 := Scalar.cmpi .sgt c4_i32_434 c0_i32_437
  let v802 : BitVec 32 := Scalar.extui v801
  let c0_i32_438 : BitVec 32 := 0#32
  let v803 : BitVec 1 := Scalar.cmpi .slt c4_i32_434 c0_i32_438
  let v804 : BitVec 32 := Scalar.extui v803
  let v805 : BitVec 32 := Scalar.subi v802 v804
  let v806 : BitVec 1 := Scalar.cmpi .ne v800 v805
  let v807 : BitVec 32 := Scalar.remsi v794 c4_i32_434
  let c0_i32_439 : BitVec 32 := 0#32
  let v808 : BitVec 1 := Scalar.cmpi .ne v807 c0_i32_439
  let v809 : BitVec 1 := Scalar.andi v806 v808
  let v795 : BitVec 32 := Scalar.divsi v794 c4_i32_434
  let c1_i32_440 : BitVec 32 := 1#32
  let v810 : BitVec 32 := Scalar.subi v795 c1_i32_440
  let v811 : BitVec 32 := Scalar.select v809 v810 v795
  let v812 : BitVec 32 := Scalar.subi v811 c0_i32_442
  let c1_i32_443 : BitVec 32 := 1#32
  let v814 : BitVec 32 := Scalar.divsi v812 c1_i32_443
  let v815 : BitVec 32 := Scalar.muli v814 c1_i32_443
  let v816 : BitVec 32 := Scalar.addi c0_i32_442 v815
  let c1_i32_444 : BitVec 32 := 1#32
  ⟨c0_i32_442, v816, c1_i32_444⟩
def k0_mult19 (i : grid0.Coords) (k0_t7 : Fin (k0_t7_loop i).trips) : BitVec 32 :=
  let c4_i32_515 : BitVec 32 := 4#32
  let c0_i32_442 : BitVec 32 := 0#32
  let c1_i32_444 : BitVec 32 := 1#32
  let arg20 : BitVec 32 := Scf.iv c0_i32_442 c1_i32_444 k0_t7
  let v902 : BitVec 32 := Scalar.muli c4_i32_515 arg20
  let c0_i32_516 : BitVec 32 := 0#32
  let v903 : BitVec 32 := Scalar.addi v902 c0_i32_516
  let c256_i32_523 : BitVec 32 := 256#32
  let v910 : BitVec 32 := Scalar.muli v903 c256_i32_523
  v910
def k0_off313 (i : grid0.Coords) (k0_t7 : Fin (k0_t7_loop i).trips) (c0_i32_516 : BitVec 32) : Fin 2 → Nat :=
  let c4_i32_515 : BitVec 32 := 4#32
  let c0_i32_442 : BitVec 32 := 0#32
  let c1_i32_444 : BitVec 32 := 1#32
  let arg20 : BitVec 32 := Scf.iv c0_i32_442 c1_i32_444 k0_t7
  let v902 : BitVec 32 := Scalar.muli c4_i32_515 arg20
  let v903 : BitVec 32 := Scalar.addi v902 c0_i32_516
  let c256_i32_523 : BitVec 32 := 256#32
  let v910 : BitVec 32 := Scalar.muli v903 c256_i32_523
  let v911 : BitVec 32 := v910
  let v912 : Index := Scalar.indexCast v911
  let c0_524 : Index := 0#32
  ![v912.toNat, 0]
def k0_off314 (i : grid0.Coords) (k0_t7 : Fin (k0_t7_loop i).trips) (c0_i32_516 : BitVec 32) : Fin 3 → Nat :=
  let c4_i32_515 : BitVec 32 := 4#32
  let c0_i32_442 : BitVec 32 := 0#32
  let c1_i32_444 : BitVec 32 := 1#32
  let arg20 : BitVec 32 := Scf.iv c0_i32_442 c1_i32_444 k0_t7
  let v902 : BitVec 32 := Scalar.muli c4_i32_515 arg20
  let v903 : BitVec 32 := Scalar.addi v902 c0_i32_516
  let v918 : Index := Scalar.indexCast v903
  let c0_529 : Index := 0#32
  let c0_530 : Index := 0#32
  ![v918.toNat, 0, 0]
def k0_off315 (i : grid0.Coords) (k0_t7 : Fin (k0_t7_loop i).trips) (c0_i32_516 : BitVec 32) : Fin 3 → Nat :=
  let c0_590 : Index := 0#32
  let c4_i32_515 : BitVec 32 := 4#32
  let c0_i32_442 : BitVec 32 := 0#32
  let c1_i32_444 : BitVec 32 := 1#32
  let arg20 : BitVec 32 := Scf.iv c0_i32_442 c1_i32_444 k0_t7
  let v902 : BitVec 32 := Scalar.muli c4_i32_515 arg20
  let v903 : BitVec 32 := Scalar.addi v902 c0_i32_516
  let v1010 : Index := Scalar.indexCast v903
  let c0_591 : Index := 0#32
  ![0, v1010.toNat, 0]
def k0_off316 (i : grid0.Coords) (k0_t7 : Fin (k0_t7_loop i).trips) (c0_i32_516 : BitVec 32) : Fin 3 → Nat :=
  let c1_606 : Index := 1#32
  let c4_i32_515 : BitVec 32 := 4#32
  let c0_i32_442 : BitVec 32 := 0#32
  let c1_i32_444 : BitVec 32 := 1#32
  let arg20 : BitVec 32 := Scf.iv c0_i32_442 c1_i32_444 k0_t7
  let v902 : BitVec 32 := Scalar.muli c4_i32_515 arg20
  let v903 : BitVec 32 := Scalar.addi v902 c0_i32_516
  let v1039 : Index := Scalar.indexCast v903
  let c0_607 : Index := 0#32
  ![1, v1039.toNat, 0]
def k0_off317 (i : grid0.Coords) (k0_t7 : Fin (k0_t7_loop i).trips) (c0_i32_516 : BitVec 32) : Fin 3 → Nat :=
  let c2_622 : Index := 2#32
  let c4_i32_515 : BitVec 32 := 4#32
  let c0_i32_442 : BitVec 32 := 0#32
  let c1_i32_444 : BitVec 32 := 1#32
  let arg20 : BitVec 32 := Scf.iv c0_i32_442 c1_i32_444 k0_t7
  let v902 : BitVec 32 := Scalar.muli c4_i32_515 arg20
  let v903 : BitVec 32 := Scalar.addi v902 c0_i32_516
  let v1068 : Index := Scalar.indexCast v903
  let c0_623 : Index := 0#32
  ![2, v1068.toNat, 0]
def k0_off318 (i : grid0.Coords) (k0_t7 : Fin (k0_t7_loop i).trips) (c0_i32_516 : BitVec 32) : Fin 3 → Nat :=
  let c3_638 : Index := 3#32
  let c4_i32_515 : BitVec 32 := 4#32
  let c0_i32_442 : BitVec 32 := 0#32
  let c1_i32_444 : BitVec 32 := 1#32
  let arg20 : BitVec 32 := Scf.iv c0_i32_442 c1_i32_444 k0_t7
  let v902 : BitVec 32 := Scalar.muli c4_i32_515 arg20
  let v903 : BitVec 32 := Scalar.addi v902 c0_i32_516
  let v1097 : Index := Scalar.indexCast v903
  let c0_639 : Index := 0#32
  ![3, v1097.toNat, 0]
def k0_mult20 (i : grid0.Coords) (k0_t7 : Fin (k0_t7_loop i).trips) : BitVec 32 :=
  let c4_i32_517 : BitVec 32 := 4#32
  let c0_i32_442 : BitVec 32 := 0#32
  let c1_i32_444 : BitVec 32 := 1#32
  let arg20 : BitVec 32 := Scf.iv c0_i32_442 c1_i32_444 k0_t7
  let v904 : BitVec 32 := Scalar.muli c4_i32_517 arg20
  let c1_i32_518 : BitVec 32 := 1#32
  let v905 : BitVec 32 := Scalar.addi v904 c1_i32_518
  let c256_i32_645 : BitVec 32 := 256#32
  let v1114 : BitVec 32 := Scalar.muli v905 c256_i32_645
  v1114
def k0_mult21 (i : grid0.Coords) (k0_t7 : Fin (k0_t7_loop i).trips) : BitVec 32 :=
  let c4_i32_519 : BitVec 32 := 4#32
  let c0_i32_442 : BitVec 32 := 0#32
  let c1_i32_444 : BitVec 32 := 1#32
  let arg20 : BitVec 32 := Scf.iv c0_i32_442 c1_i32_444 k0_t7
  let v906 : BitVec 32 := Scalar.muli c4_i32_519 arg20
  let c2_i32_520 : BitVec 32 := 2#32
  let v907 : BitVec 32 := Scalar.addi v906 c2_i32_520
  let c256_i32_767 : BitVec 32 := 256#32
  let v1318 : BitVec 32 := Scalar.muli v907 c256_i32_767
  v1318
def k0_mult22 (i : grid0.Coords) (k0_t7 : Fin (k0_t7_loop i).trips) : BitVec 32 :=
  let c4_i32_521 : BitVec 32 := 4#32
  let c0_i32_442 : BitVec 32 := 0#32
  let c1_i32_444 : BitVec 32 := 1#32
  let arg20 : BitVec 32 := Scf.iv c0_i32_442 c1_i32_444 k0_t7
  let v908 : BitVec 32 := Scalar.muli c4_i32_521 arg20
  let c3_i32_522 : BitVec 32 := 3#32
  let v909 : BitVec 32 := Scalar.addi v908 c3_i32_522
  let c256_i32_889 : BitVec 32 := 256#32
  let v1522 : BitVec 32 := Scalar.muli v909 c256_i32_889
  v1522
def k0_off319 (i : grid0.Coords) (k0_t7 : Fin (k0_t7_loop i).trips) (c0_i32_516 : BitVec 32) : Fin 4 → Nat :=
  let c0_1011 : Index := 0#32
  let c4_i32_515 : BitVec 32 := 4#32
  let c0_i32_442 : BitVec 32 := 0#32
  let c1_i32_444 : BitVec 32 := 1#32
  let arg20 : BitVec 32 := Scf.iv c0_i32_442 c1_i32_444 k0_t7
  let v902 : BitVec 32 := Scalar.muli c4_i32_515 arg20
  let v903 : BitVec 32 := Scalar.addi v902 c0_i32_516
  let v1950 : Index := Scalar.indexCast v903
  let c0_1012 : Index := 0#32
  let c0_1013 : Index := 0#32
  ![0, v1950.toNat, 0, 0]
def k0_off320 (i : grid0.Coords) (k0_t7 : Fin (k0_t7_loop i).trips) (c0_i32_516 : BitVec 32) : Fin 4 → Nat :=
  let c0_1021 : Index := 0#32
  let c4_i32_515 : BitVec 32 := 4#32
  let c0_i32_442 : BitVec 32 := 0#32
  let c1_i32_444 : BitVec 32 := 1#32
  let arg20 : BitVec 32 := Scf.iv c0_i32_442 c1_i32_444 k0_t7
  let v902 : BitVec 32 := Scalar.muli c4_i32_515 arg20
  let v903 : BitVec 32 := Scalar.addi v902 c0_i32_516
  let v1966 : Index := Scalar.indexCast v903
  let c64_1022 : Index := 64#32
  let c0_1023 : Index := 0#32
  ![0, v1966.toNat, 64, 0]
def k0_off321 (i : grid0.Coords) (k0_t7 : Fin (k0_t7_loop i).trips) (c0_i32_516 : BitVec 32) : Fin 4 → Nat :=
  let c0_1031 : Index := 0#32
  let c4_i32_515 : BitVec 32 := 4#32
  let c0_i32_442 : BitVec 32 := 0#32
  let c1_i32_444 : BitVec 32 := 1#32
  let arg20 : BitVec 32 := Scf.iv c0_i32_442 c1_i32_444 k0_t7
  let v902 : BitVec 32 := Scalar.muli c4_i32_515 arg20
  let v903 : BitVec 32 := Scalar.addi v902 c0_i32_516
  let v1982 : Index := Scalar.indexCast v903
  let c128 : Index := 128#32
  let c0_1032 : Index := 0#32
  ![0, v1982.toNat, 128, 0]
def k0_off322 (i : grid0.Coords) (k0_t7 : Fin (k0_t7_loop i).trips) (c0_i32_516 : BitVec 32) : Fin 4 → Nat :=
  let c0_1040 : Index := 0#32
  let c4_i32_515 : BitVec 32 := 4#32
  let c0_i32_442 : BitVec 32 := 0#32
  let c1_i32_444 : BitVec 32 := 1#32
  let arg20 : BitVec 32 := Scf.iv c0_i32_442 c1_i32_444 k0_t7
  let v902 : BitVec 32 := Scalar.muli c4_i32_515 arg20
  let v903 : BitVec 32 := Scalar.addi v902 c0_i32_516
  let v1998 : Index := Scalar.indexCast v903
  let c192 : Index := 192#32
  let c0_1041 : Index := 0#32
  ![0, v1998.toNat, 192, 0]
def k0_off323 (i : grid0.Coords) (k0_t7 : Fin (k0_t7_loop i).trips) (c0_i32_516 : BitVec 32) : Fin 4 → Nat :=
  let c0_1049 : Index := 0#32
  let c4_i32_515 : BitVec 32 := 4#32
  let c0_i32_442 : BitVec 32 := 0#32
  let c1_i32_444 : BitVec 32 := 1#32
  let arg20 : BitVec 32 := Scf.iv c0_i32_442 c1_i32_444 k0_t7
  let v902 : BitVec 32 := Scalar.muli c4_i32_515 arg20
  let v903 : BitVec 32 := Scalar.addi v902 c0_i32_516
  let v2014 : Index := Scalar.indexCast v903
  let c256 : Index := 256#32
  let c0_1050 : Index := 0#32
  ![0, v2014.toNat, 256, 0]
def k0_off324 (i : grid0.Coords) (k0_t7 : Fin (k0_t7_loop i).trips) (c0_i32_516 : BitVec 32) : Fin 4 → Nat :=
  let c0_1058 : Index := 0#32
  let c4_i32_515 : BitVec 32 := 4#32
  let c0_i32_442 : BitVec 32 := 0#32
  let c1_i32_444 : BitVec 32 := 1#32
  let arg20 : BitVec 32 := Scf.iv c0_i32_442 c1_i32_444 k0_t7
  let v902 : BitVec 32 := Scalar.muli c4_i32_515 arg20
  let v903 : BitVec 32 := Scalar.addi v902 c0_i32_516
  let v2030 : Index := Scalar.indexCast v903
  let c320 : Index := 320#32
  let c0_1059 : Index := 0#32
  ![0, v2030.toNat, 320, 0]
def k0_off325 (i : grid0.Coords) (k0_t7 : Fin (k0_t7_loop i).trips) (c0_i32_516 : BitVec 32) : Fin 4 → Nat :=
  let c0_1067 : Index := 0#32
  let c4_i32_515 : BitVec 32 := 4#32
  let c0_i32_442 : BitVec 32 := 0#32
  let c1_i32_444 : BitVec 32 := 1#32
  let arg20 : BitVec 32 := Scf.iv c0_i32_442 c1_i32_444 k0_t7
  let v902 : BitVec 32 := Scalar.muli c4_i32_515 arg20
  let v903 : BitVec 32 := Scalar.addi v902 c0_i32_516
  let v2046 : Index := Scalar.indexCast v903
  let c384 : Index := 384#32
  let c0_1068 : Index := 0#32
  ![0, v2046.toNat, 384, 0]
def k0_off326 (i : grid0.Coords) (k0_t7 : Fin (k0_t7_loop i).trips) (c0_i32_516 : BitVec 32) : Fin 4 → Nat :=
  let c0_1076 : Index := 0#32
  let c4_i32_515 : BitVec 32 := 4#32
  let c0_i32_442 : BitVec 32 := 0#32
  let c1_i32_444 : BitVec 32 := 1#32
  let arg20 : BitVec 32 := Scf.iv c0_i32_442 c1_i32_444 k0_t7
  let v902 : BitVec 32 := Scalar.muli c4_i32_515 arg20
  let v903 : BitVec 32 := Scalar.addi v902 c0_i32_516
  let v2062 : Index := Scalar.indexCast v903
  let c448 : Index := 448#32
  let c0_1077 : Index := 0#32
  ![0, v2062.toNat, 448, 0]
@[reducible] def k0_t8_loop (i : grid0.Coords) : Scf.Loop 32 :=
  let c0_i32_442 : BitVec 32 := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c0_i32_435 : BitVec 32 := 0#32
  let v796 : BitVec 1 := Scalar.cmpi .sgt v794 c0_i32_435
  let v797 : BitVec 32 := Scalar.extui v796
  let c0_i32_436 : BitVec 32 := 0#32
  let v798 : BitVec 1 := Scalar.cmpi .slt v794 c0_i32_436
  let v799 : BitVec 32 := Scalar.extui v798
  let v800 : BitVec 32 := Scalar.subi v797 v799
  let c4_i32_434 : BitVec 32 := 4#32
  let c0_i32_437 : BitVec 32 := 0#32
  let v801 : BitVec 1 := Scalar.cmpi .sgt c4_i32_434 c0_i32_437
  let v802 : BitVec 32 := Scalar.extui v801
  let c0_i32_438 : BitVec 32 := 0#32
  let v803 : BitVec 1 := Scalar.cmpi .slt c4_i32_434 c0_i32_438
  let v804 : BitVec 32 := Scalar.extui v803
  let v805 : BitVec 32 := Scalar.subi v802 v804
  let v806 : BitVec 1 := Scalar.cmpi .ne v800 v805
  let v807 : BitVec 32 := Scalar.remsi v794 c4_i32_434
  let c0_i32_439 : BitVec 32 := 0#32
  let v808 : BitVec 1 := Scalar.cmpi .ne v807 c0_i32_439
  let v809 : BitVec 1 := Scalar.andi v806 v808
  let v795 : BitVec 32 := Scalar.divsi v794 c4_i32_434
  let c1_i32_440 : BitVec 32 := 1#32
  let v810 : BitVec 32 := Scalar.subi v795 c1_i32_440
  let v811 : BitVec 32 := Scalar.select v809 v810 v795
  let v812 : BitVec 32 := Scalar.subi v811 c0_i32_442
  let c1_i32_443 : BitVec 32 := 1#32
  let v814 : BitVec 32 := Scalar.divsi v812 c1_i32_443
  let v815 : BitVec 32 := Scalar.muli v814 c1_i32_443
  let v816 : BitVec 32 := Scalar.addi c0_i32_442 v815
  let v813 : BitVec 32 := Scalar.addi c0_i32_442 v812
  let c1_i32_445 : BitVec 32 := 1#32
  ⟨v816, v813, c1_i32_445⟩
def k0_mult23 (i : grid0.Coords) (k0_t8 : Fin (k0_t8_loop i).trips) : BitVec 32 :=
  let c4_i32_515 : BitVec 32 := 4#32
  let c0_i32_442 : BitVec 32 := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c0_i32_435 : BitVec 32 := 0#32
  let v796 : BitVec 1 := Scalar.cmpi .sgt v794 c0_i32_435
  let v797 : BitVec 32 := Scalar.extui v796
  let c0_i32_436 : BitVec 32 := 0#32
  let v798 : BitVec 1 := Scalar.cmpi .slt v794 c0_i32_436
  let v799 : BitVec 32 := Scalar.extui v798
  let v800 : BitVec 32 := Scalar.subi v797 v799
  let c4_i32_434 : BitVec 32 := 4#32
  let c0_i32_437 : BitVec 32 := 0#32
  let v801 : BitVec 1 := Scalar.cmpi .sgt c4_i32_434 c0_i32_437
  let v802 : BitVec 32 := Scalar.extui v801
  let c0_i32_438 : BitVec 32 := 0#32
  let v803 : BitVec 1 := Scalar.cmpi .slt c4_i32_434 c0_i32_438
  let v804 : BitVec 32 := Scalar.extui v803
  let v805 : BitVec 32 := Scalar.subi v802 v804
  let v806 : BitVec 1 := Scalar.cmpi .ne v800 v805
  let v807 : BitVec 32 := Scalar.remsi v794 c4_i32_434
  let c0_i32_439 : BitVec 32 := 0#32
  let v808 : BitVec 1 := Scalar.cmpi .ne v807 c0_i32_439
  let v809 : BitVec 1 := Scalar.andi v806 v808
  let v795 : BitVec 32 := Scalar.divsi v794 c4_i32_434
  let c1_i32_440 : BitVec 32 := 1#32
  let v810 : BitVec 32 := Scalar.subi v795 c1_i32_440
  let v811 : BitVec 32 := Scalar.select v809 v810 v795
  let v812 : BitVec 32 := Scalar.subi v811 c0_i32_442
  let c1_i32_443 : BitVec 32 := 1#32
  let v814 : BitVec 32 := Scalar.divsi v812 c1_i32_443
  let v815 : BitVec 32 := Scalar.muli v814 c1_i32_443
  let v816 : BitVec 32 := Scalar.addi c0_i32_442 v815
  let c1_i32_445 : BitVec 32 := 1#32
  let arg20 : BitVec 32 := Scf.iv v816 c1_i32_445 k0_t8
  let v902 : BitVec 32 := Scalar.muli c4_i32_515 arg20
  let c0_i32_516 : BitVec 32 := 0#32
  let v903 : BitVec 32 := Scalar.addi v902 c0_i32_516
  let c256_i32_523 : BitVec 32 := 256#32
  let v910 : BitVec 32 := Scalar.muli v903 c256_i32_523
  v910
def k0_off327 (i : grid0.Coords) (k0_t8 : Fin (k0_t8_loop i).trips) (c0_i32_516 : BitVec 32) : Fin 2 → Nat :=
  let c4_i32_515 : BitVec 32 := 4#32
  let c0_i32_442 : BitVec 32 := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c0_i32_435 : BitVec 32 := 0#32
  let v796 : BitVec 1 := Scalar.cmpi .sgt v794 c0_i32_435
  let v797 : BitVec 32 := Scalar.extui v796
  let c0_i32_436 : BitVec 32 := 0#32
  let v798 : BitVec 1 := Scalar.cmpi .slt v794 c0_i32_436
  let v799 : BitVec 32 := Scalar.extui v798
  let v800 : BitVec 32 := Scalar.subi v797 v799
  let c4_i32_434 : BitVec 32 := 4#32
  let c0_i32_437 : BitVec 32 := 0#32
  let v801 : BitVec 1 := Scalar.cmpi .sgt c4_i32_434 c0_i32_437
  let v802 : BitVec 32 := Scalar.extui v801
  let c0_i32_438 : BitVec 32 := 0#32
  let v803 : BitVec 1 := Scalar.cmpi .slt c4_i32_434 c0_i32_438
  let v804 : BitVec 32 := Scalar.extui v803
  let v805 : BitVec 32 := Scalar.subi v802 v804
  let v806 : BitVec 1 := Scalar.cmpi .ne v800 v805
  let v807 : BitVec 32 := Scalar.remsi v794 c4_i32_434
  let c0_i32_439 : BitVec 32 := 0#32
  let v808 : BitVec 1 := Scalar.cmpi .ne v807 c0_i32_439
  let v809 : BitVec 1 := Scalar.andi v806 v808
  let v795 : BitVec 32 := Scalar.divsi v794 c4_i32_434
  let c1_i32_440 : BitVec 32 := 1#32
  let v810 : BitVec 32 := Scalar.subi v795 c1_i32_440
  let v811 : BitVec 32 := Scalar.select v809 v810 v795
  let v812 : BitVec 32 := Scalar.subi v811 c0_i32_442
  let c1_i32_443 : BitVec 32 := 1#32
  let v814 : BitVec 32 := Scalar.divsi v812 c1_i32_443
  let v815 : BitVec 32 := Scalar.muli v814 c1_i32_443
  let v816 : BitVec 32 := Scalar.addi c0_i32_442 v815
  let c1_i32_445 : BitVec 32 := 1#32
  let arg20 : BitVec 32 := Scf.iv v816 c1_i32_445 k0_t8
  let v902 : BitVec 32 := Scalar.muli c4_i32_515 arg20
  let v903 : BitVec 32 := Scalar.addi v902 c0_i32_516
  let c256_i32_523 : BitVec 32 := 256#32
  let v910 : BitVec 32 := Scalar.muli v903 c256_i32_523
  let v911 : BitVec 32 := v910
  let v912 : Index := Scalar.indexCast v911
  let c0_524 : Index := 0#32
  ![v912.toNat, 0]
def k0_off328 (i : grid0.Coords) (k0_t8 : Fin (k0_t8_loop i).trips) (c0_i32_516 : BitVec 32) : Fin 3 → Nat :=
  let c4_i32_515 : BitVec 32 := 4#32
  let c0_i32_442 : BitVec 32 := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c0_i32_435 : BitVec 32 := 0#32
  let v796 : BitVec 1 := Scalar.cmpi .sgt v794 c0_i32_435
  let v797 : BitVec 32 := Scalar.extui v796
  let c0_i32_436 : BitVec 32 := 0#32
  let v798 : BitVec 1 := Scalar.cmpi .slt v794 c0_i32_436
  let v799 : BitVec 32 := Scalar.extui v798
  let v800 : BitVec 32 := Scalar.subi v797 v799
  let c4_i32_434 : BitVec 32 := 4#32
  let c0_i32_437 : BitVec 32 := 0#32
  let v801 : BitVec 1 := Scalar.cmpi .sgt c4_i32_434 c0_i32_437
  let v802 : BitVec 32 := Scalar.extui v801
  let c0_i32_438 : BitVec 32 := 0#32
  let v803 : BitVec 1 := Scalar.cmpi .slt c4_i32_434 c0_i32_438
  let v804 : BitVec 32 := Scalar.extui v803
  let v805 : BitVec 32 := Scalar.subi v802 v804
  let v806 : BitVec 1 := Scalar.cmpi .ne v800 v805
  let v807 : BitVec 32 := Scalar.remsi v794 c4_i32_434
  let c0_i32_439 : BitVec 32 := 0#32
  let v808 : BitVec 1 := Scalar.cmpi .ne v807 c0_i32_439
  let v809 : BitVec 1 := Scalar.andi v806 v808
  let v795 : BitVec 32 := Scalar.divsi v794 c4_i32_434
  let c1_i32_440 : BitVec 32 := 1#32
  let v810 : BitVec 32 := Scalar.subi v795 c1_i32_440
  let v811 : BitVec 32 := Scalar.select v809 v810 v795
  let v812 : BitVec 32 := Scalar.subi v811 c0_i32_442
  let c1_i32_443 : BitVec 32 := 1#32
  let v814 : BitVec 32 := Scalar.divsi v812 c1_i32_443
  let v815 : BitVec 32 := Scalar.muli v814 c1_i32_443
  let v816 : BitVec 32 := Scalar.addi c0_i32_442 v815
  let c1_i32_445 : BitVec 32 := 1#32
  let arg20 : BitVec 32 := Scf.iv v816 c1_i32_445 k0_t8
  let v902 : BitVec 32 := Scalar.muli c4_i32_515 arg20
  let v903 : BitVec 32 := Scalar.addi v902 c0_i32_516
  let v918 : Index := Scalar.indexCast v903
  let c0_529 : Index := 0#32
  let c0_530 : Index := 0#32
  ![v918.toNat, 0, 0]
def k0_off329 (i : grid0.Coords) (k0_t8 : Fin (k0_t8_loop i).trips) (c0_i32_516 : BitVec 32) : Fin 3 → Nat :=
  let c0_590 : Index := 0#32
  let c4_i32_515 : BitVec 32 := 4#32
  let c0_i32_442 : BitVec 32 := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c0_i32_435 : BitVec 32 := 0#32
  let v796 : BitVec 1 := Scalar.cmpi .sgt v794 c0_i32_435
  let v797 : BitVec 32 := Scalar.extui v796
  let c0_i32_436 : BitVec 32 := 0#32
  let v798 : BitVec 1 := Scalar.cmpi .slt v794 c0_i32_436
  let v799 : BitVec 32 := Scalar.extui v798
  let v800 : BitVec 32 := Scalar.subi v797 v799
  let c4_i32_434 : BitVec 32 := 4#32
  let c0_i32_437 : BitVec 32 := 0#32
  let v801 : BitVec 1 := Scalar.cmpi .sgt c4_i32_434 c0_i32_437
  let v802 : BitVec 32 := Scalar.extui v801
  let c0_i32_438 : BitVec 32 := 0#32
  let v803 : BitVec 1 := Scalar.cmpi .slt c4_i32_434 c0_i32_438
  let v804 : BitVec 32 := Scalar.extui v803
  let v805 : BitVec 32 := Scalar.subi v802 v804
  let v806 : BitVec 1 := Scalar.cmpi .ne v800 v805
  let v807 : BitVec 32 := Scalar.remsi v794 c4_i32_434
  let c0_i32_439 : BitVec 32 := 0#32
  let v808 : BitVec 1 := Scalar.cmpi .ne v807 c0_i32_439
  let v809 : BitVec 1 := Scalar.andi v806 v808
  let v795 : BitVec 32 := Scalar.divsi v794 c4_i32_434
  let c1_i32_440 : BitVec 32 := 1#32
  let v810 : BitVec 32 := Scalar.subi v795 c1_i32_440
  let v811 : BitVec 32 := Scalar.select v809 v810 v795
  let v812 : BitVec 32 := Scalar.subi v811 c0_i32_442
  let c1_i32_443 : BitVec 32 := 1#32
  let v814 : BitVec 32 := Scalar.divsi v812 c1_i32_443
  let v815 : BitVec 32 := Scalar.muli v814 c1_i32_443
  let v816 : BitVec 32 := Scalar.addi c0_i32_442 v815
  let c1_i32_445 : BitVec 32 := 1#32
  let arg20 : BitVec 32 := Scf.iv v816 c1_i32_445 k0_t8
  let v902 : BitVec 32 := Scalar.muli c4_i32_515 arg20
  let v903 : BitVec 32 := Scalar.addi v902 c0_i32_516
  let v1010 : Index := Scalar.indexCast v903
  let c0_591 : Index := 0#32
  ![0, v1010.toNat, 0]
def k0_off330 (i : grid0.Coords) (k0_t8 : Fin (k0_t8_loop i).trips) (c0_i32_516 : BitVec 32) : Fin 3 → Nat :=
  let c1_606 : Index := 1#32
  let c4_i32_515 : BitVec 32 := 4#32
  let c0_i32_442 : BitVec 32 := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c0_i32_435 : BitVec 32 := 0#32
  let v796 : BitVec 1 := Scalar.cmpi .sgt v794 c0_i32_435
  let v797 : BitVec 32 := Scalar.extui v796
  let c0_i32_436 : BitVec 32 := 0#32
  let v798 : BitVec 1 := Scalar.cmpi .slt v794 c0_i32_436
  let v799 : BitVec 32 := Scalar.extui v798
  let v800 : BitVec 32 := Scalar.subi v797 v799
  let c4_i32_434 : BitVec 32 := 4#32
  let c0_i32_437 : BitVec 32 := 0#32
  let v801 : BitVec 1 := Scalar.cmpi .sgt c4_i32_434 c0_i32_437
  let v802 : BitVec 32 := Scalar.extui v801
  let c0_i32_438 : BitVec 32 := 0#32
  let v803 : BitVec 1 := Scalar.cmpi .slt c4_i32_434 c0_i32_438
  let v804 : BitVec 32 := Scalar.extui v803
  let v805 : BitVec 32 := Scalar.subi v802 v804
  let v806 : BitVec 1 := Scalar.cmpi .ne v800 v805
  let v807 : BitVec 32 := Scalar.remsi v794 c4_i32_434
  let c0_i32_439 : BitVec 32 := 0#32
  let v808 : BitVec 1 := Scalar.cmpi .ne v807 c0_i32_439
  let v809 : BitVec 1 := Scalar.andi v806 v808
  let v795 : BitVec 32 := Scalar.divsi v794 c4_i32_434
  let c1_i32_440 : BitVec 32 := 1#32
  let v810 : BitVec 32 := Scalar.subi v795 c1_i32_440
  let v811 : BitVec 32 := Scalar.select v809 v810 v795
  let v812 : BitVec 32 := Scalar.subi v811 c0_i32_442
  let c1_i32_443 : BitVec 32 := 1#32
  let v814 : BitVec 32 := Scalar.divsi v812 c1_i32_443
  let v815 : BitVec 32 := Scalar.muli v814 c1_i32_443
  let v816 : BitVec 32 := Scalar.addi c0_i32_442 v815
  let c1_i32_445 : BitVec 32 := 1#32
  let arg20 : BitVec 32 := Scf.iv v816 c1_i32_445 k0_t8
  let v902 : BitVec 32 := Scalar.muli c4_i32_515 arg20
  let v903 : BitVec 32 := Scalar.addi v902 c0_i32_516
  let v1039 : Index := Scalar.indexCast v903
  let c0_607 : Index := 0#32
  ![1, v1039.toNat, 0]
def k0_off331 (i : grid0.Coords) (k0_t8 : Fin (k0_t8_loop i).trips) (c0_i32_516 : BitVec 32) : Fin 3 → Nat :=
  let c2_622 : Index := 2#32
  let c4_i32_515 : BitVec 32 := 4#32
  let c0_i32_442 : BitVec 32 := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c0_i32_435 : BitVec 32 := 0#32
  let v796 : BitVec 1 := Scalar.cmpi .sgt v794 c0_i32_435
  let v797 : BitVec 32 := Scalar.extui v796
  let c0_i32_436 : BitVec 32 := 0#32
  let v798 : BitVec 1 := Scalar.cmpi .slt v794 c0_i32_436
  let v799 : BitVec 32 := Scalar.extui v798
  let v800 : BitVec 32 := Scalar.subi v797 v799
  let c4_i32_434 : BitVec 32 := 4#32
  let c0_i32_437 : BitVec 32 := 0#32
  let v801 : BitVec 1 := Scalar.cmpi .sgt c4_i32_434 c0_i32_437
  let v802 : BitVec 32 := Scalar.extui v801
  let c0_i32_438 : BitVec 32 := 0#32
  let v803 : BitVec 1 := Scalar.cmpi .slt c4_i32_434 c0_i32_438
  let v804 : BitVec 32 := Scalar.extui v803
  let v805 : BitVec 32 := Scalar.subi v802 v804
  let v806 : BitVec 1 := Scalar.cmpi .ne v800 v805
  let v807 : BitVec 32 := Scalar.remsi v794 c4_i32_434
  let c0_i32_439 : BitVec 32 := 0#32
  let v808 : BitVec 1 := Scalar.cmpi .ne v807 c0_i32_439
  let v809 : BitVec 1 := Scalar.andi v806 v808
  let v795 : BitVec 32 := Scalar.divsi v794 c4_i32_434
  let c1_i32_440 : BitVec 32 := 1#32
  let v810 : BitVec 32 := Scalar.subi v795 c1_i32_440
  let v811 : BitVec 32 := Scalar.select v809 v810 v795
  let v812 : BitVec 32 := Scalar.subi v811 c0_i32_442
  let c1_i32_443 : BitVec 32 := 1#32
  let v814 : BitVec 32 := Scalar.divsi v812 c1_i32_443
  let v815 : BitVec 32 := Scalar.muli v814 c1_i32_443
  let v816 : BitVec 32 := Scalar.addi c0_i32_442 v815
  let c1_i32_445 : BitVec 32 := 1#32
  let arg20 : BitVec 32 := Scf.iv v816 c1_i32_445 k0_t8
  let v902 : BitVec 32 := Scalar.muli c4_i32_515 arg20
  let v903 : BitVec 32 := Scalar.addi v902 c0_i32_516
  let v1068 : Index := Scalar.indexCast v903
  let c0_623 : Index := 0#32
  ![2, v1068.toNat, 0]
def k0_off332 (i : grid0.Coords) (k0_t8 : Fin (k0_t8_loop i).trips) (c0_i32_516 : BitVec 32) : Fin 3 → Nat :=
  let c3_638 : Index := 3#32
  let c4_i32_515 : BitVec 32 := 4#32
  let c0_i32_442 : BitVec 32 := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c0_i32_435 : BitVec 32 := 0#32
  let v796 : BitVec 1 := Scalar.cmpi .sgt v794 c0_i32_435
  let v797 : BitVec 32 := Scalar.extui v796
  let c0_i32_436 : BitVec 32 := 0#32
  let v798 : BitVec 1 := Scalar.cmpi .slt v794 c0_i32_436
  let v799 : BitVec 32 := Scalar.extui v798
  let v800 : BitVec 32 := Scalar.subi v797 v799
  let c4_i32_434 : BitVec 32 := 4#32
  let c0_i32_437 : BitVec 32 := 0#32
  let v801 : BitVec 1 := Scalar.cmpi .sgt c4_i32_434 c0_i32_437
  let v802 : BitVec 32 := Scalar.extui v801
  let c0_i32_438 : BitVec 32 := 0#32
  let v803 : BitVec 1 := Scalar.cmpi .slt c4_i32_434 c0_i32_438
  let v804 : BitVec 32 := Scalar.extui v803
  let v805 : BitVec 32 := Scalar.subi v802 v804
  let v806 : BitVec 1 := Scalar.cmpi .ne v800 v805
  let v807 : BitVec 32 := Scalar.remsi v794 c4_i32_434
  let c0_i32_439 : BitVec 32 := 0#32
  let v808 : BitVec 1 := Scalar.cmpi .ne v807 c0_i32_439
  let v809 : BitVec 1 := Scalar.andi v806 v808
  let v795 : BitVec 32 := Scalar.divsi v794 c4_i32_434
  let c1_i32_440 : BitVec 32 := 1#32
  let v810 : BitVec 32 := Scalar.subi v795 c1_i32_440
  let v811 : BitVec 32 := Scalar.select v809 v810 v795
  let v812 : BitVec 32 := Scalar.subi v811 c0_i32_442
  let c1_i32_443 : BitVec 32 := 1#32
  let v814 : BitVec 32 := Scalar.divsi v812 c1_i32_443
  let v815 : BitVec 32 := Scalar.muli v814 c1_i32_443
  let v816 : BitVec 32 := Scalar.addi c0_i32_442 v815
  let c1_i32_445 : BitVec 32 := 1#32
  let arg20 : BitVec 32 := Scf.iv v816 c1_i32_445 k0_t8
  let v902 : BitVec 32 := Scalar.muli c4_i32_515 arg20
  let v903 : BitVec 32 := Scalar.addi v902 c0_i32_516
  let v1097 : Index := Scalar.indexCast v903
  let c0_639 : Index := 0#32
  ![3, v1097.toNat, 0]
def k0_mult24 (i : grid0.Coords) (k0_t8 : Fin (k0_t8_loop i).trips) : BitVec 32 :=
  let c4_i32_517 : BitVec 32 := 4#32
  let c0_i32_442 : BitVec 32 := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c0_i32_435 : BitVec 32 := 0#32
  let v796 : BitVec 1 := Scalar.cmpi .sgt v794 c0_i32_435
  let v797 : BitVec 32 := Scalar.extui v796
  let c0_i32_436 : BitVec 32 := 0#32
  let v798 : BitVec 1 := Scalar.cmpi .slt v794 c0_i32_436
  let v799 : BitVec 32 := Scalar.extui v798
  let v800 : BitVec 32 := Scalar.subi v797 v799
  let c4_i32_434 : BitVec 32 := 4#32
  let c0_i32_437 : BitVec 32 := 0#32
  let v801 : BitVec 1 := Scalar.cmpi .sgt c4_i32_434 c0_i32_437
  let v802 : BitVec 32 := Scalar.extui v801
  let c0_i32_438 : BitVec 32 := 0#32
  let v803 : BitVec 1 := Scalar.cmpi .slt c4_i32_434 c0_i32_438
  let v804 : BitVec 32 := Scalar.extui v803
  let v805 : BitVec 32 := Scalar.subi v802 v804
  let v806 : BitVec 1 := Scalar.cmpi .ne v800 v805
  let v807 : BitVec 32 := Scalar.remsi v794 c4_i32_434
  let c0_i32_439 : BitVec 32 := 0#32
  let v808 : BitVec 1 := Scalar.cmpi .ne v807 c0_i32_439
  let v809 : BitVec 1 := Scalar.andi v806 v808
  let v795 : BitVec 32 := Scalar.divsi v794 c4_i32_434
  let c1_i32_440 : BitVec 32 := 1#32
  let v810 : BitVec 32 := Scalar.subi v795 c1_i32_440
  let v811 : BitVec 32 := Scalar.select v809 v810 v795
  let v812 : BitVec 32 := Scalar.subi v811 c0_i32_442
  let c1_i32_443 : BitVec 32 := 1#32
  let v814 : BitVec 32 := Scalar.divsi v812 c1_i32_443
  let v815 : BitVec 32 := Scalar.muli v814 c1_i32_443
  let v816 : BitVec 32 := Scalar.addi c0_i32_442 v815
  let c1_i32_445 : BitVec 32 := 1#32
  let arg20 : BitVec 32 := Scf.iv v816 c1_i32_445 k0_t8
  let v904 : BitVec 32 := Scalar.muli c4_i32_517 arg20
  let c1_i32_518 : BitVec 32 := 1#32
  let v905 : BitVec 32 := Scalar.addi v904 c1_i32_518
  let c256_i32_645 : BitVec 32 := 256#32
  let v1114 : BitVec 32 := Scalar.muli v905 c256_i32_645
  v1114
def k0_mult25 (i : grid0.Coords) (k0_t8 : Fin (k0_t8_loop i).trips) : BitVec 32 :=
  let c4_i32_519 : BitVec 32 := 4#32
  let c0_i32_442 : BitVec 32 := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c0_i32_435 : BitVec 32 := 0#32
  let v796 : BitVec 1 := Scalar.cmpi .sgt v794 c0_i32_435
  let v797 : BitVec 32 := Scalar.extui v796
  let c0_i32_436 : BitVec 32 := 0#32
  let v798 : BitVec 1 := Scalar.cmpi .slt v794 c0_i32_436
  let v799 : BitVec 32 := Scalar.extui v798
  let v800 : BitVec 32 := Scalar.subi v797 v799
  let c4_i32_434 : BitVec 32 := 4#32
  let c0_i32_437 : BitVec 32 := 0#32
  let v801 : BitVec 1 := Scalar.cmpi .sgt c4_i32_434 c0_i32_437
  let v802 : BitVec 32 := Scalar.extui v801
  let c0_i32_438 : BitVec 32 := 0#32
  let v803 : BitVec 1 := Scalar.cmpi .slt c4_i32_434 c0_i32_438
  let v804 : BitVec 32 := Scalar.extui v803
  let v805 : BitVec 32 := Scalar.subi v802 v804
  let v806 : BitVec 1 := Scalar.cmpi .ne v800 v805
  let v807 : BitVec 32 := Scalar.remsi v794 c4_i32_434
  let c0_i32_439 : BitVec 32 := 0#32
  let v808 : BitVec 1 := Scalar.cmpi .ne v807 c0_i32_439
  let v809 : BitVec 1 := Scalar.andi v806 v808
  let v795 : BitVec 32 := Scalar.divsi v794 c4_i32_434
  let c1_i32_440 : BitVec 32 := 1#32
  let v810 : BitVec 32 := Scalar.subi v795 c1_i32_440
  let v811 : BitVec 32 := Scalar.select v809 v810 v795
  let v812 : BitVec 32 := Scalar.subi v811 c0_i32_442
  let c1_i32_443 : BitVec 32 := 1#32
  let v814 : BitVec 32 := Scalar.divsi v812 c1_i32_443
  let v815 : BitVec 32 := Scalar.muli v814 c1_i32_443
  let v816 : BitVec 32 := Scalar.addi c0_i32_442 v815
  let c1_i32_445 : BitVec 32 := 1#32
  let arg20 : BitVec 32 := Scf.iv v816 c1_i32_445 k0_t8
  let v906 : BitVec 32 := Scalar.muli c4_i32_519 arg20
  let c2_i32_520 : BitVec 32 := 2#32
  let v907 : BitVec 32 := Scalar.addi v906 c2_i32_520
  let c256_i32_767 : BitVec 32 := 256#32
  let v1318 : BitVec 32 := Scalar.muli v907 c256_i32_767
  v1318
def k0_mult26 (i : grid0.Coords) (k0_t8 : Fin (k0_t8_loop i).trips) : BitVec 32 :=
  let c4_i32_521 : BitVec 32 := 4#32
  let c0_i32_442 : BitVec 32 := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c0_i32_435 : BitVec 32 := 0#32
  let v796 : BitVec 1 := Scalar.cmpi .sgt v794 c0_i32_435
  let v797 : BitVec 32 := Scalar.extui v796
  let c0_i32_436 : BitVec 32 := 0#32
  let v798 : BitVec 1 := Scalar.cmpi .slt v794 c0_i32_436
  let v799 : BitVec 32 := Scalar.extui v798
  let v800 : BitVec 32 := Scalar.subi v797 v799
  let c4_i32_434 : BitVec 32 := 4#32
  let c0_i32_437 : BitVec 32 := 0#32
  let v801 : BitVec 1 := Scalar.cmpi .sgt c4_i32_434 c0_i32_437
  let v802 : BitVec 32 := Scalar.extui v801
  let c0_i32_438 : BitVec 32 := 0#32
  let v803 : BitVec 1 := Scalar.cmpi .slt c4_i32_434 c0_i32_438
  let v804 : BitVec 32 := Scalar.extui v803
  let v805 : BitVec 32 := Scalar.subi v802 v804
  let v806 : BitVec 1 := Scalar.cmpi .ne v800 v805
  let v807 : BitVec 32 := Scalar.remsi v794 c4_i32_434
  let c0_i32_439 : BitVec 32 := 0#32
  let v808 : BitVec 1 := Scalar.cmpi .ne v807 c0_i32_439
  let v809 : BitVec 1 := Scalar.andi v806 v808
  let v795 : BitVec 32 := Scalar.divsi v794 c4_i32_434
  let c1_i32_440 : BitVec 32 := 1#32
  let v810 : BitVec 32 := Scalar.subi v795 c1_i32_440
  let v811 : BitVec 32 := Scalar.select v809 v810 v795
  let v812 : BitVec 32 := Scalar.subi v811 c0_i32_442
  let c1_i32_443 : BitVec 32 := 1#32
  let v814 : BitVec 32 := Scalar.divsi v812 c1_i32_443
  let v815 : BitVec 32 := Scalar.muli v814 c1_i32_443
  let v816 : BitVec 32 := Scalar.addi c0_i32_442 v815
  let c1_i32_445 : BitVec 32 := 1#32
  let arg20 : BitVec 32 := Scf.iv v816 c1_i32_445 k0_t8
  let v908 : BitVec 32 := Scalar.muli c4_i32_521 arg20
  let c3_i32_522 : BitVec 32 := 3#32
  let v909 : BitVec 32 := Scalar.addi v908 c3_i32_522
  let c256_i32_889 : BitVec 32 := 256#32
  let v1522 : BitVec 32 := Scalar.muli v909 c256_i32_889
  v1522
def k0_off333 (i : grid0.Coords) (k0_t8 : Fin (k0_t8_loop i).trips) (c0_i32_516 : BitVec 32) : Fin 4 → Nat :=
  let c0_1011 : Index := 0#32
  let c4_i32_515 : BitVec 32 := 4#32
  let c0_i32_442 : BitVec 32 := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c0_i32_435 : BitVec 32 := 0#32
  let v796 : BitVec 1 := Scalar.cmpi .sgt v794 c0_i32_435
  let v797 : BitVec 32 := Scalar.extui v796
  let c0_i32_436 : BitVec 32 := 0#32
  let v798 : BitVec 1 := Scalar.cmpi .slt v794 c0_i32_436
  let v799 : BitVec 32 := Scalar.extui v798
  let v800 : BitVec 32 := Scalar.subi v797 v799
  let c4_i32_434 : BitVec 32 := 4#32
  let c0_i32_437 : BitVec 32 := 0#32
  let v801 : BitVec 1 := Scalar.cmpi .sgt c4_i32_434 c0_i32_437
  let v802 : BitVec 32 := Scalar.extui v801
  let c0_i32_438 : BitVec 32 := 0#32
  let v803 : BitVec 1 := Scalar.cmpi .slt c4_i32_434 c0_i32_438
  let v804 : BitVec 32 := Scalar.extui v803
  let v805 : BitVec 32 := Scalar.subi v802 v804
  let v806 : BitVec 1 := Scalar.cmpi .ne v800 v805
  let v807 : BitVec 32 := Scalar.remsi v794 c4_i32_434
  let c0_i32_439 : BitVec 32 := 0#32
  let v808 : BitVec 1 := Scalar.cmpi .ne v807 c0_i32_439
  let v809 : BitVec 1 := Scalar.andi v806 v808
  let v795 : BitVec 32 := Scalar.divsi v794 c4_i32_434
  let c1_i32_440 : BitVec 32 := 1#32
  let v810 : BitVec 32 := Scalar.subi v795 c1_i32_440
  let v811 : BitVec 32 := Scalar.select v809 v810 v795
  let v812 : BitVec 32 := Scalar.subi v811 c0_i32_442
  let c1_i32_443 : BitVec 32 := 1#32
  let v814 : BitVec 32 := Scalar.divsi v812 c1_i32_443
  let v815 : BitVec 32 := Scalar.muli v814 c1_i32_443
  let v816 : BitVec 32 := Scalar.addi c0_i32_442 v815
  let c1_i32_445 : BitVec 32 := 1#32
  let arg20 : BitVec 32 := Scf.iv v816 c1_i32_445 k0_t8
  let v902 : BitVec 32 := Scalar.muli c4_i32_515 arg20
  let v903 : BitVec 32 := Scalar.addi v902 c0_i32_516
  let v1950 : Index := Scalar.indexCast v903
  let c0_1012 : Index := 0#32
  let c0_1013 : Index := 0#32
  ![0, v1950.toNat, 0, 0]
def k0_off334 (i : grid0.Coords) (k0_t8 : Fin (k0_t8_loop i).trips) (c0_i32_516 : BitVec 32) : Fin 4 → Nat :=
  let c0_1021 : Index := 0#32
  let c4_i32_515 : BitVec 32 := 4#32
  let c0_i32_442 : BitVec 32 := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c0_i32_435 : BitVec 32 := 0#32
  let v796 : BitVec 1 := Scalar.cmpi .sgt v794 c0_i32_435
  let v797 : BitVec 32 := Scalar.extui v796
  let c0_i32_436 : BitVec 32 := 0#32
  let v798 : BitVec 1 := Scalar.cmpi .slt v794 c0_i32_436
  let v799 : BitVec 32 := Scalar.extui v798
  let v800 : BitVec 32 := Scalar.subi v797 v799
  let c4_i32_434 : BitVec 32 := 4#32
  let c0_i32_437 : BitVec 32 := 0#32
  let v801 : BitVec 1 := Scalar.cmpi .sgt c4_i32_434 c0_i32_437
  let v802 : BitVec 32 := Scalar.extui v801
  let c0_i32_438 : BitVec 32 := 0#32
  let v803 : BitVec 1 := Scalar.cmpi .slt c4_i32_434 c0_i32_438
  let v804 : BitVec 32 := Scalar.extui v803
  let v805 : BitVec 32 := Scalar.subi v802 v804
  let v806 : BitVec 1 := Scalar.cmpi .ne v800 v805
  let v807 : BitVec 32 := Scalar.remsi v794 c4_i32_434
  let c0_i32_439 : BitVec 32 := 0#32
  let v808 : BitVec 1 := Scalar.cmpi .ne v807 c0_i32_439
  let v809 : BitVec 1 := Scalar.andi v806 v808
  let v795 : BitVec 32 := Scalar.divsi v794 c4_i32_434
  let c1_i32_440 : BitVec 32 := 1#32
  let v810 : BitVec 32 := Scalar.subi v795 c1_i32_440
  let v811 : BitVec 32 := Scalar.select v809 v810 v795
  let v812 : BitVec 32 := Scalar.subi v811 c0_i32_442
  let c1_i32_443 : BitVec 32 := 1#32
  let v814 : BitVec 32 := Scalar.divsi v812 c1_i32_443
  let v815 : BitVec 32 := Scalar.muli v814 c1_i32_443
  let v816 : BitVec 32 := Scalar.addi c0_i32_442 v815
  let c1_i32_445 : BitVec 32 := 1#32
  let arg20 : BitVec 32 := Scf.iv v816 c1_i32_445 k0_t8
  let v902 : BitVec 32 := Scalar.muli c4_i32_515 arg20
  let v903 : BitVec 32 := Scalar.addi v902 c0_i32_516
  let v1966 : Index := Scalar.indexCast v903
  let c64_1022 : Index := 64#32
  let c0_1023 : Index := 0#32
  ![0, v1966.toNat, 64, 0]
def k0_off335 (i : grid0.Coords) (k0_t8 : Fin (k0_t8_loop i).trips) (c0_i32_516 : BitVec 32) : Fin 4 → Nat :=
  let c0_1031 : Index := 0#32
  let c4_i32_515 : BitVec 32 := 4#32
  let c0_i32_442 : BitVec 32 := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c0_i32_435 : BitVec 32 := 0#32
  let v796 : BitVec 1 := Scalar.cmpi .sgt v794 c0_i32_435
  let v797 : BitVec 32 := Scalar.extui v796
  let c0_i32_436 : BitVec 32 := 0#32
  let v798 : BitVec 1 := Scalar.cmpi .slt v794 c0_i32_436
  let v799 : BitVec 32 := Scalar.extui v798
  let v800 : BitVec 32 := Scalar.subi v797 v799
  let c4_i32_434 : BitVec 32 := 4#32
  let c0_i32_437 : BitVec 32 := 0#32
  let v801 : BitVec 1 := Scalar.cmpi .sgt c4_i32_434 c0_i32_437
  let v802 : BitVec 32 := Scalar.extui v801
  let c0_i32_438 : BitVec 32 := 0#32
  let v803 : BitVec 1 := Scalar.cmpi .slt c4_i32_434 c0_i32_438
  let v804 : BitVec 32 := Scalar.extui v803
  let v805 : BitVec 32 := Scalar.subi v802 v804
  let v806 : BitVec 1 := Scalar.cmpi .ne v800 v805
  let v807 : BitVec 32 := Scalar.remsi v794 c4_i32_434
  let c0_i32_439 : BitVec 32 := 0#32
  let v808 : BitVec 1 := Scalar.cmpi .ne v807 c0_i32_439
  let v809 : BitVec 1 := Scalar.andi v806 v808
  let v795 : BitVec 32 := Scalar.divsi v794 c4_i32_434
  let c1_i32_440 : BitVec 32 := 1#32
  let v810 : BitVec 32 := Scalar.subi v795 c1_i32_440
  let v811 : BitVec 32 := Scalar.select v809 v810 v795
  let v812 : BitVec 32 := Scalar.subi v811 c0_i32_442
  let c1_i32_443 : BitVec 32 := 1#32
  let v814 : BitVec 32 := Scalar.divsi v812 c1_i32_443
  let v815 : BitVec 32 := Scalar.muli v814 c1_i32_443
  let v816 : BitVec 32 := Scalar.addi c0_i32_442 v815
  let c1_i32_445 : BitVec 32 := 1#32
  let arg20 : BitVec 32 := Scf.iv v816 c1_i32_445 k0_t8
  let v902 : BitVec 32 := Scalar.muli c4_i32_515 arg20
  let v903 : BitVec 32 := Scalar.addi v902 c0_i32_516
  let v1982 : Index := Scalar.indexCast v903
  let c128 : Index := 128#32
  let c0_1032 : Index := 0#32
  ![0, v1982.toNat, 128, 0]
def k0_off336 (i : grid0.Coords) (k0_t8 : Fin (k0_t8_loop i).trips) (c0_i32_516 : BitVec 32) : Fin 4 → Nat :=
  let c0_1040 : Index := 0#32
  let c4_i32_515 : BitVec 32 := 4#32
  let c0_i32_442 : BitVec 32 := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c0_i32_435 : BitVec 32 := 0#32
  let v796 : BitVec 1 := Scalar.cmpi .sgt v794 c0_i32_435
  let v797 : BitVec 32 := Scalar.extui v796
  let c0_i32_436 : BitVec 32 := 0#32
  let v798 : BitVec 1 := Scalar.cmpi .slt v794 c0_i32_436
  let v799 : BitVec 32 := Scalar.extui v798
  let v800 : BitVec 32 := Scalar.subi v797 v799
  let c4_i32_434 : BitVec 32 := 4#32
  let c0_i32_437 : BitVec 32 := 0#32
  let v801 : BitVec 1 := Scalar.cmpi .sgt c4_i32_434 c0_i32_437
  let v802 : BitVec 32 := Scalar.extui v801
  let c0_i32_438 : BitVec 32 := 0#32
  let v803 : BitVec 1 := Scalar.cmpi .slt c4_i32_434 c0_i32_438
  let v804 : BitVec 32 := Scalar.extui v803
  let v805 : BitVec 32 := Scalar.subi v802 v804
  let v806 : BitVec 1 := Scalar.cmpi .ne v800 v805
  let v807 : BitVec 32 := Scalar.remsi v794 c4_i32_434
  let c0_i32_439 : BitVec 32 := 0#32
  let v808 : BitVec 1 := Scalar.cmpi .ne v807 c0_i32_439
  let v809 : BitVec 1 := Scalar.andi v806 v808
  let v795 : BitVec 32 := Scalar.divsi v794 c4_i32_434
  let c1_i32_440 : BitVec 32 := 1#32
  let v810 : BitVec 32 := Scalar.subi v795 c1_i32_440
  let v811 : BitVec 32 := Scalar.select v809 v810 v795
  let v812 : BitVec 32 := Scalar.subi v811 c0_i32_442
  let c1_i32_443 : BitVec 32 := 1#32
  let v814 : BitVec 32 := Scalar.divsi v812 c1_i32_443
  let v815 : BitVec 32 := Scalar.muli v814 c1_i32_443
  let v816 : BitVec 32 := Scalar.addi c0_i32_442 v815
  let c1_i32_445 : BitVec 32 := 1#32
  let arg20 : BitVec 32 := Scf.iv v816 c1_i32_445 k0_t8
  let v902 : BitVec 32 := Scalar.muli c4_i32_515 arg20
  let v903 : BitVec 32 := Scalar.addi v902 c0_i32_516
  let v1998 : Index := Scalar.indexCast v903
  let c192 : Index := 192#32
  let c0_1041 : Index := 0#32
  ![0, v1998.toNat, 192, 0]
def k0_off337 (i : grid0.Coords) (k0_t8 : Fin (k0_t8_loop i).trips) (c0_i32_516 : BitVec 32) : Fin 4 → Nat :=
  let c0_1049 : Index := 0#32
  let c4_i32_515 : BitVec 32 := 4#32
  let c0_i32_442 : BitVec 32 := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c0_i32_435 : BitVec 32 := 0#32
  let v796 : BitVec 1 := Scalar.cmpi .sgt v794 c0_i32_435
  let v797 : BitVec 32 := Scalar.extui v796
  let c0_i32_436 : BitVec 32 := 0#32
  let v798 : BitVec 1 := Scalar.cmpi .slt v794 c0_i32_436
  let v799 : BitVec 32 := Scalar.extui v798
  let v800 : BitVec 32 := Scalar.subi v797 v799
  let c4_i32_434 : BitVec 32 := 4#32
  let c0_i32_437 : BitVec 32 := 0#32
  let v801 : BitVec 1 := Scalar.cmpi .sgt c4_i32_434 c0_i32_437
  let v802 : BitVec 32 := Scalar.extui v801
  let c0_i32_438 : BitVec 32 := 0#32
  let v803 : BitVec 1 := Scalar.cmpi .slt c4_i32_434 c0_i32_438
  let v804 : BitVec 32 := Scalar.extui v803
  let v805 : BitVec 32 := Scalar.subi v802 v804
  let v806 : BitVec 1 := Scalar.cmpi .ne v800 v805
  let v807 : BitVec 32 := Scalar.remsi v794 c4_i32_434
  let c0_i32_439 : BitVec 32 := 0#32
  let v808 : BitVec 1 := Scalar.cmpi .ne v807 c0_i32_439
  let v809 : BitVec 1 := Scalar.andi v806 v808
  let v795 : BitVec 32 := Scalar.divsi v794 c4_i32_434
  let c1_i32_440 : BitVec 32 := 1#32
  let v810 : BitVec 32 := Scalar.subi v795 c1_i32_440
  let v811 : BitVec 32 := Scalar.select v809 v810 v795
  let v812 : BitVec 32 := Scalar.subi v811 c0_i32_442
  let c1_i32_443 : BitVec 32 := 1#32
  let v814 : BitVec 32 := Scalar.divsi v812 c1_i32_443
  let v815 : BitVec 32 := Scalar.muli v814 c1_i32_443
  let v816 : BitVec 32 := Scalar.addi c0_i32_442 v815
  let c1_i32_445 : BitVec 32 := 1#32
  let arg20 : BitVec 32 := Scf.iv v816 c1_i32_445 k0_t8
  let v902 : BitVec 32 := Scalar.muli c4_i32_515 arg20
  let v903 : BitVec 32 := Scalar.addi v902 c0_i32_516
  let v2014 : Index := Scalar.indexCast v903
  let c256 : Index := 256#32
  let c0_1050 : Index := 0#32
  ![0, v2014.toNat, 256, 0]
def k0_off338 (i : grid0.Coords) (k0_t8 : Fin (k0_t8_loop i).trips) (c0_i32_516 : BitVec 32) : Fin 4 → Nat :=
  let c0_1058 : Index := 0#32
  let c4_i32_515 : BitVec 32 := 4#32
  let c0_i32_442 : BitVec 32 := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c0_i32_435 : BitVec 32 := 0#32
  let v796 : BitVec 1 := Scalar.cmpi .sgt v794 c0_i32_435
  let v797 : BitVec 32 := Scalar.extui v796
  let c0_i32_436 : BitVec 32 := 0#32
  let v798 : BitVec 1 := Scalar.cmpi .slt v794 c0_i32_436
  let v799 : BitVec 32 := Scalar.extui v798
  let v800 : BitVec 32 := Scalar.subi v797 v799
  let c4_i32_434 : BitVec 32 := 4#32
  let c0_i32_437 : BitVec 32 := 0#32
  let v801 : BitVec 1 := Scalar.cmpi .sgt c4_i32_434 c0_i32_437
  let v802 : BitVec 32 := Scalar.extui v801
  let c0_i32_438 : BitVec 32 := 0#32
  let v803 : BitVec 1 := Scalar.cmpi .slt c4_i32_434 c0_i32_438
  let v804 : BitVec 32 := Scalar.extui v803
  let v805 : BitVec 32 := Scalar.subi v802 v804
  let v806 : BitVec 1 := Scalar.cmpi .ne v800 v805
  let v807 : BitVec 32 := Scalar.remsi v794 c4_i32_434
  let c0_i32_439 : BitVec 32 := 0#32
  let v808 : BitVec 1 := Scalar.cmpi .ne v807 c0_i32_439
  let v809 : BitVec 1 := Scalar.andi v806 v808
  let v795 : BitVec 32 := Scalar.divsi v794 c4_i32_434
  let c1_i32_440 : BitVec 32 := 1#32
  let v810 : BitVec 32 := Scalar.subi v795 c1_i32_440
  let v811 : BitVec 32 := Scalar.select v809 v810 v795
  let v812 : BitVec 32 := Scalar.subi v811 c0_i32_442
  let c1_i32_443 : BitVec 32 := 1#32
  let v814 : BitVec 32 := Scalar.divsi v812 c1_i32_443
  let v815 : BitVec 32 := Scalar.muli v814 c1_i32_443
  let v816 : BitVec 32 := Scalar.addi c0_i32_442 v815
  let c1_i32_445 : BitVec 32 := 1#32
  let arg20 : BitVec 32 := Scf.iv v816 c1_i32_445 k0_t8
  let v902 : BitVec 32 := Scalar.muli c4_i32_515 arg20
  let v903 : BitVec 32 := Scalar.addi v902 c0_i32_516
  let v2030 : Index := Scalar.indexCast v903
  let c320 : Index := 320#32
  let c0_1059 : Index := 0#32
  ![0, v2030.toNat, 320, 0]
def k0_off339 (i : grid0.Coords) (k0_t8 : Fin (k0_t8_loop i).trips) (c0_i32_516 : BitVec 32) : Fin 4 → Nat :=
  let c0_1067 : Index := 0#32
  let c4_i32_515 : BitVec 32 := 4#32
  let c0_i32_442 : BitVec 32 := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c0_i32_435 : BitVec 32 := 0#32
  let v796 : BitVec 1 := Scalar.cmpi .sgt v794 c0_i32_435
  let v797 : BitVec 32 := Scalar.extui v796
  let c0_i32_436 : BitVec 32 := 0#32
  let v798 : BitVec 1 := Scalar.cmpi .slt v794 c0_i32_436
  let v799 : BitVec 32 := Scalar.extui v798
  let v800 : BitVec 32 := Scalar.subi v797 v799
  let c4_i32_434 : BitVec 32 := 4#32
  let c0_i32_437 : BitVec 32 := 0#32
  let v801 : BitVec 1 := Scalar.cmpi .sgt c4_i32_434 c0_i32_437
  let v802 : BitVec 32 := Scalar.extui v801
  let c0_i32_438 : BitVec 32 := 0#32
  let v803 : BitVec 1 := Scalar.cmpi .slt c4_i32_434 c0_i32_438
  let v804 : BitVec 32 := Scalar.extui v803
  let v805 : BitVec 32 := Scalar.subi v802 v804
  let v806 : BitVec 1 := Scalar.cmpi .ne v800 v805
  let v807 : BitVec 32 := Scalar.remsi v794 c4_i32_434
  let c0_i32_439 : BitVec 32 := 0#32
  let v808 : BitVec 1 := Scalar.cmpi .ne v807 c0_i32_439
  let v809 : BitVec 1 := Scalar.andi v806 v808
  let v795 : BitVec 32 := Scalar.divsi v794 c4_i32_434
  let c1_i32_440 : BitVec 32 := 1#32
  let v810 : BitVec 32 := Scalar.subi v795 c1_i32_440
  let v811 : BitVec 32 := Scalar.select v809 v810 v795
  let v812 : BitVec 32 := Scalar.subi v811 c0_i32_442
  let c1_i32_443 : BitVec 32 := 1#32
  let v814 : BitVec 32 := Scalar.divsi v812 c1_i32_443
  let v815 : BitVec 32 := Scalar.muli v814 c1_i32_443
  let v816 : BitVec 32 := Scalar.addi c0_i32_442 v815
  let c1_i32_445 : BitVec 32 := 1#32
  let arg20 : BitVec 32 := Scf.iv v816 c1_i32_445 k0_t8
  let v902 : BitVec 32 := Scalar.muli c4_i32_515 arg20
  let v903 : BitVec 32 := Scalar.addi v902 c0_i32_516
  let v2046 : Index := Scalar.indexCast v903
  let c384 : Index := 384#32
  let c0_1068 : Index := 0#32
  ![0, v2046.toNat, 384, 0]
def k0_off340 (i : grid0.Coords) (k0_t8 : Fin (k0_t8_loop i).trips) (c0_i32_516 : BitVec 32) : Fin 4 → Nat :=
  let c0_1076 : Index := 0#32
  let c4_i32_515 : BitVec 32 := 4#32
  let c0_i32_442 : BitVec 32 := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c0_i32_435 : BitVec 32 := 0#32
  let v796 : BitVec 1 := Scalar.cmpi .sgt v794 c0_i32_435
  let v797 : BitVec 32 := Scalar.extui v796
  let c0_i32_436 : BitVec 32 := 0#32
  let v798 : BitVec 1 := Scalar.cmpi .slt v794 c0_i32_436
  let v799 : BitVec 32 := Scalar.extui v798
  let v800 : BitVec 32 := Scalar.subi v797 v799
  let c4_i32_434 : BitVec 32 := 4#32
  let c0_i32_437 : BitVec 32 := 0#32
  let v801 : BitVec 1 := Scalar.cmpi .sgt c4_i32_434 c0_i32_437
  let v802 : BitVec 32 := Scalar.extui v801
  let c0_i32_438 : BitVec 32 := 0#32
  let v803 : BitVec 1 := Scalar.cmpi .slt c4_i32_434 c0_i32_438
  let v804 : BitVec 32 := Scalar.extui v803
  let v805 : BitVec 32 := Scalar.subi v802 v804
  let v806 : BitVec 1 := Scalar.cmpi .ne v800 v805
  let v807 : BitVec 32 := Scalar.remsi v794 c4_i32_434
  let c0_i32_439 : BitVec 32 := 0#32
  let v808 : BitVec 1 := Scalar.cmpi .ne v807 c0_i32_439
  let v809 : BitVec 1 := Scalar.andi v806 v808
  let v795 : BitVec 32 := Scalar.divsi v794 c4_i32_434
  let c1_i32_440 : BitVec 32 := 1#32
  let v810 : BitVec 32 := Scalar.subi v795 c1_i32_440
  let v811 : BitVec 32 := Scalar.select v809 v810 v795
  let v812 : BitVec 32 := Scalar.subi v811 c0_i32_442
  let c1_i32_443 : BitVec 32 := 1#32
  let v814 : BitVec 32 := Scalar.divsi v812 c1_i32_443
  let v815 : BitVec 32 := Scalar.muli v814 c1_i32_443
  let v816 : BitVec 32 := Scalar.addi c0_i32_442 v815
  let c1_i32_445 : BitVec 32 := 1#32
  let arg20 : BitVec 32 := Scf.iv v816 c1_i32_445 k0_t8
  let v902 : BitVec 32 := Scalar.muli c4_i32_515 arg20
  let v903 : BitVec 32 := Scalar.addi v902 c0_i32_516
  let v2062 : Index := Scalar.indexCast v903
  let c448 : Index := 448#32
  let c0_1077 : Index := 0#32
  ![0, v2062.toNat, 448, 0]
def k0_cond8 (i : grid0.Coords) : BitVec 1 :=
  let arg1 : BitVec 32 := BitVec.ofNat 32 (i 1).val
  let c1_i32_452 : BitVec 32 := 1#32
  let v827 : BitVec 1 := Scalar.cmpi .sge arg1 c1_i32_452
  let c1_i32_432 : BitVec 32 := 1#32
  let v793 : BitVec 32 := Scalar.subi arg1 c1_i32_432
  let c0_i32_433 : BitVec 32 := 0#32
  let v794 : BitVec 32 := Scalar.maxsi v793 c0_i32_433
  let c4_i32_446 : BitVec 32 := 4#32
  let c0_i32_447 : BitVec 32 := 0#32
  let v817 : BitVec 1 := Scalar.cmpi .eq c4_i32_446 c0_i32_447
  let c1_i32_448 : BitVec 32 := 1#32
  let v818 : BitVec 32 := Scalar.select v817 c1_i32_448 c4_i32_446
  let v819 : BitVec 32 := Scalar.remsi v794 v818
  let c0_i32_450 : BitVec 32 := 0#32
  let v821 : BitVec 1 := Scalar.cmpi .slt v819 c0_i32_450
  let c0_i32_451 : BitVec 32 := 0#32
  let v822 : BitVec 1 := Scalar.cmpi .slt v818 c0_i32_451
  let v823 : BitVec 1 := Scalar.xori v821 v822
  let c0_i32_449 : BitVec 32 := 0#32
  let v820 : BitVec 1 := Scalar.cmpi .ne v819 c0_i32_449
  let v824 : BitVec 1 := Scalar.andi v823 v820
  let v825 : BitVec 32 := Scalar.addi v819 v818
  let v826 : BitVec 32 := Scalar.select v824 v825 v819
  let c0_i32_453 : BitVec 32 := 0#32
  let v828 : BitVec 1 := Scalar.cmpi .eq v826 c0_i32_453
  let v829 : BitVec 1 := Scalar.andi v827 v828
  let v830 : BitVec 32 := Scalar.extui v829
  let c0_i32_454 : BitVec 32 := 0#32
  let v831 : BitVec 1 := Scalar.cmpi .ne v830 c0_i32_454
  v831

def k0_mult27 (i : grid0.Coords) : BitVec 32 :=
  let arg1 : BitVec 32 := BitVec.ofNat 32 (i 1).val
  let c1_i32_515 : BitVec 32 := 1#32
  let v902 : BitVec 32 := Scalar.subi arg1 c1_i32_515
  let c256_i32_516 : BitVec 32 := 256#32
  let v903 : BitVec 32 := Scalar.muli v902 c256_i32_516
  v903
def k0_off341 (i : grid0.Coords) : Fin 2 → Nat :=
  let arg1 : BitVec 32 := BitVec.ofNat 32 (i 1).val
  let c1_i32_515 : BitVec 32 := 1#32
  let v902 : BitVec 32 := Scalar.subi arg1 c1_i32_515
  let c256_i32_516 : BitVec 32 := 256#32
  let v903 : BitVec 32 := Scalar.muli v902 c256_i32_516
  let v904 : BitVec 32 := v903
  let v905 : Index := Scalar.indexCast v904
  let c0_517 : Index := 0#32
  ![v905.toNat, 0]
def k0_off342 (i : grid0.Coords) : Fin 3 → Nat :=
  let arg1 : BitVec 32 := BitVec.ofNat 32 (i 1).val
  let c1_i32_515 : BitVec 32 := 1#32
  let v902 : BitVec 32 := Scalar.subi arg1 c1_i32_515
  let v914 : Index := Scalar.indexCast v902
  let c0_525 : Index := 0#32
  let c0_526 : Index := 0#32
  ![v914.toNat, 0, 0]
def k0_off343 (i : grid0.Coords) : Fin 3 → Nat :=
  let c0_598 : Index := 0#32
  let arg1 : BitVec 32 := BitVec.ofNat 32 (i 1).val
  let c1_i32_515 : BitVec 32 := 1#32
  let v902 : BitVec 32 := Scalar.subi arg1 c1_i32_515
  let v1018 : Index := Scalar.indexCast v902
  let c0_599 : Index := 0#32
  ![0, v1018.toNat, 0]
def k0_off344 (i : grid0.Coords) : Fin 3 → Nat :=
  let c1_617 : Index := 1#32
  let arg1 : BitVec 32 := BitVec.ofNat 32 (i 1).val
  let c1_i32_515 : BitVec 32 := 1#32
  let v902 : BitVec 32 := Scalar.subi arg1 c1_i32_515
  let v1050 : Index := Scalar.indexCast v902
  let c0_618 : Index := 0#32
  ![1, v1050.toNat, 0]
def k0_off345 (i : grid0.Coords) : Fin 3 → Nat :=
  let c2_636 : Index := 2#32
  let arg1 : BitVec 32 := BitVec.ofNat 32 (i 1).val
  let c1_i32_515 : BitVec 32 := 1#32
  let v902 : BitVec 32 := Scalar.subi arg1 c1_i32_515
  let v1082 : Index := Scalar.indexCast v902
  let c0_637 : Index := 0#32
  ![2, v1082.toNat, 0]
def k0_off346 (i : grid0.Coords) : Fin 3 → Nat :=
  let c3_655 : Index := 3#32
  let arg1 : BitVec 32 := BitVec.ofNat 32 (i 1).val
  let c1_i32_515 : BitVec 32 := 1#32
  let v902 : BitVec 32 := Scalar.subi arg1 c1_i32_515
  let v1114 : Index := Scalar.indexCast v902
  let c0_656 : Index := 0#32
  ![3, v1114.toNat, 0]
def k0_mult28 (i : grid0.Coords) : BitVec 32 :=
  let arg1 : BitVec 32 := BitVec.ofNat 32 (i 1).val
  let c256_i32_662 : BitVec 32 := 256#32
  let v1131 : BitVec 32 := Scalar.muli arg1 c256_i32_662
  v1131
def k0_off347 (i : grid0.Coords) : Fin 2 → Nat :=
  let arg1 : BitVec 32 := BitVec.ofNat 32 (i 1).val
  let c256_i32_662 : BitVec 32 := 256#32
  let v1131 : BitVec 32 := Scalar.muli arg1 c256_i32_662
  let v1132 : BitVec 32 := v1131
  let v1133 : Index := Scalar.indexCast v1132
  let c0_663 : Index := 0#32
  ![v1133.toNat, 0]
def k0_off348 (i : grid0.Coords) : Fin 3 → Nat :=
  let arg1 : BitVec 32 := BitVec.ofNat 32 (i 1).val
  let v1142 : Index := Scalar.indexCast arg1
  let c0_671 : Index := 0#32
  let c0_672 : Index := 0#32
  ![v1142.toNat, 0, 0]
def k0_off349 (i : grid0.Coords) : Fin 4 → Nat :=
  let c0_796 : Index := 0#32
  let arg1 : BitVec 32 := BitVec.ofNat 32 (i 1).val
  let c1_i32_515 : BitVec 32 := 1#32
  let v902 : BitVec 32 := Scalar.subi arg1 c1_i32_515
  let v1431 : Index := Scalar.indexCast v902
  let c0_797 : Index := 0#32
  let c0_798 : Index := 0#32
  ![0, v1431.toNat, 0, 0]
def k0_off350 (i : grid0.Coords) : Fin 4 → Nat :=
  let c0_806 : Index := 0#32
  let arg1 : BitVec 32 := BitVec.ofNat 32 (i 1).val
  let c1_i32_515 : BitVec 32 := 1#32
  let v902 : BitVec 32 := Scalar.subi arg1 c1_i32_515
  let v1447 : Index := Scalar.indexCast v902
  let c64_807 : Index := 64#32
  let c0_808 : Index := 0#32
  ![0, v1447.toNat, 64, 0]
def k0_off351 (i : grid0.Coords) : Fin 4 → Nat :=
  let c0_816 : Index := 0#32
  let arg1 : BitVec 32 := BitVec.ofNat 32 (i 1).val
  let c1_i32_515 : BitVec 32 := 1#32
  let v902 : BitVec 32 := Scalar.subi arg1 c1_i32_515
  let v1463 : Index := Scalar.indexCast v902
  let c128 : Index := 128#32
  let c0_817 : Index := 0#32
  ![0, v1463.toNat, 128, 0]
def k0_off352 (i : grid0.Coords) : Fin 4 → Nat :=
  let c0_825 : Index := 0#32
  let arg1 : BitVec 32 := BitVec.ofNat 32 (i 1).val
  let c1_i32_515 : BitVec 32 := 1#32
  let v902 : BitVec 32 := Scalar.subi arg1 c1_i32_515
  let v1479 : Index := Scalar.indexCast v902
  let c192 : Index := 192#32
  let c0_826 : Index := 0#32
  ![0, v1479.toNat, 192, 0]
def k0_off353 (i : grid0.Coords) : Fin 4 → Nat :=
  let c0_834 : Index := 0#32
  let arg1 : BitVec 32 := BitVec.ofNat 32 (i 1).val
  let c1_i32_515 : BitVec 32 := 1#32
  let v902 : BitVec 32 := Scalar.subi arg1 c1_i32_515
  let v1495 : Index := Scalar.indexCast v902
  let c256 : Index := 256#32
  let c0_835 : Index := 0#32
  ![0, v1495.toNat, 256, 0]
def k0_off354 (i : grid0.Coords) : Fin 4 → Nat :=
  let c0_843 : Index := 0#32
  let arg1 : BitVec 32 := BitVec.ofNat 32 (i 1).val
  let c1_i32_515 : BitVec 32 := 1#32
  let v902 : BitVec 32 := Scalar.subi arg1 c1_i32_515
  let v1511 : Index := Scalar.indexCast v902
  let c320 : Index := 320#32
  let c0_844 : Index := 0#32
  ![0, v1511.toNat, 320, 0]
def k0_off355 (i : grid0.Coords) : Fin 4 → Nat :=
  let c0_852 : Index := 0#32
  let arg1 : BitVec 32 := BitVec.ofNat 32 (i 1).val
  let c1_i32_515 : BitVec 32 := 1#32
  let v902 : BitVec 32 := Scalar.subi arg1 c1_i32_515
  let v1527 : Index := Scalar.indexCast v902
  let c384 : Index := 384#32
  let c0_853 : Index := 0#32
  ![0, v1527.toNat, 384, 0]
def k0_off356 (i : grid0.Coords) : Fin 4 → Nat :=
  let c0_861 : Index := 0#32
  let arg1 : BitVec 32 := BitVec.ofNat 32 (i 1).val
  let c1_i32_515 : BitVec 32 := 1#32
  let v902 : BitVec 32 := Scalar.subi arg1 c1_i32_515
  let v1543 : Index := Scalar.indexCast v902
  let c448 : Index := 448#32
  let c0_862 : Index := 0#32
  ![0, v1543.toNat, 448, 0]
def k0_off357 (i : grid0.Coords) : Fin 4 → Nat :=
  let c0_870 : Index := 0#32
  let arg1 : BitVec 32 := BitVec.ofNat 32 (i 1).val
  let v1559 : Index := Scalar.indexCast arg1
  let c0_871 : Index := 0#32
  let c0_872 : Index := 0#32
  ![0, v1559.toNat, 0, 0]
def k0_off358 (i : grid0.Coords) : Fin 4 → Nat :=
  let c0_880 : Index := 0#32
  let arg1 : BitVec 32 := BitVec.ofNat 32 (i 1).val
  let v1575 : Index := Scalar.indexCast arg1
  let c64_881 : Index := 64#32
  let c0_882 : Index := 0#32
  ![0, v1575.toNat, 64, 0]
def k0_off359 (i : grid0.Coords) : Fin 4 → Nat :=
  let c0_890 : Index := 0#32
  let arg1 : BitVec 32 := BitVec.ofNat 32 (i 1).val
  let v1591 : Index := Scalar.indexCast arg1
  let c128_891 : Index := 128#32
  let c0_892 : Index := 0#32
  ![0, v1591.toNat, 128, 0]
def k0_off360 (i : grid0.Coords) : Fin 4 → Nat :=
  let c0_900 : Index := 0#32
  let arg1 : BitVec 32 := BitVec.ofNat 32 (i 1).val
  let v1607 : Index := Scalar.indexCast arg1
  let c192_901 : Index := 192#32
  let c0_902 : Index := 0#32
  ![0, v1607.toNat, 192, 0]
def k0_off361 (i : grid0.Coords) : Fin 4 → Nat :=
  let c0_910 : Index := 0#32
  let arg1 : BitVec 32 := BitVec.ofNat 32 (i 1).val
  let v1623 : Index := Scalar.indexCast arg1
  let c256_911 : Index := 256#32
  let c0_912 : Index := 0#32
  ![0, v1623.toNat, 256, 0]
def k0_off362 (i : grid0.Coords) : Fin 4 → Nat :=
  let c0_920 : Index := 0#32
  let arg1 : BitVec 32 := BitVec.ofNat 32 (i 1).val
  let v1639 : Index := Scalar.indexCast arg1
  let c320_921 : Index := 320#32
  let c0_922 : Index := 0#32
  ![0, v1639.toNat, 320, 0]
def k0_off363 (i : grid0.Coords) : Fin 4 → Nat :=
  let c0_930 : Index := 0#32
  let arg1 : BitVec 32 := BitVec.ofNat 32 (i 1).val
  let v1655 : Index := Scalar.indexCast arg1
  let c384_931 : Index := 384#32
  let c0_932 : Index := 0#32
  ![0, v1655.toNat, 384, 0]
def k0_off364 (i : grid0.Coords) : Fin 4 → Nat :=
  let c0_940 : Index := 0#32
  let arg1 : BitVec 32 := BitVec.ofNat 32 (i 1).val
  let v1671 : Index := Scalar.indexCast arg1
  let c448_941 : Index := 448#32
  let c0_942 : Index := 0#32
  ![0, v1671.toNat, 448, 0]
def k0_cond9 (i : grid0.Coords) : BitVec 1 :=
  let arg1 : BitVec 32 := BitVec.ofNat 32 (i 1).val
  let c1_i32_455 : BitVec 32 := 1#32
  let v832 : BitVec 1 := Scalar.cmpi .sge arg1 c1_i32_455
  let c1_i32_432 : BitVec 32 := 1#32
  let v793 : BitVec 32 := Scalar.subi arg1 c1_i32_432
  let c0_i32_433 : BitVec 32 := 0#32
  let v794 : BitVec 32 := Scalar.maxsi v793 c0_i32_433
  let c4_i32_446 : BitVec 32 := 4#32
  let c0_i32_447 : BitVec 32 := 0#32
  let v817 : BitVec 1 := Scalar.cmpi .eq c4_i32_446 c0_i32_447
  let c1_i32_448 : BitVec 32 := 1#32
  let v818 : BitVec 32 := Scalar.select v817 c1_i32_448 c4_i32_446
  let v819 : BitVec 32 := Scalar.remsi v794 v818
  let c0_i32_450 : BitVec 32 := 0#32
  let v821 : BitVec 1 := Scalar.cmpi .slt v819 c0_i32_450
  let c0_i32_451 : BitVec 32 := 0#32
  let v822 : BitVec 1 := Scalar.cmpi .slt v818 c0_i32_451
  let v823 : BitVec 1 := Scalar.xori v821 v822
  let c0_i32_449 : BitVec 32 := 0#32
  let v820 : BitVec 1 := Scalar.cmpi .ne v819 c0_i32_449
  let v824 : BitVec 1 := Scalar.andi v823 v820
  let v825 : BitVec 32 := Scalar.addi v819 v818
  let v826 : BitVec 32 := Scalar.select v824 v825 v819
  let c1_i32_456 : BitVec 32 := 1#32
  let v833 : BitVec 1 := Scalar.cmpi .eq v826 c1_i32_456
  let v834 : BitVec 1 := Scalar.andi v832 v833
  let v835 : BitVec 32 := Scalar.extui v834
  let c0_i32_457 : BitVec 32 := 0#32
  let v836 : BitVec 1 := Scalar.cmpi .ne v835 c0_i32_457
  v836

def k0_mult29 (i : grid0.Coords) : BitVec 32 :=
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c1_i32_515 : BitVec 32 := 1#32
  let v902 : BitVec 32 := Scalar.subi v794 c1_i32_515
  let c0_i32_516 : BitVec 32 := 0#32
  let v903 : BitVec 32 := Scalar.addi v902 c0_i32_516
  let c256_i32_518 : BitVec 32 := 256#32
  let v905 : BitVec 32 := Scalar.muli v903 c256_i32_518
  v905
def k0_off365 (i : grid0.Coords) : Fin 2 → Nat :=
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c1_i32_515 : BitVec 32 := 1#32
  let v902 : BitVec 32 := Scalar.subi v794 c1_i32_515
  let c0_i32_516 : BitVec 32 := 0#32
  let v903 : BitVec 32 := Scalar.addi v902 c0_i32_516
  let c256_i32_518 : BitVec 32 := 256#32
  let v905 : BitVec 32 := Scalar.muli v903 c256_i32_518
  let v906 : BitVec 32 := v905
  let v907 : Index := Scalar.indexCast v906
  let c0_519 : Index := 0#32
  ![v907.toNat, 0]
def k0_off366 (i : grid0.Coords) : Fin 3 → Nat :=
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c1_i32_515 : BitVec 32 := 1#32
  let v902 : BitVec 32 := Scalar.subi v794 c1_i32_515
  let c0_i32_516 : BitVec 32 := 0#32
  let v903 : BitVec 32 := Scalar.addi v902 c0_i32_516
  let v913 : Index := Scalar.indexCast v903
  let c0_524 : Index := 0#32
  let c0_525 : Index := 0#32
  ![v913.toNat, 0, 0]
def k0_off367 (i : grid0.Coords) : Fin 3 → Nat :=
  let c0_585 : Index := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c1_i32_515 : BitVec 32 := 1#32
  let v902 : BitVec 32 := Scalar.subi v794 c1_i32_515
  let c0_i32_516 : BitVec 32 := 0#32
  let v903 : BitVec 32 := Scalar.addi v902 c0_i32_516
  let v1005 : Index := Scalar.indexCast v903
  let c0_586 : Index := 0#32
  ![0, v1005.toNat, 0]
def k0_off368 (i : grid0.Coords) : Fin 3 → Nat :=
  let c1_601 : Index := 1#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c1_i32_515 : BitVec 32 := 1#32
  let v902 : BitVec 32 := Scalar.subi v794 c1_i32_515
  let c0_i32_516 : BitVec 32 := 0#32
  let v903 : BitVec 32 := Scalar.addi v902 c0_i32_516
  let v1034 : Index := Scalar.indexCast v903
  let c0_602 : Index := 0#32
  ![1, v1034.toNat, 0]
def k0_off369 (i : grid0.Coords) : Fin 3 → Nat :=
  let c2_617 : Index := 2#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c1_i32_515 : BitVec 32 := 1#32
  let v902 : BitVec 32 := Scalar.subi v794 c1_i32_515
  let c0_i32_516 : BitVec 32 := 0#32
  let v903 : BitVec 32 := Scalar.addi v902 c0_i32_516
  let v1063 : Index := Scalar.indexCast v903
  let c0_618 : Index := 0#32
  ![2, v1063.toNat, 0]
def k0_off370 (i : grid0.Coords) : Fin 3 → Nat :=
  let c3_633 : Index := 3#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c1_i32_515 : BitVec 32 := 1#32
  let v902 : BitVec 32 := Scalar.subi v794 c1_i32_515
  let c0_i32_516 : BitVec 32 := 0#32
  let v903 : BitVec 32 := Scalar.addi v902 c0_i32_516
  let v1092 : Index := Scalar.indexCast v903
  let c0_634 : Index := 0#32
  ![3, v1092.toNat, 0]
def k0_mult30 (i : grid0.Coords) : BitVec 32 :=
  let arg1 : BitVec 32 := BitVec.ofNat 32 (i 1).val
  let c1_i32_517 : BitVec 32 := 1#32
  let v904 : BitVec 32 := Scalar.subi arg1 c1_i32_517
  let c256_i32_640 : BitVec 32 := 256#32
  let v1109 : BitVec 32 := Scalar.muli v904 c256_i32_640
  v1109
def k0_off371 (i : grid0.Coords) : Fin 2 → Nat :=
  let arg1 : BitVec 32 := BitVec.ofNat 32 (i 1).val
  let c1_i32_517 : BitVec 32 := 1#32
  let v904 : BitVec 32 := Scalar.subi arg1 c1_i32_517
  let c256_i32_640 : BitVec 32 := 256#32
  let v1109 : BitVec 32 := Scalar.muli v904 c256_i32_640
  let v1110 : BitVec 32 := v1109
  let v1111 : Index := Scalar.indexCast v1110
  let c0_641 : Index := 0#32
  ![v1111.toNat, 0]
def k0_off372 (i : grid0.Coords) : Fin 3 → Nat :=
  let arg1 : BitVec 32 := BitVec.ofNat 32 (i 1).val
  let c1_i32_517 : BitVec 32 := 1#32
  let v904 : BitVec 32 := Scalar.subi arg1 c1_i32_517
  let v1120 : Index := Scalar.indexCast v904
  let c0_649 : Index := 0#32
  let c0_650 : Index := 0#32
  ![v1120.toNat, 0, 0]
def k0_off373 (i : grid0.Coords) : Fin 3 → Nat :=
  let c0_722 : Index := 0#32
  let arg1 : BitVec 32 := BitVec.ofNat 32 (i 1).val
  let c1_i32_517 : BitVec 32 := 1#32
  let v904 : BitVec 32 := Scalar.subi arg1 c1_i32_517
  let v1224 : Index := Scalar.indexCast v904
  let c0_723 : Index := 0#32
  ![0, v1224.toNat, 0]
def k0_off374 (i : grid0.Coords) : Fin 3 → Nat :=
  let c1_741 : Index := 1#32
  let arg1 : BitVec 32 := BitVec.ofNat 32 (i 1).val
  let c1_i32_517 : BitVec 32 := 1#32
  let v904 : BitVec 32 := Scalar.subi arg1 c1_i32_517
  let v1256 : Index := Scalar.indexCast v904
  let c0_742 : Index := 0#32
  ![1, v1256.toNat, 0]
def k0_off375 (i : grid0.Coords) : Fin 3 → Nat :=
  let c2_760 : Index := 2#32
  let arg1 : BitVec 32 := BitVec.ofNat 32 (i 1).val
  let c1_i32_517 : BitVec 32 := 1#32
  let v904 : BitVec 32 := Scalar.subi arg1 c1_i32_517
  let v1288 : Index := Scalar.indexCast v904
  let c0_761 : Index := 0#32
  ![2, v1288.toNat, 0]
def k0_off376 (i : grid0.Coords) : Fin 3 → Nat :=
  let c3_779 : Index := 3#32
  let arg1 : BitVec 32 := BitVec.ofNat 32 (i 1).val
  let c1_i32_517 : BitVec 32 := 1#32
  let v904 : BitVec 32 := Scalar.subi arg1 c1_i32_517
  let v1320 : Index := Scalar.indexCast v904
  let c0_780 : Index := 0#32
  ![3, v1320.toNat, 0]
def k0_mult31 (i : grid0.Coords) : BitVec 32 :=
  let arg1 : BitVec 32 := BitVec.ofNat 32 (i 1).val
  let c256_i32_786 : BitVec 32 := 256#32
  let v1337 : BitVec 32 := Scalar.muli arg1 c256_i32_786
  v1337
def k0_off377 (i : grid0.Coords) : Fin 2 → Nat :=
  let arg1 : BitVec 32 := BitVec.ofNat 32 (i 1).val
  let c256_i32_786 : BitVec 32 := 256#32
  let v1337 : BitVec 32 := Scalar.muli arg1 c256_i32_786
  let v1338 : BitVec 32 := v1337
  let v1339 : Index := Scalar.indexCast v1338
  let c0_787 : Index := 0#32
  ![v1339.toNat, 0]
def k0_off378 (i : grid0.Coords) : Fin 3 → Nat :=
  let arg1 : BitVec 32 := BitVec.ofNat 32 (i 1).val
  let v1348 : Index := Scalar.indexCast arg1
  let c0_795 : Index := 0#32
  let c0_796 : Index := 0#32
  ![v1348.toNat, 0, 0]
def k0_off379 (i : grid0.Coords) : Fin 4 → Nat :=
  let c0_920 : Index := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c1_i32_515 : BitVec 32 := 1#32
  let v902 : BitVec 32 := Scalar.subi v794 c1_i32_515
  let c0_i32_516 : BitVec 32 := 0#32
  let v903 : BitVec 32 := Scalar.addi v902 c0_i32_516
  let v1693 : Index := Scalar.indexCast v903
  let c0_921 : Index := 0#32
  let c0_922 : Index := 0#32
  ![0, v1693.toNat, 0, 0]
def k0_off380 (i : grid0.Coords) : Fin 4 → Nat :=
  let c0_930 : Index := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c1_i32_515 : BitVec 32 := 1#32
  let v902 : BitVec 32 := Scalar.subi v794 c1_i32_515
  let c0_i32_516 : BitVec 32 := 0#32
  let v903 : BitVec 32 := Scalar.addi v902 c0_i32_516
  let v1709 : Index := Scalar.indexCast v903
  let c64_931 : Index := 64#32
  let c0_932 : Index := 0#32
  ![0, v1709.toNat, 64, 0]
def k0_off381 (i : grid0.Coords) : Fin 4 → Nat :=
  let c0_940 : Index := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c1_i32_515 : BitVec 32 := 1#32
  let v902 : BitVec 32 := Scalar.subi v794 c1_i32_515
  let c0_i32_516 : BitVec 32 := 0#32
  let v903 : BitVec 32 := Scalar.addi v902 c0_i32_516
  let v1725 : Index := Scalar.indexCast v903
  let c128 : Index := 128#32
  let c0_941 : Index := 0#32
  ![0, v1725.toNat, 128, 0]
def k0_off382 (i : grid0.Coords) : Fin 4 → Nat :=
  let c0_949 : Index := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c1_i32_515 : BitVec 32 := 1#32
  let v902 : BitVec 32 := Scalar.subi v794 c1_i32_515
  let c0_i32_516 : BitVec 32 := 0#32
  let v903 : BitVec 32 := Scalar.addi v902 c0_i32_516
  let v1741 : Index := Scalar.indexCast v903
  let c192 : Index := 192#32
  let c0_950 : Index := 0#32
  ![0, v1741.toNat, 192, 0]
def k0_off383 (i : grid0.Coords) : Fin 4 → Nat :=
  let c0_958 : Index := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c1_i32_515 : BitVec 32 := 1#32
  let v902 : BitVec 32 := Scalar.subi v794 c1_i32_515
  let c0_i32_516 : BitVec 32 := 0#32
  let v903 : BitVec 32 := Scalar.addi v902 c0_i32_516
  let v1757 : Index := Scalar.indexCast v903
  let c256 : Index := 256#32
  let c0_959 : Index := 0#32
  ![0, v1757.toNat, 256, 0]
def k0_off384 (i : grid0.Coords) : Fin 4 → Nat :=
  let c0_967 : Index := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c1_i32_515 : BitVec 32 := 1#32
  let v902 : BitVec 32 := Scalar.subi v794 c1_i32_515
  let c0_i32_516 : BitVec 32 := 0#32
  let v903 : BitVec 32 := Scalar.addi v902 c0_i32_516
  let v1773 : Index := Scalar.indexCast v903
  let c320 : Index := 320#32
  let c0_968 : Index := 0#32
  ![0, v1773.toNat, 320, 0]
def k0_off385 (i : grid0.Coords) : Fin 4 → Nat :=
  let c0_976 : Index := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c1_i32_515 : BitVec 32 := 1#32
  let v902 : BitVec 32 := Scalar.subi v794 c1_i32_515
  let c0_i32_516 : BitVec 32 := 0#32
  let v903 : BitVec 32 := Scalar.addi v902 c0_i32_516
  let v1789 : Index := Scalar.indexCast v903
  let c384 : Index := 384#32
  let c0_977 : Index := 0#32
  ![0, v1789.toNat, 384, 0]
def k0_off386 (i : grid0.Coords) : Fin 4 → Nat :=
  let c0_985 : Index := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c1_i32_515 : BitVec 32 := 1#32
  let v902 : BitVec 32 := Scalar.subi v794 c1_i32_515
  let c0_i32_516 : BitVec 32 := 0#32
  let v903 : BitVec 32 := Scalar.addi v902 c0_i32_516
  let v1805 : Index := Scalar.indexCast v903
  let c448 : Index := 448#32
  let c0_986 : Index := 0#32
  ![0, v1805.toNat, 448, 0]
def k0_off387 (i : grid0.Coords) : Fin 4 → Nat :=
  let c0_994 : Index := 0#32
  let arg1 : BitVec 32 := BitVec.ofNat 32 (i 1).val
  let c1_i32_517 : BitVec 32 := 1#32
  let v904 : BitVec 32 := Scalar.subi arg1 c1_i32_517
  let v1821 : Index := Scalar.indexCast v904
  let c0_995 : Index := 0#32
  let c0_996 : Index := 0#32
  ![0, v1821.toNat, 0, 0]
def k0_off388 (i : grid0.Coords) : Fin 4 → Nat :=
  let c0_1004 : Index := 0#32
  let arg1 : BitVec 32 := BitVec.ofNat 32 (i 1).val
  let c1_i32_517 : BitVec 32 := 1#32
  let v904 : BitVec 32 := Scalar.subi arg1 c1_i32_517
  let v1837 : Index := Scalar.indexCast v904
  let c64_1005 : Index := 64#32
  let c0_1006 : Index := 0#32
  ![0, v1837.toNat, 64, 0]
def k0_off389 (i : grid0.Coords) : Fin 4 → Nat :=
  let c0_1014 : Index := 0#32
  let arg1 : BitVec 32 := BitVec.ofNat 32 (i 1).val
  let c1_i32_517 : BitVec 32 := 1#32
  let v904 : BitVec 32 := Scalar.subi arg1 c1_i32_517
  let v1853 : Index := Scalar.indexCast v904
  let c128_1015 : Index := 128#32
  let c0_1016 : Index := 0#32
  ![0, v1853.toNat, 128, 0]
def k0_off390 (i : grid0.Coords) : Fin 4 → Nat :=
  let c0_1024 : Index := 0#32
  let arg1 : BitVec 32 := BitVec.ofNat 32 (i 1).val
  let c1_i32_517 : BitVec 32 := 1#32
  let v904 : BitVec 32 := Scalar.subi arg1 c1_i32_517
  let v1869 : Index := Scalar.indexCast v904
  let c192_1025 : Index := 192#32
  let c0_1026 : Index := 0#32
  ![0, v1869.toNat, 192, 0]
def k0_off391 (i : grid0.Coords) : Fin 4 → Nat :=
  let c0_1034 : Index := 0#32
  let arg1 : BitVec 32 := BitVec.ofNat 32 (i 1).val
  let c1_i32_517 : BitVec 32 := 1#32
  let v904 : BitVec 32 := Scalar.subi arg1 c1_i32_517
  let v1885 : Index := Scalar.indexCast v904
  let c256_1035 : Index := 256#32
  let c0_1036 : Index := 0#32
  ![0, v1885.toNat, 256, 0]
def k0_off392 (i : grid0.Coords) : Fin 4 → Nat :=
  let c0_1044 : Index := 0#32
  let arg1 : BitVec 32 := BitVec.ofNat 32 (i 1).val
  let c1_i32_517 : BitVec 32 := 1#32
  let v904 : BitVec 32 := Scalar.subi arg1 c1_i32_517
  let v1901 : Index := Scalar.indexCast v904
  let c320_1045 : Index := 320#32
  let c0_1046 : Index := 0#32
  ![0, v1901.toNat, 320, 0]
def k0_off393 (i : grid0.Coords) : Fin 4 → Nat :=
  let c0_1054 : Index := 0#32
  let arg1 : BitVec 32 := BitVec.ofNat 32 (i 1).val
  let c1_i32_517 : BitVec 32 := 1#32
  let v904 : BitVec 32 := Scalar.subi arg1 c1_i32_517
  let v1917 : Index := Scalar.indexCast v904
  let c384_1055 : Index := 384#32
  let c0_1056 : Index := 0#32
  ![0, v1917.toNat, 384, 0]
def k0_off394 (i : grid0.Coords) : Fin 4 → Nat :=
  let c0_1064 : Index := 0#32
  let arg1 : BitVec 32 := BitVec.ofNat 32 (i 1).val
  let c1_i32_517 : BitVec 32 := 1#32
  let v904 : BitVec 32 := Scalar.subi arg1 c1_i32_517
  let v1933 : Index := Scalar.indexCast v904
  let c448_1065 : Index := 448#32
  let c0_1066 : Index := 0#32
  ![0, v1933.toNat, 448, 0]
def k0_off395 (i : grid0.Coords) : Fin 4 → Nat :=
  let c0_1074 : Index := 0#32
  let arg1 : BitVec 32 := BitVec.ofNat 32 (i 1).val
  let v1949 : Index := Scalar.indexCast arg1
  let c0_1075 : Index := 0#32
  let c0_1076 : Index := 0#32
  ![0, v1949.toNat, 0, 0]
def k0_off396 (i : grid0.Coords) : Fin 4 → Nat :=
  let c0_1084 : Index := 0#32
  let arg1 : BitVec 32 := BitVec.ofNat 32 (i 1).val
  let v1965 : Index := Scalar.indexCast arg1
  let c64_1085 : Index := 64#32
  let c0_1086 : Index := 0#32
  ![0, v1965.toNat, 64, 0]
def k0_off397 (i : grid0.Coords) : Fin 4 → Nat :=
  let c0_1094 : Index := 0#32
  let arg1 : BitVec 32 := BitVec.ofNat 32 (i 1).val
  let v1981 : Index := Scalar.indexCast arg1
  let c128_1095 : Index := 128#32
  let c0_1096 : Index := 0#32
  ![0, v1981.toNat, 128, 0]
def k0_off398 (i : grid0.Coords) : Fin 4 → Nat :=
  let c0_1104 : Index := 0#32
  let arg1 : BitVec 32 := BitVec.ofNat 32 (i 1).val
  let v1997 : Index := Scalar.indexCast arg1
  let c192_1105 : Index := 192#32
  let c0_1106 : Index := 0#32
  ![0, v1997.toNat, 192, 0]
def k0_off399 (i : grid0.Coords) : Fin 4 → Nat :=
  let c0_1114 : Index := 0#32
  let arg1 : BitVec 32 := BitVec.ofNat 32 (i 1).val
  let v2013 : Index := Scalar.indexCast arg1
  let c256_1115 : Index := 256#32
  let c0_1116 : Index := 0#32
  ![0, v2013.toNat, 256, 0]
def k0_off400 (i : grid0.Coords) : Fin 4 → Nat :=
  let c0_1124 : Index := 0#32
  let arg1 : BitVec 32 := BitVec.ofNat 32 (i 1).val
  let v2029 : Index := Scalar.indexCast arg1
  let c320_1125 : Index := 320#32
  let c0_1126 : Index := 0#32
  ![0, v2029.toNat, 320, 0]
def k0_off401 (i : grid0.Coords) : Fin 4 → Nat :=
  let c0_1134 : Index := 0#32
  let arg1 : BitVec 32 := BitVec.ofNat 32 (i 1).val
  let v2045 : Index := Scalar.indexCast arg1
  let c384_1135 : Index := 384#32
  let c0_1136 : Index := 0#32
  ![0, v2045.toNat, 384, 0]
def k0_off402 (i : grid0.Coords) : Fin 4 → Nat :=
  let c0_1144 : Index := 0#32
  let arg1 : BitVec 32 := BitVec.ofNat 32 (i 1).val
  let v2061 : Index := Scalar.indexCast arg1
  let c448_1145 : Index := 448#32
  let c0_1146 : Index := 0#32
  ![0, v2061.toNat, 448, 0]
def k0_cond10 (i : grid0.Coords) : BitVec 1 :=
  let arg1 : BitVec 32 := BitVec.ofNat 32 (i 1).val
  let c1_i32_458 : BitVec 32 := 1#32
  let v837 : BitVec 1 := Scalar.cmpi .sge arg1 c1_i32_458
  let c1_i32_432 : BitVec 32 := 1#32
  let v793 : BitVec 32 := Scalar.subi arg1 c1_i32_432
  let c0_i32_433 : BitVec 32 := 0#32
  let v794 : BitVec 32 := Scalar.maxsi v793 c0_i32_433
  let c4_i32_446 : BitVec 32 := 4#32
  let c0_i32_447 : BitVec 32 := 0#32
  let v817 : BitVec 1 := Scalar.cmpi .eq c4_i32_446 c0_i32_447
  let c1_i32_448 : BitVec 32 := 1#32
  let v818 : BitVec 32 := Scalar.select v817 c1_i32_448 c4_i32_446
  let v819 : BitVec 32 := Scalar.remsi v794 v818
  let c0_i32_450 : BitVec 32 := 0#32
  let v821 : BitVec 1 := Scalar.cmpi .slt v819 c0_i32_450
  let c0_i32_451 : BitVec 32 := 0#32
  let v822 : BitVec 1 := Scalar.cmpi .slt v818 c0_i32_451
  let v823 : BitVec 1 := Scalar.xori v821 v822
  let c0_i32_449 : BitVec 32 := 0#32
  let v820 : BitVec 1 := Scalar.cmpi .ne v819 c0_i32_449
  let v824 : BitVec 1 := Scalar.andi v823 v820
  let v825 : BitVec 32 := Scalar.addi v819 v818
  let v826 : BitVec 32 := Scalar.select v824 v825 v819
  let c2_i32_459 : BitVec 32 := 2#32
  let v838 : BitVec 1 := Scalar.cmpi .eq v826 c2_i32_459
  let v839 : BitVec 1 := Scalar.andi v837 v838
  let v840 : BitVec 32 := Scalar.extui v839
  let c0_i32_460 : BitVec 32 := 0#32
  let v841 : BitVec 1 := Scalar.cmpi .ne v840 c0_i32_460
  v841

def k0_mult32 (i : grid0.Coords) : BitVec 32 :=
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c2_i32_515 : BitVec 32 := 2#32
  let v902 : BitVec 32 := Scalar.subi v794 c2_i32_515
  let c0_i32_516 : BitVec 32 := 0#32
  let v903 : BitVec 32 := Scalar.addi v902 c0_i32_516
  let c256_i32_520 : BitVec 32 := 256#32
  let v907 : BitVec 32 := Scalar.muli v903 c256_i32_520
  v907
def k0_off403 (i : grid0.Coords) (c0_i32_516 : BitVec 32) : Fin 2 → Nat :=
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c2_i32_515 : BitVec 32 := 2#32
  let v902 : BitVec 32 := Scalar.subi v794 c2_i32_515
  let v903 : BitVec 32 := Scalar.addi v902 c0_i32_516
  let c256_i32_520 : BitVec 32 := 256#32
  let v907 : BitVec 32 := Scalar.muli v903 c256_i32_520
  let v908 : BitVec 32 := v907
  let v909 : Index := Scalar.indexCast v908
  let c0_521 : Index := 0#32
  ![v909.toNat, 0]
def k0_off404 (i : grid0.Coords) (c0_i32_516 : BitVec 32) : Fin 3 → Nat :=
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c2_i32_515 : BitVec 32 := 2#32
  let v902 : BitVec 32 := Scalar.subi v794 c2_i32_515
  let v903 : BitVec 32 := Scalar.addi v902 c0_i32_516
  let v915 : Index := Scalar.indexCast v903
  let c0_526 : Index := 0#32
  let c0_527 : Index := 0#32
  ![v915.toNat, 0, 0]
def k0_off405 (i : grid0.Coords) (c0_i32_516 : BitVec 32) : Fin 3 → Nat :=
  let c0_587 : Index := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c2_i32_515 : BitVec 32 := 2#32
  let v902 : BitVec 32 := Scalar.subi v794 c2_i32_515
  let v903 : BitVec 32 := Scalar.addi v902 c0_i32_516
  let v1007 : Index := Scalar.indexCast v903
  let c0_588 : Index := 0#32
  ![0, v1007.toNat, 0]
def k0_off406 (i : grid0.Coords) (c0_i32_516 : BitVec 32) : Fin 3 → Nat :=
  let c1_603 : Index := 1#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c2_i32_515 : BitVec 32 := 2#32
  let v902 : BitVec 32 := Scalar.subi v794 c2_i32_515
  let v903 : BitVec 32 := Scalar.addi v902 c0_i32_516
  let v1036 : Index := Scalar.indexCast v903
  let c0_604 : Index := 0#32
  ![1, v1036.toNat, 0]
def k0_off407 (i : grid0.Coords) (c0_i32_516 : BitVec 32) : Fin 3 → Nat :=
  let c2_619 : Index := 2#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c2_i32_515 : BitVec 32 := 2#32
  let v902 : BitVec 32 := Scalar.subi v794 c2_i32_515
  let v903 : BitVec 32 := Scalar.addi v902 c0_i32_516
  let v1065 : Index := Scalar.indexCast v903
  let c0_620 : Index := 0#32
  ![2, v1065.toNat, 0]
def k0_off408 (i : grid0.Coords) (c0_i32_516 : BitVec 32) : Fin 3 → Nat :=
  let c3_635 : Index := 3#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c2_i32_515 : BitVec 32 := 2#32
  let v902 : BitVec 32 := Scalar.subi v794 c2_i32_515
  let v903 : BitVec 32 := Scalar.addi v902 c0_i32_516
  let v1094 : Index := Scalar.indexCast v903
  let c0_636 : Index := 0#32
  ![3, v1094.toNat, 0]
def k0_mult33 (i : grid0.Coords) : BitVec 32 :=
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c2_i32_517 : BitVec 32 := 2#32
  let v904 : BitVec 32 := Scalar.subi v794 c2_i32_517
  let c1_i32_518 : BitVec 32 := 1#32
  let v905 : BitVec 32 := Scalar.addi v904 c1_i32_518
  let c256_i32_642 : BitVec 32 := 256#32
  let v1111 : BitVec 32 := Scalar.muli v905 c256_i32_642
  v1111
def k0_mult34 (i : grid0.Coords) : BitVec 32 :=
  let arg1 : BitVec 32 := BitVec.ofNat 32 (i 1).val
  let c1_i32_519 : BitVec 32 := 1#32
  let v906 : BitVec 32 := Scalar.subi arg1 c1_i32_519
  let c256_i32_764 : BitVec 32 := 256#32
  let v1315 : BitVec 32 := Scalar.muli v906 c256_i32_764
  v1315
def k0_off409 (i : grid0.Coords) : Fin 2 → Nat :=
  let arg1 : BitVec 32 := BitVec.ofNat 32 (i 1).val
  let c1_i32_519 : BitVec 32 := 1#32
  let v906 : BitVec 32 := Scalar.subi arg1 c1_i32_519
  let c256_i32_764 : BitVec 32 := 256#32
  let v1315 : BitVec 32 := Scalar.muli v906 c256_i32_764
  let v1316 : BitVec 32 := v1315
  let v1317 : Index := Scalar.indexCast v1316
  let c0_765 : Index := 0#32
  ![v1317.toNat, 0]
def k0_off410 (i : grid0.Coords) : Fin 3 → Nat :=
  let arg1 : BitVec 32 := BitVec.ofNat 32 (i 1).val
  let c1_i32_519 : BitVec 32 := 1#32
  let v906 : BitVec 32 := Scalar.subi arg1 c1_i32_519
  let v1326 : Index := Scalar.indexCast v906
  let c0_773 : Index := 0#32
  let c0_774 : Index := 0#32
  ![v1326.toNat, 0, 0]
def k0_off411 (i : grid0.Coords) : Fin 3 → Nat :=
  let c0_846 : Index := 0#32
  let arg1 : BitVec 32 := BitVec.ofNat 32 (i 1).val
  let c1_i32_519 : BitVec 32 := 1#32
  let v906 : BitVec 32 := Scalar.subi arg1 c1_i32_519
  let v1430 : Index := Scalar.indexCast v906
  let c0_847 : Index := 0#32
  ![0, v1430.toNat, 0]
def k0_off412 (i : grid0.Coords) : Fin 3 → Nat :=
  let c1_865 : Index := 1#32
  let arg1 : BitVec 32 := BitVec.ofNat 32 (i 1).val
  let c1_i32_519 : BitVec 32 := 1#32
  let v906 : BitVec 32 := Scalar.subi arg1 c1_i32_519
  let v1462 : Index := Scalar.indexCast v906
  let c0_866 : Index := 0#32
  ![1, v1462.toNat, 0]
def k0_off413 (i : grid0.Coords) : Fin 3 → Nat :=
  let c2_884 : Index := 2#32
  let arg1 : BitVec 32 := BitVec.ofNat 32 (i 1).val
  let c1_i32_519 : BitVec 32 := 1#32
  let v906 : BitVec 32 := Scalar.subi arg1 c1_i32_519
  let v1494 : Index := Scalar.indexCast v906
  let c0_885 : Index := 0#32
  ![2, v1494.toNat, 0]
def k0_off414 (i : grid0.Coords) : Fin 3 → Nat :=
  let c3_903 : Index := 3#32
  let arg1 : BitVec 32 := BitVec.ofNat 32 (i 1).val
  let c1_i32_519 : BitVec 32 := 1#32
  let v906 : BitVec 32 := Scalar.subi arg1 c1_i32_519
  let v1526 : Index := Scalar.indexCast v906
  let c0_904 : Index := 0#32
  ![3, v1526.toNat, 0]
def k0_mult35 (i : grid0.Coords) : BitVec 32 :=
  let arg1 : BitVec 32 := BitVec.ofNat 32 (i 1).val
  let c256_i32_910 : BitVec 32 := 256#32
  let v1543 : BitVec 32 := Scalar.muli arg1 c256_i32_910
  v1543
def k0_off415 (i : grid0.Coords) : Fin 2 → Nat :=
  let arg1 : BitVec 32 := BitVec.ofNat 32 (i 1).val
  let c256_i32_910 : BitVec 32 := 256#32
  let v1543 : BitVec 32 := Scalar.muli arg1 c256_i32_910
  let v1544 : BitVec 32 := v1543
  let v1545 : Index := Scalar.indexCast v1544
  let c0_911 : Index := 0#32
  ![v1545.toNat, 0]
def k0_off416 (i : grid0.Coords) : Fin 3 → Nat :=
  let arg1 : BitVec 32 := BitVec.ofNat 32 (i 1).val
  let v1554 : Index := Scalar.indexCast arg1
  let c0_919 : Index := 0#32
  let c0_920 : Index := 0#32
  ![v1554.toNat, 0, 0]
def k0_off417 (i : grid0.Coords) (c0_i32_516 : BitVec 32) : Fin 4 → Nat :=
  let c0_1044 : Index := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c2_i32_515 : BitVec 32 := 2#32
  let v902 : BitVec 32 := Scalar.subi v794 c2_i32_515
  let v903 : BitVec 32 := Scalar.addi v902 c0_i32_516
  let v1955 : Index := Scalar.indexCast v903
  let c0_1045 : Index := 0#32
  let c0_1046 : Index := 0#32
  ![0, v1955.toNat, 0, 0]
def k0_off418 (i : grid0.Coords) (c0_i32_516 : BitVec 32) : Fin 4 → Nat :=
  let c0_1054 : Index := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c2_i32_515 : BitVec 32 := 2#32
  let v902 : BitVec 32 := Scalar.subi v794 c2_i32_515
  let v903 : BitVec 32 := Scalar.addi v902 c0_i32_516
  let v1971 : Index := Scalar.indexCast v903
  let c64_1055 : Index := 64#32
  let c0_1056 : Index := 0#32
  ![0, v1971.toNat, 64, 0]
def k0_off419 (i : grid0.Coords) (c0_i32_516 : BitVec 32) : Fin 4 → Nat :=
  let c0_1064 : Index := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c2_i32_515 : BitVec 32 := 2#32
  let v902 : BitVec 32 := Scalar.subi v794 c2_i32_515
  let v903 : BitVec 32 := Scalar.addi v902 c0_i32_516
  let v1987 : Index := Scalar.indexCast v903
  let c128 : Index := 128#32
  let c0_1065 : Index := 0#32
  ![0, v1987.toNat, 128, 0]
def k0_off420 (i : grid0.Coords) (c0_i32_516 : BitVec 32) : Fin 4 → Nat :=
  let c0_1073 : Index := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c2_i32_515 : BitVec 32 := 2#32
  let v902 : BitVec 32 := Scalar.subi v794 c2_i32_515
  let v903 : BitVec 32 := Scalar.addi v902 c0_i32_516
  let v2003 : Index := Scalar.indexCast v903
  let c192 : Index := 192#32
  let c0_1074 : Index := 0#32
  ![0, v2003.toNat, 192, 0]
def k0_off421 (i : grid0.Coords) (c0_i32_516 : BitVec 32) : Fin 4 → Nat :=
  let c0_1082 : Index := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c2_i32_515 : BitVec 32 := 2#32
  let v902 : BitVec 32 := Scalar.subi v794 c2_i32_515
  let v903 : BitVec 32 := Scalar.addi v902 c0_i32_516
  let v2019 : Index := Scalar.indexCast v903
  let c256 : Index := 256#32
  let c0_1083 : Index := 0#32
  ![0, v2019.toNat, 256, 0]
def k0_off422 (i : grid0.Coords) (c0_i32_516 : BitVec 32) : Fin 4 → Nat :=
  let c0_1091 : Index := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c2_i32_515 : BitVec 32 := 2#32
  let v902 : BitVec 32 := Scalar.subi v794 c2_i32_515
  let v903 : BitVec 32 := Scalar.addi v902 c0_i32_516
  let v2035 : Index := Scalar.indexCast v903
  let c320 : Index := 320#32
  let c0_1092 : Index := 0#32
  ![0, v2035.toNat, 320, 0]
def k0_off423 (i : grid0.Coords) (c0_i32_516 : BitVec 32) : Fin 4 → Nat :=
  let c0_1100 : Index := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c2_i32_515 : BitVec 32 := 2#32
  let v902 : BitVec 32 := Scalar.subi v794 c2_i32_515
  let v903 : BitVec 32 := Scalar.addi v902 c0_i32_516
  let v2051 : Index := Scalar.indexCast v903
  let c384 : Index := 384#32
  let c0_1101 : Index := 0#32
  ![0, v2051.toNat, 384, 0]
def k0_off424 (i : grid0.Coords) (c0_i32_516 : BitVec 32) : Fin 4 → Nat :=
  let c0_1109 : Index := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c2_i32_515 : BitVec 32 := 2#32
  let v902 : BitVec 32 := Scalar.subi v794 c2_i32_515
  let v903 : BitVec 32 := Scalar.addi v902 c0_i32_516
  let v2067 : Index := Scalar.indexCast v903
  let c448 : Index := 448#32
  let c0_1110 : Index := 0#32
  ![0, v2067.toNat, 448, 0]
def k0_off425 (i : grid0.Coords) : Fin 4 → Nat :=
  let c0_1198 : Index := 0#32
  let arg1 : BitVec 32 := BitVec.ofNat 32 (i 1).val
  let c1_i32_519 : BitVec 32 := 1#32
  let v906 : BitVec 32 := Scalar.subi arg1 c1_i32_519
  let v2211 : Index := Scalar.indexCast v906
  let c0_1199 : Index := 0#32
  let c0_1200 : Index := 0#32
  ![0, v2211.toNat, 0, 0]
def k0_off426 (i : grid0.Coords) : Fin 4 → Nat :=
  let c0_1208 : Index := 0#32
  let arg1 : BitVec 32 := BitVec.ofNat 32 (i 1).val
  let c1_i32_519 : BitVec 32 := 1#32
  let v906 : BitVec 32 := Scalar.subi arg1 c1_i32_519
  let v2227 : Index := Scalar.indexCast v906
  let c64_1209 : Index := 64#32
  let c0_1210 : Index := 0#32
  ![0, v2227.toNat, 64, 0]
def k0_off427 (i : grid0.Coords) : Fin 4 → Nat :=
  let c0_1218 : Index := 0#32
  let arg1 : BitVec 32 := BitVec.ofNat 32 (i 1).val
  let c1_i32_519 : BitVec 32 := 1#32
  let v906 : BitVec 32 := Scalar.subi arg1 c1_i32_519
  let v2243 : Index := Scalar.indexCast v906
  let c128_1219 : Index := 128#32
  let c0_1220 : Index := 0#32
  ![0, v2243.toNat, 128, 0]
def k0_off428 (i : grid0.Coords) : Fin 4 → Nat :=
  let c0_1228 : Index := 0#32
  let arg1 : BitVec 32 := BitVec.ofNat 32 (i 1).val
  let c1_i32_519 : BitVec 32 := 1#32
  let v906 : BitVec 32 := Scalar.subi arg1 c1_i32_519
  let v2259 : Index := Scalar.indexCast v906
  let c192_1229 : Index := 192#32
  let c0_1230 : Index := 0#32
  ![0, v2259.toNat, 192, 0]
def k0_off429 (i : grid0.Coords) : Fin 4 → Nat :=
  let c0_1238 : Index := 0#32
  let arg1 : BitVec 32 := BitVec.ofNat 32 (i 1).val
  let c1_i32_519 : BitVec 32 := 1#32
  let v906 : BitVec 32 := Scalar.subi arg1 c1_i32_519
  let v2275 : Index := Scalar.indexCast v906
  let c256_1239 : Index := 256#32
  let c0_1240 : Index := 0#32
  ![0, v2275.toNat, 256, 0]
def k0_off430 (i : grid0.Coords) : Fin 4 → Nat :=
  let c0_1248 : Index := 0#32
  let arg1 : BitVec 32 := BitVec.ofNat 32 (i 1).val
  let c1_i32_519 : BitVec 32 := 1#32
  let v906 : BitVec 32 := Scalar.subi arg1 c1_i32_519
  let v2291 : Index := Scalar.indexCast v906
  let c320_1249 : Index := 320#32
  let c0_1250 : Index := 0#32
  ![0, v2291.toNat, 320, 0]
def k0_off431 (i : grid0.Coords) : Fin 4 → Nat :=
  let c0_1258 : Index := 0#32
  let arg1 : BitVec 32 := BitVec.ofNat 32 (i 1).val
  let c1_i32_519 : BitVec 32 := 1#32
  let v906 : BitVec 32 := Scalar.subi arg1 c1_i32_519
  let v2307 : Index := Scalar.indexCast v906
  let c384_1259 : Index := 384#32
  let c0_1260 : Index := 0#32
  ![0, v2307.toNat, 384, 0]
def k0_off432 (i : grid0.Coords) : Fin 4 → Nat :=
  let c0_1268 : Index := 0#32
  let arg1 : BitVec 32 := BitVec.ofNat 32 (i 1).val
  let c1_i32_519 : BitVec 32 := 1#32
  let v906 : BitVec 32 := Scalar.subi arg1 c1_i32_519
  let v2323 : Index := Scalar.indexCast v906
  let c448_1269 : Index := 448#32
  let c0_1270 : Index := 0#32
  ![0, v2323.toNat, 448, 0]
def k0_off433 (i : grid0.Coords) : Fin 4 → Nat :=
  let c0_1278 : Index := 0#32
  let arg1 : BitVec 32 := BitVec.ofNat 32 (i 1).val
  let v2339 : Index := Scalar.indexCast arg1
  let c0_1279 : Index := 0#32
  let c0_1280 : Index := 0#32
  ![0, v2339.toNat, 0, 0]
def k0_off434 (i : grid0.Coords) : Fin 4 → Nat :=
  let c0_1288 : Index := 0#32
  let arg1 : BitVec 32 := BitVec.ofNat 32 (i 1).val
  let v2355 : Index := Scalar.indexCast arg1
  let c64_1289 : Index := 64#32
  let c0_1290 : Index := 0#32
  ![0, v2355.toNat, 64, 0]
def k0_off435 (i : grid0.Coords) : Fin 4 → Nat :=
  let c0_1298 : Index := 0#32
  let arg1 : BitVec 32 := BitVec.ofNat 32 (i 1).val
  let v2371 : Index := Scalar.indexCast arg1
  let c128_1299 : Index := 128#32
  let c0_1300 : Index := 0#32
  ![0, v2371.toNat, 128, 0]
def k0_off436 (i : grid0.Coords) : Fin 4 → Nat :=
  let c0_1308 : Index := 0#32
  let arg1 : BitVec 32 := BitVec.ofNat 32 (i 1).val
  let v2387 : Index := Scalar.indexCast arg1
  let c192_1309 : Index := 192#32
  let c0_1310 : Index := 0#32
  ![0, v2387.toNat, 192, 0]
def k0_off437 (i : grid0.Coords) : Fin 4 → Nat :=
  let c0_1318 : Index := 0#32
  let arg1 : BitVec 32 := BitVec.ofNat 32 (i 1).val
  let v2403 : Index := Scalar.indexCast arg1
  let c256_1319 : Index := 256#32
  let c0_1320 : Index := 0#32
  ![0, v2403.toNat, 256, 0]
def k0_off438 (i : grid0.Coords) : Fin 4 → Nat :=
  let c0_1328 : Index := 0#32
  let arg1 : BitVec 32 := BitVec.ofNat 32 (i 1).val
  let v2419 : Index := Scalar.indexCast arg1
  let c320_1329 : Index := 320#32
  let c0_1330 : Index := 0#32
  ![0, v2419.toNat, 320, 0]
def k0_off439 (i : grid0.Coords) : Fin 4 → Nat :=
  let c0_1338 : Index := 0#32
  let arg1 : BitVec 32 := BitVec.ofNat 32 (i 1).val
  let v2435 : Index := Scalar.indexCast arg1
  let c384_1339 : Index := 384#32
  let c0_1340 : Index := 0#32
  ![0, v2435.toNat, 384, 0]
def k0_off440 (i : grid0.Coords) : Fin 4 → Nat :=
  let c0_1348 : Index := 0#32
  let arg1 : BitVec 32 := BitVec.ofNat 32 (i 1).val
  let v2451 : Index := Scalar.indexCast arg1
  let c448_1349 : Index := 448#32
  let c0_1350 : Index := 0#32
  ![0, v2451.toNat, 448, 0]
def k0_cond11 (i : grid0.Coords) : BitVec 1 :=
  let arg1 : BitVec 32 := BitVec.ofNat 32 (i 1).val
  let c1_i32_461 : BitVec 32 := 1#32
  let v842 : BitVec 1 := Scalar.cmpi .sge arg1 c1_i32_461
  let c1_i32_432 : BitVec 32 := 1#32
  let v793 : BitVec 32 := Scalar.subi arg1 c1_i32_432
  let c0_i32_433 : BitVec 32 := 0#32
  let v794 : BitVec 32 := Scalar.maxsi v793 c0_i32_433
  let c4_i32_446 : BitVec 32 := 4#32
  let c0_i32_447 : BitVec 32 := 0#32
  let v817 : BitVec 1 := Scalar.cmpi .eq c4_i32_446 c0_i32_447
  let c1_i32_448 : BitVec 32 := 1#32
  let v818 : BitVec 32 := Scalar.select v817 c1_i32_448 c4_i32_446
  let v819 : BitVec 32 := Scalar.remsi v794 v818
  let c0_i32_450 : BitVec 32 := 0#32
  let v821 : BitVec 1 := Scalar.cmpi .slt v819 c0_i32_450
  let c0_i32_451 : BitVec 32 := 0#32
  let v822 : BitVec 1 := Scalar.cmpi .slt v818 c0_i32_451
  let v823 : BitVec 1 := Scalar.xori v821 v822
  let c0_i32_449 : BitVec 32 := 0#32
  let v820 : BitVec 1 := Scalar.cmpi .ne v819 c0_i32_449
  let v824 : BitVec 1 := Scalar.andi v823 v820
  let v825 : BitVec 32 := Scalar.addi v819 v818
  let v826 : BitVec 32 := Scalar.select v824 v825 v819
  let c3_i32_462 : BitVec 32 := 3#32
  let v843 : BitVec 1 := Scalar.cmpi .eq v826 c3_i32_462
  let v844 : BitVec 1 := Scalar.andi v842 v843
  let v845 : BitVec 32 := Scalar.extui v844
  let c0_i32_463 : BitVec 32 := 0#32
  let v846 : BitVec 1 := Scalar.cmpi .ne v845 c0_i32_463
  v846

def k0_mult36 (i : grid0.Coords) : BitVec 32 :=
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c3_i32_515 : BitVec 32 := 3#32
  let v902 : BitVec 32 := Scalar.subi v794 c3_i32_515
  let c0_i32_516 : BitVec 32 := 0#32
  let v903 : BitVec 32 := Scalar.addi v902 c0_i32_516
  let c256_i32_522 : BitVec 32 := 256#32
  let v909 : BitVec 32 := Scalar.muli v903 c256_i32_522
  v909
def k0_off441 (i : grid0.Coords) (c0_i32_516 : BitVec 32) : Fin 2 → Nat :=
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c3_i32_515 : BitVec 32 := 3#32
  let v902 : BitVec 32 := Scalar.subi v794 c3_i32_515
  let v903 : BitVec 32 := Scalar.addi v902 c0_i32_516
  let c256_i32_522 : BitVec 32 := 256#32
  let v909 : BitVec 32 := Scalar.muli v903 c256_i32_522
  let v910 : BitVec 32 := v909
  let v911 : Index := Scalar.indexCast v910
  let c0_523 : Index := 0#32
  ![v911.toNat, 0]
def k0_off442 (i : grid0.Coords) (c0_i32_516 : BitVec 32) : Fin 3 → Nat :=
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c3_i32_515 : BitVec 32 := 3#32
  let v902 : BitVec 32 := Scalar.subi v794 c3_i32_515
  let v903 : BitVec 32 := Scalar.addi v902 c0_i32_516
  let v917 : Index := Scalar.indexCast v903
  let c0_528 : Index := 0#32
  let c0_529 : Index := 0#32
  ![v917.toNat, 0, 0]
def k0_off443 (i : grid0.Coords) (c0_i32_516 : BitVec 32) : Fin 3 → Nat :=
  let c0_589 : Index := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c3_i32_515 : BitVec 32 := 3#32
  let v902 : BitVec 32 := Scalar.subi v794 c3_i32_515
  let v903 : BitVec 32 := Scalar.addi v902 c0_i32_516
  let v1009 : Index := Scalar.indexCast v903
  let c0_590 : Index := 0#32
  ![0, v1009.toNat, 0]
def k0_off444 (i : grid0.Coords) (c0_i32_516 : BitVec 32) : Fin 3 → Nat :=
  let c1_605 : Index := 1#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c3_i32_515 : BitVec 32 := 3#32
  let v902 : BitVec 32 := Scalar.subi v794 c3_i32_515
  let v903 : BitVec 32 := Scalar.addi v902 c0_i32_516
  let v1038 : Index := Scalar.indexCast v903
  let c0_606 : Index := 0#32
  ![1, v1038.toNat, 0]
def k0_off445 (i : grid0.Coords) (c0_i32_516 : BitVec 32) : Fin 3 → Nat :=
  let c2_621 : Index := 2#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c3_i32_515 : BitVec 32 := 3#32
  let v902 : BitVec 32 := Scalar.subi v794 c3_i32_515
  let v903 : BitVec 32 := Scalar.addi v902 c0_i32_516
  let v1067 : Index := Scalar.indexCast v903
  let c0_622 : Index := 0#32
  ![2, v1067.toNat, 0]
def k0_off446 (i : grid0.Coords) (c0_i32_516 : BitVec 32) : Fin 3 → Nat :=
  let c3_637 : Index := 3#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c3_i32_515 : BitVec 32 := 3#32
  let v902 : BitVec 32 := Scalar.subi v794 c3_i32_515
  let v903 : BitVec 32 := Scalar.addi v902 c0_i32_516
  let v1096 : Index := Scalar.indexCast v903
  let c0_638 : Index := 0#32
  ![3, v1096.toNat, 0]
def k0_mult37 (i : grid0.Coords) : BitVec 32 :=
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c3_i32_517 : BitVec 32 := 3#32
  let v904 : BitVec 32 := Scalar.subi v794 c3_i32_517
  let c1_i32_518 : BitVec 32 := 1#32
  let v905 : BitVec 32 := Scalar.addi v904 c1_i32_518
  let c256_i32_644 : BitVec 32 := 256#32
  let v1113 : BitVec 32 := Scalar.muli v905 c256_i32_644
  v1113
def k0_mult38 (i : grid0.Coords) : BitVec 32 :=
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c3_i32_519 : BitVec 32 := 3#32
  let v906 : BitVec 32 := Scalar.subi v794 c3_i32_519
  let c2_i32_520 : BitVec 32 := 2#32
  let v907 : BitVec 32 := Scalar.addi v906 c2_i32_520
  let c256_i32_766 : BitVec 32 := 256#32
  let v1317 : BitVec 32 := Scalar.muli v907 c256_i32_766
  v1317
def k0_mult39 (i : grid0.Coords) : BitVec 32 :=
  let arg1 : BitVec 32 := BitVec.ofNat 32 (i 1).val
  let c1_i32_521 : BitVec 32 := 1#32
  let v908 : BitVec 32 := Scalar.subi arg1 c1_i32_521
  let c256_i32_888 : BitVec 32 := 256#32
  let v1521 : BitVec 32 := Scalar.muli v908 c256_i32_888
  v1521
def k0_off447 (i : grid0.Coords) : Fin 2 → Nat :=
  let arg1 : BitVec 32 := BitVec.ofNat 32 (i 1).val
  let c1_i32_521 : BitVec 32 := 1#32
  let v908 : BitVec 32 := Scalar.subi arg1 c1_i32_521
  let c256_i32_888 : BitVec 32 := 256#32
  let v1521 : BitVec 32 := Scalar.muli v908 c256_i32_888
  let v1522 : BitVec 32 := v1521
  let v1523 : Index := Scalar.indexCast v1522
  let c0_889 : Index := 0#32
  ![v1523.toNat, 0]
def k0_off448 (i : grid0.Coords) : Fin 3 → Nat :=
  let arg1 : BitVec 32 := BitVec.ofNat 32 (i 1).val
  let c1_i32_521 : BitVec 32 := 1#32
  let v908 : BitVec 32 := Scalar.subi arg1 c1_i32_521
  let v1532 : Index := Scalar.indexCast v908
  let c0_897 : Index := 0#32
  let c0_898 : Index := 0#32
  ![v1532.toNat, 0, 0]
def k0_off449 (i : grid0.Coords) : Fin 3 → Nat :=
  let c0_970 : Index := 0#32
  let arg1 : BitVec 32 := BitVec.ofNat 32 (i 1).val
  let c1_i32_521 : BitVec 32 := 1#32
  let v908 : BitVec 32 := Scalar.subi arg1 c1_i32_521
  let v1636 : Index := Scalar.indexCast v908
  let c0_971 : Index := 0#32
  ![0, v1636.toNat, 0]
def k0_off450 (i : grid0.Coords) : Fin 3 → Nat :=
  let c1_989 : Index := 1#32
  let arg1 : BitVec 32 := BitVec.ofNat 32 (i 1).val
  let c1_i32_521 : BitVec 32 := 1#32
  let v908 : BitVec 32 := Scalar.subi arg1 c1_i32_521
  let v1668 : Index := Scalar.indexCast v908
  let c0_990 : Index := 0#32
  ![1, v1668.toNat, 0]
def k0_off451 (i : grid0.Coords) : Fin 3 → Nat :=
  let c2_1008 : Index := 2#32
  let arg1 : BitVec 32 := BitVec.ofNat 32 (i 1).val
  let c1_i32_521 : BitVec 32 := 1#32
  let v908 : BitVec 32 := Scalar.subi arg1 c1_i32_521
  let v1700 : Index := Scalar.indexCast v908
  let c0_1009 : Index := 0#32
  ![2, v1700.toNat, 0]
def k0_off452 (i : grid0.Coords) : Fin 3 → Nat :=
  let c3_1027 : Index := 3#32
  let arg1 : BitVec 32 := BitVec.ofNat 32 (i 1).val
  let c1_i32_521 : BitVec 32 := 1#32
  let v908 : BitVec 32 := Scalar.subi arg1 c1_i32_521
  let v1732 : Index := Scalar.indexCast v908
  let c0_1028 : Index := 0#32
  ![3, v1732.toNat, 0]
def k0_mult40 (i : grid0.Coords) : BitVec 32 :=
  let arg1 : BitVec 32 := BitVec.ofNat 32 (i 1).val
  let c256_i32_1034 : BitVec 32 := 256#32
  let v1749 : BitVec 32 := Scalar.muli arg1 c256_i32_1034
  v1749
def k0_off453 (i : grid0.Coords) : Fin 2 → Nat :=
  let arg1 : BitVec 32 := BitVec.ofNat 32 (i 1).val
  let c256_i32_1034 : BitVec 32 := 256#32
  let v1749 : BitVec 32 := Scalar.muli arg1 c256_i32_1034
  let v1750 : BitVec 32 := v1749
  let v1751 : Index := Scalar.indexCast v1750
  let c0_1035 : Index := 0#32
  ![v1751.toNat, 0]
def k0_off454 (i : grid0.Coords) : Fin 3 → Nat :=
  let arg1 : BitVec 32 := BitVec.ofNat 32 (i 1).val
  let v1760 : Index := Scalar.indexCast arg1
  let c0_1043 : Index := 0#32
  let c0_1044 : Index := 0#32
  ![v1760.toNat, 0, 0]
def k0_off455 (i : grid0.Coords) (c0_i32_516 : BitVec 32) : Fin 4 → Nat :=
  let c0_1168 : Index := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c3_i32_515 : BitVec 32 := 3#32
  let v902 : BitVec 32 := Scalar.subi v794 c3_i32_515
  let v903 : BitVec 32 := Scalar.addi v902 c0_i32_516
  let v2217 : Index := Scalar.indexCast v903
  let c0_1169 : Index := 0#32
  let c0_1170 : Index := 0#32
  ![0, v2217.toNat, 0, 0]
def k0_off456 (i : grid0.Coords) (c0_i32_516 : BitVec 32) : Fin 4 → Nat :=
  let c0_1178 : Index := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c3_i32_515 : BitVec 32 := 3#32
  let v902 : BitVec 32 := Scalar.subi v794 c3_i32_515
  let v903 : BitVec 32 := Scalar.addi v902 c0_i32_516
  let v2233 : Index := Scalar.indexCast v903
  let c64_1179 : Index := 64#32
  let c0_1180 : Index := 0#32
  ![0, v2233.toNat, 64, 0]
def k0_off457 (i : grid0.Coords) (c0_i32_516 : BitVec 32) : Fin 4 → Nat :=
  let c0_1188 : Index := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c3_i32_515 : BitVec 32 := 3#32
  let v902 : BitVec 32 := Scalar.subi v794 c3_i32_515
  let v903 : BitVec 32 := Scalar.addi v902 c0_i32_516
  let v2249 : Index := Scalar.indexCast v903
  let c128 : Index := 128#32
  let c0_1189 : Index := 0#32
  ![0, v2249.toNat, 128, 0]
def k0_off458 (i : grid0.Coords) (c0_i32_516 : BitVec 32) : Fin 4 → Nat :=
  let c0_1197 : Index := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c3_i32_515 : BitVec 32 := 3#32
  let v902 : BitVec 32 := Scalar.subi v794 c3_i32_515
  let v903 : BitVec 32 := Scalar.addi v902 c0_i32_516
  let v2265 : Index := Scalar.indexCast v903
  let c192 : Index := 192#32
  let c0_1198 : Index := 0#32
  ![0, v2265.toNat, 192, 0]
def k0_off459 (i : grid0.Coords) (c0_i32_516 : BitVec 32) : Fin 4 → Nat :=
  let c0_1206 : Index := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c3_i32_515 : BitVec 32 := 3#32
  let v902 : BitVec 32 := Scalar.subi v794 c3_i32_515
  let v903 : BitVec 32 := Scalar.addi v902 c0_i32_516
  let v2281 : Index := Scalar.indexCast v903
  let c256 : Index := 256#32
  let c0_1207 : Index := 0#32
  ![0, v2281.toNat, 256, 0]
def k0_off460 (i : grid0.Coords) (c0_i32_516 : BitVec 32) : Fin 4 → Nat :=
  let c0_1215 : Index := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c3_i32_515 : BitVec 32 := 3#32
  let v902 : BitVec 32 := Scalar.subi v794 c3_i32_515
  let v903 : BitVec 32 := Scalar.addi v902 c0_i32_516
  let v2297 : Index := Scalar.indexCast v903
  let c320 : Index := 320#32
  let c0_1216 : Index := 0#32
  ![0, v2297.toNat, 320, 0]
def k0_off461 (i : grid0.Coords) (c0_i32_516 : BitVec 32) : Fin 4 → Nat :=
  let c0_1224 : Index := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c3_i32_515 : BitVec 32 := 3#32
  let v902 : BitVec 32 := Scalar.subi v794 c3_i32_515
  let v903 : BitVec 32 := Scalar.addi v902 c0_i32_516
  let v2313 : Index := Scalar.indexCast v903
  let c384 : Index := 384#32
  let c0_1225 : Index := 0#32
  ![0, v2313.toNat, 384, 0]
def k0_off462 (i : grid0.Coords) (c0_i32_516 : BitVec 32) : Fin 4 → Nat :=
  let c0_1233 : Index := 0#32
  let arg1 : BitVec 32 := BitVec.ofNat 32 (i 1).val
  let c1_i32_432 : BitVec 32 := 1#32
  let v793 : BitVec 32 := Scalar.subi arg1 c1_i32_432
  let c0_i32_433 : BitVec 32 := 0#32
  let v794 : BitVec 32 := Scalar.maxsi v793 c0_i32_433
  let c3_i32_515 : BitVec 32 := 3#32
  let v902 : BitVec 32 := Scalar.subi v794 c3_i32_515
  let v903 : BitVec 32 := Scalar.addi v902 c0_i32_516
  let v2329 : Index := Scalar.indexCast v903
  let c448 : Index := 448#32
  let c0_1234 : Index := 0#32
  ![0, v2329.toNat, 448, 0]
def k0_off463 (i : grid0.Coords) : Fin 4 → Nat :=
  let c0_1402 : Index := 0#32
  let arg1 : BitVec 32 := BitVec.ofNat 32 (i 1).val
  let c1_i32_521 : BitVec 32 := 1#32
  let v908 : BitVec 32 := Scalar.subi arg1 c1_i32_521
  let v2601 : Index := Scalar.indexCast v908
  let c0_1403 : Index := 0#32
  let c0_1404 : Index := 0#32
  ![0, v2601.toNat, 0, 0]
def k0_off464 (i : grid0.Coords) : Fin 4 → Nat :=
  let c0_1412 : Index := 0#32
  let arg1 : BitVec 32 := BitVec.ofNat 32 (i 1).val
  let c1_i32_521 : BitVec 32 := 1#32
  let v908 : BitVec 32 := Scalar.subi arg1 c1_i32_521
  let v2617 : Index := Scalar.indexCast v908
  let c64_1413 : Index := 64#32
  let c0_1414 : Index := 0#32
  ![0, v2617.toNat, 64, 0]
def k0_off465 (i : grid0.Coords) : Fin 4 → Nat :=
  let c0_1422 : Index := 0#32
  let arg1 : BitVec 32 := BitVec.ofNat 32 (i 1).val
  let c1_i32_521 : BitVec 32 := 1#32
  let v908 : BitVec 32 := Scalar.subi arg1 c1_i32_521
  let v2633 : Index := Scalar.indexCast v908
  let c128_1423 : Index := 128#32
  let c0_1424 : Index := 0#32
  ![0, v2633.toNat, 128, 0]
def k0_off466 (i : grid0.Coords) : Fin 4 → Nat :=
  let c0_1432 : Index := 0#32
  let arg1 : BitVec 32 := BitVec.ofNat 32 (i 1).val
  let c1_i32_521 : BitVec 32 := 1#32
  let v908 : BitVec 32 := Scalar.subi arg1 c1_i32_521
  let v2649 : Index := Scalar.indexCast v908
  let c192_1433 : Index := 192#32
  let c0_1434 : Index := 0#32
  ![0, v2649.toNat, 192, 0]
def k0_off467 (i : grid0.Coords) : Fin 4 → Nat :=
  let c0_1442 : Index := 0#32
  let arg1 : BitVec 32 := BitVec.ofNat 32 (i 1).val
  let c1_i32_521 : BitVec 32 := 1#32
  let v908 : BitVec 32 := Scalar.subi arg1 c1_i32_521
  let v2665 : Index := Scalar.indexCast v908
  let c256_1443 : Index := 256#32
  let c0_1444 : Index := 0#32
  ![0, v2665.toNat, 256, 0]
def k0_off468 (i : grid0.Coords) : Fin 4 → Nat :=
  let c0_1452 : Index := 0#32
  let arg1 : BitVec 32 := BitVec.ofNat 32 (i 1).val
  let c1_i32_521 : BitVec 32 := 1#32
  let v908 : BitVec 32 := Scalar.subi arg1 c1_i32_521
  let v2681 : Index := Scalar.indexCast v908
  let c320_1453 : Index := 320#32
  let c0_1454 : Index := 0#32
  ![0, v2681.toNat, 320, 0]
def k0_off469 (i : grid0.Coords) : Fin 4 → Nat :=
  let c0_1462 : Index := 0#32
  let arg1 : BitVec 32 := BitVec.ofNat 32 (i 1).val
  let c1_i32_521 : BitVec 32 := 1#32
  let v908 : BitVec 32 := Scalar.subi arg1 c1_i32_521
  let v2697 : Index := Scalar.indexCast v908
  let c384_1463 : Index := 384#32
  let c0_1464 : Index := 0#32
  ![0, v2697.toNat, 384, 0]
def k0_off470 (i : grid0.Coords) : Fin 4 → Nat :=
  let c0_1472 : Index := 0#32
  let arg1 : BitVec 32 := BitVec.ofNat 32 (i 1).val
  let c1_i32_521 : BitVec 32 := 1#32
  let v908 : BitVec 32 := Scalar.subi arg1 c1_i32_521
  let v2713 : Index := Scalar.indexCast v908
  let c448_1473 : Index := 448#32
  let c0_1474 : Index := 0#32
  ![0, v2713.toNat, 448, 0]
def k0_off471 (i : grid0.Coords) : Fin 4 → Nat :=
  let c0_1482 : Index := 0#32
  let arg1 : BitVec 32 := BitVec.ofNat 32 (i 1).val
  let v2729 : Index := Scalar.indexCast arg1
  let c0_1483 : Index := 0#32
  let c0_1484 : Index := 0#32
  ![0, v2729.toNat, 0, 0]
def k0_off472 (i : grid0.Coords) : Fin 4 → Nat :=
  let c0_1492 : Index := 0#32
  let arg1 : BitVec 32 := BitVec.ofNat 32 (i 1).val
  let v2745 : Index := Scalar.indexCast arg1
  let c64_1493 : Index := 64#32
  let c0_1494 : Index := 0#32
  ![0, v2745.toNat, 64, 0]
def k0_off473 (i : grid0.Coords) : Fin 4 → Nat :=
  let c0_1502 : Index := 0#32
  let arg1 : BitVec 32 := BitVec.ofNat 32 (i 1).val
  let v2761 : Index := Scalar.indexCast arg1
  let c128_1503 : Index := 128#32
  let c0_1504 : Index := 0#32
  ![0, v2761.toNat, 128, 0]
def k0_off474 (i : grid0.Coords) : Fin 4 → Nat :=
  let c0_1512 : Index := 0#32
  let arg1 : BitVec 32 := BitVec.ofNat 32 (i 1).val
  let v2777 : Index := Scalar.indexCast arg1
  let c192_1513 : Index := 192#32
  let c0_1514 : Index := 0#32
  ![0, v2777.toNat, 192, 0]
def k0_off475 (i : grid0.Coords) : Fin 4 → Nat :=
  let c0_1522 : Index := 0#32
  let arg1 : BitVec 32 := BitVec.ofNat 32 (i 1).val
  let v2793 : Index := Scalar.indexCast arg1
  let c256_1523 : Index := 256#32
  let c0_1524 : Index := 0#32
  ![0, v2793.toNat, 256, 0]
def k0_off476 (i : grid0.Coords) : Fin 4 → Nat :=
  let c0_1532 : Index := 0#32
  let arg1 : BitVec 32 := BitVec.ofNat 32 (i 1).val
  let v2809 : Index := Scalar.indexCast arg1
  let c320_1533 : Index := 320#32
  let c0_1534 : Index := 0#32
  ![0, v2809.toNat, 320, 0]
def k0_off477 (i : grid0.Coords) : Fin 4 → Nat :=
  let c0_1542 : Index := 0#32
  let arg1 : BitVec 32 := BitVec.ofNat 32 (i 1).val
  let v2825 : Index := Scalar.indexCast arg1
  let c384_1543 : Index := 384#32
  let c0_1544 : Index := 0#32
  ![0, v2825.toNat, 384, 0]
def k0_off478 (i : grid0.Coords) : Fin 4 → Nat :=
  let c0_1552 : Index := 0#32
  let arg1 : BitVec 32 := BitVec.ofNat 32 (i 1).val
  let v2841 : Index := Scalar.indexCast arg1
  let c448_1553 : Index := 448#32
  let c0_1554 : Index := 0#32
  ![0, v2841.toNat, 448, 0]
def k0_cond12 (i : grid0.Coords) : BitVec 1 :=
  let arg1 : BitVec 32 := BitVec.ofNat 32 (i 1).val
  let c0_i32_464 : BitVec 32 := 0#32
  let v847 : BitVec 1 := Scalar.cmpi .eq arg1 c0_i32_464
  let v848 : BitVec 32 := Scalar.extui v847
  let c0_i32_465 : BitVec 32 := 0#32
  let v849 : BitVec 1 := Scalar.cmpi .ne v848 c0_i32_465
  v849

def k0_mult41 (i : grid0.Coords) : BitVec 32 :=
  let arg1 : BitVec 32 := BitVec.ofNat 32 (i 1).val
  let c256_i32_515 : BitVec 32 := 256#32
  let v902 : BitVec 32 := Scalar.muli arg1 c256_i32_515
  v902
def k0_off479 (i : grid0.Coords) : Fin 2 → Nat :=
  let arg1 : BitVec 32 := BitVec.ofNat 32 (i 1).val
  let c256_i32_515 : BitVec 32 := 256#32
  let v902 : BitVec 32 := Scalar.muli arg1 c256_i32_515
  let v903 : BitVec 32 := v902
  let v904 : Index := Scalar.indexCast v903
  let c0_516 : Index := 0#32
  ![v904.toNat, 0]
def k0_off480 (i : grid0.Coords) : Fin 3 → Nat :=
  let arg1 : BitVec 32 := BitVec.ofNat 32 (i 1).val
  let v913 : Index := Scalar.indexCast arg1
  let c0_524 : Index := 0#32
  let c0_525 : Index := 0#32
  ![v913.toNat, 0, 0]
def k0_off481 (i : grid0.Coords) : Fin 4 → Nat :=
  let c0_649 : Index := 0#32
  let arg1 : BitVec 32 := BitVec.ofNat 32 (i 1).val
  let v1146 : Index := Scalar.indexCast arg1
  let c0_650 : Index := 0#32
  let c0_651 : Index := 0#32
  ![0, v1146.toNat, 0, 0]
def k0_off482 (i : grid0.Coords) : Fin 4 → Nat :=
  let c0_659 : Index := 0#32
  let arg1 : BitVec 32 := BitVec.ofNat 32 (i 1).val
  let v1162 : Index := Scalar.indexCast arg1
  let c64_660 : Index := 64#32
  let c0_661 : Index := 0#32
  ![0, v1162.toNat, 64, 0]
def k0_off483 (i : grid0.Coords) : Fin 4 → Nat :=
  let c0_669 : Index := 0#32
  let arg1 : BitVec 32 := BitVec.ofNat 32 (i 1).val
  let v1178 : Index := Scalar.indexCast arg1
  let c128 : Index := 128#32
  let c0_670 : Index := 0#32
  ![0, v1178.toNat, 128, 0]
def k0_off484 (i : grid0.Coords) : Fin 4 → Nat :=
  let c0_678 : Index := 0#32
  let arg1 : BitVec 32 := BitVec.ofNat 32 (i 1).val
  let v1194 : Index := Scalar.indexCast arg1
  let c192 : Index := 192#32
  let c0_679 : Index := 0#32
  ![0, v1194.toNat, 192, 0]
def k0_off485 (i : grid0.Coords) : Fin 4 → Nat :=
  let c0_687 : Index := 0#32
  let arg1 : BitVec 32 := BitVec.ofNat 32 (i 1).val
  let v1210 : Index := Scalar.indexCast arg1
  let c256 : Index := 256#32
  let c0_688 : Index := 0#32
  ![0, v1210.toNat, 256, 0]
def k0_off486 (i : grid0.Coords) : Fin 4 → Nat :=
  let c0_696 : Index := 0#32
  let arg1 : BitVec 32 := BitVec.ofNat 32 (i 1).val
  let v1226 : Index := Scalar.indexCast arg1
  let c320 : Index := 320#32
  let c0_697 : Index := 0#32
  ![0, v1226.toNat, 320, 0]
def k0_off487 (i : grid0.Coords) : Fin 4 → Nat :=
  let c0_705 : Index := 0#32
  let arg1 : BitVec 32 := BitVec.ofNat 32 (i 1).val
  let v1242 : Index := Scalar.indexCast arg1
  let c384 : Index := 384#32
  let c0_706 : Index := 0#32
  ![0, v1242.toNat, 384, 0]
def k0_off488 (i : grid0.Coords) : Fin 4 → Nat :=
  let c0_714 : Index := 0#32
  let arg1 : BitVec 32 := BitVec.ofNat 32 (i 1).val
  let v1258 : Index := Scalar.indexCast arg1
  let c448 : Index := 448#32
  let c0_715 : Index := 0#32
  ![0, v1258.toNat, 448, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, c12_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Tail.lean ====
abbrev S4x4096x1024 : Shape := ⟨3, ![4, 4096, 1024]⟩
abbrev S16384x512 : Shape := ⟨2, ![16384, 512]⟩
abbrev S4x4x4096x256 : Shape := ⟨4, ![4, 4, 4096, 256]⟩
abbrev S4x1024x1024 : Shape := ⟨3, ![4, 1024, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S4x256x1024 : Shape := ⟨3, ![4, 256, 1024]⟩
abbrev S16384x1024 : Shape := ⟨2, ![16384, 1024]⟩
abbrev S4x16384x256 : Shape := ⟨3, ![4, 16384, 256]⟩
abbrev S1x1024 : Shape := ⟨2, ![1, 1024]⟩
abbrev S1024 : Shape := ⟨1, ![1024]⟩
abbrev S512x1024 : Shape := ⟨2, ![512, 1024]⟩
abbrev S512x512 : Shape := ⟨2, ![512, 512]⟩
abbrev S1x512x256 : Shape := ⟨3, ![1, 512, 256]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1x256x1024 : Shape := ⟨3, ![1, 256, 1024]⟩
abbrev S512x2816 : Shape := ⟨2, ![512, 2816]⟩
abbrev S256x512 : Shape := ⟨2, ![256, 512]⟩
abbrev S1x512x1024 : Shape := ⟨3, ![1, 512, 1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩
abbrev S1x1024x768 : Shape := ⟨3, ![1, 1024, 768]⟩
abbrev S1024x768 : Shape := ⟨2, ![1024, 768]⟩
abbrev S256x768 : Shape := ⟨2, ![256, 768]⟩
abbrev S256x2816 : Shape := ⟨2, ![256, 2816]⟩
abbrev S2816x1024 : Shape := ⟨2, ![2816, 1024]⟩
abbrev S1x256x256 : Shape := ⟨3, ![1, 256, 256]⟩
abbrev S256x256 : Shape := ⟨2, ![256, 256]⟩

abbrev nBuf : Space → Nat
  | .hbm => 33
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S16384x512, .bf16⟩
  | .hbm, ⟨2, _⟩ => ⟨S16384x512, .bf16⟩
  | .hbm, ⟨3, _⟩ => ⟨S4x4x4096x256, .f32⟩
  | .hbm, ⟨4, _⟩ => ⟨S4x1024x1024, .f32⟩
  | .hbm, ⟨5, _⟩ => ⟨S4x1024, .f32⟩
  | .hbm, ⟨6, _⟩ => ⟨S4x1024, .f32⟩
  | .hbm, ⟨7, _⟩ => ⟨S4x1024x5632, .f32⟩
  | .hbm, ⟨8, _⟩ => ⟨S4x2816x1024, .f32⟩
  | .hbm, ⟨9, _⟩ => ⟨S4x1024, .f32⟩
  | .hbm, ⟨10, _⟩ => ⟨S4x1024, .f32⟩
  | .hbm, ⟨11, _⟩ => ⟨S4x1024x1024, .f32⟩
  | .hbm, ⟨12, _⟩ => ⟨S4x256x1024, .f32⟩
  | .hbm, ⟨13, _⟩ => ⟨S4x1024x5632, .bf16⟩
  | .hbm, ⟨14, _⟩ => ⟨S4x2816x1024, .bf16⟩
  | .hbm, ⟨15, _⟩ => ⟨S4x1024x1024, .bf16⟩
  | .hbm, ⟨16, _⟩ => ⟨S4x1024x1024, .bf16⟩
  | .hbm, ⟨17, _⟩ => ⟨S4x256x1024, .bf16⟩
  | .hbm, ⟨18, _⟩ => ⟨S16384x1024, .f32⟩
  | .hbm, ⟨19, _⟩ => ⟨S4x16384x256, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x512x256, .f32⟩
  | .local _ .vmem, ⟨7, _⟩ => ⟨S1x512x256, .f32⟩
  | .local _ .vmem, ⟨8, _⟩ => ⟨S1x1024x1024, .bf16⟩
  | .local _ .vmem, ⟨9, _⟩ => ⟨S1x1024, .f32⟩
  | .local _ .vmem, ⟨10, _⟩ => ⟨S1x1024, .f32⟩
  | .local _ .vmem, ⟨11, _⟩ => ⟨S1x1024x5632, .bf16⟩
  | .local _ .vmem, ⟨12, _⟩ => ⟨S1x2816x1024, .bf16⟩
  | .local _ .vmem, ⟨13, _⟩ => ⟨S1x1024, .f32⟩
  | .local _ .vmem, ⟨14, _⟩ => ⟨S1x1024, .f32⟩
  | .local _ .vmem, ⟨15, _⟩ => ⟨S1x1024x1024, .bf16⟩
  | .local _ .vmem, ⟨16, _⟩ => ⟨S1x256x1024, .bf16⟩
  | .local _ .vmem, ⟨17, _⟩ => ⟨S512x1024, .f32⟩
  | .local _ .vmem, ⟨18, _⟩ => ⟨S512x1024, .f32⟩
  | .local _ .vmem, ⟨19, _⟩ => ⟨S512x2816, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== TailReferenceIdeal.lean ====
abbrev S4x4096x1024 : Shape := ⟨3, ![4, 4096, 1024]⟩
abbrev S16384x512 : Shape := ⟨2, ![16384, 512]⟩
abbrev S4x4x4096x256 : Shape := ⟨4, ![4, 4, 4096, 256]⟩
abbrev S4x1024x1024 : Shape := ⟨3, ![4, 1024, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S4x256x1024 : Shape := ⟨3, ![4, 256, 1024]⟩
abbrev S16384x1024 : Shape := ⟨2, ![16384, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S4x4096x5632 : Shape := ⟨3, ![4, 4096, 5632]⟩
abbrev S4x4096x2816 : Shape := ⟨3, ![4, 4096, 2816]⟩
abbrev S1x2816x1024 : Shape := ⟨3, ![1, 2816, 1024]⟩
abbrev S2816x1024 : Shape := ⟨2, ![2816, 1024]⟩
abbrev S1x4x4096x256 : Shape := ⟨4, ![1, 4, 4096, 256]⟩
abbrev S4x4096x256 : Shape := ⟨3, ![4, 4096, 256]⟩
abbrev S1x256x1024 : Shape := ⟨3, ![1, 256, 1024]⟩
abbrev S256x1024 : Shape := ⟨2, ![256, 1024]⟩

abbrev nBuf : Space → Nat
  | .hbm => 131
  | .vmem => 0
  | .smem => 0
  | _ => 0

abbrev hbmTy0_0 (i : Nat) : BufTy := match i % 128 with
  | 0 => ⟨S4x4096x1024, .f32⟩
  | 1 => ⟨S16384x512, .bf16⟩
  | 2 => ⟨S16384x512, .bf16⟩
  | 3 => ⟨S4x4x4096x256, .f32⟩
  | 4 => ⟨S4x1024x1024, .f32⟩
  | 5 => ⟨S4x1024, .f32⟩
  | 6 => ⟨S4x1024, .f32⟩
  | 7 => ⟨S4x1024x5632, .f32⟩
  | 8 => ⟨S4x2816x1024, .f32⟩
  | 9 => ⟨S4x1024, .f32⟩
  | 10 => ⟨S4x1024, .f32⟩
  | 11 => ⟨S4x1024x1024, .f32⟩
  | 12 => ⟨S4x256x1024, .f32⟩
  | 13 => ⟨S16384x512, .f32⟩
  | 14 => ⟨S16384x512, .f32⟩
  | 15 => ⟨S16384x1024, .f32⟩
  | 16 => ⟨S4x4096x1024, .f32⟩
  | 17 => ⟨S1x1024x1024, .f32⟩
  | 18 => ⟨S1024x1024, .f32⟩
  | 19 => ⟨S4x4096x1024, .f32⟩
  | 20 => ⟨S1x1024, .f32⟩
  | 21 => ⟨S1024, .f32⟩
  | 22 => ⟨S4x4096x1024, .f32⟩
  | 23 => ⟨S_, .f32⟩
  | 24 => ⟨S4x4096, .f32⟩
  | 25 => ⟨S4x4096x1, .f32⟩
  | 26 => ⟨S_, .f32⟩
  | 27 => ⟨S4x4096x1, .f32⟩
  | 28 => ⟨S4x4096x1, .f32⟩
  | 29 => ⟨S_, .f32⟩
  | 30 => ⟨S4x4096x1, .f32⟩
  | 31 => ⟨S4x4096x1, .f32⟩
  | 32 => ⟨S4x4096x1, .f32⟩
  | 33 => ⟨S4x4096x1024, .f32⟩
  | 34 => ⟨S4x4096x1024, .f32⟩
  | 35 => ⟨S1x1x1024, .f32⟩
  | 36 => ⟨S4x4096x1024, .f32⟩
  | 37 => ⟨S4x4096x1024, .f32⟩
  | 38 => ⟨S4x4096x1024, .f32⟩
  | 39 => ⟨S1x1024, .f32⟩
  | 40 => ⟨S1024, .f32⟩
  | 41 => ⟨S4x4096x1024, .f32⟩
  | 42 => ⟨S_, .f32⟩
  | 43 => ⟨S4x4096, .f32⟩
  | 44 => ⟨S4x4096x1, .f32⟩
  | 45 => ⟨S_, .f32⟩
  | 46 => ⟨S4x4096x1, .f32⟩
  | 47 => ⟨S4x4096x1, .f32⟩
  | 48 => ⟨S_, .f32⟩
  | 49 => ⟨S4x4096x1, .f32⟩
  | 50 => ⟨S4x4096x1, .f32⟩
  | 51 => ⟨S4x4096x1, .f32⟩
  | 52 => ⟨S4x4096x1024, .f32⟩
  | 53 => ⟨S4x4096x1024, .f32⟩
  | 54 => ⟨S1x1x1024, .f32⟩
  | 55 => ⟨S4x4096x1024, .f32⟩
  | 56 => ⟨S4x4096x1024, .f32⟩
  | 57 => ⟨S1x1024x5632, .f32⟩
  | 58 => ⟨S1024x5632, .f32⟩
  | 59 => ⟨S4x4096x5632, .f32⟩
  | 60 => ⟨S4x4096x2816, .f32⟩
  | 61 => ⟨S4x4096x2816, .f32⟩
  | 62 => ⟨S4x4096x2816, .f32⟩
  | 63 => ⟨S4x4096x2816, .f32⟩
  | 64 => ⟨S_, .f32⟩
  | 65 => ⟨S4x4096x2816, .f32⟩
  | 66 => ⟨S4x4096x2816, .f32⟩
  | 67 => ⟨S_, .f32⟩
  | 68 => ⟨S4x4096x2816, .f32⟩
  | 69 => ⟨S4x4096x2816, .f32⟩
  | 70 => ⟨S4x4096x2816, .f32⟩
  | 71 => ⟨S4x4096x2816, .f32⟩
  | 72 => ⟨S1x2816x1024, .f32⟩
  | 73 => ⟨S2816x1024, .f32⟩
  | 74 => ⟨S4x4096x1024, .f32⟩
  | 75 => ⟨S1x1024, .f32⟩
  | 76 => ⟨S1024, .f32⟩
  | 77 => ⟨S4x4096x1024, .f32⟩
  | 78 => ⟨S_, .f32⟩
  | 79 => ⟨S4x4096, .f32⟩
  | 80 => ⟨S4x4096x1, .f32⟩
  | 81 => ⟨S_, .f32⟩
  | 82 => ⟨S4x4096x1, .f32⟩
  | 83 => ⟨S4x4096x1, .f32⟩
  | 84 => ⟨S_, .f32⟩
  | 85 => ⟨S4x4096x1, .f32⟩
  | 86 => ⟨S4x4096x1, .f32⟩
  | 87 => ⟨S4x4096x1, .f32⟩
  | 88 => ⟨S4x4096x1024, .f32⟩
  | 89 => ⟨S4x4096x1024, .f32⟩
  | 90 => ⟨S1x1x1024, .f32⟩
  | 91 => ⟨S4x4096x1024, .f32⟩
  | 92 => ⟨S4x4096x1024, .f32⟩
  | 93 => ⟨S4x4096x1024, .f32⟩
  | 94 => ⟨S1x1024, .f32⟩
  | 95 => ⟨S1024, .f32⟩
  | 96 => ⟨S4x4096x1024, .f32⟩
  | 97 => ⟨S_, .f32⟩
  | 98 => ⟨S4x4096, .f32⟩
  | 99 => ⟨S4x4096x1, .f32⟩
  | 100 => ⟨S_, .f32⟩
  | 101 => ⟨S4x4096x1, .f32⟩
  | 102 => ⟨S4x4096x1, .f32⟩
  | 103 => ⟨S_, .f32⟩
  | 104 => ⟨S4x4096x1, .f32⟩
  | 105 => ⟨S4x4096x1, .f32⟩
  | 106 => ⟨S4x4096x1, .f32⟩
  | 107 => ⟨S4x4096x1024, .f32⟩
  | 108 => ⟨S4x4096x1024, .f32⟩
  | 109 => ⟨S1x1x1024, .f32⟩
  | 110 => ⟨S4x4096x1024, .f32⟩
  | 111 => ⟨S4x4096x1024, .f32⟩
  | 112 => ⟨S1x1024x1024, .f32⟩
  | 113 => ⟨S1024x1024, .f32⟩
  | 114 => ⟨S4x4096x1024, .f32⟩
  | 115 => ⟨S4x4096x1024, .f32⟩
  | 116 => ⟨S4x4096x1024, .f32⟩
  | 117 => ⟨S_, .f32⟩
  | 118 => ⟨S4x4096x1024, .f32⟩
  | 119 => ⟨S4x4096x1024, .f32⟩
  | 120 => ⟨S_, .f32⟩
  | 121 => ⟨S4x4096x1024, .f32⟩
  | 122 => ⟨S4x4096x1024, .f32⟩
  | 123 => ⟨S1x4x4096x256, .f32⟩
  | 124 => ⟨S4x4096x256, .f32⟩
  | 125 => ⟨S1x256x1024, .f32⟩
  | 126 => ⟨S256x1024, .f32⟩
  | 127 => ⟨S4x4096x1024, .f32⟩
  | _ => ⟨S4x4096x1024, .f32⟩

abbrev hbmTy0_1 (i : Nat) : BufTy := match i % 128 with
  | 0 => ⟨S4x4096x1024, .f32⟩
  | 1 => ⟨S4x4096x1024, .f32⟩
  | 2 => ⟨S16384x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_v46 : Ref sig .tc := ⟨.hbm, 66, rfl⟩
abbrev main_cst_6 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_7 : Ref sig .tc := ⟨.hbm, 78, rfl⟩
abbrev main_v57 : Ref sig .tc := ⟨.hbm, 79, rfl⟩
abbrev main_v58 : Ref sig .tc := ⟨.hbm, 80, rfl⟩
abbrev main_cst_8 : Ref sig .tc := ⟨.hbm, 81, rfl⟩
abbrev main_v59 : Ref sig .tc := ⟨.hbm, 82, rfl⟩
abbrev main_v60 : Ref sig .tc := ⟨.hbm, 83, rfl⟩
abbrev main_cst_9 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_10 : Ref sig .tc := ⟨.hbm, 97, rfl⟩
abbrev main_v73 : Ref sig .tc := ⟨.hbm, 98, rfl⟩
abbrev main_v74 : Ref sig .tc := ⟨.hbm, 99, rfl⟩
abbrev main_cst_11 : Ref sig .tc := ⟨.hbm, 100, rfl⟩
abbrev main_v75 : Ref sig .tc := ⟨.hbm, 101, rfl⟩
abbrev main_v76 : Ref sig .tc := ⟨.hbm, 102, rfl⟩
abbrev main_cst_12 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_13 : Ref sig .tc := ⟨.hbm, 117, rfl⟩
abbrev main_v90 : Ref sig .tc := ⟨.hbm, 118, rfl⟩
abbrev main_v91 : Ref sig .tc := ⟨.hbm, 119, rfl⟩
abbrev main_cst_14 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩

abbrev nD : Nat := 1
abbrev τ : Topo := Topo.v7x

variable {F : FTy → Type} [FloatOps F]
-- ==== Inproj.lean ====
abbrev S4x4096x1024 : Shape := ⟨3, ![4, 4096, 1024]⟩
abbrev S4x1024 : Shape := ⟨2, ![4, 1024]⟩
abbrev S4x1024x3144 : Shape := ⟨3, ![4, 1024, 3144]⟩
abbrev S4x3x256 : Shape := ⟨3, ![4, 3, 256]⟩
abbrev S4x4x64x64 : Shape := ⟨4, ![4, 4, 64, 64]⟩
abbrev S4x256 : Shape := ⟨2, ![4, 256]⟩
abbrev S4x1024x840 : Shape := ⟨3, ![4, 1024, 840]⟩
abbrev S4x1024x64 : Shape := ⟨3, ![4, 1024, 64]⟩
abbrev S4x1024x8 : Shape := ⟨3, ![4, 1024, 8]⟩
abbrev S4x1024x256 : Shape := ⟨3, ![4, 1024, 256]⟩
abbrev S_ : Shape := ⟨0, ![]⟩
abbrev S4x1024x120 : Shape := ⟨3, ![4, 1024, 120]⟩
abbrev S4x1024x1024 : Shape := ⟨3, ![4, 1024, 1024]⟩
abbrev S4x1024x2304 : Shape := ⟨3, ![4, 1024, 2304]⟩
abbrev S4x4 : Shape := ⟨2, ![4, 4]⟩
abbrev S4x4x64x1x64 : Shape := ⟨5, ![4, 4, 64, 1, 64]⟩
abbrev S1x4x1x4x1 : Shape := ⟨5, ![1, 4, 1, 4, 1]⟩
abbrev S4x4x64x4x64 : Shape := ⟨5, ![4, 4, 64, 4, 64]⟩
abbrev S4x256x256 : Shape := ⟨3, ![4, 256, 256]⟩
abbrev S16384x1024 : Shape := ⟨2, ![16384, 1024]⟩
abbrev S1x1024 : Shape := ⟨2, ![1, 1024]⟩
abbrev S1024 : Shape := ⟨1, ![1024]⟩
abbrev S1x3x256 : Shape := ⟨3, ![1, 3, 256]⟩
abbrev S3x256 : Shape := ⟨2, ![3, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S16384x512 : Shape := ⟨2, ![16384, 512]⟩
abbrev S16384x1664 : Shape := ⟨2, ![16384, 1664]⟩
abbrev S4x16x512x256 : Shape := ⟨4, ![4, 16, 512, 256]⟩
abbrev S16384x128 : Shape := ⟨2, ![16384, 128]⟩
abbrev S64x1x256 : Shape := ⟨3, ![64, 1, 256]⟩
abbrev S512x1024 : Shape := ⟨2, ![512, 1024]⟩
abbrev S16x1024 : Shape := ⟨2, ![16, 1024]⟩
abbrev S1x1024x2304 : Shape := ⟨3, ![1, 1024, 2304]⟩
abbrev S1x1024x1024 : Shape := ⟨3, ![1, 1024, 1024]⟩
abbrev S512x512 : Shape := ⟨2, ![512, 512]⟩
abbrev S512x1664 : Shape := ⟨2, ![512, 1664]⟩
abbrev S1x2x512x256 : Shape := ⟨4, ![1, 2, 512, 256]⟩
abbrev S512x128 : Shape := ⟨2, ![512, 128]⟩
abbrev S2x1x256 : Shape := ⟨3, ![2, 1, 256]⟩
abbrev S528x256 : Shape := ⟨2, ![528, 256]⟩
abbrev S512 : Shape := ⟨1, ![512]⟩
abbrev S512x1 : Shape := ⟨2, ![512, 1]⟩
abbrev S16 : Shape := ⟨1, ![16]⟩
abbrev S16x1 : Shape := ⟨2, ![16, 1]⟩
abbrev S528x1024 : Shape := ⟨2, ![528, 1024]⟩
abbrev S1x1024x256 : Shape := ⟨3, ![1, 1024, 256]⟩
abbrev S1024x256 : Shape := ⟨2, ![1024, 256]⟩
abbrev S16x256 : Shape := ⟨2, ![16, 256]⟩
abbrev S512x256 : Shape := ⟨2, ![512, 256]⟩
abbrev S1x1x256 : Shape := ⟨3, ![1, 1, 256]⟩
abbrev S1x1024x128 : Shape := ⟨3, ![1, 1024, 128]⟩
abbrev S1024x128 : Shape := ⟨2, ![1024, 128]⟩
abbrev S1x1x256x256 : Shape := ⟨4, ![1, 1, 256, 256]⟩

abbrev nBuf : Space → Nat
  | .hbm => 48
  | .vmem => 22
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024x3144, .f32⟩
  | .hbm, ⟨3, _⟩ => ⟨S4x3x256, .f32⟩
  | .hbm, ⟨4, _⟩ => ⟨S4x4x64x64, .f32⟩
  | .hbm, ⟨5, _⟩ => ⟨S4x256, .f32⟩
  | .hbm, ⟨6, _⟩ => ⟨S4x1024x840, .f32⟩
  | .hbm, ⟨7, _⟩ => ⟨S4x1024x64, .f32⟩
  | .hbm, ⟨8, _⟩ => ⟨S4x1024x8, .f32⟩
  | .hbm, ⟨9, _⟩ => ⟨S4x1024x256, .f32⟩
  | .hbm, ⟨10, _⟩ => ⟨S4x1024x256, .f32⟩
  | .hbm, ⟨11, _⟩ => ⟨S4x1024x256, .f32⟩
  | .hbm, ⟨12, _⟩ => ⟨S_, .f32⟩
  | .hbm, ⟨13, _⟩ => ⟨S4x1024x120, .f32⟩
  | .hbm, ⟨14, _⟩ => ⟨S4x1024x1024, .f32⟩
  | .hbm, ⟨15, _⟩ => ⟨S4x1024x2304, .f32⟩
  | .hbm, ⟨16, _⟩ => ⟨S4x1024x2304, .bf16⟩
  | .hbm, ⟨17, _⟩ => ⟨S4x1024x1024, .bf16⟩
  | .hbm, ⟨18, _⟩ => ⟨S4x4, .i32⟩
  | .hbm, ⟨19, _⟩ => ⟨S4x4, .i32⟩
  | .hbm, ⟨20, _⟩ => ⟨S_, .i32⟩
  | .hbm, ⟨21, _⟩ => ⟨S4x4, .i32⟩
  | .hbm, ⟨22, _⟩ => ⟨S4x4, .i32⟩
  | .hbm, ⟨23, _⟩ => ⟨S4x4, .i1⟩
  | .hbm, ⟨24, _⟩ => ⟨S4x4, .f32⟩
  | .hbm, ⟨25, _⟩ => ⟨S4x4x64x1x64, .f32⟩
  | .hbm, ⟨26, _⟩ => ⟨S1x4x1x4x1, .f32⟩
  | .hbm, ⟨27, _⟩ => ⟨S4x4x64x4x64, .f32⟩
  | .hbm, ⟨28, _⟩ => ⟨S4x4x64x4x64, .f32⟩
  | .hbm, ⟨29, _⟩ => ⟨S4x4x64x4x64, .f32⟩
  | .hbm, ⟨30, _⟩ => ⟨S4x256x256, .f32⟩
  | .hbm, ⟨31, _⟩ => ⟨S4x256x256, .bf16⟩
  | .hbm, ⟨32, _⟩ => ⟨S16384x1024, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S1x3x256, .f32⟩
  | .hbm, ⟨37, _⟩ => ⟨S3x256, .f32⟩
  | .hbm, ⟨38, _⟩ => ⟨S1x256x256, .bf16⟩
  | .hbm, ⟨39, _⟩ => ⟨S256x256, .bf16⟩
  | .hbm, ⟨40, _⟩ => ⟨S1x256, .f32⟩
  | .hbm, ⟨41, _⟩ => ⟨S256, .f32⟩
  | .hbm, ⟨42, _⟩ => ⟨S1x256, .f32⟩
  | .hbm, ⟨43, _⟩ => ⟨S16384x512, .bf16⟩
  | .hbm, ⟨44, _⟩ => ⟨S16384x1664, .bf16⟩
  | .hbm, ⟨45, _⟩ => ⟨S4x16x512x256, .bf16⟩
  | .hbm, ⟨46, _⟩ => ⟨S16384x128, .f32⟩
  | .hbm, ⟨47, _⟩ => ⟨S64x1x256, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S1x1024x2304, .bf16⟩
  | .local _ .vmem, ⟨6, _⟩ => ⟨S1x1024x1024, .bf16⟩
  | .local _ .vmem, ⟨7, _⟩ => ⟨S3x256, .f32⟩
  | .local _ .vmem, ⟨8, _⟩ => ⟨S256x256, .bf16⟩
  | .local _ .vmem, ⟨9, _⟩ => ⟨S1x256, .f32⟩
  | .local _ .vmem, ⟨10, _⟩ => ⟨S512x512, .bf16⟩
  | .local _ .vmem, ⟨11, _⟩ => ⟨S512x512, .bf16⟩
  | .local _ .vmem, ⟨12, _⟩ => ⟨S512x1664, .bf16⟩
  | .local _ .vmem, ⟨13, _⟩ => ⟨S512x1664, .bf16⟩
  | .local _ .vmem, ⟨14, _⟩ => ⟨S1x2x512x256, .bf16⟩
  | .local _ .vmem, ⟨15, _⟩ => ⟨S1x2x512x256, .bf16⟩
  | .local _ .vmem, ⟨16, _⟩ => ⟨S512x128, .f32⟩
  | .local _ .vmem, ⟨17, _⟩ => ⟨S512x128, .f32⟩
  | .local _ .vmem, ⟨18, _⟩ => ⟨S2x1x256, .f32⟩
  | .local _ .vmem, ⟨19, _⟩ => ⟨S2x1x256, .f32⟩
  | .local _ .vmem, ⟨20, _⟩ => ⟨S528x256, .f32⟩
  | .local _ .vmem, ⟨21, _⟩ => ⟨S528x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35_0 : Ref sig .tc := ⟨.hbm, 43, rfl⟩
abbrev main_v35_1 : Ref sig .tc := ⟨.hbm, 44, rfl⟩
abbrev main_v35_2 : Ref sig .tc := ⟨.hbm, 45, rfl⟩
abbrev main_v35_3 : Ref sig .tc := ⟨.hbm, 46, rfl⟩
abbrev main_v35_4 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1664 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== InprojReferenceIdeal.lean ====
abbrev S4x4096x1024 : Shape := ⟨3, ![4, 4096, 1024]⟩
abbrev S4x1024 : Shape := ⟨2, ![4, 1024]⟩
abbrev S4x1024x3144 : Shape := ⟨3, ![4, 1024, 3144]⟩
abbrev S4x3x256 : Shape := ⟨3, ![4, 3, 256]⟩
abbrev S4x4x64x64 : Shape := ⟨4, ![4, 4, 64, 64]⟩
abbrev S4x256 : Shape := ⟨2, ![4, 256]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x3144 : Shape := ⟨3, ![1, 1024, 3144]⟩
abbrev S1024x3144 : Shape := ⟨2, ![1024, 3144]⟩
abbrev S4x4096x3144 : Shape := ⟨3, ![4, 4096, 3144]⟩
abbrev S4x4096x2120 : Shape := ⟨3, ![4, 4096, 2120]⟩
abbrev S4x4096x256 : Shape := ⟨3, ![4, 4096, 256]⟩
abbrev S4x4096x512 : Shape := ⟨3, ![4, 4096, 512]⟩
abbrev S4x4096x64 : Shape := ⟨3, ![4, 4096, 64]⟩
abbrev S4x4096x8 : Shape := ⟨3, ![4, 4096, 8]⟩
abbrev S4x4096x1664 : Shape := ⟨3, ![4, 4096, 1664]⟩
abbrev S16384x1664 : Shape := ⟨2, ![16384, 1664]⟩
abbrev S4x16x256x512 : Shape := ⟨4, ![4, 16, 256, 512]⟩
abbrev S4x16x512x256 : Shape := ⟨4, ![4, 16, 512, 256]⟩
abbrev S4x4096x120 : Shape := ⟨3, ![4, 4096, 120]⟩
abbrev S4x4096x128 : Shape := ⟨3, ![4, 4096, 128]⟩
abbrev S16384x128 : Shape := ⟨2, ![16384, 128]⟩
abbrev S64x256x256 : Shape := ⟨3, ![64, 256, 256]⟩
abbrev S64x256 : Shape := ⟨2, ![64, 256]⟩
abbrev S64x1x256 : Shape := ⟨3, ![64, 1, 256]⟩
abbrev S4x2x256 : Shape := ⟨3, ![4, 2, 256]⟩
abbrev S4x4098x256 : Shape := ⟨3, ![4, 4098, 256]⟩
abbrev S1x3x256 : Shape := ⟨3, ![1, 3, 256]⟩
abbrev S3x256 : Shape := ⟨2, ![3, 256]⟩
abbrev S1x256 : Shape := ⟨2, ![1, 256]⟩
abbrev S256 : Shape := ⟨1, ![256]⟩
abbrev S1x1x256 : Shape := ⟨3, ![1, 1, 256]⟩
abbrev S4x15x256 : Shape := ⟨3, ![4, 15, 256]⟩
abbrev S4x4111x256 : Shape := ⟨3, ![4, 4111, 256]⟩
abbrev S4096 : Shape := ⟨1, ![4096]⟩
abbrev S1x4096x1 : Shape := ⟨3, ![1, 4096, 1]⟩
abbrev S1x1x64x64 : Shape := ⟨4, ![1, 1, 64, 64]⟩
abbrev S64x64 : Shape := ⟨2, ![64, 64]⟩
abbrev S16384x512 : Shape := ⟨2, ![16384, 512]⟩

abbrev nBuf : Space → Nat
  | .hbm => 237
  | .vmem => 0
  | .smem => 0
  | _ => 0

abbrev hbmTy0_0 (i : Nat) : BufTy := match i % 128 with
  | 0 => ⟨S4x4096x1024, .f32⟩
  | 1 => ⟨S4x1024, .f32⟩
  | 2 => ⟨S4x1024x3144, .f32⟩
  | 3 => ⟨S4x3x256, .f32⟩
  | 4 => ⟨S4x4x64x64, .f32⟩
  | 5 => ⟨S4x256, .f32⟩
  | 6 => ⟨S1x1024, .f32⟩
  | 7 => ⟨S1024, .f32⟩
  | 8 => ⟨S4x4096x1024, .f32⟩
  | 9 => ⟨S_, .f32⟩
  | 10 => ⟨S4x4096, .f32⟩
  | 11 => ⟨S4x4096x1, .f32⟩
  | 12 => ⟨S_, .f32⟩
  | 13 => ⟨S4x4096x1, .f32⟩
  | 14 => ⟨S4x4096x1, .f32⟩
  | 15 => ⟨S_, .f32⟩
  | 16 => ⟨S4x4096x1, .f32⟩
  | 17 => ⟨S4x4096x1, .f32⟩
  | 18 => ⟨S4x4096x1, .f32⟩
  | 19 => ⟨S4x4096x1024, .f32⟩
  | 20 => ⟨S4x4096x1024, .f32⟩
  | 21 => ⟨S1x1x1024, .f32⟩
  | 22 => ⟨S4x4096x1024, .f32⟩
  | 23 => ⟨S4x4096x1024, .f32⟩
  | 24 => ⟨S1x1024x3144, .f32⟩
  | 25 => ⟨S1024x3144, .f32⟩
  | 26 => ⟨S4x4096x3144, .f32⟩
  | 27 => ⟨S4x4096x2120, .f32⟩
  | 28 => ⟨S4x4096x256, .f32⟩
  | 29 => ⟨S4x4096x256, .f32⟩
  | 30 => ⟨S4x4096x256, .f32⟩
  | 31 => ⟨S4x4096x512, .f32⟩
  | 32 => ⟨S4x4096x64, .f32⟩
  | 33 => ⟨S4x4096x8, .f32⟩
  | 34 => ⟨S4x4096x256, .f32⟩
  | 35 => ⟨S4x4096x256, .f32⟩
  | 36 => ⟨S4x4096x256, .f32⟩
  | 37 => ⟨S_, .f32⟩
  | 38 => ⟨S4x4096x256, .f32⟩
  | 39 => ⟨S4x4096x256, .f32⟩
  | 40 => ⟨S_, .f32⟩
  | 41 => ⟨S4x4096x256, .f32⟩
  | 42 => ⟨S4x4096x256, .f32⟩
  | 43 => ⟨S4x4096x1664, .f32⟩
  | 44 => ⟨S16384x1664, .f32⟩
  | 45 => ⟨S4x4096x512, .f32⟩
  | 46 => ⟨S4x16x256x512, .f32⟩
  | 47 => ⟨S4x16x512x256, .f32⟩
  | 48 => ⟨S_, .f32⟩
  | 49 => ⟨S4x4096x120, .f32⟩
  | 50 => ⟨S4x4096x128, .f32⟩
  | 51 => ⟨S16384x128, .f32⟩
  | 52 => ⟨S64x256x256, .f32⟩
  | 53 => ⟨S_, .f32⟩
  | 54 => ⟨S64x256, .f32⟩
  | 55 => ⟨S64x1x256, .f32⟩
  | 56 => ⟨S_, .f32⟩
  | 57 => ⟨S64x1x256, .f32⟩
  | 58 => ⟨S64x1x256, .f32⟩
  | 59 => ⟨S16384x1664, .bf16⟩
  | 60 => ⟨S4x16x512x256, .bf16⟩
  | 61 => ⟨S4x4096x1024, .f32⟩
  | 62 => ⟨S4x4096x256, .f32⟩
  | 63 => ⟨S4x4096x256, .f32⟩
  | 64 => ⟨S4x4096x256, .f32⟩
  | 65 => ⟨S4x4096x256, .f32⟩
  | 66 => ⟨S_, .f32⟩
  | 67 => ⟨S4x2x256, .f32⟩
  | 68 => ⟨S4x4096x256, .f32⟩
  | 69 => ⟨S4x4098x256, .f32⟩
  | 70 => ⟨S1x3x256, .f32⟩
  | 71 => ⟨S3x256, .f32⟩
  | 72 => ⟨S1x256, .f32⟩
  | 73 => ⟨S256, .f32⟩
  | 74 => ⟨S4x4096x256, .f32⟩
  | 75 => ⟨S1x1x256, .f32⟩
  | 76 => ⟨S4x4096x256, .f32⟩
  | 77 => ⟨S4x4096x256, .f32⟩
  | 78 => ⟨S_, .f32⟩
  | 79 => ⟨S4x4096x256, .f32⟩
  | 80 => ⟨S4x4096x256, .f32⟩
  | 81 => ⟨S1x256, .f32⟩
  | 82 => ⟨S256, .f32⟩
  | 83 => ⟨S4x4096x256, .f32⟩
  | 84 => ⟨S1x1x256, .f32⟩
  | 85 => ⟨S4x4096x256, .f32⟩
  | 86 => ⟨S4x4096x256, .f32⟩
  | 87 => ⟨S4x4096x256, .f32⟩
  | 88 => ⟨S1x256, .f32⟩
  | 89 => ⟨S256, .f32⟩
  | 90 => ⟨S4x4096x256, .f32⟩
  | 91 => ⟨S1x1x256, .f32⟩
  | 92 => ⟨S4x4096x256, .f32⟩
  | 93 => ⟨S4x4096x256, .f32⟩
  | 94 => ⟨S4x4096x256, .f32⟩
  | 95 => ⟨S4x4096x256, .f32⟩
  | 96 => ⟨S_, .f32⟩
  | 97 => ⟨S4x15x256, .f32⟩
  | 98 => ⟨S4x4111x256, .f32⟩
  | 99 => ⟨S4096, .i32⟩
  | 100 => ⟨S4x4096x64, .f32⟩
  | 101 => ⟨S_, .f32⟩
  | 102 => ⟨S4x4096x64, .f32⟩
  | 103 => ⟨S4x4096x64, .f32⟩
  | 104 => ⟨S4x4096x64, .f32⟩
  | 105 => ⟨S4x4096x64, .f32⟩
  | 106 => ⟨S_, .i32⟩
  | 107 => ⟨S4096, .i32⟩
  | 108 => ⟨S4096, .i32⟩
  | 109 => ⟨S_, .i32⟩
  | 110 => ⟨S4096, .i32⟩
  | 111 => ⟨S4096, .i32⟩
  | 112 => ⟨S4096, .f32⟩
  | 113 => ⟨S1x4096x1, .f32⟩
  | 114 => ⟨S4x4096x64, .f32⟩
  | 115 => ⟨S4x4096x64, .f32⟩
  | 116 => ⟨S4x4096x64, .f32⟩
  | 117 => ⟨S4x4096x64, .f32⟩
  | 118 => ⟨S1x1x64x64, .f32⟩
  | 119 => ⟨S64x64, .f32⟩
  | 120 => ⟨S4x4096x64, .f32⟩
  | 121 => ⟨S4x4096x64, .f32⟩
  | 122 => ⟨S_, .f32⟩
  | 123 => ⟨S4x4096x64, .f32⟩
  | 124 => ⟨S4x4096x64, .f32⟩
  | 125 => ⟨S4x4096x64, .f32⟩
  | 126 => ⟨S4x4096x64, .f32⟩
  | 127 => ⟨S4x4096x64, .f32⟩
  | _ => ⟨S4x4096x1024, .f32⟩

abbrev hbmTy0_1 (i : Nat) : BufTy := match i % 128 with
  | 0 => ⟨S4x4096x64, .f32⟩
  | 1 => ⟨S4x4096x64, .f32⟩
  | 2 => ⟨S4x4096x64, .f32⟩
  | 3 => ⟨S_, .i32⟩
  | 4 => ⟨S4096, .i32⟩
  | 5 => ⟨S4096, .i32⟩
  | 6 => ⟨S_, .i32⟩
  | 7 => ⟨S4096, .i32⟩
  | 8 => ⟨S4096, .i32⟩
  | 9 => ⟨S4096, .f32⟩
  | 10 => ⟨S1x4096x1, .f32⟩
  | 11 => ⟨S4x4096x64, .f32⟩
  | 12 => ⟨S4x4096x64, .f32⟩
  | 13 => ⟨S4x4096x64, .f32⟩
  | 14 => ⟨S4x4096x64, .f32⟩
  | 15 => ⟨S1x1x64x64, .f32⟩
  | 16 => ⟨S64x64, .f32⟩
  | 17 => ⟨S4x4096x64, .f32⟩
  | 18 => ⟨S4x4096x64, .f32⟩
  | 19 => ⟨S_, .f32⟩
  | 20 => ⟨S4x4096x64, .f32⟩
  | 21 => ⟨S4x4096x64, .f32⟩
  | 22 => ⟨S4x4096x64, .f32⟩
  | 23 => ⟨S4x4096x64, .f32⟩
  | 24 => ⟨S4x4096x64, .f32⟩
  | 25 => ⟨S4x4096x64, .f32⟩
  | 26 => ⟨S4x4096x64, .f32⟩
  | 27 => ⟨S4x4096x64, .f32⟩
  | 28 => ⟨S4x4096x64, .f32⟩
  | 29 => ⟨S4x4096x64, .f32⟩
  | 30 => ⟨S4x4096x64, .f32⟩
  | 31 => ⟨S4x4096x64, .f32⟩
  | 32 => ⟨S4x4096x64, .f32⟩
  | 33 => ⟨S4x4096x64, .f32⟩
  | 34 => ⟨S4x4096x64, .f32⟩
  | 35 => ⟨S4x4096x64, .f32⟩
  | 36 => ⟨S_, .i32⟩
  | 37 => ⟨S4096, .i32⟩
  | 38 => ⟨S4096, .i32⟩
  | 39 => ⟨S_, .i32⟩
  | 40 => ⟨S4096, .i32⟩
  | 41 => ⟨S4096, .i32⟩
  | 42 => ⟨S4096, .f32⟩
  | 43 => ⟨S1x4096x1, .f32⟩
  | 44 => ⟨S4x4096x64, .f32⟩
  | 45 => ⟨S4x4096x64, .f32⟩
  | 46 => ⟨S4x4096x64, .f32⟩
  | 47 => ⟨S4x4096x64, .f32⟩
  | 48 => ⟨S1x1x64x64, .f32⟩
  | 49 => ⟨S64x64, .f32⟩
  | 50 => ⟨S4x4096x64, .f32⟩
  | 51 => ⟨S4x4096x64, .f32⟩
  | 52 => ⟨S_, .f32⟩
  | 53 => ⟨S4x4096x64, .f32⟩
  | 54 => ⟨S4x4096x64, .f32⟩
  | 55 => ⟨S4x4096x64, .f32⟩
  | 56 => ⟨S4x4096x64, .f32⟩
  | 57 => ⟨S4x4096x64, .f32⟩
  | 58 => ⟨S4x4096x64, .f32⟩
  | 59 => ⟨S4x4096x64, .f32⟩
  | 60 => ⟨S4x4096x64, .f32⟩
  | 61 => ⟨S4x4096x64, .f32⟩
  | 62 => ⟨S4x4096x64, .f32⟩
  | 63 => ⟨S4x4096x64, .f32⟩
  | 64 => ⟨S4x4096x64, .f32⟩
  | 65 => ⟨S4x4096x64, .f32⟩
  | 66 => ⟨S4x4096x64, .f32⟩
  | 67 => ⟨S4x4096x64, .f32⟩
  | 68 => ⟨S4x4096x64, .f32⟩
  | 69 => ⟨S4x4096x64, .f32⟩
  | 70 => ⟨S4x4096x64, .f32⟩
  | 71 => ⟨S4x4096x64, .f32⟩
  | 72 => ⟨S4x4096x64, .f32⟩
  | 73 => ⟨S4x4096x64, .f32⟩
  | 74 => ⟨S4x4096x64, .f32⟩
  | 75 => ⟨S4x4096x64, .f32⟩
  | 76 => ⟨S4x4096x64, .f32⟩
  | 77 => ⟨S4x4096x64, .f32⟩
  | 78 => ⟨S4x4096x64, .f32⟩
  | 79 => ⟨S4x4096x64, .f32⟩
  | 80 => ⟨S4x4096x64, .f32⟩
  | 81 => ⟨S4x4096x64, .f32⟩
  | 82 => ⟨S4x4096x64, .f32⟩
  | 83 => ⟨S4x4096x64, .f32⟩
  | 84 => ⟨S4x4096x64, .f32⟩
  | 85 => ⟨S_, .i32⟩
  | 86 => ⟨S4096, .i32⟩
  | 87 => ⟨S4096, .i32⟩
  | 88 => ⟨S_, .i32⟩
  | 89 => ⟨S4096, .i32⟩
  | 90 => ⟨S4096, .i32⟩
  | 91 => ⟨S4096, .f32⟩
  | 92 => ⟨S1x4096x1, .f32⟩
  | 93 => ⟨S4x4096x64, .f32⟩
  | 94 => ⟨S4x4096x64, .f32⟩
  | 95 => ⟨S4x4096x64, .f32⟩
  | 96 => ⟨S4x4096x64, .f32⟩
  | 97 => ⟨S1x1x64x64, .f32⟩
  | 98 => ⟨S64x64, .f32⟩
  | 99 => ⟨S4x4096x64, .f32⟩
  | 100 => ⟨S4x4096x256, .f32⟩
  | 101 => ⟨S1x256, .f32⟩
  | 102 => ⟨S256, .f32⟩
  | 103 => ⟨S1x1x256, .f32⟩
  | 104 => ⟨S4x4096x256, .f32⟩
  | 105 => ⟨S4x4096x256, .f32⟩
  | 106 => ⟨S4x4096x512, .f32⟩
  | 107 => ⟨S16384x512, .f32⟩
  | 108 => ⟨S16384x512, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_7 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_8 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_cst_9 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_cst_10 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_c : Ref sig .tc := ⟨.hbm, 106, rfl⟩
abbrev main_v88 : Ref sig .tc := ⟨.hbm, 107, rfl⟩
abbrev main_v89 : Ref sig .tc := ⟨.hbm, 108, rfl⟩
abbrev main_c_11 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_cst_12 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_c_13 : Ref sig .tc := ⟨.hbm, 131, rfl⟩
abbrev main_v110 : Ref sig .tc := ⟨.hbm, 132, rfl⟩
abbrev main_v111 : Ref sig .tc := ⟨.hbm, 133, rfl⟩
abbrev main_c_14 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_cst_15 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_c_16 : Ref sig .tc := ⟨.hbm, 164, rfl⟩
abbrev main_v140 : Ref sig .tc := ⟨.hbm, 165, rfl⟩
abbrev main_v141 : Ref sig .tc := ⟨.hbm, 166, rfl⟩
abbrev main_c_17 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_cst_18 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_c_19 : Ref sig .tc := ⟨.hbm, 213, rfl⟩
abbrev main_v186 : Ref sig .tc := ⟨.hbm, 214, rfl⟩
abbrev main_v187 : Ref sig .tc := ⟨.hbm, 215, rfl⟩
abbrev main_c_20 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩

abbrev nD : Nat := 1
abbrev τ : Topo := Topo.v7x

variable {F : FTy → Type} [FloatOps F]
-- ==== Proof.Attn.Keep.lean ====
module

public import proofs.«01_k».proof.Proof.Gen.Kernel.Frame

@[expose] public section

/-!
# Programs that keep their buffers

The attention kernel's body is a long run of loads and stores whose rectangles are in range by the
program's own evidence.  For the frame nothing of the values has to be followed: it is enough that
every operation, handed the body's buffers, hands them back, the inputs unchanged and the output and
the scratch buffers at some contents.  `Keeps c O p` says this of a program `p` and a resource `O`,
and there is one rule for each way a program is put together.
-/

noncomputable section

namespace Cert.AttnFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- The programs a kernel body is made of. -/
abbrev KProg (F : FTy → Type) [BitOps F] (α : Type) := Prog (TpuEff nD τ sig (Elt F) Λ₀ .tc) α

/-- Run from the resource `O`, the program `p` terminates, does nothing it may not do, and returns
    `O`, whatever value it returns. -/
def Keeps (c : Dev nD) (O : sProp 𝕄) {α : Type} (p : KProg F α) : Prop :=
  O ⊢ wp frame (wpE (defs₀ (F := F)) Variants.none (c : Thread nD τ) none) Set.univ p (fun _ => O)

/-- `O` holds the buffer of the memref `m` at some contents, and is got back with the same contents. -/
def Reads (c : Dev nD) (O : sProp 𝕄) {s : Shape} {e : EltTy} (m : Memref sig .tc .vmem s e) : Prop :=
  O ⊢ iprop(∃ f, (m.view.loc (c : Thread nD τ) ↦[m.view.set]{fullShare} f)
    ∗ ((m.view.loc (c : Thread nD τ) ↦[m.view.set]{fullShare} f) -∗ O))

/-- `O` holds the buffer of the memref `m` at some contents, and is got back with any contents. -/
def Writes (c : Dev nD) (O : sProp 𝕄) {s : Shape} {e : EltTy} (m : Memref sig .tc .vmem s e) : Prop :=
  O ⊢ iprop(∃ f, (m.view.loc (c : Thread nD τ) ↦[m.view.set]{fullShare} f)
    ∗ (∀ g, (m.view.loc (c : Thread nD τ) ↦[m.view.set]{fullShare} g) -∗ O))

/-- A buffer that may be written may be read. -/
theorem Writes.reads {c : Dev nD} {O : sProp 𝕄} {s : Shape} {e : EltTy} {m : Memref sig .tc .vmem s e} (h : Writes (F := F) c O m) :
    Reads c O m := by
  unfold Writes at h; unfold Reads
  refine h.trans ?_
  iintro ⟨%f, Hf, HO⟩
  iexists f
  isplitl [Hf]; · iexact Hf
  iintro Hf
  iapply HO; iexact Hf

/-- A program that returns a value at once. -/
theorem Keeps.ret {c : Dev nD} {O : sProp 𝕄} {α : Type} {a : α} : Keeps (F := F) c O (pure a) :=
  le_wp_ret _ _ _ _ (fun _ => O)

/-- One program after another. -/
theorem Keeps.bind {c : Dev nD} {O : sProp 𝕄} {α β : Type} {p : KProg F α} {k : α → KProg F β}
    (hp : Keeps c O p) (hk : ∀ a, Keeps c O (k a)) : Keeps c O (p >>= k) := by
  unfold Keeps at hp hk ⊢
  rw [wp_bind]
  iintro H
  iapply (wp_wand_r frame (wpE (defs₀ (F := F)) Variants.none (c : Thread nD τ) none) Set.univ)
  isplitl [H]
  · iapply hp; iexact H
  · iintro %a H
    iapply (hk a); iexact H

/-- A load. -/
theorem Keeps.load {c : Dev nD} {O : sProp 𝕄} {s : Shape} {e : EltTy} {m : Memref sig .tc .vmem s e} {r : LoadRect s}
    {hl : m.view.LoadsAt r} (h : Reads (F := F) c O m) :
    Keeps (F := F) c O (Prog.lift (.load m r hl)) := by
  unfold Reads at h; unfold Keeps
  refine h.trans ?_
  iintro ⟨%f, Hf, HO⟩
  iapply (wp_load Variants.none (c : Thread nD τ) none Set.univ (m := m) (hl := hl) (View.setOn_subset_set _ _)) $$ Hf
  iintro Hf
  iapply (le_wp_ret _ _ _ _ (fun _ => O))
  iapply HO; iexact Hf

/-- A store. -/
theorem Keeps.store {c : Dev nD} {O : sProp 𝕄} {s : Shape} {e : EltTy} {m : Memref sig .tc .vmem s e} {r : Rect s}
    {w : r.shape.Idx → Elt F e} {Mk : Finset r.shape.Idx} {hx : (m.access r).Stores Mk}
    {hm : Mk = Finset.univ ∨ ∀ a, r.stride a = 1} (h : Writes (F := F) c O m) :
    Keeps (F := F) c O (Prog.lift (.store m r w Mk hx hm)) := by
  unfold Writes at h; unfold Keeps
  refine h.trans ?_
  iintro ⟨%f, Hf, HO⟩
  iapply (wp_store Variants.none (c : Thread nD τ) none Set.univ (m := m) (hx := hx) (hm := hm) (S := m.view.set)
    ((View.setOn_subset_set _ _).trans (View.set_slice_subset _ _))) $$ Hf
  iintro Hf
  iapply (le_wp_ret _ _ _ _ (fun _ => O))
  iapply HO; iexact Hf

/-- A counted loop, whatever it carries. -/
theorem Keeps.for {c : Dev nD} {O : sProp 𝕄} {w : ℕ} {l : Scf.Loop w} {ok : l.OK} {σ : Type} {init : σ}
    {body : Fin l.trips → σ → KProg F σ} (h : ∀ k a, Keeps c O (body k a)) :
    Keeps (F := F) c O (Scf.Loop.for l ok init body) := by
  unfold Keeps
  iintro H
  iapply (Scf.wp_for frame (wpE (defs₀ (F := F)) Variants.none (c : Thread nD τ) none) Set.univ l.lb l.ub l.st ok init body
    (fun _ _ => O) h)
  isplitl [H]; · iexact H
  iintro %a H
  iexact H

/-- A branch on a condition the branches know. -/
theorem Keeps.dite {c : Dev nD} {O : sProp 𝕄} {α : Type} {P : Prop} [Decidable P] {A : P → KProg F α} {B : ¬ P → KProg F α}
    (hA : ∀ h, Keeps c O (A h)) (hB : ∀ h, Keeps c O (B h)) : Keeps (F := F) c O (dite P A B) := by
  by_cases h : P
  · rw [dif_pos h]; exact hA h
  · rw [dif_neg h]; exact hB h

/-- A branch. -/
theorem Keeps.ite {c : Dev nD} {O : sProp 𝕄} {α : Type} {P : Prop} [Decidable P] {A B : KProg F α}
    (hA : Keeps c O A) (hB : Keeps c O B) : Keeps (F := F) c O (ite P A B) := by
  by_cases h : P
  · rw [if_pos h]; exact hA
  · rw [if_neg h]; exact hB

/-- A branch on a condition, before what both ways go on with. -/
theorem Keeps.diteJoin {c : Dev nD} {O : sProp 𝕄} {α : Type} {P : Prop} [Decidable P] {A : P → KProg F α} {B : KProg F α}
    (hB : Keeps c O B) (hA : ∀ h, Keeps c O B → Keeps c O (A h)) : Keeps (F := F) c O (_root_.dite P A fun _ => B) :=
  .dite (fun h => hA h hB) fun _ => hB

/-- A branch, before what both ways go on with. -/
theorem Keeps.iteJoin {c : Dev nD} {O : sProp 𝕄} {α : Type} {P : Prop} [Decidable P] {A B : KProg F α}
    (hB : Keeps c O B) (hA : Keeps c O B → Keeps c O A) : Keeps (F := F) c O (_root_.ite P A B) :=
  .ite (hA hB) hB

end Cert.AttnFrame

end
-- ==== Proof.Attn.Trip1.lean ====
module

public import proofs.«01_k».proof.Proof.Attn.Keep

@[expose] public section

set_option maxRecDepth 65536
set_option maxHeartbeats 4000000

/-!
# Indexer scores: a trip of the loop over whole blocks
Each part of the body keeps the buffers, its loads and stores one by one.
-/

noncomputable section

namespace Cert.AttnFrame

open Cert.Kernel Cert.Kernel.Gen
open Idealize.ShloMosaic Idealize.ShloMosaic.TcCoe
open Idealize.SL Idealize.SL.BI
open Idealize.SL.BI.BIBase

variable {F : FTy → Type} [BitOps F]

local notation "𝕄" => MT nD τ sig Unit (Elt F) ℕ (UR sig nD τ) ℕ

variable {c : Dev nD} {O : sProp (MT nD τ sig Unit (Elt F) ℕ (UR sig nD τ) ℕ)} {i : grid0.Coords}
variable
  {arg2 : Memref sig .tc .vmem S256x512 .bf16} {harg2 : arg2.IsWhole}
  {arg3 : Memref sig .tc .vmem S4096x512 .bf16} {harg3 : arg3.IsWhole}
  {arg4 : Memref sig .tc .vmem S1x16x512x256 .bf16} {harg4 : arg4.IsWhole}
  {arg5 : Memref sig .tc .vmem S256x512 .bf16} {harg5 : arg5.IsWhole}
  {arg6 : Memref sig .tc .vmem S4096x128 .bf16} {harg6 : arg6.IsWhole}
  {arg7 : Memref sig .tc .vmem S256x128 .f32} {harg7 : arg7.IsWhole}
  {arg8 : Memref sig .tc .vmem S1x16x256 .f32} {harg8 : arg8.IsWhole}
  {arg9 : Memref sig .tc .vmem S8x256x256 .f32} {harg9 : arg9.IsWhole}
  {arg10 : Memref sig .tc .vmem S8x256x256 .f32} {harg10 : arg10.IsWhole}
  {arg11 : Memref sig .tc .vmem S256x512 .bf16} {harg11 : arg11.IsWhole}
  {arg12 : Memref sig .tc .vmem S16x256x256 .i32} {harg12 : arg12.IsWhole}
  {arg13 : Memref sig .tc .vmem S32x16x8x256 .i32} {harg13 : arg13.IsWhole}
  {arg14 : Memref sig .tc .vmem S16x8x256 .i32} {harg14 : arg14.IsWhole}
  {arg15 : Memref sig .tc .vmem S16x256x256 .f32} {harg15 : arg15.IsWhole}
  {arg16 : Memref sig .tc .vmem S4x16x256 .f32} {harg16 : arg16.IsWhole}
  {arg17 : Memref sig .tc .vmem S8x256x128 .bf16} {harg17 : arg17.IsWhole}
  {arg18 : Memref sig .tc .vmem S8x8x256 .f32} {harg18 : arg18.IsWhole}
  {arg19 : Memref sig .tc .vmem S8x80x256 .f32} {harg19 : arg19.IsWhole}
variable (r2 : Reads (F := F) c O arg2) (r3 : Reads (F := F) c O arg3) (r4 : Reads (F := F) c O arg4) (r5 : Reads (F := F) c O arg5) (r6 : Reads (F := F) c O arg6) (r7 : Reads (F := F) c O arg7) (r8 : Reads (F := F) c O arg8) (r9 : Reads (F := F) c O arg9) (r10 : Reads (F := F) c O arg10) (r11 : Reads (F := F) c O arg11) (r12 : Reads (F := F) c O arg12) (r13 : Reads (F := F) c O arg13) (r14 : Reads (F := F) c O arg14) (r15 : Reads (F := F) c O arg15) (r16 : Reads (F := F) c O arg16) (r17 : Reads (F := F) c O arg17) (r18 : Reads (F := F) c O arg18) (r19 : Reads (F := F) c O arg19)
  (w11 : Writes (F := F) c O arg11) (w12 : Writes (F := F) c O arg12) (w13 : Writes (F := F) c O arg13) (w14 : Writes (F := F) c O arg14) (w15 : Writes (F := F) c O arg15) (w16 : Writes (F := F) c O arg16) (w17 : Writes (F := F) c O arg17) (w18 : Writes (F := F) c O arg18) (w19 : Writes (F := F) c O arg19)
include r2 r3 r4 r5 r6 r7 r8 r9 r10 r11 r12 r13 r14 r15 r16 r17 r18 r19 w11 w12 w13 w14 w15 w16 w17 w18 w19

/-- The program `k0_part94`, which calls 60 others, keeps the buffers. -/
theorem keep94 (v3 : Vec F S256x512 .bf16) (v7 : FVec F S128x256 .f32) (v8 : IVec S256x128 32) (c0_i32_8 : BitVec 32) (c1_i32_10 : BitVec 32) (k0_t1 : Fin (k0_t1_loop i).trips) :
    Keeps (F := F) c O (k0_part94 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v3 v7 v8 c0_i32_8 c1_i32_10 k0_t1) :=
    .bind (.bind (.load r6) fun _ => .ret) fun _ => .bind (.ret) fun _ => .bind (.bind (.load r6) fun _ => .ret) fun _ =>
    .bind (.bind (.load r6) fun _ => .ret) fun _ => .bind (.ret) fun _ => .bind (.bind (.load r6) fun _ => .ret) fun _
    => .bind (.ret) fun _ => .bind (.bind (.load r12) fun _ => .bind (.store w12) fun _ => .ret) fun _ => .bind (.ret)
    fun _ => .bind (.ret) fun _ => .bind (.ret) fun _ => .bind (.ret) fun _ => .bind (.ret) fun _ => .bind (.ret) fun _
    => .bind (.ret) fun _ => .bind (.ret) fun _ => .bind (.ret) fun _ => .bind (.ret) fun _ => .bind (.ret) fun _ =>
    .bind (.ret) fun _ => .bind (.ret) fun _ => .bind (.ret) fun _ => .bind (.ret) fun _ => .bind (.ret) fun _ => .bind
    (.bind (.load r13) fun _ => .bind (.store w13) fun _ => .bind (.load r13) fun _ => .bind (.store w13) fun _ =>
    .bind (.load r13) fun _ => .bind (.store w13) fun _ => .ret) fun _ => .bind (.bind (.load r13) fun _ => .bind
    (.store w13) fun _ => .bind (.load r13) fun _ => .bind (.store w13) fun _ => .bind (.load r13) fun _ => .bind
    (.store w13) fun _ => .bind (.load r13) fun _ => .bind (.store w13) fun _ => .bind (.load r13) fun _ => .bind
    (.store w13) fun _ => .bind (.load r13) fun _ => .bind (.store w13) fun _ => .bind (.load r13) fun _ => .bind
    (.store w13) fun _ => .bind (.load r13) fun _ => .bind (.store w13) fun _ => .ret) fun _ => .bind (.bind (.load
    r13) fun _ => .bind (.store w13) fun _ => .bind (.load r13) fun _ => .bind (.store w13) fun _ => .bind (.load r13)
    fun _ => .bind (.store w13) fun _ => .bind (.load r13) fun _ => .bind (.store w13) fun _ => .bind (.load r13) fun _
    => .bind (.store w13) fun _ => .bind (.load r13) fun _ => .bind (.store w13) fun _ => .bind (.load r13) fun _ =>
    .bind (.store w13) fun _ => .ret) fun _ => .bind (.bind (.load r13) fun _ => .bind (.store w13) fun _ => .bind
    (.load r13) fun _ => .bind (.store w13) fun _ => .bind (.load r13) fun _ => .bind (.store w13) fun _ => .bind
    (.load r13) fun _ => .bind (.store w13) fun _ => .bind (.load r13) fun _ => .bind (.store w13) fun _ => .bind
    (.load r13) fun _ => .bind (.store w13) fun _ => .bind (.load r13) fun _ => .bind (.store w13) fun _ => .bind
    (.load r13) fun _ => .bind (.store w13) fun _ => .ret) fun _ => .bind (.bind (.load r13) fun _ => .bind (.store
    w13) fun _ => .bind (.load r13) fun _ => .bind (.store w13) fun _ => .bind (.load r13) fun _ => .bind (.store w13)
    fun _ => .bind (.load r13) fun _ => .bind (.store w13) fun _ => .bind (.load r13) fun _ => .bind (.store w13) fun _
    => .bind (.load r13) fun _ => .bind (.store w13) fun _ => .bind (.load r12) fun _ => .ret) fun _ => .bind (.bind
    (.store w12) fun _ => .ret) fun _ => .bind (.ret) fun _ => .bind (.ret) fun _ => .bind (.ret) fun _ => .bind (.ret)
    fun _ => .bind (.ret) fun _ => .bind (.ret) fun _ => .bind (.ret) fun _ => .bind (.ret) fun _ => .bind (.ret) fun _
    => .bind (.ret) fun _ => .bind (.ret) fun _ => .bind (.ret) fun _ => .bind (.ret) fun _ => .bind (.ret) fun _ =>
    .bind (.ret) fun _ => .bind (.ret) fun _ => .bind (.bind (.load r13) fun _ => .bind (.store w13) fun _ => .bind
    (.load r13) fun _ => .bind (.store w13) fun _ => .bind (.load r13) fun _ => .bind (.store w13) fun _ => .bind
    (.load r13) fun _ => .bind (.store w13) fun _ => .bind (.load r13) fun _ => .bind (.store w13) fun _ => .bind
    (.load r13) fun _ => .bind (.store w13) fun _ => .ret) fun _ => .bind (.bind (.load r13) fun _ => .bind (.store
    w13) fun _ => .bind (.load r13) fun _ => .bind (.store w13) fun _ => .bind (.load r13) fun _ => .bind (.store w13)
    fun _ => .bind (.load r13) fun _ => .bind (.store w13) fun _ => .bind (.load r13) fun _ => .bind (.store w13) fun _
    => .bind (.load r13) fun _ => .bind (.store w13) fun _ => .bind (.load r13) fun _ => .bind (.store w13) fun _ =>
    .bind (.load r13) fun _ => .ret) fun _ => .bind (.bind (.store w13) fun _ => .bind (.load r13) fun _ => .bind
    (.store w13) fun _ => .bind (.load r13) fun _ => .bind (.store w13) fun _ => .bind (.load r13) fun _ => .bind
    (.store w13) fun _ => .bind (.load r13) fun _ => .bind (.store w13) fun _ => .bind (.load r13) fun _ => .bind
    (.store w13) fun _ => .bind (.load r13) fun _ => .bind (.store w13) fun _ => .bind (.load r13) fun _ => .bind
    (.store w13) fun _ => .ret) fun _ => .bind (.bind (.load r13) fun _ => .bind (.store w13) fun _ => .bind (.load
    r13) fun _ => .bind (.store w13) fun _ => .bind (.load r13) fun _ => .bind (.store w13) fun _ => .bind (.load r13)
    fun _ => .bind (.store w13) fun _ => .bind (.load r13) fun _ => .bind (.store w13) fun _ => .bind (.load r13) fun _
    => .bind (.store w13) fun _ => .bind (.load r13) fun _ => .bind (.store w13) fun _ => .bind (.load r13) fun _ =>
    .ret) fun _ => .bind (.bind (.store w13) fun _ => .bind (.load r13) fun _ => .bind (.store w13) fun _ => .bind
    (.load r13) fun _ => .bind (.store w13) fun _ => .bind (.load r13) fun _ => .bind (.store w13) fun _ => .bind
    (.load r12) fun _ => .bind (.store w12) fun _ => .ret) fun _ => .bind (.ret) fun _ => .bind (.ret) fun _ => .bind
    (.ret) fun _ => .bind (.ret) fun _ => .bind (.ret) fun _ => .bind (.ret) fun _ => .bind (.ret) fun _ => .bind
    (.ret) fun _ => .bind (.ret) fun _ => .ret

/-- The program `k0_part95`, which calls 33 others, keeps the buffers. -/
theorem keep95 (k0_t1 : Fin (k0_t1_loop i).trips) (v907 : BitVec 32) (v909 : BitVec 32) (v1225 : FVec F S256x256 .f32) (v3377 : IVec S8x256 32) (v3383 : IVec S8x256 32) (v3386 : IVec S8x256 32) (v3392 : IVec S8x256 32) (v3395 : IVec S8x256 32) (v3401 : IVec S8x256 32) (v3404 : IVec S8x256 32) (v3410 : IVec S8x256 32) (v3413 : IVec S8x256 32) (v3419 : IVec S8x256 32) (v3422 : IVec S8x256 32) (v3428 : IVec S8x256 32) (v3431 : IVec S8x256 32) (v3437 : IVec S8x256 32) (v3440 : IVec S8x256 32) (v3446 : IVec S8x256 32) (v3449 : IVec S8x256 32) (v3455 : IVec S8x256 32) (v3458 : IVec S8x256 32) (v3464 : IVec S8x256 32) (v3467 : IVec S8x256 32) (v3473 : IVec S8x256 32) (v3476 : IVec S8x256 32) (v3482 : IVec S8x256 32) (v3485 : IVec S8x256 32) (v3491 : IVec S8x256 32) (v3494 : IVec S8x256 32) (v3500 : IVec S8x256 32) (v3503 : IVec S8x256 32) (v3509 : IVec S8x256 32) (v3512 : IVec S8x256 32) (v3517 : IVec S8x256 32) (v3518 : IVec S8x256 32) (v3519 : IVec S8x256 32) :
    Keeps (F := F) c O (k0_part95 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t1 v907 v909 v1225 v3377 v3383 v3386 v3392 v3395 v3401 v3404 v3410 v3413 v3419 v3422 v3428 v3431 v3437 v3440 v3446 v3449 v3455 v3458 v3464 v3467 v3473 v3476 v3482 v3485 v3491 v3494 v3500 v3503 v3509 v3512 v3517 v3518 v3519) :=
    .bind (.ret) fun _ => .bind (.ret) fun _ => .bind (.ret) fun _ => .bind (.ret) fun _ => .bind (.ret) fun _ => .bind
    (.ret) fun _ => .bind (.ret) fun _ => .bind (.bind (.load r13) fun _ => .bind (.store w13) fun _ => .ret) fun _ =>
    .bind (.bind (.load r13) fun _ => .bind (.store w13) fun _ => .bind (.load r13) fun _ => .bind (.store w13) fun _
    => .bind (.load r13) fun _ => .bind (.store w13) fun _ => .bind (.load r13) fun _ => .bind (.store w13) fun _ =>
    .bind (.load r13) fun _ => .bind (.store w13) fun _ => .bind (.load r13) fun _ => .bind (.store w13) fun _ => .bind
    (.load r13) fun _ => .bind (.store w13) fun _ => .bind (.load r13) fun _ => .ret) fun _ => .bind (.bind (.store
    w13) fun _ => .bind (.load r13) fun _ => .bind (.store w13) fun _ => .bind (.load r13) fun _ => .bind (.store w13)
    fun _ => .bind (.load r13) fun _ => .bind (.store w13) fun _ => .bind (.load r13) fun _ => .bind (.store w13) fun _
    => .bind (.load r13) fun _ => .bind (.store w13) fun _ => .bind (.load r13) fun _ => .bind (.store w13) fun _ =>
    .bind (.load r13) fun _ => .bind (.store w13) fun _ => .ret) fun _ => .bind (.bind (.load r13) fun _ => .bind
    (.store w13) fun _ => .bind (.load r13) fun _ => .bind (.store w13) fun _ => .bind (.load r13) fun _ => .bind
    (.store w13) fun _ => .bind (.load r13) fun _ => .bind (.store w13) fun _ => .bind (.load r13) fun _ => .bind
    (.store w13) fun _ => .bind (.load r13) fun _ => .bind (.store w13) fun _ => .bind (.load r13) fun _ => .bind
    (.store w13) fun _ => .bind (.load r13) fun _ => .ret) fun _ => .bind (.bind (.store w13) fun _ => .bind (.load
    r13) fun _ => .bind (.store w13) fun _ => .bind (.load r13) fun _ => .bind (.store w13) fun _ => .bind (.load r13)
    fun _ => .bind (.store w13) fun _ => .bind (.load r13) fun _ => .bind (.store w13) fun _ => .bind (.load r13) fun _
    => .bind (.store w13) fun _ => .bind (.load r13) fun _ => .bind (.store w13) fun _ => .bind (.load r13) fun _ =>
    .bind (.store w13) fun _ => .ret) fun _ => .bind (.bind (.load r13) fun _ => .bind (.store w13) fun _ => .bind
    (.load r12) fun _ => .bind (.store w12) fun _ => .ret) fun _ => .bind (.ret) fun _ => .bind (.ret) fun _ => .bind
    (.ret) fun _ => .bind (.ret) fun _ => .bind (.ret) fun _ => .bind (.ret) fun _ => .bind (.ret) fun _ => .bind
    (.ret) fun _ => .bind (.ret) fun _ => .bind (.ret) fun _ => .bind (.ret) fun _ => .bind (.ret) fun _ => .bind
    (.ret) fun _ => .bind (.ret) fun _ => .bind (.ret) fun _ => .bind (.ret) fun _ => .bind (.bind (.load r13) fun _ =>
    .bind (.store w13) fun _ => .bind (.load r13) fun _ => .bind (.store w13) fun _ => .bind (.load r13) fun _ => .bind
    (.store w13) fun _ => .bind (.load r13) fun _ => .ret) fun _ => .bind (.bind (.store w13) fun _ => .bind (.load
    r13) fun _ => .bind (.store w13) fun _ => .bind (.load r13) fun _ => .bind (.store w13) fun _ => .bind (.load r13)
    fun _ => .bind (.store w13) fun _ => .bind (.load r13) fun _ => .bind (.store w13) fun _ => .bind (.load r13) fun _
    => .bind (.store w13) fun _ => .bind (.load r13) fun _ => .bind (.store w13) fun _ => .bind (.load r13) fun _ =>
    .bind (.store w13) fun _ => .ret) fun _ => .bind (.bind (.load r13) fun _ => .bind (.store w13) fun _ => .bind
    (.load r13) fun _ => .bind (.store w13) fun _ => .bind (.load r13) fun _ => .bind (.store w13) fun _ => .bind
    (.load r13) fun _ => .bind (.store w13) fun _ => .bind (.load r13) fun _ => .bind (.store w13) fun _ => .bind
    (.load r13) fun _ => .bind (.store w13) fun _ => .bind (.load r13) fun _ => .bind (.store w13) fun _ => .bind
    (.load r13) fun _ => .ret) fun _ => .bind (.bind (.store w13) fun _ => .bind (.load r13) fun _ => .bind (.store
    w13) fun _ => .bind (.load r13) fun _ => .bind (.store w13) fun _ => .bind (.load r13) fun _ => .bind (.store w13)
    fun _ => .bind (.load r13) fun _ => .bind (.store w13) fun _ => .bind (.load r13) fun _ => .bind (.store w13) fun _
    => .bind (.load r13) fun _ => .bind (.store w13) fun _ => .bind (.load r13) fun _ => .bind (.store w13) fun _ =>
    .ret) fun _ => .bind (.load r13) fun _ => .bind (.store w13) fun _ => .bind (.load r13) fun _ => .bind (.store w13)
    fun _ => .bind (.load r13) fun _ => .bind (.store w13) fun _ => .bind (.load r13) fun _ => .ret

end Cert.AttnFrame

end
-- ==== Proof.Attn.Trip2.lean ====
module

public import proofs.«01_k».proof.Proof.Attn.Keep

@[expose] public section

set_option maxRecDepth 65536
set_option maxHeartbeats 4000000

/-!
# Indexer scores: a trip of the remaining loop
Each part of the body keeps the buffers, its loads and stores one by one.
-/

noncomputable section

namespace Cert.AttnFrame

open Cert.Kernel Cert.Kernel.Gen
open Idealize.ShloMosaic Idealize.ShloMosaic.TcCoe
open Idealize.SL Idealize.SL.BI
open Idealize.SL.BI.BIBase

variable {F : FTy → Type} [BitOps F]

local notation "𝕄" => MT nD τ sig Unit (Elt F) ℕ (UR sig nD τ) ℕ

variable {c : Dev nD} {O : sProp (MT nD τ sig Unit (Elt F) ℕ (UR sig nD τ) ℕ)} {i : grid0.Coords}
variable
  {arg2 : Memref sig .tc .vmem S256x512 .bf16} {harg2 : arg2.IsWhole}
  {arg3 : Memref sig .tc .vmem S4096x512 .bf16} {harg3 : arg3.IsWhole}
  {arg4 : Memref sig .tc .vmem S1x16x512x256 .bf16} {harg4 : arg4.IsWhole}
  {arg5 : Memref sig .tc .vmem S256x512 .bf16} {harg5 : arg5.IsWhole}
  {arg6 : Memref sig .tc .vmem S4096x128 .bf16} {harg6 : arg6.IsWhole}
  {arg7 : Memref sig .tc .vmem S256x128 .f32} {harg7 : arg7.IsWhole}
  {arg8 : Memref sig .tc .vmem S1x16x256 .f32} {harg8 : arg8.IsWhole}
  {arg9 : Memref sig .tc .vmem S8x256x256 .f32} {harg9 : arg9.IsWhole}
  {arg10 : Memref sig .tc .vmem S8x256x256 .f32} {harg10 : arg10.IsWhole}
  {arg11 : Memref sig .tc .vmem S256x512 .bf16} {harg11 : arg11.IsWhole}
  {arg12 : Memref sig .tc .vmem S16x256x256 .i32} {harg12 : arg12.IsWhole}
  {arg13 : Memref sig .tc .vmem S32x16x8x256 .i32} {harg13 : arg13.IsWhole}
  {arg14 : Memref sig .tc .vmem S16x8x256 .i32} {harg14 : arg14.IsWhole}
  {arg15 : Memref sig .tc .vmem S16x256x256 .f32} {harg15 : arg15.IsWhole}
  {arg16 : Memref sig .tc .vmem S4x16x256 .f32} {harg16 : arg16.IsWhole}
  {arg17 : Memref sig .tc .vmem S8x256x128 .bf16} {harg17 : arg17.IsWhole}
  {arg18 : Memref sig .tc .vmem S8x8x256 .f32} {harg18 : arg18.IsWhole}
  {arg19 : Memref sig .tc .vmem S8x80x256 .f32} {harg19 : arg19.IsWhole}
variable (r2 : Reads (F := F) c O arg2) (r3 : Reads (F := F) c O arg3) (r4 : Reads (F := F) c O arg4) (r5 : Reads (F := F) c O arg5) (r6 : Reads (F := F) c O arg6) (r7 : Reads (F := F) c O arg7) (r8 : Reads (F := F) c O arg8) (r9 : Reads (F := F) c O arg9) (r10 : Reads (F := F) c O arg10) (r11 : Reads (F := F) c O arg11) (r12 : Reads (F := F) c O arg12) (r13 : Reads (F := F) c O arg13) (r14 : Reads (F := F) c O arg14) (r15 : Reads (F := F) c O arg15) (r16 : Reads (F := F) c O arg16) (r17 : Reads (F := F) c O arg17) (r18 : Reads (F := F) c O arg18) (r19 : Reads (F := F) c O arg19)
  (w11 : Writes (F := F) c O arg11) (w12 : Writes (F := F) c O arg12) (w13 : Writes (F := F) c O arg13) (w14 : Writes (F := F) c O arg14) (w15 : Writes (F := F) c O arg15) (w16 : Writes (F := F) c O arg16) (w17 : Writes (F := F) c O arg17) (w18 : Writes (F := F) c O arg18) (w19 : Writes (F := F) c O arg19)
include r2 r3 r4 r5 r6 r7 r8 r9 r10 r11 r12 r13 r14 r15 r16 r17 r18 r19 w11 w12 w13 w14 w15 w16 w17 w18 w19

/-- The program `k0_part189`, which calls 60 others, keeps the buffers. -/
theorem keep189 (v3 : Vec F S256x512 .bf16) (v7 : FVec F S128x256 .f32) (v8 : IVec S256x128 32) (v30 : BitVec 32) (c1_i32_11 : BitVec 32) (k0_t2 : Fin (k0_t2_loop i).trips) :
    Keeps (F := F) c O (k0_part189 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v3 v7 v8 v30 c1_i32_11 k0_t2) :=
    .bind (.bind (.load r6) fun _ => .ret) fun _ => .bind (.ret) fun _ => .bind (.bind (.load r6) fun _ => .ret) fun _ =>
    .bind (.bind (.load r6) fun _ => .ret) fun _ => .bind (.ret) fun _ => .bind (.bind (.load r6) fun _ => .ret) fun _
    => .bind (.ret) fun _ => .bind (.bind (.load r12) fun _ => .bind (.store w12) fun _ => .ret) fun _ => .bind (.ret)
    fun _ => .bind (.ret) fun _ => .bind (.ret) fun _ => .bind (.ret) fun _ => .bind (.ret) fun _ => .bind (.ret) fun _
    => .bind (.ret) fun _ => .bind (.ret) fun _ => .bind (.ret) fun _ => .bind (.ret) fun _ => .bind (.ret) fun _ =>
    .bind (.ret) fun _ => .bind (.ret) fun _ => .bind (.ret) fun _ => .bind (.ret) fun _ => .bind (.ret) fun _ => .bind
    (.bind (.load r13) fun _ => .bind (.store w13) fun _ => .bind (.load r13) fun _ => .bind (.store w13) fun _ =>
    .bind (.load r13) fun _ => .bind (.store w13) fun _ => .ret) fun _ => .bind (.bind (.load r13) fun _ => .bind
    (.store w13) fun _ => .bind (.load r13) fun _ => .bind (.store w13) fun _ => .bind (.load r13) fun _ => .bind
    (.store w13) fun _ => .bind (.load r13) fun _ => .bind (.store w13) fun _ => .bind (.load r13) fun _ => .bind
    (.store w13) fun _ => .bind (.load r13) fun _ => .bind (.store w13) fun _ => .bind (.load r13) fun _ => .bind
    (.store w13) fun _ => .bind (.load r13) fun _ => .bind (.store w13) fun _ => .ret) fun _ => .bind (.bind (.load
    r13) fun _ => .bind (.store w13) fun _ => .bind (.load r13) fun _ => .bind (.store w13) fun _ => .bind (.load r13)
    fun _ => .bind (.store w13) fun _ => .bind (.load r13) fun _ => .bind (.store w13) fun _ => .bind (.load r13) fun _
    => .bind (.store w13) fun _ => .bind (.load r13) fun _ => .bind (.store w13) fun _ => .bind (.load r13) fun _ =>
    .bind (.store w13) fun _ => .ret) fun _ => .bind (.bind (.load r13) fun _ => .bind (.store w13) fun _ => .bind
    (.load r13) fun _ => .bind (.store w13) fun _ => .bind (.load r13) fun _ => .bind (.store w13) fun _ => .bind
    (.load r13) fun _ => .bind (.store w13) fun _ => .bind (.load r13) fun _ => .bind (.store w13) fun _ => .bind
    (.load r13) fun _ => .bind (.store w13) fun _ => .bind (.load r13) fun _ => .bind (.store w13) fun _ => .bind
    (.load r13) fun _ => .bind (.store w13) fun _ => .ret) fun _ => .bind (.bind (.load r13) fun _ => .bind (.store
    w13) fun _ => .bind (.load r13) fun _ => .bind (.store w13) fun _ => .bind (.load r13) fun _ => .bind (.store w13)
    fun _ => .bind (.load r13) fun _ => .bind (.store w13) fun _ => .bind (.load r13) fun _ => .bind (.store w13) fun _
    => .bind (.load r13) fun _ => .bind (.store w13) fun _ => .bind (.load r12) fun _ => .ret) fun _ => .bind (.bind
    (.store w12) fun _ => .ret) fun _ => .bind (.ret) fun _ => .bind (.ret) fun _ => .bind (.ret) fun _ => .bind (.ret)
    fun _ => .bind (.ret) fun _ => .bind (.ret) fun _ => .bind (.ret) fun _ => .bind (.ret) fun _ => .bind (.ret) fun _
    => .bind (.ret) fun _ => .bind (.ret) fun _ => .bind (.ret) fun _ => .bind (.ret) fun _ => .bind (.ret) fun _ =>
    .bind (.ret) fun _ => .bind (.ret) fun _ => .bind (.bind (.load r13) fun _ => .bind (.store w13) fun _ => .bind
    (.load r13) fun _ => .bind (.store w13) fun _ => .bind (.load r13) fun _ => .bind (.store w13) fun _ => .bind
    (.load r13) fun _ => .bind (.store w13) fun _ => .bind (.load r13) fun _ => .bind (.store w13) fun _ => .bind
    (.load r13) fun _ => .bind (.store w13) fun _ => .ret) fun _ => .bind (.bind (.load r13) fun _ => .bind (.store
    w13) fun _ => .bind (.load r13) fun _ => .bind (.store w13) fun _ => .bind (.load r13) fun _ => .bind (.store w13)
    fun _ => .bind (.load r13) fun _ => .bind (.store w13) fun _ => .bind (.load r13) fun _ => .bind (.store w13) fun _
    => .bind (.load r13) fun _ => .bind (.store w13) fun _ => .bind (.load r13) fun _ => .bind (.store w13) fun _ =>
    .bind (.load r13) fun _ => .ret) fun _ => .bind (.bind (.store w13) fun _ => .bind (.load r13) fun _ => .bind
    (.store w13) fun _ => .bind (.load r13) fun _ => .bind (.store w13) fun _ => .bind (.load r13) fun _ => .bind
    (.store w13) fun _ => .bind (.load r13) fun _ => .bind (.store w13) fun _ => .bind (.load r13) fun _ => .bind
    (.store w13) fun _ => .bind (.load r13) fun _ => .bind (.store w13) fun _ => .bind (.load r13) fun _ => .bind
    (.store w13) fun _ => .ret) fun _ => .bind (.bind (.load r13) fun _ => .bind (.store w13) fun _ => .bind (.load
    r13) fun _ => .bind (.store w13) fun _ => .bind (.load r13) fun _ => .bind (.store w13) fun _ => .bind (.load r13)
    fun _ => .bind (.store w13) fun _ => .bind (.load r13) fun _ => .bind (.store w13) fun _ => .bind (.load r13) fun _
    => .bind (.store w13) fun _ => .bind (.load r13) fun _ => .bind (.store w13) fun _ => .bind (.load r13) fun _ =>
    .ret) fun _ => .bind (.bind (.store w13) fun _ => .bind (.load r13) fun _ => .bind (.store w13) fun _ => .bind
    (.load r13) fun _ => .bind (.store w13) fun _ => .bind (.load r13) fun _ => .bind (.store w13) fun _ => .bind
    (.load r12) fun _ => .bind (.store w12) fun _ => .ret) fun _ => .bind (.ret) fun _ => .bind (.ret) fun _ => .bind
    (.ret) fun _ => .bind (.ret) fun _ => .bind (.ret) fun _ => .bind (.ret) fun _ => .bind (.ret) fun _ => .bind
    (.ret) fun _ => .bind (.ret) fun _ => .ret

/-- The program `k0_part190`, which calls 33 others, keeps the buffers. -/
theorem keep190 (k0_t2 : Fin (k0_t2_loop i).trips) (v907 : BitVec 32) (v909 : BitVec 32) (v1225 : FVec F S256x256 .f32) (v3377 : IVec S8x256 32) (v3383 : IVec S8x256 32) (v3386 : IVec S8x256 32) (v3392 : IVec S8x256 32) (v3395 : IVec S8x256 32) (v3401 : IVec S8x256 32) (v3404 : IVec S8x256 32) (v3410 : IVec S8x256 32) (v3413 : IVec S8x256 32) (v3419 : IVec S8x256 32) (v3422 : IVec S8x256 32) (v3428 : IVec S8x256 32) (v3431 : IVec S8x256 32) (v3437 : IVec S8x256 32) (v3440 : IVec S8x256 32) (v3446 : IVec S8x256 32) (v3449 : IVec S8x256 32) (v3455 : IVec S8x256 32) (v3458 : IVec S8x256 32) (v3464 : IVec S8x256 32) (v3467 : IVec S8x256 32) (v3473 : IVec S8x256 32) (v3476 : IVec S8x256 32) (v3482 : IVec S8x256 32) (v3485 : IVec S8x256 32) (v3491 : IVec S8x256 32) (v3494 : IVec S8x256 32) (v3500 : IVec S8x256 32) (v3503 : IVec S8x256 32) (v3509 : IVec S8x256 32) (v3512 : IVec S8x256 32) (v3517 : IVec S8x256 32) (v3518 : IVec S8x256 32) (v3519 : IVec S8x256 32) :
    Keeps (F := F) c O (k0_part190 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v907 v909 v1225 v3377 v3383 v3386 v3392 v3395 v3401 v3404 v3410 v3413 v3419 v3422 v3428 v3431 v3437 v3440 v3446 v3449 v3455 v3458 v3464 v3467 v3473 v3476 v3482 v3485 v3491 v3494 v3500 v3503 v3509 v3512 v3517 v3518 v3519) :=
    .bind (.ret) fun _ => .bind (.ret) fun _ => .bind (.ret) fun _ => .bind (.ret) fun _ => .bind (.ret) fun _ => .bind
    (.ret) fun _ => .bind (.ret) fun _ => .bind (.bind (.load r13) fun _ => .bind (.store w13) fun _ => .ret) fun _ =>
    .bind (.bind (.load r13) fun _ => .bind (.store w13) fun _ => .bind (.load r13) fun _ => .bind (.store w13) fun _
    => .bind (.load r13) fun _ => .bind (.store w13) fun _ => .bind (.load r13) fun _ => .bind (.store w13) fun _ =>
    .bind (.load r13) fun _ => .bind (.store w13) fun _ => .bind (.load r13) fun _ => .bind (.store w13) fun _ => .bind
    (.load r13) fun _ => .bind (.store w13) fun _ => .bind (.load r13) fun _ => .ret) fun _ => .bind (.bind (.store
    w13) fun _ => .bind (.load r13) fun _ => .bind (.store w13) fun _ => .bind (.load r13) fun _ => .bind (.store w13)
    fun _ => .bind (.load r13) fun _ => .bind (.store w13) fun _ => .bind (.load r13) fun _ => .bind (.store w13) fun _
    => .bind (.load r13) fun _ => .bind (.store w13) fun _ => .bind (.load r13) fun _ => .bind (.store w13) fun _ =>
    .bind (.load r13) fun _ => .bind (.store w13) fun _ => .ret) fun _ => .bind (.bind (.load r13) fun _ => .bind
    (.store w13) fun _ => .bind (.load r13) fun _ => .bind (.store w13) fun _ => .bind (.load r13) fun _ => .bind
    (.store w13) fun _ => .bind (.load r13) fun _ => .bind (.store w13) fun _ => .bind (.load r13) fun _ => .bind
    (.store w13) fun _ => .bind (.load r13) fun _ => .bind (.store w13) fun _ => .bind (.load r13) fun _ => .bind
    (.store w13) fun _ => .bind (.load r13) fun _ => .ret) fun _ => .bind (.bind (.store w13) fun _ => .bind (.load
    r13) fun _ => .bind (.store w13) fun _ => .bind (.load r13) fun _ => .bind (.store w13) fun _ => .bind (.load r13)
    fun _ => .bind (.store w13) fun _ => .bind (.load r13) fun _ => .bind (.store w13) fun _ => .bind (.load r13) fun _
    => .bind (.store w13) fun _ => .bind (.load r13) fun _ => .bind (.store w13) fun _ => .bind (.load r13) fun _ =>
    .bind (.store w13) fun _ => .ret) fun _ => .bind (.bind (.load r13) fun _ => .bind (.store w13) fun _ => .bind
    (.load r12) fun _ => .bind (.store w12) fun _ => .ret) fun _ => .bind (.ret) fun _ => .bind (.ret) fun _ => .bind
    (.ret) fun _ => .bind (.ret) fun _ => .bind (.ret) fun _ => .bind (.ret) fun _ => .bind (.ret) fun _ => .bind
    (.ret) fun _ => .bind (.ret) fun _ => .bind (.ret) fun _ => .bind (.ret) fun _ => .bind (.ret) fun _ => .bind
    (.ret) fun _ => .bind (.ret) fun _ => .bind (.ret) fun _ => .bind (.ret) fun _ => .bind (.bind (.load r13) fun _ =>
    .bind (.store w13) fun _ => .bind (.load r13) fun _ => .bind (.store w13) fun _ => .bind (.load r13) fun _ => .bind
    (.store w13) fun _ => .bind (.load r13) fun _ => .ret) fun _ => .bind (.bind (.store w13) fun _ => .bind (.load
    r13) fun _ => .bind (.store w13) fun _ => .bind (.load r13) fun _ => .bind (.store w13) fun _ => .bind (.load r13)
    fun _ => .bind (.store w13) fun _ => .bind (.load r13) fun _ => .bind (.store w13) fun _ => .bind (.load r13) fun _
    => .bind (.store w13) fun _ => .bind (.load r13) fun _ => .bind (.store w13) fun _ => .bind (.load r13) fun _ =>
    .bind (.store w13) fun _ => .ret) fun _ => .bind (.bind (.load r13) fun _ => .bind (.store w13) fun _ => .bind
    (.load r13) fun _ => .bind (.store w13) fun _ => .bind (.load r13) fun _ => .bind (.store w13) fun _ => .bind
    (.load r13) fun _ => .bind (.store w13) fun _ => .bind (.load r13) fun _ => .bind (.store w13) fun _ => .bind
    (.load r13) fun _ => .bind (.store w13) fun _ => .bind (.load r13) fun _ => .bind (.store w13) fun _ => .bind
    (.load r13) fun _ => .ret) fun _ => .bind (.bind (.store w13) fun _ => .bind (.load r13) fun _ => .bind (.store
    w13) fun _ => .bind (.load r13) fun _ => .bind (.store w13) fun _ => .bind (.load r13) fun _ => .bind (.store w13)
    fun _ => .bind (.load r13) fun _ => .bind (.store w13) fun _ => .bind (.load r13) fun _ => .bind (.store w13) fun _
    => .bind (.load r13) fun _ => .bind (.store w13) fun _ => .bind (.load r13) fun _ => .bind (.store w13) fun _ =>
    .ret) fun _ => .bind (.load r13) fun _ => .bind (.store w13) fun _ => .bind (.load r13) fun _ => .bind (.store w13)
    fun _ => .bind (.load r13) fun _ => .bind (.store w13) fun _ => .bind (.load r13) fun _ => .ret

end Cert.AttnFrame

end
-- ==== Proof.Attn.Band.lean ====
module

public import proofs.«01_k».proof.Proof.Attn.Keep

@[expose] public section

set_option maxRecDepth 65536
set_option maxHeartbeats 4000000

/-!
# Parts of the diagonal blocks
Each part of the body keeps the buffers, its loads and stores one by one.
-/

noncomputable section

namespace Cert.AttnFrame

open Cert.Kernel Cert.Kernel.Gen
open Idealize.ShloMosaic Idealize.ShloMosaic.TcCoe
open Idealize.SL Idealize.SL.BI
open Idealize.SL.BI.BIBase

variable {F : FTy → Type} [BitOps F]

local notation "𝕄" => MT nD τ sig Unit (Elt F) ℕ (UR sig nD τ) ℕ

variable {c : Dev nD} {O : sProp (MT nD τ sig Unit (Elt F) ℕ (UR sig nD τ) ℕ)} {i : grid0.Coords}
variable
  {arg2 : Memref sig .tc .vmem S256x512 .bf16} {harg2 : arg2.IsWhole}
  {arg3 : Memref sig .tc .vmem S4096x512 .bf16} {harg3 : arg3.IsWhole}
  {arg4 : Memref sig .tc .vmem S1x16x512x256 .bf16} {harg4 : arg4.IsWhole}
  {arg5 : Memref sig .tc .vmem S256x512 .bf16} {harg5 : arg5.IsWhole}
  {arg6 : Memref sig .tc .vmem S4096x128 .bf16} {harg6 : arg6.IsWhole}
  {arg7 : Memref sig .tc .vmem S256x128 .f32} {harg7 : arg7.IsWhole}
  {arg8 : Memref sig .tc .vmem S1x16x256 .f32} {harg8 : arg8.IsWhole}
  {arg9 : Memref sig .tc .vmem S8x256x256 .f32} {harg9 : arg9.IsWhole}
  {arg10 : Memref sig .tc .vmem S8x256x256 .f32} {harg10 : arg10.IsWhole}
  {arg11 : Memref sig .tc .vmem S256x512 .bf16} {harg11 : arg11.IsWhole}
  {arg12 : Memref sig .tc .vmem S16x256x256 .i32} {harg12 : arg12.IsWhole}
  {arg13 : Memref sig .tc .vmem S32x16x8x256 .i32} {harg13 : arg13.IsWhole}
  {arg14 : Memref sig .tc .vmem S16x8x256 .i32} {harg14 : arg14.IsWhole}
  {arg15 : Memref sig .tc .vmem S16x256x256 .f32} {harg15 : arg15.IsWhole}
  {arg16 : Memref sig .tc .vmem S4x16x256 .f32} {harg16 : arg16.IsWhole}
  {arg17 : Memref sig .tc .vmem S8x256x128 .bf16} {harg17 : arg17.IsWhole}
  {arg18 : Memref sig .tc .vmem S8x8x256 .f32} {harg18 : arg18.IsWhole}
  {arg19 : Memref sig .tc .vmem S8x80x256 .f32} {harg19 : arg19.IsWhole}
variable (r2 : Reads (F := F) c O arg2) (r3 : Reads (F := F) c O arg3) (r4 : Reads (F := F) c O arg4) (r5 : Reads (F := F) c O arg5) (r6 : Reads (F := F) c O arg6) (r7 : Reads (F := F) c O arg7) (r8 : Reads (F := F) c O arg8) (r9 : Reads (F := F) c O arg9) (r10 : Reads (F := F) c O arg10) (r11 : Reads (F := F) c O arg11) (r12 : Reads (F := F) c O arg12) (r13 : Reads (F := F) c O arg13) (r14 : Reads (F := F) c O arg14) (r15 : Reads (F := F) c O arg15) (r16 : Reads (F := F) c O arg16) (r17 : Reads (F := F) c O arg17) (r18 : Reads (F := F) c O arg18) (r19 : Reads (F := F) c O arg19)
  (w11 : Writes (F := F) c O arg11) (w12 : Writes (F := F) c O arg12) (w13 : Writes (F := F) c O arg13) (w14 : Writes (F := F) c O arg14) (w15 : Writes (F := F) c O arg15) (w16 : Writes (F := F) c O arg16) (w17 : Writes (F := F) c O arg17) (w18 : Writes (F := F) c O arg18) (w19 : Writes (F := F) c O arg19)
include r2 r3 r4 r5 r6 r7 r8 r9 r10 r11 r12 r13 r14 r15 r16 r17 r18 r19 w11 w12 w13 w14 w15 w16 w17 w18 w19

/-- The program `k0_part278`, which calls 55 others, keeps the buffers. -/
theorem keep278 (arg1 : BitVec 32) (v2 : IVec S256x256 1) (v3 : Vec F S256x512 .bf16) (v7 : FVec F S128x256 .f32) (v8 : IVec S256x128 32) (k0_h2 : k0_cond2 i = 1#1) :
    Keeps (F := F) c O (k0_part278 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v2 v3 v7 v8 k0_h2) :=
    .bind (.bind (.load r2) fun _ => .bind (.load r8) fun _ => .ret) fun _ => .bind (.bind (.load r16) fun _ => .bind
    (.store w16) fun _ => .ret) fun _ => .bind (.ret) fun _ => .bind (.bind (.load r16) fun _ => .bind (.store w16) fun
    _ => .ret) fun _ => .bind (.bind (.load r16) fun _ => .bind (.store w16) fun _ => .ret) fun _ => .bind (.bind
    (.load r16) fun _ => .ret) fun _ => .bind (.bind (.store w16) fun _ => .bind (.load r17) fun _ => .bind (.store
    w17) fun _ => .bind (.load r17) fun _ => .bind (.store w17) fun _ => .bind (.load r17) fun _ => .ret) fun _ =>
    .bind (.bind (.store w17) fun _ => .bind (.load r17) fun _ => .bind (.store w17) fun _ => .bind (.load r17) fun _
    => .bind (.store w17) fun _ => .bind (.load r17) fun _ => .ret) fun _ => .bind (.bind (.store w17) fun _ => .bind
    (.load r17) fun _ => .bind (.store w17) fun _ => .bind (.load r17) fun _ => .bind (.store w17) fun _ => .bind
    (.load r18) fun _ => .bind (.store w18) fun _ => .bind (.load r19) fun _ => .bind (.store w19) fun _ => .ret) fun _
    => .bind (.bind (.load r6) fun _ => .ret) fun _ => .bind (.bind (.load r6) fun _ => .ret) fun _ => .bind (.ret) fun
    _ => .bind (.bind (.load r12) fun _ => .bind (.store w12) fun _ => .ret) fun _ => .bind (.ret) fun _ => .bind
    (.ret) fun _ => .bind (.ret) fun _ => .bind (.ret) fun _ => .bind (.ret) fun _ => .bind (.ret) fun _ => .bind
    (.ret) fun _ => .bind (.ret) fun _ => .bind (.ret) fun _ => .bind (.ret) fun _ => .bind (.ret) fun _ => .bind
    (.ret) fun _ => .bind (.ret) fun _ => .bind (.ret) fun _ => .bind (.ret) fun _ => .bind (.ret) fun _ => .bind
    (.bind (.load r13) fun _ => .ret) fun _ => .bind (.bind (.store w13) fun _ => .bind (.load r13) fun _ => .bind
    (.store w13) fun _ => .bind (.load r13) fun _ => .bind (.store w13) fun _ => .bind (.load r13) fun _ => .bind
    (.store w13) fun _ => .bind (.load r13) fun _ => .bind (.store w13) fun _ => .bind (.load r13) fun _ => .bind
    (.store w13) fun _ => .bind (.load r13) fun _ => .bind (.store w13) fun _ => .bind (.load r13) fun _ => .bind
    (.store w13) fun _ => .ret) fun _ => .bind (.bind (.load r13) fun _ => .bind (.store w13) fun _ => .bind (.load
    r13) fun _ => .bind (.store w13) fun _ => .bind (.load r13) fun _ => .bind (.store w13) fun _ => .bind (.load r13)
    fun _ => .bind (.store w13) fun _ => .bind (.load r13) fun _ => .bind (.store w13) fun _ => .bind (.load r13) fun _
    => .bind (.store w13) fun _ => .bind (.load r13) fun _ => .bind (.store w13) fun _ => .bind (.load r13) fun _ =>
    .ret) fun _ => .bind (.bind (.store w13) fun _ => .bind (.load r13) fun _ => .bind (.store w13) fun _ => .bind
    (.load r13) fun _ => .bind (.store w13) fun _ => .bind (.load r13) fun _ => .bind (.store w13) fun _ => .bind
    (.load r13) fun _ => .bind (.store w13) fun _ => .bind (.load r13) fun _ => .bind (.store w13) fun _ => .bind
    (.load r13) fun _ => .bind (.store w13) fun _ => .bind (.load r13) fun _ => .bind (.store w13) fun _ => .ret) fun _
    => .bind (.bind (.load r13) fun _ => .bind (.store w13) fun _ => .bind (.load r13) fun _ => .bind (.store w13) fun
    _ => .bind (.load r13) fun _ => .bind (.store w13) fun _ => .bind (.load r13) fun _ => .bind (.store w13) fun _ =>
    .bind (.load r13) fun _ => .bind (.store w13) fun _ => .bind (.load r13) fun _ => .bind (.store w13) fun _ => .bind
    (.load r13) fun _ => .bind (.store w13) fun _ => .bind (.load r13) fun _ => .ret) fun _ => .bind (.bind (.store
    w13) fun _ => .bind (.load r13) fun _ => .bind (.store w13) fun _ => .bind (.load r12) fun _ => .bind (.store w12)
    fun _ => .ret) fun _ => .bind (.ret) fun _ => .bind (.ret) fun _ => .bind (.ret) fun _ => .bind (.ret) fun _ =>
    .bind (.ret) fun _ => .bind (.ret) fun _ => .bind (.ret) fun _ => .bind (.ret) fun _ => .bind (.ret) fun _ => .bind
    (.ret) fun _ => .bind (.ret) fun _ => .bind (.ret) fun _ => .bind (.ret) fun _ => .bind (.ret) fun _ => .bind
    (.ret) fun _ => .bind (.ret) fun _ => .bind (.bind (.load r13) fun _ => .bind (.store w13) fun _ => .bind (.load
    r13) fun _ => .bind (.store w13) fun _ => .bind (.load r13) fun _ => .bind (.store w13) fun _ => .ret) fun _ =>
    .bind (.bind (.load r13) fun _ => .bind (.store w13) fun _ => .bind (.load r13) fun _ => .bind (.store w13) fun _
    => .bind (.load r13) fun _ => .bind (.store w13) fun _ => .bind (.load r13) fun _ => .bind (.store w13) fun _ =>
    .bind (.load r13) fun _ => .bind (.store w13) fun _ => .bind (.load r13) fun _ => .bind (.store w13) fun _ => .bind
    (.load r13) fun _ => .bind (.store w13) fun _ => .bind (.load r13) fun _ => .ret) fun _ => .bind (.bind (.store
    w13) fun _ => .bind (.load r13) fun _ => .bind (.store w13) fun _ => .bind (.load r13) fun _ => .bind (.store w13)
    fun _ => .bind (.load r13) fun _ => .bind (.store w13) fun _ => .bind (.load r13) fun _ => .bind (.store w13) fun _
    => .bind (.load r13) fun _ => .bind (.store w13) fun _ => .bind (.load r13) fun _ => .bind (.store w13) fun _ =>
    .bind (.load r13) fun _ => .bind (.store w13) fun _ => .ret) fun _ => .bind (.bind (.load r13) fun _ => .bind
    (.store w13) fun _ => .bind (.load r13) fun _ => .bind (.store w13) fun _ => .bind (.load r13) fun _ => .bind
    (.store w13) fun _ => .bind (.load r13) fun _ => .bind (.store w13) fun _ => .bind (.load r13) fun _ => .bind
    (.store w13) fun _ => .bind (.load r13) fun _ => .bind (.store w13) fun _ => .bind (.load r13) fun _ => .bind
    (.store w13) fun _ => .bind (.load r13) fun _ => .ret) fun _ => .bind (.store w13) fun _ => .ret

/-- The program `k0_part358`, which calls 60 others, keeps the buffers. -/
theorem keep358 (arg1 : BitVec 32) (v2 : IVec S256x256 1) (v3 : Vec F S256x512 .bf16) (v7 : FVec F S128x256 .f32) (v8 : IVec S256x128 32) (k0_h3 : k0_cond3 i = 1#1) :
    Keeps (F := F) c O (k0_part358 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v2 v3 v7 v8 k0_h3) :=
    .bind (.bind (.load r2) fun _ => .bind (.load r8) fun _ => .ret) fun _ => .bind (.bind (.load r16) fun _ => .bind
    (.store w16) fun _ => .ret) fun _ => .bind (.ret) fun _ => .bind (.bind (.load r16) fun _ => .bind (.store w16) fun
    _ => .ret) fun _ => .bind (.bind (.load r16) fun _ => .bind (.store w16) fun _ => .ret) fun _ => .bind (.bind
    (.load r16) fun _ => .ret) fun _ => .bind (.bind (.store w16) fun _ => .bind (.load r17) fun _ => .bind (.store
    w17) fun _ => .bind (.load r17) fun _ => .bind (.store w17) fun _ => .bind (.load r17) fun _ => .ret) fun _ =>
    .bind (.bind (.store w17) fun _ => .bind (.load r17) fun _ => .bind (.store w17) fun _ => .bind (.load r17) fun _
    => .bind (.store w17) fun _ => .bind (.load r17) fun _ => .ret) fun _ => .bind (.bind (.store w17) fun _ => .bind
    (.load r17) fun _ => .bind (.store w17) fun _ => .bind (.load r17) fun _ => .bind (.store w17) fun _ => .bind
    (.load r18) fun _ => .bind (.store w18) fun _ => .bind (.load r19) fun _ => .bind (.store w19) fun _ => .ret) fun _
    => .bind (.bind (.load r6) fun _ => .ret) fun _ => .bind (.bind (.load r6) fun _ => .ret) fun _ => .bind (.ret) fun
    _ => .bind (.bind (.load r6) fun _ => .ret) fun _ => .bind (.ret) fun _ => .bind (.bind (.load r12) fun _ => .bind
    (.store w12) fun _ => .ret) fun _ => .bind (.ret) fun _ => .bind (.ret) fun _ => .bind (.ret) fun _ => .bind (.ret)
    fun _ => .bind (.ret) fun _ => .bind (.ret) fun _ => .bind (.ret) fun _ => .bind (.ret) fun _ => .bind (.ret) fun _
    => .bind (.ret) fun _ => .bind (.ret) fun _ => .bind (.ret) fun _ => .bind (.ret) fun _ => .bind (.ret) fun _ =>
    .bind (.ret) fun _ => .bind (.ret) fun _ => .bind (.bind (.load r13) fun _ => .bind (.store w13) fun _ => .bind
    (.load r13) fun _ => .bind (.store w13) fun _ => .ret) fun _ => .bind (.bind (.load r13) fun _ => .bind (.store
    w13) fun _ => .bind (.load r13) fun _ => .bind (.store w13) fun _ => .bind (.load r13) fun _ => .bind (.store w13)
    fun _ => .bind (.load r13) fun _ => .bind (.store w13) fun _ => .bind (.load r13) fun _ => .bind (.store w13) fun _
    => .bind (.load r13) fun _ => .bind (.store w13) fun _ => .bind (.load r13) fun _ => .bind (.store w13) fun _ =>
    .bind (.load r13) fun _ => .bind (.store w13) fun _ => .ret) fun _ => .bind (.bind (.load r13) fun _ => .bind
    (.store w13) fun _ => .bind (.load r13) fun _ => .bind (.store w13) fun _ => .bind (.load r13) fun _ => .bind
    (.store w13) fun _ => .bind (.load r13) fun _ => .bind (.store w13) fun _ => .bind (.load r13) fun _ => .bind
    (.store w13) fun _ => .bind (.load r13) fun _ => .bind (.store w13) fun _ => .bind (.load r13) fun _ => .bind
    (.store w13) fun _ => .ret) fun _ => .bind (.bind (.load r13) fun _ => .bind (.store w13) fun _ => .bind (.load
    r13) fun _ => .bind (.store w13) fun _ => .bind (.load r13) fun _ => .bind (.store w13) fun _ => .bind (.load r13)
    fun _ => .bind (.store w13) fun _ => .bind (.load r13) fun _ => .bind (.store w13) fun _ => .bind (.load r13) fun _
    => .bind (.store w13) fun _ => .bind (.load r13) fun _ => .bind (.store w13) fun _ => .bind (.load r13) fun _ =>
    .bind (.store w13) fun _ => .ret) fun _ => .bind (.bind (.load r13) fun _ => .bind (.store w13) fun _ => .bind
    (.load r13) fun _ => .bind (.store w13) fun _ => .bind (.load r13) fun _ => .bind (.store w13) fun _ => .bind
    (.load r13) fun _ => .bind (.store w13) fun _ => .bind (.load r13) fun _ => .bind (.store w13) fun _ => .bind
    (.load r13) fun _ => .bind (.store w13) fun _ => .bind (.load r13) fun _ => .bind (.store w13) fun _ => .ret) fun _
    => .bind (.bind (.load r12) fun _ => .bind (.store w12) fun _ => .ret) fun _ => .bind (.ret) fun _ => .bind (.ret)
    fun _ => .bind (.ret) fun _ => .bind (.ret) fun _ => .bind (.ret) fun _ => .bind (.ret) fun _ => .bind (.ret) fun _
    => .bind (.ret) fun _ => .bind (.ret) fun _ => .bind (.ret) fun _ => .bind (.ret) fun _ => .bind (.ret) fun _ =>
    .bind (.ret) fun _ => .bind (.ret) fun _ => .bind (.ret) fun _ => .bind (.ret) fun _ => .bind (.bind (.load r13)
    fun _ => .bind (.store w13) fun _ => .bind (.load r13) fun _ => .bind (.store w13) fun _ => .bind (.load r13) fun _
    => .bind (.store w13) fun _ => .bind (.load r13) fun _ => .bind (.store w13) fun _ => .bind (.load r13) fun _ =>
    .bind (.store w13) fun _ => .ret) fun _ => .bind (.bind (.load r13) fun _ => .bind (.store w13) fun _ => .bind
    (.load r13) fun _ => .bind (.store w13) fun _ => .bind (.load r13) fun _ => .bind (.store w13) fun _ => .bind
    (.load r13) fun _ => .bind (.store w13) fun _ => .bind (.load r13) fun _ => .bind (.store w13) fun _ => .bind
    (.load r13) fun _ => .bind (.store w13) fun _ => .bind (.load r13) fun _ => .bind (.store w13) fun _ => .bind
    (.load r13) fun _ => .ret) fun _ => .bind (.bind (.store w13) fun _ => .bind (.load r13) fun _ => .bind (.store
    w13) fun _ => .bind (.load r13) fun _ => .bind (.store w13) fun _ => .bind (.load r13) fun _ => .bind (.store w13)
    fun _ => .bind (.load r13) fun _ => .bind (.store w13) fun _ => .bind (.load r13) fun _ => .bind (.store w13) fun _
    => .bind (.load r13) fun _ => .bind (.store w13) fun _ => .bind (.load r13) fun _ => .bind (.store w13) fun _ =>
    .ret) fun _ => .bind (.bind (.load r13) fun _ => .bind (.store w13) fun _ => .bind (.load r13) fun _ => .bind
    (.store w13) fun _ => .bind (.load r13) fun _ => .bind (.store w13) fun _ => .bind (.load r13) fun _ => .bind
    (.store w13) fun _ => .bind (.load r13) fun _ => .bind (.store w13) fun _ => .bind (.load r13) fun _ => .bind
    (.store w13) fun _ => .bind (.load r13) fun _ => .bind (.store w13) fun _ => .bind (.load r13) fun _ => .ret) fun _
    => .bind (.bind (.store w13) fun _ => .bind (.load r13) fun _ => .bind (.store w13) fun _ => .bind (.load r13) fun
    _ => .bind (.store w13) fun _ => .bind (.load r13) fun _ => .bind (.store w13) fun _ => .bind (.load r13) fun _ =>
    .bind (.store w13) fun _ => .bind (.load r12) fun _ => .bind (.store w12) fun _ => .ret) fun _ => .bind (.ret) fun
    _ => .bind (.ret) fun _ => .ret

end Cert.AttnFrame

end
-- ==== Proof.Attn.Band2.lean ====
module

public import proofs.«01_k».proof.Proof.Attn.Keep

@[expose] public section

set_option maxRecDepth 65536
set_option maxHeartbeats 4000000

/-!
# Parts of the diagonal blocks, continued
Each part of the body keeps the buffers, its loads and stores one by one.
-/

noncomputable section

namespace Cert.AttnFrame

open Cert.Kernel Cert.Kernel.Gen
open Idealize.ShloMosaic Idealize.ShloMosaic.TcCoe
open Idealize.SL Idealize.SL.BI
open Idealize.SL.BI.BIBase

variable {F : FTy → Type} [BitOps F]

local notation "𝕄" => MT nD τ sig Unit (Elt F) ℕ (UR sig nD τ) ℕ

variable {c : Dev nD} {O : sProp (MT nD τ sig Unit (Elt F) ℕ (UR sig nD τ) ℕ)} {i : grid0.Coords}
variable
  {arg2 : Memref sig .tc .vmem S256x512 .bf16} {harg2 : arg2.IsWhole}
  {arg3 : Memref sig .tc .vmem S4096x512 .bf16} {harg3 : arg3.IsWhole}
  {arg4 : Memref sig .tc .vmem S1x16x512x256 .bf16} {harg4 : arg4.IsWhole}
  {arg5 : Memref sig .tc .vmem S256x512 .bf16} {harg5 : arg5.IsWhole}
  {arg6 : Memref sig .tc .vmem S4096x128 .bf16} {harg6 : arg6.IsWhole}
  {arg7 : Memref sig .tc .vmem S256x128 .f32} {harg7 : arg7.IsWhole}
  {arg8 : Memref sig .tc .vmem S1x16x256 .f32} {harg8 : arg8.IsWhole}
  {arg9 : Memref sig .tc .vmem S8x256x256 .f32} {harg9 : arg9.IsWhole}
  {arg10 : Memref sig .tc .vmem S8x256x256 .f32} {harg10 : arg10.IsWhole}
  {arg11 : Memref sig .tc .vmem S256x512 .bf16} {harg11 : arg11.IsWhole}
  {arg12 : Memref sig .tc .vmem S16x256x256 .i32} {harg12 : arg12.IsWhole}
  {arg13 : Memref sig .tc .vmem S32x16x8x256 .i32} {harg13 : arg13.IsWhole}
  {arg14 : Memref sig .tc .vmem S16x8x256 .i32} {harg14 : arg14.IsWhole}
  {arg15 : Memref sig .tc .vmem S16x256x256 .f32} {harg15 : arg15.IsWhole}
  {arg16 : Memref sig .tc .vmem S4x16x256 .f32} {harg16 : arg16.IsWhole}
  {arg17 : Memref sig .tc .vmem S8x256x128 .bf16} {harg17 : arg17.IsWhole}
  {arg18 : Memref sig .tc .vmem S8x8x256 .f32} {harg18 : arg18.IsWhole}
  {arg19 : Memref sig .tc .vmem S8x80x256 .f32} {harg19 : arg19.IsWhole}
variable (r2 : Reads (F := F) c O arg2) (r3 : Reads (F := F) c O arg3) (r4 : Reads (F := F) c O arg4) (r5 : Reads (F := F) c O arg5) (r6 : Reads (F := F) c O arg6) (r7 : Reads (F := F) c O arg7) (r8 : Reads (F := F) c O arg8) (r9 : Reads (F := F) c O arg9) (r10 : Reads (F := F) c O arg10) (r11 : Reads (F := F) c O arg11) (r12 : Reads (F := F) c O arg12) (r13 : Reads (F := F) c O arg13) (r14 : Reads (F := F) c O arg14) (r15 : Reads (F := F) c O arg15) (r16 : Reads (F := F) c O arg16) (r17 : Reads (F := F) c O arg17) (r18 : Reads (F := F) c O arg18) (r19 : Reads (F := F) c O arg19)
  (w11 : Writes (F := F) c O arg11) (w12 : Writes (F := F) c O arg12) (w13 : Writes (F := F) c O arg13) (w14 : Writes (F := F) c O arg14) (w15 : Writes (F := F) c O arg15) (w16 : Writes (F := F) c O arg16) (w17 : Writes (F := F) c O arg17) (w18 : Writes (F := F) c O arg18) (w19 : Writes (F := F) c O arg19)
include r2 r3 r4 r5 r6 r7 r8 r9 r10 r11 r12 r13 r14 r15 r16 r17 r18 r19 w11 w12 w13 w14 w15 w16 w17 w18 w19

/-- The program `k0_part461`, which calls 60 others, keeps the buffers. -/
theorem keep461 (arg1 : BitVec 32) (v3 : Vec F S256x512 .bf16) (v7 : FVec F S128x256 .f32) (v8 : IVec S256x128 32) (k0_h4 : k0_cond4 i = 1#1) :
    Keeps (F := F) c O (k0_part461 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v3 v7 v8 k0_h4) :=
    .bind (.bind (.load r2) fun _ => .bind (.load r8) fun _ => .ret) fun _ => .bind (.bind (.load r16) fun _ => .bind
    (.store w16) fun _ => .ret) fun _ => .bind (.ret) fun _ => .bind (.bind (.load r16) fun _ => .bind (.store w16) fun
    _ => .ret) fun _ => .bind (.bind (.load r16) fun _ => .bind (.store w16) fun _ => .ret) fun _ => .bind (.bind
    (.load r16) fun _ => .ret) fun _ => .bind (.bind (.store w16) fun _ => .bind (.load r17) fun _ => .bind (.store
    w17) fun _ => .bind (.load r17) fun _ => .bind (.store w17) fun _ => .bind (.load r17) fun _ => .ret) fun _ =>
    .bind (.bind (.store w17) fun _ => .bind (.load r17) fun _ => .bind (.store w17) fun _ => .bind (.load r17) fun _
    => .bind (.store w17) fun _ => .bind (.load r17) fun _ => .ret) fun _ => .bind (.bind (.store w17) fun _ => .bind
    (.load r17) fun _ => .bind (.store w17) fun _ => .bind (.load r17) fun _ => .bind (.store w17) fun _ => .bind
    (.load r18) fun _ => .bind (.store w18) fun _ => .bind (.load r19) fun _ => .bind (.store w19) fun _ => .ret) fun _
    => .bind (.bind (.load r6) fun _ => .ret) fun _ => .bind (.ret) fun _ => .bind (.bind (.load r6) fun _ => .ret) fun
    _ => .bind (.bind (.load r6) fun _ => .ret) fun _ => .bind (.ret) fun _ => .bind (.bind (.load r6) fun _ => .ret)
    fun _ => .bind (.ret) fun _ => .bind (.bind (.load r12) fun _ => .bind (.store w12) fun _ => .ret) fun _ => .bind
    (.ret) fun _ => .bind (.ret) fun _ => .bind (.ret) fun _ => .bind (.ret) fun _ => .bind (.ret) fun _ => .bind
    (.ret) fun _ => .bind (.ret) fun _ => .bind (.ret) fun _ => .bind (.ret) fun _ => .bind (.ret) fun _ => .bind
    (.ret) fun _ => .bind (.ret) fun _ => .bind (.ret) fun _ => .bind (.ret) fun _ => .bind (.ret) fun _ => .bind
    (.ret) fun _ => .bind (.bind (.load r13) fun _ => .bind (.store w13) fun _ => .bind (.load r13) fun _ => .bind
    (.store w13) fun _ => .bind (.load r13) fun _ => .bind (.store w13) fun _ => .bind (.load r13) fun _ => .bind
    (.store w13) fun _ => .ret) fun _ => .bind (.bind (.load r13) fun _ => .bind (.store w13) fun _ => .bind (.load
    r13) fun _ => .bind (.store w13) fun _ => .bind (.load r13) fun _ => .bind (.store w13) fun _ => .bind (.load r13)
    fun _ => .bind (.store w13) fun _ => .bind (.load r13) fun _ => .bind (.store w13) fun _ => .bind (.load r13) fun _
    => .bind (.store w13) fun _ => .bind (.load r13) fun _ => .bind (.store w13) fun _ => .bind (.load r13) fun _ =>
    .ret) fun _ => .bind (.bind (.store w13) fun _ => .bind (.load r13) fun _ => .bind (.store w13) fun _ => .bind
    (.load r13) fun _ => .bind (.store w13) fun _ => .bind (.load r13) fun _ => .bind (.store w13) fun _ => .bind
    (.load r13) fun _ => .bind (.store w13) fun _ => .bind (.load r13) fun _ => .bind (.store w13) fun _ => .bind
    (.load r13) fun _ => .bind (.store w13) fun _ => .bind (.load r13) fun _ => .bind (.store w13) fun _ => .ret) fun _
    => .bind (.bind (.load r13) fun _ => .bind (.store w13) fun _ => .bind (.load r13) fun _ => .bind (.store w13) fun
    _ => .bind (.load r13) fun _ => .bind (.store w13) fun _ => .bind (.load r13) fun _ => .bind (.store w13) fun _ =>
    .bind (.load r13) fun _ => .bind (.store w13) fun _ => .bind (.load r13) fun _ => .bind (.store w13) fun _ => .bind
    (.load r13) fun _ => .bind (.store w13) fun _ => .bind (.load r13) fun _ => .ret) fun _ => .bind (.bind (.store
    w13) fun _ => .bind (.load r13) fun _ => .bind (.store w13) fun _ => .bind (.load r13) fun _ => .bind (.store w13)
    fun _ => .bind (.load r13) fun _ => .bind (.store w13) fun _ => .bind (.load r13) fun _ => .bind (.store w13) fun _
    => .bind (.load r13) fun _ => .bind (.store w13) fun _ => .bind (.load r12) fun _ => .bind (.store w12) fun _ =>
    .ret) fun _ => .bind (.ret) fun _ => .bind (.ret) fun _ => .bind (.ret) fun _ => .bind (.ret) fun _ => .bind (.ret)
    fun _ => .bind (.ret) fun _ => .bind (.ret) fun _ => .bind (.ret) fun _ => .bind (.ret) fun _ => .bind (.ret) fun _
    => .bind (.ret) fun _ => .bind (.ret) fun _ => .bind (.ret) fun _ => .bind (.ret) fun _ => .bind (.ret) fun _ =>
    .bind (.ret) fun _ => .bind (.ret) fun _ => .bind (.bind (.load r13) fun _ => .bind (.store w13) fun _ => .bind
    (.load r13) fun _ => .bind (.store w13) fun _ => .bind (.load r13) fun _ => .bind (.store w13) fun _ => .bind
    (.load r13) fun _ => .bind (.store w13) fun _ => .bind (.load r13) fun _ => .bind (.store w13) fun _ => .bind
    (.load r13) fun _ => .bind (.store w13) fun _ => .bind (.load r13) fun _ => .ret) fun _ => .bind (.bind (.store
    w13) fun _ => .bind (.load r13) fun _ => .bind (.store w13) fun _ => .bind (.load r13) fun _ => .bind (.store w13)
    fun _ => .bind (.load r13) fun _ => .bind (.store w13) fun _ => .bind (.load r13) fun _ => .bind (.store w13) fun _
    => .bind (.load r13) fun _ => .bind (.store w13) fun _ => .bind (.load r13) fun _ => .bind (.store w13) fun _ =>
    .bind (.load r13) fun _ => .bind (.store w13) fun _ => .ret) fun _ => .bind (.bind (.load r13) fun _ => .bind
    (.store w13) fun _ => .bind (.load r13) fun _ => .bind (.store w13) fun _ => .bind (.load r13) fun _ => .bind
    (.store w13) fun _ => .bind (.load r13) fun _ => .bind (.store w13) fun _ => .bind (.load r13) fun _ => .bind
    (.store w13) fun _ => .bind (.load r13) fun _ => .bind (.store w13) fun _ => .bind (.load r13) fun _ => .bind
    (.store w13) fun _ => .bind (.load r13) fun _ => .ret) fun _ => .bind (.bind (.store w13) fun _ => .bind (.load
    r13) fun _ => .bind (.store w13) fun _ => .bind (.load r13) fun _ => .bind (.store w13) fun _ => .bind (.load r13)
    fun _ => .bind (.store w13) fun _ => .bind (.load r13) fun _ => .bind (.store w13) fun _ => .bind (.load r13) fun _
    => .bind (.store w13) fun _ => .bind (.load r13) fun _ => .bind (.store w13) fun _ => .bind (.load r13) fun _ =>
    .bind (.store w13) fun _ => .ret) fun _ => .bind (.bind (.load r13) fun _ => .bind (.store w13) fun _ => .bind
    (.load r13) fun _ => .bind (.store w13) fun _ => .bind (.load r13) fun _ => .bind (.store w13) fun _ => .bind
    (.load r12) fun _ => .bind (.store w12) fun _ => .ret) fun _ => .ret

/-- The program `k0_part462`, which calls 42 others, keeps the buffers. -/
theorem keep462 (arg1 : BitVec 32) (v2 : IVec S256x256 1) (k0_h4 : k0_cond4 i = 1#1) (v1272 : BitVec 32) (v1588 : FVec F S256x256 .f32) (v3451 : IVec S32x8x256 32) (v3453 : IVec S8x256 32) (v3455 : IVec S8x256 32) (v3457 : IVec S8x256 32) (v3459 : IVec S8x256 32) (v3461 : IVec S8x256 32) (v3463 : IVec S8x256 32) (v3465 : IVec S8x256 32) (v3467 : IVec S8x256 32) (v3469 : IVec S8x256 32) (v3470 : IVec S1x8x256 32) :
    Keeps (F := F) c O (k0_part462 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v2 k0_h4 v1272 v1588 v3451 v3453 v3455 v3457 v3459 v3461 v3463 v3465 v3467 v3469 v3470) :=
    .bind (.ret) fun _ => .bind (.ret) fun _ => .bind (.ret) fun _ => .bind (.ret) fun _ => .bind (.ret) fun _ => .bind
    (.ret) fun _ => .bind (.ret) fun _ => .bind (.ret) fun _ => .bind (.ret) fun _ => .bind (.ret) fun _ => .bind
    (.ret) fun _ => .bind (.ret) fun _ => .bind (.ret) fun _ => .bind (.ret) fun _ => .bind (.ret) fun _ => .bind
    (.ret) fun _ => .bind (.bind (.load r13) fun _ => .bind (.store w13) fun _ => .bind (.load r13) fun _ => .ret) fun
    _ => .bind (.bind (.store w13) fun _ => .bind (.load r13) fun _ => .bind (.store w13) fun _ => .bind (.load r13)
    fun _ => .bind (.store w13) fun _ => .bind (.load r13) fun _ => .bind (.store w13) fun _ => .bind (.load r13) fun _
    => .bind (.store w13) fun _ => .bind (.load r13) fun _ => .bind (.store w13) fun _ => .bind (.load r13) fun _ =>
    .bind (.store w13) fun _ => .bind (.load r13) fun _ => .bind (.store w13) fun _ => .ret) fun _ => .bind (.bind
    (.load r13) fun _ => .bind (.store w13) fun _ => .bind (.load r13) fun _ => .bind (.store w13) fun _ => .bind
    (.load r13) fun _ => .bind (.store w13) fun _ => .bind (.load r13) fun _ => .bind (.store w13) fun _ => .bind
    (.load r13) fun _ => .bind (.store w13) fun _ => .bind (.load r13) fun _ => .bind (.store w13) fun _ => .bind
    (.load r13) fun _ => .bind (.store w13) fun _ => .bind (.load r13) fun _ => .ret) fun _ => .bind (.bind (.store
    w13) fun _ => .bind (.load r13) fun _ => .bind (.store w13) fun _ => .bind (.load r13) fun _ => .bind (.store w13)
    fun _ => .bind (.load r13) fun _ => .bind (.store w13) fun _ => .bind (.load r13) fun _ => .bind (.store w13) fun _
    => .bind (.load r13) fun _ => .bind (.store w13) fun _ => .bind (.load r13) fun _ => .bind (.store w13) fun _ =>
    .bind (.load r13) fun _ => .bind (.store w13) fun _ => .ret) fun _ => .bind (.bind (.load r13) fun _ => .bind
    (.store w13) fun _ => .bind (.load r13) fun _ => .bind (.store w13) fun _ => .bind (.load r13) fun _ => .bind
    (.store w13) fun _ => .bind (.load r13) fun _ => .bind (.store w13) fun _ => .bind (.load r13) fun _ => .bind
    (.store w13) fun _ => .bind (.load r13) fun _ => .bind (.store w13) fun _ => .bind (.load r13) fun _ => .bind
    (.store w13) fun _ => .bind (.load r13) fun _ => .ret) fun _ => .bind (.bind (.store w13) fun _ => .bind (.load
    r12) fun _ => .bind (.store w12) fun _ => .ret) fun _ => .bind (.ret) fun _ => .bind (.ret) fun _ => .bind (.ret)
    fun _ => .bind (.ret) fun _ => .bind (.ret) fun _ => .bind (.ret) fun _ => .bind (.ret) fun _ => .bind (.ret) fun _
    => .bind (.ret) fun _ => .bind (.ret) fun _ => .bind (.ret) fun _ => .bind (.ret) fun _ => .bind (.ret) fun _ =>
    .bind (.ret) fun _ => .bind (.ret) fun _ => .bind (.ret) fun _ => .bind (.bind (.load r13) fun _ => .bind (.store
    w13) fun _ => .bind (.load r13) fun _ => .bind (.store w13) fun _ => .bind (.load r13) fun _ => .bind (.store w13)
    fun _ => .bind (.load r13) fun _ => .bind (.store w13) fun _ => .ret) fun _ => .bind (.bind (.load r13) fun _ =>
    .bind (.store w13) fun _ => .bind (.load r13) fun _ => .bind (.store w13) fun _ => .bind (.load r13) fun _ => .bind
    (.store w13) fun _ => .bind (.load r13) fun _ => .bind (.store w13) fun _ => .bind (.load r13) fun _ => .bind
    (.store w13) fun _ => .bind (.load r13) fun _ => .bind (.store w13) fun _ => .bind (.load r13) fun _ => .bind
    (.store w13) fun _ => .bind (.load r13) fun _ => .ret) fun _ => .bind (.bind (.store w13) fun _ => .bind (.load
    r13) fun _ => .bind (.store w13) fun _ => .bind (.load r13) fun _ => .bind (.store w13) fun _ => .bind (.load r13)
    fun _ => .bind (.store w13) fun _ => .bind (.load r13) fun _ => .bind (.store w13) fun _ => .bind (.load r13) fun _
    => .bind (.store w13) fun _ => .bind (.load r13) fun _ => .bind (.store w13) fun _ => .bind (.load r13) fun _ =>
    .bind (.store w13) fun _ => .ret) fun _ => .bind (.bind (.load r13) fun _ => .bind (.store w13) fun _ => .bind
    (.load r13) fun _ => .bind (.store w13) fun _ => .bind (.load r13) fun _ => .bind (.store w13) fun _ => .bind
    (.load r13) fun _ => .bind (.store w13) fun _ => .bind (.load r13) fun _ => .bind (.store w13) fun _ => .bind
    (.load r13) fun _ => .bind (.store w13) fun _ => .bind (.load r13) fun _ => .bind (.store w13) fun _ => .bind
    (.load r13) fun _ => .ret) fun _ => .bind (.store w13) fun _ => .bind (.load r13) fun _ => .bind (.store w13) fun _
    => .bind (.load r13) fun _ => .ret

end Cert.AttnFrame

end
-- ==== Proof.Attn.Score.lean ====
module

public import proofs.«01_k».proof.Proof.Attn.Trip1
public import proofs.«01_k».proof.Proof.Attn.Trip2
public import proofs.«01_k».proof.Proof.Attn.Band
public import proofs.«01_k».proof.Proof.Attn.Band2

@[expose] public section

set_option maxRecDepth 65536
set_option maxHeartbeats 4000000

/-!
# The indexer scores
Each part of the body keeps the buffers, its loads and stores one by one.
-/

noncomputable section

namespace Cert.AttnFrame

open Cert.Kernel Cert.Kernel.Gen
open Idealize.ShloMosaic Idealize.ShloMosaic.TcCoe
open Idealize.SL Idealize.SL.BI
open Idealize.SL.BI.BIBase

variable {F : FTy → Type} [BitOps F]

local notation "𝕄" => MT nD τ sig Unit (Elt F) ℕ (UR sig nD τ) ℕ

variable {c : Dev nD} {O : sProp (MT nD τ sig Unit (Elt F) ℕ (UR sig nD τ) ℕ)} {i : grid0.Coords}
variable
  {arg2 : Memref sig .tc .vmem S256x512 .bf16} {harg2 : arg2.IsWhole}
  {arg3 : Memref sig .tc .vmem S4096x512 .bf16} {harg3 : arg3.IsWhole}
  {arg4 : Memref sig .tc .vmem S1x16x512x256 .bf16} {harg4 : arg4.IsWhole}
  {arg5 : Memref sig .tc .vmem S256x512 .bf16} {harg5 : arg5.IsWhole}
  {arg6 : Memref sig .tc .vmem S4096x128 .bf16} {harg6 : arg6.IsWhole}
  {arg7 : Memref sig .tc .vmem S256x128 .f32} {harg7 : arg7.IsWhole}
  {arg8 : Memref sig .tc .vmem S1x16x256 .f32} {harg8 : arg8.IsWhole}
  {arg9 : Memref sig .tc .vmem S8x256x256 .f32} {harg9 : arg9.IsWhole}
  {arg10 : Memref sig .tc .vmem S8x256x256 .f32} {harg10 : arg10.IsWhole}
  {arg11 : Memref sig .tc .vmem S256x512 .bf16} {harg11 : arg11.IsWhole}
  {arg12 : Memref sig .tc .vmem S16x256x256 .i32} {harg12 : arg12.IsWhole}
  {arg13 : Memref sig .tc .vmem S32x16x8x256 .i32} {harg13 : arg13.IsWhole}
  {arg14 : Memref sig .tc .vmem S16x8x256 .i32} {harg14 : arg14.IsWhole}
  {arg15 : Memref sig .tc .vmem S16x256x256 .f32} {harg15 : arg15.IsWhole}
  {arg16 : Memref sig .tc .vmem S4x16x256 .f32} {harg16 : arg16.IsWhole}
  {arg17 : Memref sig .tc .vmem S8x256x128 .bf16} {harg17 : arg17.IsWhole}
  {arg18 : Memref sig .tc .vmem S8x8x256 .f32} {harg18 : arg18.IsWhole}
  {arg19 : Memref sig .tc .vmem S8x80x256 .f32} {harg19 : arg19.IsWhole}
variable (r2 : Reads (F := F) c O arg2) (r3 : Reads (F := F) c O arg3) (r4 : Reads (F := F) c O arg4) (r5 : Reads (F := F) c O arg5) (r6 : Reads (F := F) c O arg6) (r7 : Reads (F := F) c O arg7) (r8 : Reads (F := F) c O arg8) (r9 : Reads (F := F) c O arg9) (r10 : Reads (F := F) c O arg10) (r11 : Reads (F := F) c O arg11) (r12 : Reads (F := F) c O arg12) (r13 : Reads (F := F) c O arg13) (r14 : Reads (F := F) c O arg14) (r15 : Reads (F := F) c O arg15) (r16 : Reads (F := F) c O arg16) (r17 : Reads (F := F) c O arg17) (r18 : Reads (F := F) c O arg18) (r19 : Reads (F := F) c O arg19)
  (w11 : Writes (F := F) c O arg11) (w12 : Writes (F := F) c O arg12) (w13 : Writes (F := F) c O arg13) (w14 : Writes (F := F) c O arg14) (w15 : Writes (F := F) c O arg15) (w16 : Writes (F := F) c O arg16) (w17 : Writes (F := F) c O arg17) (w18 : Writes (F := F) c O arg18) (w19 : Writes (F := F) c O arg19)
include r2 r3 r4 r5 r6 r7 r8 r9 r10 r11 r12 r13 r14 r15 r16 r17 r18 r19 w11 w12 w13 w14 w15 w16 w17 w18 w19

/-- The program `k0_part700`, which calls 4 others, keeps the buffers. -/
theorem keep700  :
    Keeps (F := F) c O (k0_part700 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) :=
    .bind (.load r5) fun _ => .bind (.load r7) fun _ => .bind (.for fun _ _ => .bind (keep94 r2 r3 r4 r5 r6 r7 r8 r9 r10
    r11 r12 r13 r14 r15 r16 r17 r18 r19 w11 w12 w13 w14 w15 w16 w17 w18 w19 _ _ _ _ _ _) fun _ => .bind (keep95 r2 r3
    r4 r5 r6 r7 r8 r9 r10 r11 r12 r13 r14 r15 r16 r17 r18 r19 w11 w12 w13 w14 w15 w16 w17 w18 w19 _ _ _ _ _ _ _ _ _ _ _
    _ _ _ _ _ _ _ _ _ _ _ _ _ _ _ _ _ _ _ _ _ _ _ _ _ _ _) fun _ => .bind (.store w13) fun _ => .bind (.load r13) fun _
    => .bind (.store w13) fun _ => .bind (.load r13) fun _ => .bind (.store w13) fun _ => .ret) fun _ => .bind (.for
    fun _ _ => .bind (keep189 r2 r3 r4 r5 r6 r7 r8 r9 r10 r11 r12 r13 r14 r15 r16 r17 r18 r19 w11 w12 w13 w14 w15 w16
    w17 w18 w19 _ _ _ _ _ _) fun _ => .bind (keep190 r2 r3 r4 r5 r6 r7 r8 r9 r10 r11 r12 r13 r14 r15 r16 r17 r18 r19
    w11 w12 w13 w14 w15 w16 w17 w18 w19 _ _ _ _ _ _ _ _ _ _ _ _ _ _ _ _ _ _ _ _ _ _ _ _ _ _ _ _ _ _ _ _ _ _ _ _ _ _)
    fun _ => .bind (.store w13) fun _ => .bind (.load r13) fun _ => .bind (.store w13) fun _ => .bind (.load r13) fun _
    => .bind (.store w13) fun _ => .ret) fun _ => .ret

/-- The program `k0_part701`, which calls 55 others, keeps the buffers. -/
theorem keep701 (arg0 : BitVec 32) (arg1 : BitVec 32) (v2 : IVec S256x256 1) (v3 : Vec F S256x512 .bf16) (v7 : FVec F S128x256 .f32) (v8 : IVec S256x128 32) (v32 : BitVec 32) (v33 : BitVec 32) (v34 : BitVec 1) :
    Keeps (F := F) c O (k0_part701 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 v2 v3 v7 v8 v32 v33 v34) :=
    (.diteJoin ((.diteJoin ((.diteJoin ((.diteJoin ((.diteJoin (.bind (.load r14) fun _ => .bind (.store w14) fun _ =>
    .ret) fun _ hB => .bind (.load r13) fun _ => .bind (.store w13) fun _ => hB)) fun _ hB => .bind (keep461 r2 r3 r4
    r5 r6 r7 r8 r9 r10 r11 r12 r13 r14 r15 r16 r17 r18 r19 w11 w12 w13 w14 w15 w16 w17 w18 w19 _ _ _ _ _) fun _ =>
    .bind (keep462 r2 r3 r4 r5 r6 r7 r8 r9 r10 r11 r12 r13 r14 r15 r16 r17 r18 r19 w11 w12 w13 w14 w15 w16 w17 w18 w19
    _ _ _ _ _ _ _ _ _ _ _ _ _ _ _ _) fun _ => .bind (.store w13) fun _ => .bind (.load r13) fun _ => .bind (.store w13)
    fun _ => .bind (.load r13) fun _ => .bind (.store w13) fun _ => .bind (.load r13) fun _ => .bind (.store w13) fun _
    => hB)) fun _ hB => .bind (keep358 r2 r3 r4 r5 r6 r7 r8 r9 r10 r11 r12 r13 r14 r15 r16 r17 r18 r19 w11 w12 w13 w14
    w15 w16 w17 w18 w19 _ _ _ _ _ _) fun _ => .bind (.ret) fun _ => .bind (.ret) fun _ => .bind (.ret) fun _ => .bind
    (.ret) fun _ => .bind (.ret) fun _ => .bind (.ret) fun _ => .bind (.ret) fun _ => .bind (.ret) fun _ => .bind
    (.ret) fun _ => .bind (.ret) fun _ => .bind (.ret) fun _ => .bind (.ret) fun _ => .bind (.ret) fun _ => .bind
    (.ret) fun _ => .bind (.ret) fun _ => .bind (.bind (.load r13) fun _ => .bind (.store w13) fun _ => .bind (.load
    r13) fun _ => .bind (.store w13) fun _ => .bind (.load r13) fun _ => .bind (.store w13) fun _ => .bind (.load r13)
    fun _ => .bind (.store w13) fun _ => .bind (.load r13) fun _ => .bind (.store w13) fun _ => .bind (.load r13) fun _
    => .bind (.store w13) fun _ => .bind (.load r13) fun _ => .bind (.store w13) fun _ => .ret) fun _ => .bind (.bind
    (.load r13) fun _ => .bind (.store w13) fun _ => .bind (.load r13) fun _ => .bind (.store w13) fun _ => .bind
    (.load r13) fun _ => .bind (.store w13) fun _ => .bind (.load r13) fun _ => .bind (.store w13) fun _ => .bind
    (.load r13) fun _ => .bind (.store w13) fun _ => .bind (.load r13) fun _ => .bind (.store w13) fun _ => .bind
    (.load r13) fun _ => .bind (.store w13) fun _ => .bind (.load r13) fun _ => .ret) fun _ => .bind (.bind (.store
    w13) fun _ => .bind (.load r13) fun _ => .bind (.store w13) fun _ => .bind (.load r13) fun _ => .bind (.store w13)
    fun _ => .bind (.load r13) fun _ => .bind (.store w13) fun _ => .bind (.load r13) fun _ => .bind (.store w13) fun _
    => .bind (.load r13) fun _ => .bind (.store w13) fun _ => .bind (.load r13) fun _ => .bind (.store w13) fun _ =>
    .bind (.load r13) fun _ => .bind (.store w13) fun _ => .ret) fun _ => .bind (.bind (.load r13) fun _ => .bind
    (.store w13) fun _ => .bind (.load r13) fun _ => .bind (.store w13) fun _ => .bind (.load r13) fun _ => .bind
    (.store w13) fun _ => .bind (.load r13) fun _ => .bind (.store w13) fun _ => .bind (.load r13) fun _ => .bind
    (.store w13) fun _ => .bind (.load r13) fun _ => .bind (.store w13) fun _ => .bind (.load r13) fun _ => .bind
    (.store w13) fun _ => .bind (.load r13) fun _ => .ret) fun _ => .bind (.store w13) fun _ => .bind (.load r13) fun _
    => .bind (.store w13) fun _ => .bind (.load r13) fun _ => .bind (.store w13) fun _ => hB)) fun _ hB => .bind
    (keep278 r2 r3 r4 r5 r6 r7 r8 r9 r10 r11 r12 r13 r14 r15 r16 r17 r18 r19 w11 w12 w13 w14 w15 w16 w17 w18 w19 _ _ _
    _ _ _) fun _ => .bind (.load r13) fun _ => .bind (.store w13) fun _ => .bind (.load r13) fun _ => .bind (.store
    w13) fun _ => .bind (.load r13) fun _ => .bind (.store w13) fun _ => .bind (.load r13) fun _ => .bind (.store w13)
    fun _ => .bind (.load r13) fun _ => .bind (.store w13) fun _ => .bind (.load r13) fun _ => .bind (.store w13) fun _
    => hB)) fun _ hB => .bind (.bind (.load r2) fun _ => .bind (.load r8) fun _ => .ret) fun _ => .bind (.bind (.load
    r16) fun _ => .bind (.store w16) fun _ => .ret) fun _ => .bind (.ret) fun _ => .bind (.bind (.load r16) fun _ =>
    .bind (.store w16) fun _ => .ret) fun _ => .bind (.bind (.load r16) fun _ => .bind (.store w16) fun _ => .ret) fun
    _ => .bind (.bind (.load r16) fun _ => .ret) fun _ => .bind (.bind (.store w16) fun _ => .bind (.load r17) fun _ =>
    .bind (.store w17) fun _ => .bind (.load r17) fun _ => .bind (.store w17) fun _ => .bind (.load r17) fun _ => .ret)
    fun _ => .bind (.bind (.store w17) fun _ => .bind (.load r17) fun _ => .bind (.store w17) fun _ => .bind (.load
    r17) fun _ => .bind (.store w17) fun _ => .bind (.load r17) fun _ => .ret) fun _ => .bind (.bind (.store w17) fun _
    => .bind (.load r17) fun _ => .bind (.store w17) fun _ => .bind (.load r17) fun _ => .bind (.store w17) fun _ =>
    .bind (.load r18) fun _ => .bind (.store w18) fun _ => .bind (.load r19) fun _ => .bind (.store w19) fun _ => .ret)
    fun _ => .bind (.bind (.load r6) fun _ => .ret) fun _ => .bind (.bind (.load r12) fun _ => .ret) fun _ => .bind
    (.bind (.store w12) fun _ => .ret) fun _ => .bind (.ret) fun _ => .bind (.ret) fun _ => .bind (.ret) fun _ => .bind
    (.ret) fun _ => .bind (.ret) fun _ => .bind (.ret) fun _ => .bind (.ret) fun _ => .bind (.ret) fun _ => .bind
    (.ret) fun _ => .bind (.ret) fun _ => .bind (.ret) fun _ => .bind (.ret) fun _ => .bind (.ret) fun _ => .bind
    (.ret) fun _ => .bind (.ret) fun _ => .bind (.ret) fun _ => .bind (.bind (.load r13) fun _ => .bind (.store w13)
    fun _ => .bind (.load r13) fun _ => .bind (.store w13) fun _ => .bind (.load r13) fun _ => .bind (.store w13) fun _
    => .bind (.load r13) fun _ => .bind (.store w13) fun _ => .bind (.load r13) fun _ => .bind (.store w13) fun _ =>
    .bind (.load r13) fun _ => .bind (.store w13) fun _ => .ret) fun _ => .bind (.bind (.load r13) fun _ => .bind
    (.store w13) fun _ => .bind (.load r13) fun _ => .bind (.store w13) fun _ => .bind (.load r13) fun _ => .bind
    (.store w13) fun _ => .bind (.load r13) fun _ => .bind (.store w13) fun _ => .bind (.load r13) fun _ => .bind
    (.store w13) fun _ => .bind (.load r13) fun _ => .bind (.store w13) fun _ => .bind (.load r13) fun _ => .bind
    (.store w13) fun _ => .bind (.load r13) fun _ => .ret) fun _ => .bind (.bind (.store w13) fun _ => .bind (.load
    r13) fun _ => .bind (.store w13) fun _ => .bind (.load r13) fun _ => .bind (.store w13) fun _ => .bind (.load r13)
    fun _ => .bind (.store w13) fun _ => .bind (.load r13) fun _ => .bind (.store w13) fun _ => .bind (.load r13) fun _
    => .bind (.store w13) fun _ => .bind (.load r13) fun _ => .bind (.store w13) fun _ => .bind (.load r13) fun _ =>
    .bind (.store w13) fun _ => .ret) fun _ => .bind (.bind (.load r13) fun _ => .bind (.store w13) fun _ => .bind
    (.load r13) fun _ => .bind (.store w13) fun _ => .bind (.load r13) fun _ => .bind (.store w13) fun _ => .bind
    (.load r13) fun _ => .bind (.store w13) fun _ => .bind (.load r13) fun _ => .bind (.store w13) fun _ => .bind
    (.load r13) fun _ => .bind (.store w13) fun _ => .bind (.load r13) fun _ => .bind (.store w13) fun _ => .bind
    (.load r13) fun _ => .ret) fun _ => .bind (.store w13) fun _ => .bind (.load r13) fun _ => .bind (.store w13) fun _
    => .bind (.load r13) fun _ => .bind (.store w13) fun _ => .bind (.load r13) fun _ => .bind (.store w13) fun _ =>
    hB)

end Cert.AttnFrame

end
-- ==== Proof.Attn.Soft.lean ====
module

public import proofs.«01_k».proof.Proof.Attn.Keep

@[expose] public section

set_option maxRecDepth 65536
set_option maxHeartbeats 4000000

/-!
# Parts of the softmax over earlier blocks
Each part of the body keeps the buffers, its loads and stores one by one.
-/

noncomputable section

namespace Cert.AttnFrame

open Cert.Kernel Cert.Kernel.Gen
open Idealize.ShloMosaic Idealize.ShloMosaic.TcCoe
open Idealize.SL Idealize.SL.BI
open Idealize.SL.BI.BIBase

variable {F : FTy → Type} [BitOps F]

local notation "𝕄" => MT nD τ sig Unit (Elt F) ℕ (UR sig nD τ) ℕ

variable {c : Dev nD} {O : sProp (MT nD τ sig Unit (Elt F) ℕ (UR sig nD τ) ℕ)} {i : grid0.Coords}
variable
  {arg2 : Memref sig .tc .vmem S256x512 .bf16} {harg2 : arg2.IsWhole}
  {arg3 : Memref sig .tc .vmem S4096x512 .bf16} {harg3 : arg3.IsWhole}
  {arg4 : Memref sig .tc .vmem S1x16x512x256 .bf16} {harg4 : arg4.IsWhole}
  {arg5 : Memref sig .tc .vmem S256x512 .bf16} {harg5 : arg5.IsWhole}
  {arg6 : Memref sig .tc .vmem S4096x128 .bf16} {harg6 : arg6.IsWhole}
  {arg7 : Memref sig .tc .vmem S256x128 .f32} {harg7 : arg7.IsWhole}
  {arg8 : Memref sig .tc .vmem S1x16x256 .f32} {harg8 : arg8.IsWhole}
  {arg9 : Memref sig .tc .vmem S8x256x256 .f32} {harg9 : arg9.IsWhole}
  {arg10 : Memref sig .tc .vmem S8x256x256 .f32} {harg10 : arg10.IsWhole}
  {arg11 : Memref sig .tc .vmem S256x512 .bf16} {harg11 : arg11.IsWhole}
  {arg12 : Memref sig .tc .vmem S16x256x256 .i32} {harg12 : arg12.IsWhole}
  {arg13 : Memref sig .tc .vmem S32x16x8x256 .i32} {harg13 : arg13.IsWhole}
  {arg14 : Memref sig .tc .vmem S16x8x256 .i32} {harg14 : arg14.IsWhole}
  {arg15 : Memref sig .tc .vmem S16x256x256 .f32} {harg15 : arg15.IsWhole}
  {arg16 : Memref sig .tc .vmem S4x16x256 .f32} {harg16 : arg16.IsWhole}
  {arg17 : Memref sig .tc .vmem S8x256x128 .bf16} {harg17 : arg17.IsWhole}
  {arg18 : Memref sig .tc .vmem S8x8x256 .f32} {harg18 : arg18.IsWhole}
  {arg19 : Memref sig .tc .vmem S8x80x256 .f32} {harg19 : arg19.IsWhole}
variable (r2 : Reads (F := F) c O arg2) (r3 : Reads (F := F) c O arg3) (r4 : Reads (F := F) c O arg4) (r5 : Reads (F := F) c O arg5) (r6 : Reads (F := F) c O arg6) (r7 : Reads (F := F) c O arg7) (r8 : Reads (F := F) c O arg8) (r9 : Reads (F := F) c O arg9) (r10 : Reads (F := F) c O arg10) (r11 : Reads (F := F) c O arg11) (r12 : Reads (F := F) c O arg12) (r13 : Reads (F := F) c O arg13) (r14 : Reads (F := F) c O arg14) (r15 : Reads (F := F) c O arg15) (r16 : Reads (F := F) c O arg16) (r17 : Reads (F := F) c O arg17) (r18 : Reads (F := F) c O arg18) (r19 : Reads (F := F) c O arg19)
  (w11 : Writes (F := F) c O arg11) (w12 : Writes (F := F) c O arg12) (w13 : Writes (F := F) c O arg13) (w14 : Writes (F := F) c O arg14) (w15 : Writes (F := F) c O arg15) (w16 : Writes (F := F) c O arg16) (w17 : Writes (F := F) c O arg17) (w18 : Writes (F := F) c O arg18) (w19 : Writes (F := F) c O arg19)
include r2 r3 r4 r5 r6 r7 r8 r9 r10 r11 r12 r13 r14 r15 r16 r17 r18 r19 w11 w12 w13 w14 w15 w16 w17 w18 w19

/-- The program `k0_part503`, which calls 40 others, keeps the buffers. -/
theorem keep503 (v792 : FVec F S16x256 .bf16) (c0_i32_442 : BitVec 32) (c1_i32_444 : BitVec 32) (k0_t7 : Fin (k0_t7_loop i).trips) :
    Keeps (F := F) c O (k0_part503 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v792 c0_i32_442 c1_i32_444 k0_t7) :=
    .bind (.bind (.load r3) fun _ => .bind (.load r17) fun _ => .bind (.load r15) fun _ => .bind (.load r18) fun _ => .bind
    (.load r18) fun _ => .bind (.store w18) fun _ => .ret) fun _ => .bind (.bind (.load r17) fun _ => .bind (.load r15)
    fun _ => .bind (.load r18) fun _ => .bind (.load r18) fun _ => .bind (.store w18) fun _ => .bind (.load r17) fun _
    => .bind (.load r15) fun _ => .bind (.load r18) fun _ => .ret) fun _ => .bind (.bind (.load r18) fun _ => .bind
    (.store w18) fun _ => .bind (.load r17) fun _ => .bind (.load r15) fun _ => .bind (.load r18) fun _ => .bind (.load
    r18) fun _ => .bind (.store w18) fun _ => .bind (.load r17) fun _ => .ret) fun _ => .bind (.bind (.load r18) fun _
    => .bind (.load r16) fun _ => .bind (.load r18) fun _ => .bind (.store w18) fun _ => .bind (.load r17) fun _ =>
    .bind (.load r18) fun _ => .bind (.load r16) fun _ => .ret) fun _ => .bind (.bind (.load r18) fun _ => .bind
    (.store w18) fun _ => .bind (.load r17) fun _ => .bind (.load r18) fun _ => .bind (.load r16) fun _ => .bind (.load
    r18) fun _ => .ret) fun _ => .bind (.bind (.store w18) fun _ => .bind (.load r17) fun _ => .bind (.load r18) fun _
    => .bind (.load r16) fun _ => .bind (.load r18) fun _ => .bind (.store w18) fun _ => .bind (.load r3) fun _ =>
    .ret) fun _ => .bind (.bind (.load r17) fun _ => .bind (.load r15) fun _ => .bind (.load r18) fun _ => .bind (.load
    r18) fun _ => .bind (.store w18) fun _ => .bind (.load r17) fun _ => .bind (.load r15) fun _ => .bind (.load r18)
    fun _ => .ret) fun _ => .bind (.bind (.load r18) fun _ => .bind (.store w18) fun _ => .bind (.load r17) fun _ =>
    .bind (.load r15) fun _ => .bind (.load r18) fun _ => .bind (.load r18) fun _ => .bind (.store w18) fun _ => .bind
    (.load r17) fun _ => .bind (.load r15) fun _ => .ret) fun _ => .bind (.bind (.load r18) fun _ => .bind (.load r18)
    fun _ => .bind (.store w18) fun _ => .bind (.load r17) fun _ => .bind (.load r18) fun _ => .bind (.load r16) fun _
    => .ret) fun _ => .bind (.bind (.load r18) fun _ => .bind (.store w18) fun _ => .bind (.load r17) fun _ => .bind
    (.load r18) fun _ => .bind (.load r16) fun _ => .bind (.load r18) fun _ => .bind (.store w18) fun _ => .bind (.load
    r17) fun _ => .ret) fun _ => .bind (.bind (.load r18) fun _ => .bind (.load r16) fun _ => .bind (.load r18) fun _
    => .bind (.store w18) fun _ => .bind (.load r17) fun _ => .bind (.load r18) fun _ => .ret) fun _ => .bind (.bind
    (.load r16) fun _ => .bind (.load r18) fun _ => .bind (.store w18) fun _ => .bind (.load r3) fun _ => .bind (.load
    r17) fun _ => .bind (.load r15) fun _ => .bind (.load r18) fun _ => .ret) fun _ => .bind (.bind (.load r18) fun _
    => .bind (.store w18) fun _ => .bind (.load r17) fun _ => .bind (.load r15) fun _ => .bind (.load r18) fun _ =>
    .bind (.load r18) fun _ => .bind (.store w18) fun _ => .bind (.load r17) fun _ => .bind (.load r15) fun _ => .ret)
    fun _ => .bind (.bind (.load r18) fun _ => .bind (.load r18) fun _ => .bind (.store w18) fun _ => .bind (.load r17)
    fun _ => .bind (.load r15) fun _ => .bind (.load r18) fun _ => .bind (.load r18) fun _ => .bind (.store w18) fun _
    => .bind (.load r17) fun _ => .ret) fun _ => .bind (.bind (.load r18) fun _ => .bind (.load r16) fun _ => .bind
    (.load r18) fun _ => .bind (.store w18) fun _ => .bind (.load r17) fun _ => .bind (.load r18) fun _ => .ret) fun _
    => .bind (.bind (.load r16) fun _ => .bind (.load r18) fun _ => .bind (.store w18) fun _ => .bind (.load r17) fun _
    => .bind (.load r18) fun _ => .bind (.load r16) fun _ => .ret) fun _ => .bind (.bind (.load r18) fun _ => .bind
    (.store w18) fun _ => .bind (.load r17) fun _ => .bind (.load r18) fun _ => .bind (.load r16) fun _ => .bind (.load
    r18) fun _ => .bind (.store w18) fun _ => .ret) fun _ => .bind (.bind (.load r3) fun _ => .bind (.load r17) fun _
    => .bind (.load r15) fun _ => .bind (.load r18) fun _ => .bind (.load r18) fun _ => .bind (.store w18) fun _ =>
    .bind (.load r17) fun _ => .bind (.load r15) fun _ => .ret) fun _ => .bind (.bind (.load r18) fun _ => .bind (.load
    r18) fun _ => .bind (.store w18) fun _ => .bind (.load r17) fun _ => .bind (.load r15) fun _ => .bind (.load r18)
    fun _ => .bind (.load r18) fun _ => .bind (.store w18) fun _ => .bind (.load r17) fun _ => .ret) fun _ => .bind
    (.bind (.load r15) fun _ => .bind (.load r18) fun _ => .bind (.load r18) fun _ => .bind (.store w18) fun _ => .bind
    (.load r17) fun _ => .bind (.load r18) fun _ => .bind (.load r16) fun _ => .ret) fun _ => .bind (.bind (.load r18)
    fun _ => .bind (.store w18) fun _ => .bind (.load r17) fun _ => .bind (.load r18) fun _ => .bind (.load r16) fun _
    => .bind (.load r18) fun _ => .bind (.store w18) fun _ => .ret) fun _ => .bind (.bind (.load r17) fun _ => .bind
    (.load r18) fun _ => .bind (.load r16) fun _ => .bind (.load r18) fun _ => .bind (.store w18) fun _ => .bind (.load
    r17) fun _ => .ret) fun _ => .bind (.bind (.load r18) fun _ => .bind (.load r16) fun _ => .bind (.load r18) fun _
    => .bind (.store w18) fun _ => .ret) fun _ => .bind (.ret) fun _ => .bind (.ret) fun _ => .bind (.ret) fun _ =>
    .bind (.bind (.load r4) fun _ => .bind (.load r19) fun _ => .bind (.load r19) fun _ => .bind (.store w19) fun _ =>
    .bind (.load r4) fun _ => .bind (.load r19) fun _ => .ret) fun _ => .bind (.bind (.load r19) fun _ => .bind (.store
    w19) fun _ => .bind (.load r4) fun _ => .bind (.load r19) fun _ => .bind (.load r19) fun _ => .bind (.store w19)
    fun _ => .bind (.load r4) fun _ => .bind (.load r19) fun _ => .ret) fun _ => .bind (.bind (.load r19) fun _ =>
    .bind (.store w19) fun _ => .bind (.load r4) fun _ => .bind (.load r19) fun _ => .bind (.load r19) fun _ => .bind
    (.store w19) fun _ => .bind (.load r4) fun _ => .bind (.load r19) fun _ => .bind (.load r19) fun _ => .bind (.store
    w19) fun _ => .ret) fun _ => .bind (.bind (.load r4) fun _ => .bind (.load r19) fun _ => .bind (.load r19) fun _ =>
    .bind (.store w19) fun _ => .bind (.load r4) fun _ => .bind (.load r19) fun _ => .bind (.load r19) fun _ => .bind
    (.store w19) fun _ => .bind (.load r4) fun _ => .ret) fun _ => .bind (.bind (.load r19) fun _ => .bind (.load r19)
    fun _ => .bind (.store w19) fun _ => .bind (.load r4) fun _ => .bind (.load r19) fun _ => .bind (.load r19) fun _
    => .bind (.store w19) fun _ => .bind (.load r4) fun _ => .ret) fun _ => .bind (.bind (.load r19) fun _ => .bind
    (.load r19) fun _ => .bind (.store w19) fun _ => .bind (.load r4) fun _ => .bind (.load r19) fun _ => .bind (.load
    r19) fun _ => .bind (.store w19) fun _ => .bind (.load r4) fun _ => .bind (.load r19) fun _ => .ret) fun _ => .bind
    (.bind (.load r19) fun _ => .bind (.store w19) fun _ => .bind (.load r4) fun _ => .bind (.load r19) fun _ => .bind
    (.load r19) fun _ => .bind (.store w19) fun _ => .bind (.load r4) fun _ => .bind (.load r19) fun _ => .bind (.load
    r19) fun _ => .ret) fun _ => .bind (.bind (.store w19) fun _ => .bind (.load r4) fun _ => .bind (.load r19) fun _
    => .bind (.load r19) fun _ => .bind (.store w19) fun _ => .bind (.load r4) fun _ => .bind (.load r19) fun _ =>
    .bind (.load r19) fun _ => .bind (.store w19) fun _ => .ret) fun _ => .bind (.bind (.load r4) fun _ => .bind (.load
    r19) fun _ => .bind (.load r19) fun _ => .bind (.store w19) fun _ => .bind (.load r4) fun _ => .bind (.load r19)
    fun _ => .bind (.load r19) fun _ => .bind (.store w19) fun _ => .bind (.load r4) fun _ => .ret) fun _ => .bind
    (.bind (.load r19) fun _ => .bind (.load r19) fun _ => .bind (.store w19) fun _ => .bind (.load r4) fun _ => .bind
    (.load r19) fun _ => .bind (.load r19) fun _ => .bind (.store w19) fun _ => .bind (.load r4) fun _ => .bind (.load
    r19) fun _ => .ret) fun _ => .bind (.bind (.load r19) fun _ => .bind (.store w19) fun _ => .bind (.load r4) fun _
    => .bind (.load r19) fun _ => .bind (.load r19) fun _ => .bind (.store w19) fun _ => .bind (.load r4) fun _ =>
    .bind (.load r19) fun _ => .ret) fun _ => .bind (.bind (.load r19) fun _ => .bind (.store w19) fun _ => .bind
    (.load r4) fun _ => .bind (.load r19) fun _ => .bind (.load r19) fun _ => .bind (.store w19) fun _ => .bind (.load
    r4) fun _ => .bind (.load r19) fun _ => .bind (.load r19) fun _ => .bind (.store w19) fun _ => .ret) fun _ => .bind
    (.bind (.load r4) fun _ => .bind (.load r19) fun _ => .bind (.load r19) fun _ => .bind (.store w19) fun _ => .bind
    (.load r4) fun _ => .bind (.load r19) fun _ => .bind (.load r19) fun _ => .bind (.store w19) fun _ => .bind (.load
    r4) fun _ => .ret) fun _ => .bind (.bind (.load r19) fun _ => .bind (.load r19) fun _ => .bind (.store w19) fun _
    => .bind (.load r4) fun _ => .bind (.load r19) fun _ => .bind (.load r19) fun _ => .bind (.store w19) fun _ =>
    .bind (.load r4) fun _ => .ret) fun _ => .bind (.load r19) fun _ => .bind (.load r19) fun _ => .bind (.store w19)
    fun _ => .bind (.load r4) fun _ => .ret

/-- The program `k0_part544`, which calls 40 others, keeps the buffers. -/
theorem keep544 (v792 : FVec F S16x256 .bf16) (v816 : BitVec 32) (c1_i32_445 : BitVec 32) (k0_t8 : Fin (k0_t8_loop i).trips) :
    Keeps (F := F) c O (k0_part544 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v792 v816 c1_i32_445 k0_t8) :=
    .bind (.bind (.load r3) fun _ => .bind (.load r17) fun _ => .bind (.load r15) fun _ => .bind (.load r18) fun _ => .bind
    (.load r18) fun _ => .bind (.store w18) fun _ => .ret) fun _ => .bind (.bind (.load r17) fun _ => .bind (.load r15)
    fun _ => .bind (.load r18) fun _ => .bind (.load r18) fun _ => .bind (.store w18) fun _ => .bind (.load r17) fun _
    => .bind (.load r15) fun _ => .bind (.load r18) fun _ => .ret) fun _ => .bind (.bind (.load r18) fun _ => .bind
    (.store w18) fun _ => .bind (.load r17) fun _ => .bind (.load r15) fun _ => .bind (.load r18) fun _ => .bind (.load
    r18) fun _ => .bind (.store w18) fun _ => .bind (.load r17) fun _ => .ret) fun _ => .bind (.bind (.load r18) fun _
    => .bind (.load r16) fun _ => .bind (.load r18) fun _ => .bind (.store w18) fun _ => .bind (.load r17) fun _ =>
    .bind (.load r18) fun _ => .bind (.load r16) fun _ => .ret) fun _ => .bind (.bind (.load r18) fun _ => .bind
    (.store w18) fun _ => .bind (.load r17) fun _ => .bind (.load r18) fun _ => .bind (.load r16) fun _ => .bind (.load
    r18) fun _ => .ret) fun _ => .bind (.bind (.store w18) fun _ => .bind (.load r17) fun _ => .bind (.load r18) fun _
    => .bind (.load r16) fun _ => .bind (.load r18) fun _ => .bind (.store w18) fun _ => .bind (.load r3) fun _ =>
    .ret) fun _ => .bind (.bind (.load r17) fun _ => .bind (.load r15) fun _ => .bind (.load r18) fun _ => .bind (.load
    r18) fun _ => .bind (.store w18) fun _ => .bind (.load r17) fun _ => .bind (.load r15) fun _ => .bind (.load r18)
    fun _ => .ret) fun _ => .bind (.bind (.load r18) fun _ => .bind (.store w18) fun _ => .bind (.load r17) fun _ =>
    .bind (.load r15) fun _ => .bind (.load r18) fun _ => .bind (.load r18) fun _ => .bind (.store w18) fun _ => .bind
    (.load r17) fun _ => .bind (.load r15) fun _ => .ret) fun _ => .bind (.bind (.load r18) fun _ => .bind (.load r18)
    fun _ => .bind (.store w18) fun _ => .bind (.load r17) fun _ => .bind (.load r18) fun _ => .bind (.load r16) fun _
    => .ret) fun _ => .bind (.bind (.load r18) fun _ => .bind (.store w18) fun _ => .bind (.load r17) fun _ => .bind
    (.load r18) fun _ => .bind (.load r16) fun _ => .bind (.load r18) fun _ => .bind (.store w18) fun _ => .bind (.load
    r17) fun _ => .ret) fun _ => .bind (.bind (.load r18) fun _ => .bind (.load r16) fun _ => .bind (.load r18) fun _
    => .bind (.store w18) fun _ => .bind (.load r17) fun _ => .bind (.load r18) fun _ => .ret) fun _ => .bind (.bind
    (.load r16) fun _ => .bind (.load r18) fun _ => .bind (.store w18) fun _ => .bind (.load r3) fun _ => .bind (.load
    r17) fun _ => .bind (.load r15) fun _ => .bind (.load r18) fun _ => .ret) fun _ => .bind (.bind (.load r18) fun _
    => .bind (.store w18) fun _ => .bind (.load r17) fun _ => .bind (.load r15) fun _ => .bind (.load r18) fun _ =>
    .bind (.load r18) fun _ => .bind (.store w18) fun _ => .bind (.load r17) fun _ => .bind (.load r15) fun _ => .ret)
    fun _ => .bind (.bind (.load r18) fun _ => .bind (.load r18) fun _ => .bind (.store w18) fun _ => .bind (.load r17)
    fun _ => .bind (.load r15) fun _ => .bind (.load r18) fun _ => .bind (.load r18) fun _ => .bind (.store w18) fun _
    => .bind (.load r17) fun _ => .ret) fun _ => .bind (.bind (.load r18) fun _ => .bind (.load r16) fun _ => .bind
    (.load r18) fun _ => .bind (.store w18) fun _ => .bind (.load r17) fun _ => .bind (.load r18) fun _ => .ret) fun _
    => .bind (.bind (.load r16) fun _ => .bind (.load r18) fun _ => .bind (.store w18) fun _ => .bind (.load r17) fun _
    => .bind (.load r18) fun _ => .bind (.load r16) fun _ => .ret) fun _ => .bind (.bind (.load r18) fun _ => .bind
    (.store w18) fun _ => .bind (.load r17) fun _ => .bind (.load r18) fun _ => .bind (.load r16) fun _ => .bind (.load
    r18) fun _ => .bind (.store w18) fun _ => .ret) fun _ => .bind (.bind (.load r3) fun _ => .bind (.load r17) fun _
    => .bind (.load r15) fun _ => .bind (.load r18) fun _ => .bind (.load r18) fun _ => .bind (.store w18) fun _ =>
    .bind (.load r17) fun _ => .bind (.load r15) fun _ => .ret) fun _ => .bind (.bind (.load r18) fun _ => .bind (.load
    r18) fun _ => .bind (.store w18) fun _ => .bind (.load r17) fun _ => .bind (.load r15) fun _ => .bind (.load r18)
    fun _ => .bind (.load r18) fun _ => .bind (.store w18) fun _ => .bind (.load r17) fun _ => .ret) fun _ => .bind
    (.bind (.load r15) fun _ => .bind (.load r18) fun _ => .bind (.load r18) fun _ => .bind (.store w18) fun _ => .bind
    (.load r17) fun _ => .bind (.load r18) fun _ => .bind (.load r16) fun _ => .ret) fun _ => .bind (.bind (.load r18)
    fun _ => .bind (.store w18) fun _ => .bind (.load r17) fun _ => .bind (.load r18) fun _ => .bind (.load r16) fun _
    => .bind (.load r18) fun _ => .bind (.store w18) fun _ => .ret) fun _ => .bind (.bind (.load r17) fun _ => .bind
    (.load r18) fun _ => .bind (.load r16) fun _ => .bind (.load r18) fun _ => .bind (.store w18) fun _ => .bind (.load
    r17) fun _ => .ret) fun _ => .bind (.bind (.load r18) fun _ => .bind (.load r16) fun _ => .bind (.load r18) fun _
    => .bind (.store w18) fun _ => .ret) fun _ => .bind (.ret) fun _ => .bind (.ret) fun _ => .bind (.ret) fun _ =>
    .bind (.bind (.load r4) fun _ => .bind (.load r19) fun _ => .bind (.load r19) fun _ => .bind (.store w19) fun _ =>
    .bind (.load r4) fun _ => .bind (.load r19) fun _ => .ret) fun _ => .bind (.bind (.load r19) fun _ => .bind (.store
    w19) fun _ => .bind (.load r4) fun _ => .bind (.load r19) fun _ => .bind (.load r19) fun _ => .bind (.store w19)
    fun _ => .bind (.load r4) fun _ => .bind (.load r19) fun _ => .ret) fun _ => .bind (.bind (.load r19) fun _ =>
    .bind (.store w19) fun _ => .bind (.load r4) fun _ => .bind (.load r19) fun _ => .bind (.load r19) fun _ => .bind
    (.store w19) fun _ => .bind (.load r4) fun _ => .bind (.load r19) fun _ => .bind (.load r19) fun _ => .bind (.store
    w19) fun _ => .ret) fun _ => .bind (.bind (.load r4) fun _ => .bind (.load r19) fun _ => .bind (.load r19) fun _ =>
    .bind (.store w19) fun _ => .bind (.load r4) fun _ => .bind (.load r19) fun _ => .bind (.load r19) fun _ => .bind
    (.store w19) fun _ => .bind (.load r4) fun _ => .ret) fun _ => .bind (.bind (.load r19) fun _ => .bind (.load r19)
    fun _ => .bind (.store w19) fun _ => .bind (.load r4) fun _ => .bind (.load r19) fun _ => .bind (.load r19) fun _
    => .bind (.store w19) fun _ => .bind (.load r4) fun _ => .ret) fun _ => .bind (.bind (.load r19) fun _ => .bind
    (.load r19) fun _ => .bind (.store w19) fun _ => .bind (.load r4) fun _ => .bind (.load r19) fun _ => .bind (.load
    r19) fun _ => .bind (.store w19) fun _ => .bind (.load r4) fun _ => .bind (.load r19) fun _ => .ret) fun _ => .bind
    (.bind (.load r19) fun _ => .bind (.store w19) fun _ => .bind (.load r4) fun _ => .bind (.load r19) fun _ => .bind
    (.load r19) fun _ => .bind (.store w19) fun _ => .bind (.load r4) fun _ => .bind (.load r19) fun _ => .bind (.load
    r19) fun _ => .ret) fun _ => .bind (.bind (.store w19) fun _ => .bind (.load r4) fun _ => .bind (.load r19) fun _
    => .bind (.load r19) fun _ => .bind (.store w19) fun _ => .bind (.load r4) fun _ => .bind (.load r19) fun _ =>
    .bind (.load r19) fun _ => .bind (.store w19) fun _ => .ret) fun _ => .bind (.bind (.load r4) fun _ => .bind (.load
    r19) fun _ => .bind (.load r19) fun _ => .bind (.store w19) fun _ => .bind (.load r4) fun _ => .bind (.load r19)
    fun _ => .bind (.load r19) fun _ => .bind (.store w19) fun _ => .bind (.load r4) fun _ => .ret) fun _ => .bind
    (.bind (.load r19) fun _ => .bind (.load r19) fun _ => .bind (.store w19) fun _ => .bind (.load r4) fun _ => .bind
    (.load r19) fun _ => .bind (.load r19) fun _ => .bind (.store w19) fun _ => .bind (.load r4) fun _ => .bind (.load
    r19) fun _ => .ret) fun _ => .bind (.bind (.load r19) fun _ => .bind (.store w19) fun _ => .bind (.load r4) fun _
    => .bind (.load r19) fun _ => .bind (.load r19) fun _ => .bind (.store w19) fun _ => .bind (.load r4) fun _ =>
    .bind (.load r19) fun _ => .ret) fun _ => .bind (.bind (.load r19) fun _ => .bind (.store w19) fun _ => .bind
    (.load r4) fun _ => .bind (.load r19) fun _ => .bind (.load r19) fun _ => .bind (.store w19) fun _ => .bind (.load
    r4) fun _ => .bind (.load r19) fun _ => .bind (.load r19) fun _ => .bind (.store w19) fun _ => .ret) fun _ => .bind
    (.bind (.load r4) fun _ => .bind (.load r19) fun _ => .bind (.load r19) fun _ => .bind (.store w19) fun _ => .bind
    (.load r4) fun _ => .bind (.load r19) fun _ => .bind (.load r19) fun _ => .bind (.store w19) fun _ => .bind (.load
    r4) fun _ => .ret) fun _ => .bind (.bind (.load r19) fun _ => .bind (.load r19) fun _ => .bind (.store w19) fun _
    => .bind (.load r4) fun _ => .bind (.load r19) fun _ => .bind (.load r19) fun _ => .bind (.store w19) fun _ =>
    .bind (.load r4) fun _ => .ret) fun _ => .bind (.load r19) fun _ => .bind (.load r19) fun _ => .bind (.store w19)
    fun _ => .bind (.load r4) fun _ => .ret

end Cert.AttnFrame

end
-- ==== Proof.Attn.Soft2.lean ====
module

public import proofs.«01_k».proof.Proof.Attn.Keep

@[expose] public section

set_option maxRecDepth 65536
set_option maxHeartbeats 4000000

/-!
# Parts of the softmax over the diagonal blocks
Each part of the body keeps the buffers, its loads and stores one by one.
-/

noncomputable section

namespace Cert.AttnFrame

open Cert.Kernel Cert.Kernel.Gen
open Idealize.ShloMosaic Idealize.ShloMosaic.TcCoe
open Idealize.SL Idealize.SL.BI
open Idealize.SL.BI.BIBase

variable {F : FTy → Type} [BitOps F]

local notation "𝕄" => MT nD τ sig Unit (Elt F) ℕ (UR sig nD τ) ℕ

variable {c : Dev nD} {O : sProp (MT nD τ sig Unit (Elt F) ℕ (UR sig nD τ) ℕ)} {i : grid0.Coords}
variable
  {arg2 : Memref sig .tc .vmem S256x512 .bf16} {harg2 : arg2.IsWhole}
  {arg3 : Memref sig .tc .vmem S4096x512 .bf16} {harg3 : arg3.IsWhole}
  {arg4 : Memref sig .tc .vmem S1x16x512x256 .bf16} {harg4 : arg4.IsWhole}
  {arg5 : Memref sig .tc .vmem S256x512 .bf16} {harg5 : arg5.IsWhole}
  {arg6 : Memref sig .tc .vmem S4096x128 .bf16} {harg6 : arg6.IsWhole}
  {arg7 : Memref sig .tc .vmem S256x128 .f32} {harg7 : arg7.IsWhole}
  {arg8 : Memref sig .tc .vmem S1x16x256 .f32} {harg8 : arg8.IsWhole}
  {arg9 : Memref sig .tc .vmem S8x256x256 .f32} {harg9 : arg9.IsWhole}
  {arg10 : Memref sig .tc .vmem S8x256x256 .f32} {harg10 : arg10.IsWhole}
  {arg11 : Memref sig .tc .vmem S256x512 .bf16} {harg11 : arg11.IsWhole}
  {arg12 : Memref sig .tc .vmem S16x256x256 .i32} {harg12 : arg12.IsWhole}
  {arg13 : Memref sig .tc .vmem S32x16x8x256 .i32} {harg13 : arg13.IsWhole}
  {arg14 : Memref sig .tc .vmem S16x8x256 .i32} {harg14 : arg14.IsWhole}
  {arg15 : Memref sig .tc .vmem S16x256x256 .f32} {harg15 : arg15.IsWhole}
  {arg16 : Memref sig .tc .vmem S4x16x256 .f32} {harg16 : arg16.IsWhole}
  {arg17 : Memref sig .tc .vmem S8x256x128 .bf16} {harg17 : arg17.IsWhole}
  {arg18 : Memref sig .tc .vmem S8x8x256 .f32} {harg18 : arg18.IsWhole}
  {arg19 : Memref sig .tc .vmem S8x80x256 .f32} {harg19 : arg19.IsWhole}
variable (r2 : Reads (F := F) c O arg2) (r3 : Reads (F := F) c O arg3) (r4 : Reads (F := F) c O arg4) (r5 : Reads (F := F) c O arg5) (r6 : Reads (F := F) c O arg6) (r7 : Reads (F := F) c O arg7) (r8 : Reads (F := F) c O arg8) (r9 : Reads (F := F) c O arg9) (r10 : Reads (F := F) c O arg10) (r11 : Reads (F := F) c O arg11) (r12 : Reads (F := F) c O arg12) (r13 : Reads (F := F) c O arg13) (r14 : Reads (F := F) c O arg14) (r15 : Reads (F := F) c O arg15) (r16 : Reads (F := F) c O arg16) (r17 : Reads (F := F) c O arg17) (r18 : Reads (F := F) c O arg18) (r19 : Reads (F := F) c O arg19)
  (w11 : Writes (F := F) c O arg11) (w12 : Writes (F := F) c O arg12) (w13 : Writes (F := F) c O arg13) (w14 : Writes (F := F) c O arg14) (w15 : Writes (F := F) c O arg15) (w16 : Writes (F := F) c O arg16) (w17 : Writes (F := F) c O arg17) (w18 : Writes (F := F) c O arg18) (w19 : Writes (F := F) c O arg19)
include r2 r3 r4 r5 r6 r7 r8 r9 r10 r11 r12 r13 r14 r15 r16 r17 r18 r19 w11 w12 w13 w14 w15 w16 w17 w18 w19

/-- The program `k0_part565`, which calls 20 others, keeps the buffers. -/
theorem keep565 (arg1 : BitVec 32) (v2 : IVec S256x256 1) (v792 : FVec F S16x256 .bf16) (k0_h8 : k0_cond8 i = 1#1) :
    Keeps (F := F) c O (k0_part565 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v2 v792 k0_h8) :=
    .bind (.bind (.load r3) fun _ => .bind (.load r17) fun _ => .bind (.load r10) fun _ => .bind (.load r15) fun _ => .bind
    (.load r18) fun _ => .bind (.load r18) fun _ => .bind (.store w18) fun _ => .bind (.load r17) fun _ => .ret) fun _
    => .bind (.bind (.load r10) fun _ => .bind (.load r15) fun _ => .bind (.load r18) fun _ => .bind (.load r18) fun _
    => .bind (.store w18) fun _ => .bind (.load r17) fun _ => .bind (.load r10) fun _ => .bind (.load r15) fun _ =>
    .ret) fun _ => .bind (.bind (.load r18) fun _ => .bind (.load r18) fun _ => .bind (.store w18) fun _ => .bind
    (.load r17) fun _ => .bind (.load r10) fun _ => .bind (.load r15) fun _ => .bind (.load r18) fun _ => .bind (.load
    r18) fun _ => .bind (.store w18) fun _ => .ret) fun _ => .bind (.bind (.load r17) fun _ => .bind (.load r10) fun _
    => .bind (.load r18) fun _ => .bind (.load r16) fun _ => .bind (.load r18) fun _ => .bind (.store w18) fun _ =>
    .bind (.load r17) fun _ => .bind (.load r10) fun _ => .ret) fun _ => .bind (.bind (.load r18) fun _ => .bind (.load
    r16) fun _ => .bind (.load r18) fun _ => .bind (.store w18) fun _ => .bind (.load r17) fun _ => .bind (.load r10)
    fun _ => .ret) fun _ => .bind (.bind (.load r18) fun _ => .bind (.load r16) fun _ => .bind (.load r18) fun _ =>
    .bind (.store w18) fun _ => .bind (.load r17) fun _ => .bind (.load r10) fun _ => .bind (.load r18) fun _ => .ret)
    fun _ => .bind (.bind (.load r16) fun _ => .bind (.load r18) fun _ => .bind (.store w18) fun _ => .bind (.load r3)
    fun _ => .bind (.load r17) fun _ => .bind (.load r9) fun _ => .bind (.load r15) fun _ => .bind (.load r18) fun _ =>
    .ret) fun _ => .bind (.bind (.load r18) fun _ => .bind (.store w18) fun _ => .bind (.load r17) fun _ => .bind
    (.load r9) fun _ => .bind (.load r15) fun _ => .bind (.load r18) fun _ => .bind (.load r18) fun _ => .bind (.store
    w18) fun _ => .bind (.load r17) fun _ => .ret) fun _ => .bind (.bind (.load r9) fun _ => .bind (.load r15) fun _ =>
    .bind (.load r18) fun _ => .bind (.load r18) fun _ => .bind (.store w18) fun _ => .bind (.load r17) fun _ => .bind
    (.load r9) fun _ => .bind (.load r15) fun _ => .ret) fun _ => .bind (.bind (.load r18) fun _ => .bind (.load r18)
    fun _ => .bind (.store w18) fun _ => .bind (.load r17) fun _ => .bind (.load r9) fun _ => .bind (.load r18) fun _
    => .bind (.load r18) fun _ => .bind (.store w18) fun _ => .ret) fun _ => .bind (.bind (.load r17) fun _ => .bind
    (.load r9) fun _ => .bind (.load r18) fun _ => .bind (.load r18) fun _ => .bind (.store w18) fun _ => .bind (.load
    r17) fun _ => .bind (.load r9) fun _ => .ret) fun _ => .bind (.bind (.load r18) fun _ => .bind (.load r18) fun _ =>
    .bind (.store w18) fun _ => .bind (.load r17) fun _ => .bind (.load r9) fun _ => .bind (.load r18) fun _ => .bind
    (.load r18) fun _ => .bind (.store w18) fun _ => .ret) fun _ => .bind (.ret) fun _ => .bind (.bind (.load r4) fun _
    => .ret) fun _ => .bind (.bind (.load r19) fun _ => .bind (.load r19) fun _ => .bind (.store w19) fun _ => .bind
    (.load r4) fun _ => .bind (.load r19) fun _ => .bind (.load r19) fun _ => .bind (.store w19) fun _ => .bind (.load
    r4) fun _ => .bind (.load r19) fun _ => .ret) fun _ => .bind (.bind (.load r19) fun _ => .bind (.store w19) fun _
    => .bind (.load r4) fun _ => .bind (.load r19) fun _ => .bind (.load r19) fun _ => .bind (.store w19) fun _ =>
    .bind (.load r4) fun _ => .bind (.load r19) fun _ => .bind (.load r19) fun _ => .ret) fun _ => .bind (.bind (.store
    w19) fun _ => .bind (.load r4) fun _ => .bind (.load r19) fun _ => .bind (.load r19) fun _ => .bind (.store w19)
    fun _ => .bind (.load r4) fun _ => .bind (.load r19) fun _ => .bind (.load r19) fun _ => .bind (.store w19) fun _
    => .bind (.load r4) fun _ => .ret) fun _ => .bind (.bind (.load r19) fun _ => .bind (.load r19) fun _ => .bind
    (.store w19) fun _ => .bind (.load r4) fun _ => .bind (.load r19) fun _ => .bind (.load r19) fun _ => .bind (.store
    w19) fun _ => .bind (.load r4) fun _ => .ret) fun _ => .bind (.bind (.load r19) fun _ => .bind (.load r19) fun _ =>
    .bind (.store w19) fun _ => .bind (.load r4) fun _ => .bind (.load r19) fun _ => .bind (.load r19) fun _ => .bind
    (.store w19) fun _ => .bind (.load r4) fun _ => .bind (.load r19) fun _ => .ret) fun _ => .bind (.bind (.load r19)
    fun _ => .bind (.store w19) fun _ => .bind (.load r4) fun _ => .bind (.load r19) fun _ => .bind (.load r19) fun _
    => .bind (.store w19) fun _ => .bind (.load r4) fun _ => .bind (.load r19) fun _ => .ret) fun _ => .bind (.load
    r19) fun _ => .bind (.store w19) fun _ => .bind (.load r4) fun _ => .bind (.load r19) fun _ => .bind (.load r19)
    fun _ => .bind (.store w19) fun _ => .bind (.load r4) fun _ => .ret

/-- The program `k0_part689`, which calls 51 others, keeps the buffers. -/
theorem keep689 (arg1 : BitVec 32) (v2 : IVec S256x256 1) (v792 : FVec F S16x256 .bf16) (v794 : BitVec 32) (k0_h11 : k0_cond11 i = 1#1) :
    Keeps (F := F) c O (k0_part689 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v2 v792 v794 k0_h11) :=
    .bind (.bind (.load r3) fun _ => .bind (.load r17) fun _ => .bind (.load r15) fun _ => .bind (.load r18) fun _ => .bind
    (.load r18) fun _ => .bind (.store w18) fun _ => .ret) fun _ => .bind (.bind (.load r17) fun _ => .bind (.load r15)
    fun _ => .bind (.load r18) fun _ => .bind (.load r18) fun _ => .bind (.store w18) fun _ => .bind (.load r17) fun _
    => .bind (.load r15) fun _ => .bind (.load r18) fun _ => .ret) fun _ => .bind (.bind (.load r18) fun _ => .bind
    (.store w18) fun _ => .bind (.load r17) fun _ => .bind (.load r15) fun _ => .bind (.load r18) fun _ => .bind (.load
    r18) fun _ => .bind (.store w18) fun _ => .bind (.load r17) fun _ => .ret) fun _ => .bind (.bind (.load r18) fun _
    => .bind (.load r16) fun _ => .bind (.load r18) fun _ => .bind (.store w18) fun _ => .bind (.load r17) fun _ =>
    .bind (.load r18) fun _ => .bind (.load r16) fun _ => .ret) fun _ => .bind (.bind (.load r18) fun _ => .bind
    (.store w18) fun _ => .bind (.load r17) fun _ => .bind (.load r18) fun _ => .bind (.load r16) fun _ => .bind (.load
    r18) fun _ => .bind (.store w18) fun _ => .ret) fun _ => .bind (.bind (.load r17) fun _ => .bind (.load r18) fun _
    => .bind (.load r16) fun _ => .bind (.load r18) fun _ => .bind (.store w18) fun _ => .bind (.load r3) fun _ =>
    .bind (.load r17) fun _ => .ret) fun _ => .bind (.bind (.load r15) fun _ => .bind (.load r18) fun _ => .bind (.load
    r18) fun _ => .bind (.store w18) fun _ => .bind (.load r17) fun _ => .bind (.load r15) fun _ => .bind (.load r18)
    fun _ => .ret) fun _ => .bind (.bind (.load r18) fun _ => .bind (.store w18) fun _ => .bind (.load r17) fun _ =>
    .bind (.load r15) fun _ => .bind (.load r18) fun _ => .bind (.load r18) fun _ => .bind (.store w18) fun _ => .bind
    (.load r17) fun _ => .bind (.load r15) fun _ => .ret) fun _ => .bind (.bind (.load r18) fun _ => .bind (.load r18)
    fun _ => .bind (.store w18) fun _ => .bind (.load r17) fun _ => .bind (.load r18) fun _ => .bind (.load r16) fun _
    => .bind (.load r18) fun _ => .ret) fun _ => .bind (.bind (.store w18) fun _ => .bind (.load r17) fun _ => .bind
    (.load r18) fun _ => .bind (.load r16) fun _ => .bind (.load r18) fun _ => .bind (.store w18) fun _ => .bind (.load
    r17) fun _ => .ret) fun _ => .bind (.bind (.load r18) fun _ => .bind (.load r16) fun _ => .bind (.load r18) fun _
    => .bind (.store w18) fun _ => .bind (.load r17) fun _ => .bind (.load r18) fun _ => .ret) fun _ => .bind (.bind
    (.load r16) fun _ => .bind (.load r18) fun _ => .bind (.store w18) fun _ => .bind (.load r3) fun _ => .bind (.load
    r17) fun _ => .bind (.load r15) fun _ => .bind (.load r18) fun _ => .bind (.load r18) fun _ => .ret) fun _ => .bind
    (.bind (.store w18) fun _ => .bind (.load r17) fun _ => .bind (.load r15) fun _ => .bind (.load r18) fun _ => .bind
    (.load r18) fun _ => .bind (.store w18) fun _ => .bind (.load r17) fun _ => .bind (.load r15) fun _ => .ret) fun _
    => .bind (.bind (.load r18) fun _ => .bind (.load r18) fun _ => .bind (.store w18) fun _ => .bind (.load r17) fun _
    => .bind (.load r15) fun _ => .bind (.load r18) fun _ => .bind (.load r18) fun _ => .bind (.store w18) fun _ =>
    .bind (.load r17) fun _ => .ret) fun _ => .bind (.bind (.load r18) fun _ => .bind (.load r16) fun _ => .bind (.load
    r18) fun _ => .bind (.store w18) fun _ => .bind (.load r17) fun _ => .bind (.load r18) fun _ => .ret) fun _ =>
    .bind (.bind (.load r16) fun _ => .bind (.load r18) fun _ => .bind (.store w18) fun _ => .bind (.load r17) fun _ =>
    .bind (.load r18) fun _ => .bind (.load r16) fun _ => .ret) fun _ => .bind (.bind (.load r18) fun _ => .bind
    (.store w18) fun _ => .bind (.load r17) fun _ => .bind (.load r18) fun _ => .bind (.load r16) fun _ => .bind (.load
    r18) fun _ => .bind (.store w18) fun _ => .ret) fun _ => .bind (.bind (.load r3) fun _ => .bind (.load r17) fun _
    => .bind (.load r10) fun _ => .bind (.load r15) fun _ => .bind (.load r18) fun _ => .bind (.load r18) fun _ =>
    .bind (.store w18) fun _ => .bind (.load r17) fun _ => .bind (.load r10) fun _ => .ret) fun _ => .bind (.bind
    (.load r15) fun _ => .bind (.load r18) fun _ => .bind (.load r18) fun _ => .bind (.store w18) fun _ => .bind (.load
    r17) fun _ => .bind (.load r10) fun _ => .bind (.load r15) fun _ => .bind (.load r18) fun _ => .ret) fun _ => .bind
    (.bind (.load r18) fun _ => .bind (.store w18) fun _ => .bind (.load r17) fun _ => .bind (.load r10) fun _ => .bind
    (.load r15) fun _ => .bind (.load r18) fun _ => .bind (.load r18) fun _ => .bind (.store w18) fun _ => .bind (.load
    r17) fun _ => .ret) fun _ => .bind (.bind (.load r10) fun _ => .bind (.load r18) fun _ => .bind (.load r16) fun _
    => .bind (.load r18) fun _ => .bind (.store w18) fun _ => .bind (.load r17) fun _ => .bind (.load r10) fun _ =>
    .ret) fun _ => .bind (.bind (.load r18) fun _ => .bind (.load r16) fun _ => .bind (.load r18) fun _ => .bind
    (.store w18) fun _ => .bind (.load r17) fun _ => .bind (.load r10) fun _ => .bind (.load r18) fun _ => .ret) fun _
    => .bind (.bind (.load r16) fun _ => .bind (.load r18) fun _ => .bind (.store w18) fun _ => .bind (.load r17) fun _
    => .bind (.load r10) fun _ => .bind (.load r18) fun _ => .bind (.load r16) fun _ => .ret) fun _ => .bind (.bind
    (.load r18) fun _ => .bind (.store w18) fun _ => .bind (.load r3) fun _ => .bind (.load r17) fun _ => .bind (.load
    r9) fun _ => .bind (.load r15) fun _ => .bind (.load r18) fun _ => .ret) fun _ => .bind (.bind (.load r18) fun _ =>
    .bind (.store w18) fun _ => .bind (.load r17) fun _ => .bind (.load r9) fun _ => .bind (.load r15) fun _ => .bind
    (.load r18) fun _ => .bind (.load r18) fun _ => .bind (.store w18) fun _ => .bind (.load r17) fun _ => .bind (.load
    r9) fun _ => .ret) fun _ => .bind (.bind (.load r15) fun _ => .bind (.load r18) fun _ => .bind (.load r18) fun _ =>
    .bind (.store w18) fun _ => .bind (.load r17) fun _ => .bind (.load r9) fun _ => .bind (.load r15) fun _ => .bind
    (.load r18) fun _ => .ret) fun _ => .bind (.bind (.load r18) fun _ => .bind (.store w18) fun _ => .bind (.load r17)
    fun _ => .bind (.load r9) fun _ => .bind (.load r18) fun _ => .bind (.load r18) fun _ => .bind (.store w18) fun _
    => .bind (.load r17) fun _ => .ret) fun _ => .bind (.bind (.load r9) fun _ => .bind (.load r18) fun _ => .bind
    (.load r18) fun _ => .bind (.store w18) fun _ => .bind (.load r17) fun _ => .bind (.load r9) fun _ => .bind (.load
    r18) fun _ => .ret) fun _ => .bind (.bind (.load r18) fun _ => .bind (.store w18) fun _ => .bind (.load r17) fun _
    => .bind (.load r9) fun _ => .bind (.load r18) fun _ => .bind (.load r18) fun _ => .bind (.store w18) fun _ =>
    .ret) fun _ => .bind (.ret) fun _ => .bind (.ret) fun _ => .bind (.ret) fun _ => .bind (.ret) fun _ => .bind (.bind
    (.load r4) fun _ => .bind (.load r19) fun _ => .bind (.load r19) fun _ => .bind (.store w19) fun _ => .bind (.load
    r4) fun _ => .ret) fun _ => .bind (.bind (.load r19) fun _ => .bind (.load r19) fun _ => .bind (.store w19) fun _
    => .bind (.load r4) fun _ => .bind (.load r19) fun _ => .bind (.load r19) fun _ => .bind (.store w19) fun _ =>
    .bind (.load r4) fun _ => .ret) fun _ => .bind (.bind (.load r19) fun _ => .bind (.load r19) fun _ => .bind (.store
    w19) fun _ => .bind (.load r4) fun _ => .bind (.load r19) fun _ => .bind (.load r19) fun _ => .bind (.store w19)
    fun _ => .bind (.load r4) fun _ => .bind (.load r19) fun _ => .ret) fun _ => .bind (.bind (.load r19) fun _ =>
    .bind (.store w19) fun _ => .bind (.load r4) fun _ => .bind (.load r19) fun _ => .bind (.load r19) fun _ => .bind
    (.store w19) fun _ => .bind (.load r4) fun _ => .bind (.load r19) fun _ => .ret) fun _ => .bind (.bind (.load r19)
    fun _ => .bind (.store w19) fun _ => .bind (.load r4) fun _ => .bind (.load r19) fun _ => .bind (.load r19) fun _
    => .bind (.store w19) fun _ => .bind (.load r4) fun _ => .bind (.load r19) fun _ => .bind (.load r19) fun _ =>
    .bind (.store w19) fun _ => .ret) fun _ => .bind (.bind (.load r4) fun _ => .bind (.load r19) fun _ => .bind (.load
    r19) fun _ => .bind (.store w19) fun _ => .bind (.load r4) fun _ => .bind (.load r19) fun _ => .bind (.load r19)
    fun _ => .bind (.store w19) fun _ => .bind (.load r4) fun _ => .ret) fun _ => .bind (.bind (.load r19) fun _ =>
    .bind (.load r19) fun _ => .bind (.store w19) fun _ => .bind (.load r4) fun _ => .bind (.load r19) fun _ => .bind
    (.load r19) fun _ => .bind (.store w19) fun _ => .bind (.load r4) fun _ => .ret) fun _ => .bind (.bind (.load r19)
    fun _ => .bind (.load r19) fun _ => .bind (.store w19) fun _ => .bind (.load r4) fun _ => .bind (.load r19) fun _
    => .bind (.load r19) fun _ => .bind (.store w19) fun _ => .bind (.load r4) fun _ => .bind (.load r19) fun _ =>
    .ret) fun _ => .bind (.bind (.load r19) fun _ => .bind (.store w19) fun _ => .bind (.load r4) fun _ => .bind (.load
    r19) fun _ => .bind (.load r19) fun _ => .bind (.store w19) fun _ => .bind (.load r4) fun _ => .bind (.load r19)
    fun _ => .bind (.load r19) fun _ => .ret) fun _ => .bind (.bind (.store w19) fun _ => .bind (.load r4) fun _ =>
    .bind (.load r19) fun _ => .bind (.load r19) fun _ => .bind (.store w19) fun _ => .bind (.load r4) fun _ => .bind
    (.load r19) fun _ => .bind (.load r19) fun _ => .bind (.store w19) fun _ => .bind (.load r4) fun _ => .ret) fun _
    => .bind (.bind (.load r19) fun _ => .bind (.load r19) fun _ => .bind (.store w19) fun _ => .bind (.load r4) fun _
    => .bind (.load r19) fun _ => .bind (.load r19) fun _ => .bind (.store w19) fun _ => .bind (.load r4) fun _ =>
    .ret) fun _ => .bind (.bind (.load r19) fun _ => .bind (.load r19) fun _ => .bind (.store w19) fun _ => .bind
    (.load r4) fun _ => .bind (.load r19) fun _ => .bind (.load r19) fun _ => .bind (.store w19) fun _ => .bind (.load
    r4) fun _ => .bind (.load r19) fun _ => .ret) fun _ => .bind (.bind (.load r19) fun _ => .bind (.store w19) fun _
    => .bind (.load r4) fun _ => .bind (.load r19) fun _ => .bind (.load r19) fun _ => .bind (.store w19) fun _ =>
    .bind (.load r4) fun _ => .bind (.load r19) fun _ => .ret) fun _ => .bind (.bind (.load r19) fun _ => .bind (.store
    w19) fun _ => .bind (.load r4) fun _ => .bind (.load r19) fun _ => .bind (.load r19) fun _ => .bind (.store w19)
    fun _ => .bind (.load r4) fun _ => .bind (.load r19) fun _ => .bind (.load r19) fun _ => .bind (.store w19) fun _
    => .ret) fun _ => .bind (.bind (.load r4) fun _ => .bind (.load r19) fun _ => .bind (.load r19) fun _ => .bind
    (.store w19) fun _ => .bind (.load r4) fun _ => .bind (.load r19) fun _ => .bind (.load r19) fun _ => .bind (.store
    w19) fun _ => .bind (.load r4) fun _ => .ret) fun _ => .bind (.bind (.load r19) fun _ => .bind (.load r19) fun _ =>
    .bind (.store w19) fun _ => .bind (.load r4) fun _ => .bind (.load r19) fun _ => .bind (.load r19) fun _ => .bind
    (.store w19) fun _ => .bind (.load r4) fun _ => .ret) fun _ => .bind (.bind (.load r19) fun _ => .bind (.load r19)
    fun _ => .bind (.store w19) fun _ => .bind (.load r4) fun _ => .bind (.load r19) fun _ => .bind (.load r19) fun _
    => .bind (.store w19) fun _ => .bind (.load r4) fun _ => .bind (.load r19) fun _ => .ret) fun _ => .bind (.bind
    (.load r19) fun _ => .bind (.store w19) fun _ => .bind (.load r4) fun _ => .bind (.load r19) fun _ => .bind (.load
    r19) fun _ => .bind (.store w19) fun _ => .bind (.load r4) fun _ => .bind (.load r19) fun _ => .bind (.load r19)
    fun _ => .ret) fun _ => .bind (.store w19) fun _ => .bind (.load r4) fun _ => .ret

end Cert.AttnFrame

end
-- ==== Proof.Attn.Rest.lean ====
module

public import proofs.«01_k».proof.Proof.Attn.Soft
public import proofs.«01_k».proof.Proof.Attn.Soft2

@[expose] public section

set_option maxRecDepth 65536
set_option maxHeartbeats 4000000

/-!
# The selection and the softmax
Each part of the body keeps the buffers, its loads and stores one by one.
-/

noncomputable section

namespace Cert.AttnFrame

open Cert.Kernel Cert.Kernel.Gen
open Idealize.ShloMosaic Idealize.ShloMosaic.TcCoe
open Idealize.SL Idealize.SL.BI
open Idealize.SL.BI.BIBase

variable {F : FTy → Type} [BitOps F]

local notation "𝕄" => MT nD τ sig Unit (Elt F) ℕ (UR sig nD τ) ℕ

variable {c : Dev nD} {O : sProp (MT nD τ sig Unit (Elt F) ℕ (UR sig nD τ) ℕ)} {i : grid0.Coords}
variable
  {arg2 : Memref sig .tc .vmem S256x512 .bf16} {harg2 : arg2.IsWhole}
  {arg3 : Memref sig .tc .vmem S4096x512 .bf16} {harg3 : arg3.IsWhole}
  {arg4 : Memref sig .tc .vmem S1x16x512x256 .bf16} {harg4 : arg4.IsWhole}
  {arg5 : Memref sig .tc .vmem S256x512 .bf16} {harg5 : arg5.IsWhole}
  {arg6 : Memref sig .tc .vmem S4096x128 .bf16} {harg6 : arg6.IsWhole}
  {arg7 : Memref sig .tc .vmem S256x128 .f32} {harg7 : arg7.IsWhole}
  {arg8 : Memref sig .tc .vmem S1x16x256 .f32} {harg8 : arg8.IsWhole}
  {arg9 : Memref sig .tc .vmem S8x256x256 .f32} {harg9 : arg9.IsWhole}
  {arg10 : Memref sig .tc .vmem S8x256x256 .f32} {harg10 : arg10.IsWhole}
  {arg11 : Memref sig .tc .vmem S256x512 .bf16} {harg11 : arg11.IsWhole}
  {arg12 : Memref sig .tc .vmem S16x256x256 .i32} {harg12 : arg12.IsWhole}
  {arg13 : Memref sig .tc .vmem S32x16x8x256 .i32} {harg13 : arg13.IsWhole}
  {arg14 : Memref sig .tc .vmem S16x8x256 .i32} {harg14 : arg14.IsWhole}
  {arg15 : Memref sig .tc .vmem S16x256x256 .f32} {harg15 : arg15.IsWhole}
  {arg16 : Memref sig .tc .vmem S4x16x256 .f32} {harg16 : arg16.IsWhole}
  {arg17 : Memref sig .tc .vmem S8x256x128 .bf16} {harg17 : arg17.IsWhole}
  {arg18 : Memref sig .tc .vmem S8x8x256 .f32} {harg18 : arg18.IsWhole}
  {arg19 : Memref sig .tc .vmem S8x80x256 .f32} {harg19 : arg19.IsWhole}
variable (r2 : Reads (F := F) c O arg2) (r3 : Reads (F := F) c O arg3) (r4 : Reads (F := F) c O arg4) (r5 : Reads (F := F) c O arg5) (r6 : Reads (F := F) c O arg6) (r7 : Reads (F := F) c O arg7) (r8 : Reads (F := F) c O arg8) (r9 : Reads (F := F) c O arg9) (r10 : Reads (F := F) c O arg10) (r11 : Reads (F := F) c O arg11) (r12 : Reads (F := F) c O arg12) (r13 : Reads (F := F) c O arg13) (r14 : Reads (F := F) c O arg14) (r15 : Reads (F := F) c O arg15) (r16 : Reads (F := F) c O arg16) (r17 : Reads (F := F) c O arg17) (r18 : Reads (F := F) c O arg18) (r19 : Reads (F := F) c O arg19)
  (w11 : Writes (F := F) c O arg11) (w12 : Writes (F := F) c O arg12) (w13 : Writes (F := F) c O arg13) (w14 : Writes (F := F) c O arg14) (w15 : Writes (F := F) c O arg15) (w16 : Writes (F := F) c O arg16) (w17 : Writes (F := F) c O arg17) (w18 : Writes (F := F) c O arg18) (w19 : Writes (F := F) c O arg19)
include r2 r3 r4 r5 r6 r7 r8 r9 r10 r11 r12 r13 r14 r15 r16 r17 r18 r19 w11 w12 w13 w14 w15 w16 w17 w18 w19

/-- The program `k0_part722`, which calls 2 others, keeps the buffers. -/
theorem keep722 (arg1 : BitVec 32) (v0 : IVec S256x256 32) (v1 : IVec S256x256 32) (v2 : IVec S256x256 1) (v772 : IVec S1x256 32) (v774 : IVec S1x256 32) (v782 : FVec F S1x1x256 .f32) :
    Keeps (F := F) c O (k0_part722 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v0 v1 v2 v772 v774 v782) :=
    (.iteJoin ((.iteJoin (.bind (.for fun _ _ => .bind (keep503 r2 r3 r4 r5 r6 r7 r8 r9 r10 r11 r12 r13 r14 r15 r16 r17 r18
    r19 w11 w12 w13 w14 w15 w16 w17 w18 w19 _ _ _ _) fun _ => .bind (.load r19) fun _ => .bind (.load r19) fun _ =>
    .bind (.store w19) fun _ => .ret) fun _ => .bind (.for fun _ _ => .bind (keep544 r2 r3 r4 r5 r6 r7 r8 r9 r10 r11
    r12 r13 r14 r15 r16 r17 r18 r19 w11 w12 w13 w14 w15 w16 w17 w18 w19 _ _ _ _) fun _ => .bind (.load r19) fun _ =>
    .bind (.load r19) fun _ => .bind (.store w19) fun _ => .ret) fun _ => .ret) fun hB => .bind (.for fun _ _ => .bind
    (.load r12) fun _ => .bind (.load r15) fun _ => .bind (.store w15) fun _ => .ret) fun _ => .bind (.for fun _ _ =>
    .bind (.load r12) fun _ => .bind (.load r15) fun _ => .bind (.store w15) fun _ => .ret) fun _ => .bind (.load r12)
    fun _ => .bind (.load r15) fun _ => .bind (.store w15) fun _ => hB)) fun hB => .bind (.for fun _ _ => .bind (.load
    r12) fun _ => .bind (.load r15) fun _ => .bind (.store w15) fun _ => .ret) fun _ => .bind (.for fun _ _ => .bind
    (.load r12) fun _ => .bind (.load r15) fun _ => .bind (.store w15) fun _ => .ret) fun _ => .bind (.load r12) fun _
    => .bind (.load r15) fun _ => .bind (.store w15) fun _ => hB)

/-- The program `k0_part723`, which calls 84 others, keeps the buffers. -/
theorem keep723 (arg1 : BitVec 32) (v2 : IVec S256x256 1) (v792 : FVec F S16x256 .bf16) (v794 : BitVec 32) (c4_i32_446 : BitVec 32) (c0_i32_447 : BitVec 32) :
    Keeps (F := F) c O (k0_part723 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v2 v792 v794 c4_i32_446 c0_i32_447) :=
    (.diteJoin ((.diteJoin ((.diteJoin ((.diteJoin ((.diteJoin (.bind (.load r19) fun _ => .ret) fun _ hB => .bind (.bind
    (.load r3) fun _ => .bind (.load r17) fun _ => .bind (.load r9) fun _ => .bind (.load r15) fun _ => .bind (.load
    r18) fun _ => .bind (.load r18) fun _ => .bind (.store w18) fun _ => .bind (.load r17) fun _ => .bind (.load r9)
    fun _ => .ret) fun _ => .bind (.bind (.load r15) fun _ => .bind (.load r18) fun _ => .bind (.load r18) fun _ =>
    .bind (.store w18) fun _ => .bind (.load r17) fun _ => .bind (.load r9) fun _ => .bind (.load r15) fun _ => .bind
    (.load r18) fun _ => .ret) fun _ => .bind (.bind (.load r18) fun _ => .bind (.store w18) fun _ => .bind (.load r17)
    fun _ => .bind (.load r9) fun _ => .bind (.load r15) fun _ => .bind (.load r18) fun _ => .bind (.load r18) fun _ =>
    .bind (.store w18) fun _ => .bind (.load r17) fun _ => .ret) fun _ => .bind (.bind (.load r9) fun _ => .bind (.load
    r18) fun _ => .bind (.load r18) fun _ => .bind (.store w18) fun _ => .bind (.load r17) fun _ => .bind (.load r9)
    fun _ => .bind (.load r18) fun _ => .ret) fun _ => .bind (.bind (.load r18) fun _ => .bind (.store w18) fun _ =>
    .bind (.load r17) fun _ => .bind (.load r9) fun _ => .bind (.load r18) fun _ => .bind (.load r18) fun _ => .bind
    (.store w18) fun _ => .bind (.load r17) fun _ => .ret) fun _ => .bind (.bind (.load r9) fun _ => .bind (.load r18)
    fun _ => .bind (.load r18) fun _ => .bind (.store w18) fun _ => .ret) fun _ => .bind (.bind (.load r4) fun _ =>
    .bind (.load r19) fun _ => .bind (.load r19) fun _ => .bind (.store w19) fun _ => .bind (.load r4) fun _ => .ret)
    fun _ => .bind (.bind (.load r19) fun _ => .bind (.load r19) fun _ => .bind (.store w19) fun _ => .bind (.load r4)
    fun _ => .bind (.load r19) fun _ => .bind (.load r19) fun _ => .bind (.store w19) fun _ => .bind (.load r4) fun _
    => .ret) fun _ => .bind (.bind (.load r19) fun _ => .bind (.load r19) fun _ => .bind (.store w19) fun _ => .bind
    (.load r4) fun _ => .bind (.load r19) fun _ => .bind (.load r19) fun _ => .bind (.store w19) fun _ => .bind (.load
    r4) fun _ => .bind (.load r19) fun _ => .ret) fun _ => .bind (.bind (.load r19) fun _ => .bind (.store w19) fun _
    => .bind (.load r4) fun _ => .bind (.load r19) fun _ => .bind (.load r19) fun _ => .bind (.store w19) fun _ =>
    .bind (.load r4) fun _ => .bind (.load r19) fun _ => .bind (.load r19) fun _ => .ret) fun _ => .bind (.store w19)
    fun _ => hB)) fun _ hB => .bind (keep689 r2 r3 r4 r5 r6 r7 r8 r9 r10 r11 r12 r13 r14 r15 r16 r17 r18 r19 w11 w12
    w13 w14 w15 w16 w17 w18 w19 _ _ _ _ _) fun _ => .bind (.load r19) fun _ => .bind (.load r19) fun _ => .bind (.store
    w19) fun _ => hB)) fun _ hB => .bind (.bind (.load r3) fun _ => .bind (.load r17) fun _ => .bind (.load r15) fun _
    => .bind (.load r18) fun _ => .bind (.load r18) fun _ => .bind (.store w18) fun _ => .bind (.load r17) fun _ =>
    .ret) fun _ => .bind (.bind (.load r15) fun _ => .bind (.load r18) fun _ => .bind (.load r18) fun _ => .bind
    (.store w18) fun _ => .bind (.load r17) fun _ => .bind (.load r15) fun _ => .bind (.load r18) fun _ => .bind (.load
    r18) fun _ => .ret) fun _ => .bind (.bind (.store w18) fun _ => .bind (.load r17) fun _ => .bind (.load r15) fun _
    => .bind (.load r18) fun _ => .bind (.load r18) fun _ => .bind (.store w18) fun _ => .bind (.load r17) fun _ =>
    .bind (.load r18) fun _ => .ret) fun _ => .bind (.bind (.load r16) fun _ => .bind (.load r18) fun _ => .bind
    (.store w18) fun _ => .bind (.load r17) fun _ => .bind (.load r18) fun _ => .bind (.load r16) fun _ => .ret) fun _
    => .bind (.bind (.load r18) fun _ => .bind (.store w18) fun _ => .bind (.load r17) fun _ => .bind (.load r18) fun _
    => .bind (.load r16) fun _ => .bind (.load r18) fun _ => .bind (.store w18) fun _ => .ret) fun _ => .bind (.bind
    (.load r17) fun _ => .bind (.load r18) fun _ => .bind (.load r16) fun _ => .bind (.load r18) fun _ => .bind (.store
    w18) fun _ => .bind (.load r3) fun _ => .bind (.load r17) fun _ => .ret) fun _ => .bind (.bind (.load r15) fun _ =>
    .bind (.load r18) fun _ => .bind (.load r18) fun _ => .bind (.store w18) fun _ => .bind (.load r17) fun _ => .bind
    (.load r15) fun _ => .bind (.load r18) fun _ => .bind (.load r18) fun _ => .bind (.store w18) fun _ => .ret) fun _
    => .bind (.bind (.load r17) fun _ => .bind (.load r15) fun _ => .bind (.load r18) fun _ => .bind (.load r18) fun _
    => .bind (.store w18) fun _ => .bind (.load r17) fun _ => .bind (.load r15) fun _ => .ret) fun _ => .bind (.bind
    (.load r18) fun _ => .bind (.load r18) fun _ => .bind (.store w18) fun _ => .bind (.load r17) fun _ => .bind (.load
    r18) fun _ => .bind (.load r16) fun _ => .bind (.load r18) fun _ => .bind (.store w18) fun _ => .ret) fun _ =>
    .bind (.bind (.load r17) fun _ => .bind (.load r18) fun _ => .bind (.load r16) fun _ => .bind (.load r18) fun _ =>
    .bind (.store w18) fun _ => .bind (.load r17) fun _ => .ret) fun _ => .bind (.bind (.load r18) fun _ => .bind
    (.load r16) fun _ => .bind (.load r18) fun _ => .bind (.store w18) fun _ => .bind (.load r17) fun _ => .bind (.load
    r18) fun _ => .bind (.load r16) fun _ => .ret) fun _ => .bind (.bind (.load r18) fun _ => .bind (.store w18) fun _
    => .bind (.load r3) fun _ => .bind (.load r17) fun _ => .bind (.load r10) fun _ => .bind (.load r15) fun _ => .bind
    (.load r18) fun _ => .ret) fun _ => .bind (.bind (.load r18) fun _ => .bind (.store w18) fun _ => .bind (.load r17)
    fun _ => .bind (.load r10) fun _ => .bind (.load r15) fun _ => .bind (.load r18) fun _ => .bind (.load r18) fun _
    => .bind (.store w18) fun _ => .bind (.load r17) fun _ => .bind (.load r10) fun _ => .ret) fun _ => .bind (.bind
    (.load r15) fun _ => .bind (.load r18) fun _ => .bind (.load r18) fun _ => .bind (.store w18) fun _ => .bind (.load
    r17) fun _ => .bind (.load r10) fun _ => .bind (.load r15) fun _ => .bind (.load r18) fun _ => .ret) fun _ => .bind
    (.bind (.load r18) fun _ => .bind (.store w18) fun _ => .bind (.load r17) fun _ => .bind (.load r10) fun _ => .bind
    (.load r18) fun _ => .bind (.load r16) fun _ => .bind (.load r18) fun _ => .ret) fun _ => .bind (.bind (.store w18)
    fun _ => .bind (.load r17) fun _ => .bind (.load r10) fun _ => .bind (.load r18) fun _ => .bind (.load r16) fun _
    => .bind (.load r18) fun _ => .bind (.store w18) fun _ => .ret) fun _ => .bind (.bind (.load r17) fun _ => .bind
    (.load r10) fun _ => .bind (.load r18) fun _ => .bind (.load r16) fun _ => .bind (.load r18) fun _ => .bind (.store
    w18) fun _ => .bind (.load r17) fun _ => .bind (.load r10) fun _ => .ret) fun _ => .bind (.bind (.load r18) fun _
    => .bind (.load r16) fun _ => .bind (.load r18) fun _ => .bind (.store w18) fun _ => .bind (.load r3) fun _ =>
    .bind (.load r17) fun _ => .bind (.load r9) fun _ => .ret) fun _ => .bind (.bind (.load r15) fun _ => .bind (.load
    r18) fun _ => .bind (.load r18) fun _ => .bind (.store w18) fun _ => .bind (.load r17) fun _ => .bind (.load r9)
    fun _ => .bind (.load r15) fun _ => .bind (.load r18) fun _ => .ret) fun _ => .bind (.bind (.load r18) fun _ =>
    .bind (.store w18) fun _ => .bind (.load r17) fun _ => .bind (.load r9) fun _ => .bind (.load r15) fun _ => .bind
    (.load r18) fun _ => .bind (.load r18) fun _ => .bind (.store w18) fun _ => .bind (.load r17) fun _ => .ret) fun _
    => .bind (.bind (.load r9) fun _ => .bind (.load r15) fun _ => .bind (.load r18) fun _ => .bind (.load r18) fun _
    => .bind (.store w18) fun _ => .bind (.load r17) fun _ => .bind (.load r9) fun _ => .ret) fun _ => .bind (.bind
    (.load r18) fun _ => .bind (.load r18) fun _ => .bind (.store w18) fun _ => .bind (.load r17) fun _ => .bind (.load
    r9) fun _ => .bind (.load r18) fun _ => .bind (.load r18) fun _ => .bind (.store w18) fun _ => .bind (.load r17)
    fun _ => .ret) fun _ => .bind (.bind (.load r9) fun _ => .bind (.load r18) fun _ => .bind (.load r18) fun _ =>
    .bind (.store w18) fun _ => .bind (.load r17) fun _ => .bind (.load r9) fun _ => .bind (.load r18) fun _ => .ret)
    fun _ => .bind (.bind (.load r18) fun _ => .bind (.store w18) fun _ => .ret) fun _ => .bind (.ret) fun _ => .bind
    (.ret) fun _ => .bind (.bind (.load r4) fun _ => .ret) fun _ => .bind (.bind (.load r19) fun _ => .bind (.load r19)
    fun _ => .bind (.store w19) fun _ => .bind (.load r4) fun _ => .bind (.load r19) fun _ => .bind (.load r19) fun _
    => .bind (.store w19) fun _ => .bind (.load r4) fun _ => .ret) fun _ => .bind (.bind (.load r19) fun _ => .bind
    (.load r19) fun _ => .bind (.store w19) fun _ => .bind (.load r4) fun _ => .bind (.load r19) fun _ => .bind (.load
    r19) fun _ => .bind (.store w19) fun _ => .bind (.load r4) fun _ => .bind (.load r19) fun _ => .ret) fun _ => .bind
    (.bind (.load r19) fun _ => .bind (.store w19) fun _ => .bind (.load r4) fun _ => .bind (.load r19) fun _ => .bind
    (.load r19) fun _ => .bind (.store w19) fun _ => .bind (.load r4) fun _ => .bind (.load r19) fun _ => .bind (.load
    r19) fun _ => .ret) fun _ => .bind (.bind (.store w19) fun _ => .bind (.load r4) fun _ => .bind (.load r19) fun _
    => .bind (.load r19) fun _ => .bind (.store w19) fun _ => .bind (.load r4) fun _ => .bind (.load r19) fun _ =>
    .bind (.load r19) fun _ => .bind (.store w19) fun _ => .ret) fun _ => .bind (.bind (.load r4) fun _ => .bind (.load
    r19) fun _ => .bind (.load r19) fun _ => .bind (.store w19) fun _ => .bind (.load r4) fun _ => .bind (.load r19)
    fun _ => .bind (.load r19) fun _ => .bind (.store w19) fun _ => .bind (.load r4) fun _ => .ret) fun _ => .bind
    (.bind (.load r19) fun _ => .bind (.load r19) fun _ => .bind (.store w19) fun _ => .bind (.load r4) fun _ => .bind
    (.load r19) fun _ => .bind (.load r19) fun _ => .bind (.store w19) fun _ => .bind (.load r4) fun _ => .bind (.load
    r19) fun _ => .ret) fun _ => .bind (.bind (.load r19) fun _ => .bind (.store w19) fun _ => .bind (.load r4) fun _
    => .bind (.load r19) fun _ => .bind (.load r19) fun _ => .bind (.store w19) fun _ => .bind (.load r4) fun _ =>
    .bind (.load r19) fun _ => .ret) fun _ => .bind (.bind (.load r19) fun _ => .bind (.store w19) fun _ => .bind
    (.load r4) fun _ => .bind (.load r19) fun _ => .bind (.load r19) fun _ => .bind (.store w19) fun _ => .bind (.load
    r4) fun _ => .bind (.load r19) fun _ => .bind (.load r19) fun _ => .bind (.store w19) fun _ => .ret) fun _ => .bind
    (.bind (.load r4) fun _ => .bind (.load r19) fun _ => .bind (.load r19) fun _ => .bind (.store w19) fun _ => .bind
    (.load r4) fun _ => .bind (.load r19) fun _ => .bind (.load r19) fun _ => .bind (.store w19) fun _ => .bind (.load
    r4) fun _ => .ret) fun _ => .bind (.bind (.load r19) fun _ => .bind (.load r19) fun _ => .bind (.store w19) fun _
    => .bind (.load r4) fun _ => .bind (.load r19) fun _ => .bind (.load r19) fun _ => .bind (.store w19) fun _ =>
    .bind (.load r4) fun _ => .ret) fun _ => .bind (.bind (.load r19) fun _ => .bind (.load r19) fun _ => .bind (.store
    w19) fun _ => .bind (.load r4) fun _ => .bind (.load r19) fun _ => .bind (.load r19) fun _ => .bind (.store w19)
    fun _ => .bind (.load r4) fun _ => .bind (.load r19) fun _ => .ret) fun _ => .bind (.bind (.load r19) fun _ =>
    .bind (.store w19) fun _ => .bind (.load r4) fun _ => .bind (.load r19) fun _ => .bind (.load r19) fun _ => .bind
    (.store w19) fun _ => .bind (.load r4) fun _ => .bind (.load r19) fun _ => .bind (.load r19) fun _ => .ret) fun _
    => .bind (.bind (.store w19) fun _ => .bind (.load r4) fun _ => .bind (.load r19) fun _ => .bind (.load r19) fun _
    => .bind (.store w19) fun _ => .bind (.load r4) fun _ => .bind (.load r19) fun _ => .bind (.load r19) fun _ =>
    .bind (.store w19) fun _ => .ret) fun _ => .bind (.bind (.load r4) fun _ => .bind (.load r19) fun _ => .bind (.load
    r19) fun _ => .bind (.store w19) fun _ => .bind (.load r4) fun _ => .bind (.load r19) fun _ => .bind (.load r19)
    fun _ => .bind (.store w19) fun _ => .bind (.load r4) fun _ => .ret) fun _ => .bind (.load r19) fun _ => .bind
    (.load r19) fun _ => .bind (.store w19) fun _ => hB)) fun _ hB => .bind (.bind (.load r3) fun _ => .bind (.load
    r17) fun _ => .bind (.load r15) fun _ => .bind (.load r18) fun _ => .bind (.load r18) fun _ => .bind (.store w18)
    fun _ => .bind (.load r17) fun _ => .bind (.load r15) fun _ => .ret) fun _ => .bind (.bind (.load r18) fun _ =>
    .bind (.load r18) fun _ => .bind (.store w18) fun _ => .bind (.load r17) fun _ => .bind (.load r15) fun _ => .bind
    (.load r18) fun _ => .bind (.load r18) fun _ => .bind (.store w18) fun _ => .ret) fun _ => .bind (.bind (.load r17)
    fun _ => .bind (.load r15) fun _ => .bind (.load r18) fun _ => .bind (.load r18) fun _ => .bind (.store w18) fun _
    => .bind (.load r17) fun _ => .bind (.load r18) fun _ => .ret) fun _ => .bind (.bind (.load r16) fun _ => .bind
    (.load r18) fun _ => .bind (.store w18) fun _ => .bind (.load r17) fun _ => .bind (.load r18) fun _ => .bind (.load
    r16) fun _ => .ret) fun _ => .bind (.bind (.load r18) fun _ => .bind (.store w18) fun _ => .bind (.load r17) fun _
    => .bind (.load r18) fun _ => .bind (.load r16) fun _ => .bind (.load r18) fun _ => .bind (.store w18) fun _ =>
    .bind (.load r17) fun _ => .ret) fun _ => .bind (.bind (.load r18) fun _ => .bind (.load r16) fun _ => .bind (.load
    r18) fun _ => .bind (.store w18) fun _ => .bind (.load r3) fun _ => .bind (.load r17) fun _ => .bind (.load r10)
    fun _ => .ret) fun _ => .bind (.bind (.load r15) fun _ => .bind (.load r18) fun _ => .bind (.load r18) fun _ =>
    .bind (.store w18) fun _ => .bind (.load r17) fun _ => .bind (.load r10) fun _ => .bind (.load r15) fun _ => .bind
    (.load r18) fun _ => .ret) fun _ => .bind (.bind (.load r18) fun _ => .bind (.store w18) fun _ => .bind (.load r17)
    fun _ => .bind (.load r10) fun _ => .bind (.load r15) fun _ => .bind (.load r18) fun _ => .bind (.load r18) fun _
    => .bind (.store w18) fun _ => .bind (.load r17) fun _ => .ret) fun _ => .bind (.bind (.load r10) fun _ => .bind
    (.load r15) fun _ => .bind (.load r18) fun _ => .bind (.load r18) fun _ => .bind (.store w18) fun _ => .bind (.load
    r17) fun _ => .bind (.load r10) fun _ => .bind (.load r18) fun _ => .ret) fun _ => .bind (.bind (.load r16) fun _
    => .bind (.load r18) fun _ => .bind (.store w18) fun _ => .bind (.load r17) fun _ => .bind (.load r10) fun _ =>
    .bind (.load r18) fun _ => .bind (.load r16) fun _ => .ret) fun _ => .bind (.bind (.load r18) fun _ => .bind
    (.store w18) fun _ => .bind (.load r17) fun _ => .bind (.load r10) fun _ => .bind (.load r18) fun _ => .bind (.load
    r16) fun _ => .ret) fun _ => .bind (.bind (.load r18) fun _ => .bind (.store w18) fun _ => .bind (.load r17) fun _
    => .bind (.load r10) fun _ => .bind (.load r18) fun _ => .bind (.load r16) fun _ => .bind (.load r18) fun _ =>
    .bind (.store w18) fun _ => .ret) fun _ => .bind (.bind (.load r3) fun _ => .bind (.load r17) fun _ => .bind (.load
    r9) fun _ => .bind (.load r15) fun _ => .bind (.load r18) fun _ => .bind (.load r18) fun _ => .bind (.store w18)
    fun _ => .bind (.load r17) fun _ => .ret) fun _ => .bind (.bind (.load r9) fun _ => .bind (.load r15) fun _ =>
    .bind (.load r18) fun _ => .bind (.load r18) fun _ => .bind (.store w18) fun _ => .bind (.load r17) fun _ => .bind
    (.load r9) fun _ => .bind (.load r15) fun _ => .ret) fun _ => .bind (.bind (.load r18) fun _ => .bind (.load r18)
    fun _ => .bind (.store w18) fun _ => .bind (.load r17) fun _ => .bind (.load r9) fun _ => .bind (.load r15) fun _
    => .bind (.load r18) fun _ => .bind (.load r18) fun _ => .bind (.store w18) fun _ => .ret) fun _ => .bind (.bind
    (.load r17) fun _ => .bind (.load r9) fun _ => .bind (.load r18) fun _ => .bind (.load r18) fun _ => .bind (.store
    w18) fun _ => .bind (.load r17) fun _ => .bind (.load r9) fun _ => .ret) fun _ => .bind (.bind (.load r18) fun _ =>
    .bind (.load r18) fun _ => .bind (.store w18) fun _ => .bind (.load r17) fun _ => .bind (.load r9) fun _ => .bind
    (.load r18) fun _ => .bind (.load r18) fun _ => .bind (.store w18) fun _ => .bind (.load r17) fun _ => .ret) fun _
    => .bind (.bind (.load r9) fun _ => .bind (.load r18) fun _ => .bind (.load r18) fun _ => .bind (.store w18) fun _
    => .ret) fun _ => .bind (.ret) fun _ => .bind (.ret) fun _ => .bind (.bind (.load r4) fun _ => .bind (.load r19)
    fun _ => .bind (.load r19) fun _ => .bind (.store w19) fun _ => .bind (.load r4) fun _ => .ret) fun _ => .bind
    (.bind (.load r19) fun _ => .bind (.load r19) fun _ => .bind (.store w19) fun _ => .bind (.load r4) fun _ => .bind
    (.load r19) fun _ => .bind (.load r19) fun _ => .bind (.store w19) fun _ => .bind (.load r4) fun _ => .bind (.load
    r19) fun _ => .ret) fun _ => .bind (.bind (.load r19) fun _ => .bind (.store w19) fun _ => .bind (.load r4) fun _
    => .bind (.load r19) fun _ => .bind (.load r19) fun _ => .bind (.store w19) fun _ => .bind (.load r4) fun _ =>
    .bind (.load r19) fun _ => .bind (.load r19) fun _ => .ret) fun _ => .bind (.bind (.store w19) fun _ => .bind
    (.load r4) fun _ => .bind (.load r19) fun _ => .bind (.load r19) fun _ => .bind (.store w19) fun _ => .bind (.load
    r4) fun _ => .bind (.load r19) fun _ => .bind (.load r19) fun _ => .bind (.store w19) fun _ => .ret) fun _ => .bind
    (.bind (.load r4) fun _ => .bind (.load r19) fun _ => .bind (.load r19) fun _ => .bind (.store w19) fun _ => .bind
    (.load r4) fun _ => .bind (.load r19) fun _ => .bind (.load r19) fun _ => .bind (.store w19) fun _ => .bind (.load
    r4) fun _ => .ret) fun _ => .bind (.bind (.load r19) fun _ => .bind (.load r19) fun _ => .bind (.store w19) fun _
    => .bind (.load r4) fun _ => .bind (.load r19) fun _ => .bind (.load r19) fun _ => .bind (.store w19) fun _ =>
    .bind (.load r4) fun _ => .bind (.load r19) fun _ => .ret) fun _ => .bind (.bind (.load r19) fun _ => .bind (.store
    w19) fun _ => .bind (.load r4) fun _ => .bind (.load r19) fun _ => .bind (.load r19) fun _ => .bind (.store w19)
    fun _ => .bind (.load r4) fun _ => .bind (.load r19) fun _ => .ret) fun _ => .bind (.bind (.load r19) fun _ =>
    .bind (.store w19) fun _ => .bind (.load r4) fun _ => .bind (.load r19) fun _ => .bind (.load r19) fun _ => .bind
    (.store w19) fun _ => .bind (.load r4) fun _ => .bind (.load r19) fun _ => .bind (.load r19) fun _ => .bind (.store
    w19) fun _ => .ret) fun _ => .bind (.bind (.load r4) fun _ => .bind (.load r19) fun _ => .bind (.load r19) fun _ =>
    .bind (.store w19) fun _ => .bind (.load r4) fun _ => .bind (.load r19) fun _ => .bind (.load r19) fun _ => .bind
    (.store w19) fun _ => .bind (.load r4) fun _ => .ret) fun _ => .bind (.bind (.load r19) fun _ => .bind (.load r19)
    fun _ => .bind (.store w19) fun _ => .bind (.load r4) fun _ => .bind (.load r19) fun _ => .bind (.load r19) fun _
    => .bind (.store w19) fun _ => .bind (.load r4) fun _ => .ret) fun _ => .bind (.bind (.load r19) fun _ => .bind
    (.load r19) fun _ => .bind (.store w19) fun _ => .bind (.load r4) fun _ => .bind (.load r19) fun _ => .bind (.load
    r19) fun _ => .bind (.store w19) fun _ => .bind (.load r4) fun _ => .bind (.load r19) fun _ => .ret) fun _ => .bind
    (.load r19) fun _ => .bind (.store w19) fun _ => hB)) fun _ hB => .bind (keep565 r2 r3 r4 r5 r6 r7 r8 r9 r10 r11
    r12 r13 r14 r15 r16 r17 r18 r19 w11 w12 w13 w14 w15 w16 w17 w18 w19 _ _ _ _) fun _ => .bind (.load r19) fun _ =>
    .bind (.load r19) fun _ => .bind (.store w19) fun _ => hB)

end Cert.AttnFrame

end
-- ==== Proof.Attn.Body.lean ====
module

public import proofs.«01_k».proof.Proof.Attn.Score
public import proofs.«01_k».proof.Proof.Attn.Rest

@[expose] public section

set_option maxRecDepth 65536
set_option maxHeartbeats 4000000

/-!
# The body
Each part of the body keeps the buffers, its loads and stores one by one.
-/

noncomputable section

namespace Cert.AttnFrame

open Cert.Kernel Cert.Kernel.Gen
open Idealize.ShloMosaic Idealize.ShloMosaic.TcCoe
open Idealize.SL Idealize.SL.BI
open Idealize.SL.BI.BIBase

variable {F : FTy → Type} [BitOps F]

local notation "𝕄" => MT nD τ sig Unit (Elt F) ℕ (UR sig nD τ) ℕ

variable {c : Dev nD} {O : sProp (MT nD τ sig Unit (Elt F) ℕ (UR sig nD τ) ℕ)} {i : grid0.Coords}
variable
  {arg2 : Memref sig .tc .vmem S256x512 .bf16} {harg2 : arg2.IsWhole}
  {arg3 : Memref sig .tc .vmem S4096x512 .bf16} {harg3 : arg3.IsWhole}
  {arg4 : Memref sig .tc .vmem S1x16x512x256 .bf16} {harg4 : arg4.IsWhole}
  {arg5 : Memref sig .tc .vmem S256x512 .bf16} {harg5 : arg5.IsWhole}
  {arg6 : Memref sig .tc .vmem S4096x128 .bf16} {harg6 : arg6.IsWhole}
  {arg7 : Memref sig .tc .vmem S256x128 .f32} {harg7 : arg7.IsWhole}
  {arg8 : Memref sig .tc .vmem S1x16x256 .f32} {harg8 : arg8.IsWhole}
  {arg9 : Memref sig .tc .vmem S8x256x256 .f32} {harg9 : arg9.IsWhole}
  {arg10 : Memref sig .tc .vmem S8x256x256 .f32} {harg10 : arg10.IsWhole}
  {arg11 : Memref sig .tc .vmem S256x512 .bf16} {harg11 : arg11.IsWhole}
  {arg12 : Memref sig .tc .vmem S16x256x256 .i32} {harg12 : arg12.IsWhole}
  {arg13 : Memref sig .tc .vmem S32x16x8x256 .i32} {harg13 : arg13.IsWhole}
  {arg14 : Memref sig .tc .vmem S16x8x256 .i32} {harg14 : arg14.IsWhole}
  {arg15 : Memref sig .tc .vmem S16x256x256 .f32} {harg15 : arg15.IsWhole}
  {arg16 : Memref sig .tc .vmem S4x16x256 .f32} {harg16 : arg16.IsWhole}
  {arg17 : Memref sig .tc .vmem S8x256x128 .bf16} {harg17 : arg17.IsWhole}
  {arg18 : Memref sig .tc .vmem S8x8x256 .f32} {harg18 : arg18.IsWhole}
  {arg19 : Memref sig .tc .vmem S8x80x256 .f32} {harg19 : arg19.IsWhole}
variable (r2 : Reads (F := F) c O arg2) (r3 : Reads (F := F) c O arg3) (r4 : Reads (F := F) c O arg4) (r5 : Reads (F := F) c O arg5) (r6 : Reads (F := F) c O arg6) (r7 : Reads (F := F) c O arg7) (r8 : Reads (F := F) c O arg8) (r9 : Reads (F := F) c O arg9) (r10 : Reads (F := F) c O arg10) (r11 : Reads (F := F) c O arg11) (r12 : Reads (F := F) c O arg12) (r13 : Reads (F := F) c O arg13) (r14 : Reads (F := F) c O arg14) (r15 : Reads (F := F) c O arg15) (r16 : Reads (F := F) c O arg16) (r17 : Reads (F := F) c O arg17) (r18 : Reads (F := F) c O arg18) (r19 : Reads (F := F) c O arg19)
  (w11 : Writes (F := F) c O arg11) (w12 : Writes (F := F) c O arg12) (w13 : Writes (F := F) c O arg13) (w14 : Writes (F := F) c O arg14) (w15 : Writes (F := F) c O arg15) (w16 : Writes (F := F) c O arg16) (w17 : Writes (F := F) c O arg17) (w18 : Writes (F := F) c O arg18) (w19 : Writes (F := F) c O arg19)
include r2 r3 r4 r5 r6 r7 r8 r9 r10 r11 r12 r13 r14 r15 r16 r17 r18 r19 w11 w12 w13 w14 w15 w16 w17 w18 w19

/-- The program `k0_part725`, which calls 25 others, keeps the buffers. -/
theorem keep725  :
    Keeps (F := F) c O (k0_part725 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) :=
    .bind (keep700 r2 r3 r4 r5 r6 r7 r8 r9 r10 r11 r12 r13 r14 r15 r16 r17 r18 r19 w11 w12 w13 w14 w15 w16 w17 w18 w19) fun
    _ => .bind (keep701 r2 r3 r4 r5 r6 r7 r8 r9 r10 r11 r12 r13 r14 r15 r16 r17 r18 r19 w11 w12 w13 w14 w15 w16 w17 w18
    w19 _ _ _ _ _ _ _ _ _) fun _ => .bind (.bind (.load r14) fun _ => .bind (.load r13) fun _ => .bind (.load r14) fun
    _ => .bind (.store w14) fun _ => .bind (.load r14) fun _ => .bind (.load r13) fun _ => .ret) fun _ => .bind (.bind
    (.load r14) fun _ => .bind (.store w14) fun _ => .bind (.load r14) fun _ => .bind (.load r13) fun _ => .bind (.load
    r14) fun _ => .bind (.store w14) fun _ => .bind (.load r14) fun _ => .bind (.load r13) fun _ => .ret) fun _ =>
    .bind (.bind (.load r14) fun _ => .bind (.store w14) fun _ => .bind (.load r14) fun _ => .bind (.load r13) fun _ =>
    .bind (.load r14) fun _ => .bind (.store w14) fun _ => .ret) fun _ => .bind (.bind (.load r14) fun _ => .bind
    (.load r13) fun _ => .bind (.load r14) fun _ => .bind (.store w14) fun _ => .bind (.load r14) fun _ => .bind (.load
    r13) fun _ => .ret) fun _ => .bind (.bind (.load r14) fun _ => .bind (.store w14) fun _ => .bind (.load r14) fun _
    => .bind (.load r13) fun _ => .bind (.load r14) fun _ => .bind (.store w14) fun _ => .bind (.load r14) fun _ =>
    .ret) fun _ => .bind (.bind (.load r13) fun _ => .bind (.load r14) fun _ => .bind (.store w14) fun _ => .bind
    (.load r14) fun _ => .bind (.load r13) fun _ => .bind (.load r14) fun _ => .ret) fun _ => .bind (.bind (.store w14)
    fun _ => .bind (.load r14) fun _ => .bind (.load r13) fun _ => .bind (.load r14) fun _ => .bind (.store w14) fun _
    => .bind (.load r14) fun _ => .bind (.load r13) fun _ => .ret) fun _ => .bind (.bind (.load r14) fun _ => .bind
    (.store w14) fun _ => .bind (.load r14) fun _ => .bind (.load r13) fun _ => .bind (.load r14) fun _ => .bind
    (.store w14) fun _ => .ret) fun _ => .bind (.bind (.load r14) fun _ => .bind (.load r13) fun _ => .bind (.load r14)
    fun _ => .bind (.store w14) fun _ => .bind (.load r14) fun _ => .bind (.load r13) fun _ => .ret) fun _ => .bind
    (.bind (.load r14) fun _ => .bind (.store w14) fun _ => .bind (.load r14) fun _ => .bind (.load r13) fun _ => .bind
    (.load r14) fun _ => .bind (.store w14) fun _ => .bind (.load r14) fun _ => .ret) fun _ => .bind (.bind (.load r13)
    fun _ => .bind (.load r14) fun _ => .bind (.store w14) fun _ => .bind (.load r14) fun _ => .bind (.load r13) fun _
    => .bind (.load r14) fun _ => .bind (.store w14) fun _ => .ret) fun _ => .bind (.bind (.load r14) fun _ => .bind
    (.load r13) fun _ => .bind (.load r14) fun _ => .bind (.store w14) fun _ => .bind (.load r14) fun _ => .bind (.load
    r13) fun _ => .ret) fun _ => .bind (.bind (.load r14) fun _ => .bind (.store w14) fun _ => .bind (.load r14) fun _
    => .bind (.load r13) fun _ => .bind (.load r14) fun _ => .bind (.store w14) fun _ => .ret) fun _ => .bind (.bind
    (.load r14) fun _ => .bind (.load r13) fun _ => .bind (.load r14) fun _ => .bind (.store w14) fun _ => .bind (.load
    r14) fun _ => .bind (.load r13) fun _ => .bind (.load r14) fun _ => .ret) fun _ => .bind (.bind (.store w14) fun _
    => .bind (.load r14) fun _ => .bind (.load r13) fun _ => .bind (.load r14) fun _ => .bind (.store w14) fun _ =>
    .bind (.load r14) fun _ => .bind (.load r13) fun _ => .ret) fun _ => .bind (.bind (.load r14) fun _ => .bind
    (.store w14) fun _ => .bind (.load r14) fun _ => .bind (.load r13) fun _ => .bind (.load r14) fun _ => .bind
    (.store w14) fun _ => .ret) fun _ => .bind (.bind (.load r14) fun _ => .bind (.load r13) fun _ => .bind (.load r14)
    fun _ => .bind (.store w14) fun _ => .bind (.load r14) fun _ => .bind (.load r13) fun _ => .ret) fun _ => .bind
    (.bind (.load r14) fun _ => .bind (.store w14) fun _ => .bind (.load r14) fun _ => .bind (.load r13) fun _ => .bind
    (.load r14) fun _ => .bind (.store w14) fun _ => .bind (.load r14) fun _ => .ret) fun _ => .bind (.bind (.load r13)
    fun _ => .bind (.load r14) fun _ => .bind (.store w14) fun _ => .bind (.load r14) fun _ => .bind (.load r13) fun _
    => .bind (.load r14) fun _ => .bind (.store w14) fun _ => .ret) fun _ => .bind (.bind (.load r14) fun _ => .bind
    (.load r13) fun _ => .bind (.load r14) fun _ => .bind (.store w14) fun _ => .bind (.load r14) fun _ => .ret) fun _
    => .bind (keep722 r2 r3 r4 r5 r6 r7 r8 r9 r10 r11 r12 r13 r14 r15 r16 r17 r18 r19 w11 w12 w13 w14 w15 w16 w17 w18
    w19 _ _ _ _ _ _ _) fun _ => .bind (keep723 r2 r3 r4 r5 r6 r7 r8 r9 r10 r11 r12 r13 r14 r15 r16 r17 r18 r19 w11 w12
    w13 w14 w15 w16 w17 w18 w19 _ _ _ _ _ _) fun _ => .bind (.bind (.load r19) fun _ => .bind (.load r19) fun _ =>
    .bind (.load r19) fun _ => .bind (.load r19) fun _ => .bind (.load r19) fun _ => .bind (.load r19) fun _ => .bind
    (.load r19) fun _ => .bind (.load r19) fun _ => .bind (.load r19) fun _ => .bind (.load r19) fun _ => .ret) fun _
    => .bind (.load r19) fun _ => .bind (.load r19) fun _ => .bind (.load r19) fun _ => .bind (.load r19) fun _ =>
    .bind (.load r19) fun _ => .ret

/-- The attention kernel's body, at any grid point, keeps the buffers it is called with. -/
theorem keep_body  :
    Keeps (F := F) c O (cc0__attn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) :=
    .bind (keep725 r2 r3 r4 r5 r6 r7 r8 r9 r10 r11 r12 r13 r14 r15 r16 r17 r18 r19 w11 w12 w13 w14 w15 w16 w17 w18 w19) fun
    _ => .bind (.load r11) fun _ => .bind (.store w11) fun _ => .ret

end Cert.AttnFrame

end
-- ==== Proof.Attn.Run.lean ====
module

public import proofs.«01_k».proof.Proof.Attn.Body

@[expose] public section

set_option maxRecDepth 65536

/-!
# The attention kernel's launch

The body keeps the ten windows' staging buffers and the eight scratch buffers, so the pipeline around
it runs to its end with every array it reads as it was, at all 64 grid points.
-/

noncomputable section

namespace Cert.AttnFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## Where a buffer lies in a conjunction -/

/-- A buffer owned at given contents can be read. -/
theorem reads_owns {c : Dev nD} {s : Shape} {e : EltTy} {m : Memref sig .tc .vmem s e} {X : s.Idx → Elt F e} :
    Reads (F := F) c (owns (c : Thread nD τ) m fullShare X : sProp 𝕄) m := by
  unfold Reads owns
  iintro ⟨%f, %hf, H⟩
  iexists f
  isplitl [H]; · iexact H
  iintro H
  iexists f
  isplitr; · ipureintro; exact hf
  iexact H

/-- A buffer owned at some contents can be written. -/
theorem writes_owns {c : Dev nD} {s : Shape} {e : EltTy} {m : Memref sig .tc .vmem s e} :
    Writes (F := F) c (iprop(∃ d, owns (c : Thread nD τ) m fullShare d) : sProp 𝕄) m := by
  unfold Writes owns
  iintro ⟨%d, %f, %hf, H⟩
  iexists f
  isplitl [H]; · iexact H
  iintro %g H
  iexists (m.view.read (Elt F) g)
  iexists g
  isplitr; · ipureintro; rfl
  iexact H

/-- Reading the left part of a conjunction. -/
theorem Reads.left {c : Dev nD} {A B : sProp 𝕄} {s : Shape} {e : EltTy} {m : Memref sig .tc .vmem s e}
    (h : Reads (F := F) c A m) : Reads (F := F) c iprop(A ∗ B) m := by
  unfold Reads at h ⊢
  iintro ⟨HA, HB⟩
  ihave H := h $$ HA
  icases H with ⟨%f, H, K⟩
  iexists f
  isplitl [H]; · iexact H
  iintro H
  isplitl [H K]
  · iapply K; iexact H
  iexact HB

/-- Reading the right part of a conjunction. -/
theorem Reads.right {c : Dev nD} {A B : sProp 𝕄} {s : Shape} {e : EltTy} {m : Memref sig .tc .vmem s e}
    (h : Reads (F := F) c B m) : Reads (F := F) c iprop(A ∗ B) m := by
  unfold Reads at h ⊢
  iintro ⟨HA, HB⟩
  ihave H := h $$ HB
  icases H with ⟨%f, H, K⟩
  iexists f
  isplitl [H]; · iexact H
  iintro H
  isplitl [HA]; · iexact HA
  iapply K; iexact H

/-- Writing the left part of a conjunction. -/
theorem Writes.left {c : Dev nD} {A B : sProp 𝕄} {s : Shape} {e : EltTy} {m : Memref sig .tc .vmem s e}
    (h : Writes (F := F) c A m) : Writes (F := F) c iprop(A ∗ B) m := by
  unfold Writes at h ⊢
  iintro ⟨HA, HB⟩
  ihave H := h $$ HA
  icases H with ⟨%f, H, K⟩
  iexists f
  isplitl [H]; · iexact H
  iintro %g H
  isplitl [H K]
  · iapply K; iexact H
  iexact HB

/-- Writing the right part of a conjunction. -/
theorem Writes.right {c : Dev nD} {A B : sProp 𝕄} {s : Shape} {e : EltTy} {m : Memref sig .tc .vmem s e}
    (h : Writes (F := F) c B m) : Writes (F := F) c iprop(A ∗ B) m := by
  unfold Writes at h ⊢
  iintro ⟨HA, HB⟩
  ihave H := h $$ HB
  icases H with ⟨%f, H, K⟩
  iexists f
  isplitl [H]; · iexact H
  iintro %g H
  isplitl [HA]; · iexact HA
  iapply K; iexact H

/-! ## The pipeline's proof data -/

variable (m : (ℓ : Loc nD τ sig) → Buf (Elt F) ℓ) (ρ : Dev nD → PrngReg)

/-- The output window, of whose contents nothing is said. -/
def forgotten : Fin 10 → Bool := fun w => w.val == 9

/-- The arrays as they are when the launch begins; after the body each input's buffer holds its block;
    the inputs that lie in one array hold shares of it. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => X0_3 m c t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
  Φ _ := Pipeline.ΦA spec0 c
  q w := Pipeline.shareOf spec0 w
  owed _ := 0

/-- The arrays are those of the launch's memory. -/
theorem A_eq (c : Dev nD) (w : Fin cfg0.W) : (dats m 0 c).A w = V m c (Pipeline.arrRef spec0 w) := by
  dsimp only [dats]

/-- After the body, window 0's buffer holds its block. -/
theorem after_0 (c : Dev nD) (t : Fin cfg0.N) : (dats m 0 c).after 0 t = X0_0 m c t := by dsimp only [dats]
/-- Before the body, window 0's buffer holds its block. -/
theorem before_0 (c : Dev nD) (t : Fin cfg0.N) (d) : (dats m 0 c).before 0 t d = X0_0 m c t :=
  before0_0_of m (dats m 0 c) (A_eq m c 0) (after_0 m c) t d
/-- After the body, window 1's buffer holds its block. -/
theorem after_1 (c : Dev nD) (t : Fin cfg0.N) : (dats m 0 c).after 1 t = X0_1 m c t := by dsimp only [dats]
/-- Before the body, window 1's buffer holds its block. -/
theorem before_1 (c : Dev nD) (t : Fin cfg0.N) (d) : (dats m 0 c).before 1 t d = X0_1 m c t :=
  before0_1_of m (dats m 0 c) (A_eq m c 1) (after_1 m c) t d
/-- After the body, window 2's buffer holds its block. -/
theorem after_2 (c : Dev nD) (t : Fin cfg0.N) : (dats m 0 c).after 2 t = iblk m c 2 t := by dsimp only [dats]
/-- Before the body, window 2's buffer holds its block. -/
theorem before_2 (c : Dev nD) (t : Fin cfg0.N) (d) : (dats m 0 c).before 2 t d = iblk m c 2 t :=
  before0_2_of m (dats m 0 c) (A_eq m c 2) (after_2 m c) t d
/-- After the body, window 3's buffer holds its block. -/
theorem after_3 (c : Dev nD) (t : Fin cfg0.N) : (dats m 0 c).after 3 t = X0_3 m c t := by dsimp only [dats]
/-- Before the body, window 3's buffer holds its block. -/
theorem before_3 (c : Dev nD) (t : Fin cfg0.N) (d) : (dats m 0 c).before 3 t d = X0_3 m c t :=
  before0_3_of m (dats m 0 c) (A_eq m c 3) (after_3 m c) t d
/-- After the body, window 4's buffer holds its block. -/
theorem after_4 (c : Dev nD) (t : Fin cfg0.N) : (dats m 0 c).after 4 t = iblk m c 4 t := by dsimp only [dats]
/-- Before the body, window 4's buffer holds its block. -/
theorem before_4 (c : Dev nD) (t : Fin cfg0.N) (d) : (dats m 0 c).before 4 t d = iblk m c 4 t :=
  before0_4_of m (dats m 0 c) (A_eq m c 4) (after_4 m c) t d
/-- After the body, window 5's buffer holds its block. -/
theorem after_5 (c : Dev nD) (t : Fin cfg0.N) : (dats m 0 c).after 5 t = iblk m c 5 t := by dsimp only [dats]
/-- Before the body, window 5's buffer holds its block. -/
theorem before_5 (c : Dev nD) (t : Fin cfg0.N) (d) : (dats m 0 c).before 5 t d = iblk m c 5 t :=
  before0_5_of m (dats m 0 c) (A_eq m c 5) (after_5 m c) t d
/-- After the body, window 6's buffer holds its block. -/
theorem after_6 (c : Dev nD) (t : Fin cfg0.N) : (dats m 0 c).after 6 t = iblk m c 6 t := by dsimp only [dats]
/-- Before the body, window 6's buffer holds its block. -/
theorem before_6 (c : Dev nD) (t : Fin cfg0.N) (d) : (dats m 0 c).before 6 t d = iblk m c 6 t :=
  before0_6_of m (dats m 0 c) (A_eq m c 6) (after_6 m c) t d
/-- After the body, window 7's buffer holds its block. -/
theorem after_7 (c : Dev nD) (t : Fin cfg0.N) : (dats m 0 c).after 7 t = iblk m c 7 t := by dsimp only [dats]
/-- Before the body, window 7's buffer holds its block. -/
theorem before_7 (c : Dev nD) (t : Fin cfg0.N) (d) : (dats m 0 c).before 7 t d = iblk m c 7 t :=
  before0_7_of m (dats m 0 c) (A_eq m c 7) (after_7 m c) t d
/-- After the body, window 8's buffer holds its block. -/
theorem after_8 (c : Dev nD) (t : Fin cfg0.N) : (dats m 0 c).after 8 t = iblk m c 8 t := by dsimp only [dats]
/-- Before the body, window 8's buffer holds its block. -/
theorem before_8 (c : Dev nD) (t : Fin cfg0.N) (d) : (dats m 0 c).before 8 t d = iblk m c 8 t :=
  before0_8_of m (dats m 0 c) (A_eq m c 8) (after_8 m c) t d

/-- What the launch keeps between points: the eight scratch buffers at some contents, and the
    generator's register. -/
theorem phi_eq (c : Dev nD) :
    (Pipeline.ΦA spec0 c : sProp 𝕄)
      = iprop(iprop((∃ d, owns (c : Thread nD τ) (Memref.whole cc0_scratch0) fullShare d)
        ∗ (∃ d, owns (c : Thread nD τ) (Memref.whole cc0_scratch1) fullShare d)
        ∗ (∃ d, owns (c : Thread nD τ) (Memref.whole cc0_scratch2) fullShare d)
        ∗ (∃ d, owns (c : Thread nD τ) (Memref.whole cc0_scratch3) fullShare d)
        ∗ (∃ d, owns (c : Thread nD τ) (Memref.whole cc0_scratch4) fullShare d)
        ∗ (∃ d, owns (c : Thread nD τ) (Memref.whole cc0_scratch5) fullShare d)
        ∗ (∃ d, owns (c : Thread nD τ) (Memref.whole cc0_scratch6) fullShare d)
        ∗ (∃ d, owns (c : Thread nD τ) (Memref.whole cc0_scratch7) fullShare d))
        ∗ (∃ r, prngReg c r)) := by
  unfold Pipeline.ΦA; rw [scopedRest0_eq]; simp only [owns_whole]; try rfl

/-- What the body is called with at the point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare d))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ d, owns (c : Thread nD τ) (st0_9 t) fullShare d))

/-- What the body keeps: everything it is handed, with each input at its block. -/
def kept (c : Dev nD) (t : Fin cfg0.N) : sProp 𝕄 :=
  iprop(iprop((∃ d, owns (c : Thread nD τ) (Memref.whole cc0_scratch0) fullShare d)
      ∗ (∃ d, owns (c : Thread nD τ) (Memref.whole cc0_scratch1) fullShare d)
      ∗ (∃ d, owns (c : Thread nD τ) (Memref.whole cc0_scratch2) fullShare d)
      ∗ (∃ d, owns (c : Thread nD τ) (Memref.whole cc0_scratch3) fullShare d)
      ∗ (∃ d, owns (c : Thread nD τ) (Memref.whole cc0_scratch4) fullShare d)
      ∗ (∃ d, owns (c : Thread nD τ) (Memref.whole cc0_scratch5) fullShare d)
      ∗ (∃ d, owns (c : Thread nD τ) (Memref.whole cc0_scratch6) fullShare d)
      ∗ (∃ d, owns (c : Thread nD τ) (Memref.whole cc0_scratch7) fullShare d))
    ∗ (∃ d, owns (c : Thread nD τ) (st0_9 t) fullShare d)
    ∗ owns (c : Thread nD τ) (st0_0 t) fullShare (X0_0 m c t)
    ∗ owns (c : Thread nD τ) (st0_1 t) fullShare (X0_1 m c t)
    ∗ owns (c : Thread nD τ) (st0_2 t) fullShare (iblk m c 2 t)
    ∗ owns (c : Thread nD τ) (st0_3 t) fullShare (X0_3 m c t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
    ∗ (∃ r, prngReg c r) ∗ (dats m 0 c).owesAt () t.castSucc)

/-- Window 0's buffer is among what is kept. -/
theorem reads_0 (c : Dev nD) (t : Fin cfg0.N) : Reads (F := F) c (kept m c t) (st0_0 t) :=
  (((reads_owns).left).right).right
/-- Window 1's buffer is among what is kept. -/
theorem reads_1 (c : Dev nD) (t : Fin cfg0.N) : Reads (F := F) c (kept m c t) (st0_1 t) :=
  ((((reads_owns).left).right).right).right
/-- Window 2's buffer is among what is kept. -/
theorem reads_2 (c : Dev nD) (t : Fin cfg0.N) : Reads (F := F) c (kept m c t) (st0_2 t) :=
  (((((reads_owns).left).right).right).right).right
/-- Window 3's buffer is among what is kept. -/
theorem reads_3 (c : Dev nD) (t : Fin cfg0.N) : Reads (F := F) c (kept m c t) (st0_3 t) :=
  ((((((reads_owns).left).right).right).right).right).right
/-- Window 4's buffer is among what is kept. -/
theorem reads_4 (c : Dev nD) (t : Fin cfg0.N) : Reads (F := F) c (kept m c t) (st0_4 t) :=
  (((((((reads_owns).left).right).right).right).right).right).right
/-- Window 5's buffer is among what is kept. -/
theorem reads_5 (c : Dev nD) (t : Fin cfg0.N) : Reads (F := F) c (kept m c t) (st0_5 t) :=
  ((((((((reads_owns).left).right).right).right).right).right).right).right
/-- Window 6's buffer is among what is kept. -/
theorem reads_6 (c : Dev nD) (t : Fin cfg0.N) : Reads (F := F) c (kept m c t) (st0_6 t) :=
  (((((((((reads_owns).left).right).right).right).right).right).right).right).right
/-- Window 7's buffer is among what is kept. -/
theorem reads_7 (c : Dev nD) (t : Fin cfg0.N) : Reads (F := F) c (kept m c t) (st0_7 t) :=
  ((((((((((reads_owns).left).right).right).right).right).right).right).right).right).right
/-- Window 8's buffer is among what is kept. -/
theorem reads_8 (c : Dev nD) (t : Fin cfg0.N) : Reads (F := F) c (kept m c t) (st0_8 t) :=
  (((((((((((reads_owns).left).right).right).right).right).right).right).right).right).right).right
/-- The output's buffer is among what is kept. -/
theorem writes_9 (c : Dev nD) (t : Fin cfg0.N) : Writes (F := F) c (kept m c t) (st0_9 t) :=
  ((writes_owns).left).right
/-- Scratch buffer 0 is among what is kept. -/
theorem writes_s0 (c : Dev nD) (t : Fin cfg0.N) : Writes (F := F) c (kept m c t) (Memref.whole cc0_scratch0) :=
  ((writes_owns).left).left
/-- Scratch buffer 1 is among what is kept. -/
theorem writes_s1 (c : Dev nD) (t : Fin cfg0.N) : Writes (F := F) c (kept m c t) (Memref.whole cc0_scratch1) :=
  (((writes_owns).left).right).left
/-- Scratch buffer 2 is among what is kept. -/
theorem writes_s2 (c : Dev nD) (t : Fin cfg0.N) : Writes (F := F) c (kept m c t) (Memref.whole cc0_scratch2) :=
  ((((writes_owns).left).right).right).left
/-- Scratch buffer 3 is among what is kept. -/
theorem writes_s3 (c : Dev nD) (t : Fin cfg0.N) : Writes (F := F) c (kept m c t) (Memref.whole cc0_scratch3) :=
  (((((writes_owns).left).right).right).right).left
/-- Scratch buffer 4 is among what is kept. -/
theorem writes_s4 (c : Dev nD) (t : Fin cfg0.N) : Writes (F := F) c (kept m c t) (Memref.whole cc0_scratch4) :=
  ((((((writes_owns).left).right).right).right).right).left
/-- Scratch buffer 5 is among what is kept. -/
theorem writes_s5 (c : Dev nD) (t : Fin cfg0.N) : Writes (F := F) c (kept m c t) (Memref.whole cc0_scratch5) :=
  (((((((writes_owns).left).right).right).right).right).right).left
/-- Scratch buffer 6 is among what is kept. -/
theorem writes_s6 (c : Dev nD) (t : Fin cfg0.N) : Writes (F := F) c (kept m c t) (Memref.whole cc0_scratch6) :=
  ((((((((writes_owns).left).right).right).right).right).right).right).left
/-- Scratch buffer 7 is among what is kept. -/
theorem writes_s7 (c : Dev nD) (t : Fin cfg0.N) : Writes (F := F) c (kept m c t) (Memref.whole cc0_scratch7) :=
  ((((((((writes_owns).right).right).right).right).right).right).right).left

/-- The body at any point keeps them. -/
theorem keep_point (c : Dev nD) (t : Fin cfg0.N) : Keeps (F := F) c (kept m c t) (bodyAt0 t) :=
  keep_body (reads_0 m c t)
    (reads_1 m c t)
    (reads_2 m c t)
    (reads_3 m c t)
    (reads_4 m c t)
    (reads_5 m c t)
    (reads_6 m c t)
    (reads_7 m c t)
    (reads_8 m c t)
    (writes_9 m c t).reads
    (writes_s0 m c t).reads
    (writes_s1 m c t).reads
    (writes_s2 m c t).reads
    (writes_s3 m c t).reads
    (writes_s4 m c t).reads
    (writes_s5 m c t).reads
    (writes_s6 m c t).reads
    (writes_s7 m c t).reads
    (writes_9 m c t)
    (writes_s0 m c t)
    (writes_s1 m c t)
    (writes_s2 m c t)
    (writes_s3 m c t)
    (writes_s4 m c t)
    (writes_s5 m c t)
    (writes_s6 m c t)
    (writes_s7 m c t)

/-- What the body is called with is what it keeps. -/
theorem pre_kept (c : Dev nD) (t : Fin cfg0.N) : bodyPre m c t ⊢ kept m c t := by
  unfold bodyPre kept
  simp only [before_0, before_1, before_2, before_3, before_4, before_5, before_6, before_7, before_8]
  rw [show (dats m 0 c).Φ t.castSucc = Pipeline.ΦA spec0 c from rfl, phi_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  isplitl [HS]; · iexact HS
  isplitl [H9]; · iexact H9
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hg]; · iexact Hg
  iexact Ho

/-- What the body keeps is what it returns. -/
theorem kept_post (c : Dev nD) (t : Fin cfg0.N) : kept m c t ⊢ bodyPost m c t := by
  unfold bodyPost kept
  rw [after_0, after_1, after_2, after_3, after_4, after_5, after_6, after_7, after_8]
  rw [show (dats m 0 c).Φ t.succ = Pipeline.ΦA spec0 c from rfl, phi_eq,
    show (dats m 0 c).owesAt () t.succ = (dats m 0 c).owesAt () t.castSucc from rfl]
  iintro ⟨HS, H9, H0, H1, H2, H3, H4, H5, H6, H7, H8, Hg, Ho⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body's triple at any point. -/
theorem sound_body (c : Dev nD) (t : Fin cfg0.N) :
    bodyPre m c t ⊢ wp frame (wpE (defs₀ (F := F)) Variants.none c none) Set.univ (bodyAt0 t) (fun _ => bodyPost m c t) :=
  ((pre_kept m c t).trans (keep_point m c t)).trans (Idealize.SL.Sem.wp_mono _ _ _ fun _ => kept_post m c t)

/-- The body's row in the table of bodies. -/
theorem defs₀_row (t : Fin cfg0.N) :
    defs₀ (F := F) .tc cfg0.body (cfg0.bodyArgs t (cfg0.slots t)) = bodyAt0 t := by
  unfold defs₀; rw [Defs.onTc_tc]

/-- The obligation of the pipeline's theorem, at every point. -/
theorem body_obligation (c : Dev nD) :
    BodyObligation (dats (F := F) m 0 c) (defs₀ (F := F)) Variants.none () Set.univ forgotten := fun t => by
  rw [bigSep_W0, bigSep_W0, defs₀_row]
  exact triple_restated (sound_body m c t) rfl .rfl fun _ => .rfl

/-! ## The run -/

set_option backward.isDefEq.respectTransparency.types false in
/-- The launch ends, with the arrays it reads unchanged and every semaphore at zero. -/
theorem run : θ_run defs (onTc (τ := τ) (main (F := F))) (s₀ m ρ)
    (fun r => (Pipeline.RDat.FramePost (cfgs 0) (fun c => (dats m 0 c).toRForget forgotten) (V m)) r
      ∧ r.2.sem = fun _ => 0) :=
  Pipeline.θ_run_frame_forget_shared (Q' := _) cfgs (dats m) (0 : Fin 1) launch₀0 defs₀ Variants.none forgotten m ρ main
    (hbody := fun c => (body_obligation m c).loose) (hq := fun _ _ _ => rfl)
    (howed := fun _ _ => rfl) (V := V m) (hmain := hmain m Variants.none) (hA := A_eq m) (hΦ := fun _ _ => rfl)

/-- The frame of the attention call: it ends, its six arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(Pipeline.RDat.FramePost.arr_in h.1 c 4 rfl).trans ((A_eq m c 4).trans (V_main_arg0 m c)),
      (Pipeline.RDat.FramePost.arr_in h.1 c 2 rfl).trans ((A_eq m c 2).trans (V_main_arg1 m c)),
      (Pipeline.RDat.FramePost.arr_in h.1 c 5 rfl).trans ((A_eq m c 5).trans (V_main_arg2 m c)),
      (Pipeline.RDat.FramePost.arr_in h.1 c 6 rfl).trans ((A_eq m c 6).trans (V_main_arg3 m c)),
      (Pipeline.RDat.FramePost.arr_in h.1 c 7 rfl).trans ((A_eq m c 7).trans (V_main_arg4 m c)),
      (Pipeline.RDat.FramePost.arr_in h.1 c 8 rfl).trans ((A_eq m c 8).trans (V_main_arg5 m c))⟩, h.2⟩) (run m ρ)

end Cert.AttnFrame

end
-- ==== Proof.Tail.Row.lean ====
/- One row of the layer's tail, over the extended reals: the function both the kernel and the reference compute of a row of their arguments. -/
module

public import Idealize.ShloMosaic.Lib.Pointwise
public import Idealize.ShloMosaic.PureOps.Ideal.Laws

@[expose] public section

noncomputable section

namespace Cert.TailValue

open Idealize.ShloMosaic

/-- A row divided by the root of its mean square (plus the small constant), times the gain. -/
def rms (v g : Fin 1024 → EReal) (j : Fin 1024) : EReal :=
  v j * Ideal.rsqrt (Ideal.div (∑ k : Fin 1024, v k * v k) (Ideal.ofBits .f32 0x44800000#32) + Ideal.ofBits .f32 0x358637BD#32) * g j

/-- A row times a matrix. -/
def rowMul {K N : Nat} (v : Fin K → EReal) (w : Fin K → Fin N → EReal) (j : Fin N) : EReal :=
  ∑ k : Fin K, v k * w k j

/-- The two halves of the mixers' outputs times the two halves of the output projection. -/
def mixRow (a b : Fin 512 → EReal) (w : Fin 1024 → Fin 1024 → EReal) (j : Fin 1024) : EReal :=
  rowMul a (fun k => w ⟨k.val, by omega⟩) j + rowMul b (fun k => w ⟨512 + k.val, by omega⟩) j

/-- The gated hidden row of the feed-forward part: `silu` of the first half of the columns times the second half. -/
def actRow (h : Fin 1024 → EReal) (w : Fin 1024 → Fin 5632 → EReal) (k : Fin 2816) : EReal :=
  rowMul h w ⟨k.val, by omega⟩ * Ideal.logistic (rowMul h w ⟨k.val, by omega⟩) * rowMul h w ⟨2816 + k.val, by omega⟩

/-- The residual row after the mixers. -/
def x1Row (x : Fin 1024 → EReal) (a b : Fin 512 → EReal) (wo : Fin 1024 → Fin 1024 → EReal) (gpost : Fin 1024 → EReal) (j : Fin 1024) : EReal :=
  x j + rms (mixRow a b wo) gpost j

/-- The residual row after the feed-forward part. -/
def x2Row (x1 gfpre : Fin 1024 → EReal) (wgu : Fin 1024 → Fin 5632 → EReal) (wd : Fin 2816 → Fin 1024 → EReal)
    (gfpost : Fin 1024 → EReal) (j : Fin 1024) : EReal :=
  x1 j + rms (rowMul (actRow (rms x1 gfpre) wgu) wd) gfpost j

/-- The residual row after the gated per-layer embedding. -/
def outRow (x2 gple : Fin 1024 → EReal) (wpg : Fin 1024 → Fin 1024 → EReal) (p : Fin 256 → EReal)
    (wpp : Fin 256 → Fin 1024 → EReal) (j : Fin 1024) : EReal :=
  x2 j + Ideal.logistic (rowMul (rms x2 gple) wpg j) * rowMul p wpp j

/-- The mixers' row as a function of the column. -/
theorem mixRow_def (a b : Fin 512 → EReal) (w : Fin 1024 → Fin 1024 → EReal) :
    mixRow a b w = fun j => rowMul a (fun k => w ⟨k.val, by omega⟩) j + rowMul b (fun k => w ⟨512 + k.val, by omega⟩) j := rfl

/-- The first residual row as a function of the column. -/
theorem x1Row_def (x : Fin 1024 → EReal) (a b : Fin 512 → EReal) (wo : Fin 1024 → Fin 1024 → EReal) (gpost : Fin 1024 → EReal) :
    x1Row x a b wo gpost = fun j => x j + rms (mixRow a b wo) gpost j := rfl

/-- The second residual row as a function of the column. -/
theorem x2Row_def (x1 gfpre : Fin 1024 → EReal) (wgu : Fin 1024 → Fin 5632 → EReal) (wd : Fin 2816 → Fin 1024 → EReal) (gfpost : Fin 1024 → EReal) :
    x2Row x1 gfpre wgu wd gfpost = fun j => x1 j + rms (rowMul (actRow (rms x1 gfpre) wgu) wd) gfpost j := rfl

end Cert.TailValue

end
-- ==== Proof.Tail.Pay.lean ====
/- The tail kernel's stored values read at an index, over the extended reals. -/
module

public import proofs.«01_k».proof.Proof.Gen.TailIdeal.Skeleton
public import proofs.«01_k».proof.Proof.Tail.Row

@[expose] public section

set_option maxRecDepth 16384

noncomputable section

namespace Cert.TailValue

open Idealize.ShloMosaic Cert.TailIdeal Cert.TailIdeal.Gen

/-- The gated product of one row with a gate column and an up column. -/
def gated (h : Fin 1024 → EReal) (wg wu : Fin 1024 → EReal) : EReal :=
  (∑ k : Fin 1024, h k * wg k) * Ideal.logistic (∑ k : Fin 1024, h k * wg k) * ∑ k : Fin 1024, h k * wu k

/-- The mixers' half-and-half product, rows of the first half of the block. -/
theorem pay2_row (v0 v4 : Vec Ideal S256x512 .bf16) (v1 v5 : Vec Ideal S1x512x1024 .bf16) (r : Fin 256) (j : Fin 1024) :
    k0_pay2 (F := Ideal) v0 v1 v4 v5 (ix2 r j)
      = rowMul (fun k => v0 (ix2 r k)) (fun k j => v1 (ix3 0 k j)) j + rowMul (fun k => v4 (ix2 r k)) (fun k j => v5 (ix3 0 k j)) j := by
  pointwise [k0_pay2, rowMul]

/-- The same, rows of the second half of the block. -/
theorem pay3_row (v0 v4 : Vec Ideal S256x512 .bf16) (v1 v5 : Vec Ideal S1x512x1024 .bf16) (r : Fin 256) (j : Fin 1024) :
    k0_pay3 (F := Ideal) v0 v1 v4 v5 (ix2 r j)
      = rowMul (fun k => v0 (ix2 r k)) (fun k j => v1 (ix3 0 k j)) j + rowMul (fun k => v4 (ix2 r k)) (fun k j => v5 (ix3 0 k j)) j := by
  pointwise [k0_pay3, rowMul]

/-- The first residual row, rows of the first half of the block. -/
theorem pay8_row (v0 v4 : Vec Ideal S256x512 .bf16) (v1 v5 : Vec Ideal S1x512x1024 .bf16) (v18 : Vec Ideal S256x1024 .f32)
    (v20 : Vec Ideal S1x1024 .f32) (r : Fin 256) (j : Fin 1024) :
    k0_pay8 (F := Ideal) (k0_pay2 v0 v1 v4 v5) (k0_pay4 v18) (k0_pay5 v20) (k0_pay6 v0 v1 v4 v5) k0_pay7 (ix2 r j)
      = v18 (ix2 r j) + rms (fun k => k0_pay2 (F := Ideal) v0 v1 v4 v5 (ix2 r k)) (fun k => v20 (ix2 0 k)) j := by
  generalize hv : k0_pay2 (F := Ideal) v0 v1 v4 v5 = v8
  pointwise [k0_pay8, k0_pay4, k0_pay5, k0_pay6, k0_pay7, hv, rms]

/-- The first residual row, rows of the second half of the block. -/
theorem pay9_row (v17 v35 : Vec Ideal S256x1024 .f32) (v37 : Vec Ideal S1x1024 .f32) (r : Fin 256) (j : Fin 1024) :
    k0_pay9 (F := Ideal) v17 v35 v37 (ix2 r j)
      = v35 (ix2 r j) + rms (fun k => v17 (ix2 r k)) (fun k => v37 (ix2 0 k)) j := by
  pointwise [k0_pay9, rms]

/-- The feed-forward part's normalised row, rows of the first half of the block. -/
theorem pay10_row (v8 v19 : Vec Ideal S256x1024 .f32) (v21 : Vec Ideal S1x1024 .f32) (v26 v27 : Vec Ideal S256x1 .f32)
    (v52 : Vec Ideal S1x1024 .f32) (r : Fin 256) (j : Fin 1024) :
    k0_pay10 (F := Ideal) v8 v19 v21 v26 v27 v52 (ix2 r j)
      = rms (fun k => k0_pay8 (F := Ideal) v8 v19 v21 v26 v27 (ix2 r k)) (fun k => v52 (ix2 0 k)) j := by
  generalize hv : k0_pay8 (F := Ideal) v8 v19 v21 v26 v27 = w
  pointwise [k0_pay10, hv, rms]

/-- The feed-forward part's normalised row, rows of the second half of the block. -/
theorem pay13_row (v17 v35 : Vec Ideal S256x1024 .f32) (v37 v67 : Vec Ideal S1x1024 .f32) (r : Fin 256) (j : Fin 1024) :
    k0_pay13 (F := Ideal) (k0_pay9 v17 v35 v37) (k0_pay11 v67) (k0_pay12 v17 v35 v37) (Scalar.ofBits .f32 0x44800000#32) (ix2 r j)
      = rms (fun k => k0_pay9 (F := Ideal) v17 v35 v37 (ix2 r k)) (fun k => v67 (ix2 0 k)) j := by
  generalize hv : k0_pay9 (F := Ideal) v17 v35 v37 = w
  pointwise [k0_pay13, k0_pay11, k0_pay12, hv, rms]

/-- The gated products of a chunk of columns. -/
theorem pay14_row (v66 : Vec Ideal S256x1024 .bf16) (v82 v88 : Vec Ideal S1x1024x1024 .bf16) (r : Fin 256) (j : Fin 1024) :
    k0_pay14 (F := Ideal) v66 v82 v88 (ix2 r j)
      = gated (fun k => v66 (ix2 r k)) (fun k => v82 (ix3 0 k j)) (fun k => v88 (ix3 0 k j)) := by
  pointwise [k0_pay14, gated]

/-- The gated products of a chunk of columns. -/
theorem pay15_row (v51 : Vec Ideal S256x1024 .f32) (v68 : Vec Ideal S1x1024 .f32) (v71 : Vec Ideal S256x1 .f32) (c : Ideal .f32)
    (v85 v91 : Vec Ideal S1x1024x1024 .bf16) (r : Fin 256) (j : Fin 1024) :
    k0_pay15 (F := Ideal) v51 v68 v71 c v85 v91 (ix2 r j)
      = gated (fun k => k0_pay13 (F := Ideal) v51 v68 v71 c (ix2 r k)) (fun k => v85 (ix3 0 k j)) (fun k => v91 (ix3 0 k j)) := by
  generalize hv : k0_pay13 (F := Ideal) v51 v68 v71 c = w
  pointwise [k0_pay15, hv, gated]

/-- The gated products of a chunk of columns. -/
theorem pay16_row (v66 : Vec Ideal S256x1024 .bf16) (v82 v88 : Vec Ideal S1x1024x1024 .bf16) (r : Fin 256) (j : Fin 1024) :
    k0_pay16 (F := Ideal) v66 v82 v88 (ix2 r j)
      = gated (fun k => v66 (ix2 r k)) (fun k => v82 (ix3 0 k j)) (fun k => v88 (ix3 0 k j)) := by
  pointwise [k0_pay16, gated]

/-- The gated products of a chunk of columns. -/
theorem pay17_row (v66 : Vec Ideal S256x1024 .bf16) (v82 v88 : Vec Ideal S1x1024x1024 .bf16) (r : Fin 256) (j : Fin 1024) :
    k0_pay17 (F := Ideal) v66 v82 v88 (ix2 r j)
      = gated (fun k => v66 (ix2 r k)) (fun k => v82 (ix3 0 k j)) (fun k => v88 (ix3 0 k j)) := by
  pointwise [k0_pay17, gated]

/-- The gated products of the last chunk of columns. -/
theorem pay20_row (v66 : Vec Ideal S256x1024 .bf16) (v134 v140 : Vec Ideal S1x1024x768 .bf16) (r : Fin 256) (j : Fin 768) :
    k0_pay20 (F := Ideal) v66 (k0_pay18 v66 v134) v140 (ix2 r j)
      = gated (fun k => v66 (ix2 r k)) (fun k => v134 (ix3 0 k j)) (fun k => v140 (ix3 0 k j)) := by
  pointwise [k0_pay20, k0_pay18, gated]

/-- The gated products of the last chunk of columns. -/
theorem pay21_row (v81 : Vec Ideal S256x1024 .bf16) (v137 v143 : Vec Ideal S1x1024x768 .bf16) (r : Fin 256) (j : Fin 768) :
    k0_pay21 (F := Ideal) v81 (k0_pay19 v137) (constant S256x768 .f32 0x00000000#32) v143 (ix2 r j)
      = gated (fun k => v81 (ix2 r k)) (fun k => v137 (ix3 0 k j)) (fun k => v143 (ix3 0 k j)) := by
  pointwise [k0_pay21, k0_pay19, gated]

/-- The down projection. -/
theorem pay22_row (v160 : Vec Ideal S256x2816 .bf16) (v161 : Vec Ideal S1x2816x1024 .bf16) (r : Fin 256) (j : Fin 1024) :
    k0_pay22 (F := Ideal) v160 v161 (ix2 r j) = rowMul (fun k => v160 (ix2 r k)) (fun k j => v161 (ix3 0 k j)) j := by
  pointwise [k0_pay22, rowMul]

/-- The down projection. -/
theorem pay23_row (v160 : Vec Ideal S256x2816 .bf16) (v161 : Vec Ideal S1x2816x1024 .bf16) (r : Fin 256) (j : Fin 1024) :
    k0_pay23 (F := Ideal) v160 v161 (ix2 r j) = rowMul (fun k => v160 (ix2 r k)) (fun k j => v161 (ix3 0 k j)) j := by
  pointwise [k0_pay23, rowMul]

/-- The second residual row. -/
theorem pay26_row (v34 : Vec Ideal S256x1024 .f32) (v160 : Vec Ideal S256x2816 .bf16) (v161 : Vec Ideal S1x2816x1024 .bf16)
    (v168 : Vec Ideal S1x1024 .f32) (r : Fin 256) (j : Fin 1024) :
    k0_pay26 (F := Ideal) v34 (k0_pay22 v160 v161) (k0_pay24 v168) (k0_pay25 v160 v161) (ix2 r j)
      = v34 (ix2 r j) + rms (fun k => k0_pay22 (F := Ideal) v160 v161 (ix2 r k)) (fun k => v168 (ix2 0 k)) j := by
  generalize hv : k0_pay22 (F := Ideal) v160 v161 = w
  pointwise [k0_pay26, k0_pay24, k0_pay25, hv, rms]

/-- The second residual row. -/
theorem pay27_row (v51 v167 : Vec Ideal S256x1024 .f32) (v183 : Vec Ideal S1x1024 .f32) (r : Fin 256) (j : Fin 1024) :
    k0_pay27 (F := Ideal) v51 v167 v183 (ix2 r j)
      = v51 (ix2 r j) + rms (fun k => v167 (ix2 r k)) (fun k => v183 (ix2 0 k)) j := by
  pointwise [k0_pay27, rms]

/-- The normalised row the gate reads. -/
theorem pay28_row (v34 v163 : Vec Ideal S256x1024 .f32) (v169 : Vec Ideal S1x1024 .f32) (v170 : Vec Ideal S256x1024 .f32)
    (v198 : Vec Ideal S1x1024 .f32) (r : Fin 256) (j : Fin 1024) :
    k0_pay28 (F := Ideal) v34 v163 v169 v170 v198 (ix2 r j)
      = rms (fun k => k0_pay26 (F := Ideal) v34 v163 v169 v170 (ix2 r k)) (fun k => v198 (ix2 0 k)) j := by
  generalize hv : k0_pay26 (F := Ideal) v34 v163 v169 v170 = w
  pointwise [k0_pay28, hv, rms]

/-- The gate, rows of the second half of the block. -/
theorem pay31_row (v51 v167 : Vec Ideal S256x1024 .f32) (v183 v213 : Vec Ideal S1x1024 .f32) (v232 : Vec Ideal S1x1024x1024 .bf16)
    (r : Fin 256) (j : Fin 1024) :
    k0_pay31 (F := Ideal) (k0_pay27 v51 v167 v183) (k0_pay29 v213) (k0_pay30 v51 v167 v183) v232 (ix2 r j)
      = Ideal.logistic (rowMul (rms (fun k => k0_pay27 (F := Ideal) v51 v167 v183 (ix2 r k)) (fun k => v213 (ix2 0 k)))
          (fun k j => v232 (ix3 0 k j)) j) := by
  generalize hv : k0_pay27 (F := Ideal) v51 v167 v183 = w
  pointwise [k0_pay31, k0_pay29, k0_pay30, hv, rms, rowMul]

/-- The projected per-layer embedding, rows of the second half of the block. -/
theorem pay32_row (v242 : Vec Ideal S1x256x256 .f32) (v245 : Vec Ideal S1x256x1024 .bf16) (r : Fin 256) (j : Fin 1024) :
    k0_pay32 (F := Ideal) v242 v245 (ix2 r j) = rowMul (fun k => v242 (ix3 0 r k)) (fun k j => v245 (ix3 0 k j)) j := by
  pointwise [k0_pay32, rowMul]

/-- The stored row, first half of the block. -/
theorem pay33_row (v182 : Vec Ideal S256x1024 .f32) (v212 : Vec Ideal S256x1024 .bf16) (v228 : Vec Ideal S1x1024x1024 .bf16)
    (v236 : Vec Ideal S1x256x256 .f32) (v239 : Vec Ideal S1x256x1024 .bf16) (r : Fin 256) (j : Fin 1024) :
    k0_pay33 (F := Ideal) v182 v212 v228 v236 v239 (ix2 r j)
      = v182 (ix2 r j) + Ideal.logistic (rowMul (fun k => v212 (ix2 r k)) (fun k j => v228 (ix3 0 k j)) j)
          * rowMul (fun k => v236 (ix3 0 r k)) (fun k j => v239 (ix3 0 k j)) j := by
  pointwise [k0_pay33, rowMul]

/-- The stored row, second half of the block. -/
theorem pay1_row (v197 v235 v247 : Vec Ideal S256x1024 .f32) (r : Fin 256) (j : Fin 1024) :
    k0_pay1 (F := Ideal) v197 v235 v247 (ix2 r j) = v197 (ix2 r j) + v235 (ix2 r j) * v247 (ix2 r j) := by
  pointwise [k0_pay1]

end Cert.TailValue

end
-- ==== Proof.Tail.Out.lean ====
/- What the tail kernel's body leaves in its output block, row by row. -/
module

public import proofs.«01_k».proof.Proof.Gen.TailIdeal.Value
public import proofs.«01_k».proof.Proof.Tail.Pay

@[expose] public section

set_option maxRecDepth 16384

noncomputable section

namespace Cert.TailValue

open Idealize.ShloMosaic Idealize.ShloMosaic.TcCoe Idealize.SL.Sem Cert.TailIdeal Cert.TailIdeal.Gen

/-- The first residual row of a block's row. -/
def blkX1 (x0 : Vec Ideal S512x1024 .f32) (x1 x2 : Vec Ideal S512x512 .bf16) (x4 : Vec Ideal S1x1024x1024 .bf16) (x5 : Vec Ideal S1x1024 .f32) (r : Fin 512) : Fin 1024 → EReal :=
  x1Row (fun k => x0 (ix2 r k)) (fun k => x1 (ix2 r k)) (fun k => x2 (ix2 r k)) (fun k j => x4 (ix3 0 k j)) (fun k => x5 (ix2 0 k))

/-- The gated hidden row of a block's row. -/
def blkAct (x0 : Vec Ideal S512x1024 .f32) (x1 x2 : Vec Ideal S512x512 .bf16) (x4 : Vec Ideal S1x1024x1024 .bf16) (x5 x6 : Vec Ideal S1x1024 .f32) (x7 : Vec Ideal S1x1024x5632 .bf16)
    (r : Fin 512) : Fin 2816 → EReal :=
  actRow (rms (blkX1 x0 x1 x2 x4 x5 r) (fun k => x6 (ix2 0 k))) (fun k j => x7 (ix3 0 k j))

/-- The output row of a block's row: the row function of the tail at the block's contents. -/
def blkOut (x0 : Vec Ideal S512x1024 .f32) (x1 x2 : Vec Ideal S512x512 .bf16) (x3 : Vec Ideal S1x512x256 .f32) (x4 : Vec Ideal S1x1024x1024 .bf16) (x5 x6 : Vec Ideal S1x1024 .f32) (x7 : Vec Ideal S1x1024x5632 .bf16) (x8 : Vec Ideal S1x2816x1024 .bf16) (x9 x10 : Vec Ideal S1x1024 .f32) (x11 : Vec Ideal S1x1024x1024 .bf16) (x12 : Vec Ideal S1x256x1024 .bf16) (r : Fin 512) : Fin 1024 → EReal :=
  outRow (x2Row (blkX1 x0 x1 x2 x4 x5 r) (fun k => x6 (ix2 0 k)) (fun k j => x7 (ix3 0 k j)) (fun k j => x8 (ix3 0 k j)) (fun k => x9 (ix2 0 k)))
    (fun k => x10 (ix2 0 k)) (fun k j => x11 (ix3 0 k j)) (fun k => x3 (ix3 0 r k)) (fun k j => x12 (ix3 0 k j))

/-- The output rows as a block. -/
def blkOutA (x0 : Vec Ideal S512x1024 .f32) (x1 x2 : Vec Ideal S512x512 .bf16) (x3 : Vec Ideal S1x512x256 .f32) (x4 : Vec Ideal S1x1024x1024 .bf16) (x5 x6 : Vec Ideal S1x1024 .f32) (x7 : Vec Ideal S1x1024x5632 .bf16) (x8 : Vec Ideal S1x2816x1024 .bf16) (x9 x10 : Vec Ideal S1x1024 .f32) (x11 : Vec Ideal S1x1024x1024 .bf16) (x12 : Vec Ideal S1x256x1024 .bf16) :
    Vec Ideal S512x1024 .f32 := fun y => blkOut x0 x1 x2 x3 x4 x5 x6 x7 x8 x9 x10 x11 x12 (y 0) (y 1)

/-- The hidden rows as the scratch's contents. -/
def blkActA (x0 : Vec Ideal S512x1024 .f32) (x1 x2 : Vec Ideal S512x512 .bf16) (x4 : Vec Ideal S1x1024x1024 .bf16) (x5 x6 : Vec Ideal S1x1024 .f32) (x7 : Vec Ideal S1x1024x5632 .bf16) :
    Vec Ideal S512x2816 .bf16 := fun y => blkAct x0 x1 x2 x4 x5 x6 x7 (y 0) (y 1)

/-- The block of output rows at an index, by its coordinates. -/
theorem blkOutA_at (x0 : Vec Ideal S512x1024 .f32) (x1 x2 : Vec Ideal S512x512 .bf16) (x3 : Vec Ideal S1x512x256 .f32) (x4 : Vec Ideal S1x1024x1024 .bf16) (x5 x6 : Vec Ideal S1x1024 .f32) (x7 : Vec Ideal S1x1024x5632 .bf16) (x8 : Vec Ideal S1x2816x1024 .bf16) (x9 x10 : Vec Ideal S1x1024 .f32) (x11 : Vec Ideal S1x1024x1024 .bf16) (x12 : Vec Ideal S1x256x1024 .bf16) (y : S512x1024.Idx) (r : Fin 512) (j : Fin 1024) (h0 : (y 0).val = r.val) (h1 : (y 1).val = j.val) :
    blkOutA x0 x1 x2 x3 x4 x5 x6 x7 x8 x9 x10 x11 x12 y = blkOut x0 x1 x2 x3 x4 x5 x6 x7 x8 x9 x10 x11 x12 r j := by
  obtain rfl : y = ix2 r j := (eq_ix2 y).trans (congrArg₂ ix2 (Fin.ext h0) (Fin.ext h1))
  rfl

/-- The scratch's contents at an index, by its coordinates. -/
theorem blkActA_at (x0 : Vec Ideal S512x1024 .f32) (x1 x2 : Vec Ideal S512x512 .bf16) (x4 : Vec Ideal S1x1024x1024 .bf16) (x5 x6 : Vec Ideal S1x1024 .f32) (x7 : Vec Ideal S1x1024x5632 .bf16) (y : S512x2816.Idx) (r : Fin 512) (j : Fin 2816) (h0 : (y 0).val = r.val) (h1 : (y 1).val = j.val) :
    blkActA x0 x1 x2 x4 x5 x6 x7 y = blkAct x0 x1 x2 x4 x5 x6 x7 r j := by
  obtain rfl : y = ix2 r j := (eq_ix2 y).trans (congrArg₂ ix2 (Fin.ext h0) (Fin.ext h1))
  rfl

/-- A row of the first half of a two-axis load. -/
theorem half_cover (y : S512x2816.Idx) (o0 o1 w : Nat) (inb : ∀ a, (![o0, o1] : Fin 2 → Nat) a + (![256, w] : Fin 2 → Nat) a ≤ S512x2816.size a)
    (h0 : o0 ≤ (y 0).val ∧ (y 0).val < o0 + 256) (h1 : o1 ≤ (y 1).val ∧ (y 1).val < o1 + w) :
    y ∈ (Rect.unit (s := S512x2816) ![o0, o1] ![256, w] inb).set :=
  Rect.mem_set_unit.2 fun a => match a with
    | ⟨0, _⟩ => h0
    | ⟨1, _⟩ => h1

/-- A load over stores that cover the scratch reads the function every store agrees with. -/
theorem read_scratch (v : View sig .tc .vmem S512x2816 .bf16) (L : List (View.Piece (Elt Ideal) S512x2816 .bf16)) (off : Nat)
    (inb : ∀ a, (![off, 0] : Fin 2 → Nat) a + S256x2816.size a ≤ S512x2816.size a) (A : Vec Ideal S512x2816 .bf16) (r : Fin 256) (hoff : off + r.val < 512)
    (hL : ∀ p ∈ L, ∀ x : p.1.shape.Idx, p.2 x = A (p.1.emb x))
    (hcov : ∀ y : S512x2816.Idx, ∃ p ∈ L, y ∈ p.1.set) :
    (fun k : Fin 2816 => v.readCov L (Rect.unit (s := S512x2816) ![off, 0] S256x2816.size inb).toLoadRect (ix2 r k)) = fun k => A (ix2 ⟨off + r.val, hoff⟩ k) := by
  funext k
  rw [View.readCov_eq_canon']
  refine (View.canon_apply_of_pieces A L hL _ (hcov _)).trans (congrArg A (funext fun a => Fin.ext ?_))
  match a with
  | ⟨0, _⟩ => show off + 1 * r.val = off + r.val; omega
  | ⟨1, _⟩ => show 0 + 1 * k.val = k.val; omega

/-- The six stores of the gated products cover the scratch. -/
theorem scratch_cover (w1 : S256x768.Idx → Elt Ideal .bf16) (w2 : S256x768.Idx → Elt Ideal .bf16) (w3 w4 w5 w6 : S256x1024.Idx → Elt Ideal .bf16) (y : S512x2816.Idx) :
    ∃ p ∈ ([⟨Rect.unit (s := S512x2816) ![256, 2048] S256x768.size inb_S512x2816_S256x768_256_2048, w1⟩, ⟨Rect.unit (s := S512x2816) ![0, 2048] S256x768.size inb_S512x2816_S256x768_0_2048, w2⟩,
      ⟨Rect.unit (s := S512x2816) ![256, 1024] S256x1024.size inb_S512x2816_S256x1024_256_1024, w3⟩, ⟨Rect.unit (s := S512x2816) ![0, 1024] S256x1024.size inb_S512x2816_S256x1024_0_1024, w4⟩,
      ⟨Rect.unit (s := S512x2816) ![256, 0] S256x1024.size inb_S512x2816_S256x1024_256_0, w5⟩, ⟨Rect.unit (s := S512x2816) ![0, 0] S256x1024.size inb_S512x2816_S256x1024_0_0, w6⟩] :
        List (View.Piece (Elt Ideal) S512x2816 .bf16)), y ∈ p.1.set := by
  have b0 : (y 0).val < 512 := (y 0).isLt
  have b1 : (y 1).val < 2816 := (y 1).isLt
  rcases Nat.lt_or_ge (y 0).val 256 with h0 | h0 <;> rcases Nat.lt_or_ge (y 1).val 1024 with h1 | h1
  · exact ⟨_, .tail _ (.tail _ (.tail _ (.tail _ (.tail _ (.head _))))), half_cover y 0 0 1024 inb_S512x2816_S256x1024_0_0 (by omega) (by omega)⟩
  · rcases Nat.lt_or_ge (y 1).val 2048 with h2 | h2
    · exact ⟨_, .tail _ (.tail _ (.tail _ (.head _))), half_cover y 0 1024 1024 inb_S512x2816_S256x1024_0_1024 (by omega) (by omega)⟩
    · exact ⟨_, .tail _ (.head _), half_cover y 0 2048 768 inb_S512x2816_S256x768_0_2048 (by omega) (by omega)⟩
  · exact ⟨_, .tail _ (.tail _ (.tail _ (.tail _ (.head _)))), half_cover y 256 0 1024 inb_S512x2816_S256x1024_256_0 (by omega) (by omega)⟩
  · rcases Nat.lt_or_ge (y 1).val 2048 with h2 | h2
    · exact ⟨_, .tail _ (.tail _ (.head _)), half_cover y 256 1024 1024 inb_S512x2816_S256x1024_256_1024 (by omega) (by omega)⟩
    · exact ⟨_, .head _, half_cover y 256 2048 768 inb_S512x2816_S256x768_256_2048 (by omega) (by omega)⟩

/-- The body leaves the tail's row function of its blocks in the output block. -/
theorem out_row (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x512x256 .f32) (harg4 : arg4.IsWhole) (arg5 : Memref sig .tc .vmem S1x1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024x5632 .bf16) (harg8 : arg8.IsWhole) (arg9 : Memref sig .tc .vmem S1x2816x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024x1024 .bf16) (harg12 : arg12.IsWhole) (arg13 : Memref sig .tc .vmem S1x256x1024 .bf16) (harg13 : arg13.IsWhole) (arg14 : Memref sig .tc .vmem S512x1024 .f32) (harg14 : arg14.IsWhole) (arg15 : Memref sig .tc .vmem S512x2816 .bf16) (harg15 : arg15.IsWhole)
    (x0 : Vec Ideal S512x1024 .f32) (x1 : Vec Ideal S512x512 .bf16) (x2 : Vec Ideal S512x512 .bf16) (x3 : Vec Ideal S1x512x256 .f32) (x4 : Vec Ideal S1x1024x1024 .bf16) (x5 : Vec Ideal S1x1024 .f32) (x6 : Vec Ideal S1x1024 .f32) (x7 : Vec Ideal S1x1024x5632 .bf16) (x8 : Vec Ideal S1x2816x1024 .bf16) (x9 : Vec Ideal S1x1024 .f32) (x10 : Vec Ideal S1x1024 .f32) (x11 : Vec Ideal S1x1024x1024 .bf16) (x12 : Vec Ideal S1x256x1024 .bf16) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 = blkOutA x0 x1 x2 x3 x4 x5 x6 x7 x8 x9 x10 x11 x12 := by
  funext y
  unfold out0_A_13
  rw [View.read_writes_junk_eq_canon]
  refine View.canon_apply_of_pieces (blkOutA x0 x1 x2 x3 x4 x5 x6 x7 x8 x9 x10 x11 x12) _ ?_ y (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  simp only [List.forall_mem_cons, List.not_mem_nil, false_imp_iff, implies_true, and_true]
  refine ⟨fun x => ?_, fun x => ?_⟩
  · obtain ⟨r, j, rfl⟩ : ∃ (r : Fin 256) (j : Fin 1024), x = ix2 r j := ⟨x 0, x 1, eq_ix2 x⟩
    refine Eq.trans ?_ (blkOutA_at x0 x1 x2 x3 x4 x5 x6 x7 x8 x9 x10 x11 x12 _ ⟨256 + r.val, by omega⟩ j (by show 256 + 1 * r.val = 256 + r.val; omega) (by show 0 + 1 * j.val = j.val; omega)).symm
    simp only [pay1_row, pay32_row, pay31_row, pay27_row, pay23_row, pay9_row, pay3_row]
    rw [read_scratch (A := blkActA x0 x1 x2 x4 x5 x6 x7) (hoff := by omega)]
    · simp only [blkOut, outRow, x2Row_def, blkX1, x1Row_def, mixRow_def, blkActA, blkAct]
      pointwise
    · simp only [List.forall_mem_cons, List.not_mem_nil, false_imp_iff, implies_true, and_true]
      refine ⟨fun x => ?_, fun x => ?_, fun x => ?_, fun x => ?_, fun x => ?_, fun x => ?_⟩
      · obtain ⟨r, j, rfl⟩ : ∃ (r : Fin 256) (j : Fin 768), x = ix2 r j := ⟨x 0, x 1, eq_ix2 x⟩
        refine Eq.trans ?_ (blkActA_at x0 x1 x2 x4 x5 x6 x7 _ ⟨256 + r.val, by omega⟩ ⟨2048 + j.val, by omega⟩ (by show 256 + 1 * r.val = 256 + r.val; omega) (by show 2048 + 1 * j.val = 2048 + j.val; omega)).symm
        simp only [pay21_row, pay13_row, pay9_row, pay3_row, gated, blkAct, actRow, rowMul, blkX1, x1Row_def, mixRow_def]
        pointwise
        simp only [← Nat.add_assoc, Nat.reduceAdd]
      · obtain ⟨r, j, rfl⟩ : ∃ (r : Fin 256) (j : Fin 768), x = ix2 r j := ⟨x 0, x 1, eq_ix2 x⟩
        refine Eq.trans ?_ (blkActA_at x0 x1 x2 x4 x5 x6 x7 _ ⟨0 + r.val, by omega⟩ ⟨2048 + j.val, by omega⟩ (by show 0 + 1 * r.val = 0 + r.val; omega) (by show 2048 + 1 * j.val = 2048 + j.val; omega)).symm
        simp only [pay20_row, pay10_row, pay8_row, pay2_row, gated, blkAct, actRow, rowMul, blkX1, x1Row_def, mixRow_def]
        pointwise
        simp only [← Nat.add_assoc, Nat.reduceAdd]
      · obtain ⟨r, j, rfl⟩ : ∃ (r : Fin 256) (j : Fin 1024), x = ix2 r j := ⟨x 0, x 1, eq_ix2 x⟩
        refine Eq.trans ?_ (blkActA_at x0 x1 x2 x4 x5 x6 x7 _ ⟨256 + r.val, by omega⟩ ⟨1024 + j.val, by omega⟩ (by show 256 + 1 * r.val = 256 + r.val; omega) (by show 1024 + 1 * j.val = 1024 + j.val; omega)).symm
        simp only [pay17_row, pay13_row, pay9_row, pay3_row, gated, blkAct, actRow, rowMul, blkX1, x1Row_def, mixRow_def]
        pointwise
        simp only [← Nat.add_assoc, Nat.reduceAdd]
      · obtain ⟨r, j, rfl⟩ : ∃ (r : Fin 256) (j : Fin 1024), x = ix2 r j := ⟨x 0, x 1, eq_ix2 x⟩
        refine Eq.trans ?_ (blkActA_at x0 x1 x2 x4 x5 x6 x7 _ ⟨0 + r.val, by omega⟩ ⟨1024 + j.val, by omega⟩ (by show 0 + 1 * r.val = 0 + r.val; omega) (by show 1024 + 1 * j.val = 1024 + j.val; omega)).symm
        simp only [pay16_row, pay10_row, pay8_row, pay2_row, gated, blkAct, actRow, rowMul, blkX1, x1Row_def, mixRow_def]
        pointwise
        simp only [← Nat.add_assoc, Nat.reduceAdd]
      · obtain ⟨r, j, rfl⟩ : ∃ (r : Fin 256) (j : Fin 1024), x = ix2 r j := ⟨x 0, x 1, eq_ix2 x⟩
        refine Eq.trans ?_ (blkActA_at x0 x1 x2 x4 x5 x6 x7 _ ⟨256 + r.val, by omega⟩ ⟨0 + j.val, by omega⟩ (by show 256 + 1 * r.val = 256 + r.val; omega) (by show 0 + 1 * j.val = 0 + j.val; omega)).symm
        simp only [pay15_row, pay13_row, pay9_row, pay3_row, gated, blkAct, actRow, rowMul, blkX1, x1Row_def, mixRow_def]
        pointwise
      · obtain ⟨r, j, rfl⟩ : ∃ (r : Fin 256) (j : Fin 1024), x = ix2 r j := ⟨x 0, x 1, eq_ix2 x⟩
        refine Eq.trans ?_ (blkActA_at x0 x1 x2 x4 x5 x6 x7 _ ⟨0 + r.val, by omega⟩ ⟨0 + j.val, by omega⟩ (by show 0 + 1 * r.val = 0 + r.val; omega) (by show 0 + 1 * j.val = 0 + j.val; omega)).symm
        simp only [pay14_row, pay10_row, pay8_row, pay2_row, gated, blkAct, actRow, rowMul, blkX1, x1Row_def, mixRow_def]
        pointwise
    · exact fun y => scratch_cover _ _ _ _ _ _ y
  · obtain ⟨r, j, rfl⟩ : ∃ (r : Fin 256) (j : Fin 1024), x = ix2 r j := ⟨x 0, x 1, eq_ix2 x⟩
    refine Eq.trans ?_ (blkOutA_at x0 x1 x2 x3 x4 x5 x6 x7 x8 x9 x10 x11 x12 _ ⟨0 + r.val, by omega⟩ j (by show 0 + 1 * r.val = 0 + r.val; omega) (by show 0 + 1 * j.val = j.val; omega)).symm
    simp only [pay33_row, pay26_row, pay28_row, pay22_row, pay8_row, pay2_row]
    rw [read_scratch (A := blkActA x0 x1 x2 x4 x5 x6 x7) (hoff := by omega)]
    · simp only [blkOut, outRow, x2Row_def, blkX1, x1Row_def, mixRow_def, blkActA, blkAct]
      pointwise
    · simp only [List.forall_mem_cons, List.not_mem_nil, false_imp_iff, implies_true, and_true]
      refine ⟨fun x => ?_, fun x => ?_, fun x => ?_, fun x => ?_, fun x => ?_, fun x => ?_⟩
      · obtain ⟨r, j, rfl⟩ : ∃ (r : Fin 256) (j : Fin 768), x = ix2 r j := ⟨x 0, x 1, eq_ix2 x⟩
        refine Eq.trans ?_ (blkActA_at x0 x1 x2 x4 x5 x6 x7 _ ⟨256 + r.val, by omega⟩ ⟨2048 + j.val, by omega⟩ (by show 256 + 1 * r.val = 256 + r.val; omega) (by show 2048 + 1 * j.val = 2048 + j.val; omega)).symm
        simp only [pay21_row, pay13_row, pay9_row, pay3_row, gated, blkAct, actRow, rowMul, blkX1, x1Row_def, mixRow_def]
        pointwise
        simp only [← Nat.add_assoc, Nat.reduceAdd]
      · obtain ⟨r, j, rfl⟩ : ∃ (r : Fin 256) (j : Fin 768), x = ix2 r j := ⟨x 0, x 1, eq_ix2 x⟩
        refine Eq.trans ?_ (blkActA_at x0 x1 x2 x4 x5 x6 x7 _ ⟨0 + r.val, by omega⟩ ⟨2048 + j.val, by omega⟩ (by show 0 + 1 * r.val = 0 + r.val; omega) (by show 2048 + 1 * j.val = 2048 + j.val; omega)).symm
        simp only [pay20_row, pay10_row, pay8_row, pay2_row, gated, blkAct, actRow, rowMul, blkX1, x1Row_def, mixRow_def]
        pointwise
        simp only [← Nat.add_assoc, Nat.reduceAdd]
      · obtain ⟨r, j, rfl⟩ : ∃ (r : Fin 256) (j : Fin 1024), x = ix2 r j := ⟨x 0, x 1, eq_ix2 x⟩
        refine Eq.trans ?_ (blkActA_at x0 x1 x2 x4 x5 x6 x7 _ ⟨256 + r.val, by omega⟩ ⟨1024 + j.val, by omega⟩ (by show 256 + 1 * r.val = 256 + r.val; omega) (by show 1024 + 1 * j.val = 1024 + j.val; omega)).symm
        simp only [pay17_row, pay13_row, pay9_row, pay3_row, gated, blkAct, actRow, rowMul, blkX1, x1Row_def, mixRow_def]
        pointwise
        simp only [← Nat.add_assoc, Nat.reduceAdd]
      · obtain ⟨r, j, rfl⟩ : ∃ (r : Fin 256) (j : Fin 1024), x = ix2 r j := ⟨x 0, x 1, eq_ix2 x⟩
        refine Eq.trans ?_ (blkActA_at x0 x1 x2 x4 x5 x6 x7 _ ⟨0 + r.val, by omega⟩ ⟨1024 + j.val, by omega⟩ (by show 0 + 1 * r.val = 0 + r.val; omega) (by show 1024 + 1 * j.val = 1024 + j.val; omega)).symm
        simp only [pay16_row, pay10_row, pay8_row, pay2_row, gated, blkAct, actRow, rowMul, blkX1, x1Row_def, mixRow_def]
        pointwise
        simp only [← Nat.add_assoc, Nat.reduceAdd]
      · obtain ⟨r, j, rfl⟩ : ∃ (r : Fin 256) (j : Fin 1024), x = ix2 r j := ⟨x 0, x 1, eq_ix2 x⟩
        refine Eq.trans ?_ (blkActA_at x0 x1 x2 x4 x5 x6 x7 _ ⟨256 + r.val, by omega⟩ ⟨0 + j.val, by omega⟩ (by show 256 + 1 * r.val = 256 + r.val; omega) (by show 0 + 1 * j.val = 0 + j.val; omega)).symm
        simp only [pay15_row, pay13_row, pay9_row, pay3_row, gated, blkAct, actRow, rowMul, blkX1, x1Row_def, mixRow_def]
        pointwise
      · obtain ⟨r, j, rfl⟩ : ∃ (r : Fin 256) (j : Fin 1024), x = ix2 r j := ⟨x 0, x 1, eq_ix2 x⟩
        refine Eq.trans ?_ (blkActA_at x0 x1 x2 x4 x5 x6 x7 _ ⟨0 + r.val, by omega⟩ ⟨0 + j.val, by omega⟩ (by show 0 + 1 * r.val = 0 + r.val; omega) (by show 0 + 1 * j.val = 0 + j.val; omega)).symm
        simp only [pay14_row, pay10_row, pay8_row, pay2_row, gated, blkAct, actRow, rowMul, blkX1, x1Row_def, mixRow_def]
        pointwise
    · exact fun y => scratch_cover _ _ _ _ _ _ y

end Cert.TailValue

end
-- ==== Proof.Tail.Arr.lean ====
/- The array the tail kernel leaves: each row the tail's row function of that row of the arguments. -/
module

public import proofs.«01_k».proof.Proof.Tail.Out

@[expose] public section

set_option maxRecDepth 16384

noncomputable section

namespace Cert.TailValue

open Cert.TailIdeal Cert.TailIdeal.Gen Idealize.ShloMosaic Idealize.ShloMosaic.TcCoe Idealize.SL.Sem
open Idealize.ShloMosaic.Pipeline (Dat)

/-- The whole result: row `4096·b + s` is the tail's row function of token `s` of batch `b`, with layer three's weights. -/
def tailArr (x : Vec Ideal S4x4096x1024 .f32) (a b : Vec Ideal S16384x512 .bf16) (p : Vec Ideal S4x4x4096x256 .f32) (wo : Vec Ideal S4x1024x1024 .f32)
    (gpost gfpre : Vec Ideal S4x1024 .f32) (wgu : Vec Ideal S4x1024x5632 .f32) (wd : Vec Ideal S4x2816x1024 .f32) (gfpost gple : Vec Ideal S4x1024 .f32)
    (wpg : Vec Ideal S4x1024x1024 .f32) (wpp : Vec Ideal S4x256x1024 .f32) (q : Fin 4) (s : Fin 4096) : Fin 1024 → EReal :=
  outRow (x2Row (x1Row (fun k => x (ix3 q s k)) (fun k => a (ix2 ⟨4096 * q.val + s.val, by omega⟩ k)) (fun k => b (ix2 ⟨4096 * q.val + s.val, by omega⟩ k))
      (fun k j => wo (ix3 3 k j)) (fun k => gpost (ix2 3 k)))
    (fun k => gfpre (ix2 3 k)) (fun k j => wgu (ix3 3 k j)) (fun k j => wd (ix3 3 k j)) (fun k => gfpost (ix2 3 k)))
    (fun k => gple (ix2 3 k)) (fun k j => wpg (ix3 3 k j)) (fun k => p (ix4 3 q s k)) (fun k j => wpp (ix3 3 k j))

variable (m : (ℓ : Loc nD τ sig) → Buf (Elt Ideal) ℓ)

/-- Row `n` of the result at the kernel's own layout, from the launch memory. -/
def resultRow (c : Dev nD) (n : Fin 16384) : Fin 1024 → EReal :=
  tailArr (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12)) ⟨n.val / 4096, by omega⟩ ⟨n.val % 4096, by omega⟩

/-- The result at the kernel's own layout. -/
def result (c : Dev nD) : Vec Ideal S16384x1024 .f32 := fun i => resultRow m c (i 0) (i 1)

/-- Batches and tokens merged into one axis. -/
theorem merge3 (x : Vec Ideal S4x4096x1024 .f32) (i : S16384x1024.Idx) : shapeCast S16384x1024 x shapeCasts_S4x4096x1024_S16384x1024 i
    = x (ix3 ⟨(i 0).val / 4096, by have h : (i 0).val < 16384 := (i 0).isLt; omega⟩ ⟨(i 0).val % 4096, by omega⟩ (i 1)) := by
  refine shapeCast_apply x shapeCasts_S4x4096x1024_S16384x1024 i _ ?_
  rewrite [Shape.rowMajor_val_three, Shape.rowMajor_val_two]
  show ((i 0).val / 4096 * 4096 + (i 0).val % 4096) * 1024 + (i 1).val = (i 0).val * 1024 + (i 1).val
  omega

/-- The same of the embeddings' array. -/
theorem merge4 (x : Vec Ideal S4x4x4096x256 .f32) (i : S4x16384x256.Idx) : shapeCast S4x16384x256 x shapeCasts_S4x4x4096x256_S4x16384x256 i
    = x (ix4 (i 0) ⟨(i 1).val / 4096, by have h : (i 1).val < 16384 := (i 1).isLt; omega⟩ ⟨(i 1).val % 4096, by omega⟩ (i 2)) := by
  refine shapeCast_apply x shapeCasts_S4x4x4096x256_S4x16384x256 i _ ?_
  rewrite [Shape.rowMajor_val_four, Shape.rowMajor_val_three]
  show (((i 0).val * 4 + (i 1).val / 4096) * 4096 + (i 1).val % 4096) * 256 + (i 2).val = ((i 0).val * 16384 + (i 1).val) * 256 + (i 2).val
  omega

/-- A gain's row, sliced out, flattened and laid out as a row again. -/
theorem gainRow (x : Vec Ideal S4x1024 .f32) (i : S1x1024.Idx) :
    broadcastInDim S1x1024 ![1] bcast_S1024_S1x1024_1 (shapeCast S1024 (extractStridedSlice S1x1024 ![3, 0] x slices_S4x1024_S1x1024_3_0) shapeCasts_S1x1024_S1024) i = x (ix2 3 (i 1)) := by
  obtain ⟨q, k, rfl⟩ : ∃ (q : Fin 1) (k : Fin 1024), i = ix2 q k := ⟨i 0, i 1, eq_ix2 i⟩
  pointwise

/-! ## The arrays the windows stage, from the arguments -/

theorem V_main_v5 (c : Dev nD) (i : S16384x1024.Idx) : V m c main_v5 i = m ((c : Thread nD τ).loc main_arg0) (ix3 ⟨(i 0).val / 4096, by have h : (i 0).val < 16384 := (i 0).isLt; omega⟩ ⟨(i 0).val % 4096, by omega⟩ (i 1)) := by
  have e : V m c main_v5 = shapeCast S16384x1024 (m ((c : Thread nD τ).loc main_arg0)) shapeCasts_S4x4096x1024_S16384x1024 := by unfold V; after_results <;> rfl
  rw [e]
  exact merge3 _ i

theorem V_main_v6 (c : Dev nD) (i : S4x16384x256.Idx) : V m c main_v6 i = m ((c : Thread nD τ).loc main_arg3) (ix4 (i 0) ⟨(i 1).val / 4096, by have h : (i 1).val < 16384 := (i 1).isLt; omega⟩ ⟨(i 1).val % 4096, by omega⟩ (i 2)) := by
  have e : V m c main_v6 = shapeCast S4x16384x256 (m ((c : Thread nD τ).loc main_arg3)) shapeCasts_S4x4x4096x256_S4x16384x256 := by unfold V; after_results <;> rfl
  rw [e]
  exact merge4 _ i

theorem V_main_v0 (c : Dev nD) (i : S4x1024x5632.Idx) : V m c main_v0 i = m ((c : Thread nD τ).loc main_arg7) i := by
  have e : V m c main_v0 = ((truncf (F := Ideal) .bf16 · bitsLt_bf16_f32) : (⟨S4x1024x5632, .f32⟩ : BufTy).Contents (Elt Ideal) → (⟨S4x1024x5632, .bf16⟩ : BufTy).Contents (Elt Ideal)) (m ((c : Thread nD τ).loc main_arg7)) := by unfold V; after_results <;> rfl
  rw [e]
  rfl

theorem V_main_v1 (c : Dev nD) (i : S4x2816x1024.Idx) : V m c main_v1 i = m ((c : Thread nD τ).loc main_arg8) i := by
  have e : V m c main_v1 = ((truncf (F := Ideal) .bf16 · bitsLt_bf16_f32) : (⟨S4x2816x1024, .f32⟩ : BufTy).Contents (Elt Ideal) → (⟨S4x2816x1024, .bf16⟩ : BufTy).Contents (Elt Ideal)) (m ((c : Thread nD τ).loc main_arg8)) := by unfold V; after_results <;> rfl
  rw [e]
  rfl

theorem V_main_v2 (c : Dev nD) (i : S4x1024x1024.Idx) : V m c main_v2 i = m ((c : Thread nD τ).loc main_arg4) i := by
  have e : V m c main_v2 = ((truncf (F := Ideal) .bf16 · bitsLt_bf16_f32) : (⟨S4x1024x1024, .f32⟩ : BufTy).Contents (Elt Ideal) → (⟨S4x1024x1024, .bf16⟩ : BufTy).Contents (Elt Ideal)) (m ((c : Thread nD τ).loc main_arg4)) := by unfold V; after_results <;> rfl
  rw [e]
  rfl

theorem V_main_v3 (c : Dev nD) (i : S4x1024x1024.Idx) : V m c main_v3 i = m ((c : Thread nD τ).loc main_arg11) i := by
  have e : V m c main_v3 = ((truncf (F := Ideal) .bf16 · bitsLt_bf16_f32) : (⟨S4x1024x1024, .f32⟩ : BufTy).Contents (Elt Ideal) → (⟨S4x1024x1024, .bf16⟩ : BufTy).Contents (Elt Ideal)) (m ((c : Thread nD τ).loc main_arg11)) := by unfold V; after_results <;> rfl
  rw [e]
  rfl

theorem V_main_v4 (c : Dev nD) (i : S4x256x1024.Idx) : V m c main_v4 i = m ((c : Thread nD τ).loc main_arg12) i := by
  have e : V m c main_v4 = ((truncf (F := Ideal) .bf16 · bitsLt_bf16_f32) : (⟨S4x256x1024, .f32⟩ : BufTy).Contents (Elt Ideal) → (⟨S4x256x1024, .bf16⟩ : BufTy).Contents (Elt Ideal)) (m ((c : Thread nD τ).loc main_arg12)) := by unfold V; after_results <;> rfl
  rw [e]
  rfl

theorem V_main_v9 (c : Dev nD) (i : S1x1024.Idx) : V m c main_v9 i = m ((c : Thread nD τ).loc main_arg5) (ix2 3 (i 1)) := by
  have e : V m c main_v9 = broadcastInDim S1x1024 ![1] bcast_S1024_S1x1024_1 (shapeCast S1024 (extractStridedSlice S1x1024 ![3, 0] (m ((c : Thread nD τ).loc main_arg5)) slices_S4x1024_S1x1024_3_0) shapeCasts_S1x1024_S1024) := by unfold V; after_results <;> rfl
  rw [e]
  exact gainRow _ i

theorem V_main_v12 (c : Dev nD) (i : S1x1024.Idx) : V m c main_v12 i = m ((c : Thread nD τ).loc main_arg6) (ix2 3 (i 1)) := by
  have e : V m c main_v12 = broadcastInDim S1x1024 ![1] bcast_S1024_S1x1024_1 (shapeCast S1024 (extractStridedSlice S1x1024 ![3, 0] (m ((c : Thread nD τ).loc main_arg6)) slices_S4x1024_S1x1024_3_0) shapeCasts_S1x1024_S1024) := by unfold V; after_results <;> rfl
  rw [e]
  exact gainRow _ i

theorem V_main_v15 (c : Dev nD) (i : S1x1024.Idx) : V m c main_v15 i = m ((c : Thread nD τ).loc main_arg9) (ix2 3 (i 1)) := by
  have e : V m c main_v15 = broadcastInDim S1x1024 ![1] bcast_S1024_S1x1024_1 (shapeCast S1024 (extractStridedSlice S1x1024 ![3, 0] (m ((c : Thread nD τ).loc main_arg9)) slices_S4x1024_S1x1024_3_0) shapeCasts_S1x1024_S1024) := by unfold V; after_results <;> rfl
  rw [e]
  exact gainRow _ i

theorem V_main_v18 (c : Dev nD) (i : S1x1024.Idx) : V m c main_v18 i = m ((c : Thread nD τ).loc main_arg10) (ix2 3 (i 1)) := by
  have e : V m c main_v18 = broadcastInDim S1x1024 ![1] bcast_S1024_S1x1024_1 (shapeCast S1024 (extractStridedSlice S1x1024 ![3, 0] (m ((c : Thread nD τ).loc main_arg10)) slices_S4x1024_S1x1024_3_0) shapeCasts_S1x1024_S1024) := by unfold V; after_results <;> rfl
  rw [e]
  exact gainRow _ i

/-! ## The windows' blocks -/

theorem idx0 : ∀ t : Fin cfg0.N, win0_0.index t (0 : Fin 2) = t.val ∧ win0_0.index t (1 : Fin 2) = 0 := (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 := (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 := (by decide +kernel : ∀ t : Fin grid0.N, win0_2.index t (0 : Fin 2) = t.val ∧ win0_2.index t (1 : Fin 2) = 0)
theorem idx3 : ∀ t : Fin cfg0.N, win0_3.index t (0 : Fin 3) = 3 ∧ win0_3.index t (1 : Fin 3) = t.val ∧ win0_3.index t (2 : Fin 3) = 0 := (by decide +kernel : ∀ t : Fin grid0.N, win0_3.index t (0 : Fin 3) = 3 ∧ win0_3.index t (1 : Fin 3) = t.val ∧ win0_3.index t (2 : Fin 3) = 0)
theorem idx4 : ∀ t : Fin cfg0.N, win0_4.index t (0 : Fin 3) = 3 ∧ win0_4.index t (1 : Fin 3) = 0 ∧ win0_4.index t (2 : Fin 3) = 0 := (by decide +kernel : ∀ t : Fin grid0.N, win0_4.index t (0 : Fin 3) = 3 ∧ win0_4.index t (1 : Fin 3) = 0 ∧ win0_4.index t (2 : Fin 3) = 0)
theorem idx5 : ∀ t : Fin cfg0.N, win0_5.index t (0 : Fin 2) = 0 ∧ win0_5.index t (1 : Fin 2) = 0 := (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 := (by decide +kernel : ∀ t : Fin grid0.N, win0_6.index t (0 : Fin 2) = 0 ∧ win0_6.index t (1 : Fin 2) = 0)
theorem idx7 : ∀ t : Fin cfg0.N, win0_7.index t (0 : Fin 3) = 3 ∧ win0_7.index t (1 : Fin 3) = 0 ∧ win0_7.index t (2 : Fin 3) = 0 := (by decide +kernel : ∀ t : Fin grid0.N, win0_7.index t (0 : Fin 3) = 3 ∧ win0_7.index t (1 : Fin 3) = 0 ∧ win0_7.index t (2 : Fin 3) = 0)
theorem idx8 : ∀ t : Fin cfg0.N, win0_8.index t (0 : Fin 3) = 3 ∧ win0_8.index t (1 : Fin 3) = 0 ∧ win0_8.index t (2 : Fin 3) = 0 := (by decide +kernel : ∀ t : Fin grid0.N, win0_8.index t (0 : Fin 3) = 3 ∧ win0_8.index t (1 : Fin 3) = 0 ∧ win0_8.index t (2 : Fin 3) = 0)
theorem idx9 : ∀ t : Fin cfg0.N, win0_9.index t (0 : Fin 2) = 0 ∧ win0_9.index t (1 : Fin 2) = 0 := (by decide +kernel : ∀ t : Fin grid0.N, win0_9.index t (0 : Fin 2) = 0 ∧ win0_9.index t (1 : Fin 2) = 0)
theorem idx10 : ∀ t : Fin cfg0.N, win0_10.index t (0 : Fin 2) = 0 ∧ win0_10.index t (1 : Fin 2) = 0 := (by decide +kernel : ∀ t : Fin grid0.N, win0_10.index t (0 : Fin 2) = 0 ∧ win0_10.index t (1 : Fin 2) = 0)
theorem idx11 : ∀ t : Fin cfg0.N, win0_11.index t (0 : Fin 3) = 3 ∧ win0_11.index t (1 : Fin 3) = 0 ∧ win0_11.index t (2 : Fin 3) = 0 := (by decide +kernel : ∀ t : Fin grid0.N, win0_11.index t (0 : Fin 3) = 3 ∧ win0_11.index t (1 : Fin 3) = 0 ∧ win0_11.index t (2 : Fin 3) = 0)
theorem idx12 : ∀ t : Fin cfg0.N, win0_12.index t (0 : Fin 3) = 3 ∧ win0_12.index t (1 : Fin 3) = 0 ∧ win0_12.index t (2 : Fin 3) = 0 := (by decide +kernel : ∀ t : Fin grid0.N, win0_12.index t (0 : Fin 3) = 3 ∧ win0_12.index t (1 : Fin 3) = 0 ∧ win0_12.index t (2 : Fin 3) = 0)
theorem idx13 : ∀ t : Fin cfg0.N, win0_13.index t (0 : Fin 2) = t.val ∧ win0_13.index t (1 : Fin 2) = 0 := (by decide +kernel : ∀ t : Fin grid0.N, win0_13.index t (0 : Fin 2) = t.val ∧ win0_13.index t (1 : Fin 2) = 0)

theorem blk0 (c : Dev nD) (t : Fin cfg0.N) (r : Fin 512) (k : Fin 1024) : (iblk m c 0 t : Vec Ideal S512x1024 .f32) (ix2 r k) = m ((c : Thread nD τ).loc main_arg0) (ix3 ⟨(512 * t.val + r.val) / 4096, by have ht : t.val < 32 := t.isLt; omega⟩ ⟨(512 * t.val + r.val) % 4096, by omega⟩ k) := by
  have ht : t.val < 32 := t.isLt
  obtain ⟨h0, h1⟩ := idx0 t
  unfold iblk
  rw [View.read_apply]
  refine (V_main_v5 m c _).trans (congrArg _ (funext fun a => Fin.ext ?_))
  match a with
    | ⟨0, _⟩ => show (win0_0.index t 0 * 512 + 1 * r.val) / 4096 = (512 * t.val + r.val) / 4096; rw [h0]; omega
    | ⟨1, _⟩ => show (win0_0.index t 0 * 512 + 1 * r.val) % 4096 = (512 * t.val + r.val) % 4096; rw [h0]; omega
    | ⟨2, _⟩ => show win0_0.index t 1 * 1024 + 1 * k.val = k.val; rw [h1]; omega

theorem blk1 (c : Dev nD) (t : Fin cfg0.N) (r : Fin 512) (k : Fin 512) : (iblk m c 1 t : Vec Ideal S512x512 .bf16) (ix2 r k) = m ((c : Thread nD τ).loc main_arg1) (ix2 ⟨512 * t.val + r.val, by have ht : t.val < 32 := t.isLt; omega⟩ k) := by
  have ht : t.val < 32 := t.isLt
  obtain ⟨h0, h1⟩ := idx1 t
  unfold iblk
  rw [View.read_apply]
  refine (congrFun (V_main_arg1 m c) _).trans (congrArg _ (funext fun a => Fin.ext ?_))
  match a with
    | ⟨0, _⟩ => show win0_1.index t 0 * 512 + 1 * r.val = 512 * t.val + r.val; rw [h0]; omega
    | ⟨1, _⟩ => show win0_1.index t 1 * 512 + 1 * k.val = k.val; rw [h1]; omega

theorem blk2 (c : Dev nD) (t : Fin cfg0.N) (r : Fin 512) (k : Fin 512) : (iblk m c 2 t : Vec Ideal S512x512 .bf16) (ix2 r k) = m ((c : Thread nD τ).loc main_arg2) (ix2 ⟨512 * t.val + r.val, by have ht : t.val < 32 := t.isLt; omega⟩ k) := by
  have ht : t.val < 32 := t.isLt
  obtain ⟨h0, h1⟩ := idx2 t
  unfold iblk
  rw [View.read_apply]
  refine (congrFun (V_main_arg2 m c) _).trans (congrArg _ (funext fun a => Fin.ext ?_))
  match a with
    | ⟨0, _⟩ => show win0_2.index t 0 * 512 + 1 * r.val = 512 * t.val + r.val; rw [h0]; omega
    | ⟨1, _⟩ => show win0_2.index t 1 * 512 + 1 * k.val = k.val; rw [h1]; omega

theorem blk3 (c : Dev nD) (t : Fin cfg0.N) (r : Fin 512) (k : Fin 256) : (iblk m c 3 t : Vec Ideal S1x512x256 .f32) (ix3 0 r k) = m ((c : Thread nD τ).loc main_arg3) (ix4 3 ⟨(512 * t.val + r.val) / 4096, by have ht : t.val < 32 := t.isLt; omega⟩ ⟨(512 * t.val + r.val) % 4096, by omega⟩ k) := by
  have ht : t.val < 32 := t.isLt
  obtain ⟨h0, h1, h2⟩ := idx3 t
  unfold iblk
  rw [View.read_apply]
  refine (V_main_v6 m c _).trans (congrArg _ (funext fun a => Fin.ext ?_))
  match a with
    | ⟨0, _⟩ => show win0_3.index t 0 * 1 + 1 * 0 = 3; rw [h0]
    | ⟨1, _⟩ => show (win0_3.index t 1 * 512 + 1 * r.val) / 4096 = (512 * t.val + r.val) / 4096; rw [h1]; omega
    | ⟨2, _⟩ => show (win0_3.index t 1 * 512 + 1 * r.val) % 4096 = (512 * t.val + r.val) % 4096; rw [h1]; omega
    | ⟨3, _⟩ => show win0_3.index t 2 * 256 + 1 * k.val = k.val; rw [h2]; omega

theorem blk4 (c : Dev nD) (t : Fin cfg0.N) (k : Fin 1024) (j : Fin 1024) : (iblk m c 4 t : Vec Ideal S1x1024x1024 .bf16) (ix3 0 k j) = m ((c : Thread nD τ).loc main_arg4) (ix3 3 k j) := by
  have ht : t.val < 32 := t.isLt
  obtain ⟨h0, h1, h2⟩ := idx4 t
  unfold iblk
  rw [View.read_apply]
  refine (V_main_v2 m c _).trans (congrArg _ (funext fun a => Fin.ext ?_))
  match a with
    | ⟨0, _⟩ => show win0_4.index t 0 * 1 + 1 * 0 = 3; rw [h0]
    | ⟨1, _⟩ => show win0_4.index t 1 * 1024 + 1 * k.val = k.val; rw [h1]; omega
    | ⟨2, _⟩ => show win0_4.index t 2 * 1024 + 1 * j.val = j.val; rw [h2]; omega

theorem blk7 (c : Dev nD) (t : Fin cfg0.N) (k : Fin 1024) (j : Fin 5632) : (iblk m c 7 t : Vec Ideal S1x1024x5632 .bf16) (ix3 0 k j) = m ((c : Thread nD τ).loc main_arg7) (ix3 3 k j) := by
  have ht : t.val < 32 := t.isLt
  obtain ⟨h0, h1, h2⟩ := idx7 t
  unfold iblk
  rw [View.read_apply]
  refine (V_main_v0 m c _).trans (congrArg _ (funext fun a => Fin.ext ?_))
  match a with
    | ⟨0, _⟩ => show win0_7.index t 0 * 1 + 1 * 0 = 3; rw [h0]
    | ⟨1, _⟩ => show win0_7.index t 1 * 1024 + 1 * k.val = k.val; rw [h1]; omega
    | ⟨2, _⟩ => show win0_7.index t 2 * 5632 + 1 * j.val = j.val; rw [h2]; omega

theorem blk8 (c : Dev nD) (t : Fin cfg0.N) (k : Fin 2816) (j : Fin 1024) : (iblk m c 8 t : Vec Ideal S1x2816x1024 .bf16) (ix3 0 k j) = m ((c : Thread nD τ).loc main_arg8) (ix3 3 k j) := by
  have ht : t.val < 32 := t.isLt
  obtain ⟨h0, h1, h2⟩ := idx8 t
  unfold iblk
  rw [View.read_apply]
  refine (V_main_v1 m c _).trans (congrArg _ (funext fun a => Fin.ext ?_))
  match a with
    | ⟨0, _⟩ => show win0_8.index t 0 * 1 + 1 * 0 = 3; rw [h0]
    | ⟨1, _⟩ => show win0_8.index t 1 * 2816 + 1 * k.val = k.val; rw [h1]; omega
    | ⟨2, _⟩ => show win0_8.index t 2 * 1024 + 1 * j.val = j.val; rw [h2]; omega

theorem blk11 (c : Dev nD) (t : Fin cfg0.N) (k : Fin 1024) (j : Fin 1024) : (iblk m c 11 t : Vec Ideal S1x1024x1024 .bf16) (ix3 0 k j) = m ((c : Thread nD τ).loc main_arg11) (ix3 3 k j) := by
  have ht : t.val < 32 := t.isLt
  obtain ⟨h0, h1, h2⟩ := idx11 t
  unfold iblk
  rw [View.read_apply]
  refine (V_main_v3 m c _).trans (congrArg _ (funext fun a => Fin.ext ?_))
  match a with
    | ⟨0, _⟩ => show win0_11.index t 0 * 1 + 1 * 0 = 3; rw [h0]
    | ⟨1, _⟩ => show win0_11.index t 1 * 1024 + 1 * k.val = k.val; rw [h1]; omega
    | ⟨2, _⟩ => show win0_11.index t 2 * 1024 + 1 * j.val = j.val; rw [h2]; omega

theorem blk12 (c : Dev nD) (t : Fin cfg0.N) (k : Fin 256) (j : Fin 1024) : (iblk m c 12 t : Vec Ideal S1x256x1024 .bf16) (ix3 0 k j) = m ((c : Thread nD τ).loc main_arg12) (ix3 3 k j) := by
  have ht : t.val < 32 := t.isLt
  obtain ⟨h0, h1, h2⟩ := idx12 t
  unfold iblk
  rw [View.read_apply]
  refine (V_main_v4 m c _).trans (congrArg _ (funext fun a => Fin.ext ?_))
  match a with
    | ⟨0, _⟩ => show win0_12.index t 0 * 1 + 1 * 0 = 3; rw [h0]
    | ⟨1, _⟩ => show win0_12.index t 1 * 256 + 1 * k.val = k.val; rw [h1]; omega
    | ⟨2, _⟩ => show win0_12.index t 2 * 1024 + 1 * j.val = j.val; rw [h2]; omega

theorem blk5 (c : Dev nD) (t : Fin cfg0.N) (k : Fin 1024) : (iblk m c 5 t : Vec Ideal S1x1024 .f32) (ix2 0 k) = m ((c : Thread nD τ).loc main_arg5) (ix2 3 k) := by
  have ht : t.val < 32 := t.isLt
  obtain ⟨h0, h1⟩ := idx5 t
  unfold iblk
  rw [View.read_apply]
  refine (V_main_v9 m c _).trans (congrArg _ (funext fun a => Fin.ext ?_))
  match a with
    | ⟨0, _⟩ => rfl
    | ⟨1, _⟩ => show win0_5.index t 1 * 1024 + 1 * k.val = k.val; rw [h1]; omega

theorem blk6 (c : Dev nD) (t : Fin cfg0.N) (k : Fin 1024) : (iblk m c 6 t : Vec Ideal S1x1024 .f32) (ix2 0 k) = m ((c : Thread nD τ).loc main_arg6) (ix2 3 k) := by
  have ht : t.val < 32 := t.isLt
  obtain ⟨h0, h1⟩ := idx6 t
  unfold iblk
  rw [View.read_apply]
  refine (V_main_v12 m c _).trans (congrArg _ (funext fun a => Fin.ext ?_))
  match a with
    | ⟨0, _⟩ => rfl
    | ⟨1, _⟩ => show win0_6.index t 1 * 1024 + 1 * k.val = k.val; rw [h1]; omega

theorem blk9 (c : Dev nD) (t : Fin cfg0.N) (k : Fin 1024) : (iblk m c 9 t : Vec Ideal S1x1024 .f32) (ix2 0 k) = m ((c : Thread nD τ).loc main_arg9) (ix2 3 k) := by
  have ht : t.val < 32 := t.isLt
  obtain ⟨h0, h1⟩ := idx9 t
  unfold iblk
  rw [View.read_apply]
  refine (V_main_v15 m c _).trans (congrArg _ (funext fun a => Fin.ext ?_))
  match a with
    | ⟨0, _⟩ => rfl
    | ⟨1, _⟩ => show win0_9.index t 1 * 1024 + 1 * k.val = k.val; rw [h1]; omega

theorem blk10 (c : Dev nD) (t : Fin cfg0.N) (k : Fin 1024) : (iblk m c 10 t : Vec Ideal S1x1024 .f32) (ix2 0 k) = m ((c : Thread nD τ).loc main_arg10) (ix2 3 k) := by
  have ht : t.val < 32 := t.isLt
  obtain ⟨h0, h1⟩ := idx10 t
  unfold iblk
  rw [View.read_apply]
  refine (V_main_v18 m c _).trans (congrArg _ (funext fun a => Fin.ext ?_))
  match a with
    | ⟨0, _⟩ => rfl
    | ⟨1, _⟩ => show win0_10.index t 1 * 1024 + 1 * k.val = k.val; rw [h1]; omega

/-! ## The array after the run -/

/-- What each point writes back is its rows of the whole result. -/
theorem flushed_eq (c : Dev nD) (t : Fin cfg0.N) : (dats m 0 c).flushed 13 t = ((cfg0.win 13).blk t).view.read (Elt Ideal) (result m c) := by
  have ht : t.val < 32 := t.isLt
  obtain ⟨h0, h1⟩ := idx13 t
  rw [Cert.TailIdeal.Value.flushed13_A, out_row]
  funext y
  obtain ⟨r, j, rfl⟩ : ∃ (r : Fin 512) (j : Fin 1024), y = ix2 r j := ⟨y 0, y 1, eq_ix2 y⟩
  rw [View.read_apply]
  have hi : ((cfg0.win 13).blk t).view.emb (ix2 r j) = (ix2 ⟨512 * t.val + r.val, by omega⟩ j : S16384x1024.Idx) := funext fun a => Fin.ext (by
    match a with
    | ⟨0, _⟩ => show win0_13.index t 0 * 512 + 1 * r.val = 512 * t.val + r.val; rw [h0]; omega
    | ⟨1, _⟩ => show win0_13.index t 1 * 1024 + 1 * j.val = j.val; rw [h1]; omega)
  refine Eq.trans ?_ (congrArg (result m c) hi).symm
  show blkOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r j = resultRow m c ⟨512 * t.val + r.val, by omega⟩ j
  unfold blkOut blkX1
  simp only [blk0, blk1, blk2, blk3, blk4, blk5, blk6, blk7, blk8, blk9, blk10, blk11, blk12]
  have e : ∀ h, (⟨4096 * ((512 * t.val + r.val) / 4096) + (512 * t.val + r.val) % 4096, h⟩ : Fin 16384) = ⟨512 * t.val + r.val, by omega⟩ := fun h => Fin.ext (by show 4096 * ((512 * t.val + r.val) / 4096) + (512 * t.val + r.val) % 4096 = 512 * t.val + r.val; omega)
  unfold resultRow tailArr
  simp only [e]

/-- Every index of the result lies in some point's block. -/
theorem cover (i : S16384x1024.Idx) : ∃ t : Fin cfg0.N, (cfg0.win 13).flush t = true ∧ i ∈ ((cfg0.win 13).blk t).view.set := by
  have hi0 : (i 0).val < 16384 := (i 0).isLt
  have hi1 : (i 1).val < 1024 := (i 1).isLt
  have hN : (i 0).val / 512 < cfg0.N := by show _ < 32; omega
  obtain ⟨h0, h1⟩ := idx13 ⟨(i 0).val / 512, hN⟩
  refine ⟨⟨(i 0).val / 512, hN⟩, flush0_13 _, ?_⟩
  show i ∈ ((View.whole main_v19).slice (win0_13.rect ⟨(i 0).val / 512, hN⟩)).set
  rw [View.set_slice_whole, Rect.mem_set_unit]
  intro a
  match a with
  | ⟨0, _⟩ => show win0_13.index _ 0 * 512 ≤ (i 0).val ∧ (i 0).val < win0_13.index _ 0 * 512 + 512; rw [h0]; dsimp only; omega
  | ⟨1, _⟩ => show win0_13.index _ 1 * 1024 ≤ (i 1).val ∧ (i 1).val < win0_13.index _ 1 * 1024 + 1024; rw [h1]; omega

/-- The result array after the run. -/
theorem final (c : Dev nD) : (dats m 0 c).arrAt 13 cfg0.N = result m c :=
  (dats m 0 c).arrAt_eq_of_cover 13 (result m c) (fun t _ => flushed_eq m c t) cover

end Cert.TailValue

end
-- ==== Proof.Tail.Ref.lean ====
/- The reference's result, row by row. -/
module

public import proofs.«01_k».proof.Proof.Gen.TailReferenceIdeal.Read
public import proofs.«01_k».proof.Proof.Tail.Row
public import Idealize.ShloMosaic.Lib.Pointwise

@[expose] public section

set_option maxRecDepth 16384

noncomputable section

namespace Cert.TailRefValue

open Cert.TailValue Cert.TailReferenceIdeal Cert.TailReferenceIdeal.Gen Cert.TailReferenceIdeal.Read Idealize.ShloMosaic Idealize.ShloMosaic.TcCoe Idealize.SL.Sem

/-- One over one plus the exponential of the negated argument is the logistic function. -/
theorem sigmoid_eq (x : EReal) :
    Ideal.div (Ideal.ofBits .f32 0x3F800000#32) (Ideal.ofBits .f32 0x3F800000#32 + Ideal.exp (-x)) = Ideal.logistic x := by
  rw [Ideal.ofBits_one_f32]; rfl

/-- A sum over the joined columns is the sum of the sums over the two halves. -/
theorem sum_halves (f : Fin 1024 → EReal) :
    ∑ k : Fin 1024, f k = ∑ k : Fin 512, f ⟨k.val, by omega⟩ + ∑ k : Fin 512, f ⟨512 + k.val, by omega⟩ :=
  Fin.sum_univ_add (a := 512) (b := 512) f

/-- The left half of the joined mixers' outputs. -/
theorem join_left (x1 : Vec Ideal S16384x512 .bf16) (x2 : Vec Ideal S16384x512 .bf16) (n : Fin 16384) (k : Fin 512) :
    val_main_v2 (F := Ideal) x1 x2 (ix2 n ⟨k.val, by omega⟩) = x1 (ix2 n k) := by
  unfold val_main_v2
  exact (concatenate_pair_apply_left (1 : Fin S16384x1024.rank) (val_main_v0 (F := Ideal) x1) (val_main_v1 (F := Ideal) x2) _ (ix2 n ⟨k.val, by omega⟩) rfl (ix2 n k : S16384x512.Idx)
    (fun a => match a with | ⟨0, _⟩ => rfl | ⟨1, _⟩ => rfl)).trans rfl

/-- The right half of the joined mixers' outputs. -/
theorem join_right (x1 : Vec Ideal S16384x512 .bf16) (x2 : Vec Ideal S16384x512 .bf16) (n : Fin 16384) (k : Fin 512) :
    val_main_v2 (F := Ideal) x1 x2 (ix2 n ⟨512 + k.val, by omega⟩) = x2 (ix2 n k) := by
  unfold val_main_v2
  exact (concatenate_pair_apply_right (1 : Fin S16384x1024.rank) (val_main_v0 (F := Ideal) x1) (val_main_v1 (F := Ideal) x2) _ (ix2 n ⟨512 + k.val, by omega⟩) rfl rfl (ix2 n k : S16384x512.Idx)
    (fun a => match a with | ⟨0, _⟩ => fun _ => rfl | ⟨1, _⟩ => fun h => absurd rfl h) (by show k.val + 512 = 512 + k.val; omega)).trans rfl

/-- The joined outputs, a row of a sequence. -/
theorem row3 (x1 : Vec Ideal S16384x512 .bf16) (x2 : Vec Ideal S16384x512 .bf16) (q : Fin 4) (s : Fin 4096) (k : Fin 1024) :
    val_main_v3 (F := Ideal) x1 x2 (ix3 q s k) = val_main_v2 (F := Ideal) x1 x2 (ix2 ⟨4096 * q.val + s.val, by omega⟩ k) := by
  rw [val_main_v3_apply]
  generalize val_main_v2 (F := Ideal) x1 x2 = y
  exact congrArg y (funext fun a => match a with
    | ⟨0, _⟩ => Fin.ext (by show ((q.val * 4096 + s.val) * 1024 + k.val) / 1024 = 4096 * q.val + s.val; omega)
    | ⟨1, _⟩ => Fin.ext (by show ((q.val * 4096 + s.val) * 1024 + k.val) % 1024 = k.val; omega))

/-- The layer's matrix. -/
theorem weight4 (x4 : Vec Ideal S4x1024x1024 .f32) (k : Fin 1024) (j : Fin 1024) :
    val_main_v5 (F := Ideal) x4 (ix2 k j) = x4 (ix3 3 k j) := by
  rw [val_main_v5_apply, val_main_v4_apply]
  exact congrArg x4 (funext fun a => match a with
    | ⟨0, _⟩ => Fin.ext (by show 3 + 0 = 3; omega)
    | ⟨1, _⟩ => Fin.ext (by show (k.val * 1024 + j.val) / 1024 % 1024 = k.val; omega)
    | ⟨2, _⟩ => Fin.ext (by show (k.val * 1024 + j.val) % 1024 = j.val; omega))

/-- The mixers' outputs times the output projection. -/
theorem mix6 (x1 : Vec Ideal S16384x512 .bf16) (x2 : Vec Ideal S16384x512 .bf16) (x4 : Vec Ideal S4x1024x1024 .f32) (q : Fin 4) (s : Fin 4096) (j : Fin 1024) :
    val_main_v6 (F := Ideal) x1 x2 x4 (ix3 q s j) = mixRow (fun k => x1 (ix2 ⟨4096 * q.val + s.val, by omega⟩ k)) (fun k => x2 (ix2 ⟨4096 * q.val + s.val, by omega⟩ k)) (fun k j => x4 (ix3 3 k j)) j := by
  have h : ∀ k : Fin 1024, val_main_v3 (F := Ideal) x1 x2 (lidx_main_v6 (ix3 q s j) k) * val_main_v5 (F := Ideal) x4 (ridx_main_v6 (ix3 q s j) k)
      = val_main_v2 (F := Ideal) x1 x2 (ix2 ⟨4096 * q.val + s.val, by omega⟩ k) * x4 (ix3 3 k j) := fun k => by
    rw [show ridx_main_v6 (ix3 q s j) k = ix2 k j from funext fun a => match a with | ⟨0, _⟩ => rfl | ⟨1, _⟩ => rfl, weight4,
      show lidx_main_v6 (ix3 q s j) k = ix3 q s k from funext fun a => match a with | ⟨0, _⟩ => rfl | ⟨1, _⟩ => rfl | ⟨2, _⟩ => rfl, row3]
  rw [val_main_v6_apply, Finset.sum_congr rfl fun k _ => h k, sum_halves]
  refine congrArg₂ (· + ·) (Finset.sum_congr rfl fun k _ => ?_) (Finset.sum_congr rfl fun k _ => ?_)
  · rw [join_left]
  · rw [join_right]

/-- The layer's gain. -/
theorem gain7 (x5 : Vec Ideal S4x1024 .f32) (q : Fin 4) (s : Fin 4096) (j : Fin 1024) :
    val_main_v20 (F := Ideal) x5 (ix3 q s j) = x5 (ix2 3 j) := by
  rw [val_main_v20_apply, val_main_v19_apply, val_main_v8_apply, val_main_v7_apply]
  exact congrArg x5 (funext fun a => match a with
    | ⟨0, _⟩ => Fin.ext (by show 3 + 0 = 3; omega)
    | ⟨1, _⟩ => Fin.ext (by show j.val % 1024 = j.val; omega))

/-- The sum of a row's squares. -/
theorem sq7 (x1 : Vec Ideal S16384x512 .bf16) (x2 : Vec Ideal S16384x512 .bf16) (x4 : Vec Ideal S4x1024x1024 .f32) (q : Fin 4) (s : Fin 4096) :
    val_main_v10 (F := Ideal) x1 x2 x4 (ix2 q s) = ∑ k : Fin 1024, val_main_v6 (F := Ideal) x1 x2 x4 (ix3 q s k) * val_main_v6 (F := Ideal) x1 x2 x4 (ix3 q s k) := by
  rw [val_main_v10_apply, val_main_cst_apply]
  refine (congrArg₂ (· + ·) (Ideal.ofBits_zero_f32) (Finset.sum_congr rfl fun k _ => ?_)).trans (zero_add _)
  rw [val_main_v9_apply, show idx_main_v10 (ix2 q s) k = ix3 q s k from funext fun a => match a with | ⟨0, _⟩ => rfl | ⟨1, _⟩ => rfl | ⟨2, _⟩ => rfl]
  rfl

/-- The reciprocal root of a row's mean square. -/
theorem inv7 (x1 : Vec Ideal S16384x512 .bf16) (x2 : Vec Ideal S16384x512 .bf16) (x4 : Vec Ideal S4x1024x1024 .f32) (q : Fin 4) (s : Fin 4096) (j : Fin 1024) :
    val_main_v17 (F := Ideal) x1 x2 x4 (ix3 q s j) = Ideal.rsqrt (Ideal.div (∑ k : Fin 1024, val_main_v6 (F := Ideal) x1 x2 x4 (ix3 q s k) * val_main_v6 (F := Ideal) x1 x2 x4 (ix3 q s k)) (Ideal.ofBits .f32 0x44800000#32) + Ideal.ofBits .f32 0x358637BD#32) := by
  rw [← sq7, val_main_v17_apply, val_main_v16_apply, val_main_v15_apply, val_main_v13_apply, val_main_v14_apply, val_main_v12_apply, val_main_v11_apply, val_main_cst_0_apply, val_main_cst_1_apply,
    show idx_main_v11 (idx_main_v17 (ix3 q s j)) = ix2 q s from funext fun a => match a with | ⟨0, _⟩ => rfl | ⟨1, _⟩ => rfl]
  rfl

/-- A normalized row. -/
theorem rms7 (x1 : Vec Ideal S16384x512 .bf16) (x2 : Vec Ideal S16384x512 .bf16) (x4 : Vec Ideal S4x1024x1024 .f32) (x5 : Vec Ideal S4x1024 .f32) (q : Fin 4) (s : Fin 4096) (j : Fin 1024) :
    val_main_v21 (F := Ideal) x1 x2 x4 x5 (ix3 q s j) = rms (fun k => val_main_v6 (F := Ideal) x1 x2 x4 (ix3 q s k)) (fun k => x5 (ix2 3 k)) j := by
  rw [val_main_v21_apply, val_main_v18_apply, inv7, gain7]
  rfl

/-- The residual row after the mixers. -/
theorem res22 (x0 : Vec Ideal S4x4096x1024 .f32) (x1 : Vec Ideal S16384x512 .bf16) (x2 : Vec Ideal S16384x512 .bf16) (x4 : Vec Ideal S4x1024x1024 .f32) (x5 : Vec Ideal S4x1024 .f32) (q : Fin 4) (s : Fin 4096) (j : Fin 1024) :
    val_main_v22 (F := Ideal) x0 x1 x2 x4 x5 (ix3 q s j) = (x1Row (fun k => x0 (ix3 q s k)) (fun k => x1 (ix2 ⟨4096 * q.val + s.val, by omega⟩ k)) (fun k => x2 (ix2 ⟨4096 * q.val + s.val, by omega⟩ k)) (fun k j => x4 (ix3 3 k j)) (fun k => x5 (ix2 3 k))) j := by
  rw [val_main_v22_apply, rms7]
  simp only [mix6]
  rfl

/-- The layer's gain. -/
theorem gain23 (x6 : Vec Ideal S4x1024 .f32) (q : Fin 4) (s : Fin 4096) (j : Fin 1024) :
    val_main_v36 (F := Ideal) x6 (ix3 q s j) = x6 (ix2 3 j) := by
  rw [val_main_v36_apply, val_main_v35_apply, val_main_v24_apply, val_main_v23_apply]
  exact congrArg x6 (funext fun a => match a with
    | ⟨0, _⟩ => Fin.ext (by show 3 + 0 = 3; omega)
    | ⟨1, _⟩ => Fin.ext (by show j.val % 1024 = j.val; omega))

/-- The sum of a row's squares. -/
theorem sq23 (x0 : Vec Ideal S4x4096x1024 .f32) (x1 : Vec Ideal S16384x512 .bf16) (x2 : Vec Ideal S16384x512 .bf16) (x4 : Vec Ideal S4x1024x1024 .f32) (x5 : Vec Ideal S4x1024 .f32) (q : Fin 4) (s : Fin 4096) :
    val_main_v26 (F := Ideal) x0 x1 x2 x4 x5 (ix2 q s) = ∑ k : Fin 1024, val_main_v22 (F := Ideal) x0 x1 x2 x4 x5 (ix3 q s k) * val_main_v22 (F := Ideal) x0 x1 x2 x4 x5 (ix3 q s k) := by
  rw [val_main_v26_apply, val_main_cst_2_apply]
  refine (congrArg₂ (· + ·) (Ideal.ofBits_zero_f32) (Finset.sum_congr rfl fun k _ => ?_)).trans (zero_add _)
  rw [val_main_v25_apply, show idx_main_v26 (ix2 q s) k = ix3 q s k from funext fun a => match a with | ⟨0, _⟩ => rfl | ⟨1, _⟩ => rfl | ⟨2, _⟩ => rfl]
  rfl

/-- The reciprocal root of a row's mean square. -/
theorem inv23 (x0 : Vec Ideal S4x4096x1024 .f32) (x1 : Vec Ideal S16384x512 .bf16) (x2 : Vec Ideal S16384x512 .bf16) (x4 : Vec Ideal S4x1024x1024 .f32) (x5 : Vec Ideal S4x1024 .f32) (q : Fin 4) (s : Fin 4096) (j : Fin 1024) :
    val_main_v33 (F := Ideal) x0 x1 x2 x4 x5 (ix3 q s j) = Ideal.rsqrt (Ideal.div (∑ k : Fin 1024, val_main_v22 (F := Ideal) x0 x1 x2 x4 x5 (ix3 q s k) * val_main_v22 (F := Ideal) x0 x1 x2 x4 x5 (ix3 q s k)) (Ideal.ofBits .f32 0x44800000#32) + Ideal.ofBits .f32 0x358637BD#32) := by
  rw [← sq23, val_main_v33_apply, val_main_v32_apply, val_main_v31_apply, val_main_v29_apply, val_main_v30_apply, val_main_v28_apply, val_main_v27_apply, val_main_cst_3_apply, val_main_cst_4_apply,
    show idx_main_v27 (idx_main_v33 (ix3 q s j)) = ix2 q s from funext fun a => match a with | ⟨0, _⟩ => rfl | ⟨1, _⟩ => rfl]
  rfl

/-- A normalized row. -/
theorem rms23 (x0 : Vec Ideal S4x4096x1024 .f32) (x1 : Vec Ideal S16384x512 .bf16) (x2 : Vec Ideal S16384x512 .bf16) (x4 : Vec Ideal S4x1024x1024 .f32) (x5 : Vec Ideal S4x1024 .f32) (x6 : Vec Ideal S4x1024 .f32) (q : Fin 4) (s : Fin 4096) (j : Fin 1024) :
    val_main_v37 (F := Ideal) x0 x1 x2 x4 x5 x6 (ix3 q s j) = rms (fun k => val_main_v22 (F := Ideal) x0 x1 x2 x4 x5 (ix3 q s k)) (fun k => x6 (ix2 3 k)) j := by
  rw [val_main_v37_apply, val_main_v34_apply, inv23, gain23]
  rfl

/-- The layer's matrix. -/
theorem weight38 (x7 : Vec Ideal S4x1024x5632 .f32) (k : Fin 1024) (j : Fin 5632) :
    val_main_v39 (F := Ideal) x7 (ix2 k j) = x7 (ix3 3 k j) := by
  rw [val_main_v39_apply, val_main_v38_apply]
  exact congrArg x7 (funext fun a => match a with
    | ⟨0, _⟩ => Fin.ext (by show 3 + 0 = 3; omega)
    | ⟨1, _⟩ => Fin.ext (by show (k.val * 5632 + j.val) / 5632 % 1024 = k.val; omega)
    | ⟨2, _⟩ => Fin.ext (by show (k.val * 5632 + j.val) % 5632 = j.val; omega))

/-- A product with the layer's matrix, row by row. -/
theorem dot40 (x0 : Vec Ideal S4x4096x1024 .f32) (x1 : Vec Ideal S16384x512 .bf16) (x2 : Vec Ideal S16384x512 .bf16) (x4 : Vec Ideal S4x1024x1024 .f32) (x5 : Vec Ideal S4x1024 .f32) (x6 : Vec Ideal S4x1024 .f32) (x7 : Vec Ideal S4x1024x5632 .f32) (q : Fin 4) (s : Fin 4096) (j : Fin 5632) :
    val_main_v40 (F := Ideal) x0 x1 x2 x4 x5 x6 x7 (ix3 q s j) = rowMul (fun k => val_main_v37 (F := Ideal) x0 x1 x2 x4 x5 x6 (ix3 q s k)) (fun k j => x7 (ix3 3 k j)) j := by
  rw [val_main_v40_apply]
  refine Finset.sum_congr rfl fun k _ => ?_
  rw [show ridx_main_v40 (ix3 q s j) k = ix2 k j from funext fun a => match a with | ⟨0, _⟩ => rfl | ⟨1, _⟩ => rfl, weight38,
    show lidx_main_v40 (ix3 q s j) k = ix3 q s k from funext fun a => match a with | ⟨0, _⟩ => rfl | ⟨1, _⟩ => rfl | ⟨2, _⟩ => rfl]

/-- A half of the product's columns. -/
theorem half41 (x0 : Vec Ideal S4x4096x1024 .f32) (x1 : Vec Ideal S16384x512 .bf16) (x2 : Vec Ideal S16384x512 .bf16) (x4 : Vec Ideal S4x1024x1024 .f32) (x5 : Vec Ideal S4x1024 .f32) (x6 : Vec Ideal S4x1024 .f32) (x7 : Vec Ideal S4x1024x5632 .f32) (q : Fin 4) (s : Fin 4096) (k : Fin 2816) :
    val_main_v41 (F := Ideal) x0 x1 x2 x4 x5 x6 x7 (ix3 q s k) = val_main_v40 (F := Ideal) x0 x1 x2 x4 x5 x6 x7 (ix3 q s ⟨k.val, by omega⟩) := by
  rw [val_main_v41_apply]
  exact congrArg (val_main_v40 (F := Ideal) x0 x1 x2 x4 x5 x6 x7) (funext fun a => match a with | ⟨0, _⟩ => rfl | ⟨1, _⟩ => rfl | ⟨2, _⟩ => rfl)

/-- A half of the product's columns. -/
theorem half42 (x0 : Vec Ideal S4x4096x1024 .f32) (x1 : Vec Ideal S16384x512 .bf16) (x2 : Vec Ideal S16384x512 .bf16) (x4 : Vec Ideal S4x1024x1024 .f32) (x5 : Vec Ideal S4x1024 .f32) (x6 : Vec Ideal S4x1024 .f32) (x7 : Vec Ideal S4x1024x5632 .f32) (q : Fin 4) (s : Fin 4096) (k : Fin 2816) :
    val_main_v42 (F := Ideal) x0 x1 x2 x4 x5 x6 x7 (ix3 q s k) = val_main_v40 (F := Ideal) x0 x1 x2 x4 x5 x6 x7 (ix3 q s ⟨2816 + k.val, by omega⟩) := by
  rw [val_main_v42_apply]
  exact congrArg (val_main_v40 (F := Ideal) x0 x1 x2 x4 x5 x6 x7) (funext fun a => match a with | ⟨0, _⟩ => rfl | ⟨1, _⟩ => rfl | ⟨2, _⟩ => rfl)

/-- The logistic function of the gate's half. -/
theorem sig48 (x0 : Vec Ideal S4x4096x1024 .f32) (x1 : Vec Ideal S16384x512 .bf16) (x2 : Vec Ideal S16384x512 .bf16) (x4 : Vec Ideal S4x1024x1024 .f32) (x5 : Vec Ideal S4x1024 .f32) (x6 : Vec Ideal S4x1024 .f32) (x7 : Vec Ideal S4x1024x5632 .f32) (q : Fin 4) (s : Fin 4096) (k : Fin 2816) :
    val_main_v48 (F := Ideal) x0 x1 x2 x4 x5 x6 x7 (ix3 q s k) = Ideal.logistic (val_main_v41 (F := Ideal) x0 x1 x2 x4 x5 x6 x7 (ix3 q s k)) := by
  rw [← sigmoid_eq, val_main_v48_apply, val_main_v47_apply, val_main_v46_apply, val_main_v45_apply, val_main_v44_apply, val_main_v43_apply, val_main_cst_5_apply, val_main_cst_6_apply]
  rfl

/-- The gated hidden row. -/
theorem act50 (x0 : Vec Ideal S4x4096x1024 .f32) (x1 : Vec Ideal S16384x512 .bf16) (x2 : Vec Ideal S16384x512 .bf16) (x4 : Vec Ideal S4x1024x1024 .f32) (x5 : Vec Ideal S4x1024 .f32) (x6 : Vec Ideal S4x1024 .f32) (x7 : Vec Ideal S4x1024x5632 .f32) (q : Fin 4) (s : Fin 4096) (k : Fin 2816) :
    val_main_v50 (F := Ideal) x0 x1 x2 x4 x5 x6 x7 (ix3 q s k) = actRow (rms (x1Row (fun k => x0 (ix3 q s k)) (fun k => x1 (ix2 ⟨4096 * q.val + s.val, by omega⟩ k)) (fun k => x2 (ix2 ⟨4096 * q.val + s.val, by omega⟩ k)) (fun k j => x4 (ix3 3 k j)) (fun k => x5 (ix2 3 k))) (fun k => x6 (ix2 3 k))) (fun k j => x7 (ix3 3 k j)) k := by
  rw [val_main_v50_apply, val_main_v49_apply, sig48, half41, half42, dot40, dot40]
  simp only [rms23, res22]
  rfl

/-- The layer's matrix. -/
theorem weight51 (x8 : Vec Ideal S4x2816x1024 .f32) (k : Fin 2816) (j : Fin 1024) :
    val_main_v52 (F := Ideal) x8 (ix2 k j) = x8 (ix3 3 k j) := by
  rw [val_main_v52_apply, val_main_v51_apply]
  exact congrArg x8 (funext fun a => match a with
    | ⟨0, _⟩ => Fin.ext (by show 3 + 0 = 3; omega)
    | ⟨1, _⟩ => Fin.ext (by show (k.val * 1024 + j.val) / 1024 % 2816 = k.val; omega)
    | ⟨2, _⟩ => Fin.ext (by show (k.val * 1024 + j.val) % 1024 = j.val; omega))

/-- A product with the layer's matrix, row by row. -/
theorem dot53 (x0 : Vec Ideal S4x4096x1024 .f32) (x1 : Vec Ideal S16384x512 .bf16) (x2 : Vec Ideal S16384x512 .bf16) (x4 : Vec Ideal S4x1024x1024 .f32) (x5 : Vec Ideal S4x1024 .f32) (x6 : Vec Ideal S4x1024 .f32) (x7 : Vec Ideal S4x1024x5632 .f32) (x8 : Vec Ideal S4x2816x1024 .f32) (q : Fin 4) (s : Fin 4096) (j : Fin 1024) :
    val_main_v53 (F := Ideal) x0 x1 x2 x4 x5 x6 x7 x8 (ix3 q s j) = rowMul (fun k => val_main_v50 (F := Ideal) x0 x1 x2 x4 x5 x6 x7 (ix3 q s k)) (fun k j => x8 (ix3 3 k j)) j := by
  rw [val_main_v53_apply]
  refine Finset.sum_congr rfl fun k _ => ?_
  rw [show ridx_main_v53 (ix3 q s j) k = ix2 k j from funext fun a => match a with | ⟨0, _⟩ => rfl | ⟨1, _⟩ => rfl, weight51,
    show lidx_main_v53 (ix3 q s j) k = ix3 q s k from funext fun a => match a with | ⟨0, _⟩ => rfl | ⟨1, _⟩ => rfl | ⟨2, _⟩ => rfl]

/-- The layer's gain. -/
theorem gain54 (x9 : Vec Ideal S4x1024 .f32) (q : Fin 4) (s : Fin 4096) (j : Fin 1024) :
    val_main_v67 (F := Ideal) x9 (ix3 q s j) = x9 (ix2 3 j) := by
  rw [val_main_v67_apply, val_main_v66_apply, val_main_v55_apply, val_main_v54_apply]
  exact congrArg x9 (funext fun a => match a with
    | ⟨0, _⟩ => Fin.ext (by show 3 + 0 = 3; omega)
    | ⟨1, _⟩ => Fin.ext (by show j.val % 1024 = j.val; omega))

/-- The sum of a row's squares. -/
theorem sq54 (x0 : Vec Ideal S4x4096x1024 .f32) (x1 : Vec Ideal S16384x512 .bf16) (x2 : Vec Ideal S16384x512 .bf16) (x4 : Vec Ideal S4x1024x1024 .f32) (x5 : Vec Ideal S4x1024 .f32) (x6 : Vec Ideal S4x1024 .f32) (x7 : Vec Ideal S4x1024x5632 .f32) (x8 : Vec Ideal S4x2816x1024 .f32) (q : Fin 4) (s : Fin 4096) :
    val_main_v57 (F := Ideal) x0 x1 x2 x4 x5 x6 x7 x8 (ix2 q s) = ∑ k : Fin 1024, val_main_v53 (F := Ideal) x0 x1 x2 x4 x5 x6 x7 x8 (ix3 q s k) * val_main_v53 (F := Ideal) x0 x1 x2 x4 x5 x6 x7 x8 (ix3 q s k) := by
  rw [val_main_v57_apply, val_main_cst_7_apply]
  refine (congrArg₂ (· + ·) (Ideal.ofBits_zero_f32) (Finset.sum_congr rfl fun k _ => ?_)).trans (zero_add _)
  rw [val_main_v56_apply, show idx_main_v57 (ix2 q s) k = ix3 q s k from funext fun a => match a with | ⟨0, _⟩ => rfl | ⟨1, _⟩ => rfl | ⟨2, _⟩ => rfl]
  rfl

/-- The reciprocal root of a row's mean square. -/
theorem inv54 (x0 : Vec Ideal S4x4096x1024 .f32) (x1 : Vec Ideal S16384x512 .bf16) (x2 : Vec Ideal S16384x512 .bf16) (x4 : Vec Ideal S4x1024x1024 .f32) (x5 : Vec Ideal S4x1024 .f32) (x6 : Vec Ideal S4x1024 .f32) (x7 : Vec Ideal S4x1024x5632 .f32) (x8 : Vec Ideal S4x2816x1024 .f32) (q : Fin 4) (s : Fin 4096) (j : Fin 1024) :
    val_main_v64 (F := Ideal) x0 x1 x2 x4 x5 x6 x7 x8 (ix3 q s j) = Ideal.rsqrt (Ideal.div (∑ k : Fin 1024, val_main_v53 (F := Ideal) x0 x1 x2 x4 x5 x6 x7 x8 (ix3 q s k) * val_main_v53 (F := Ideal) x0 x1 x2 x4 x5 x6 x7 x8 (ix3 q s k)) (Ideal.ofBits .f32 0x44800000#32) + Ideal.ofBits .f32 0x358637BD#32) := by
  rw [← sq54, val_main_v64_apply, val_main_v63_apply, val_main_v62_apply, val_main_v60_apply, val_main_v61_apply, val_main_v59_apply, val_main_v58_apply, val_main_cst_8_apply, val_main_cst_9_apply,
    show idx_main_v58 (idx_main_v64 (ix3 q s j)) = ix2 q s from funext fun a => match a with | ⟨0, _⟩ => rfl | ⟨1, _⟩ => rfl]
  rfl

/-- A normalized row. -/
theorem rms54 (x0 : Vec Ideal S4x4096x1024 .f32) (x1 : Vec Ideal S16384x512 .bf16) (x2 : Vec Ideal S16384x512 .bf16) (x4 : Vec Ideal S4x1024x1024 .f32) (x5 : Vec Ideal S4x1024 .f32) (x6 : Vec Ideal S4x1024 .f32) (x7 : Vec Ideal S4x1024x5632 .f32) (x8 : Vec Ideal S4x2816x1024 .f32) (x9 : Vec Ideal S4x1024 .f32) (q : Fin 4) (s : Fin 4096) (j : Fin 1024) :
    val_main_v68 (F := Ideal) x0 x1 x2 x4 x5 x6 x7 x8 x9 (ix3 q s j) = rms (fun k => val_main_v53 (F := Ideal) x0 x1 x2 x4 x5 x6 x7 x8 (ix3 q s k)) (fun k => x9 (ix2 3 k)) j := by
  rw [val_main_v68_apply, val_main_v65_apply, inv54, gain54]
  rfl

/-- The residual row after the feed-forward part. -/
theorem res69 (x0 : Vec Ideal S4x4096x1024 .f32) (x1 : Vec Ideal S16384x512 .bf16) (x2 : Vec Ideal S16384x512 .bf16) (x4 : Vec Ideal S4x1024x1024 .f32) (x5 : Vec Ideal S4x1024 .f32) (x6 : Vec Ideal S4x1024 .f32) (x7 : Vec Ideal S4x1024x5632 .f32) (x8 : Vec Ideal S4x2816x1024 .f32) (x9 : Vec Ideal S4x1024 .f32) (q : Fin 4) (s : Fin 4096) (j : Fin 1024) :
    val_main_v69 (F := Ideal) x0 x1 x2 x4 x5 x6 x7 x8 x9 (ix3 q s j) = (x2Row (x1Row (fun k => x0 (ix3 q s k)) (fun k => x1 (ix2 ⟨4096 * q.val + s.val, by omega⟩ k)) (fun k => x2 (ix2 ⟨4096 * q.val + s.val, by omega⟩ k)) (fun k j => x4 (ix3 3 k j)) (fun k => x5 (ix2 3 k))) (fun k => x6 (ix2 3 k)) (fun k j => x7 (ix3 3 k j)) (fun k j => x8 (ix3 3 k j)) (fun k => x9 (ix2 3 k))) j := by
  rw [val_main_v69_apply, rms54, res22]
  simp only [dot53, act50]
  rfl

/-- The layer's gain. -/
theorem gain70 (x10 : Vec Ideal S4x1024 .f32) (q : Fin 4) (s : Fin 4096) (j : Fin 1024) :
    val_main_v83 (F := Ideal) x10 (ix3 q s j) = x10 (ix2 3 j) := by
  rw [val_main_v83_apply, val_main_v82_apply, val_main_v71_apply, val_main_v70_apply]
  exact congrArg x10 (funext fun a => match a with
    | ⟨0, _⟩ => Fin.ext (by show 3 + 0 = 3; omega)
    | ⟨1, _⟩ => Fin.ext (by show j.val % 1024 = j.val; omega))

/-- The sum of a row's squares. -/
theorem sq70 (x0 : Vec Ideal S4x4096x1024 .f32) (x1 : Vec Ideal S16384x512 .bf16) (x2 : Vec Ideal S16384x512 .bf16) (x4 : Vec Ideal S4x1024x1024 .f32) (x5 : Vec Ideal S4x1024 .f32) (x6 : Vec Ideal S4x1024 .f32) (x7 : Vec Ideal S4x1024x5632 .f32) (x8 : Vec Ideal S4x2816x1024 .f32) (x9 : Vec Ideal S4x1024 .f32) (q : Fin 4) (s : Fin 4096) :
    val_main_v73 (F := Ideal) x0 x1 x2 x4 x5 x6 x7 x8 x9 (ix2 q s) = ∑ k : Fin 1024, val_main_v69 (F := Ideal) x0 x1 x2 x4 x5 x6 x7 x8 x9 (ix3 q s k) * val_main_v69 (F := Ideal) x0 x1 x2 x4 x5 x6 x7 x8 x9 (ix3 q s k) := by
  rw [val_main_v73_apply, val_main_cst_10_apply]
  refine (congrArg₂ (· + ·) (Ideal.ofBits_zero_f32) (Finset.sum_congr rfl fun k _ => ?_)).trans (zero_add _)
  rw [val_main_v72_apply, show idx_main_v73 (ix2 q s) k = ix3 q s k from funext fun a => match a with | ⟨0, _⟩ => rfl | ⟨1, _⟩ => rfl | ⟨2, _⟩ => rfl]
  rfl

/-- The reciprocal root of a row's mean square. -/
theorem inv70 (x0 : Vec Ideal S4x4096x1024 .f32) (x1 : Vec Ideal S16384x512 .bf16) (x2 : Vec Ideal S16384x512 .bf16) (x4 : Vec Ideal S4x1024x1024 .f32) (x5 : Vec Ideal S4x1024 .f32) (x6 : Vec Ideal S4x1024 .f32) (x7 : Vec Ideal S4x1024x5632 .f32) (x8 : Vec Ideal S4x2816x1024 .f32) (x9 : Vec Ideal S4x1024 .f32) (q : Fin 4) (s : Fin 4096) (j : Fin 1024) :
    val_main_v80 (F := Ideal) x0 x1 x2 x4 x5 x6 x7 x8 x9 (ix3 q s j) = Ideal.rsqrt (Ideal.div (∑ k : Fin 1024, val_main_v69 (F := Ideal) x0 x1 x2 x4 x5 x6 x7 x8 x9 (ix3 q s k) * val_main_v69 (F := Ideal) x0 x1 x2 x4 x5 x6 x7 x8 x9 (ix3 q s k)) (Ideal.ofBits .f32 0x44800000#32) + Ideal.ofBits .f32 0x358637BD#32) := by
  rw [← sq70, val_main_v80_apply, val_main_v79_apply, val_main_v78_apply, val_main_v76_apply, val_main_v77_apply, val_main_v75_apply, val_main_v74_apply, val_main_cst_11_apply, val_main_cst_12_apply,
    show idx_main_v74 (idx_main_v80 (ix3 q s j)) = ix2 q s from funext fun a => match a with | ⟨0, _⟩ => rfl | ⟨1, _⟩ => rfl]
  rfl

/-- A normalized row. -/
theorem rms70 (x0 : Vec Ideal S4x4096x1024 .f32) (x1 : Vec Ideal S16384x512 .bf16) (x2 : Vec Ideal S16384x512 .bf16) (x4 : Vec Ideal S4x1024x1024 .f32) (x5 : Vec Ideal S4x1024 .f32) (x6 : Vec Ideal S4x1024 .f32) (x7 : Vec Ideal S4x1024x5632 .f32) (x8 : Vec Ideal S4x2816x1024 .f32) (x9 : Vec Ideal S4x1024 .f32) (x10 : Vec Ideal S4x1024 .f32) (q : Fin 4) (s : Fin 4096) (j : Fin 1024) :
    val_main_v84 (F := Ideal) x0 x1 x2 x4 x5 x6 x7 x8 x9 x10 (ix3 q s j) = rms (fun k => val_main_v69 (F := Ideal) x0 x1 x2 x4 x5 x6 x7 x8 x9 (ix3 q s k)) (fun k => x10 (ix2 3 k)) j := by
  rw [val_main_v84_apply, val_main_v81_apply, inv70, gain70]
  rfl

/-- The layer's matrix. -/
theorem weight85 (x11 : Vec Ideal S4x1024x1024 .f32) (k : Fin 1024) (j : Fin 1024) :
    val_main_v86 (F := Ideal) x11 (ix2 k j) = x11 (ix3 3 k j) := by
  rw [val_main_v86_apply, val_main_v85_apply]
  exact congrArg x11 (funext fun a => match a with
    | ⟨0, _⟩ => Fin.ext (by show 3 + 0 = 3; omega)
    | ⟨1, _⟩ => Fin.ext (by show (k.val * 1024 + j.val) / 1024 % 1024 = k.val; omega)
    | ⟨2, _⟩ => Fin.ext (by show (k.val * 1024 + j.val) % 1024 = j.val; omega))

/-- A product with the layer's matrix, row by row. -/
theorem dot87 (x0 : Vec Ideal S4x4096x1024 .f32) (x1 : Vec Ideal S16384x512 .bf16) (x2 : Vec Ideal S16384x512 .bf16) (x4 : Vec Ideal S4x1024x1024 .f32) (x5 : Vec Ideal S4x1024 .f32) (x6 : Vec Ideal S4x1024 .f32) (x7 : Vec Ideal S4x1024x5632 .f32) (x8 : Vec Ideal S4x2816x1024 .f32) (x9 : Vec Ideal S4x1024 .f32) (x10 : Vec Ideal S4x1024 .f32) (x11 : Vec Ideal S4x1024x1024 .f32) (q : Fin 4) (s : Fin 4096) (j : Fin 1024) :
    val_main_v87 (F := Ideal) x0 x1 x2 x4 x5 x6 x7 x8 x9 x10 x11 (ix3 q s j) = rowMul (fun k => val_main_v84 (F := Ideal) x0 x1 x2 x4 x5 x6 x7 x8 x9 x10 (ix3 q s k)) (fun k j => x11 (ix3 3 k j)) j := by
  rw [val_main_v87_apply]
  refine Finset.sum_congr rfl fun k _ => ?_
  rw [show ridx_main_v87 (ix3 q s j) k = ix2 k j from funext fun a => match a with | ⟨0, _⟩ => rfl | ⟨1, _⟩ => rfl, weight85,
    show lidx_main_v87 (ix3 q s j) k = ix3 q s k from funext fun a => match a with | ⟨0, _⟩ => rfl | ⟨1, _⟩ => rfl | ⟨2, _⟩ => rfl]

/-- The logistic function of the embedding's gate. -/
theorem sig93 (x0 : Vec Ideal S4x4096x1024 .f32) (x1 : Vec Ideal S16384x512 .bf16) (x2 : Vec Ideal S16384x512 .bf16) (x4 : Vec Ideal S4x1024x1024 .f32) (x5 : Vec Ideal S4x1024 .f32) (x6 : Vec Ideal S4x1024 .f32) (x7 : Vec Ideal S4x1024x5632 .f32) (x8 : Vec Ideal S4x2816x1024 .f32) (x9 : Vec Ideal S4x1024 .f32) (x10 : Vec Ideal S4x1024 .f32) (x11 : Vec Ideal S4x1024x1024 .f32) (q : Fin 4) (s : Fin 4096) (j : Fin 1024) :
    val_main_v93 (F := Ideal) x0 x1 x2 x4 x5 x6 x7 x8 x9 x10 x11 (ix3 q s j) = Ideal.logistic (val_main_v87 (F := Ideal) x0 x1 x2 x4 x5 x6 x7 x8 x9 x10 x11 (ix3 q s j)) := by
  rw [← sigmoid_eq, val_main_v93_apply, val_main_v92_apply, val_main_v91_apply, val_main_v90_apply, val_main_v89_apply, val_main_v88_apply, val_main_cst_13_apply, val_main_cst_14_apply]
  rfl

/-- The layer's embedding of a token. -/
theorem emb95 (x3 : Vec Ideal S4x4x4096x256 .f32) (q : Fin 4) (s : Fin 4096) (k : Fin 256) :
    val_main_v95 (F := Ideal) x3 (ix3 q s k) = x3 (ix4 3 q s k) := by
  rw [val_main_v95_apply, val_main_v94_apply]
  exact congrArg x3 (funext fun a => match a with
    | ⟨0, _⟩ => Fin.ext (by show 3 + 0 = 3; omega)
    | ⟨1, _⟩ => Fin.ext (by show ((q.val * 4096 + s.val) * 256 + k.val) / 1048576 % 4 = q.val; omega)
    | ⟨2, _⟩ => Fin.ext (by show ((q.val * 4096 + s.val) * 256 + k.val) / 256 % 4096 = s.val; omega)
    | ⟨3, _⟩ => Fin.ext (by show ((q.val * 4096 + s.val) * 256 + k.val) % 256 = k.val; omega))

/-- The layer's matrix. -/
theorem weight96 (x12 : Vec Ideal S4x256x1024 .f32) (k : Fin 256) (j : Fin 1024) :
    val_main_v97 (F := Ideal) x12 (ix2 k j) = x12 (ix3 3 k j) := by
  rw [val_main_v97_apply, val_main_v96_apply]
  exact congrArg x12 (funext fun a => match a with
    | ⟨0, _⟩ => Fin.ext (by show 3 + 0 = 3; omega)
    | ⟨1, _⟩ => Fin.ext (by show (k.val * 1024 + j.val) / 1024 % 256 = k.val; omega)
    | ⟨2, _⟩ => Fin.ext (by show (k.val * 1024 + j.val) % 1024 = j.val; omega))

/-- A product with the layer's matrix, row by row. -/
theorem dot98 (x3 : Vec Ideal S4x4x4096x256 .f32) (x12 : Vec Ideal S4x256x1024 .f32) (q : Fin 4) (s : Fin 4096) (j : Fin 1024) :
    val_main_v98 (F := Ideal) x3 x12 (ix3 q s j) = rowMul (fun k => val_main_v95 (F := Ideal) x3 (ix3 q s k)) (fun k j => x12 (ix3 3 k j)) j := by
  rw [val_main_v98_apply]
  refine Finset.sum_congr rfl fun k _ => ?_
  rw [show ridx_main_v98 (ix3 q s j) k = ix2 k j from funext fun a => match a with | ⟨0, _⟩ => rfl | ⟨1, _⟩ => rfl, weight96,
    show lidx_main_v98 (ix3 q s j) k = ix3 q s k from funext fun a => match a with | ⟨0, _⟩ => rfl | ⟨1, _⟩ => rfl | ⟨2, _⟩ => rfl]

/-- The layer's result, row by row. -/
theorem out100 (x0 : Vec Ideal S4x4096x1024 .f32) (x1 : Vec Ideal S16384x512 .bf16) (x2 : Vec Ideal S16384x512 .bf16) (x3 : Vec Ideal S4x4x4096x256 .f32) (x4 : Vec Ideal S4x1024x1024 .f32) (x5 : Vec Ideal S4x1024 .f32) (x6 : Vec Ideal S4x1024 .f32) (x7 : Vec Ideal S4x1024x5632 .f32) (x8 : Vec Ideal S4x2816x1024 .f32) (x9 : Vec Ideal S4x1024 .f32) (x10 : Vec Ideal S4x1024 .f32) (x11 : Vec Ideal S4x1024x1024 .f32) (x12 : Vec Ideal S4x256x1024 .f32) (q : Fin 4) (s : Fin 4096) (j : Fin 1024) :
    val_main_v100 (F := Ideal) x0 x1 x2 x3 x4 x5 x6 x7 x8 x9 x10 x11 x12 (ix3 q s j) = outRow (x2Row (x1Row (fun k => x0 (ix3 q s k)) (fun k => x1 (ix2 ⟨4096 * q.val + s.val, by omega⟩ k)) (fun k => x2 (ix2 ⟨4096 * q.val + s.val, by omega⟩ k)) (fun k j => x4 (ix3 3 k j)) (fun k => x5 (ix2 3 k))) (fun k => x6 (ix2 3 k)) (fun k j => x7 (ix3 3 k j)) (fun k j => x8 (ix3 3 k j)) (fun k => x9 (ix2 3 k))) (fun k => x10 (ix2 3 k)) (fun k j => x11 (ix3 3 k j)) (fun k => x3 (ix4 3 q s k)) (fun k j => x12 (ix3 3 k j)) j := by
  rw [val_main_v100_apply, val_main_v99_apply, sig93, dot87, dot98, res69]
  simp only [rms70, res69, emb95]
  rfl

/-- The result with the sequences joined. -/
theorem out101 (x0 : Vec Ideal S4x4096x1024 .f32) (x1 : Vec Ideal S16384x512 .bf16) (x2 : Vec Ideal S16384x512 .bf16) (x3 : Vec Ideal S4x4x4096x256 .f32) (x4 : Vec Ideal S4x1024x1024 .f32) (x5 : Vec Ideal S4x1024 .f32) (x6 : Vec Ideal S4x1024 .f32) (x7 : Vec Ideal S4x1024x5632 .f32) (x8 : Vec Ideal S4x2816x1024 .f32) (x9 : Vec Ideal S4x1024 .f32) (x10 : Vec Ideal S4x1024 .f32) (x11 : Vec Ideal S4x1024x1024 .f32) (x12 : Vec Ideal S4x256x1024 .f32) (n : Fin 16384) (j : Fin 1024) :
    val_main_v101 (F := Ideal) x0 x1 x2 x3 x4 x5 x6 x7 x8 x9 x10 x11 x12 (ix2 n j) = val_main_v100 (F := Ideal) x0 x1 x2 x3 x4 x5 x6 x7 x8 x9 x10 x11 x12 (ix3 (⟨n.val / 4096, by omega⟩ : Fin 4) (⟨n.val % 4096, by omega⟩ : Fin 4096) j) := by
  rw [val_main_v101_apply]
  generalize val_main_v100 (F := Ideal) x0 x1 x2 x3 x4 x5 x6 x7 x8 x9 x10 x11 x12 = y
  exact congrArg y (funext fun a => match a with
    | ⟨0, _⟩ => Fin.ext (by show (n.val * 1024 + j.val) / 4194304 = n.val / 4096; omega)
    | ⟨1, _⟩ => Fin.ext (by show (n.val * 1024 + j.val) / 1024 % 4096 = n.val % 4096; omega)
    | ⟨2, _⟩ => Fin.ext (by show (n.val * 1024 + j.val) % 1024 = j.val; omega))

end Cert.TailRefValue

end
-- ==== Proof.Tail.Claims.lean ====
/- The claims about the layer's tail: the three frames, the idealization, and the value. -/
module

public import proofs.«01_k».proof.Defs
public import proofs.«01_k».proof.Proof.Gen.Tail
public import proofs.«01_k».proof.Proof.Gen.Tail.Frame
public import proofs.«01_k».proof.Proof.Gen.TailIdeal
public import proofs.«01_k».proof.Proof.Gen.TailIdeal.Frame
public import proofs.«01_k».proof.Proof.Gen.TailIdeal.Value
public import proofs.«01_k».proof.Proof.Gen.TailReferenceIdeal
public import proofs.«01_k».proof.Proof.Gen.TailReferenceIdeal.Run
public import proofs.«01_k».proof.Proof.Tail.Arr
public import proofs.«01_k».proof.Proof.Tail.Ref
public import Idealize.ShloMosaic.Adequacy

@[expose] public section

noncomputable section

namespace Cert.Proof.TailClaims

open Idealize.ShloMosaic Idealize.ShloMosaic.TcCoe Idealize.SL.Sem

/-- The tail as written ends with its arguments as launched and every counter at zero. -/
theorem frame_p : Cert.quiescent_Tail := fun m ρ _ => Cert.Tail.Gen.frame m ρ

/-- So does the idealized tail. -/
theorem frame_pi : Cert.quiescent_TailIdeal := fun m ρ _ => Cert.TailIdeal.Gen.frame m ρ

/-- So does the idealized reference. -/
theorem frame_ri : Cert.quiescent_TailReferenceIdeal := fun m ρ _ =>
  (θ_run Cert.TailReferenceIdeal.defs _ _).mono (fun r h => ⟨fun c => (h c).2,
      Idealize.ShloMosaic.sem_eq_zero_of_no_sems (by decide) r.2⟩)
    (Cert.TailReferenceIdeal.Value.run (F := Ideal) m ρ)

/-- Row `n`, column `j` of the reference's result is the tail of the argument arrays. -/
theorem ref_eq (x0 : Vec Ideal Cert.TailReferenceIdeal.S4x4096x1024 .f32) (x1 x2 : Vec Ideal Cert.TailReferenceIdeal.S16384x512 .bf16)
    (x3 : Vec Ideal Cert.TailReferenceIdeal.S4x4x4096x256 .f32) (x4 : Vec Ideal Cert.TailReferenceIdeal.S4x1024x1024 .f32)
    (x5 x6 : Vec Ideal Cert.TailReferenceIdeal.S4x1024 .f32) (x7 : Vec Ideal Cert.TailReferenceIdeal.S4x1024x5632 .f32)
    (x8 : Vec Ideal Cert.TailReferenceIdeal.S4x2816x1024 .f32) (x9 x10 : Vec Ideal Cert.TailReferenceIdeal.S4x1024 .f32)
    (x11 : Vec Ideal Cert.TailReferenceIdeal.S4x1024x1024 .f32) (x12 : Vec Ideal Cert.TailReferenceIdeal.S4x256x1024 .f32)
    (n : Fin 16384) (j : Fin 1024) :
    Cert.TailReferenceIdeal.Read.val_main_v101 (F := Ideal) x0 x1 x2 x3 x4 x5 x6 x7 x8 x9 x10 x11 x12 (ix2 n j)
      = Cert.TailValue.tailArr x0 x1 x2 x3 x4 x5 x6 x7 x8 x9 x10 x11 x12 ⟨n.val / 4096, by omega⟩ ⟨n.val % 4096, by omega⟩ j := by
  rw [Cert.TailRefValue.out101, Cert.TailRefValue.out100]
  rfl

/-- On argument arrays that agree the kernel and the reference leave the same result. -/
theorem algebraic : Cert.algebraic_TailIdeal_TailReferenceIdeal := by
  intro m ρ m' ρ' _ hagree
  refine ⟨fun c => Cert.TailValue.result m c, (θ_run Cert.TailIdeal.defs _ _).mono (fun _ h c => ⟨(h c).1.trans (Cert.TailValue.final m c), (h c).2⟩)
    (Cert.TailIdeal.Value.run_blocks (F := Ideal) m ρ), ?_⟩
  refine (θ_run Cert.TailReferenceIdeal.defs _ _).mono (fun _ h c => ⟨(h c).1.trans ?_, (h c).2⟩)
    (Cert.TailReferenceIdeal.Value.run (F := Ideal) m' ρ')
  rw [Cert.TailReferenceIdeal.Read.val_main_v101_eq]
  obtain ⟨h0, h1, h2, h3, h4, h5, h6, h7, h8, h9, h10, h11, h12⟩ := hagree c
  rw [show StableHlo.launchContents m' c (Proc.tc.devRef Cert.TailReferenceIdeal.main_arg0) = _ from h0,
    show StableHlo.launchContents m' c (Proc.tc.devRef Cert.TailReferenceIdeal.main_arg1) = _ from h1,
    show StableHlo.launchContents m' c (Proc.tc.devRef Cert.TailReferenceIdeal.main_arg2) = _ from h2,
    show StableHlo.launchContents m' c (Proc.tc.devRef Cert.TailReferenceIdeal.main_arg3) = _ from h3,
    show StableHlo.launchContents m' c (Proc.tc.devRef Cert.TailReferenceIdeal.main_arg4) = _ from h4,
    show StableHlo.launchContents m' c (Proc.tc.devRef Cert.TailReferenceIdeal.main_arg5) = _ from h5,
    show StableHlo.launchContents m' c (Proc.tc.devRef Cert.TailReferenceIdeal.main_arg6) = _ from h6,
    show StableHlo.launchContents m' c (Proc.tc.devRef Cert.TailReferenceIdeal.main_arg7) = _ from h7,
    show StableHlo.launchContents m' c (Proc.tc.devRef Cert.TailReferenceIdeal.main_arg8) = _ from h8,
    show StableHlo.launchContents m' c (Proc.tc.devRef Cert.TailReferenceIdeal.main_arg9) = _ from h9,
    show StableHlo.launchContents m' c (Proc.tc.devRef Cert.TailReferenceIdeal.main_arg10) = _ from h10,
    show StableHlo.launchContents m' c (Proc.tc.devRef Cert.TailReferenceIdeal.main_arg11) = _ from h11,
    show StableHlo.launchContents m' c (Proc.tc.devRef Cert.TailReferenceIdeal.main_arg12) = _ from h12]
  funext i
  exact (congrArg _ (eq_ix2 i)).trans (ref_eq _ _ _ _ _ _ _ _ _ _ _ _ _ (i 0) (i 1))

end Cert.Proof.TailClaims

end
-- ==== Proof.Inproj.Row.lean ====
/- One row of the projections into the mixers, over the extended reals: the functions both the kernel and the reference compute of a row of their arguments. -/
module

public import proofs.«01_k».proof.Proof.Tail.Row

@[expose] public section

noncomputable section

namespace Cert.InprojValue

open Idealize.ShloMosaic Cert.TailValue

/-- The scale of the attention's queries. -/
def qscale : EReal := Ideal.ofBits .f32 0x3E38AA3B#32

/-- A row normalised and multiplied with one column. -/
def proj (v g : Fin 1024 → EReal) (w : Fin 1024 → EReal) : EReal := ∑ k : Fin 1024, rms v g k * w k

/-- The joined row of queries, keys and indexer columns, from the row `z` of all the columns. -/
def zbRow (z : Fin 3144 → EReal) (j : Fin 1664) : EReal :=
  if h : j.val < 256 then z ⟨1024 + j.val, by omega⟩ * qscale
  else if h : j.val < 512 then z ⟨2120 + j.val, by omega⟩ * qscale
  else if h : j.val < 768 then z ⟨768 + j.val, by omega⟩
  else if h : j.val < 1024 then z ⟨1864 + j.val, by omega⟩
  else if h : j.val < 1536 then z ⟨768 + j.val, by omega⟩
  else if h : j.val < 1600 then z ⟨768 + j.val, by omega⟩
  else z ⟨704 + j.val, by omega⟩

/-- The joined row of values. -/
def vtRow (z : Fin 3144 → EReal) (j : Fin 512) : EReal :=
  if h : j.val < 256 then z ⟨1536 + j.val, by omega⟩ else z ⟨2632 + j.val, by omega⟩

/-- The indexer's weights, then zeros. -/
def zcRow (z : Fin 3144 → EReal) (j : Fin 128) : EReal :=
  if h : j.val < 8 then z ⟨2368 + j.val, by omega⟩ else 0

/-- The joined row of queries, keys and indexer columns, from the kernel's two groups of columns. -/
def zbTwo (a : Fin 2304 → EReal) (b : Fin 1024 → EReal) (j : Fin 1664) : EReal :=
  if h : j.val < 256 then a ⟨1024 + j.val, by omega⟩ * qscale
  else if h : j.val < 512 then b ⟨j.val - 256, by omega⟩ * qscale
  else if h : j.val < 768 then a ⟨768 + j.val, by omega⟩
  else if h : j.val < 1024 then b ⟨j.val - 512, by omega⟩
  else if h : j.val < 1536 then a ⟨768 + j.val, by omega⟩
  else b ⟨j.val - 768, by omega⟩

/-- The joined row of values, from the kernel's two groups of columns. -/
def vtTwo (a : Fin 2304 → EReal) (b : Fin 1024 → EReal) (j : Fin 512) : EReal :=
  if h : j.val < 256 then a ⟨1536 + j.val, by omega⟩ else b ⟨256 + j.val, by omega⟩

/-- The second group's columns, from the row of all the columns. -/
def tailRow (z : Fin 3144 → EReal) (c : Fin 1024) : EReal :=
  if h : c.val < 768 then z ⟨2376 + c.val, by omega⟩
  else if h : c.val < 832 then z ⟨1536 + c.val, by omega⟩
  else if h : c.val < 904 then z ⟨1472 + c.val, by omega⟩
  else 0

/-- The row of queries and keys of the two groups is that of all the columns. -/
theorem zbTwo_eq (z : Fin 3144 → EReal) (j : Fin 1664) : zbTwo (fun c => z ⟨c.val, by omega⟩) (tailRow z) j = zbRow z j := by
  unfold zbTwo zbRow tailRow
  split_ifs <;> first | rfl | (exfalso; dsimp only at *; omega) |
    (refine congrArg z (Fin.ext ?_); dsimp only; omega) | (refine congrArg (· * qscale) (congrArg z (Fin.ext ?_)); dsimp only; omega)

/-- The row of values of the two groups is that of all the columns. -/
theorem vtTwo_eq (z : Fin 3144 → EReal) (j : Fin 512) : vtTwo (fun c => z ⟨c.val, by omega⟩) (tailRow z) j = vtRow z j := by
  unfold vtTwo vtRow tailRow
  split_ifs <;> first | rfl | (exfalso; dsimp only at *; omega) | (refine congrArg z (Fin.ext ?_); dsimp only; omega)

/-- The indexer's weights among the second group's columns. -/
theorem zcRow_eq (z : Fin 3144 → EReal) (j : Fin 128) : tailRow z ⟨896 + j.val, by omega⟩ = zcRow z j := by
  unfold zcRow tailRow
  split_ifs <;> first | rfl | (exfalso; dsimp only at *; omega) | (refine congrArg z (Fin.ext ?_); dsimp only; omega)

end Cert.InprojValue

end
-- ==== Proof.Inproj.Pay.lean ====
/- The input projection's stored values read at an index, over the extended reals. -/
module

public import proofs.«01_k».proof.Proof.Gen.InprojIdeal.Skeleton
public import proofs.«01_k».proof.Proof.Inproj.Row

@[expose] public section

set_option maxRecDepth 16384

noncomputable section

namespace Cert.InprojValue

open Idealize.ShloMosaic Cert.InprojIdeal Cert.InprojIdeal.Gen Cert.TailValue

/-- The normalised rows. -/
theorem pay2_row (v0 : Vec Ideal S512x1024 .f32) (v2 : Vec Ideal S1x1024 .f32) (r : Fin 512) (k : Fin 1024) :
    k0_pay2 (F := Ideal) v0 v2 (ix2 r k) = rms (fun k => v0 (ix2 r k)) (fun k => v2 (ix2 0 k)) k := by
  pointwise [k0_pay2, rms]

/-- The scaled queries of the selection's attention. -/
theorem pay18_row (v16 : Vec Ideal S512x1024 .bf16) (v70 : Vec Ideal S1x1024x256 .bf16) (r : Fin 512) (j : Fin 256) :
    k0_pay18 (F := Ideal) (k0_pay16 v16 v70) k0_pay17 (ix2 r j) = (∑ k : Fin 1024, v16 (ix2 r k) * v70 (ix3 0 k j)) * qscale := by
  pointwise [k0_pay18, k0_pay16, k0_pay17, qscale]

/-- The scaled queries of the block attention. -/
theorem pay19_row (v16 : Vec Ideal S512x1024 .bf16) (w : Vec Ideal S1x1024x256 .bf16) (r : Fin 512) (j : Fin 256) :
    k0_pay19 (F := Ideal) v16 w (ix2 r j) = (∑ k : Fin 1024, v16 (ix2 r k) * w (ix3 0 k j)) * qscale := by
  pointwise [k0_pay19, qscale]

/-- A projection of 256 columns. -/
theorem pay20_row (v16 : Vec Ideal S512x1024 .bf16) (w : Vec Ideal S1x1024x256 .bf16) (r : Fin 512) (j : Fin 256) :
    k0_pay20 (F := Ideal) v16 w (ix2 r j) = ∑ k : Fin 1024, v16 (ix2 r k) * w (ix3 0 k j) := by
  pointwise [k0_pay20]

/-- A projection of 256 columns. -/
theorem pay21_row (v16 : Vec Ideal S512x1024 .bf16) (w : Vec Ideal S1x1024x256 .bf16) (r : Fin 512) (j : Fin 256) :
    k0_pay21 (F := Ideal) v16 w (ix2 r j) = ∑ k : Fin 1024, v16 (ix2 r k) * w (ix3 0 k j) := by
  pointwise [k0_pay21]

/-- The same as it is stored. -/
theorem pay22_row (v16 : Vec Ideal S512x1024 .bf16) (w : Vec Ideal S1x1024x256 .bf16) (r : Fin 512) (j : Fin 256) :
    k0_pay22 (F := Ideal) v16 w (ix2 r j) = ∑ k : Fin 1024, v16 (ix2 r k) * w (ix3 0 k j) := pay21_row v16 w r j

/-- The means of the first block's keys. -/
theorem pay23_row (v16 : Vec Ideal S512x1024 .bf16) (w : Vec Ideal S1x1024x256 .bf16) (p q : Fin 1) (j : Fin 256) :
    k0_pay23 (F := Ideal) v16 w (ix3 p q j)
      = Ideal.div (∑ r : Fin 256, k0_pay21 (F := Ideal) v16 w (ix2 ⟨r.val, by omega⟩ j)) (Ideal.ofBits .f32 0x43800000#32) := by
  generalize hv : k0_pay21 (F := Ideal) v16 w = y
  pointwise [k0_pay23, hv]

/-- The means of the second block's keys. -/
theorem pay25_row (v16 : Vec Ideal S512x1024 .bf16) (w : Vec Ideal S1x1024x256 .bf16) (p q : Fin 1) (j : Fin 256) :
    k0_pay25 (F := Ideal) (k0_pay24 v16 w) (ix3 p q j)
      = Ideal.div (∑ r : Fin 256, k0_pay21 (F := Ideal) v16 w (ix2 ⟨256 + r.val, by omega⟩ j)) (Ideal.ofBits .f32 0x43800000#32) := by
  generalize hv : k0_pay21 (F := Ideal) v16 w = y
  pointwise [k0_pay25, k0_pay24, hv]

/-- A projection of 256 columns. -/
theorem pay26_row (v16 : Vec Ideal S512x1024 .bf16) (w : Vec Ideal S1x1024x256 .bf16) (r : Fin 512) (j : Fin 256) :
    k0_pay26 (F := Ideal) v16 w (ix2 r j) = ∑ k : Fin 1024, v16 (ix2 r k) * w (ix3 0 k j) := by
  pointwise [k0_pay26]

/-- A projection of 256 columns. -/
theorem pay27_row (v16 : Vec Ideal S512x1024 .bf16) (w : Vec Ideal S1x1024x256 .bf16) (r : Fin 512) (j : Fin 256) :
    k0_pay27 (F := Ideal) v16 w (ix2 r j) = ∑ k : Fin 1024, v16 (ix2 r k) * w (ix3 0 k j) := by
  pointwise [k0_pay27]

/-- A projection of 128 columns. -/
theorem pay28_row (v16 : Vec Ideal S512x1024 .bf16) (w : Vec Ideal S1x1024x128 .bf16) (r : Fin 512) (j : Fin 128) :
    k0_pay28 (F := Ideal) v16 w (ix2 r j) = ∑ k : Fin 1024, v16 (ix2 r k) * w (ix3 0 k j) := by
  pointwise [k0_pay28]

/-- A projection of 256 columns. -/
theorem pay29_row (v16 : Vec Ideal S512x1024 .bf16) (w : Vec Ideal S1x1024x256 .bf16) (r : Fin 512) (j : Fin 256) :
    k0_pay29 (F := Ideal) v16 w (ix2 r j) = ∑ k : Fin 1024, v16 (ix2 r k) * w (ix3 0 k j) := by
  pointwise [k0_pay29]

/-- A projection of 256 columns. -/
theorem pay30_row (v16 : Vec Ideal S512x1024 .bf16) (w : Vec Ideal S1x1024x256 .bf16) (r : Fin 512) (j : Fin 256) :
    k0_pay30 (F := Ideal) v16 w (ix2 r j) = ∑ k : Fin 1024, v16 (ix2 r k) * w (ix3 0 k j) := by
  pointwise [k0_pay30]

/-- The values of the first block, columns first. -/
theorem pay31_row (v : Vec Ideal S512x256 .f32) (p q : Fin 1) (j r : Fin 256) :
    k0_pay31 (F := Ideal) v (ix4 p q j r) = v (ix2 ⟨r.val, by omega⟩ j) := by
  pointwise [k0_pay31]

/-- The values of the second block, columns first. -/
theorem pay32_row (v : Vec Ideal S512x256 .f32) (p q : Fin 1) (j r : Fin 256) :
    k0_pay32 (F := Ideal) v (ix4 p q j r) = v (ix2 ⟨256 + r.val, by omega⟩ j) := by
  pointwise [k0_pay32]

/-- The values of the first block, columns first. -/
theorem pay33_row (v16 : Vec Ideal S512x1024 .bf16) (w : Vec Ideal S1x1024x256 .bf16) (p q : Fin 1) (j r : Fin 256) :
    k0_pay33 (F := Ideal) v16 w (ix4 p q j r) = k0_pay30 (F := Ideal) v16 w (ix2 ⟨r.val, by omega⟩ j) := by
  generalize hv : k0_pay30 (F := Ideal) v16 w = y
  pointwise [k0_pay33, hv]

/-- The values of the second block, columns first. -/
theorem pay34_row (v16 : Vec Ideal S512x1024 .bf16) (w : Vec Ideal S1x1024x256 .bf16) (p q : Fin 1) (j r : Fin 256) :
    k0_pay34 (F := Ideal) v16 w (ix4 p q j r) = k0_pay30 (F := Ideal) v16 w (ix2 ⟨256 + r.val, by omega⟩ j) := by
  generalize hv : k0_pay30 (F := Ideal) v16 w = y
  pointwise [k0_pay34, hv]

/-- A projection of 128 columns. -/
theorem pay35_row (v16 : Vec Ideal S512x1024 .bf16) (w : Vec Ideal S1x1024x128 .bf16) (r : Fin 512) (j : Fin 128) :
    k0_pay35 (F := Ideal) v16 w (ix2 r j) = ∑ k : Fin 1024, v16 (ix2 r k) * w (ix3 0 k j) := by
  pointwise [k0_pay35]

end Cert.InprojValue

end
-- ==== Proof.Inproj.Out.lean ====
/- What the input projection's body leaves in its output blocks, row by row. -/
module

public import proofs.«01_k».proof.Proof.Gen.InprojIdeal.Value
public import proofs.«01_k».proof.Proof.Inproj.Pay

@[expose] public section

set_option maxRecDepth 16384

noncomputable section

namespace Cert.InprojValue

open Idealize.ShloMosaic Idealize.ShloMosaic.TcCoe Idealize.SL.Sem Cert.InprojIdeal Cert.InprojIdeal.Gen Cert.TailValue

/-- The first group's columns of a block's row. -/
def blkMain (x0 : Vec Ideal S512x1024 .f32) (x2 : Vec Ideal S1x1024 .f32) (x3 : Vec Ideal S1x1024x2304 .bf16) (r : Fin 512) (j : Fin 2304) : EReal :=
  proj (fun k => x0 (ix2 r k)) (fun k => x2 (ix2 0 k)) (fun k => x3 (ix3 0 k j))

/-- The second group's columns of a block's row. -/
def blkTail (x0 : Vec Ideal S512x1024 .f32) (x2 : Vec Ideal S1x1024 .f32) (x4 : Vec Ideal S1x1024x1024 .bf16) (r : Fin 512) (j : Fin 1024) : EReal :=
  proj (fun k => x0 (ix2 r k)) (fun k => x2 (ix2 0 k)) (fun k => x4 (ix3 0 k j))

/-- The block of queries, keys and indexer columns. -/
def blkZb (x0 : Vec Ideal S512x1024 .f32) (x2 : Vec Ideal S1x1024 .f32) (x3 : Vec Ideal S1x1024x2304 .bf16) (x4 : Vec Ideal S1x1024x1024 .bf16) : Vec Ideal S512x1664 .bf16 :=
  fun y => zbTwo (blkMain x0 x2 x3 (y 0)) (blkTail x0 x2 x4 (y 0)) (y 1)

/-- The block of values, columns first. -/
def blkVt (x0 : Vec Ideal S512x1024 .f32) (x2 : Vec Ideal S1x1024 .f32) (x3 : Vec Ideal S1x1024x2304 .bf16) (x4 : Vec Ideal S1x1024x1024 .bf16) : Vec Ideal S1x2x512x256 .bf16 :=
  fun y => vtTwo (blkMain x0 x2 x3 ⟨256 * (y 1).val + (y 3).val, by have h1 : (y 1).val < 2 := (y 1).isLt; have h3 : (y 3).val < 256 := (y 3).isLt; omega⟩)
    (blkTail x0 x2 x4 ⟨256 * (y 1).val + (y 3).val, by have h1 : (y 1).val < 2 := (y 1).isLt; have h3 : (y 3).val < 256 := (y 3).isLt; omega⟩) (y 2)

/-- The block of indexer weights. -/
def blkZc (x0 : Vec Ideal S512x1024 .f32) (x2 : Vec Ideal S1x1024 .f32) (x4 : Vec Ideal S1x1024x1024 .bf16) : Vec Ideal S512x128 .f32 :=
  fun y => blkTail x0 x2 x4 (y 0) ⟨896 + (y 1).val, by have h1 : (y 1).val < 128 := (y 1).isLt; omega⟩

/-- The block of the mean keys. -/
def blkKm (x0 : Vec Ideal S512x1024 .f32) (x2 : Vec Ideal S1x1024 .f32) (x4 : Vec Ideal S1x1024x1024 .bf16) : Vec Ideal S2x1x256 .f32 :=
  fun y => Ideal.div (∑ q : Fin 256, blkTail x0 x2 x4 ⟨256 * (y 0).val + q.val, by have h0 : (y 0).val < 2 := (y 0).isLt; omega⟩ ⟨256 + (y 2).val, by have h2 : (y 2).val < 256 := (y 2).isLt; omega⟩)
    (Ideal.ofBits .f32 0x43800000#32)

/-- The first queries' columns. -/
theorem zb_0 (a : Fin 2304 → EReal) (b : Fin 1024 → EReal) (j : Fin 256) (h : 0 + j.val < 1664) : zbTwo a b ⟨0 + j.val, h⟩ = a ⟨1024 + j.val, by omega⟩ * qscale := by
  unfold zbTwo; rw [dif_pos (by show 0 + j.val < 256; omega)]; exact congrArg (· * qscale) (congrArg a (Fin.ext (by show 1024 + (0 + j.val) = 1024 + j.val; omega)))

/-- The second queries' columns. -/
theorem zb_256 (a : Fin 2304 → EReal) (b : Fin 1024 → EReal) (j : Fin 256) (h : 256 + j.val < 1664) : zbTwo a b ⟨256 + j.val, h⟩ = b ⟨j.val, by omega⟩ * qscale := by
  unfold zbTwo; rw [dif_neg (by show ¬ 256 + j.val < 256; omega), dif_pos (by show 256 + j.val < 512; omega)]
  exact congrArg (· * qscale) (congrArg b (Fin.ext (by show 256 + j.val - 256 = j.val; omega)))

/-- The first keys' columns. -/
theorem zb_512 (a : Fin 2304 → EReal) (b : Fin 1024 → EReal) (j : Fin 256) (h : 512 + j.val < 1664) : zbTwo a b ⟨512 + j.val, h⟩ = a ⟨1280 + j.val, by omega⟩ := by
  unfold zbTwo; rw [dif_neg (by show ¬ 512 + j.val < 256; omega), dif_neg (by show ¬ 512 + j.val < 512; omega), dif_pos (by show 512 + j.val < 768; omega)]
  exact congrArg a (Fin.ext (by show 768 + (512 + j.val) = 1280 + j.val; omega))

/-- The second keys' columns. -/
theorem zb_768 (a : Fin 2304 → EReal) (b : Fin 1024 → EReal) (j : Fin 256) (h : 768 + j.val < 1664) : zbTwo a b ⟨768 + j.val, h⟩ = b ⟨256 + j.val, by omega⟩ := by
  unfold zbTwo; rw [dif_neg (by show ¬ 768 + j.val < 256; omega), dif_neg (by show ¬ 768 + j.val < 512; omega), dif_neg (by show ¬ 768 + j.val < 768; omega), dif_pos (by show 768 + j.val < 1024; omega)]
  exact congrArg b (Fin.ext (by show 768 + j.val - 512 = 256 + j.val; omega))

/-- The indexer's queries' first columns. -/
theorem zb_1024 (a : Fin 2304 → EReal) (b : Fin 1024 → EReal) (j : Fin 256) (h : 1024 + j.val < 1664) : zbTwo a b ⟨1024 + j.val, h⟩ = a ⟨1792 + j.val, by omega⟩ := by
  unfold zbTwo; rw [dif_neg (by show ¬ 1024 + j.val < 256; omega), dif_neg (by show ¬ 1024 + j.val < 512; omega), dif_neg (by show ¬ 1024 + j.val < 768; omega), dif_neg (by show ¬ 1024 + j.val < 1024; omega), dif_pos (by show 1024 + j.val < 1536; omega)]
  exact congrArg a (Fin.ext (by show 768 + (1024 + j.val) = 1792 + j.val; omega))

/-- The indexer's queries' other columns. -/
theorem zb_1280 (a : Fin 2304 → EReal) (b : Fin 1024 → EReal) (j : Fin 256) (h : 1280 + j.val < 1664) : zbTwo a b ⟨1280 + j.val, h⟩ = a ⟨2048 + j.val, by omega⟩ := by
  unfold zbTwo; rw [dif_neg (by show ¬ 1280 + j.val < 256; omega), dif_neg (by show ¬ 1280 + j.val < 512; omega), dif_neg (by show ¬ 1280 + j.val < 768; omega), dif_neg (by show ¬ 1280 + j.val < 1024; omega), dif_pos (by show 1280 + j.val < 1536; omega)]
  exact congrArg a (Fin.ext (by show 768 + (1280 + j.val) = 2048 + j.val; omega))

/-- The indexer's keys' columns. -/
theorem zb_1536 (a : Fin 2304 → EReal) (b : Fin 1024 → EReal) (j : Fin 128) (h : 1536 + j.val < 1664) : zbTwo a b ⟨1536 + j.val, h⟩ = b ⟨768 + j.val, by omega⟩ := by
  unfold zbTwo; rw [dif_neg (by show ¬ 1536 + j.val < 256; omega), dif_neg (by show ¬ 1536 + j.val < 512; omega), dif_neg (by show ¬ 1536 + j.val < 768; omega), dif_neg (by show ¬ 1536 + j.val < 1024; omega), dif_neg (by show ¬ 1536 + j.val < 1536; omega)]
  exact congrArg b (Fin.ext (by show 1536 + j.val - 768 = 768 + j.val; omega))

/-- The first values' columns. -/
theorem vt_0 (a : Fin 2304 → EReal) (b : Fin 1024 → EReal) (j : Fin 256) (h : 0 + j.val < 512) : vtTwo a b ⟨0 + j.val, h⟩ = a ⟨1536 + j.val, by omega⟩ := by
  unfold vtTwo; rw [dif_pos (by show 0 + j.val < 256; omega)]; exact congrArg a (Fin.ext (by show 1536 + (0 + j.val) = 1536 + j.val; omega))

/-- The second values' columns. -/
theorem vt_256 (a : Fin 2304 → EReal) (b : Fin 1024 → EReal) (j : Fin 256) (h : 256 + j.val < 512) : vtTwo a b ⟨256 + j.val, h⟩ = b ⟨512 + j.val, by omega⟩ := by
  unfold vtTwo; rw [dif_neg (by show ¬ 256 + j.val < 256; omega)]; exact congrArg b (Fin.ext (by show 256 + (256 + j.val) = 512 + j.val; omega))

/-- The block of queries, keys and indexer columns at an index, by its coordinates. -/
theorem blkZb_at (x0 : Vec Ideal S512x1024 .f32) (x2 : Vec Ideal S1x1024 .f32) (x3 : Vec Ideal S1x1024x2304 .bf16) (x4 : Vec Ideal S1x1024x1024 .bf16) (y : S512x1664.Idx) (r : Fin 512) (j : Fin 1664)
    (h0 : (y 0).val = r.val) (h1 : (y 1).val = j.val) : blkZb x0 x2 x3 x4 y = zbTwo (blkMain x0 x2 x3 r) (blkTail x0 x2 x4 r) j := by
  obtain rfl : y = ix2 r j := (eq_ix2 y).trans (congrArg₂ ix2 (Fin.ext h0) (Fin.ext h1))
  rfl

/-- The block of values at an index, by its coordinates. -/
theorem blkVt_at (x0 : Vec Ideal S512x1024 .f32) (x2 : Vec Ideal S1x1024 .f32) (x3 : Vec Ideal S1x1024x2304 .bf16) (x4 : Vec Ideal S1x1024x1024 .bf16) (y : S1x2x512x256.Idx) (s : Fin 512) (j : Fin 512)
    (h1 : 256 * (y 1).val + (y 3).val = s.val) (h2 : (y 2).val = j.val) : blkVt x0 x2 x3 x4 y = vtTwo (blkMain x0 x2 x3 s) (blkTail x0 x2 x4 s) j := by
  have e : (⟨256 * (y 1).val + (y 3).val, by have h1 : (y 1).val < 2 := (y 1).isLt; have h3 : (y 3).val < 256 := (y 3).isLt; omega⟩ : Fin 512) = s := Fin.ext h1
  obtain rfl : y 2 = j := Fin.ext h2
  unfold blkVt
  rw [e]

/-- The block of the mean keys at an index, by its coordinates. -/
theorem blkKm_at (x0 : Vec Ideal S512x1024 .f32) (x2 : Vec Ideal S1x1024 .f32) (x4 : Vec Ideal S1x1024x1024 .bf16) (y : S2x1x256.Idx) (u : Fin 2) (j : Fin 256)
    (h0 : (y 0).val = u.val) (h2 : (y 2).val = j.val) : blkKm x0 x2 x4 y
      = Ideal.div (∑ q : Fin 256, blkTail x0 x2 x4 ⟨256 * u.val + q.val, by omega⟩ ⟨256 + j.val, by omega⟩) (Ideal.ofBits .f32 0x43800000#32) := by
  obtain rfl : y 0 = u := Fin.ext h0
  obtain rfl : y 2 = j := Fin.ext h2
  rfl

/-- The body leaves the queries, the keys and the indexer columns of its rows in their block. -/
theorem zb_row (c : Dev nD) (i : grid0.Coords) (arg1 : Memref sig .tc .vmem S512x1024 .f32) (harg1 : arg1.IsWhole) (arg2 : Memref sig .tc .vmem S16x1024 .f32) (harg2 : arg2.IsWhole) (arg3 : Memref sig .tc .vmem S1x1024 .f32) (harg3 : arg3.IsWhole) (arg4 : Memref sig .tc .vmem S1x1024x2304 .bf16) (harg4 : arg4.IsWhole) (arg5 : Memref sig .tc .vmem S1x1024x1024 .bf16) (harg5 : arg5.IsWhole) (arg6 : Memref sig .tc .vmem S3x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S512x512 .bf16) (harg9 : arg9.IsWhole) (arg10 : Memref sig .tc .vmem S512x1664 .bf16) (harg10 : arg10.IsWhole) (arg11 : Memref sig .tc .vmem S1x2x512x256 .bf16) (harg11 : arg11.IsWhole) (arg12 : Memref sig .tc .vmem S512x128 .f32) (harg12 : arg12.IsWhole) (arg13 : Memref sig .tc .vmem S2x1x256 .f32) (harg13 : arg13.IsWhole) (arg14 : Memref sig .tc .vmem S528x256 .f32) (harg14 : arg14.IsWhole) (arg15 : Memref sig .tc .vmem S528x256 .f32) (harg15 : arg15.IsWhole)
    (x0 : Vec Ideal S512x1024 .f32) (x1 : Vec Ideal S16x1024 .f32) (x2 : Vec Ideal S1x1024 .f32) (x3 : Vec Ideal S1x1024x2304 .bf16) (x4 : Vec Ideal S1x1024x1024 .bf16) (x5 : Vec Ideal S3x256 .f32) (x6 : Vec Ideal S256x256 .bf16) (x7 : Vec Ideal S1x256 .f32) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 = blkZb x0 x2 x3 x4 := by
  funext y
  unfold out0_A_9
  rw [View.read_writes_junk_eq_canon]
  refine View.canon_apply_of_pieces (blkZb x0 x2 x3 x4) _ ?_ y (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y)
  unfold kernelRun0_A
  dsimp only
  sl_unfold_words
  simp only [View.readAt_eq_ld, harg1.read_unread, harg2.read_unread, harg3.read_unread, harg4.read_unread, harg5.read_unread, harg6.read_unread, harg7.read_unread, harg8.read_unread]
  simp only [List.forall_mem_cons, List.not_mem_nil, false_imp_iff, implies_true, and_true]
  refine ⟨fun x => ?_, fun x => ?_, fun x => ?_, fun x => ?_, fun x => ?_, fun x => ?_, fun x => ?_⟩
  · obtain ⟨r, j, rfl⟩ : ∃ (r : Fin 512) (j : Fin 128), x = ix2 r j := ⟨x 0, x 1, eq_ix2 x⟩
    refine Eq.trans ?_ (blkZb_at x0 x2 x3 x4 _ r ⟨1536 + j.val, by omega⟩ (by show 0 + 1 * r.val = r.val; omega) (by show 1536 + 1 * j.val = 1536 + j.val; omega)).symm
    simp only [pay28_row, pay2_row, zb_1536, blkMain, blkTail, proj]
    pointwise
  · obtain ⟨r, j, rfl⟩ : ∃ (r : Fin 512) (j : Fin 256), x = ix2 r j := ⟨x 0, x 1, eq_ix2 x⟩
    refine Eq.trans ?_ (blkZb_at x0 x2 x3 x4 _ r ⟨1280 + j.val, by omega⟩ (by show 0 + 1 * r.val = r.val; omega) (by show 1280 + 1 * j.val = 1280 + j.val; omega)).symm
    simp only [pay27_row, pay2_row, zb_1280, blkMain, blkTail, proj]
    pointwise
  · obtain ⟨r, j, rfl⟩ : ∃ (r : Fin 512) (j : Fin 256), x = ix2 r j := ⟨x 0, x 1, eq_ix2 x⟩
    refine Eq.trans ?_ (blkZb_at x0 x2 x3 x4 _ r ⟨1024 + j.val, by omega⟩ (by show 0 + 1 * r.val = r.val; omega) (by show 1024 + 1 * j.val = 1024 + j.val; omega)).symm
    simp only [pay26_row, pay2_row, zb_1024, blkMain, blkTail, proj]
    pointwise
  · obtain ⟨r, j, rfl⟩ : ∃ (r : Fin 512) (j : Fin 256), x = ix2 r j := ⟨x 0, x 1, eq_ix2 x⟩
    refine Eq.trans ?_ (blkZb_at x0 x2 x3 x4 _ r ⟨768 + j.val, by omega⟩ (by show 0 + 1 * r.val = r.val; omega) (by show 768 + 1 * j.val = 768 + j.val; omega)).symm
    simp only [pay22_row, pay2_row, zb_768, blkMain, blkTail, proj]
    pointwise
  · obtain ⟨r, j, rfl⟩ : ∃ (r : Fin 512) (j : Fin 256), x = ix2 r j := ⟨x 0, x 1, eq_ix2 x⟩
    refine Eq.trans ?_ (blkZb_at x0 x2 x3 x4 _ r ⟨512 + j.val, by omega⟩ (by show 0 + 1 * r.val = r.val; omega) (by show 512 + 1 * j.val = 512 + j.val; omega)).symm
    simp only [pay20_row, pay2_row, zb_512, blkMain, blkTail, proj]
    pointwise
  · obtain ⟨r, j, rfl⟩ : ∃ (r : Fin 512) (j : Fin 256), x = ix2 r j := ⟨x 0, x 1, eq_ix2 x⟩
    refine Eq.trans ?_ (blkZb_at x0 x2 x3 x4 _ r ⟨256 + j.val, by omega⟩ (by show 0 + 1 * r.val = r.val; omega) (by show 256 + 1 * j.val = 256 + j.val; omega)).symm
    simp only [pay19_row, pay2_row, zb_256, blkMain, blkTail, proj]
    pointwise
  · obtain ⟨r, j, rfl⟩ : ∃ (r : Fin 512) (j : Fin 256), x = ix2 r j := ⟨x 0, x 1, eq_ix2 x⟩
    refine Eq.trans ?_ (blkZb_at x0 x2 x3 x4 _ r ⟨0 + j.val, by omega⟩ (by show 0 + 1 * r.val = r.val; omega) (by show 0 + 1 * j.val = 0 + j.val; omega)).symm
    simp only [pay18_row, pay2_row, zb_0, blkMain, blkTail, proj]
    pointwise

/-- The body leaves the values of its rows, columns first, in their block. -/
theorem vt_row (c : Dev nD) (i : grid0.Coords) (arg1 : Memref sig .tc .vmem S512x1024 .f32) (harg1 : arg1.IsWhole) (arg2 : Memref sig .tc .vmem S16x1024 .f32) (harg2 : arg2.IsWhole) (arg3 : Memref sig .tc .vmem S1x1024 .f32) (harg3 : arg3.IsWhole) (arg4 : Memref sig .tc .vmem S1x1024x2304 .bf16) (harg4 : arg4.IsWhole) (arg5 : Memref sig .tc .vmem S1x1024x1024 .bf16) (harg5 : arg5.IsWhole) (arg6 : Memref sig .tc .vmem S3x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S512x512 .bf16) (harg9 : arg9.IsWhole) (arg10 : Memref sig .tc .vmem S512x1664 .bf16) (harg10 : arg10.IsWhole) (arg11 : Memref sig .tc .vmem S1x2x512x256 .bf16) (harg11 : arg11.IsWhole) (arg12 : Memref sig .tc .vmem S512x128 .f32) (harg12 : arg12.IsWhole) (arg13 : Memref sig .tc .vmem S2x1x256 .f32) (harg13 : arg13.IsWhole) (arg14 : Memref sig .tc .vmem S528x256 .f32) (harg14 : arg14.IsWhole) (arg15 : Memref sig .tc .vmem S528x256 .f32) (harg15 : arg15.IsWhole)
    (x0 : Vec Ideal S512x1024 .f32) (x1 : Vec Ideal S16x1024 .f32) (x2 : Vec Ideal S1x1024 .f32) (x3 : Vec Ideal S1x1024x2304 .bf16) (x4 : Vec Ideal S1x1024x1024 .bf16) (x5 : Vec Ideal S3x256 .f32) (x6 : Vec Ideal S256x256 .bf16) (x7 : Vec Ideal S1x256 .f32) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 = blkVt x0 x2 x3 x4 := by
  funext y
  unfold out0_A_10
  rw [View.read_writes_junk_eq_canon]
  refine View.canon_apply_of_pieces (blkVt x0 x2 x3 x4) _ ?_ y (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y)
  unfold kernelRun0_A
  dsimp only
  sl_unfold_words
  simp only [View.readAt_eq_ld, harg1.read_unread, harg2.read_unread, harg3.read_unread, harg4.read_unread, harg5.read_unread, harg6.read_unread, harg7.read_unread, harg8.read_unread]
  simp only [List.forall_mem_cons, List.not_mem_nil, false_imp_iff, implies_true, and_true]
  refine ⟨fun x => ?_, fun x => ?_, fun x => ?_, fun x => ?_⟩
  · obtain ⟨p, q, j, r, rfl⟩ : ∃ (p q : Fin 1) (j r : Fin 256), x = ix4 p q j r := ⟨x 0, x 1, x 2, x 3, eq_ix4 x⟩
    refine Eq.trans ?_ (blkVt_at x0 x2 x3 x4 _ ⟨256 + r.val, by omega⟩ ⟨256 + j.val, by omega⟩ (by show 256 * (1 + 1 * q.val) + (0 + 1 * r.val) = 256 + r.val; omega) (by show 256 + 1 * j.val = 256 + j.val; omega)).symm
    simp only [pay34_row, pay30_row, pay2_row, vt_256, blkMain, blkTail, proj]
    pointwise
  · obtain ⟨p, q, j, r, rfl⟩ : ∃ (p q : Fin 1) (j r : Fin 256), x = ix4 p q j r := ⟨x 0, x 1, x 2, x 3, eq_ix4 x⟩
    refine Eq.trans ?_ (blkVt_at x0 x2 x3 x4 _ ⟨0 + r.val, by omega⟩ ⟨256 + j.val, by omega⟩ (by show 256 * (0 + 1 * q.val) + (0 + 1 * r.val) = 0 + r.val; omega) (by show 256 + 1 * j.val = 256 + j.val; omega)).symm
    simp only [pay33_row, pay30_row, pay2_row, vt_256, blkMain, blkTail, proj]
    pointwise
  · obtain ⟨p, q, j, r, rfl⟩ : ∃ (p q : Fin 1) (j r : Fin 256), x = ix4 p q j r := ⟨x 0, x 1, x 2, x 3, eq_ix4 x⟩
    refine Eq.trans ?_ (blkVt_at x0 x2 x3 x4 _ ⟨256 + r.val, by omega⟩ ⟨0 + j.val, by omega⟩ (by show 256 * (1 + 1 * q.val) + (0 + 1 * r.val) = 256 + r.val; omega) (by show 0 + 1 * j.val = 0 + j.val; omega)).symm
    simp only [pay32_row, pay29_row, pay2_row, vt_0, blkMain, blkTail, proj]
    pointwise
  · obtain ⟨p, q, j, r, rfl⟩ : ∃ (p q : Fin 1) (j r : Fin 256), x = ix4 p q j r := ⟨x 0, x 1, x 2, x 3, eq_ix4 x⟩
    refine Eq.trans ?_ (blkVt_at x0 x2 x3 x4 _ ⟨0 + r.val, by omega⟩ ⟨0 + j.val, by omega⟩ (by show 256 * (0 + 1 * q.val) + (0 + 1 * r.val) = 0 + r.val; omega) (by show 0 + 1 * j.val = 0 + j.val; omega)).symm
    simp only [pay31_row, pay29_row, pay2_row, vt_0, blkMain, blkTail, proj]
    pointwise

/-- The body leaves the indexer's weights of its rows in their block. -/
theorem zc_row (c : Dev nD) (i : grid0.Coords) (arg1 : Memref sig .tc .vmem S512x1024 .f32) (harg1 : arg1.IsWhole) (arg2 : Memref sig .tc .vmem S16x1024 .f32) (harg2 : arg2.IsWhole) (arg3 : Memref sig .tc .vmem S1x1024 .f32) (harg3 : arg3.IsWhole) (arg4 : Memref sig .tc .vmem S1x1024x2304 .bf16) (harg4 : arg4.IsWhole) (arg5 : Memref sig .tc .vmem S1x1024x1024 .bf16) (harg5 : arg5.IsWhole) (arg6 : Memref sig .tc .vmem S3x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S512x512 .bf16) (harg9 : arg9.IsWhole) (arg10 : Memref sig .tc .vmem S512x1664 .bf16) (harg10 : arg10.IsWhole) (arg11 : Memref sig .tc .vmem S1x2x512x256 .bf16) (harg11 : arg11.IsWhole) (arg12 : Memref sig .tc .vmem S512x128 .f32) (harg12 : arg12.IsWhole) (arg13 : Memref sig .tc .vmem S2x1x256 .f32) (harg13 : arg13.IsWhole) (arg14 : Memref sig .tc .vmem S528x256 .f32) (harg14 : arg14.IsWhole) (arg15 : Memref sig .tc .vmem S528x256 .f32) (harg15 : arg15.IsWhole)
    (x0 : Vec Ideal S512x1024 .f32) (x1 : Vec Ideal S16x1024 .f32) (x2 : Vec Ideal S1x1024 .f32) (x3 : Vec Ideal S1x1024x2304 .bf16) (x4 : Vec Ideal S1x1024x1024 .bf16) (x5 : Vec Ideal S3x256 .f32) (x6 : Vec Ideal S256x256 .bf16) (x7 : Vec Ideal S1x256 .f32) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 = blkZc x0 x2 x4 := by
  funext y
  unfold out0_A_11
  rw [View.read_writes_junk_eq_canon]
  refine View.canon_apply_of_pieces (blkZc x0 x2 x4) _ ?_ y (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y)
  unfold kernelRun0_A
  dsimp only
  sl_unfold_words
  simp only [View.readAt_eq_ld, harg1.read_unread, harg2.read_unread, harg3.read_unread, harg4.read_unread, harg5.read_unread, harg6.read_unread, harg7.read_unread, harg8.read_unread]
  simp only [List.forall_mem_cons, List.not_mem_nil, false_imp_iff, implies_true, and_true]
  intro x
  obtain ⟨r, j, rfl⟩ : ∃ (r : Fin 512) (j : Fin 128), x = ix2 r j := ⟨x 0, x 1, eq_ix2 x⟩
  refine Eq.trans ?_ (show blkTail x0 x2 x4 r ⟨896 + j.val, by omega⟩ = _ from congrArg₂ (blkTail x0 x2 x4) (Fin.ext (by show r.val = 0 + 1 * r.val; omega)) (Fin.ext (by show 896 + j.val = 896 + (0 + 1 * j.val); omega)))
  simp only [pay35_row, pay2_row, blkMain, blkTail, proj]
  pointwise

/-- The body leaves the mean keys of its two blocks in their block. -/
theorem km_row (c : Dev nD) (i : grid0.Coords) (arg1 : Memref sig .tc .vmem S512x1024 .f32) (harg1 : arg1.IsWhole) (arg2 : Memref sig .tc .vmem S16x1024 .f32) (harg2 : arg2.IsWhole) (arg3 : Memref sig .tc .vmem S1x1024 .f32) (harg3 : arg3.IsWhole) (arg4 : Memref sig .tc .vmem S1x1024x2304 .bf16) (harg4 : arg4.IsWhole) (arg5 : Memref sig .tc .vmem S1x1024x1024 .bf16) (harg5 : arg5.IsWhole) (arg6 : Memref sig .tc .vmem S3x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S512x512 .bf16) (harg9 : arg9.IsWhole) (arg10 : Memref sig .tc .vmem S512x1664 .bf16) (harg10 : arg10.IsWhole) (arg11 : Memref sig .tc .vmem S1x2x512x256 .bf16) (harg11 : arg11.IsWhole) (arg12 : Memref sig .tc .vmem S512x128 .f32) (harg12 : arg12.IsWhole) (arg13 : Memref sig .tc .vmem S2x1x256 .f32) (harg13 : arg13.IsWhole) (arg14 : Memref sig .tc .vmem S528x256 .f32) (harg14 : arg14.IsWhole) (arg15 : Memref sig .tc .vmem S528x256 .f32) (harg15 : arg15.IsWhole)
    (x0 : Vec Ideal S512x1024 .f32) (x1 : Vec Ideal S16x1024 .f32) (x2 : Vec Ideal S1x1024 .f32) (x3 : Vec Ideal S1x1024x2304 .bf16) (x4 : Vec Ideal S1x1024x1024 .bf16) (x5 : Vec Ideal S3x256 .f32) (x6 : Vec Ideal S256x256 .bf16) (x7 : Vec Ideal S1x256 .f32) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 = blkKm x0 x2 x4 := by
  funext y
  unfold out0_A_12
  rw [View.read_writes_junk_eq_canon]
  refine View.canon_apply_of_pieces (blkKm x0 x2 x4) _ ?_ y (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y)
  unfold kernelRun0_A
  dsimp only
  sl_unfold_words
  simp only [View.readAt_eq_ld, harg1.read_unread, harg2.read_unread, harg3.read_unread, harg4.read_unread, harg5.read_unread, harg6.read_unread, harg7.read_unread, harg8.read_unread]
  simp only [List.forall_mem_cons, List.not_mem_nil, false_imp_iff, implies_true, and_true]
  refine ⟨fun x => ?_, fun x => ?_⟩
  · obtain ⟨p, q, j, rfl⟩ : ∃ (p q : Fin 1) (j : Fin 256), x = ix3 p q j := ⟨x 0, x 1, x 2, eq_ix3 x⟩
    refine Eq.trans ?_ (blkKm_at x0 x2 x4 _ 1 j (by show 1 + 1 * p.val = 1; omega) (by show 0 + 1 * j.val = j.val; omega)).symm
    simp only [pay25_row, pay21_row, pay2_row, blkMain, blkTail, proj]
    pointwise
  · obtain ⟨p, q, j, rfl⟩ : ∃ (p q : Fin 1) (j : Fin 256), x = ix3 p q j := ⟨x 0, x 1, x 2, eq_ix3 x⟩
    refine Eq.trans ?_ (blkKm_at x0 x2 x4 _ 0 j (by show 0 + 1 * p.val = 0; omega) (by show 0 + 1 * j.val = j.val; omega)).symm
    simp only [pay23_row, pay21_row, pay2_row, blkMain, blkTail, proj]
    pointwise

end Cert.InprojValue

end
-- ==== Proof.Inproj.Arr.lean ====
/- The arrays the input projection leaves: each row a function of that row of the arguments. -/
module

public import proofs.«01_k».proof.Proof.Inproj.Out

@[expose] public section

set_option maxRecDepth 16384

noncomputable section

namespace Cert.InprojValue

open Cert.InprojIdeal Cert.InprojIdeal.Gen Idealize.ShloMosaic Idealize.ShloMosaic.TcCoe Idealize.SL.Sem Cert.TailValue
open Idealize.ShloMosaic.Pipeline (Dat)

/-- All the projected columns of row `n`: token `n % 4096` of batch `n / 4096`, with layer three's gain and weights. -/
def zRow (x : Vec Ideal S4x4096x1024 .f32) (g : Vec Ideal S4x1024 .f32) (w : Vec Ideal S4x1024x3144 .f32) (n : Fin 16384) (c : Fin 3144) : EReal :=
  proj (fun k => x (ix3 ⟨n.val / 4096, by omega⟩ ⟨n.val % 4096, by omega⟩ k)) (fun k => g (ix2 3 k)) (fun k => w (ix3 3 k c))

/-- The joined queries, keys and indexer columns. -/
def zbArr (x : Vec Ideal S4x4096x1024 .f32) (g : Vec Ideal S4x1024 .f32) (w : Vec Ideal S4x1024x3144 .f32) : Vec Ideal S16384x1664 .bf16 :=
  fun i => zbRow (zRow x g w (i 0)) (i 1)

/-- The token of a block. -/
def tok (a : Fin 4) (b : Fin 16) (q : Fin 256) : Fin 16384 := ⟨4096 * a.val + 256 * b.val + q.val, by omega⟩

/-- The values, columns first in every block. -/
def vtArr (x : Vec Ideal S4x4096x1024 .f32) (g : Vec Ideal S4x1024 .f32) (w : Vec Ideal S4x1024x3144 .f32) : Vec Ideal S4x16x512x256 .bf16 :=
  fun i => vtRow (zRow x g w (tok (i 0) (i 1) (i 3))) (i 2)

/-- The indexer's weights, padded. -/
def zcArr (x : Vec Ideal S4x4096x1024 .f32) (g : Vec Ideal S4x1024 .f32) (w : Vec Ideal S4x1024x3144 .f32) : Vec Ideal S16384x128 .f32 :=
  fun i => zcRow (zRow x g w (i 0)) (i 1)

/-- The mean key of block `u`. -/
def kmRow (x : Vec Ideal S4x4096x1024 .f32) (g : Vec Ideal S4x1024 .f32) (w : Vec Ideal S4x1024x3144 .f32) (u : Fin 64) (j : Fin 256) : EReal :=
  Ideal.div (∑ q : Fin 256, zRow x g w ⟨256 * u.val + q.val, by omega⟩ ⟨2632 + j.val, by omega⟩) (Ideal.ofBits .f32 0x43800000#32)

/-- The mean keys. -/
def kmArr (x : Vec Ideal S4x4096x1024 .f32) (g : Vec Ideal S4x1024 .f32) (w : Vec Ideal S4x1024x3144 .f32) : Vec Ideal S64x1x256 .f32 :=
  fun i => kmRow x g w (i 0) (i 2)

/-- Batches and tokens merged into one axis. -/
theorem merge3 (x : Vec Ideal S4x4096x1024 .f32) (i : S16384x1024.Idx) : shapeCast S16384x1024 x shapeCasts_S4x4096x1024_S16384x1024 i
    = x (ix3 ⟨(i 0).val / 4096, by have h : (i 0).val < 16384 := (i 0).isLt; omega⟩ ⟨(i 0).val % 4096, by omega⟩ (i 1)) := by
  refine shapeCast_apply x shapeCasts_S4x4096x1024_S16384x1024 i _ ?_
  rewrite [Shape.rowMajor_val_three, Shape.rowMajor_val_two]
  show ((i 0).val / 4096 * 4096 + (i 0).val % 4096) * 1024 + (i 1).val = (i 0).val * 1024 + (i 1).val
  omega

/-- A gain's row, sliced out, flattened and laid out as a row again. -/
theorem gainRow (x : Vec Ideal S4x1024 .f32) (i : S1x1024.Idx) :
    broadcastInDim S1x1024 ![1] bcast_S1024_S1x1024_1 (shapeCast S1024 (extractStridedSlice S1x1024 ![3, 0] x slices_S4x1024_S1x1024_3_0) shapeCasts_S1x1024_S1024) i = x (ix2 3 (i 1)) := by
  obtain ⟨q, k, rfl⟩ : ∃ (q : Fin 1) (k : Fin 1024), i = ix2 q k := ⟨i 0, i 1, eq_ix2 i⟩
  pointwise

/-- The columns from 2304 on. -/
def wTail (w : Vec Ideal S4x1024x3144 .f32) : Vec Ideal S4x1024x840 .f32 := extractStridedSlice S4x1024x840 ![0, 0, 2304] w slices_S4x1024x3144_S4x1024x840_0_0_2304

/-- The pieces of the second group of columns, in their order. -/
def pieces (w : Vec Ideal S4x1024x3144 .f32) : List ((s : Shape) × (s.Idx → EReal)) :=
  [⟨S4x1024x256, extractStridedSlice S4x1024x256 ![0, 0, 72] (wTail w) slices_S4x1024x840_S4x1024x256_0_0_72⟩,
    ⟨S4x1024x256, extractStridedSlice S4x1024x256 ![0, 0, 328] (wTail w) slices_S4x1024x840_S4x1024x256_0_0_328⟩,
    ⟨S4x1024x256, extractStridedSlice S4x1024x256 ![0, 0, 584] (wTail w) slices_S4x1024x840_S4x1024x256_0_0_584⟩,
    ⟨S4x1024x64, extractStridedSlice S4x1024x64 ![0, 0, 0] (wTail w) slices_S4x1024x840_S4x1024x64_0_0_0⟩,
    ⟨S4x1024x64, extractStridedSlice S4x1024x64 ![0, 0, 0] (wTail w) slices_S4x1024x840_S4x1024x64_0_0_0⟩,
    ⟨S4x1024x8, extractStridedSlice S4x1024x8 ![0, 0, 64] (wTail w) slices_S4x1024x840_S4x1024x8_0_0_64⟩,
    ⟨S4x1024x120, broadcastInDim S4x1024x120 ![] bcast_S_S4x1024x120 (constant (F := Ideal) S_ .f32 0x00000000#32)⟩]

/-- The joined pieces, a column of the layer's row. -/
theorem joined (w : Vec Ideal S4x1024x3144 .f32) (q : Fin 4) (k : Fin 1024) (j : Fin 1024) :
    concatenate S4x1024x1024 2 (pieces w) concatenates_S4x1024x256_S4x1024x256_S4x1024x256_S4x1024x64_S4x1024x64_S4x1024x8_S4x1024x120_S4x1024x1024_d2 (ix3 q k j)
      = tailRow (fun c => w (ix3 q k c)) j := by
  unfold tailRow
  rcases Nat.lt_or_ge j.val 256 with h1 | h1
  · rw [dif_pos (by omega)]
    refine (concatenate_apply_piece (2 : Fin S4x1024x1024.rank) (pieces w) _ (ix3 q k j) 0 (by show 0 < 7; omega) S4x1024x256 _ rfl rfl 0 rfl (ix3 q k ⟨j.val - 0, by omega⟩ : S4x1024x256.Idx)
      (fun a => match a with | ⟨0, _⟩ => fun _ => rfl | ⟨1, _⟩ => fun _ => rfl | ⟨2, _⟩ => fun h => absurd rfl h) (by show 0 + (j.val - 0) = j.val; omega)).trans ?_
    exact congrArg w (funext fun a => match a with
      | ⟨0, _⟩ => Fin.ext (by show 0 + (0 + q.val) = q.val; omega)
      | ⟨1, _⟩ => Fin.ext (by show 0 + (0 + k.val) = k.val; omega)
      | ⟨2, _⟩ => Fin.ext (by show 2304 + (72 + (j.val - 0)) = 2376 + j.val; omega))
  rcases Nat.lt_or_ge j.val 512 with h2 | h2
  · rw [dif_pos (by omega)]
    refine (concatenate_apply_piece (2 : Fin S4x1024x1024.rank) (pieces w) _ (ix3 q k j) 1 (by show 1 < 7; omega) S4x1024x256 _ rfl rfl 256 rfl (ix3 q k ⟨j.val - 256, by omega⟩ : S4x1024x256.Idx)
      (fun a => match a with | ⟨0, _⟩ => fun _ => rfl | ⟨1, _⟩ => fun _ => rfl | ⟨2, _⟩ => fun h => absurd rfl h) (by show 256 + (j.val - 256) = j.val; omega)).trans ?_
    exact congrArg w (funext fun a => match a with
      | ⟨0, _⟩ => Fin.ext (by show 0 + (0 + q.val) = q.val; omega)
      | ⟨1, _⟩ => Fin.ext (by show 0 + (0 + k.val) = k.val; omega)
      | ⟨2, _⟩ => Fin.ext (by show 2304 + (328 + (j.val - 256)) = 2376 + j.val; omega))
  rcases Nat.lt_or_ge j.val 768 with h3 | h3
  · rw [dif_pos (by omega)]
    refine (concatenate_apply_piece (2 : Fin S4x1024x1024.rank) (pieces w) _ (ix3 q k j) 2 (by show 2 < 7; omega) S4x1024x256 _ rfl rfl 512 rfl (ix3 q k ⟨j.val - 512, by omega⟩ : S4x1024x256.Idx)
      (fun a => match a with | ⟨0, _⟩ => fun _ => rfl | ⟨1, _⟩ => fun _ => rfl | ⟨2, _⟩ => fun h => absurd rfl h) (by show 512 + (j.val - 512) = j.val; omega)).trans ?_
    exact congrArg w (funext fun a => match a with
      | ⟨0, _⟩ => Fin.ext (by show 0 + (0 + q.val) = q.val; omega)
      | ⟨1, _⟩ => Fin.ext (by show 0 + (0 + k.val) = k.val; omega)
      | ⟨2, _⟩ => Fin.ext (by show 2304 + (584 + (j.val - 512)) = 2376 + j.val; omega))
  rcases Nat.lt_or_ge j.val 832 with h4 | h4
  · rw [dif_neg (by omega), dif_pos (by omega)]
    refine (concatenate_apply_piece (2 : Fin S4x1024x1024.rank) (pieces w) _ (ix3 q k j) 3 (by show 3 < 7; omega) S4x1024x64 _ rfl rfl 768 rfl (ix3 q k ⟨j.val - 768, by omega⟩ : S4x1024x64.Idx)
      (fun a => match a with | ⟨0, _⟩ => fun _ => rfl | ⟨1, _⟩ => fun _ => rfl | ⟨2, _⟩ => fun h => absurd rfl h) (by show 768 + (j.val - 768) = j.val; omega)).trans ?_
    exact congrArg w (funext fun a => match a with
      | ⟨0, _⟩ => Fin.ext (by show 0 + (0 + q.val) = q.val; omega)
      | ⟨1, _⟩ => Fin.ext (by show 0 + (0 + k.val) = k.val; omega)
      | ⟨2, _⟩ => Fin.ext (by show 2304 + (0 + (j.val - 768)) = 1536 + j.val; omega))
  rcases Nat.lt_or_ge j.val 896 with h5 | h5
  · rw [dif_neg (by omega), dif_neg (by omega), dif_pos (by omega)]
    refine (concatenate_apply_piece (2 : Fin S4x1024x1024.rank) (pieces w) _ (ix3 q k j) 4 (by show 4 < 7; omega) S4x1024x64 _ rfl rfl 832 rfl (ix3 q k ⟨j.val - 832, by omega⟩ : S4x1024x64.Idx)
      (fun a => match a with | ⟨0, _⟩ => fun _ => rfl | ⟨1, _⟩ => fun _ => rfl | ⟨2, _⟩ => fun h => absurd rfl h) (by show 832 + (j.val - 832) = j.val; omega)).trans ?_
    exact congrArg w (funext fun a => match a with
      | ⟨0, _⟩ => Fin.ext (by show 0 + (0 + q.val) = q.val; omega)
      | ⟨1, _⟩ => Fin.ext (by show 0 + (0 + k.val) = k.val; omega)
      | ⟨2, _⟩ => Fin.ext (by show 2304 + (0 + (j.val - 832)) = 1472 + j.val; omega))
  rcases Nat.lt_or_ge j.val 904 with h6 | h6
  · rw [dif_neg (by omega), dif_neg (by omega), dif_pos (by omega)]
    refine (concatenate_apply_piece (2 : Fin S4x1024x1024.rank) (pieces w) _ (ix3 q k j) 5 (by show 5 < 7; omega) S4x1024x8 _ rfl rfl 896 rfl (ix3 q k ⟨j.val - 896, by omega⟩ : S4x1024x8.Idx)
      (fun a => match a with | ⟨0, _⟩ => fun _ => rfl | ⟨1, _⟩ => fun _ => rfl | ⟨2, _⟩ => fun h => absurd rfl h) (by show 896 + (j.val - 896) = j.val; omega)).trans ?_
    exact congrArg w (funext fun a => match a with
      | ⟨0, _⟩ => Fin.ext (by show 0 + (0 + q.val) = q.val; omega)
      | ⟨1, _⟩ => Fin.ext (by show 0 + (0 + k.val) = k.val; omega)
      | ⟨2, _⟩ => Fin.ext (by show 2304 + (64 + (j.val - 896)) = 1472 + j.val; omega))
  · rw [dif_neg (by omega), dif_neg (by omega), dif_neg (by omega)]
    refine (concatenate_apply_piece (2 : Fin S4x1024x1024.rank) (pieces w) _ (ix3 q k j) 6 (by show 6 < 7; omega) S4x1024x120 _ rfl rfl 904 rfl (ix3 q k ⟨j.val - 904, by omega⟩ : S4x1024x120.Idx)
      (fun a => match a with | ⟨0, _⟩ => fun _ => rfl | ⟨1, _⟩ => fun _ => rfl | ⟨2, _⟩ => fun h => absurd rfl h) (by show 904 + (j.val - 904) = j.val; omega)).trans ?_
    exact Ideal.ofBits_zero_f32

/-- A projection onto the second group's columns. -/
theorem proj_tailRow (v g : Fin 1024 → EReal) (w : Fin 1024 → Fin 3144 → EReal) (j : Fin 1024) :
    proj v g (fun k => tailRow (w k) j) = tailRow (fun c => proj v g (fun k => w k c)) j := by
  unfold tailRow
  split_ifs
  · rfl
  · rfl
  · rfl
  · exact Finset.sum_eq_zero fun k _ => mul_zero _

variable (m : (ℓ : Loc nD τ sig) → Buf (Elt Ideal) ℓ)

/-! ## The arrays the windows stage, from the arguments -/

theorem V_main_v24 (c : Dev nD) (i : S16384x1024.Idx) : V m c main_v24 i = m ((c : Thread nD τ).loc main_arg0) (ix3 ⟨(i 0).val / 4096, by have h : (i 0).val < 16384 := (i 0).isLt; omega⟩ ⟨(i 0).val % 4096, by omega⟩ (i 1)) := by
  have e : V m c main_v24 = shapeCast S16384x1024 (m ((c : Thread nD τ).loc main_arg0)) shapeCasts_S4x4096x1024_S16384x1024 := by unfold V; after_results <;> rfl
  rw [e]
  exact merge3 _ i

theorem V_main_v27 (c : Dev nD) (i : S1x1024.Idx) : V m c main_v27 i = m ((c : Thread nD τ).loc main_arg1) (ix2 3 (i 1)) := by
  have e : V m c main_v27 = broadcastInDim S1x1024 ![1] bcast_S1024_S1x1024_1 (shapeCast S1024 (extractStridedSlice S1x1024 ![3, 0] (m ((c : Thread nD τ).loc main_arg1)) slices_S4x1024_S1x1024_3_0) shapeCasts_S1x1024_S1024) := by unfold V; after_results <;> rfl
  rw [e]
  exact gainRow _ i

theorem V_main_v9 (c : Dev nD) (i : S4x1024x2304.Idx) : V m c main_v9 i = m ((c : Thread nD τ).loc main_arg2) (ix3 (i 0) (i 1) ⟨(i 2).val, by have h : (i 2).val < 2304 := (i 2).isLt; omega⟩) := by
  have e : V m c main_v9 = ((truncf (F := Ideal) .bf16 · bitsLt_bf16_f32) : (⟨S4x1024x2304, .f32⟩ : BufTy).Contents (Elt Ideal) → (⟨S4x1024x2304, .bf16⟩ : BufTy).Contents (Elt Ideal))
      (extractStridedSlice S4x1024x2304 ![0, 0, 0] (m ((c : Thread nD τ).loc main_arg2)) slices_S4x1024x3144_S4x1024x2304_0_0_0) := by unfold V; after_results <;> rfl
  rw [e]
  exact congrArg (m ((c : Thread nD τ).loc main_arg2)) (funext fun a => match a with
    | ⟨0, _⟩ => Fin.ext (by show 0 + (i 0).val = (i 0).val; omega)
    | ⟨1, _⟩ => Fin.ext (by show 0 + (i 1).val = (i 1).val; omega)
    | ⟨2, _⟩ => Fin.ext (by show 0 + (i 2).val = (i 2).val; omega))

theorem V_main_v10 (c : Dev nD) (i : S4x1024x1024.Idx) : V m c main_v10 i = tailRow (fun j => m ((c : Thread nD τ).loc main_arg2) (ix3 (i 0) (i 1) j)) (i 2) := by
  have e : V m c main_v10 = ((truncf (F := Ideal) .bf16 · bitsLt_bf16_f32) : (⟨S4x1024x1024, .f32⟩ : BufTy).Contents (Elt Ideal) → (⟨S4x1024x1024, .bf16⟩ : BufTy).Contents (Elt Ideal))
      (concatenate S4x1024x1024 2 (pieces (m ((c : Thread nD τ).loc main_arg2))) concatenates_S4x1024x256_S4x1024x256_S4x1024x256_S4x1024x64_S4x1024x64_S4x1024x8_S4x1024x120_S4x1024x1024_d2) := by unfold V; after_results <;> rfl
  rw [e]
  exact (congrArg _ (eq_ix3 i)).trans (joined _ (i 0) (i 1) (i 2))

/-! ## The windows' blocks -/

theorem idx0 : ∀ t : Fin cfg0.N, win0_0.index t (0 : Fin 2) = t.val ∧ win0_0.index t (1 : Fin 2) = 0 := (by decide +kernel : ∀ t : Fin grid0.N, win0_0.index t (0 : Fin 2) = t.val ∧ win0_0.index t (1 : Fin 2) = 0)
theorem idx2 : ∀ t : Fin cfg0.N, win0_2.index t (0 : Fin 2) = 0 ∧ win0_2.index t (1 : Fin 2) = 0 := (by decide +kernel : ∀ t : Fin grid0.N, win0_2.index t (0 : Fin 2) = 0 ∧ win0_2.index t (1 : Fin 2) = 0)
theorem idx3 : ∀ t : Fin cfg0.N, win0_3.index t (0 : Fin 3) = 3 ∧ win0_3.index t (1 : Fin 3) = 0 ∧ win0_3.index t (2 : Fin 3) = 0 := (by decide +kernel : ∀ t : Fin grid0.N, win0_3.index t (0 : Fin 3) = 3 ∧ win0_3.index t (1 : Fin 3) = 0 ∧ win0_3.index t (2 : Fin 3) = 0)
theorem idx4 : ∀ t : Fin cfg0.N, win0_4.index t (0 : Fin 3) = 3 ∧ win0_4.index t (1 : Fin 3) = 0 ∧ win0_4.index t (2 : Fin 3) = 0 := (by decide +kernel : ∀ t : Fin grid0.N, win0_4.index t (0 : Fin 3) = 3 ∧ win0_4.index t (1 : Fin 3) = 0 ∧ win0_4.index t (2 : Fin 3) = 0)
theorem idx9 : ∀ t : Fin cfg0.N, win0_9.index t (0 : Fin 2) = t.val ∧ win0_9.index t (1 : Fin 2) = 0 := (by decide +kernel : ∀ t : Fin grid0.N, win0_9.index t (0 : Fin 2) = t.val ∧ win0_9.index t (1 : Fin 2) = 0)
theorem idx10 : ∀ t : Fin cfg0.N, win0_10.index t (0 : Fin 4) = t.val / 8 ∧ win0_10.index t (1 : Fin 4) = t.val % 8 ∧ win0_10.index t (2 : Fin 4) = 0 ∧ win0_10.index t (3 : Fin 4) = 0 :=
  (by decide +kernel : ∀ t : Fin grid0.N, win0_10.index t (0 : Fin 4) = t.val / 8 ∧ win0_10.index t (1 : Fin 4) = t.val % 8 ∧ win0_10.index t (2 : Fin 4) = 0 ∧ win0_10.index t (3 : Fin 4) = 0)
theorem idx11 : ∀ t : Fin cfg0.N, win0_11.index t (0 : Fin 2) = t.val ∧ win0_11.index t (1 : Fin 2) = 0 := (by decide +kernel : ∀ t : Fin grid0.N, win0_11.index t (0 : Fin 2) = t.val ∧ win0_11.index t (1 : Fin 2) = 0)
theorem idx12 : ∀ t : Fin cfg0.N, win0_12.index t (0 : Fin 3) = t.val ∧ win0_12.index t (1 : Fin 3) = 0 ∧ win0_12.index t (2 : Fin 3) = 0 := (by decide +kernel : ∀ t : Fin grid0.N, win0_12.index t (0 : Fin 3) = t.val ∧ win0_12.index t (1 : Fin 3) = 0 ∧ win0_12.index t (2 : Fin 3) = 0)

theorem blk0 (c : Dev nD) (t : Fin cfg0.N) (r : Fin 512) (k : Fin 1024) : (iblk m c 0 t : Vec Ideal S512x1024 .f32) (ix2 r k) = m ((c : Thread nD τ).loc main_arg0) (ix3 ⟨(512 * t.val + r.val) / 4096, by have ht : t.val < 32 := t.isLt; omega⟩ ⟨(512 * t.val + r.val) % 4096, by omega⟩ k) := by
  have ht : t.val < 32 := t.isLt
  obtain ⟨h0, h1⟩ := idx0 t
  unfold iblk
  rw [View.read_apply]
  refine (V_main_v24 m c _).trans (congrArg _ (funext fun a => Fin.ext ?_))
  match a with
    | ⟨0, _⟩ => show (win0_0.index t 0 * 512 + 1 * r.val) / 4096 = (512 * t.val + r.val) / 4096; rw [h0]; omega
    | ⟨1, _⟩ => show (win0_0.index t 0 * 512 + 1 * r.val) % 4096 = (512 * t.val + r.val) % 4096; rw [h0]; omega
    | ⟨2, _⟩ => show win0_0.index t 1 * 1024 + 1 * k.val = k.val; rw [h1]; omega

theorem blk2 (c : Dev nD) (t : Fin cfg0.N) (k : Fin 1024) : (iblk m c 2 t : Vec Ideal S1x1024 .f32) (ix2 0 k) = m ((c : Thread nD τ).loc main_arg1) (ix2 3 k) := by
  obtain ⟨h0, h1⟩ := idx2 t
  unfold iblk
  rw [View.read_apply]
  refine (V_main_v27 m c _).trans (congrArg _ (funext fun a => Fin.ext ?_))
  match a with
    | ⟨0, _⟩ => rfl
    | ⟨1, _⟩ => show win0_2.index t 1 * 1024 + 1 * k.val = k.val; rw [h1]; omega

theorem blk3 (c : Dev nD) (t : Fin cfg0.N) (k : Fin 1024) (j : Fin 2304) : (iblk m c 3 t : Vec Ideal S1x1024x2304 .bf16) (ix3 0 k j) = m ((c : Thread nD τ).loc main_arg2) (ix3 3 k ⟨j.val, by omega⟩) := by
  obtain ⟨h0, h1, h2⟩ := idx3 t
  unfold iblk
  rw [View.read_apply]
  refine (V_main_v9 m c _).trans (congrArg _ (funext fun a => Fin.ext ?_))
  match a with
    | ⟨0, _⟩ => show win0_3.index t 0 * 1 + 1 * 0 = 3; rw [h0]
    | ⟨1, _⟩ => show win0_3.index t 1 * 1024 + 1 * k.val = k.val; rw [h1]; omega
    | ⟨2, _⟩ => show win0_3.index t 2 * 2304 + 1 * j.val = j.val; rw [h2]; omega

theorem blk4 (c : Dev nD) (t : Fin cfg0.N) (k : Fin 1024) (j : Fin 1024) : (iblk m c 4 t : Vec Ideal S1x1024x1024 .bf16) (ix3 0 k j) = tailRow (fun c' => m ((c : Thread nD τ).loc main_arg2) (ix3 3 k c')) j := by
  obtain ⟨h0, h1, h2⟩ := idx4 t
  have e : ((cfg0.win 4).blk t).view.emb (ix3 0 k j) = (ix3 3 k j : S4x1024x1024.Idx) := funext fun a => Fin.ext (by
    match a with
    | ⟨0, _⟩ => show win0_4.index t 0 * 1 + 1 * 0 = 3; rw [h0]
    | ⟨1, _⟩ => show win0_4.index t 1 * 1024 + 1 * k.val = k.val; rw [h1]; omega
    | ⟨2, _⟩ => show win0_4.index t 2 * 1024 + 1 * j.val = j.val; rw [h2]; omega)
  unfold iblk
  rw [View.read_apply]
  exact (congrArg (V m c main_v10) e).trans (V_main_v10 m c _)

/-- All the projected columns of a row, from the launch memory. -/
abbrev zMem (c : Dev nD) (n : Fin 16384) (j : Fin 3144) : EReal :=
  zRow (m ((c : Thread nD τ).loc main_arg0)) (m ((c : Thread nD τ).loc main_arg1)) (m ((c : Thread nD τ).loc main_arg2)) n j

/-- The first group's columns of a point's row. -/
theorem main_eq (c : Dev nD) (t : Fin cfg0.N) (r : Fin 512) :
    blkMain (iblk m c 0 t) (iblk m c 2 t) (iblk m c 3 t) r = fun j => zMem m c ⟨512 * t.val + r.val, by have ht : t.val < 32 := t.isLt; omega⟩ ⟨j.val, by omega⟩ := by
  funext j
  unfold blkMain
  simp only [blk0, blk2, blk3]
  rfl

/-- The second group's columns of a point's row. -/
theorem tail_eq (c : Dev nD) (t : Fin cfg0.N) (r : Fin 512) :
    blkTail (iblk m c 0 t) (iblk m c 2 t) (iblk m c 4 t) r = tailRow (zMem m c ⟨512 * t.val + r.val, by have ht : t.val < 32 := t.isLt; omega⟩) := by
  funext j
  unfold blkTail
  simp only [blk0, blk2, blk4, proj_tailRow]
  rfl

/-! ## The arrays after the run -/

/-- The queries, keys and indexer columns as the kernel leaves them, from the launch memory. -/
def zbRes (c : Dev nD) : Vec Ideal S16384x1664 .bf16 := zbArr (m ((c : Thread nD τ).loc main_arg0)) (m ((c : Thread nD τ).loc main_arg1)) (m ((c : Thread nD τ).loc main_arg2))

/-- What each point writes back is its rows of the queries, keys and indexer columns. -/
theorem zb_flushed (c : Dev nD) (t : Fin cfg0.N) : (dats m 0 c).flushed 9 t = ((cfg0.win 9).blk t).view.read (Elt Ideal) (zbRes m c) := by
  have ht : t.val < 32 := t.isLt
  obtain ⟨h0, h1⟩ := idx9 t
  rw [Cert.InprojIdeal.Value.flushed9_A, zb_row]
  funext y
  obtain ⟨r, j, rfl⟩ : ∃ (r : Fin 512) (j : Fin 1664), y = ix2 r j := ⟨y 0, y 1, eq_ix2 y⟩
  rw [View.read_apply]
  have hi : ((cfg0.win 9).blk t).view.emb (ix2 r j) = (ix2 ⟨512 * t.val + r.val, by omega⟩ j : S16384x1664.Idx) := funext fun a => Fin.ext (by
    match a with
    | ⟨0, _⟩ => show win0_9.index t 0 * 512 + 1 * r.val = 512 * t.val + r.val; rw [h0]; omega
    | ⟨1, _⟩ => show win0_9.index t 1 * 1664 + 1 * j.val = j.val; rw [h1]; omega)
  refine Eq.trans ?_ (congrArg (zbRes m c) hi).symm
  show zbTwo (blkMain (iblk m c 0 t) (iblk m c 2 t) (iblk m c 3 t) r) (blkTail (iblk m c 0 t) (iblk m c 2 t) (iblk m c 4 t) r) j = _
  rw [main_eq, tail_eq, zbTwo_eq]
  rfl

/-- Every index of the queries, keys and indexer columns lies in some point's block. -/
theorem zb_cover (i : S16384x1664.Idx) : ∃ t : Fin cfg0.N, (cfg0.win 9).flush t = true ∧ i ∈ ((cfg0.win 9).blk t).view.set := by
  have hi0 : (i 0).val < 16384 := (i 0).isLt
  have hi1 : (i 1).val < 1664 := (i 1).isLt
  have hN : (i 0).val / 512 < cfg0.N := by show _ < 32; omega
  obtain ⟨h0, h1⟩ := idx9 ⟨(i 0).val / 512, hN⟩
  refine ⟨⟨(i 0).val / 512, hN⟩, flush0_9 _, ?_⟩
  show i ∈ ((View.whole main_v35_1).slice (win0_9.rect ⟨(i 0).val / 512, hN⟩)).set
  rw [View.set_slice_whole, Rect.mem_set_unit]
  intro a
  match a with
  | ⟨0, _⟩ => show win0_9.index _ 0 * 512 ≤ (i 0).val ∧ (i 0).val < win0_9.index _ 0 * 512 + 512; rw [h0]; dsimp only; omega
  | ⟨1, _⟩ => show win0_9.index _ 1 * 1664 ≤ (i 1).val ∧ (i 1).val < win0_9.index _ 1 * 1664 + 1664; rw [h1]; dsimp only; omega

/-- The queries, keys and indexer columns after the run. -/
theorem zb_final (c : Dev nD) : (dats m 0 c).arrAt 9 cfg0.N = zbRes m c :=
  (dats m 0 c).arrAt_eq_of_cover 9 (zbRes m c) (fun t _ => zb_flushed m c t) zb_cover

/-- The values as the kernel leaves them, from the launch memory. -/
def vtRes (c : Dev nD) : Vec Ideal S4x16x512x256 .bf16 := vtArr (m ((c : Thread nD τ).loc main_arg0)) (m ((c : Thread nD τ).loc main_arg1)) (m ((c : Thread nD τ).loc main_arg2))

/-- What each point writes back is its rows of the values. -/
theorem vt_flushed (c : Dev nD) (t : Fin cfg0.N) : (dats m 0 c).flushed 10 t = ((cfg0.win 10).blk t).view.read (Elt Ideal) (vtRes m c) := by
  have ht : t.val < 32 := t.isLt
  obtain ⟨h0, h1, h2, h3⟩ := idx10 t
  rw [Cert.InprojIdeal.Value.flushed10_A, vt_row]
  funext y
  obtain ⟨p, u, j, q, rfl⟩ : ∃ (p : Fin 1) (u : Fin 2) (j : Fin 512) (q : Fin 256), y = ix4 p u j q := ⟨y 0, y 1, y 2, y 3, eq_ix4 y⟩
  rw [View.read_apply]
  have hi : ((cfg0.win 10).blk t).view.emb (ix4 p u j q) = (ix4 ⟨t.val / 8, by omega⟩ ⟨2 * (t.val % 8) + u.val, by omega⟩ j q : S4x16x512x256.Idx) := funext fun a => Fin.ext (by
    match a with
    | ⟨0, _⟩ => show win0_10.index t 0 * 1 + 1 * p.val = t.val / 8; rw [h0]; omega
    | ⟨1, _⟩ => show win0_10.index t 1 * 2 + 1 * u.val = 2 * (t.val % 8) + u.val; rw [h1]; omega
    | ⟨2, _⟩ => show win0_10.index t 2 * 512 + 1 * j.val = j.val; rw [h2]; omega
    | ⟨3, _⟩ => show win0_10.index t 3 * 256 + 1 * q.val = q.val; rw [h3]; omega)
  refine Eq.trans ?_ (congrArg (vtRes m c) hi).symm
  refine (blkVt_at _ _ _ _ _ ⟨256 * u.val + q.val, by omega⟩ j rfl rfl).trans ?_
  rw [main_eq, tail_eq, vtTwo_eq]
  exact congrArg (fun n => vtRow (zMem m c n) j) (Fin.ext (by show 512 * t.val + (256 * u.val + q.val) = 4096 * (t.val / 8) + 256 * (2 * (t.val % 8) + u.val) + q.val; omega))

/-- Every index of the values lies in some point's block. -/
theorem vt_cover (i : S4x16x512x256.Idx) : ∃ t : Fin cfg0.N, (cfg0.win 10).flush t = true ∧ i ∈ ((cfg0.win 10).blk t).view.set := by
  have hi0 : (i 0).val < 4 := (i 0).isLt
  have hi1 : (i 1).val < 16 := (i 1).isLt
  have hi2 : (i 2).val < 512 := (i 2).isLt
  have hi3 : (i 3).val < 256 := (i 3).isLt
  have hN : 8 * (i 0).val + (i 1).val / 2 < cfg0.N := by show _ < 32; omega
  obtain ⟨h0, h1, h2, h3⟩ := idx10 ⟨8 * (i 0).val + (i 1).val / 2, hN⟩
  refine ⟨⟨8 * (i 0).val + (i 1).val / 2, hN⟩, flush0_10 _, ?_⟩
  show i ∈ ((View.whole main_v35_2).slice (win0_10.rect ⟨8 * (i 0).val + (i 1).val / 2, hN⟩)).set
  rw [View.set_slice_whole, Rect.mem_set_unit]
  intro a
  match a with
  | ⟨0, _⟩ => show win0_10.index _ 0 * 1 ≤ (i 0).val ∧ (i 0).val < win0_10.index _ 0 * 1 + 1; rw [h0]; dsimp only; omega
  | ⟨1, _⟩ => show win0_10.index _ 1 * 2 ≤ (i 1).val ∧ (i 1).val < win0_10.index _ 1 * 2 + 2; rw [h1]; dsimp only; omega
  | ⟨2, _⟩ => show win0_10.index _ 2 * 512 ≤ (i 2).val ∧ (i 2).val < win0_10.index _ 2 * 512 + 512; rw [h2]; dsimp only; omega
  | ⟨3, _⟩ => show win0_10.index _ 3 * 256 ≤ (i 3).val ∧ (i 3).val < win0_10.index _ 3 * 256 + 256; rw [h3]; dsimp only; omega

/-- The values after the run. -/
theorem vt_final (c : Dev nD) : (dats m 0 c).arrAt 10 cfg0.N = vtRes m c :=
  (dats m 0 c).arrAt_eq_of_cover 10 (vtRes m c) (fun t _ => vt_flushed m c t) vt_cover

/-- The indexer's weights as the kernel leaves them, from the launch memory. -/
def zcRes (c : Dev nD) : Vec Ideal S16384x128 .f32 := zcArr (m ((c : Thread nD τ).loc main_arg0)) (m ((c : Thread nD τ).loc main_arg1)) (m ((c : Thread nD τ).loc main_arg2))

/-- What each point writes back is its rows of the indexer's weights. -/
theorem zc_flushed (c : Dev nD) (t : Fin cfg0.N) : (dats m 0 c).flushed 11 t = ((cfg0.win 11).blk t).view.read (Elt Ideal) (zcRes m c) := by
  have ht : t.val < 32 := t.isLt
  obtain ⟨h0, h1⟩ := idx11 t
  rw [Cert.InprojIdeal.Value.flushed11_A, zc_row]
  funext y
  obtain ⟨r, j, rfl⟩ : ∃ (r : Fin 512) (j : Fin 128), y = ix2 r j := ⟨y 0, y 1, eq_ix2 y⟩
  rw [View.read_apply]
  have hi : ((cfg0.win 11).blk t).view.emb (ix2 r j) = (ix2 ⟨512 * t.val + r.val, by omega⟩ j : S16384x128.Idx) := funext fun a => Fin.ext (by
    match a with
    | ⟨0, _⟩ => show win0_11.index t 0 * 512 + 1 * r.val = 512 * t.val + r.val; rw [h0]; omega
    | ⟨1, _⟩ => show win0_11.index t 1 * 128 + 1 * j.val = j.val; rw [h1]; omega)
  refine Eq.trans ?_ (congrArg (zcRes m c) hi).symm
  show blkTail (iblk m c 0 t) (iblk m c 2 t) (iblk m c 4 t) r ⟨896 + j.val, by omega⟩ = _
  rw [tail_eq, zcRow_eq]
  rfl

/-- Every index of the indexer's weights lies in some point's block. -/
theorem zc_cover (i : S16384x128.Idx) : ∃ t : Fin cfg0.N, (cfg0.win 11).flush t = true ∧ i ∈ ((cfg0.win 11).blk t).view.set := by
  have hi0 : (i 0).val < 16384 := (i 0).isLt
  have hi1 : (i 1).val < 128 := (i 1).isLt
  have hN : (i 0).val / 512 < cfg0.N := by show _ < 32; omega
  obtain ⟨h0, h1⟩ := idx11 ⟨(i 0).val / 512, hN⟩
  refine ⟨⟨(i 0).val / 512, hN⟩, flush0_11 _, ?_⟩
  show i ∈ ((View.whole main_v35_3).slice (win0_11.rect ⟨(i 0).val / 512, hN⟩)).set
  rw [View.set_slice_whole, Rect.mem_set_unit]
  intro a
  match a with
  | ⟨0, _⟩ => show win0_11.index _ 0 * 512 ≤ (i 0).val ∧ (i 0).val < win0_11.index _ 0 * 512 + 512; rw [h0]; dsimp only; omega
  | ⟨1, _⟩ => show win0_11.index _ 1 * 128 ≤ (i 1).val ∧ (i 1).val < win0_11.index _ 1 * 128 + 128; rw [h1]; dsimp only; omega

/-- The indexer's weights after the run. -/
theorem zc_final (c : Dev nD) : (dats m 0 c).arrAt 11 cfg0.N = zcRes m c :=
  (dats m 0 c).arrAt_eq_of_cover 11 (zcRes m c) (fun t _ => zc_flushed m c t) zc_cover

/-- The mean keys as the kernel leaves them, from the launch memory. -/
def kmRes (c : Dev nD) : Vec Ideal S64x1x256 .f32 := kmArr (m ((c : Thread nD τ).loc main_arg0)) (m ((c : Thread nD τ).loc main_arg1)) (m ((c : Thread nD τ).loc main_arg2))

/-- What each point writes back is its rows of the mean keys. -/
theorem km_flushed (c : Dev nD) (t : Fin cfg0.N) : (dats m 0 c).flushed 12 t = ((cfg0.win 12).blk t).view.read (Elt Ideal) (kmRes m c) := by
  have ht : t.val < 32 := t.isLt
  obtain ⟨h0, h1, h2⟩ := idx12 t
  rw [Cert.InprojIdeal.Value.flushed12_A, km_row]
  funext y
  obtain ⟨u, p, j, rfl⟩ : ∃ (u : Fin 2) (p : Fin 1) (j : Fin 256), y = ix3 u p j := ⟨y 0, y 1, y 2, eq_ix3 y⟩
  rw [View.read_apply]
  have hi : ((cfg0.win 12).blk t).view.emb (ix3 u p j) = (ix3 ⟨2 * t.val + u.val, by omega⟩ p j : S64x1x256.Idx) := funext fun a => Fin.ext (by
    match a with
    | ⟨0, _⟩ => show win0_12.index t 0 * 2 + 1 * u.val = 2 * t.val + u.val; rw [h0]; omega
    | ⟨1, _⟩ => show win0_12.index t 1 * 1 + 1 * p.val = p.val; rw [h1]; omega
    | ⟨2, _⟩ => show win0_12.index t 2 * 256 + 1 * j.val = j.val; rw [h2]; omega)
  refine Eq.trans ?_ (congrArg (kmRes m c) hi).symm
  refine (blkKm_at _ _ _ _ u j rfl rfl).trans ?_
  refine congrArg (fun s => Ideal.div s (Ideal.ofBits .f32 0x43800000#32)) (Finset.sum_congr rfl fun q _ => ?_)
  rw [tail_eq]
  unfold tailRow
  rw [dif_pos (by show 256 + j.val < 768; omega)]
  exact congrArg₂ (zMem m c) (Fin.ext (by show 512 * t.val + (256 * u.val + q.val) = 256 * (2 * t.val + u.val) + q.val; omega)) (Fin.ext (by show 2376 + (256 + j.val) = 2632 + j.val; omega))

/-- Every index of the mean keys lies in some point's block. -/
theorem km_cover (i : S64x1x256.Idx) : ∃ t : Fin cfg0.N, (cfg0.win 12).flush t = true ∧ i ∈ ((cfg0.win 12).blk t).view.set := by
  have hi0 : (i 0).val < 64 := (i 0).isLt
  have hi1 : (i 1).val < 1 := (i 1).isLt
  have hi2 : (i 2).val < 256 := (i 2).isLt
  have hN : (i 0).val / 2 < cfg0.N := by show _ < 32; omega
  obtain ⟨h0, h1, h2⟩ := idx12 ⟨(i 0).val / 2, hN⟩
  refine ⟨⟨(i 0).val / 2, hN⟩, flush0_12 _, ?_⟩
  show i ∈ ((View.whole main_v35_4).slice (win0_12.rect ⟨(i 0).val / 2, hN⟩)).set
  rw [View.set_slice_whole, Rect.mem_set_unit]
  intro a
  match a with
  | ⟨0, _⟩ => show win0_12.index _ 0 * 2 ≤ (i 0).val ∧ (i 0).val < win0_12.index _ 0 * 2 + 2; rw [h0]; dsimp only; omega
  | ⟨1, _⟩ => show win0_12.index _ 1 * 1 ≤ (i 1).val ∧ (i 1).val < win0_12.index _ 1 * 1 + 1; rw [h1]; dsimp only; omega
  | ⟨2, _⟩ => show win0_12.index _ 2 * 256 ≤ (i 2).val ∧ (i 2).val < win0_12.index _ 2 * 256 + 256; rw [h2]; dsimp only; omega

/-- The mean keys after the run. -/
theorem km_final (c : Dev nD) : (dats m 0 c).arrAt 12 cfg0.N = kmRes m c :=
  (dats m 0 c).arrAt_eq_of_cover 12 (kmRes m c) (fun t _ => km_flushed m c t) km_cover

end Cert.InprojValue

end
-- ==== Proof.Inproj.Ref.lean ====
/- The reference's results of the input projection, row by row. -/
module

public import proofs.«01_k».proof.Proof.Gen.InprojReferenceIdeal.Read
public import proofs.«01_k».proof.Proof.Inproj.Row
public import Idealize.ShloMosaic.Lib.Pointwise

@[expose] public section

set_option maxRecDepth 16384

noncomputable section

namespace Cert.InprojRefValue

open Cert.TailValue Cert.InprojValue Cert.InprojReferenceIdeal Cert.InprojReferenceIdeal.Gen Cert.InprojReferenceIdeal.Read Idealize.ShloMosaic Idealize.ShloMosaic.TcCoe Idealize.SL.Sem

/-- All the projected columns of token `s` of batch `q`. -/
def z (x0 : Vec Ideal S4x4096x1024 .f32) (x1 : Vec Ideal S4x1024 .f32) (x2 : Vec Ideal S4x1024x3144 .f32) (q : Fin 4) (s : Fin 4096) (c : Fin 3144) : EReal :=
  proj (fun k => x0 (ix3 q s k)) (fun k => x1 (ix2 3 k)) (fun k => x2 (ix3 3 k c))

/-- The layer's gain. -/
theorem gain13 (x1 : Vec Ideal S4x1024 .f32) (q : Fin 4) (s : Fin 4096) (j : Fin 1024) :
    val_main_v13 (F := Ideal) x1 (ix3 q s j) = x1 (ix2 3 j) := by
  rw [val_main_v13_apply, val_main_v12_apply, val_main_v1_apply, val_main_v0_apply]
  exact congrArg x1 (funext fun a => match a with
    | ⟨0, _⟩ => Fin.ext (by show 3 + 0 = 3; omega)
    | ⟨1, _⟩ => Fin.ext (by show j.val % 1024 = j.val; omega))

/-- The sum of a row's squares. -/
theorem sq3 (x0 : Vec Ideal S4x4096x1024 .f32) (q : Fin 4) (s : Fin 4096) :
    val_main_v3 (F := Ideal) x0 (ix2 q s) = ∑ k : Fin 1024, x0 (ix3 q s k) * x0 (ix3 q s k) := by
  rw [val_main_v3_apply, val_main_cst_apply]
  refine (congrArg₂ (· + ·) (Ideal.ofBits_zero_f32) (Finset.sum_congr rfl fun k _ => ?_)).trans (zero_add _)
  rw [val_main_v2_apply, show idx_main_v3 (ix2 q s) k = ix3 q s k from funext fun a => match a with | ⟨0, _⟩ => rfl | ⟨1, _⟩ => rfl | ⟨2, _⟩ => rfl]
  rfl

/-- The reciprocal root of a row's mean square. -/
theorem inv10 (x0 : Vec Ideal S4x4096x1024 .f32) (q : Fin 4) (s : Fin 4096) (j : Fin 1024) :
    val_main_v10 (F := Ideal) x0 (ix3 q s j) = Ideal.rsqrt (Ideal.div (∑ k : Fin 1024, x0 (ix3 q s k) * x0 (ix3 q s k)) (Ideal.ofBits .f32 0x44800000#32) + Ideal.ofBits .f32 0x358637BD#32) := by
  rw [← sq3, val_main_v10_apply, val_main_v9_apply, val_main_v8_apply, val_main_v6_apply, val_main_v7_apply, val_main_v5_apply, val_main_v4_apply, val_main_cst_0_apply, val_main_cst_1_apply,
    show idx_main_v4 (idx_main_v10 (ix3 q s j)) = ix2 q s from funext fun a => match a with | ⟨0, _⟩ => rfl | ⟨1, _⟩ => rfl]
  rfl

/-- A normalised row. -/
theorem rms14 (x0 : Vec Ideal S4x4096x1024 .f32) (x1 : Vec Ideal S4x1024 .f32) (q : Fin 4) (s : Fin 4096) (j : Fin 1024) :
    val_main_v14 (F := Ideal) x0 x1 (ix3 q s j) = rms (fun k => x0 (ix3 q s k)) (fun k => x1 (ix2 3 k)) j := by
  rw [val_main_v14_apply, val_main_v11_apply, inv10, gain13]
  rfl

/-- The layer's matrix. -/
theorem weight16 (x2 : Vec Ideal S4x1024x3144 .f32) (k : Fin 1024) (j : Fin 3144) :
    val_main_v16 (F := Ideal) x2 (ix2 k j) = x2 (ix3 3 k j) := by
  rw [val_main_v16_apply, val_main_v15_apply]
  exact congrArg x2 (funext fun a => match a with
    | ⟨0, _⟩ => Fin.ext (by show 3 + 0 = 3; omega)
    | ⟨1, _⟩ => Fin.ext (by show (k.val * 3144 + j.val) / 3144 % 1024 = k.val; omega)
    | ⟨2, _⟩ => Fin.ext (by show (k.val * 3144 + j.val) % 3144 = j.val; omega))

/-- The projection, column by column. -/
theorem dot17 (x0 : Vec Ideal S4x4096x1024 .f32) (x1 : Vec Ideal S4x1024 .f32) (x2 : Vec Ideal S4x1024x3144 .f32) (q : Fin 4) (s : Fin 4096) (j : Fin 3144) :
    val_main_v17 (F := Ideal) x0 x1 x2 (ix3 q s j) = z x0 x1 x2 q s j := by
  rw [val_main_v17_apply]
  unfold z proj
  refine Finset.sum_congr rfl fun k _ => ?_
  rw [show ridx_main_v17 (ix3 q s j) k = ix2 k j from funext fun a => match a with | ⟨0, _⟩ => rfl | ⟨1, _⟩ => rfl, weight16,
    show lidx_main_v17 (ix3 q s j) k = ix3 q s k from funext fun a => match a with | ⟨0, _⟩ => rfl | ⟨1, _⟩ => rfl | ⟨2, _⟩ => rfl, rms14]

/-- The first queries. -/
theorem part19 (x0 : Vec Ideal S4x4096x1024 .f32) (x1 : Vec Ideal S4x1024 .f32) (x2 : Vec Ideal S4x1024x3144 .f32) (q : Fin 4) (s : Fin 4096) (j : Fin 256) :
    val_main_v19 (F := Ideal) x0 x1 x2 (ix3 q s j) = z x0 x1 x2 q s ⟨1024 + j.val, by omega⟩ := by
  rw [val_main_v19_apply, val_main_v18_apply, ← dot17]
  generalize val_main_v17 (F := Ideal) x0 x1 x2 = y
  exact congrArg y (funext fun a => match a with
    | ⟨0, _⟩ => rfl
    | ⟨1, _⟩ => rfl
    | ⟨2, _⟩ => Fin.ext (by show 1024 + j.val = 1024 + j.val; omega))

/-- The first keys. -/
theorem part20 (x0 : Vec Ideal S4x4096x1024 .f32) (x1 : Vec Ideal S4x1024 .f32) (x2 : Vec Ideal S4x1024x3144 .f32) (q : Fin 4) (s : Fin 4096) (j : Fin 256) :
    val_main_v20 (F := Ideal) x0 x1 x2 (ix3 q s j) = z x0 x1 x2 q s ⟨1280 + j.val, by omega⟩ := by
  rw [val_main_v20_apply, val_main_v18_apply, ← dot17]
  generalize val_main_v17 (F := Ideal) x0 x1 x2 = y
  exact congrArg y (funext fun a => match a with
    | ⟨0, _⟩ => rfl
    | ⟨1, _⟩ => rfl
    | ⟨2, _⟩ => Fin.ext (by show 1024 + (256 + j.val) = 1280 + j.val; omega))

/-- The first values. -/
theorem part21 (x0 : Vec Ideal S4x4096x1024 .f32) (x1 : Vec Ideal S4x1024 .f32) (x2 : Vec Ideal S4x1024x3144 .f32) (q : Fin 4) (s : Fin 4096) (j : Fin 256) :
    val_main_v21 (F := Ideal) x0 x1 x2 (ix3 q s j) = z x0 x1 x2 q s ⟨1536 + j.val, by omega⟩ := by
  rw [val_main_v21_apply, val_main_v18_apply, ← dot17]
  generalize val_main_v17 (F := Ideal) x0 x1 x2 = y
  exact congrArg y (funext fun a => match a with
    | ⟨0, _⟩ => rfl
    | ⟨1, _⟩ => rfl
    | ⟨2, _⟩ => Fin.ext (by show 1024 + (512 + j.val) = 1536 + j.val; omega))

/-- The indexer's queries. -/
theorem part22 (x0 : Vec Ideal S4x4096x1024 .f32) (x1 : Vec Ideal S4x1024 .f32) (x2 : Vec Ideal S4x1024x3144 .f32) (q : Fin 4) (s : Fin 4096) (j : Fin 512) :
    val_main_v22 (F := Ideal) x0 x1 x2 (ix3 q s j) = z x0 x1 x2 q s ⟨1792 + j.val, by omega⟩ := by
  rw [val_main_v22_apply, val_main_v18_apply, ← dot17]
  generalize val_main_v17 (F := Ideal) x0 x1 x2 = y
  exact congrArg y (funext fun a => match a with
    | ⟨0, _⟩ => rfl
    | ⟨1, _⟩ => rfl
    | ⟨2, _⟩ => Fin.ext (by show 1024 + (768 + j.val) = 1792 + j.val; omega))

/-- The indexer's keys. -/
theorem part23 (x0 : Vec Ideal S4x4096x1024 .f32) (x1 : Vec Ideal S4x1024 .f32) (x2 : Vec Ideal S4x1024x3144 .f32) (q : Fin 4) (s : Fin 4096) (j : Fin 64) :
    val_main_v23 (F := Ideal) x0 x1 x2 (ix3 q s j) = z x0 x1 x2 q s ⟨2304 + j.val, by omega⟩ := by
  rw [val_main_v23_apply, val_main_v18_apply, ← dot17]
  generalize val_main_v17 (F := Ideal) x0 x1 x2 = y
  exact congrArg y (funext fun a => match a with
    | ⟨0, _⟩ => rfl
    | ⟨1, _⟩ => rfl
    | ⟨2, _⟩ => Fin.ext (by show 1024 + (1280 + j.val) = 2304 + j.val; omega))

/-- The indexer's weights. -/
theorem part24 (x0 : Vec Ideal S4x4096x1024 .f32) (x1 : Vec Ideal S4x1024 .f32) (x2 : Vec Ideal S4x1024x3144 .f32) (q : Fin 4) (s : Fin 4096) (j : Fin 8) :
    val_main_v24 (F := Ideal) x0 x1 x2 (ix3 q s j) = z x0 x1 x2 q s ⟨2368 + j.val, by omega⟩ := by
  rw [val_main_v24_apply, val_main_v18_apply, ← dot17]
  generalize val_main_v17 (F := Ideal) x0 x1 x2 = y
  exact congrArg y (funext fun a => match a with
    | ⟨0, _⟩ => rfl
    | ⟨1, _⟩ => rfl
    | ⟨2, _⟩ => Fin.ext (by show 1024 + (1344 + j.val) = 2368 + j.val; omega))

/-- The second queries. -/
theorem part25 (x0 : Vec Ideal S4x4096x1024 .f32) (x1 : Vec Ideal S4x1024 .f32) (x2 : Vec Ideal S4x1024x3144 .f32) (q : Fin 4) (s : Fin 4096) (j : Fin 256) :
    val_main_v25 (F := Ideal) x0 x1 x2 (ix3 q s j) = z x0 x1 x2 q s ⟨2376 + j.val, by omega⟩ := by
  rw [val_main_v25_apply, val_main_v18_apply, ← dot17]
  generalize val_main_v17 (F := Ideal) x0 x1 x2 = y
  exact congrArg y (funext fun a => match a with
    | ⟨0, _⟩ => rfl
    | ⟨1, _⟩ => rfl
    | ⟨2, _⟩ => Fin.ext (by show 1024 + (1352 + j.val) = 2376 + j.val; omega))

/-- The second keys. -/
theorem part26 (x0 : Vec Ideal S4x4096x1024 .f32) (x1 : Vec Ideal S4x1024 .f32) (x2 : Vec Ideal S4x1024x3144 .f32) (q : Fin 4) (s : Fin 4096) (j : Fin 256) :
    val_main_v26 (F := Ideal) x0 x1 x2 (ix3 q s j) = z x0 x1 x2 q s ⟨2632 + j.val, by omega⟩ := by
  rw [val_main_v26_apply, val_main_v18_apply, ← dot17]
  generalize val_main_v17 (F := Ideal) x0 x1 x2 = y
  exact congrArg y (funext fun a => match a with
    | ⟨0, _⟩ => rfl
    | ⟨1, _⟩ => rfl
    | ⟨2, _⟩ => Fin.ext (by show 1024 + (1608 + j.val) = 2632 + j.val; omega))

/-- The second values. -/
theorem part27 (x0 : Vec Ideal S4x4096x1024 .f32) (x1 : Vec Ideal S4x1024 .f32) (x2 : Vec Ideal S4x1024x3144 .f32) (q : Fin 4) (s : Fin 4096) (j : Fin 256) :
    val_main_v27 (F := Ideal) x0 x1 x2 (ix3 q s j) = z x0 x1 x2 q s ⟨2888 + j.val, by omega⟩ := by
  rw [val_main_v27_apply, val_main_v18_apply, ← dot17]
  generalize val_main_v17 (F := Ideal) x0 x1 x2 = y
  exact congrArg y (funext fun a => match a with
    | ⟨0, _⟩ => rfl
    | ⟨1, _⟩ => rfl
    | ⟨2, _⟩ => Fin.ext (by show 1024 + (1864 + j.val) = 2888 + j.val; omega))

/-- The first queries, scaled. -/
theorem scaled29 (x0 : Vec Ideal S4x4096x1024 .f32) (x1 : Vec Ideal S4x1024 .f32) (x2 : Vec Ideal S4x1024x3144 .f32) (q : Fin 4) (s : Fin 4096) (j : Fin 256) :
    val_main_v29 (F := Ideal) x0 x1 x2 (ix3 q s j) = z x0 x1 x2 q s ⟨1024 + j.val, by omega⟩ * qscale := by
  rw [val_main_v29_apply, part19, val_main_v28_apply, val_main_cst_2_apply]
  rfl

/-- The second queries, scaled. -/
theorem scaled31 (x0 : Vec Ideal S4x4096x1024 .f32) (x1 : Vec Ideal S4x1024 .f32) (x2 : Vec Ideal S4x1024x3144 .f32) (q : Fin 4) (s : Fin 4096) (j : Fin 256) :
    val_main_v31 (F := Ideal) x0 x1 x2 (ix3 q s j) = z x0 x1 x2 q s ⟨2376 + j.val, by omega⟩ * qscale := by
  rw [val_main_v31_apply, part25, val_main_v30_apply, val_main_cst_3_apply]
  rfl

/-- The pieces of the joined array, in their order. -/
def pieces (x0 : Vec Ideal S4x4096x1024 .f32) (x1 : Vec Ideal S4x1024 .f32) (x2 : Vec Ideal S4x1024x3144 .f32) : List ((s : Shape) × (s.Idx → EReal)) :=
  [⟨S4x4096x256, val_main_v29 (F := Ideal) x0 x1 x2⟩, ⟨S4x4096x256, val_main_v31 (F := Ideal) x0 x1 x2⟩, ⟨S4x4096x256, val_main_v20 (F := Ideal) x0 x1 x2⟩, ⟨S4x4096x256, val_main_v26 (F := Ideal) x0 x1 x2⟩,
    ⟨S4x4096x512, val_main_v22 (F := Ideal) x0 x1 x2⟩, ⟨S4x4096x64, val_main_v23 (F := Ideal) x0 x1 x2⟩, ⟨S4x4096x64, val_main_v23 (F := Ideal) x0 x1 x2⟩]

/-- The joined queries, keys and indexer columns of a token. -/
theorem joined32 (x0 : Vec Ideal S4x4096x1024 .f32) (x1 : Vec Ideal S4x1024 .f32) (x2 : Vec Ideal S4x1024x3144 .f32) (q : Fin 4) (s : Fin 4096) (j : Fin 1664) :
    val_main_v32 (F := Ideal) x0 x1 x2 (ix3 q s j) = zbRow (z x0 x1 x2 q s) j := by
  show concatenate S4x4096x1664 2 (pieces x0 x1 x2) concatenates_S4x4096x256_S4x4096x256_S4x4096x256_S4x4096x256_S4x4096x512_S4x4096x64_S4x4096x64_S4x4096x1664_d2 (ix3 q s j) = _
  unfold zbRow
  rcases Nat.lt_or_ge j.val 256 with h0 | h0
  · rw [dif_pos (by omega)]
    refine (concatenate_apply_piece (2 : Fin S4x4096x1664.rank) (pieces x0 x1 x2) _ (ix3 q s j) 0 (by show 0 < 7; omega) S4x4096x256 _ rfl rfl 0 rfl (ix3 q s ⟨j.val - 0, by omega⟩ : S4x4096x256.Idx)
      (fun a => match a with | ⟨0, _⟩ => fun _ => rfl | ⟨1, _⟩ => fun _ => rfl | ⟨2, _⟩ => fun h => absurd rfl h) (by show 0 + (j.val - 0) = j.val; omega)).trans ?_
    refine (scaled29 x0 x1 x2 q s _).trans (congrArg (fun c => z x0 x1 x2 q s c * qscale) (Fin.ext ?_))
    show 1024 + (j.val - 0) = 1024 + j.val
    omega
  rcases Nat.lt_or_ge j.val 512 with h1 | h1
  · rw [dif_neg (by omega), dif_pos (by omega)]
    refine (concatenate_apply_piece (2 : Fin S4x4096x1664.rank) (pieces x0 x1 x2) _ (ix3 q s j) 1 (by show 1 < 7; omega) S4x4096x256 _ rfl rfl 256 rfl (ix3 q s ⟨j.val - 256, by omega⟩ : S4x4096x256.Idx)
      (fun a => match a with | ⟨0, _⟩ => fun _ => rfl | ⟨1, _⟩ => fun _ => rfl | ⟨2, _⟩ => fun h => absurd rfl h) (by show 256 + (j.val - 256) = j.val; omega)).trans ?_
    refine (scaled31 x0 x1 x2 q s _).trans (congrArg (fun c => z x0 x1 x2 q s c * qscale) (Fin.ext ?_))
    show 2376 + (j.val - 256) = 2120 + j.val
    omega
  rcases Nat.lt_or_ge j.val 768 with h2 | h2
  · rw [dif_neg (by omega), dif_neg (by omega), dif_pos (by omega)]
    refine (concatenate_apply_piece (2 : Fin S4x4096x1664.rank) (pieces x0 x1 x2) _ (ix3 q s j) 2 (by show 2 < 7; omega) S4x4096x256 _ rfl rfl 512 rfl (ix3 q s ⟨j.val - 512, by omega⟩ : S4x4096x256.Idx)
      (fun a => match a with | ⟨0, _⟩ => fun _ => rfl | ⟨1, _⟩ => fun _ => rfl | ⟨2, _⟩ => fun h => absurd rfl h) (by show 512 + (j.val - 512) = j.val; omega)).trans ?_
    refine (part20 x0 x1 x2 q s _).trans (congrArg (z x0 x1 x2 q s) (Fin.ext ?_))
    show 1280 + (j.val - 512) = 768 + j.val
    omega
  rcases Nat.lt_or_ge j.val 1024 with h3 | h3
  · rw [dif_neg (by omega), dif_neg (by omega), dif_neg (by omega), dif_pos (by omega)]
    refine (concatenate_apply_piece (2 : Fin S4x4096x1664.rank) (pieces x0 x1 x2) _ (ix3 q s j) 3 (by show 3 < 7; omega) S4x4096x256 _ rfl rfl 768 rfl (ix3 q s ⟨j.val - 768, by omega⟩ : S4x4096x256.Idx)
      (fun a => match a with | ⟨0, _⟩ => fun _ => rfl | ⟨1, _⟩ => fun _ => rfl | ⟨2, _⟩ => fun h => absurd rfl h) (by show 768 + (j.val - 768) = j.val; omega)).trans ?_
    refine (part26 x0 x1 x2 q s _).trans (congrArg (z x0 x1 x2 q s) (Fin.ext ?_))
    show 2632 + (j.val - 768) = 1864 + j.val
    omega
  rcases Nat.lt_or_ge j.val 1536 with h4 | h4
  · rw [dif_neg (by omega), dif_neg (by omega), dif_neg (by omega), dif_neg (by omega), dif_pos (by omega)]
    refine (concatenate_apply_piece (2 : Fin S4x4096x1664.rank) (pieces x0 x1 x2) _ (ix3 q s j) 4 (by show 4 < 7; omega) S4x4096x512 _ rfl rfl 1024 rfl (ix3 q s ⟨j.val - 1024, by omega⟩ : S4x4096x512.Idx)
      (fun a => match a with | ⟨0, _⟩ => fun _ => rfl | ⟨1, _⟩ => fun _ => rfl | ⟨2, _⟩ => fun h => absurd rfl h) (by show 1024 + (j.val - 1024) = j.val; omega)).trans ?_
    refine (part22 x0 x1 x2 q s _).trans (congrArg (z x0 x1 x2 q s) (Fin.ext ?_))
    show 1792 + (j.val - 1024) = 768 + j.val
    omega
  rcases Nat.lt_or_ge j.val 1600 with h5 | h5
  · rw [dif_neg (by omega), dif_neg (by omega), dif_neg (by omega), dif_neg (by omega), dif_neg (by omega), dif_pos (by omega)]
    refine (concatenate_apply_piece (2 : Fin S4x4096x1664.rank) (pieces x0 x1 x2) _ (ix3 q s j) 5 (by show 5 < 7; omega) S4x4096x64 _ rfl rfl 1536 rfl (ix3 q s ⟨j.val - 1536, by omega⟩ : S4x4096x64.Idx)
      (fun a => match a with | ⟨0, _⟩ => fun _ => rfl | ⟨1, _⟩ => fun _ => rfl | ⟨2, _⟩ => fun h => absurd rfl h) (by show 1536 + (j.val - 1536) = j.val; omega)).trans ?_
    refine (part23 x0 x1 x2 q s _).trans (congrArg (z x0 x1 x2 q s) (Fin.ext ?_))
    show 2304 + (j.val - 1536) = 768 + j.val
    omega
  · rw [dif_neg (by omega), dif_neg (by omega), dif_neg (by omega), dif_neg (by omega), dif_neg (by omega), dif_neg (by omega)]
    refine (concatenate_apply_piece (2 : Fin S4x4096x1664.rank) (pieces x0 x1 x2) _ (ix3 q s j) 6 (by show 6 < 7; omega) S4x4096x64 _ rfl rfl 1600 rfl (ix3 q s ⟨j.val - 1600, by omega⟩ : S4x4096x64.Idx)
      (fun a => match a with | ⟨0, _⟩ => fun _ => rfl | ⟨1, _⟩ => fun _ => rfl | ⟨2, _⟩ => fun h => absurd rfl h) (by show 1600 + (j.val - 1600) = j.val; omega)).trans ?_
    refine (part23 x0 x1 x2 q s _).trans (congrArg (z x0 x1 x2 q s) (Fin.ext ?_))
    show 2304 + (j.val - 1600) = 704 + j.val
    omega

/-- The joined values of a token. -/
theorem joined34 (x0 : Vec Ideal S4x4096x1024 .f32) (x1 : Vec Ideal S4x1024 .f32) (x2 : Vec Ideal S4x1024x3144 .f32) (q : Fin 4) (s : Fin 4096) (j : Fin 512) :
    val_main_v34 (F := Ideal) x0 x1 x2 (ix3 q s j) = vtRow (z x0 x1 x2 q s) j := by
  unfold val_main_v34 vtRow
  rcases Nat.lt_or_ge j.val 256 with h | h
  · rw [dif_pos h]
    refine (concatenate_pair_apply_left (2 : Fin S4x4096x512.rank) (val_main_v21 (F := Ideal) x0 x1 x2) (val_main_v27 (F := Ideal) x0 x1 x2) _ (ix3 q s j) rfl (ix3 q s ⟨j.val, h⟩ : S4x4096x256.Idx)
      (fun a => match a with | ⟨0, _⟩ => rfl | ⟨1, _⟩ => rfl | ⟨2, _⟩ => rfl)).trans ?_
    exact part21 x0 x1 x2 q s _
  · rw [dif_neg (by omega)]
    refine (concatenate_pair_apply_right (2 : Fin S4x4096x512.rank) (val_main_v21 (F := Ideal) x0 x1 x2) (val_main_v27 (F := Ideal) x0 x1 x2) _ (ix3 q s j) rfl rfl (ix3 q s ⟨j.val - 256, by omega⟩ : S4x4096x256.Idx)
      (fun a => match a with | ⟨0, _⟩ => fun _ => rfl | ⟨1, _⟩ => fun _ => rfl | ⟨2, _⟩ => fun h => absurd rfl h) (by show j.val - 256 + 256 = j.val; omega)).trans ?_
    refine (part27 x0 x1 x2 q s _).trans (congrArg (z x0 x1 x2 q s) (Fin.ext ?_))
    show 2888 + (j.val - 256) = 2632 + j.val
    omega

/-- The padded indexer's weights of a token. -/
theorem joined38 (x0 : Vec Ideal S4x4096x1024 .f32) (x1 : Vec Ideal S4x1024 .f32) (x2 : Vec Ideal S4x1024x3144 .f32) (q : Fin 4) (s : Fin 4096) (j : Fin 128) :
    val_main_v38 (F := Ideal) x0 x1 x2 (ix3 q s j) = zcRow (z x0 x1 x2 q s) j := by
  unfold val_main_v38 zcRow
  rcases Nat.lt_or_ge j.val 8 with h | h
  · rw [dif_pos h]
    refine (concatenate_pair_apply_left (2 : Fin S4x4096x128.rank) (val_main_v24 (F := Ideal) x0 x1 x2) (val_main_v37 (F := Ideal)) _ (ix3 q s j) rfl (ix3 q s ⟨j.val, h⟩ : S4x4096x8.Idx)
      (fun a => match a with | ⟨0, _⟩ => rfl | ⟨1, _⟩ => rfl | ⟨2, _⟩ => rfl)).trans ?_
    exact part24 x0 x1 x2 q s _
  · rw [dif_neg (by omega)]
    refine (concatenate_pair_apply_right (2 : Fin S4x4096x128.rank) (val_main_v24 (F := Ideal) x0 x1 x2) (val_main_v37 (F := Ideal)) _ (ix3 q s j) rfl rfl (ix3 q s ⟨j.val - 8, by omega⟩ : S4x4096x120.Idx)
      (fun a => match a with | ⟨0, _⟩ => fun _ => rfl | ⟨1, _⟩ => fun _ => rfl | ⟨2, _⟩ => fun h => absurd rfl h) (by show j.val - 8 + 8 = j.val; omega)).trans ?_
    rw [val_main_v37_apply, val_main_cst_4_apply]
    exact Ideal.ofBits_zero_f32

/-- The first result, row by row. -/
theorem zb45 (x0 : Vec Ideal S4x4096x1024 .f32) (x1 : Vec Ideal S4x1024 .f32) (x2 : Vec Ideal S4x1024x3144 .f32) (n : Fin 16384) (j : Fin 1664) :
    val_main_v45 (F := Ideal) x0 x1 x2 (ix2 n j) = zbRow (z x0 x1 x2 ⟨n.val / 4096, by omega⟩ ⟨n.val % 4096, by omega⟩) j := by
  rw [val_main_v45_apply, val_main_v33_apply, ← joined32]
  generalize val_main_v32 (F := Ideal) x0 x1 x2 = y
  exact congrArg y (funext fun a => match a with
    | ⟨0, _⟩ => Fin.ext (by show (n.val * 1664 + j.val) / 6815744 = n.val / 4096; omega)
    | ⟨1, _⟩ => Fin.ext (by show (n.val * 1664 + j.val) / 1664 % 4096 = n.val % 4096; omega)
    | ⟨2, _⟩ => Fin.ext (by show (n.val * 1664 + j.val) % 1664 = j.val; omega))

/-- The second result, block by block. -/
theorem vt46 (x0 : Vec Ideal S4x4096x1024 .f32) (x1 : Vec Ideal S4x1024 .f32) (x2 : Vec Ideal S4x1024x3144 .f32) (a : Fin 4) (b : Fin 16) (j : Fin 512) (q : Fin 256) :
    val_main_v46 (F := Ideal) x0 x1 x2 (ix4 a b j q) = vtRow (z x0 x1 x2 a ⟨256 * b.val + q.val, by omega⟩) j := by
  rw [val_main_v46_apply, val_main_v36_apply, val_main_v35_apply, ← joined34]
  generalize val_main_v34 (F := Ideal) x0 x1 x2 = y
  exact congrArg y (funext fun c => match c with
    | ⟨0, _⟩ => Fin.ext (by show (((a.val * 16 + b.val) * 256 + q.val) * 512 + j.val) / 2097152 = a.val; omega)
    | ⟨1, _⟩ => Fin.ext (by show (((a.val * 16 + b.val) * 256 + q.val) * 512 + j.val) / 512 % 4096 = 256 * b.val + q.val; omega)
    | ⟨2, _⟩ => Fin.ext (by show (((a.val * 16 + b.val) * 256 + q.val) * 512 + j.val) % 512 = j.val; omega))

/-- The third result, row by row. -/
theorem zc39 (x0 : Vec Ideal S4x4096x1024 .f32) (x1 : Vec Ideal S4x1024 .f32) (x2 : Vec Ideal S4x1024x3144 .f32) (n : Fin 16384) (j : Fin 128) :
    val_main_v39 (F := Ideal) x0 x1 x2 (ix2 n j) = zcRow (z x0 x1 x2 ⟨n.val / 4096, by omega⟩ ⟨n.val % 4096, by omega⟩) j := by
  rw [val_main_v39_apply, ← joined38]
  generalize val_main_v38 (F := Ideal) x0 x1 x2 = y
  exact congrArg y (funext fun a => match a with
    | ⟨0, _⟩ => Fin.ext (by show (n.val * 128 + j.val) / 524288 = n.val / 4096; omega)
    | ⟨1, _⟩ => Fin.ext (by show (n.val * 128 + j.val) / 128 % 4096 = n.val % 4096; omega)
    | ⟨2, _⟩ => Fin.ext (by show (n.val * 128 + j.val) % 128 = j.val; omega))

/-- The second keys, a block at a time. -/
theorem keys40 (x0 : Vec Ideal S4x4096x1024 .f32) (x1 : Vec Ideal S4x1024 .f32) (x2 : Vec Ideal S4x1024x3144 .f32) (u : Fin 64) (q : Fin 256) (j : Fin 256) :
    val_main_v40 (F := Ideal) x0 x1 x2 (ix3 u q j) = z x0 x1 x2 ⟨(256 * u.val + q.val) / 4096, by omega⟩ ⟨(256 * u.val + q.val) % 4096, by omega⟩ ⟨2632 + j.val, by omega⟩ := by
  rw [val_main_v40_apply, ← part26]
  generalize val_main_v26 (F := Ideal) x0 x1 x2 = y
  exact congrArg y (funext fun c => match c with
    | ⟨0, _⟩ => Fin.ext (by show ((u.val * 256 + q.val) * 256 + j.val) / 1048576 = (256 * u.val + q.val) / 4096; omega)
    | ⟨1, _⟩ => Fin.ext (by show ((u.val * 256 + q.val) * 256 + j.val) / 256 % 4096 = (256 * u.val + q.val) % 4096; omega)
    | ⟨2, _⟩ => Fin.ext (by show ((u.val * 256 + q.val) * 256 + j.val) % 256 = j.val; omega))

/-- The fourth result, block by block. -/
theorem km44 (x0 : Vec Ideal S4x4096x1024 .f32) (x1 : Vec Ideal S4x1024 .f32) (x2 : Vec Ideal S4x1024x3144 .f32) (u : Fin 64) (p : Fin 1) (j : Fin 256) :
    val_main_v44 (F := Ideal) x0 x1 x2 (ix3 u p j)
      = Ideal.div (∑ q : Fin 256, z x0 x1 x2 ⟨(256 * u.val + q.val) / 4096, by omega⟩ ⟨(256 * u.val + q.val) % 4096, by omega⟩ ⟨2632 + j.val, by omega⟩) (Ideal.ofBits .f32 0x43800000#32) := by
  have h : val_main_v41 (F := Ideal) x0 x1 x2 (ix2 u j) = ∑ q : Fin 256, z x0 x1 x2 ⟨(256 * u.val + q.val) / 4096, by omega⟩ ⟨(256 * u.val + q.val) % 4096, by omega⟩ ⟨2632 + j.val, by omega⟩ := by
    rw [val_main_v41_apply, val_main_cst_5_apply]
    refine (congrArg₂ (· + ·) (Ideal.ofBits_zero_f32) (Finset.sum_congr rfl fun k _ => ?_)).trans (zero_add _)
    rw [show idx_main_v41 (ix2 u j) k = ix3 u k j from funext fun a => match a with | ⟨0, _⟩ => rfl | ⟨1, _⟩ => rfl | ⟨2, _⟩ => rfl, keys40]
  rw [val_main_v44_apply, val_main_v43_apply, val_main_v42_apply, val_main_cst_6_apply,
    show idx_main_v42 (ix3 u p j) = ix2 u j from funext fun a => match a with | ⟨0, _⟩ => rfl | ⟨1, _⟩ => rfl, h]
  rfl

end Cert.InprojRefValue

end
-- ==== Proof.Inproj.MixRow.lean ====
/- One row of the convolution mixer and of the pooling mixer, over the extended reals: the functions both the kernel and the reference compute of a row and the rows before it. -/
module

public import proofs.«01_k».proof.Proof.Inproj.Row

@[expose] public section

noncomputable section

namespace Cert.InprojValue

open Idealize.ShloMosaic Cert.TailValue

/-- The sum of the terms from the first to the one numbered `n`, in this order. -/
def run (f : Nat → EReal) : Nat → EReal
  | 0 => f 0
  | n + 1 => run f n + f (n + 1)

/-- Sums of equal terms are equal. -/
theorem run_congr {f f' : Nat → EReal} : ∀ n : Nat, (∀ i, i ≤ n → f i = f' i) → run f n = run f' n
  | 0, h => h 0 le_rfl
  | n + 1, h => congrArg₂ (· + ·) (run_congr n fun i hi => h i (hi.trans n.le_succ)) (h (n + 1) le_rfl)

/-- The number of the tokens in a window of `w` tokens ending at position `p`: fewer at the front of the sequence. -/
def count (p w : BitVec 32) : EReal := FloatOps.sitofp (F := Ideal) .f32 (IntOp.minsi (IntOp.addi p 1#32) w)

/-- The length of the pooling window of a column, as a word. -/
def widthW (k : Fin 256) : BitVec 32 := if k.val < 64 then 2#32 else if k.val < 128 then 4#32 else if k.val < 192 then 8#32 else 16#32

/-- The number of the last term of a column's window sum. -/
def lastOf (k : Fin 256) : Nat := if k.val < 64 then 1 else if k.val < 128 then 3 else if k.val < 192 then 7 else 15

/-- The window's mean minus its last token: `f i` is the column's value `i` tokens back. -/
def pooled (f : Nat → EReal) (p : BitVec 32) (k : Fin 256) : EReal := Ideal.div (run f (lastOf k)) (count p (widthW k)) - f 0

/-- The convolution of three taps, gated: `h i` is the value `i` tokens back. -/
def taps (b : EReal) (w0 w1 w2 : EReal) (h : Nat → EReal) : EReal := b * (w0 * h 2 + w1 * h 1 + w2 * h 0)

/-- Windows agreeing on sixteen tokens give the same. -/
theorem pooled_congr {f f' : Nat → EReal} (p : BitVec 32) (k : Fin 256) (h : ∀ i, i < 16 → f i = f' i) : pooled f p k = pooled f' p k := by
  have hl : lastOf k < 16 := by unfold lastOf; split_ifs <;> omega
  unfold pooled
  rw [run_congr (lastOf k) fun i hi => h i (by omega), h 0 (by omega)]

end Cert.InprojValue

end
-- ==== Proof.Inproj.MixPay.lean ====
/- The mixers' stored values read at an index, over the extended reals. -/
module

public import proofs.«01_k».proof.Proof.Inproj.Pay
public import proofs.«01_k».proof.Proof.Inproj.MixRow

@[expose] public section

set_option maxRecDepth 16384

noncomputable section

namespace Cert.InprojValue

open Idealize.ShloMosaic Cert.InprojIdeal Cert.InprojIdeal.Gen Cert.TailValue

/-- The normalised rows of the block with the sixteen rows before it. -/
def extRow (v16 : Vec Ideal S512x1024 .bf16) (v27 : Vec Ideal S16x1024 .f32) (v29 : Vec Ideal S1x1024 .f32) (y : Fin 528) (k : Fin 1024) : EReal :=
  if h : y.val < 16 then rms (fun k => v27 (ix2 ⟨y.val, h⟩ k)) (fun k => v29 (ix2 0 k)) k else v16 (ix2 ⟨y.val - 16, by omega⟩ k)

/-- The sixteen normalised rows before the block. -/
def prevRows (v28 : Vec Ideal S16x1024 .f32) (v30 : Vec Ideal S1x1024 .f32) (v38 : Vec Ideal S16x1 .f32) : FVec Ideal S16x1024 .bf16 :=
  truncf .bf16 (mulf (mulf v28 (broadcastTo S16x1024 v38 broadcasts_S16x1_S16x1024)) (broadcastTo S16x1024 v30 broadcasts_S1x1024_S16x1024)) bitsLt_bf16_f32

/-- The sixteen normalised rows at an index. -/
theorem prevRows_row (v27 : Vec Ideal S16x1024 .f32) (v29 : Vec Ideal S1x1024 .f32) (r : Fin 16) (k : Fin 1024) :
    prevRows (k0_pay3 (F := Ideal) v27) (k0_pay4 (F := Ideal) v29) (k0_pay5 (F := Ideal) v27) (ix2 r k) = rms (fun k => v27 (ix2 r k)) (fun k => v29 (ix2 0 k)) k := by
  pointwise [prevRows, k0_pay3, k0_pay4, k0_pay5, rms]

/-- The joined rows. -/
theorem pay6_row (v16 : Vec Ideal S512x1024 .bf16) (v27 : Vec Ideal S16x1024 .f32) (v29 : Vec Ideal S1x1024 .f32) (y : Fin 528) (k : Fin 1024) :
    k0_pay6 (F := Ideal) v16 (k0_pay3 v27) (k0_pay4 v29) (k0_pay5 v27) (ix2 y k) = extRow v16 v27 v29 y k := by
  show concatenate S528x1024 0 [⟨S16x1024, prevRows (k0_pay3 (F := Ideal) v27) (k0_pay4 (F := Ideal) v29) (k0_pay5 (F := Ideal) v27)⟩, ⟨S512x1024, v16⟩] concatenates_S16x1024_S512x1024_S528x1024_d0 (ix2 y k) = _
  unfold extRow
  split_ifs with h
  · refine (concatenate_apply_piece (0 : Fin S528x1024.rank) _ _ (ix2 y k) 0 (by show 0 < 2; omega) S16x1024 _ rfl rfl 0 rfl (ix2 ⟨y.val, h⟩ k : S16x1024.Idx)
      (fun a => match a with | ⟨0, _⟩ => fun h => absurd rfl h | ⟨1, _⟩ => fun _ => rfl) (by show 0 + y.val = y.val; omega)).trans ?_
    exact prevRows_row v27 v29 _ k
  · exact concatenate_apply_piece (0 : Fin S528x1024.rank) _ _ (ix2 y k) 1 (by show 1 < 2; omega) S512x1024 _ rfl rfl 16 rfl (ix2 ⟨y.val - 16, by omega⟩ k : S512x1024.Idx)
      (fun a => match a with | ⟨0, _⟩ => fun h => absurd rfl h | ⟨1, _⟩ => fun _ => rfl) (by show 16 + (y.val - 16) = y.val; omega)

/-- A projection of all the joined rows. -/
def extDot (v16 : Vec Ideal S512x1024 .bf16) (v27 : Vec Ideal S16x1024 .f32) (v29 : Vec Ideal S1x1024 .f32) (w : Vec Ideal S1x1024x256 .bf16) (y : Fin 528) (j : Fin 256) : EReal :=
  ∑ k : Fin 1024, extRow v16 v27 v29 y k * w (ix3 0 k j)

/-- The convolution's input, of all the joined rows. -/
theorem pay7_row (v16 : Vec Ideal S512x1024 .bf16) (v27 : Vec Ideal S16x1024 .f32) (v29 : Vec Ideal S1x1024 .f32) (w : Vec Ideal S1x1024x256 .bf16) (y : Fin 528) (j : Fin 256) :
    k0_pay7 (F := Ideal) v16 (k0_pay3 v27) (k0_pay4 v29) (k0_pay5 v27) w (ix2 y j) = extDot v16 v27 v29 w y j := by
  unfold extDot
  simp only [← pay6_row]
  generalize hz : k0_pay6 (F := Ideal) v16 (k0_pay3 v27) (k0_pay4 v29) (k0_pay5 v27) = z
  pointwise [k0_pay7, hz]

/-- The convolution's second factor, of all the joined rows. -/
theorem pay9_row (v16 : Vec Ideal S512x1024 .bf16) (v27 : Vec Ideal S16x1024 .f32) (v29 : Vec Ideal S1x1024 .f32) (w : Vec Ideal S1x1024x256 .bf16) (y : Fin 528) (j : Fin 256) :
    k0_pay9 (F := Ideal) v16 (k0_pay3 v27) (k0_pay4 v29) (k0_pay5 v27) w (ix2 y j) = extDot v16 v27 v29 w y j := pay7_row v16 v27 v29 w y j

/-- The pooling mixer's input, of all the joined rows. -/
theorem pay11_row (v16 : Vec Ideal S512x1024 .bf16) (v27 : Vec Ideal S16x1024 .f32) (v29 : Vec Ideal S1x1024 .f32) (w : Vec Ideal S1x1024x256 .bf16) (y : Fin 528) (j : Fin 256) :
    k0_pay11 (F := Ideal) v16 (k0_pay3 v27) (k0_pay4 v29) (k0_pay5 v27) w (ix2 y j) = extDot v16 v27 v29 w y j := pay7_row v16 v27 v29 w y j

/-- The convolution's factors' product, as stored for the block's own rows. -/
theorem pay38_row (v16 : Vec Ideal S512x1024 .bf16) (v27 : Vec Ideal S16x1024 .f32) (v29 : Vec Ideal S1x1024 .f32) (w w' : Vec Ideal S1x1024x256 .bf16) (r : Fin 512) (j : Fin 256) :
    k0_pay38 (F := Ideal) (k0_pay8 v16 (k0_pay3 v27) (k0_pay4 v29) (k0_pay5 v27) w) (k0_pay10 v16 (k0_pay3 v27) (k0_pay4 v29) (k0_pay5 v27) w') (ix2 r j)
      = extDot v16 v27 v29 w' ⟨16 + r.val, by omega⟩ j * extDot v16 v27 v29 w ⟨16 + r.val, by omega⟩ j := by
  rw [← pay9_row v16 v27 v29 w', ← pay7_row v16 v27 v29 w]
  generalize hz : k0_pay7 (F := Ideal) v16 (k0_pay3 v27) (k0_pay4 v29) (k0_pay5 v27) w = z
  generalize hz' : k0_pay9 (F := Ideal) v16 (k0_pay3 v27) (k0_pay4 v29) (k0_pay5 v27) w' = z'
  pointwise [k0_pay38, k0_pay8, k0_pay10, hz, hz']

/-- The pooling mixer's input, as stored for the block's own rows. -/
theorem pay39_row (v16 : Vec Ideal S512x1024 .bf16) (v27 : Vec Ideal S16x1024 .f32) (v29 : Vec Ideal S1x1024 .f32) (w : Vec Ideal S1x1024x256 .bf16) (r : Fin 512) (j : Fin 256) :
    k0_pay39 (F := Ideal) (k0_pay12 v16 (k0_pay3 v27) (k0_pay4 v29) (k0_pay5 v27) w) (ix2 r j) = extDot v16 v27 v29 w ⟨16 + r.val, by omega⟩ j := by
  rw [← pay11_row]
  generalize hz : k0_pay11 (F := Ideal) v16 (k0_pay3 v27) (k0_pay4 v29) (k0_pay5 v27) w = z
  pointwise [k0_pay39, k0_pay12, hz]

/-- A choice on a word being zero. -/
theorem select_zero {α : Type} (f : BitVec 32) (a b : α) : Scalar.select (Scalar.cmpi .eq f 0#32) a b = if f = 0#32 then a else b := by
  by_cases h : f = 0#32
  · subst h; rfl
  · rw [if_neg h]
    have e : Scalar.cmpi .eq f 0#32 = 0#1 := by
      show BitVec.ofBool (f == 0#32) = 0#1
      rw [beq_eq_false_iff_ne.mpr h]; rfl
    rw [e]; rfl

/-- The same product, as stored for the rows before the block: zero in front of a sequence. -/
theorem pay36_row (v16 : Vec Ideal S512x1024 .bf16) (f : BitVec 32) (v27 : Vec Ideal S16x1024 .f32) (v29 : Vec Ideal S1x1024 .f32) (w w' : Vec Ideal S1x1024x256 .bf16) (r : Fin 16) (j : Fin 256) :
    k0_pay36 (F := Ideal) (k0_pay13 v16 f (k0_pay3 v27) (k0_pay4 v29) (k0_pay5 v27) w w') (ix2 r j)
      = if f = 0#32 then 0 else extDot v16 v27 v29 w' ⟨r.val, by omega⟩ j * extDot v16 v27 v29 w ⟨r.val, by omega⟩ j := by
  rw [← pay9_row v16 v27 v29 w', ← pay7_row v16 v27 v29 w]
  generalize hz : k0_pay7 (F := Ideal) v16 (k0_pay3 v27) (k0_pay4 v29) (k0_pay5 v27) w = z
  generalize hz' : k0_pay9 (F := Ideal) v16 (k0_pay3 v27) (k0_pay4 v29) (k0_pay5 v27) w' = z'
  unfold k0_pay36 k0_pay13
  simp only [hz, hz', select_zero]
  split_ifs
  · pointwise
  · pointwise

/-- The pooling mixer's input, as stored for the rows before the block: zero in front of a sequence. -/
theorem pay37_row (v16 : Vec Ideal S512x1024 .bf16) (f : BitVec 32) (v27 : Vec Ideal S16x1024 .f32) (v29 : Vec Ideal S1x1024 .f32) (w : Vec Ideal S1x1024x256 .bf16) (r : Fin 16) (j : Fin 256) :
    k0_pay37 (F := Ideal) (k0_pay14 v16 f (k0_pay3 v27) (k0_pay4 v29) (k0_pay5 v27) w) (ix2 r j)
      = if f = 0#32 then 0 else extDot v16 v27 v29 w ⟨r.val, by omega⟩ j := by
  rw [← pay11_row]
  generalize hz : k0_pay11 (F := Ideal) v16 (k0_pay3 v27) (k0_pay4 v29) (k0_pay5 v27) w = z
  unfold k0_pay37 k0_pay14
  simp only [hz, select_zero]
  split_ifs
  · pointwise
  · pointwise

/-- The gated convolution. -/
theorem pay40_row (v69 : Vec Ideal S512x256 .f32) (w0 w1 w2 : Vec Ideal S1x256 .f32) (h2 h1 h0 : Vec Ideal S512x256 .f32) (r : Fin 512) (j : Fin 256) :
    k0_pay40 (F := Ideal) v69 w0 h2 w1 h1 w2 h0 (ix2 r j)
      = v69 (ix2 r j) * (w0 (ix2 0 j) * h2 (ix2 r j) + w1 (ix2 0 j) * h1 (ix2 r j) + w2 (ix2 0 j) * h0 (ix2 r j)) := by
  pointwise [k0_pay40]

/-- The gate of the convolution. -/
theorem pay15_row (v16 : Vec Ideal S512x1024 .bf16) (w : Vec Ideal S1x1024x256 .bf16) (r : Fin 512) (j : Fin 256) :
    k0_pay15 (F := Ideal) v16 w (ix2 r j) = ∑ k : Fin 1024, v16 (ix2 r k) * w (ix3 0 k j) := by
  pointwise [k0_pay15]

/-- The pooled rows multiplied with the joined weights and scaled. -/
theorem pay1_row (d : Vec Ideal S512x256 .bf16) (w : Vec Ideal S256x256 .bf16) (s : Vec Ideal S1x256 .f32) (r : Fin 512) (j : Fin 256) :
    k0_pay1 (F := Ideal) d w s (ix2 r j) = (∑ k : Fin 256, d (ix2 r k) * w (ix2 k j)) * s (ix2 0 j) := by
  pointwise [k0_pay1]

/-- The position of a row. -/
def posW (b : BitVec 32) (r : Fin 512) : BitVec 32 := IntOp.addi b (BitVec.ofNat 32 r.val)

/-- Which columns of a half are in its first group. -/
theorem pay42_row (r : Fin 512) (l : Fin 128) : k0_pay42 (ix2 r l) = if l.val < 64 then 1#1 else 0#1 := by
  have e : ∀ l : Fin 128, IntOp.cmpi .slt (BitVec.ofNat 32 l.val) 64#32 = if l.val < 64 then 1#1 else 0#1 := by decide +kernel
  exact (show k0_pay42 (ix2 r l) = IntOp.cmpi .slt (BitVec.ofNat 32 (0 + l.val)) 64#32 from by
    pointwise [k0_pay42]).trans ((congrArg (fun n => IntOp.cmpi .slt (BitVec.ofNat 32 n) 64#32) (Nat.zero_add _)).trans (e l))

/-- The first half of the pooled columns. -/
theorem pay43_row (b : BitVec 32) (a0 a1 a2 a3 v : Vec Ideal S512x128 .f32) (r : Fin 512) (l : Fin 128) :
    k0_pay43 (F := Ideal) b a0 a1 a2 a3 v (ix2 r l)
      = Ideal.div (if l.val < 64 then a0 (ix2 r l) + a1 (ix2 r l) else a0 (ix2 r l) + a1 (ix2 r l) + a2 (ix2 r l) + a3 (ix2 r l)) (count (posW b r) (if l.val < 64 then 2#32 else 4#32)) - v (ix2 r l) := by
  have e := pay42_row r l
  have ep : k0_pay41 b (ix2 r l) = posW b r := by
    unfold posW
    pointwise [k0_pay41]
  generalize hz : k0_pay42 = z at e
  generalize hp : k0_pay41 b = p at ep
  unfold k0_pay43
  simp only [hz, hp]
  split_ifs at e ⊢ <;> pointwise [e, ep, count]

/-- The second half of the pooled columns, as it is computed. -/
def half2 (b : BitVec 32) (s7 s15 v : FVec Ideal S512x128 .f32) : FVec Ideal S512x128 .f32 :=
  subf (divf (select k0_pay42 s7 s15) (sitofp .f32 (minsi (addi (k0_pay41 b) (broadcast S512x128 1#32)) (select k0_pay42 (broadcast S512x128 8#32) (broadcast S512x128 16#32))))) v

/-- The second half of the pooled columns. -/
theorem half2_row (b : BitVec 32) (s7 s15 v : FVec Ideal S512x128 .f32) (r : Fin 512) (l : Fin 128) :
    half2 b s7 s15 v (ix2 r l) = Ideal.div (if l.val < 64 then s7 (ix2 r l) else s15 (ix2 r l)) (count (posW b r) (if l.val < 64 then 8#32 else 16#32)) - v (ix2 r l) := by
  have e := pay42_row r l
  have ep : k0_pay41 b (ix2 r l) = posW b r := by
    unfold posW
    pointwise [k0_pay41]
  generalize hz : k0_pay42 = z at e
  generalize hp : k0_pay41 b = p at ep
  unfold half2
  simp only [hz, hp]
  split_ifs at e ⊢ <;> pointwise [e, ep, count]

/-- The sum of eight loads. -/
def sum8 (a0 a1 a2 a3 a4 a5 a6 a7 : FVec Ideal S512x128 .f32) : FVec Ideal S512x128 .f32 := addf (addf (addf (addf (addf (addf (addf a0 a1) a2) a3) a4) a5) a6) a7

/-- The sum of sixteen loads. -/
def sum16 (a0 a1 a2 a3 a4 a5 a6 a7 a8 a9 a10 a11 a12 a13 a14 a15 : FVec Ideal S512x128 .f32) : FVec Ideal S512x128 .f32 :=
  addf (addf (addf (addf (addf (addf (addf (addf (addf (addf (addf (addf (addf (addf (addf a0 a1) a2) a3) a4) a5) a6) a7) a8) a9) a10) a11) a12) a13) a14) a15

/-- The halves joined, from the loads of the window's tokens. -/
theorem pay45_row (b : BitVec 32) (h1 a0 a1 a2 a3 a4 a5 a6 a7 a8 a9 a10 a11 a12 a13 a14 a15 v : FVec Ideal S512x128 .f32) (r : Fin 512) (k : Fin 256) :
    k0_pay45 (F := Ideal) (k0_pay41 b) k0_pay42 h1 (k0_pay44 a0 a1 a2 a3 a4) a5 a6 a7 a8 a9 a10 a11 a12 a13 a14 a15 v (ix2 r k)
      = if h : k.val < 128 then h1 (ix2 r ⟨k.val, h⟩)
        else half2 b (sum8 a0 a1 a2 a3 a4 a5 a6 a7) (sum16 a0 a1 a2 a3 a4 a5 a6 a7 a8 a9 a10 a11 a12 a13 a14 a15) v (ix2 r ⟨k.val - 128, by omega⟩) := by
  show concatenate S512x256 1 [⟨S512x128, h1⟩, ⟨S512x128, half2 b (sum8 a0 a1 a2 a3 a4 a5 a6 a7) (sum16 a0 a1 a2 a3 a4 a5 a6 a7 a8 a9 a10 a11 a12 a13 a14 a15) v⟩] concatenates_S512x128_S512x128_S512x256_d1 (ix2 r k) = _
  generalize half2 b (sum8 a0 a1 a2 a3 a4 a5 a6 a7) (sum16 a0 a1 a2 a3 a4 a5 a6 a7 a8 a9 a10 a11 a12 a13 a14 a15) v = h2
  split_ifs with h
  · exact concatenate_apply_piece (1 : Fin S512x256.rank) _ _ (ix2 r k) 0 (by show 0 < 2; omega) S512x128 _ rfl rfl 0 rfl (ix2 r ⟨k.val, h⟩ : S512x128.Idx)
      (fun a => match a with | ⟨0, _⟩ => fun _ => rfl | ⟨1, _⟩ => fun h => absurd rfl h) (by show 0 + k.val = k.val; omega)
  · exact concatenate_apply_piece (1 : Fin S512x256.rank) _ _ (ix2 r k) 1 (by show 1 < 2; omega) S512x128 _ rfl rfl 128 rfl (ix2 r ⟨k.val - 128, by omega⟩ : S512x128.Idx)
      (fun a => match a with | ⟨0, _⟩ => fun _ => rfl | ⟨1, _⟩ => fun h => absurd rfl h) (by show 128 + (k.val - 128) = k.val; omega)

/-- The pooled columns, from the loads of the window's tokens: the first half's in `a`, the second half's in `c`. -/
theorem pooled_row (b : BitVec 32) (a0 a1 a2 a3 v c0 c1 c2 c3 c4 c5 c6 c7 c8 c9 c10 c11 c12 c13 c14 c15 v' : FVec Ideal S512x128 .f32) (r : Fin 512) (k : Fin 256) (f : Nat → EReal)
    (ha : ∀ l : Fin 128, l.val = k.val → a0 (ix2 r l) = f 0 ∧ a1 (ix2 r l) = f 1 ∧ a2 (ix2 r l) = f 2 ∧ a3 (ix2 r l) = f 3 ∧ v (ix2 r l) = f 0)
    (hc : ∀ l : Fin 128, 128 + l.val = k.val → c0 (ix2 r l) = f 0 ∧ c1 (ix2 r l) = f 1 ∧ c2 (ix2 r l) = f 2 ∧ c3 (ix2 r l) = f 3 ∧ c4 (ix2 r l) = f 4 ∧ c5 (ix2 r l) = f 5 ∧ c6 (ix2 r l) = f 6 ∧ c7 (ix2 r l) = f 7
      ∧ c8 (ix2 r l) = f 8 ∧ c9 (ix2 r l) = f 9 ∧ c10 (ix2 r l) = f 10 ∧ c11 (ix2 r l) = f 11 ∧ c12 (ix2 r l) = f 12 ∧ c13 (ix2 r l) = f 13 ∧ c14 (ix2 r l) = f 14 ∧ c15 (ix2 r l) = f 15 ∧ v' (ix2 r l) = f 0) :
    k0_pay45 (F := Ideal) (k0_pay41 b) k0_pay42 (k0_pay43 b a0 a1 a2 a3 v) (k0_pay44 c0 c1 c2 c3 c4) c5 c6 c7 c8 c9 c10 c11 c12 c13 c14 c15 v' (ix2 r k) = pooled f (posW b r) k := by
  rw [pay45_row]
  unfold pooled lastOf widthW
  split_ifs with h h1 h2 h3
  · obtain ⟨e0, e1, e2, e3, ev⟩ := ha ⟨k.val, h⟩ rfl
    rw [pay43_row, if_pos h1, if_pos h1, e0, e1, ev]
    rfl
  · obtain ⟨e0, e1, e2, e3, ev⟩ := ha ⟨k.val, h⟩ rfl
    rw [pay43_row, if_neg h1, if_neg h1, e0, e1, e2, e3, ev]
    rfl
  all_goals first | (exfalso; omega) | skip
  · obtain ⟨e0, e1, e2, e3, e4, e5, e6, e7, e8, e9, e10, e11, e12, e13, e14, e15, ev⟩ := hc ⟨k.val - 128, by omega⟩ (by show 128 + (k.val - 128) = k.val; omega)
    rw [half2_row, if_pos (by show k.val - 128 < 64; omega), if_pos (by show k.val - 128 < 64; omega)]
    simp only [sum8, sum16, addf_apply, e0, e1, e2, e3, e4, e5, e6, e7, ev]
    rfl
  · obtain ⟨e0, e1, e2, e3, e4, e5, e6, e7, e8, e9, e10, e11, e12, e13, e14, e15, ev⟩ := hc ⟨k.val - 128, by omega⟩ (by show 128 + (k.val - 128) = k.val; omega)
    rw [half2_row, if_neg (by show ¬ k.val - 128 < 64; omega), if_neg (by show ¬ k.val - 128 < 64; omega)]
    simp only [sum8, sum16, addf_apply, e0, e1, e2, e3, e4, e5, e6, e7, e8, e9, e10, e11, e12, e13, e14, e15, ev]
    rfl

end Cert.InprojValue

end
-- ==== Proof.Inproj.MixOut.lean ====
/- What the input projection's body leaves in the mixers' block, row by row. -/
module

public import proofs.«01_k».proof.Proof.Gen.InprojIdeal.Value
public import proofs.«01_k».proof.Proof.Inproj.Out
public import proofs.«01_k».proof.Proof.Inproj.MixPay

@[expose] public section

set_option maxRecDepth 16384

noncomputable section

namespace Cert.InprojValue

open Idealize.ShloMosaic Idealize.ShloMosaic.TcCoe Idealize.SL.Sem Cert.InprojIdeal Cert.InprojIdeal.Gen Cert.TailValue

/-- The number of the block's tile in its sequence, as the body computes it. -/
def tileW (i : grid0.Coords) : BitVec 32 :=
  Scalar.select (Scalar.andi (Scalar.xori (Scalar.cmpi .slt (Scalar.remsi (BitVec.ofNat 32 (i 0).val) 8#32) 0#32) 0#1) (Scalar.cmpi .ne (Scalar.remsi (BitVec.ofNat 32 (i 0).val) 8#32) 0#32))
    (Scalar.addi (Scalar.remsi (BitVec.ofNat 32 (i 0).val) 8#32) 8#32) (Scalar.remsi (BitVec.ofNat 32 (i 0).val) 8#32)

/-- The first group's columns of a row of the block with the sixteen rows before it. -/
def extMain (x0 : Vec Ideal S512x1024 .f32) (x1 : Vec Ideal S16x1024 .f32) (x2 : Vec Ideal S1x1024 .f32) (x3 : Vec Ideal S1x1024x2304 .bf16) (y : Fin 528) (j : Fin 2304) : EReal :=
  if h : y.val < 16 then proj (fun k => x1 (ix2 ⟨y.val, h⟩ k)) (fun k => x2 (ix2 0 k)) (fun k => x3 (ix3 0 k j)) else blkMain x0 x2 x3 ⟨y.val - 16, by omega⟩ j

/-- The pooling mixer's input: zero in front of a sequence. -/
def blkV (f : BitVec 32) (x0 : Vec Ideal S512x1024 .f32) (x1 : Vec Ideal S16x1024 .f32) (x2 : Vec Ideal S1x1024 .f32) (x3 : Vec Ideal S1x1024x2304 .bf16) (y : Fin 528) (j : Fin 256) : EReal :=
  if y.val < 16 ∧ f = 0#32 then 0 else extMain x0 x1 x2 x3 y ⟨768 + j.val, by omega⟩

/-- The convolution's factors' product: zero in front of a sequence. -/
def blkH (f : BitVec 32) (x0 : Vec Ideal S512x1024 .f32) (x1 : Vec Ideal S16x1024 .f32) (x2 : Vec Ideal S1x1024 .f32) (x3 : Vec Ideal S1x1024x2304 .bf16) (y : Fin 528) (j : Fin 256) : EReal :=
  if y.val < 16 ∧ f = 0#32 then 0 else extMain x0 x1 x2 x3 y ⟨256 + j.val, by omega⟩ * extMain x0 x1 x2 x3 y ⟨j.val, by omega⟩

/-- The convolution mixer's block. -/
def blkYa (f : BitVec 32) (x0 : Vec Ideal S512x1024 .f32) (x1 : Vec Ideal S16x1024 .f32) (x2 : Vec Ideal S1x1024 .f32) (x3 : Vec Ideal S1x1024x2304 .bf16) (x5 : Vec Ideal S3x256 .f32) (r : Fin 512) (j : Fin 256) : EReal :=
  taps (blkMain x0 x2 x3 r ⟨512 + j.val, by omega⟩) (x5 (ix2 0 j)) (x5 (ix2 1 j)) (x5 (ix2 2 j)) fun i => blkH f x0 x1 x2 x3 ⟨16 + r.val - i, by omega⟩ j

/-- The pooling mixer's block. -/
def blkYb (f : BitVec 32) (x0 : Vec Ideal S512x1024 .f32) (x1 : Vec Ideal S16x1024 .f32) (x2 : Vec Ideal S1x1024 .f32) (x3 : Vec Ideal S1x1024x2304 .bf16) (x6 : Vec Ideal S256x256 .bf16) (x7 : Vec Ideal S1x256 .f32) (r : Fin 512) (j : Fin 256) : EReal :=
  (∑ k : Fin 256, pooled (fun i => blkV f x0 x1 x2 x3 ⟨16 + r.val - i, by omega⟩ k) (posW (Scalar.muli f 512#32) r) k * x6 (ix2 k j)) * x7 (ix2 0 j)

/-- The two mixers' block. -/
def blkYab (f : BitVec 32) (x0 : Vec Ideal S512x1024 .f32) (x1 : Vec Ideal S16x1024 .f32) (x2 : Vec Ideal S1x1024 .f32) (x3 : Vec Ideal S1x1024x2304 .bf16) (x5 : Vec Ideal S3x256 .f32) (x6 : Vec Ideal S256x256 .bf16) (x7 : Vec Ideal S1x256 .f32) : Vec Ideal S512x512 .bf16 :=
  fun y => if h : (y 1).val < 256 then blkYa f x0 x1 x2 x3 x5 (y 0) ⟨(y 1).val, h⟩
    else blkYb f x0 x1 x2 x3 x6 x7 (y 0) ⟨(y 1).val - 256, by have h1 : (y 1).val < 512 := (y 1).isLt; omega⟩

/-- The mixers' block at an index of its first half. -/
theorem blkYab_a (f : BitVec 32) (x0 : Vec Ideal S512x1024 .f32) (x1 : Vec Ideal S16x1024 .f32) (x2 : Vec Ideal S1x1024 .f32) (x3 : Vec Ideal S1x1024x2304 .bf16) (x5 : Vec Ideal S3x256 .f32) (x6 : Vec Ideal S256x256 .bf16) (x7 : Vec Ideal S1x256 .f32) (y : S512x512.Idx) (r : Fin 512) (j : Fin 256)
    (h0 : (y 0).val = r.val) (h1 : (y 1).val = j.val) : blkYab f x0 x1 x2 x3 x5 x6 x7 y = blkYa f x0 x1 x2 x3 x5 r j := by
  unfold blkYab
  rw [dif_pos (by omega)]
  exact congrArg₂ (blkYa f x0 x1 x2 x3 x5) (Fin.ext h0) (Fin.ext h1)

/-- The mixers' block at an index of its second half. -/
theorem blkYab_b (f : BitVec 32) (x0 : Vec Ideal S512x1024 .f32) (x1 : Vec Ideal S16x1024 .f32) (x2 : Vec Ideal S1x1024 .f32) (x3 : Vec Ideal S1x1024x2304 .bf16) (x5 : Vec Ideal S3x256 .f32) (x6 : Vec Ideal S256x256 .bf16) (x7 : Vec Ideal S1x256 .f32) (y : S512x512.Idx) (r : Fin 512) (j : Fin 256)
    (h0 : (y 0).val = r.val) (h1 : (y 1).val = 256 + j.val) : blkYab f x0 x1 x2 x3 x5 x6 x7 y = blkYb f x0 x1 x2 x3 x6 x7 r j := by
  unfold blkYab
  rw [dif_neg (by omega)]
  exact congrArg₂ (blkYb f x0 x1 x2 x3 x6 x7) (Fin.ext h0) (Fin.ext (by show (y 1).val - 256 = j.val; omega))

/-- A load of a whole block of two axes reads the block. -/
theorem ld_whole {n0 n1 : Nat} {e : EltTy} (x : Vec Ideal (⟨2, ![n0, n1]⟩ : Shape) e) (inb : ∀ a, (![0, 0] : Fin 2 → Nat) a + (![n0, n1] : Fin 2 → Nat) a ≤ (⟨2, ![n0, n1]⟩ : Shape).size a) :
    View.ld x (Rect.unit (s := (⟨2, ![n0, n1]⟩ : Shape)) ![0, 0] ![n0, n1] inb) = x :=
  funext fun y => congrArg x (funext fun a => Fin.ext (by
    match a with
    | ⟨0, _⟩ => show 0 + 1 * (y 0).val = (y 0).val; omega
    | ⟨1, _⟩ => show 0 + 1 * (y 1).val = (y 1).val; omega))

/-- The joined rows' projection onto 256 columns, in terms of the whole group of columns. -/
theorem extDot_main (x0 : Vec Ideal S512x1024 .f32) (x1 : Vec Ideal S16x1024 .f32) (x2 : Vec Ideal S1x1024 .f32) (x3 : Vec Ideal S1x1024x2304 .bf16) (o : Nat) (ho : o + 256 ≤ 2304)
    (inb : ∀ a, (![0, 0, o] : Fin 3 → Nat) a + (![1, 1024, 256] : Fin 3 → Nat) a ≤ S1x1024x2304.size a) (y : Fin 528) (j : Fin 256) :
    extDot (k0_pay2 (F := Ideal) x0 x2) x1 x2 (View.ld x3 (Rect.unit (s := S1x1024x2304) ![0, 0, o] ![1, 1024, 256] inb)) y j = extMain x0 x1 x2 x3 y ⟨o + j.val, by omega⟩ := by
  have e : ∀ k : Fin 1024, View.ld x3 (Rect.unit (s := S1x1024x2304) ![0, 0, o] ![1, 1024, 256] inb) (ix3 0 k j) = x3 (ix3 0 k ⟨o + j.val, by omega⟩) := fun k =>
    congrArg x3 (funext fun a => Fin.ext (by
      match a with
      | ⟨0, _⟩ => rfl
      | ⟨1, _⟩ => show 0 + 1 * k.val = k.val; omega
      | ⟨2, _⟩ => show o + 1 * j.val = o + j.val; omega))
  unfold extDot extMain
  simp only [e]
  split_ifs with h
  · exact Finset.sum_congr rfl fun k _ => congrArg (· * _) (by unfold extRow; rw [dif_pos h])
  · exact Finset.sum_congr rfl fun k _ => congrArg (· * _) (by unfold extRow; rw [dif_neg h, pay2_row])

/-- An index among a store's rows lies in the store's rectangle. -/
theorem scr_mem (y : S528x256.Idx) (o n : Nat) (inb : ∀ a, (![o, 0] : Fin 2 → Nat) a + (![n, 256] : Fin 2 → Nat) a ≤ S528x256.size a) (h : o ≤ (y 0).val ∧ (y 0).val < o + n) :
    y ∈ (Rect.unit (s := S528x256) ![o, 0] ![n, 256] inb).set :=
  Rect.mem_set_unit.2 fun a => match a with
    | ⟨0, _⟩ => h
    | ⟨1, _⟩ => ⟨Nat.zero_le _, (by have b1 : (y 1).val < 256 := (y 1).isLt; omega : (y 1).val < 0 + 256)⟩

/-- The two stores cover the scratch. -/
theorem scr_cover (w1 : S512x256.Idx → Elt Ideal .f32) (w2 : S16x256.Idx → Elt Ideal .f32) (y : S528x256.Idx) :
    ∃ p ∈ ([⟨Rect.unit (s := S528x256) ![16, 0] S512x256.size inb_S528x256_S512x256_16_0, w1⟩, ⟨Rect.unit (s := S528x256) ![0, 0] S16x256.size inb_S528x256_S16x256_0_0, w2⟩] :
        List (View.Piece (Elt Ideal) S528x256 .f32)), y ∈ p.1.set := by
  have b0 : (y 0).val < 528 := (y 0).isLt
  rcases Nat.lt_or_ge (y 0).val 16 with h0 | h0
  · exact ⟨_, .tail _ (.head _), scr_mem y 0 16 inb_S528x256_S16x256_0_0 (by omega)⟩
  · exact ⟨_, .head _, scr_mem y 16 512 inb_S528x256_S512x256_16_0 (by omega)⟩

/-- A load over the two stores reads the function both agree with. -/
theorem scr_read (v : View sig .tc .vmem S528x256 .f32) (w1 : S512x256.Idx → Elt Ideal .f32) (w2 : S16x256.Idx → Elt Ideal .f32) (A : Fin 528 → Fin 256 → EReal)
    (h1 : ∀ (r : Fin 512) (j : Fin 256), w1 (ix2 r j) = A ⟨16 + r.val, by omega⟩ j) (h2 : ∀ (r : Fin 16) (j : Fin 256), w2 (ix2 r j) = A ⟨r.val, by omega⟩ j)
    (off lo n : Nat) (inb : ∀ a, (![off, lo] : Fin 2 → Nat) a + (![512, n] : Fin 2 → Nat) a ≤ S528x256.size a) (r : Fin 512) (l : Fin n) (y : Fin 528) (k : Fin 256)
    (hy : off + r.val = y.val) (hk : lo + l.val = k.val) :
    View.readCov (Val := Elt Ideal) v [⟨Rect.unit (s := S528x256) ![16, 0] S512x256.size inb_S528x256_S512x256_16_0, w1⟩, ⟨Rect.unit (s := S528x256) ![0, 0] S16x256.size inb_S528x256_S16x256_0_0, w2⟩]
      (Rect.unit (s := S528x256) ![off, lo] ![512, n] inb).toLoadRect (ix2 r l) = A y k := by
  rw [View.readCov_eq_canon']
  refine (View.canon_apply_of_pieces (fun z : S528x256.Idx => A (z 0) (z 1)) _ ?_ _ (scr_cover w1 w2 _)).trans ?_
  · simp only [List.forall_mem_cons, List.not_mem_nil, false_imp_iff, implies_true, and_true]
    refine ⟨fun x => ?_, fun x => ?_⟩
    · obtain ⟨r, j, rfl⟩ : ∃ (r : Fin 512) (j : Fin 256), x = ix2 r j := ⟨x 0, x 1, eq_ix2 x⟩
      exact (h1 r j).trans (congrArg₂ A (Fin.ext (by show 16 + r.val = 16 + 1 * r.val; omega)) (Fin.ext (by show j.val = 0 + 1 * j.val; omega)))
    · obtain ⟨r, j, rfl⟩ : ∃ (r : Fin 16) (j : Fin 256), x = ix2 r j := ⟨x 0, x 1, eq_ix2 x⟩
      exact (h2 r j).trans (congrArg₂ A (Fin.ext (by show r.val = 0 + 1 * r.val; omega)) (Fin.ext (by show j.val = 0 + 1 * j.val; omega)))
  · exact congrArg₂ A (Fin.ext (by show off + 1 * r.val = y.val; omega)) (Fin.ext (by show lo + 1 * l.val = k.val; omega))

/-- A load of the pooling mixer's input. -/
theorem v_read (v : View sig .tc .vmem S528x256 .f32) (f : BitVec 32) (x0 : Vec Ideal S512x1024 .f32) (x1 : Vec Ideal S16x1024 .f32) (x2 : Vec Ideal S1x1024 .f32) (x3 : Vec Ideal S1x1024x2304 .bf16)
    (inb' : ∀ a, (![0, 0, 768] : Fin 3 → Nat) a + (![1, 1024, 256] : Fin 3 → Nat) a ≤ S1x1024x2304.size a)
    (off lo n : Nat) (inb : ∀ a, (![off, lo] : Fin 2 → Nat) a + (![512, n] : Fin 2 → Nat) a ≤ S528x256.size a) (r : Fin 512) (l : Fin n) (y : Fin 528) (k : Fin 256)
    (hy : off + r.val = y.val) (hk : lo + l.val = k.val) :
    View.readCov (Val := Elt Ideal) v [⟨Rect.unit (s := S528x256) ![16, 0] S512x256.size inb_S528x256_S512x256_16_0, k0_pay39 (F := Ideal) (k0_pay12 (k0_pay2 x0 x2) (k0_pay3 x1) (k0_pay4 x2) (k0_pay5 x1) (View.ld x3 (Rect.unit (s := S1x1024x2304) ![0, 0, 768] ![1, 1024, 256] inb')))⟩,
        ⟨Rect.unit (s := S528x256) ![0, 0] S16x256.size inb_S528x256_S16x256_0_0, k0_pay37 (F := Ideal) (k0_pay14 (k0_pay2 x0 x2) f (k0_pay3 x1) (k0_pay4 x2) (k0_pay5 x1) (View.ld x3 (Rect.unit (s := S1x1024x2304) ![0, 0, 768] ![1, 1024, 256] inb')))⟩]
      (Rect.unit (s := S528x256) ![off, lo] ![512, n] inb).toLoadRect (ix2 r l) = blkV f x0 x1 x2 x3 y k := by
  refine scr_read v _ _ (blkV f x0 x1 x2 x3) (fun r j => ?_) (fun r j => ?_) off lo n inb r l y k hy hk
  · rw [pay39_row, extDot_main x0 x1 x2 x3 768 (by omega)]
    unfold blkV
    rw [if_neg (by rintro ⟨h, -⟩; exact absurd h (by show ¬ 16 + r.val < 16; omega))]
  · rw [pay37_row, extDot_main x0 x1 x2 x3 768 (by omega)]
    unfold blkV
    by_cases hf : f = 0#32
    · rw [if_pos hf, if_pos ⟨r.isLt, hf⟩]
    · rw [if_neg hf, if_neg (fun h => hf h.2)]

/-- A load of the convolution's factors' product. -/
theorem h_read (v : View sig .tc .vmem S528x256 .f32) (f : BitVec 32) (x0 : Vec Ideal S512x1024 .f32) (x1 : Vec Ideal S16x1024 .f32) (x2 : Vec Ideal S1x1024 .f32) (x3 : Vec Ideal S1x1024x2304 .bf16)
    (inb' : ∀ a, (![0, 0, 0] : Fin 3 → Nat) a + (![1, 1024, 256] : Fin 3 → Nat) a ≤ S1x1024x2304.size a)
    (inb'' : ∀ a, (![0, 0, 256] : Fin 3 → Nat) a + (![1, 1024, 256] : Fin 3 → Nat) a ≤ S1x1024x2304.size a)
    (off lo n : Nat) (inb : ∀ a, (![off, lo] : Fin 2 → Nat) a + (![512, n] : Fin 2 → Nat) a ≤ S528x256.size a) (r : Fin 512) (l : Fin n) (y : Fin 528) (k : Fin 256)
    (hy : off + r.val = y.val) (hk : lo + l.val = k.val) :
    View.readCov (Val := Elt Ideal) v [⟨Rect.unit (s := S528x256) ![16, 0] S512x256.size inb_S528x256_S512x256_16_0, k0_pay38 (F := Ideal) (k0_pay8 (k0_pay2 x0 x2) (k0_pay3 x1) (k0_pay4 x2) (k0_pay5 x1) (View.ld x3 (Rect.unit (s := S1x1024x2304) ![0, 0, 0] ![1, 1024, 256] inb')))
          (k0_pay10 (k0_pay2 x0 x2) (k0_pay3 x1) (k0_pay4 x2) (k0_pay5 x1) (View.ld x3 (Rect.unit (s := S1x1024x2304) ![0, 0, 256] ![1, 1024, 256] inb'')))⟩,
        ⟨Rect.unit (s := S528x256) ![0, 0] S16x256.size inb_S528x256_S16x256_0_0, k0_pay36 (F := Ideal) (k0_pay13 (k0_pay2 x0 x2) f (k0_pay3 x1) (k0_pay4 x2) (k0_pay5 x1) (View.ld x3 (Rect.unit (s := S1x1024x2304) ![0, 0, 0] ![1, 1024, 256] inb'))
          (View.ld x3 (Rect.unit (s := S1x1024x2304) ![0, 0, 256] ![1, 1024, 256] inb'')))⟩]
      (Rect.unit (s := S528x256) ![off, lo] ![512, n] inb).toLoadRect (ix2 r l) = blkH f x0 x1 x2 x3 y k := by
  refine scr_read v _ _ (blkH f x0 x1 x2 x3) (fun r j => ?_) (fun r j => ?_) off lo n inb r l y k hy hk
  · rw [pay38_row, extDot_main x0 x1 x2 x3 0 (by omega), extDot_main x0 x1 x2 x3 256 (by omega)]
    unfold blkH
    rw [if_neg (by rintro ⟨h, -⟩; exact absurd h (by show ¬ 16 + r.val < 16; omega))]
    exact congrArg (_ * ·) (congrArg (extMain x0 x1 x2 x3 _) (Fin.ext (Nat.zero_add _)))
  · rw [pay36_row, extDot_main x0 x1 x2 x3 0 (by omega), extDot_main x0 x1 x2 x3 256 (by omega)]
    unfold blkH
    by_cases hf : f = 0#32
    · rw [if_pos hf, if_pos ⟨r.isLt, hf⟩]
    · rw [if_neg hf, if_neg (fun h => hf h.2)]
      exact congrArg (_ * ·) (congrArg (extMain x0 x1 x2 x3 _) (Fin.ext (Nat.zero_add _)))

/-- A row of the taps. -/
theorem ld_tap (x5 : Vec Ideal S3x256 .f32) (o : Nat) (ho : o < 3) (inb : ∀ a, (![o, 0] : Fin 2 → Nat) a + (![1, 256] : Fin 2 → Nat) a ≤ S3x256.size a) (j : Fin 256) :
    View.ld x5 (Rect.unit (s := S3x256) ![o, 0] ![1, 256] inb) (ix2 0 j) = x5 (ix2 ⟨o, ho⟩ j) :=
  congrArg x5 (funext fun a => Fin.ext (by
    match a with
    | ⟨0, _⟩ => show o + 1 * 0 = o; omega
    | ⟨1, _⟩ => show 0 + 1 * j.val = j.val; omega))

/-- The body leaves the two mixers' rows in their block. -/
theorem yab_row (c : Dev nD) (i : grid0.Coords) (arg1 : Memref sig .tc .vmem S512x1024 .f32) (harg1 : arg1.IsWhole) (arg2 : Memref sig .tc .vmem S16x1024 .f32) (harg2 : arg2.IsWhole) (arg3 : Memref sig .tc .vmem S1x1024 .f32) (harg3 : arg3.IsWhole) (arg4 : Memref sig .tc .vmem S1x1024x2304 .bf16) (harg4 : arg4.IsWhole) (arg5 : Memref sig .tc .vmem S1x1024x1024 .bf16) (harg5 : arg5.IsWhole) (arg6 : Memref sig .tc .vmem S3x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S512x512 .bf16) (harg9 : arg9.IsWhole) (arg10 : Memref sig .tc .vmem S512x1664 .bf16) (harg10 : arg10.IsWhole) (arg11 : Memref sig .tc .vmem S1x2x512x256 .bf16) (harg11 : arg11.IsWhole) (arg12 : Memref sig .tc .vmem S512x128 .f32) (harg12 : arg12.IsWhole) (arg13 : Memref sig .tc .vmem S2x1x256 .f32) (harg13 : arg13.IsWhole) (arg14 : Memref sig .tc .vmem S528x256 .f32) (harg14 : arg14.IsWhole) (arg15 : Memref sig .tc .vmem S528x256 .f32) (harg15 : arg15.IsWhole)
    (x0 : Vec Ideal S512x1024 .f32) (x1 : Vec Ideal S16x1024 .f32) (x2 : Vec Ideal S1x1024 .f32) (x3 : Vec Ideal S1x1024x2304 .bf16) (x4 : Vec Ideal S1x1024x1024 .bf16) (x5 : Vec Ideal S3x256 .f32) (x6 : Vec Ideal S256x256 .bf16) (x7 : Vec Ideal S1x256 .f32) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 = blkYab (tileW i) x0 x1 x2 x3 x5 x6 x7 := by
  funext y
  unfold out0_A_8
  rw [View.read_writes_junk_eq_canon]
  refine View.canon_apply_of_pieces (blkYab (tileW i) x0 x1 x2 x3 x5 x6 x7) _ ?_ y (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y)
  unfold kernelRun0_A
  dsimp only
  sl_unfold_words
  simp only [View.readAt_eq_ld, harg1.read_unread, harg2.read_unread, harg3.read_unread, harg4.read_unread, harg5.read_unread, harg6.read_unread, harg7.read_unread, harg8.read_unread]
  simp only [List.forall_mem_cons, List.not_mem_nil, false_imp_iff, implies_true, and_true]
  rw [ld_whole x0, ld_whole x1, ld_whole x2, ld_whole x6, ld_whole x7]
  refine ⟨fun x => ?_, fun x => ?_⟩
  · obtain ⟨r, j, rfl⟩ : ∃ (r : Fin 512) (j : Fin 256), x = ix2 r j := ⟨x 0, x 1, eq_ix2 x⟩
    refine Eq.trans ?_ (blkYab_b (tileW i) x0 x1 x2 x3 x5 x6 x7 _ r j (by show 0 + 1 * r.val = r.val; omega) (by show 256 + 1 * j.val = 256 + j.val; omega)).symm
    refine (pay1_row _ _ _ r j).trans ?_
    unfold blkYb
    refine congrArg (· * x7 (ix2 0 j)) (Finset.sum_congr rfl fun k _ => congrArg (· * x6 (ix2 k j)) ?_)
    refine pooled_row _ _ _ _ _ _ _ _ _ _ _ _ _ _ _ _ _ _ _ _ _ _ _ r k _ (fun l hl => ⟨?_, ?_, ?_, ?_, ?_⟩) (fun l hl => ⟨?_, ?_, ?_, ?_, ?_, ?_, ?_, ?_, ?_, ?_, ?_, ?_, ?_, ?_, ?_, ?_, ?_⟩)
    all_goals exact v_read _ _ x0 x1 x2 x3 _ _ _ 128 _ r l _ k (by dsimp only; omega) (by omega)
  · obtain ⟨r, j, rfl⟩ : ∃ (r : Fin 512) (j : Fin 256), x = ix2 r j := ⟨x 0, x 1, eq_ix2 x⟩
    refine Eq.trans ?_ (blkYab_a (tileW i) x0 x1 x2 x3 x5 x6 x7 _ r j (by show 0 + 1 * r.val = r.val; omega) (by show 0 + 1 * j.val = j.val; omega)).symm
    refine (pay40_row _ _ _ _ _ _ _ r j).trans ?_
    unfold blkYa taps
    refine congrArg₂ (· * ·) ?_ (congrArg₂ (· + ·) (congrArg₂ (· + ·) (congrArg₂ (· * ·) (ld_tap x5 0 (by omega) _ j) ?_) (congrArg₂ (· * ·) (ld_tap x5 1 (by omega) _ j) ?_)) (congrArg₂ (· * ·) (ld_tap x5 2 (by omega) _ j) ?_))
    · simp only [pay15_row, pay2_row, blkMain, proj]
      pointwise
    all_goals exact h_read _ _ x0 x1 x2 x3 _ _ _ _ 256 _ r j _ j (by dsimp only; omega) (by omega)

end Cert.InprojValue

end
-- ==== Proof.Inproj.MixArr.lean ====
/- The mixers' array the input projection leaves: each row a function of that row and the rows before it of the arguments. -/
module

public import proofs.«01_k».proof.Proof.Inproj.Arr
public import proofs.«01_k».proof.Proof.Inproj.MixOut

@[expose] public section

set_option maxRecDepth 16384

noncomputable section

namespace Cert.InprojValue

open Cert.InprojIdeal Cert.InprojIdeal.Gen Idealize.ShloMosaic Idealize.ShloMosaic.TcCoe Idealize.SL.Sem Cert.TailValue
open Idealize.ShloMosaic.Pipeline (Dat)

/-- The pooling mixer's input `i` tokens before token `n`, zero in front of its sequence. -/
def vPast (Z : Fin 16384 → Fin 3144 → EReal) (n : Fin 16384) (k : Fin 256) (i : Nat) : EReal :=
  if n.val % 4096 < i then 0 else Z ⟨n.val - i, by omega⟩ ⟨768 + k.val, by omega⟩

/-- The convolution's factors' product `i` tokens before token `n`, zero in front of its sequence. -/
def hPast (Z : Fin 16384 → Fin 3144 → EReal) (n : Fin 16384) (j : Fin 256) (i : Nat) : EReal :=
  if n.val % 4096 < i then 0 else Z ⟨n.val - i, by omega⟩ ⟨256 + j.val, by omega⟩ * Z ⟨n.val - i, by omega⟩ ⟨j.val, by omega⟩

/-- The convolution mixer's row. -/
def yaRow (Z : Fin 16384 → Fin 3144 → EReal) (cw : Vec Ideal S4x3x256 .f32) (n : Fin 16384) (j : Fin 256) : EReal :=
  taps (Z n ⟨512 + j.val, by omega⟩) (cw (ix3 3 0 j)) (cw (ix3 3 1 j)) (cw (ix3 3 2 j)) (hPast Z n j)

/-- Column `q` of group `g`. -/
def col (g : Fin 4) (q : Fin 64) : Fin 256 := ⟨64 * g.val + q.val, by omega⟩

/-- The pooling mixer's row, group `g`'s column `q`. -/
def ybRow (Z : Fin 16384 → Fin 3144 → EReal) (pw : Vec Ideal S4x4x64x64 .f32) (ps : Vec Ideal S4x256 .f32) (n : Fin 16384) (g : Fin 4) (q : Fin 64) : EReal :=
  (∑ k : Fin 64, pooled (vPast Z n (col g k)) (BitVec.ofNat 32 (n.val % 4096)) (col g k) * pw (ix4 3 g k q)) * ps (ix2 3 (col g q))

/-- The two mixers' array. -/
def yabArr (x : Vec Ideal S4x4096x1024 .f32) (g : Vec Ideal S4x1024 .f32) (w : Vec Ideal S4x1024x3144 .f32) (cw : Vec Ideal S4x3x256 .f32) (pw : Vec Ideal S4x4x64x64 .f32) (ps : Vec Ideal S4x256 .f32) :
    Vec Ideal S16384x512 .bf16 :=
  fun i => if h : (i 1).val < 256 then yaRow (zRow x g w) cw (i 0) ⟨(i 1).val, h⟩
    else ybRow (zRow x g w) pw ps (i 0) ⟨((i 1).val - 256) / 64, by have h1 : (i 1).val < 512 := (i 1).isLt; omega⟩ ⟨((i 1).val - 256) % 64, by omega⟩

/-- The four groups' weights on the diagonal of one matrix. -/
def bdArr (pw : Vec Ideal S4x4x64x64 .f32) : FVec Ideal S4x256x256 .bf16 :=
  truncf .bf16 (shapeCast S4x256x256 (mulf (F := Ideal) (φ := .f32)
    (broadcastInDim S4x4x64x4x64 ![0, 1, 2, 3, 4] bcast_S4x4x64x1x64_S4x4x64x4x64_0_1_2_3_4 (broadcastInDim S4x4x64x1x64 ![0, 1, 2, 4] bcast_S4x4x64x64_S4x4x64x1x64_0_1_2_4 pw))
    (broadcastInDim S4x4x64x4x64 ![0, 1, 2, 3, 4] bcast_S1x4x1x4x1_S4x4x64x4x64_0_1_2_3_4 (broadcastInDim S1x4x1x4x1 ![1, 3] bcast_S4x4_S1x4x1x4x1_1_3
      (uitofp (F := Ideal) .f32 (cmpi .eq (addi (iotaInDim S4x4 32 0) (broadcastInDim S4x4 ![] bcast_S_S4x4 (constantI S_ 32 0#32))) (iotaInDim S4x4 32 1))))))
    shapeCasts_S4x4x64x4x64_S4x256x256) bitsLt_bf16_f32

/-- An entry of the identity. -/
theorem eye_at (g g' : Fin 4) : uitofp (F := Ideal) .f32 (cmpi .eq (addi (iotaInDim S4x4 32 0) (broadcastInDim S4x4 ![] bcast_S_S4x4 (constantI S_ 32 0#32))) (iotaInDim S4x4 32 1)) (ix2 g g')
    = if g = g' then 1 else 0 := by
  have e : ∀ g g' : Fin 4, IntOp.cmpi .eq (IntOp.addi (BitVec.ofNat 32 g.val) 0#32) (BitVec.ofNat 32 g'.val) = if g = g' then 1#1 else 0#1 := by decide +kernel
  show (((IntOp.cmpi .eq (IntOp.addi (BitVec.ofNat 32 g.val) 0#32) (BitVec.ofNat 32 g'.val)).toNat : ℝ) : EReal) = _
  rw [e]
  split_ifs <;> simp

/-- An entry of the joined weights. -/
theorem bd_at (pw : Vec Ideal S4x4x64x64 .f32) (g g' : Fin 4) (k q : Fin 64) : bdArr pw (ix3 3 (col g k) (col g' q)) = pw (ix4 3 g k q) * if g = g' then 1 else 0 := by
  unfold bdArr
  have tr : ∀ (v : FVec Ideal S4x256x256 .f32) (i : S4x256x256.Idx), (truncf .bf16 v bitsLt_bf16_f32 : FVec Ideal S4x256x256 .bf16) i = v i := fun _ _ => rfl
  rw [tr]
  refine (shapeCast_apply (t := S4x256x256) _ shapeCasts_S4x4x64x4x64_S4x256x256 (ix3 3 (col g k) (col g' q)) (ix5 3 g k g' q : S4x4x64x4x64.Idx) ?_).trans ?_
  · rewrite [Shape.rowMajor_val_five, Shape.rowMajor_val_three]
    show ((((3 * 4 + g.val) * 64 + k.val) * 4 + g'.val) * 64 + q.val) = (3 * 256 + (64 * g.val + k.val)) * 256 + (64 * g'.val + q.val)
    omega
  refine congrArg₂ (· * ·) ?_ ?_
  · refine (broadcastInDim_apply _ bcast_S4x4x64x1x64_S4x4x64x4x64_0_1_2_3_4 _ (ix5 3 g k g' q : S4x4x64x4x64.Idx) (ix5 3 g k 0 q : S4x4x64x1x64.Idx) (fun a => match a with
      | ⟨0, _⟩ => rfl | ⟨1, _⟩ => rfl | ⟨2, _⟩ => rfl | ⟨3, _⟩ => rfl | ⟨4, _⟩ => rfl)).trans ?_
    exact broadcastInDim_apply _ bcast_S4x4x64x64_S4x4x64x1x64_0_1_2_4 pw (ix5 3 g k 0 q : S4x4x64x1x64.Idx) (ix4 3 g k q) (fun a => match a with
      | ⟨0, _⟩ => rfl | ⟨1, _⟩ => rfl | ⟨2, _⟩ => rfl | ⟨3, _⟩ => rfl)
  · refine (broadcastInDim_apply _ bcast_S1x4x1x4x1_S4x4x64x4x64_0_1_2_3_4 _ (ix5 3 g k g' q : S4x4x64x4x64.Idx) (ix5 0 g 0 g' 0 : S1x4x1x4x1.Idx) (fun a => match a with
      | ⟨0, _⟩ => rfl | ⟨1, _⟩ => rfl | ⟨2, _⟩ => rfl | ⟨3, _⟩ => rfl | ⟨4, _⟩ => rfl)).trans ?_
    refine (broadcastInDim_apply _ bcast_S4x4_S1x4x1x4x1_1_3 _ (ix5 0 g 0 g' 0 : S1x4x1x4x1.Idx) (ix2 g g' : S4x4.Idx) (fun a => match a with
      | ⟨0, _⟩ => rfl | ⟨1, _⟩ => rfl)).trans ?_
    exact eye_at g g'

/-- A sum over all the columns of terms that vanish outside one group is the sum over the group. -/
theorem sum_group (g : Fin 4) (F : Fin 256 → EReal) (h : ∀ g' q, g' ≠ g → F (col g' q) = 0) : ∑ k : Fin 256, F k = ∑ q : Fin 64, F (col g q) := by
  refine (Fintype.sum_of_injective (col g) (fun a b e => Fin.ext (by have e' : 64 * g.val + a.val = 64 * g.val + b.val := congrArg Fin.val e; omega)) _ F (fun k hk => ?_) (fun _ => rfl)).symm
  have e : k = col ⟨k.val / 64, by omega⟩ ⟨k.val % 64, by omega⟩ := Fin.ext (by show k.val = 64 * (k.val / 64) + k.val % 64; omega)
  rw [e]
  refine h _ _ fun hg => hk ⟨⟨k.val % 64, by omega⟩, ?_⟩
  rw [← hg]
  exact e.symm

variable (m : (ℓ : Loc nD τ sig) → Buf (Elt Ideal) ℓ)

/-! ## The arrays the mixers' windows stage, from the arguments -/

theorem V_main_v29 (c : Dev nD) (o : Fin 3) (j : Fin 256) : V m c main_v29 (ix2 o j : S3x256.Idx) = m ((c : Thread nD τ).loc main_arg3) (ix3 3 o j) := by
  have e : V m c main_v29 = shapeCast S3x256 (extractStridedSlice S1x3x256 ![3, 0, 0] (m ((c : Thread nD τ).loc main_arg3)) slices_S4x3x256_S1x3x256_3_0_0) shapeCasts_S1x3x256_S3x256 := by unfold V; after_results <;> rfl
  rw [e]
  refine (shapeCast_apply _ shapeCasts_S1x3x256_S3x256 (ix2 o j : S3x256.Idx) (ix3 0 o j : S1x3x256.Idx) ?_).trans ?_
  · rewrite [Shape.rowMajor_val_three, Shape.rowMajor_val_two]
    show (0 * 3 + o.val) * 256 + j.val = o.val * 256 + j.val
    omega
  · exact congrArg (m ((c : Thread nD τ).loc main_arg3)) (funext fun a => Fin.ext (by
      match a with
      | ⟨0, _⟩ => rfl
      | ⟨1, _⟩ => show 0 + o.val = o.val; omega
      | ⟨2, _⟩ => show 0 + j.val = j.val; omega))

theorem V_main_v31 (c : Dev nD) (k j : Fin 256) : V m c main_v31 (ix2 k j : S256x256.Idx) = bdArr (m ((c : Thread nD τ).loc main_arg4)) (ix3 3 k j) := by
  have e : V m c main_v31 = shapeCast S256x256 (extractStridedSlice S1x256x256 ![3, 0, 0] (bdArr (m ((c : Thread nD τ).loc main_arg4))) slices_S4x256x256_S1x256x256_3_0_0) shapeCasts_S1x256x256_S256x256 := by unfold V; after_results <;> rfl
  rw [e]
  refine (shapeCast_apply _ shapeCasts_S1x256x256_S256x256 (ix2 k j : S256x256.Idx) (ix3 0 k j : S1x256x256.Idx) ?_).trans ?_
  · rewrite [Shape.rowMajor_val_three, Shape.rowMajor_val_two]
    show (0 * 256 + k.val) * 256 + j.val = k.val * 256 + j.val
    omega
  · exact congrArg (bdArr (m ((c : Thread nD τ).loc main_arg4))) (funext fun a => Fin.ext (by
      match a with
      | ⟨0, _⟩ => rfl
      | ⟨1, _⟩ => show 0 + k.val = k.val; omega
      | ⟨2, _⟩ => show 0 + j.val = j.val; omega))

theorem V_main_v34 (c : Dev nD) (j : Fin 256) : V m c main_v34 (ix2 0 j : S1x256.Idx) = m ((c : Thread nD τ).loc main_arg5) (ix2 3 j) := by
  have e : V m c main_v34 = broadcastInDim S1x256 ![1] bcast_S256_S1x256_1 (shapeCast S256 (extractStridedSlice S1x256 ![3, 0] (m ((c : Thread nD τ).loc main_arg5)) slices_S4x256_S1x256_3_0) shapeCasts_S1x256_S256) := by unfold V; after_results <;> rfl
  rw [e]
  generalize m ((c : Thread nD τ).loc main_arg5) = p
  pointwise

/-! ## The mixers' windows' blocks -/

theorem idx1 : ∀ t : Fin cfg0.N, win0_1.index t (0 : Fin 2) = 32 * t.val - 1 ∧ win0_1.index t (1 : Fin 2) = 0 := (by decide +kernel : ∀ t : Fin grid0.N, win0_1.index t (0 : Fin 2) = 32 * t.val - 1 ∧ win0_1.index t (1 : Fin 2) = 0)
theorem idx5 : ∀ t : Fin cfg0.N, win0_5.index t (0 : Fin 2) = 0 ∧ win0_5.index t (1 : Fin 2) = 0 := (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 := (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 := (by decide +kernel : ∀ t : Fin grid0.N, win0_7.index t (0 : Fin 2) = 0 ∧ win0_7.index t (1 : Fin 2) = 0)
theorem idx8 : ∀ t : Fin cfg0.N, win0_8.index t (0 : Fin 2) = t.val ∧ win0_8.index t (1 : Fin 2) = 0 := (by decide +kernel : ∀ t : Fin grid0.N, win0_8.index t (0 : Fin 2) = t.val ∧ win0_8.index t (1 : Fin 2) = 0)

/-- The body's tile number is the point's number in its sequence. -/
theorem tileW_at : ∀ t : Fin cfg0.N, tileW (grid0.coords t) = BitVec.ofNat 32 (t.val % 8) := (by decide +kernel : ∀ t : Fin grid0.N, tileW (grid0.coords t) = BitVec.ofNat 32 (t.val % 8))

/-- It is zero at a sequence's first tile. -/
theorem tile_zero : ∀ t : Fin cfg0.N, BitVec.ofNat 32 (t.val % 8) = 0#32 ↔ t.val % 8 = 0 := (by decide +kernel : ∀ t : Fin grid0.N, BitVec.ofNat 32 (t.val % 8) = 0#32 ↔ t.val % 8 = 0)

theorem blk1 (c : Dev nD) (t : Fin cfg0.N) (r : Fin 16) (k : Fin 1024) : (iblk m c 1 t : Vec Ideal S16x1024 .f32) (ix2 r k)
    = m ((c : Thread nD τ).loc main_arg0) (ix3 ⟨(16 * (32 * t.val - 1) + r.val) / 4096, by have ht : t.val < 32 := t.isLt; omega⟩ ⟨(16 * (32 * t.val - 1) + r.val) % 4096, by omega⟩ k) := by
  have ht : t.val < 32 := t.isLt
  obtain ⟨h0, h1⟩ := idx1 t
  unfold iblk
  rw [View.read_apply]
  refine (V_main_v24 m c _).trans (congrArg _ (funext fun a => Fin.ext ?_))
  match a with
    | ⟨0, _⟩ => show (win0_1.index t 0 * 16 + 1 * r.val) / 4096 = (16 * (32 * t.val - 1) + r.val) / 4096; rw [h0]; omega
    | ⟨1, _⟩ => show (win0_1.index t 0 * 16 + 1 * r.val) % 4096 = (16 * (32 * t.val - 1) + r.val) % 4096; rw [h0]; omega
    | ⟨2, _⟩ => show win0_1.index t 1 * 1024 + 1 * k.val = k.val; rw [h1]; omega

theorem blk5 (c : Dev nD) (t : Fin cfg0.N) (o : Fin 3) (j : Fin 256) : (iblk m c 5 t : Vec Ideal S3x256 .f32) (ix2 o j) = m ((c : Thread nD τ).loc main_arg3) (ix3 3 o j) := by
  obtain ⟨h0, h1⟩ := idx5 t
  have e : ((cfg0.win 5).blk t).view.emb (ix2 o j) = (ix2 o j : S3x256.Idx) := funext fun a => Fin.ext (by
    match a with
    | ⟨0, _⟩ => show win0_5.index t 0 * 3 + 1 * o.val = o.val; rw [h0]; omega
    | ⟨1, _⟩ => show win0_5.index t 1 * 256 + 1 * j.val = j.val; rw [h1]; omega)
  unfold iblk
  rw [View.read_apply]
  exact (congrArg (V m c main_v29) e).trans (V_main_v29 m c o j)

theorem blk6 (c : Dev nD) (t : Fin cfg0.N) (k j : Fin 256) : (iblk m c 6 t : Vec Ideal S256x256 .bf16) (ix2 k j) = bdArr (m ((c : Thread nD τ).loc main_arg4)) (ix3 3 k j) := by
  obtain ⟨h0, h1⟩ := idx6 t
  have e : ((cfg0.win 6).blk t).view.emb (ix2 k j) = (ix2 k j : S256x256.Idx) := funext fun a => Fin.ext (by
    match a with
    | ⟨0, _⟩ => show win0_6.index t 0 * 256 + 1 * k.val = k.val; rw [h0]; omega
    | ⟨1, _⟩ => show win0_6.index t 1 * 256 + 1 * j.val = j.val; rw [h1]; omega)
  unfold iblk
  rw [View.read_apply]
  exact (congrArg (V m c main_v31) e).trans (V_main_v31 m c k j)

theorem blk7 (c : Dev nD) (t : Fin cfg0.N) (j : Fin 256) : (iblk m c 7 t : Vec Ideal S1x256 .f32) (ix2 0 j) = m ((c : Thread nD τ).loc main_arg5) (ix2 3 j) := by
  obtain ⟨h0, h1⟩ := idx7 t
  have e : ((cfg0.win 7).blk t).view.emb (ix2 0 j) = (ix2 0 j : S1x256.Idx) := funext fun a => Fin.ext (by
    match a with
    | ⟨0, _⟩ => show win0_7.index t 0 * 1 + 1 * 0 = 0; rw [h0]
    | ⟨1, _⟩ => show win0_7.index t 1 * 256 + 1 * j.val = j.val; rw [h1]; omega)
  unfold iblk
  rw [View.read_apply]
  exact (congrArg (V m c main_v34) e).trans (V_main_v34 m c j)

/-- A row of the block with the sixteen rows before it, off the front of a sequence. -/
theorem ext_eq (c : Dev nD) (t : Fin cfg0.N) (y : Fin 528) (j : Fin 2304) (n : Fin 16384) (hn : 512 * t.val + y.val = n.val + 16) :
    extMain (iblk m c 0 t) (iblk m c 1 t) (iblk m c 2 t) (iblk m c 3 t) y j = zMem m c n ⟨j.val, by omega⟩ := by
  have ht : t.val < 32 := t.isLt
  unfold extMain
  split_ifs with h
  · simp only [blk1, blk2, blk3]
    unfold zMem zRow
    refine congrArg (fun v => proj v _ _) (funext fun k => congrArg (m ((c : Thread nD τ).loc main_arg0)) (funext fun a => Fin.ext ?_))
    match a with
    | ⟨0, _⟩ => show (16 * (32 * t.val - 1) + y.val) / 4096 = n.val / 4096; congr 1; omega
    | ⟨1, _⟩ => show (16 * (32 * t.val - 1) + y.val) % 4096 = n.val % 4096; congr 1; omega
    | ⟨2, _⟩ => rfl
  · refine (congrFun (main_eq m c t _) j).trans ?_
    exact congrArg (fun n => zMem m c n ⟨j.val, by omega⟩) (Fin.ext (by show 512 * t.val + (y.val - 16) = n.val; omega))

/-- The pooling mixer's input at an earlier token. -/
theorem v_eq (c : Dev nD) (t : Fin cfg0.N) (r : Fin 512) (n : Fin 16384) (hn : n.val = 512 * t.val + r.val) (i : Nat) (hi : i < 16) (hr : 16 + r.val - i < 528) (k : Fin 256) :
    blkV (tileW (grid0.coords t)) (iblk m c 0 t) (iblk m c 1 t) (iblk m c 2 t) (iblk m c 3 t) ⟨16 + r.val - i, hr⟩ k = vPast (zMem m c) n k i := by
  have ht : t.val < 32 := t.isLt
  have hz := tile_zero t
  rw [tileW_at]
  unfold blkV vPast
  by_cases h : n.val % 4096 < i
  · rw [if_pos h, if_pos ⟨by show 16 + r.val - i < 16; omega, hz.2 (by omega)⟩]
  · rw [if_neg h, if_neg (fun h' => by have h1 := hz.1 h'.2; have h2 : 16 + r.val - i < 16 := h'.1; omega)]
    refine ext_eq m c t _ _ _ ?_
    show 512 * t.val + (16 + r.val - i) = (n.val - i) + 16
    omega

/-- The convolution's factors' product at an earlier token. -/
theorem h_eq (c : Dev nD) (t : Fin cfg0.N) (r : Fin 512) (n : Fin 16384) (hn : n.val = 512 * t.val + r.val) (i : Nat) (hi : i < 16) (hr : 16 + r.val - i < 528) (k : Fin 256) :
    blkH (tileW (grid0.coords t)) (iblk m c 0 t) (iblk m c 1 t) (iblk m c 2 t) (iblk m c 3 t) ⟨16 + r.val - i, hr⟩ k = hPast (zMem m c) n k i := by
  have ht : t.val < 32 := t.isLt
  have hz := tile_zero t
  rw [tileW_at]
  unfold blkH hPast
  by_cases h : n.val % 4096 < i
  · rw [if_pos h, if_pos ⟨by show 16 + r.val - i < 16; omega, hz.2 (by omega)⟩]
  · rw [if_neg h, if_neg (fun h' => by have h1 := hz.1 h'.2; have h2 : 16 + r.val - i < 16 := h'.1; omega)]
    have e : 512 * t.val + (16 + r.val - i) = (n.val - i) + 16 := by omega
    exact congrArg₂ (· * ·) (ext_eq m c t _ _ ⟨n.val - i, by omega⟩ e) (ext_eq m c t _ _ ⟨n.val - i, by omega⟩ e)

/-- A row's position in its sequence. -/
theorem pos_eq (t : Fin cfg0.N) (r : Fin 512) (n : Fin 16384) (hn : n.val = 512 * t.val + r.val) : posW (Scalar.muli (tileW (grid0.coords t)) 512#32) r = BitVec.ofNat 32 (n.val % 4096) := by
  rw [tileW_at]
  show BitVec.ofNat 32 (t.val % 8) * BitVec.ofNat 32 512 + BitVec.ofNat 32 r.val = _
  rw [← BitVec.ofNat_mul, ← BitVec.ofNat_add]
  exact congrArg (BitVec.ofNat 32) (by omega)

/-- The two mixers' array as the kernel leaves it, from the launch memory. -/
def yabRes (c : Dev nD) : Vec Ideal S16384x512 .bf16 := yabArr (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

/-- The convolution mixer's rows of a point. -/
theorem ya_eq (c : Dev nD) (t : Fin cfg0.N) (r : Fin 512) (n : Fin 16384) (hn : n.val = 512 * t.val + r.val) (j : Fin 256) :
    blkYa (tileW (grid0.coords t)) (iblk m c 0 t) (iblk m c 1 t) (iblk m c 2 t) (iblk m c 3 t) (iblk m c 5 t) r j = yaRow (zMem m c) (m ((c : Thread nD τ).loc main_arg3)) n j := by
  have e : (⟨512 * t.val + r.val, by have ht : t.val < 32 := t.isLt; omega⟩ : Fin 16384) = n := Fin.ext hn.symm
  unfold blkYa yaRow taps
  beta_reduce
  rw [main_eq, blk5, blk5, blk5, h_eq m c t r n hn 2 (by omega), h_eq m c t r n hn 1 (by omega), h_eq m c t r n hn 0 (by omega), e]

/-- The pooling mixer's rows of a point. -/
theorem yb_eq (c : Dev nD) (t : Fin cfg0.N) (r : Fin 512) (n : Fin 16384) (hn : n.val = 512 * t.val + r.val) (g : Fin 4) (q : Fin 64) :
    blkYb (tileW (grid0.coords t)) (iblk m c 0 t) (iblk m c 1 t) (iblk m c 2 t) (iblk m c 3 t) (iblk m c 6 t) (iblk m c 7 t) r (col g q)
      = ybRow (zMem m c) (m ((c : Thread nD τ).loc main_arg4)) (m ((c : Thread nD τ).loc main_arg5)) n g q := by
  unfold blkYb ybRow
  rw [blk7, pos_eq t r n hn]
  refine congrArg (· * _) ((sum_group g _ fun g' k hg => ?_).trans (Finset.sum_congr rfl fun k _ => congrArg₂ (· * ·) ?_ ?_))
  · rw [blk6, bd_at, if_neg hg, mul_zero, mul_zero]
  · exact pooled_congr _ _ fun i hi => v_eq m c t r n hn i hi _ _
  · rw [blk6, bd_at, if_pos rfl, mul_one]

/-- What each point writes back is its rows of the mixers' array. -/
theorem yab_flushed (c : Dev nD) (t : Fin cfg0.N) : (dats m 0 c).flushed 8 t = ((cfg0.win 8).blk t).view.read (Elt Ideal) (yabRes m c) := by
  have ht : t.val < 32 := t.isLt
  obtain ⟨h0, h1⟩ := idx8 t
  rw [Cert.InprojIdeal.Value.flushed8_A, yab_row]
  funext y
  obtain ⟨r, j, rfl⟩ : ∃ (r : Fin 512) (j : Fin 512), y = ix2 r j := ⟨y 0, y 1, eq_ix2 y⟩
  rw [View.read_apply]
  have hi : ((cfg0.win 8).blk t).view.emb (ix2 r j) = (ix2 ⟨512 * t.val + r.val, by omega⟩ j : S16384x512.Idx) := funext fun a => Fin.ext (by
    match a with
    | ⟨0, _⟩ => show win0_8.index t 0 * 512 + 1 * r.val = 512 * t.val + r.val; rw [h0]; omega
    | ⟨1, _⟩ => show win0_8.index t 1 * 512 + 1 * j.val = j.val; rw [h1]; omega)
  refine Eq.trans ?_ (congrArg (yabRes m c) hi).symm
  unfold yabRes yabArr
  by_cases h : j.val < 256
  · refine (blkYab_a _ _ _ _ _ _ _ _ _ r ⟨j.val, h⟩ rfl rfl).trans ?_
    refine (ya_eq m c t r ⟨512 * t.val + r.val, by omega⟩ rfl _).trans ?_
    refine Eq.symm (dif_pos ?_)
    exact h
  · have e : (⟨j.val - 256, by omega⟩ : Fin 256) = col ⟨(j.val - 256) / 64, by omega⟩ ⟨(j.val - 256) % 64, by omega⟩ := Fin.ext (by show j.val - 256 = 64 * ((j.val - 256) / 64) + (j.val - 256) % 64; omega)
    refine (blkYab_b _ _ _ _ _ _ _ _ _ r ⟨j.val - 256, by omega⟩ rfl (by show j.val = 256 + (j.val - 256); omega)).trans ?_
    rw [e]
    refine (yb_eq m c t r ⟨512 * t.val + r.val, by omega⟩ rfl _ _).trans ?_
    refine Eq.symm (dif_neg ?_)
    exact h

/-- Every index of the mixers' array lies in some point's block. -/
theorem yab_cover (i : S16384x512.Idx) : ∃ t : Fin cfg0.N, (cfg0.win 8).flush t = true ∧ i ∈ ((cfg0.win 8).blk t).view.set := by
  have hi0 : (i 0).val < 16384 := (i 0).isLt
  have hi1 : (i 1).val < 512 := (i 1).isLt
  have hN : (i 0).val / 512 < cfg0.N := by show _ < 32; omega
  obtain ⟨h0, h1⟩ := idx8 ⟨(i 0).val / 512, hN⟩
  refine ⟨⟨(i 0).val / 512, hN⟩, flush0_8 _, ?_⟩
  show i ∈ ((View.whole main_v35_0).slice (win0_8.rect ⟨(i 0).val / 512, hN⟩)).set
  rw [View.set_slice_whole, Rect.mem_set_unit]
  intro a
  match a with
  | ⟨0, _⟩ => show win0_8.index _ 0 * 512 ≤ (i 0).val ∧ (i 0).val < win0_8.index _ 0 * 512 + 512; rw [h0]; dsimp only; omega
  | ⟨1, _⟩ => show win0_8.index _ 1 * 512 ≤ (i 1).val ∧ (i 1).val < win0_8.index _ 1 * 512 + 512; rw [h1]; dsimp only; omega

/-- The two mixers' array after the run. -/
theorem yab_final (c : Dev nD) : (dats m 0 c).arrAt 8 cfg0.N = yabRes m c :=
  (dats m 0 c).arrAt_eq_of_cover 8 (yabRes m c) (fun t _ => yab_flushed m c t) yab_cover

end Cert.InprojValue

end
-- ==== Proof.Inproj.MixRef.lean ====
/- The reference's mixers, row by row: the convolution's taps and the four groups' windows. -/
module

public import proofs.«01_k».proof.Proof.Inproj.MixArr
public import proofs.«01_k».proof.Proof.Inproj.Ref

@[expose] public section

set_option maxRecDepth 16384

noncomputable section

namespace Cert.InprojRefValue

open Cert.TailValue Cert.InprojValue Cert.InprojReferenceIdeal Cert.InprojReferenceIdeal.Gen Cert.InprojReferenceIdeal.Read Idealize.ShloMosaic Idealize.ShloMosaic.TcCoe Idealize.SL.Sem

/-- The sequence of a token. -/
def bt (n : Fin 16384) : Fin 4 := ⟨n.val / 4096, by omega⟩

/-- The place of a token in its sequence. -/
def pl (n : Fin 16384) : Fin 4096 := ⟨n.val % 4096, by omega⟩

/-- Earlier terms with a zero in front are the terms. -/
theorem zero_first (a : EReal) : FloatOps.addf (F := Ideal) (φ := .f32) (FloatOps.ofBits .f32 0x00000000#32) a = a :=
  (congrArg (· + a) Ideal.ofBits_zero_f32).trans (zero_add a)

/-- The convolution's input. -/
theorem in48 (x0 : Vec Ideal S4x4096x1024 .f32) (x1 : Vec Ideal S4x1024 .f32) (x2 : Vec Ideal S4x1024x3144 .f32) (n : Fin 16384) (j : Fin 256) :
    val_main_v48 (F := Ideal) x0 x1 x2 (ix3 (bt n) (pl n) j) = zRow x0 x1 x2 n ⟨j.val, by omega⟩ := by
  rw [val_main_v48_apply, val_main_v47_apply]
  refine Eq.trans ?_ (dot17 x0 x1 x2 (bt n) (pl n) _)
  generalize val_main_v17 (F := Ideal) x0 x1 x2 = y
  exact congrArg y (funext fun a => match a with
    | ⟨0, _⟩ => rfl
    | ⟨1, _⟩ => rfl
    | ⟨2, _⟩ => rfl)

/-- The convolution's factor. -/
theorem fac49 (x0 : Vec Ideal S4x4096x1024 .f32) (x1 : Vec Ideal S4x1024 .f32) (x2 : Vec Ideal S4x1024x3144 .f32) (n : Fin 16384) (j : Fin 256) :
    val_main_v49 (F := Ideal) x0 x1 x2 (ix3 (bt n) (pl n) j) = zRow x0 x1 x2 n ⟨256 + j.val, by omega⟩ := by
  rw [val_main_v49_apply, val_main_v47_apply]
  refine Eq.trans ?_ (dot17 x0 x1 x2 (bt n) (pl n) _)
  generalize val_main_v17 (F := Ideal) x0 x1 x2 = y
  exact congrArg y (funext fun a => match a with
    | ⟨0, _⟩ => rfl
    | ⟨1, _⟩ => rfl
    | ⟨2, _⟩ => rfl)

/-- The convolution's gate. -/
theorem gate50 (x0 : Vec Ideal S4x4096x1024 .f32) (x1 : Vec Ideal S4x1024 .f32) (x2 : Vec Ideal S4x1024x3144 .f32) (n : Fin 16384) (j : Fin 256) :
    val_main_v50 (F := Ideal) x0 x1 x2 (ix3 (bt n) (pl n) j) = zRow x0 x1 x2 n ⟨512 + j.val, by omega⟩ := by
  rw [val_main_v50_apply, val_main_v47_apply]
  refine Eq.trans ?_ (dot17 x0 x1 x2 (bt n) (pl n) _)
  generalize val_main_v17 (F := Ideal) x0 x1 x2 = y
  exact congrArg y (funext fun a => match a with
    | ⟨0, _⟩ => rfl
    | ⟨1, _⟩ => rfl
    | ⟨2, _⟩ => rfl)

/-- The pooling mixer's input. -/
theorem pool51 (x0 : Vec Ideal S4x4096x1024 .f32) (x1 : Vec Ideal S4x1024 .f32) (x2 : Vec Ideal S4x1024x3144 .f32) (n : Fin 16384) (j : Fin 256) :
    val_main_v51 (F := Ideal) x0 x1 x2 (ix3 (bt n) (pl n) j) = zRow x0 x1 x2 n ⟨768 + j.val, by omega⟩ := by
  rw [val_main_v51_apply, val_main_v47_apply]
  refine Eq.trans ?_ (dot17 x0 x1 x2 (bt n) (pl n) _)
  generalize val_main_v17 (F := Ideal) x0 x1 x2 = y
  exact congrArg y (funext fun a => match a with
    | ⟨0, _⟩ => rfl
    | ⟨1, _⟩ => rfl
    | ⟨2, _⟩ => rfl)

/-- The product some tokens back, zero in front of the sequence. -/
theorem past54 (x0 : Vec Ideal S4x4096x1024 .f32) (x1 : Vec Ideal S4x1024 .f32) (x2 : Vec Ideal S4x1024x3144 .f32) (n : Fin 16384) (k : Fin 256) (i : Nat) (J : S4x4098x256.Idx)
    (h0 : (J 0).val = n.val / 4096) (h1 : (J 1).val + i = 2 + n.val % 4096) (h2 : (J 2).val = k.val) :
    val_main_v54 (F := Ideal) x0 x1 x2 J = hPast (zRow x0 x1 x2) n k i := by
  have hJ : (J 1).val < 4098 := (J 1).isLt
  unfold val_main_v54 hPast
  by_cases h : n.val % 4096 < i
  · rw [if_pos h]
    refine (concatenate_pair_apply_left (1 : Fin S4x4098x256.rank) (val_main_v52 (F := Ideal)) (val_main_v53 (F := Ideal) x0 x1 x2) _ J rfl (ix3 (J 0) ⟨(J 1).val, by omega⟩ (J 2) : S4x2x256.Idx)
      (fun a => match a with | ⟨0, _⟩ => rfl | ⟨1, _⟩ => rfl | ⟨2, _⟩ => rfl)).trans ?_
    rw [val_main_v52_apply, val_main_cst_7_apply]
    exact Ideal.ofBits_zero_f32
  · rw [if_neg h]
    have hn : n.val - i < 16384 := by omega
    refine (concatenate_pair_apply_right (1 : Fin S4x4098x256.rank) (val_main_v52 (F := Ideal)) (val_main_v53 (F := Ideal) x0 x1 x2) _ J rfl rfl (ix3 (bt ⟨n.val - i, hn⟩) (pl ⟨n.val - i, hn⟩) k : S4x4096x256.Idx)
      (fun a => match a with | ⟨0, _⟩ => fun _ => ?_ | ⟨1, _⟩ => fun h => absurd rfl h | ⟨2, _⟩ => fun _ => ?_) ?_).trans ?_
    · show (n.val - i) / 4096 = (J 0).val; omega
    · show k.val = (J 2).val; omega
    · show (n.val - i) % 4096 + 2 = (J 1).val; omega
    rw [val_main_v53_apply, fac49, in48]
    rfl

/-- The pooling mixer's input some tokens back, zero in front of the sequence. -/
theorem past81 (x0 : Vec Ideal S4x4096x1024 .f32) (x1 : Vec Ideal S4x1024 .f32) (x2 : Vec Ideal S4x1024x3144 .f32) (n : Fin 16384) (k : Fin 256) (i : Nat) (J : S4x4111x256.Idx)
    (h0 : (J 0).val = n.val / 4096) (h1 : (J 1).val + i = 15 + n.val % 4096) (h2 : (J 2).val = k.val) :
    val_main_v81 (F := Ideal) x0 x1 x2 J = vPast (zRow x0 x1 x2) n k i := by
  have hJ : (J 1).val < 4111 := (J 1).isLt
  unfold val_main_v81 vPast
  by_cases h : n.val % 4096 < i
  · rw [if_pos h]
    refine (concatenate_pair_apply_left (1 : Fin S4x4111x256.rank) (val_main_v80 (F := Ideal)) (val_main_v51 (F := Ideal) x0 x1 x2) _ J rfl (ix3 (J 0) ⟨(J 1).val, by omega⟩ (J 2) : S4x15x256.Idx)
      (fun a => match a with | ⟨0, _⟩ => rfl | ⟨1, _⟩ => rfl | ⟨2, _⟩ => rfl)).trans ?_
    rw [val_main_v80_apply, val_main_cst_9_apply]
    exact Ideal.ofBits_zero_f32
  · rw [if_neg h]
    have hn : n.val - i < 16384 := by omega
    refine (concatenate_pair_apply_right (1 : Fin S4x4111x256.rank) (val_main_v80 (F := Ideal)) (val_main_v51 (F := Ideal) x0 x1 x2) _ J rfl rfl (ix3 (bt ⟨n.val - i, hn⟩) (pl ⟨n.val - i, hn⟩) k : S4x4096x256.Idx)
      (fun a => match a with | ⟨0, _⟩ => fun _ => ?_ | ⟨1, _⟩ => fun h => absurd rfl h | ⟨2, _⟩ => fun _ => ?_) ?_).trans ?_
    · show (n.val - i) / 4096 = (J 0).val; omega
    · show k.val = (J 2).val; omega
    · show (n.val - i) % 4096 + 15 = (J 1).val; omega
    exact pool51 x0 x1 x2 ⟨n.val - i, hn⟩ k

/-- The layer's tap 0. -/
theorem tap61 (x3 : Vec Ideal S4x3x256 .f32) (q : Fin 4) (s : Fin 4096) (j : Fin 256) : val_main_v61 (F := Ideal) x3 (ix3 q s j) = x3 (ix3 3 0 j) := by
  rw [val_main_v61_apply, val_main_v60_apply, val_main_v58_apply, val_main_v57_apply, val_main_v56_apply, val_main_v55_apply]
  exact congrArg x3 (funext fun a => match a with
    | ⟨0, _⟩ => Fin.ext (by show 3 + 0 = 3; omega)
    | ⟨1, _⟩ => Fin.ext (by show (0 * 256 + j.val % 256) / 256 % 3 = 0; omega)
    | ⟨2, _⟩ => Fin.ext (by show (0 * 256 + j.val % 256) % 256 = j.val; omega))

/-- The layer's tap 1. -/
theorem tap69 (x3 : Vec Ideal S4x3x256 .f32) (q : Fin 4) (s : Fin 4096) (j : Fin 256) : val_main_v69 (F := Ideal) x3 (ix3 q s j) = x3 (ix3 3 1 j) := by
  rw [val_main_v69_apply, val_main_v68_apply, val_main_v66_apply, val_main_v65_apply, val_main_v56_apply, val_main_v55_apply]
  exact congrArg x3 (funext fun a => match a with
    | ⟨0, _⟩ => Fin.ext (by show 3 + 0 = 3; omega)
    | ⟨1, _⟩ => Fin.ext (by show ((1 + 0) * 256 + j.val % 256) / 256 % 3 = 1; omega)
    | ⟨2, _⟩ => Fin.ext (by show ((1 + 0) * 256 + j.val % 256) % 256 = j.val; omega))

/-- The layer's tap 2. -/
theorem tap76 (x3 : Vec Ideal S4x3x256 .f32) (q : Fin 4) (s : Fin 4096) (j : Fin 256) : val_main_v76 (F := Ideal) x3 (ix3 q s j) = x3 (ix3 3 2 j) := by
  rw [val_main_v76_apply, val_main_v75_apply, val_main_v73_apply, val_main_v72_apply, val_main_v56_apply, val_main_v55_apply]
  exact congrArg x3 (funext fun a => match a with
    | ⟨0, _⟩ => Fin.ext (by show 3 + 0 = 3; omega)
    | ⟨1, _⟩ => Fin.ext (by show ((2 + 0) * 256 + j.val % 256) / 256 % 3 = 2; omega)
    | ⟨2, _⟩ => Fin.ext (by show ((2 + 0) * 256 + j.val % 256) % 256 = j.val; omega))

/-- The convolution mixer of a token. -/
theorem conv79 (x0 : Vec Ideal S4x4096x1024 .f32) (x1 : Vec Ideal S4x1024 .f32) (x2 : Vec Ideal S4x1024x3144 .f32) (x3 : Vec Ideal S4x3x256 .f32) (n : Fin 16384) (j : Fin 256) :
    val_main_v79 (F := Ideal) x0 x1 x2 x3 (ix3 (bt n) (pl n) j) = yaRow (zRow x0 x1 x2) x3 n j := by
  have s59 : val_main_v59 (F := Ideal) x0 x1 x2 (ix3 (bt n) (pl n) j) = hPast (zRow x0 x1 x2) n j 2 := by
    rw [val_main_v59_apply]
    exact past54 x0 x1 x2 n j 2 _ rfl (by show n.val % 4096 + 2 = 2 + n.val % 4096; omega) rfl
  have s67 : val_main_v67 (F := Ideal) x0 x1 x2 (ix3 (bt n) (pl n) j) = hPast (zRow x0 x1 x2) n j 1 := by
    rw [val_main_v67_apply]
    exact past54 x0 x1 x2 n j 1 _ rfl (by show 1 + n.val % 4096 + 1 = 2 + n.val % 4096; omega) rfl
  have s74 : val_main_v74 (F := Ideal) x0 x1 x2 (ix3 (bt n) (pl n) j) = hPast (zRow x0 x1 x2) n j 0 := by
    rw [val_main_v74_apply]
    exact past54 x0 x1 x2 n j 0 _ rfl (by show 2 + n.val % 4096 + 0 = 2 + n.val % 4096; omega) rfl
  rw [val_main_v79_apply, gate50, val_main_v78_apply, val_main_v71_apply, val_main_v64_apply, val_main_v63_apply, val_main_cst_8_apply, zero_first,
    val_main_v62_apply, val_main_v70_apply, val_main_v77_apply, tap61, tap69, tap76, s59, s67, s74]
  rfl

/-- The window sum of group 0. -/
theorem sum87 (x0 : Vec Ideal S4x4096x1024 .f32) (x1 : Vec Ideal S4x1024 .f32) (x2 : Vec Ideal S4x1024x3144 .f32) (n : Fin 16384) (k : Fin 64) :
    val_main_v87 (F := Ideal) x0 x1 x2 (ix3 (bt n) (pl n) k) = run (vPast (zRow x0 x1 x2) n (col 0 k)) 1 := by
  have s0 : val_main_v83 (F := Ideal) x0 x1 x2 (ix3 (bt n) (pl n) k) = vPast (zRow x0 x1 x2) n (col 0 k) 0 := by
    rw [val_main_v83_apply]
    exact past81 x0 x1 x2 n (col 0 k) 0 _ rfl (by show 15 + n.val % 4096 + 0 = 15 + n.val % 4096; omega) (by show k.val = 64 * 0 + k.val; omega)
  have a0 : val_main_v85 (F := Ideal) x0 x1 x2 (ix3 (bt n) (pl n) k) = run (vPast (zRow x0 x1 x2) n (col 0 k)) 0 := by
    rw [val_main_v85_apply, val_main_v84_apply, val_main_cst_10_apply, zero_first, s0]
    rfl
  have s1 : val_main_v86 (F := Ideal) x0 x1 x2 (ix3 (bt n) (pl n) k) = vPast (zRow x0 x1 x2) n (col 0 k) 1 := by
    rw [val_main_v86_apply]
    exact past81 x0 x1 x2 n (col 0 k) 1 _ rfl (by show 14 + n.val % 4096 + 1 = 15 + n.val % 4096; omega) (by show k.val = 64 * 0 + k.val; omega)
  have a1 : val_main_v87 (F := Ideal) x0 x1 x2 (ix3 (bt n) (pl n) k) = run (vPast (zRow x0 x1 x2) n (col 0 k)) 1 := by
    rw [val_main_v87_apply, a0, s1]
    rfl
  exact a1

/-- The window length of group 0. -/
theorem count94 (n : Fin 16384) (k : Fin 64) : val_main_v94 (F := Ideal) (ix3 (bt n) (pl n) k) = count (BitVec.ofNat 32 (n.val % 4096)) 2#32 := by
  rw [val_main_v94_apply, val_main_v93_apply, val_main_v92_apply, val_main_v91_apply, val_main_v89_apply, val_main_v82_apply, val_main_v88_apply, val_main_c_apply, val_main_v90_apply, val_main_c_11_apply]
  rfl

/-- The window mean minus the token of group 0. -/
theorem pooled97 (x0 : Vec Ideal S4x4096x1024 .f32) (x1 : Vec Ideal S4x1024 .f32) (x2 : Vec Ideal S4x1024x3144 .f32) (n : Fin 16384) (k : Fin 64) :
    val_main_v97 (F := Ideal) x0 x1 x2 (ix3 (bt n) (pl n) k) = pooled (vPast (zRow x0 x1 x2) n (col 0 k)) (BitVec.ofNat 32 (n.val % 4096)) (col 0 k) := by
  have e : val_main_v96 (F := Ideal) x0 x1 x2 (ix3 (bt n) (pl n) k) = vPast (zRow x0 x1 x2) n (col 0 k) 0 := by
    rw [val_main_v96_apply]
    unfold vPast
    rw [if_neg (Nat.not_lt_zero _)]
    refine Eq.trans ?_ (pool51 x0 x1 x2 n (col 0 k))
    exact congrArg _ (funext fun a => match a with
      | ⟨0, _⟩ => rfl
      | ⟨1, _⟩ => rfl
      | ⟨2, _⟩ => Fin.ext (by show k.val = 64 * 0 + k.val; omega))
  have hw : widthW (col 0 k) = 2#32 := by
    have h : (col 0 k).val = 64 * 0 + k.val := rfl
    unfold widthW
    split_ifs <;> first | rfl | (exfalso; omega)
  have hl : lastOf (col 0 k) = 1 := by
    have h : (col 0 k).val = 64 * 0 + k.val := rfl
    unfold lastOf
    split_ifs <;> first | rfl | (exfalso; omega)
  rw [val_main_v97_apply, val_main_v95_apply, sum87, count94, e]
  unfold pooled
  rw [hw, hl]
  rfl

/-- The weights of group 0. -/
theorem weight99 (x4 : Vec Ideal S4x4x64x64 .f32) (k q : Fin 64) : val_main_v99 (F := Ideal) x4 (ix2 k q) = x4 (ix4 3 0 k q) := by
  rw [val_main_v99_apply, val_main_v98_apply]
  exact congrArg x4 (funext fun a => match a with
    | ⟨0, _⟩ => Fin.ext (by show 3 + 0 = 3; omega)
    | ⟨1, _⟩ => rfl
    | ⟨2, _⟩ => Fin.ext (by show (k.val * 64 + q.val) / 64 % 64 = k.val; omega)
    | ⟨3, _⟩ => Fin.ext (by show (k.val * 64 + q.val) % 64 = q.val; omega))

/-- The product of group 0. -/
theorem group100 (x0 : Vec Ideal S4x4096x1024 .f32) (x1 : Vec Ideal S4x1024 .f32) (x2 : Vec Ideal S4x1024x3144 .f32) (x4 : Vec Ideal S4x4x64x64 .f32) (n : Fin 16384) (q : Fin 64) :
    val_main_v100 (F := Ideal) x0 x1 x2 x4 (ix3 (bt n) (pl n) q)
      = ∑ k : Fin 64, pooled (vPast (zRow x0 x1 x2) n (col 0 k)) (BitVec.ofNat 32 (n.val % 4096)) (col 0 k) * x4 (ix4 3 0 k q) := by
  rw [val_main_v100_apply]
  refine Finset.sum_congr rfl fun k _ => ?_
  rw [show ridx_main_v100 (ix3 (bt n) (pl n) q) k = ix2 k q from funext fun a => match a with | ⟨0, _⟩ => rfl | ⟨1, _⟩ => rfl, weight99,
    show lidx_main_v100 (ix3 (bt n) (pl n) q) k = ix3 (bt n) (pl n) k from funext fun a => match a with | ⟨0, _⟩ => rfl | ⟨1, _⟩ => rfl | ⟨2, _⟩ => rfl, pooled97]

/-- The window sum of group 1. -/
theorem sum109 (x0 : Vec Ideal S4x4096x1024 .f32) (x1 : Vec Ideal S4x1024 .f32) (x2 : Vec Ideal S4x1024x3144 .f32) (n : Fin 16384) (k : Fin 64) :
    val_main_v109 (F := Ideal) x0 x1 x2 (ix3 (bt n) (pl n) k) = run (vPast (zRow x0 x1 x2) n (col 1 k)) 3 := by
  have s0 : val_main_v101 (F := Ideal) x0 x1 x2 (ix3 (bt n) (pl n) k) = vPast (zRow x0 x1 x2) n (col 1 k) 0 := by
    rw [val_main_v101_apply]
    exact past81 x0 x1 x2 n (col 1 k) 0 _ rfl (by show 15 + n.val % 4096 + 0 = 15 + n.val % 4096; omega) (by show 64 + k.val = 64 * 1 + k.val; omega)
  have a0 : val_main_v103 (F := Ideal) x0 x1 x2 (ix3 (bt n) (pl n) k) = run (vPast (zRow x0 x1 x2) n (col 1 k)) 0 := by
    rw [val_main_v103_apply, val_main_v102_apply, val_main_cst_12_apply, zero_first, s0]
    rfl
  have s1 : val_main_v104 (F := Ideal) x0 x1 x2 (ix3 (bt n) (pl n) k) = vPast (zRow x0 x1 x2) n (col 1 k) 1 := by
    rw [val_main_v104_apply]
    exact past81 x0 x1 x2 n (col 1 k) 1 _ rfl (by show 14 + n.val % 4096 + 1 = 15 + n.val % 4096; omega) (by show 64 + k.val = 64 * 1 + k.val; omega)
  have a1 : val_main_v105 (F := Ideal) x0 x1 x2 (ix3 (bt n) (pl n) k) = run (vPast (zRow x0 x1 x2) n (col 1 k)) 1 := by
    rw [val_main_v105_apply, a0, s1]
    rfl
  have s2 : val_main_v106 (F := Ideal) x0 x1 x2 (ix3 (bt n) (pl n) k) = vPast (zRow x0 x1 x2) n (col 1 k) 2 := by
    rw [val_main_v106_apply]
    exact past81 x0 x1 x2 n (col 1 k) 2 _ rfl (by show 13 + n.val % 4096 + 2 = 15 + n.val % 4096; omega) (by show 64 + k.val = 64 * 1 + k.val; omega)
  have a2 : val_main_v107 (F := Ideal) x0 x1 x2 (ix3 (bt n) (pl n) k) = run (vPast (zRow x0 x1 x2) n (col 1 k)) 2 := by
    rw [val_main_v107_apply, a1, s2]
    rfl
  have s3 : val_main_v108 (F := Ideal) x0 x1 x2 (ix3 (bt n) (pl n) k) = vPast (zRow x0 x1 x2) n (col 1 k) 3 := by
    rw [val_main_v108_apply]
    exact past81 x0 x1 x2 n (col 1 k) 3 _ rfl (by show 12 + n.val % 4096 + 3 = 15 + n.val % 4096; omega) (by show 64 + k.val = 64 * 1 + k.val; omega)
  have a3 : val_main_v109 (F := Ideal) x0 x1 x2 (ix3 (bt n) (pl n) k) = run (vPast (zRow x0 x1 x2) n (col 1 k)) 3 := by
    rw [val_main_v109_apply, a2, s3]
    rfl
  exact a3

/-- The window length of group 1. -/
theorem count116 (n : Fin 16384) (k : Fin 64) : val_main_v116 (F := Ideal) (ix3 (bt n) (pl n) k) = count (BitVec.ofNat 32 (n.val % 4096)) 4#32 := by
  rw [val_main_v116_apply, val_main_v115_apply, val_main_v114_apply, val_main_v113_apply, val_main_v111_apply, val_main_v82_apply, val_main_v110_apply, val_main_c_13_apply, val_main_v112_apply, val_main_c_14_apply]
  rfl

/-- The window mean minus the token of group 1. -/
theorem pooled119 (x0 : Vec Ideal S4x4096x1024 .f32) (x1 : Vec Ideal S4x1024 .f32) (x2 : Vec Ideal S4x1024x3144 .f32) (n : Fin 16384) (k : Fin 64) :
    val_main_v119 (F := Ideal) x0 x1 x2 (ix3 (bt n) (pl n) k) = pooled (vPast (zRow x0 x1 x2) n (col 1 k)) (BitVec.ofNat 32 (n.val % 4096)) (col 1 k) := by
  have e : val_main_v118 (F := Ideal) x0 x1 x2 (ix3 (bt n) (pl n) k) = vPast (zRow x0 x1 x2) n (col 1 k) 0 := by
    rw [val_main_v118_apply]
    unfold vPast
    rw [if_neg (Nat.not_lt_zero _)]
    refine Eq.trans ?_ (pool51 x0 x1 x2 n (col 1 k))
    exact congrArg _ (funext fun a => match a with
      | ⟨0, _⟩ => rfl
      | ⟨1, _⟩ => rfl
      | ⟨2, _⟩ => Fin.ext (by show 64 + k.val = 64 * 1 + k.val; omega))
  have hw : widthW (col 1 k) = 4#32 := by
    have h : (col 1 k).val = 64 * 1 + k.val := rfl
    unfold widthW
    split_ifs <;> first | rfl | (exfalso; omega)
  have hl : lastOf (col 1 k) = 3 := by
    have h : (col 1 k).val = 64 * 1 + k.val := rfl
    unfold lastOf
    split_ifs <;> first | rfl | (exfalso; omega)
  rw [val_main_v119_apply, val_main_v117_apply, sum109, count116, e]
  unfold pooled
  rw [hw, hl]
  rfl

/-- The weights of group 1. -/
theorem weight121 (x4 : Vec Ideal S4x4x64x64 .f32) (k q : Fin 64) : val_main_v121 (F := Ideal) x4 (ix2 k q) = x4 (ix4 3 1 k q) := by
  rw [val_main_v121_apply, val_main_v120_apply]
  exact congrArg x4 (funext fun a => match a with
    | ⟨0, _⟩ => Fin.ext (by show 3 + 0 = 3; omega)
    | ⟨1, _⟩ => rfl
    | ⟨2, _⟩ => Fin.ext (by show (k.val * 64 + q.val) / 64 % 64 = k.val; omega)
    | ⟨3, _⟩ => Fin.ext (by show (k.val * 64 + q.val) % 64 = q.val; omega))

/-- The product of group 1. -/
theorem group122 (x0 : Vec Ideal S4x4096x1024 .f32) (x1 : Vec Ideal S4x1024 .f32) (x2 : Vec Ideal S4x1024x3144 .f32) (x4 : Vec Ideal S4x4x64x64 .f32) (n : Fin 16384) (q : Fin 64) :
    val_main_v122 (F := Ideal) x0 x1 x2 x4 (ix3 (bt n) (pl n) q)
      = ∑ k : Fin 64, pooled (vPast (zRow x0 x1 x2) n (col 1 k)) (BitVec.ofNat 32 (n.val % 4096)) (col 1 k) * x4 (ix4 3 1 k q) := by
  rw [val_main_v122_apply]
  refine Finset.sum_congr rfl fun k _ => ?_
  rw [show ridx_main_v122 (ix3 (bt n) (pl n) q) k = ix2 k q from funext fun a => match a with | ⟨0, _⟩ => rfl | ⟨1, _⟩ => rfl, weight121,
    show lidx_main_v122 (ix3 (bt n) (pl n) q) k = ix3 (bt n) (pl n) k from funext fun a => match a with | ⟨0, _⟩ => rfl | ⟨1, _⟩ => rfl | ⟨2, _⟩ => rfl, pooled119]

/-- The window sum of group 2. -/
theorem sum139 (x0 : Vec Ideal S4x4096x1024 .f32) (x1 : Vec Ideal S4x1024 .f32) (x2 : Vec Ideal S4x1024x3144 .f32) (n : Fin 16384) (k : Fin 64) :
    val_main_v139 (F := Ideal) x0 x1 x2 (ix3 (bt n) (pl n) k) = run (vPast (zRow x0 x1 x2) n (col 2 k)) 7 := by
  have s0 : val_main_v123 (F := Ideal) x0 x1 x2 (ix3 (bt n) (pl n) k) = vPast (zRow x0 x1 x2) n (col 2 k) 0 := by
    rw [val_main_v123_apply]
    exact past81 x0 x1 x2 n (col 2 k) 0 _ rfl (by show 15 + n.val % 4096 + 0 = 15 + n.val % 4096; omega) (by show 128 + k.val = 64 * 2 + k.val; omega)
  have a0 : val_main_v125 (F := Ideal) x0 x1 x2 (ix3 (bt n) (pl n) k) = run (vPast (zRow x0 x1 x2) n (col 2 k)) 0 := by
    rw [val_main_v125_apply, val_main_v124_apply, val_main_cst_15_apply, zero_first, s0]
    rfl
  have s1 : val_main_v126 (F := Ideal) x0 x1 x2 (ix3 (bt n) (pl n) k) = vPast (zRow x0 x1 x2) n (col 2 k) 1 := by
    rw [val_main_v126_apply]
    exact past81 x0 x1 x2 n (col 2 k) 1 _ rfl (by show 14 + n.val % 4096 + 1 = 15 + n.val % 4096; omega) (by show 128 + k.val = 64 * 2 + k.val; omega)
  have a1 : val_main_v127 (F := Ideal) x0 x1 x2 (ix3 (bt n) (pl n) k) = run (vPast (zRow x0 x1 x2) n (col 2 k)) 1 := by
    rw [val_main_v127_apply, a0, s1]
    rfl
  have s2 : val_main_v128 (F := Ideal) x0 x1 x2 (ix3 (bt n) (pl n) k) = vPast (zRow x0 x1 x2) n (col 2 k) 2 := by
    rw [val_main_v128_apply]
    exact past81 x0 x1 x2 n (col 2 k) 2 _ rfl (by show 13 + n.val % 4096 + 2 = 15 + n.val % 4096; omega) (by show 128 + k.val = 64 * 2 + k.val; omega)
  have a2 : val_main_v129 (F := Ideal) x0 x1 x2 (ix3 (bt n) (pl n) k) = run (vPast (zRow x0 x1 x2) n (col 2 k)) 2 := by
    rw [val_main_v129_apply, a1, s2]
    rfl
  have s3 : val_main_v130 (F := Ideal) x0 x1 x2 (ix3 (bt n) (pl n) k) = vPast (zRow x0 x1 x2) n (col 2 k) 3 := by
    rw [val_main_v130_apply]
    exact past81 x0 x1 x2 n (col 2 k) 3 _ rfl (by show 12 + n.val % 4096 + 3 = 15 + n.val % 4096; omega) (by show 128 + k.val = 64 * 2 + k.val; omega)
  have a3 : val_main_v131 (F := Ideal) x0 x1 x2 (ix3 (bt n) (pl n) k) = run (vPast (zRow x0 x1 x2) n (col 2 k)) 3 := by
    rw [val_main_v131_apply, a2, s3]
    rfl
  have s4 : val_main_v132 (F := Ideal) x0 x1 x2 (ix3 (bt n) (pl n) k) = vPast (zRow x0 x1 x2) n (col 2 k) 4 := by
    rw [val_main_v132_apply]
    exact past81 x0 x1 x2 n (col 2 k) 4 _ rfl (by show 11 + n.val % 4096 + 4 = 15 + n.val % 4096; omega) (by show 128 + k.val = 64 * 2 + k.val; omega)
  have a4 : val_main_v133 (F := Ideal) x0 x1 x2 (ix3 (bt n) (pl n) k) = run (vPast (zRow x0 x1 x2) n (col 2 k)) 4 := by
    rw [val_main_v133_apply, a3, s4]
    rfl
  have s5 : val_main_v134 (F := Ideal) x0 x1 x2 (ix3 (bt n) (pl n) k) = vPast (zRow x0 x1 x2) n (col 2 k) 5 := by
    rw [val_main_v134_apply]
    exact past81 x0 x1 x2 n (col 2 k) 5 _ rfl (by show 10 + n.val % 4096 + 5 = 15 + n.val % 4096; omega) (by show 128 + k.val = 64 * 2 + k.val; omega)
  have a5 : val_main_v135 (F := Ideal) x0 x1 x2 (ix3 (bt n) (pl n) k) = run (vPast (zRow x0 x1 x2) n (col 2 k)) 5 := by
    rw [val_main_v135_apply, a4, s5]
    rfl
  have s6 : val_main_v136 (F := Ideal) x0 x1 x2 (ix3 (bt n) (pl n) k) = vPast (zRow x0 x1 x2) n (col 2 k) 6 := by
    rw [val_main_v136_apply]
    exact past81 x0 x1 x2 n (col 2 k) 6 _ rfl (by show 9 + n.val % 4096 + 6 = 15 + n.val % 4096; omega) (by show 128 + k.val = 64 * 2 + k.val; omega)
  have a6 : val_main_v137 (F := Ideal) x0 x1 x2 (ix3 (bt n) (pl n) k) = run (vPast (zRow x0 x1 x2) n (col 2 k)) 6 := by
    rw [val_main_v137_apply, a5, s6]
    rfl
  have s7 : val_main_v138 (F := Ideal) x0 x1 x2 (ix3 (bt n) (pl n) k) = vPast (zRow x0 x1 x2) n (col 2 k) 7 := by
    rw [val_main_v138_apply]
    exact past81 x0 x1 x2 n (col 2 k) 7 _ rfl (by show 8 + n.val % 4096 + 7 = 15 + n.val % 4096; omega) (by show 128 + k.val = 64 * 2 + k.val; omega)
  have a7 : val_main_v139 (F := Ideal) x0 x1 x2 (ix3 (bt n) (pl n) k) = run (vPast (zRow x0 x1 x2) n (col 2 k)) 7 := by
    rw [val_main_v139_apply, a6, s7]
    rfl
  exact a7

/-- The window length of group 2. -/
theorem count146 (n : Fin 16384) (k : Fin 64) : val_main_v146 (F := Ideal) (ix3 (bt n) (pl n) k) = count (BitVec.ofNat 32 (n.val % 4096)) 8#32 := by
  rw [val_main_v146_apply, val_main_v145_apply, val_main_v144_apply, val_main_v143_apply, val_main_v141_apply, val_main_v82_apply, val_main_v140_apply, val_main_c_16_apply, val_main_v142_apply, val_main_c_17_apply]
  rfl

/-- The window mean minus the token of group 2. -/
theorem pooled149 (x0 : Vec Ideal S4x4096x1024 .f32) (x1 : Vec Ideal S4x1024 .f32) (x2 : Vec Ideal S4x1024x3144 .f32) (n : Fin 16384) (k : Fin 64) :
    val_main_v149 (F := Ideal) x0 x1 x2 (ix3 (bt n) (pl n) k) = pooled (vPast (zRow x0 x1 x2) n (col 2 k)) (BitVec.ofNat 32 (n.val % 4096)) (col 2 k) := by
  have e : val_main_v148 (F := Ideal) x0 x1 x2 (ix3 (bt n) (pl n) k) = vPast (zRow x0 x1 x2) n (col 2 k) 0 := by
    rw [val_main_v148_apply]
    unfold vPast
    rw [if_neg (Nat.not_lt_zero _)]
    refine Eq.trans ?_ (pool51 x0 x1 x2 n (col 2 k))
    exact congrArg _ (funext fun a => match a with
      | ⟨0, _⟩ => rfl
      | ⟨1, _⟩ => rfl
      | ⟨2, _⟩ => Fin.ext (by show 128 + k.val = 64 * 2 + k.val; omega))
  have hw : widthW (col 2 k) = 8#32 := by
    have h : (col 2 k).val = 64 * 2 + k.val := rfl
    unfold widthW
    split_ifs <;> first | rfl | (exfalso; omega)
  have hl : lastOf (col 2 k) = 7 := by
    have h : (col 2 k).val = 64 * 2 + k.val := rfl
    unfold lastOf
    split_ifs <;> first | rfl | (exfalso; omega)
  rw [val_main_v149_apply, val_main_v147_apply, sum139, count146, e]
  unfold pooled
  rw [hw, hl]
  rfl

/-- The weights of group 2. -/
theorem weight151 (x4 : Vec Ideal S4x4x64x64 .f32) (k q : Fin 64) : val_main_v151 (F := Ideal) x4 (ix2 k q) = x4 (ix4 3 2 k q) := by
  rw [val_main_v151_apply, val_main_v150_apply]
  exact congrArg x4 (funext fun a => match a with
    | ⟨0, _⟩ => Fin.ext (by show 3 + 0 = 3; omega)
    | ⟨1, _⟩ => rfl
    | ⟨2, _⟩ => Fin.ext (by show (k.val * 64 + q.val) / 64 % 64 = k.val; omega)
    | ⟨3, _⟩ => Fin.ext (by show (k.val * 64 + q.val) % 64 = q.val; omega))

/-- The product of group 2. -/
theorem group152 (x0 : Vec Ideal S4x4096x1024 .f32) (x1 : Vec Ideal S4x1024 .f32) (x2 : Vec Ideal S4x1024x3144 .f32) (x4 : Vec Ideal S4x4x64x64 .f32) (n : Fin 16384) (q : Fin 64) :
    val_main_v152 (F := Ideal) x0 x1 x2 x4 (ix3 (bt n) (pl n) q)
      = ∑ k : Fin 64, pooled (vPast (zRow x0 x1 x2) n (col 2 k)) (BitVec.ofNat 32 (n.val % 4096)) (col 2 k) * x4 (ix4 3 2 k q) := by
  rw [val_main_v152_apply]
  refine Finset.sum_congr rfl fun k _ => ?_
  rw [show ridx_main_v152 (ix3 (bt n) (pl n) q) k = ix2 k q from funext fun a => match a with | ⟨0, _⟩ => rfl | ⟨1, _⟩ => rfl, weight151,
    show lidx_main_v152 (ix3 (bt n) (pl n) q) k = ix3 (bt n) (pl n) k from funext fun a => match a with | ⟨0, _⟩ => rfl | ⟨1, _⟩ => rfl | ⟨2, _⟩ => rfl, pooled149]

/-- The window sum of group 3. -/
theorem sum185 (x0 : Vec Ideal S4x4096x1024 .f32) (x1 : Vec Ideal S4x1024 .f32) (x2 : Vec Ideal S4x1024x3144 .f32) (n : Fin 16384) (k : Fin 64) :
    val_main_v185 (F := Ideal) x0 x1 x2 (ix3 (bt n) (pl n) k) = run (vPast (zRow x0 x1 x2) n (col 3 k)) 15 := by
  have s0 : val_main_v153 (F := Ideal) x0 x1 x2 (ix3 (bt n) (pl n) k) = vPast (zRow x0 x1 x2) n (col 3 k) 0 := by
    rw [val_main_v153_apply]
    exact past81 x0 x1 x2 n (col 3 k) 0 _ rfl (by show 15 + n.val % 4096 + 0 = 15 + n.val % 4096; omega) (by show 192 + k.val = 64 * 3 + k.val; omega)
  have a0 : val_main_v155 (F := Ideal) x0 x1 x2 (ix3 (bt n) (pl n) k) = run (vPast (zRow x0 x1 x2) n (col 3 k)) 0 := by
    rw [val_main_v155_apply, val_main_v154_apply, val_main_cst_18_apply, zero_first, s0]
    rfl
  have s1 : val_main_v156 (F := Ideal) x0 x1 x2 (ix3 (bt n) (pl n) k) = vPast (zRow x0 x1 x2) n (col 3 k) 1 := by
    rw [val_main_v156_apply]
    exact past81 x0 x1 x2 n (col 3 k) 1 _ rfl (by show 14 + n.val % 4096 + 1 = 15 + n.val % 4096; omega) (by show 192 + k.val = 64 * 3 + k.val; omega)
  have a1 : val_main_v157 (F := Ideal) x0 x1 x2 (ix3 (bt n) (pl n) k) = run (vPast (zRow x0 x1 x2) n (col 3 k)) 1 := by
    rw [val_main_v157_apply, a0, s1]
    rfl
  have s2 : val_main_v158 (F := Ideal) x0 x1 x2 (ix3 (bt n) (pl n) k) = vPast (zRow x0 x1 x2) n (col 3 k) 2 := by
    rw [val_main_v158_apply]
    exact past81 x0 x1 x2 n (col 3 k) 2 _ rfl (by show 13 + n.val % 4096 + 2 = 15 + n.val % 4096; omega) (by show 192 + k.val = 64 * 3 + k.val; omega)
  have a2 : val_main_v159 (F := Ideal) x0 x1 x2 (ix3 (bt n) (pl n) k) = run (vPast (zRow x0 x1 x2) n (col 3 k)) 2 := by
    rw [val_main_v159_apply, a1, s2]
    rfl
  have s3 : val_main_v160 (F := Ideal) x0 x1 x2 (ix3 (bt n) (pl n) k) = vPast (zRow x0 x1 x2) n (col 3 k) 3 := by
    rw [val_main_v160_apply]
    exact past81 x0 x1 x2 n (col 3 k) 3 _ rfl (by show 12 + n.val % 4096 + 3 = 15 + n.val % 4096; omega) (by show 192 + k.val = 64 * 3 + k.val; omega)
  have a3 : val_main_v161 (F := Ideal) x0 x1 x2 (ix3 (bt n) (pl n) k) = run (vPast (zRow x0 x1 x2) n (col 3 k)) 3 := by
    rw [val_main_v161_apply, a2, s3]
    rfl
  have s4 : val_main_v162 (F := Ideal) x0 x1 x2 (ix3 (bt n) (pl n) k) = vPast (zRow x0 x1 x2) n (col 3 k) 4 := by
    rw [val_main_v162_apply]
    exact past81 x0 x1 x2 n (col 3 k) 4 _ rfl (by show 11 + n.val % 4096 + 4 = 15 + n.val % 4096; omega) (by show 192 + k.val = 64 * 3 + k.val; omega)
  have a4 : val_main_v163 (F := Ideal) x0 x1 x2 (ix3 (bt n) (pl n) k) = run (vPast (zRow x0 x1 x2) n (col 3 k)) 4 := by
    rw [val_main_v163_apply, a3, s4]
    rfl
  have s5 : val_main_v164 (F := Ideal) x0 x1 x2 (ix3 (bt n) (pl n) k) = vPast (zRow x0 x1 x2) n (col 3 k) 5 := by
    rw [val_main_v164_apply]
    exact past81 x0 x1 x2 n (col 3 k) 5 _ rfl (by show 10 + n.val % 4096 + 5 = 15 + n.val % 4096; omega) (by show 192 + k.val = 64 * 3 + k.val; omega)
  have a5 : val_main_v165 (F := Ideal) x0 x1 x2 (ix3 (bt n) (pl n) k) = run (vPast (zRow x0 x1 x2) n (col 3 k)) 5 := by
    rw [val_main_v165_apply, a4, s5]
    rfl
  have s6 : val_main_v166 (F := Ideal) x0 x1 x2 (ix3 (bt n) (pl n) k) = vPast (zRow x0 x1 x2) n (col 3 k) 6 := by
    rw [val_main_v166_apply]
    exact past81 x0 x1 x2 n (col 3 k) 6 _ rfl (by show 9 + n.val % 4096 + 6 = 15 + n.val % 4096; omega) (by show 192 + k.val = 64 * 3 + k.val; omega)
  have a6 : val_main_v167 (F := Ideal) x0 x1 x2 (ix3 (bt n) (pl n) k) = run (vPast (zRow x0 x1 x2) n (col 3 k)) 6 := by
    rw [val_main_v167_apply, a5, s6]
    rfl
  have s7 : val_main_v168 (F := Ideal) x0 x1 x2 (ix3 (bt n) (pl n) k) = vPast (zRow x0 x1 x2) n (col 3 k) 7 := by
    rw [val_main_v168_apply]
    exact past81 x0 x1 x2 n (col 3 k) 7 _ rfl (by show 8 + n.val % 4096 + 7 = 15 + n.val % 4096; omega) (by show 192 + k.val = 64 * 3 + k.val; omega)
  have a7 : val_main_v169 (F := Ideal) x0 x1 x2 (ix3 (bt n) (pl n) k) = run (vPast (zRow x0 x1 x2) n (col 3 k)) 7 := by
    rw [val_main_v169_apply, a6, s7]
    rfl
  have s8 : val_main_v170 (F := Ideal) x0 x1 x2 (ix3 (bt n) (pl n) k) = vPast (zRow x0 x1 x2) n (col 3 k) 8 := by
    rw [val_main_v170_apply]
    exact past81 x0 x1 x2 n (col 3 k) 8 _ rfl (by show 7 + n.val % 4096 + 8 = 15 + n.val % 4096; omega) (by show 192 + k.val = 64 * 3 + k.val; omega)
  have a8 : val_main_v171 (F := Ideal) x0 x1 x2 (ix3 (bt n) (pl n) k) = run (vPast (zRow x0 x1 x2) n (col 3 k)) 8 := by
    rw [val_main_v171_apply, a7, s8]
    rfl
  have s9 : val_main_v172 (F := Ideal) x0 x1 x2 (ix3 (bt n) (pl n) k) = vPast (zRow x0 x1 x2) n (col 3 k) 9 := by
    rw [val_main_v172_apply]
    exact past81 x0 x1 x2 n (col 3 k) 9 _ rfl (by show 6 + n.val % 4096 + 9 = 15 + n.val % 4096; omega) (by show 192 + k.val = 64 * 3 + k.val; omega)
  have a9 : val_main_v173 (F := Ideal) x0 x1 x2 (ix3 (bt n) (pl n) k) = run (vPast (zRow x0 x1 x2) n (col 3 k)) 9 := by
    rw [val_main_v173_apply, a8, s9]
    rfl
  have s10 : val_main_v174 (F := Ideal) x0 x1 x2 (ix3 (bt n) (pl n) k) = vPast (zRow x0 x1 x2) n (col 3 k) 10 := by
    rw [val_main_v174_apply]
    exact past81 x0 x1 x2 n (col 3 k) 10 _ rfl (by show 5 + n.val % 4096 + 10 = 15 + n.val % 4096; omega) (by show 192 + k.val = 64 * 3 + k.val; omega)
  have a10 : val_main_v175 (F := Ideal) x0 x1 x2 (ix3 (bt n) (pl n) k) = run (vPast (zRow x0 x1 x2) n (col 3 k)) 10 := by
    rw [val_main_v175_apply, a9, s10]
    rfl
  have s11 : val_main_v176 (F := Ideal) x0 x1 x2 (ix3 (bt n) (pl n) k) = vPast (zRow x0 x1 x2) n (col 3 k) 11 := by
    rw [val_main_v176_apply]
    exact past81 x0 x1 x2 n (col 3 k) 11 _ rfl (by show 4 + n.val % 4096 + 11 = 15 + n.val % 4096; omega) (by show 192 + k.val = 64 * 3 + k.val; omega)
  have a11 : val_main_v177 (F := Ideal) x0 x1 x2 (ix3 (bt n) (pl n) k) = run (vPast (zRow x0 x1 x2) n (col 3 k)) 11 := by
    rw [val_main_v177_apply, a10, s11]
    rfl
  have s12 : val_main_v178 (F := Ideal) x0 x1 x2 (ix3 (bt n) (pl n) k) = vPast (zRow x0 x1 x2) n (col 3 k) 12 := by
    rw [val_main_v178_apply]
    exact past81 x0 x1 x2 n (col 3 k) 12 _ rfl (by show 3 + n.val % 4096 + 12 = 15 + n.val % 4096; omega) (by show 192 + k.val = 64 * 3 + k.val; omega)
  have a12 : val_main_v179 (F := Ideal) x0 x1 x2 (ix3 (bt n) (pl n) k) = run (vPast (zRow x0 x1 x2) n (col 3 k)) 12 := by
    rw [val_main_v179_apply, a11, s12]
    rfl
  have s13 : val_main_v180 (F := Ideal) x0 x1 x2 (ix3 (bt n) (pl n) k) = vPast (zRow x0 x1 x2) n (col 3 k) 13 := by
    rw [val_main_v180_apply]
    exact past81 x0 x1 x2 n (col 3 k) 13 _ rfl (by show 2 + n.val % 4096 + 13 = 15 + n.val % 4096; omega) (by show 192 + k.val = 64 * 3 + k.val; omega)
  have a13 : val_main_v181 (F := Ideal) x0 x1 x2 (ix3 (bt n) (pl n) k) = run (vPast (zRow x0 x1 x2) n (col 3 k)) 13 := by
    rw [val_main_v181_apply, a12, s13]
    rfl
  have s14 : val_main_v182 (F := Ideal) x0 x1 x2 (ix3 (bt n) (pl n) k) = vPast (zRow x0 x1 x2) n (col 3 k) 14 := by
    rw [val_main_v182_apply]
    exact past81 x0 x1 x2 n (col 3 k) 14 _ rfl (by show 1 + n.val % 4096 + 14 = 15 + n.val % 4096; omega) (by show 192 + k.val = 64 * 3 + k.val; omega)
  have a14 : val_main_v183 (F := Ideal) x0 x1 x2 (ix3 (bt n) (pl n) k) = run (vPast (zRow x0 x1 x2) n (col 3 k)) 14 := by
    rw [val_main_v183_apply, a13, s14]
    rfl
  have s15 : val_main_v184 (F := Ideal) x0 x1 x2 (ix3 (bt n) (pl n) k) = vPast (zRow x0 x1 x2) n (col 3 k) 15 := by
    rw [val_main_v184_apply]
    exact past81 x0 x1 x2 n (col 3 k) 15 _ rfl (by show n.val % 4096 + 15 = 15 + n.val % 4096; omega) (by show 192 + k.val = 64 * 3 + k.val; omega)
  have a15 : val_main_v185 (F := Ideal) x0 x1 x2 (ix3 (bt n) (pl n) k) = run (vPast (zRow x0 x1 x2) n (col 3 k)) 15 := by
    rw [val_main_v185_apply, a14, s15]
    rfl
  exact a15

/-- The window length of group 3. -/
theorem count192 (n : Fin 16384) (k : Fin 64) : val_main_v192 (F := Ideal) (ix3 (bt n) (pl n) k) = count (BitVec.ofNat 32 (n.val % 4096)) 16#32 := by
  rw [val_main_v192_apply, val_main_v191_apply, val_main_v190_apply, val_main_v189_apply, val_main_v187_apply, val_main_v82_apply, val_main_v186_apply, val_main_c_19_apply, val_main_v188_apply, val_main_c_20_apply]
  rfl

/-- The window mean minus the token of group 3. -/
theorem pooled195 (x0 : Vec Ideal S4x4096x1024 .f32) (x1 : Vec Ideal S4x1024 .f32) (x2 : Vec Ideal S4x1024x3144 .f32) (n : Fin 16384) (k : Fin 64) :
    val_main_v195 (F := Ideal) x0 x1 x2 (ix3 (bt n) (pl n) k) = pooled (vPast (zRow x0 x1 x2) n (col 3 k)) (BitVec.ofNat 32 (n.val % 4096)) (col 3 k) := by
  have e : val_main_v194 (F := Ideal) x0 x1 x2 (ix3 (bt n) (pl n) k) = vPast (zRow x0 x1 x2) n (col 3 k) 0 := by
    rw [val_main_v194_apply]
    unfold vPast
    rw [if_neg (Nat.not_lt_zero _)]
    refine Eq.trans ?_ (pool51 x0 x1 x2 n (col 3 k))
    exact congrArg _ (funext fun a => match a with
      | ⟨0, _⟩ => rfl
      | ⟨1, _⟩ => rfl
      | ⟨2, _⟩ => Fin.ext (by show 192 + k.val = 64 * 3 + k.val; omega))
  have hw : widthW (col 3 k) = 16#32 := by
    have h : (col 3 k).val = 64 * 3 + k.val := rfl
    unfold widthW
    split_ifs <;> first | rfl | (exfalso; omega)
  have hl : lastOf (col 3 k) = 15 := by
    have h : (col 3 k).val = 64 * 3 + k.val := rfl
    unfold lastOf
    split_ifs <;> first | rfl | (exfalso; omega)
  rw [val_main_v195_apply, val_main_v193_apply, sum185, count192, e]
  unfold pooled
  rw [hw, hl]
  rfl

/-- The weights of group 3. -/
theorem weight197 (x4 : Vec Ideal S4x4x64x64 .f32) (k q : Fin 64) : val_main_v197 (F := Ideal) x4 (ix2 k q) = x4 (ix4 3 3 k q) := by
  rw [val_main_v197_apply, val_main_v196_apply]
  exact congrArg x4 (funext fun a => match a with
    | ⟨0, _⟩ => Fin.ext (by show 3 + 0 = 3; omega)
    | ⟨1, _⟩ => rfl
    | ⟨2, _⟩ => Fin.ext (by show (k.val * 64 + q.val) / 64 % 64 = k.val; omega)
    | ⟨3, _⟩ => Fin.ext (by show (k.val * 64 + q.val) % 64 = q.val; omega))

/-- The product of group 3. -/
theorem group198 (x0 : Vec Ideal S4x4096x1024 .f32) (x1 : Vec Ideal S4x1024 .f32) (x2 : Vec Ideal S4x1024x3144 .f32) (x4 : Vec Ideal S4x4x64x64 .f32) (n : Fin 16384) (q : Fin 64) :
    val_main_v198 (F := Ideal) x0 x1 x2 x4 (ix3 (bt n) (pl n) q)
      = ∑ k : Fin 64, pooled (vPast (zRow x0 x1 x2) n (col 3 k)) (BitVec.ofNat 32 (n.val % 4096)) (col 3 k) * x4 (ix4 3 3 k q) := by
  rw [val_main_v198_apply]
  refine Finset.sum_congr rfl fun k _ => ?_
  rw [show ridx_main_v198 (ix3 (bt n) (pl n) q) k = ix2 k q from funext fun a => match a with | ⟨0, _⟩ => rfl | ⟨1, _⟩ => rfl, weight197,
    show lidx_main_v198 (ix3 (bt n) (pl n) q) k = ix3 (bt n) (pl n) k from funext fun a => match a with | ⟨0, _⟩ => rfl | ⟨1, _⟩ => rfl | ⟨2, _⟩ => rfl, pooled195]

/-- The four groups' products. -/
def mixPieces (x0 : Vec Ideal S4x4096x1024 .f32) (x1 : Vec Ideal S4x1024 .f32) (x2 : Vec Ideal S4x1024x3144 .f32) (x4 : Vec Ideal S4x4x64x64 .f32) : List (Σ s : Shape, s.Idx → Ideal .f32) :=
  [⟨S4x4096x64, val_main_v100 (F := Ideal) x0 x1 x2 x4⟩, ⟨S4x4096x64, val_main_v122 (F := Ideal) x0 x1 x2 x4⟩, ⟨S4x4096x64, val_main_v152 (F := Ideal) x0 x1 x2 x4⟩, ⟨S4x4096x64, val_main_v198 (F := Ideal) x0 x1 x2 x4⟩]

/-- The groups joined. -/
theorem joined199 (x0 : Vec Ideal S4x4096x1024 .f32) (x1 : Vec Ideal S4x1024 .f32) (x2 : Vec Ideal S4x1024x3144 .f32) (x4 : Vec Ideal S4x4x64x64 .f32) (n : Fin 16384) (g : Fin 4) (q : Fin 64) :
    val_main_v199 (F := Ideal) x0 x1 x2 x4 (ix3 (bt n) (pl n) (col g q))
      = ∑ k : Fin 64, pooled (vPast (zRow x0 x1 x2) n (col g k)) (BitVec.ofNat 32 (n.val % 4096)) (col g k) * x4 (ix4 3 g k q) := by
  unfold val_main_v199
  match g with
  | ⟨0, _⟩ =>
    refine (concatenate_apply_piece (2 : Fin S4x4096x256.rank) (mixPieces x0 x1 x2 x4) _ (ix3 (bt n) (pl n) (col 0 q)) 0 (by show 0 < 4; omega) S4x4096x64 _ rfl rfl 0 rfl (ix3 (bt n) (pl n) q : S4x4096x64.Idx)
      (fun a => match a with | ⟨0, _⟩ => fun _ => rfl | ⟨1, _⟩ => fun _ => rfl | ⟨2, _⟩ => fun h => absurd rfl h) (by show 0 + q.val = 64 * 0 + q.val; omega)).trans ?_
    exact group100 x0 x1 x2 x4 n q
  | ⟨1, _⟩ =>
    refine (concatenate_apply_piece (2 : Fin S4x4096x256.rank) (mixPieces x0 x1 x2 x4) _ (ix3 (bt n) (pl n) (col 1 q)) 1 (by show 1 < 4; omega) S4x4096x64 _ rfl rfl 64 rfl (ix3 (bt n) (pl n) q : S4x4096x64.Idx)
      (fun a => match a with | ⟨0, _⟩ => fun _ => rfl | ⟨1, _⟩ => fun _ => rfl | ⟨2, _⟩ => fun h => absurd rfl h) (by show 64 + q.val = 64 * 1 + q.val; omega)).trans ?_
    exact group122 x0 x1 x2 x4 n q
  | ⟨2, _⟩ =>
    refine (concatenate_apply_piece (2 : Fin S4x4096x256.rank) (mixPieces x0 x1 x2 x4) _ (ix3 (bt n) (pl n) (col 2 q)) 2 (by show 2 < 4; omega) S4x4096x64 _ rfl rfl 128 rfl (ix3 (bt n) (pl n) q : S4x4096x64.Idx)
      (fun a => match a with | ⟨0, _⟩ => fun _ => rfl | ⟨1, _⟩ => fun _ => rfl | ⟨2, _⟩ => fun h => absurd rfl h) (by show 128 + q.val = 64 * 2 + q.val; omega)).trans ?_
    exact group152 x0 x1 x2 x4 n q
  | ⟨3, _⟩ =>
    refine (concatenate_apply_piece (2 : Fin S4x4096x256.rank) (mixPieces x0 x1 x2 x4) _ (ix3 (bt n) (pl n) (col 3 q)) 3 (by show 3 < 4; omega) S4x4096x64 _ rfl rfl 192 rfl (ix3 (bt n) (pl n) q : S4x4096x64.Idx)
      (fun a => match a with | ⟨0, _⟩ => fun _ => rfl | ⟨1, _⟩ => fun _ => rfl | ⟨2, _⟩ => fun h => absurd rfl h) (by show 192 + q.val = 64 * 3 + q.val; omega)).trans ?_
    exact group198 x0 x1 x2 x4 n q

/-- The pooling mixer's scale. -/
theorem scale203 (x5 : Vec Ideal S4x256 .f32) (q : Fin 4) (s : Fin 4096) (j : Fin 256) : val_main_v203 (F := Ideal) x5 (ix3 q s j) = x5 (ix2 3 j) := by
  rw [val_main_v203_apply, val_main_v202_apply, val_main_v201_apply, val_main_v200_apply]
  exact congrArg x5 (funext fun a => match a with
    | ⟨0, _⟩ => Fin.ext (by show 3 + 0 = 3; omega)
    | ⟨1, _⟩ => Fin.ext (by show j.val % 256 = j.val; omega))

/-- The pooling mixer of a token. -/
theorem pool204 (x0 : Vec Ideal S4x4096x1024 .f32) (x1 : Vec Ideal S4x1024 .f32) (x2 : Vec Ideal S4x1024x3144 .f32) (x4 : Vec Ideal S4x4x64x64 .f32) (x5 : Vec Ideal S4x256 .f32) (n : Fin 16384) (g : Fin 4) (q : Fin 64) :
    val_main_v204 (F := Ideal) x0 x1 x2 x4 x5 (ix3 (bt n) (pl n) (col g q)) = ybRow (zRow x0 x1 x2) x4 x5 n g q := by
  rw [val_main_v204_apply, joined199, scale203]
  rfl

/-- The two mixers' result, row by row. -/
theorem yab207 (x0 : Vec Ideal S4x4096x1024 .f32) (x1 : Vec Ideal S4x1024 .f32) (x2 : Vec Ideal S4x1024x3144 .f32) (x3 : Vec Ideal S4x3x256 .f32) (x4 : Vec Ideal S4x4x64x64 .f32) (x5 : Vec Ideal S4x256 .f32) (n : Fin 16384) (j : Fin 512) :
    val_main_v207 (F := Ideal) x0 x1 x2 x3 x4 x5 (ix2 n j) = yabArr x0 x1 x2 x3 x4 x5 (ix2 n j) := by
  have tr : val_main_v207 (F := Ideal) x0 x1 x2 x3 x4 x5 (ix2 n j) = val_main_v206 (F := Ideal) x0 x1 x2 x3 x4 x5 (ix2 n j) := rfl
  rw [tr, val_main_v206_apply, show idx_main_v206 (ix2 n j) = ix3 (bt n) (pl n) j from funext fun a => match a with
    | ⟨0, _⟩ => Fin.ext (by show (n.val * 512 + j.val) / 2097152 = n.val / 4096; omega)
    | ⟨1, _⟩ => Fin.ext (by show (n.val * 512 + j.val) / 512 % 4096 = n.val % 4096; omega)
    | ⟨2, _⟩ => Fin.ext (by show (n.val * 512 + j.val) % 512 = j.val; omega)]
  unfold val_main_v205 yabArr
  by_cases h : j.val < 256
  · refine Eq.trans ?_ (Eq.symm (dif_pos ?_))
    · refine (concatenate_pair_apply_left (2 : Fin S4x4096x512.rank) (val_main_v79 (F := Ideal) x0 x1 x2 x3) (val_main_v204 (F := Ideal) x0 x1 x2 x4 x5) _ (ix3 (bt n) (pl n) j) rfl (ix3 (bt n) (pl n) ⟨j.val, h⟩ : S4x4096x256.Idx)
        (fun a => match a with | ⟨0, _⟩ => rfl | ⟨1, _⟩ => rfl | ⟨2, _⟩ => rfl)).trans ?_
      exact conv79 x0 x1 x2 x3 n _
  · refine Eq.trans ?_ (Eq.symm (dif_neg ?_))
    · refine (concatenate_pair_apply_right (2 : Fin S4x4096x512.rank) (val_main_v79 (F := Ideal) x0 x1 x2 x3) (val_main_v204 (F := Ideal) x0 x1 x2 x4 x5) _ (ix3 (bt n) (pl n) j) rfl rfl
        (ix3 (bt n) (pl n) (col ⟨(j.val - 256) / 64, by omega⟩ ⟨(j.val - 256) % 64, by omega⟩) : S4x4096x256.Idx)
        (fun a => match a with | ⟨0, _⟩ => fun _ => rfl | ⟨1, _⟩ => fun _ => rfl | ⟨2, _⟩ => fun h => absurd rfl h) (by show 64 * ((j.val - 256) / 64) + (j.val - 256) % 64 + 256 = j.val; omega)).trans ?_
      exact pool204 x0 x1 x2 x4 x5 n _ _
    · exact h

end Cert.InprojRefValue

end
-- ==== Proof.Inproj.Claims.lean ====
/- The claims about the input projection: the three frames, the idealization, and the value. -/
module

public import proofs.«01_k».proof.Defs
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojIdeal.Value
public import proofs.«01_k».proof.Proof.Gen.InprojReferenceIdeal
public import proofs.«01_k».proof.Proof.Gen.InprojReferenceIdeal.Run
public import proofs.«01_k».proof.Proof.Inproj.Arr
public import proofs.«01_k».proof.Proof.Inproj.Ref
public import proofs.«01_k».proof.Proof.Inproj.MixRef
public import Idealize.ShloMosaic.Adequacy

@[expose] public section

noncomputable section

namespace Cert.Proof.InprojClaims

open Idealize.ShloMosaic Idealize.ShloMosaic.TcCoe Idealize.SL.Sem Cert.InprojValue Cert.InprojRefValue

/-- The input projection as written ends with its arguments as launched and every counter at zero. -/
theorem frame_p : Cert.quiescent_Inproj := fun m ρ _ => Cert.Inproj.Gen.frame m ρ

/-- So does the idealized input projection. -/
theorem frame_pi : Cert.quiescent_InprojIdeal := fun m ρ _ => Cert.InprojIdeal.Gen.frame m ρ

/-- So does the idealized reference. -/
theorem frame_ri : Cert.quiescent_InprojReferenceIdeal := fun m ρ _ =>
  (θ_run Cert.InprojReferenceIdeal.defs _ _).mono (fun r h => ⟨fun c => (h c).2.2.2.2.2,
      Idealize.ShloMosaic.sem_eq_zero_of_no_sems (by decide) r.2⟩)
    (Cert.InprojReferenceIdeal.Value.run (F := Ideal) m ρ)

variable (x0 : Vec Ideal Cert.InprojReferenceIdeal.S4x4096x1024 .f32) (x1 : Vec Ideal Cert.InprojReferenceIdeal.S4x1024 .f32) (x2 : Vec Ideal Cert.InprojReferenceIdeal.S4x1024x3144 .f32)

/-- The reference's queries, keys and indexer columns are the kernel's. -/
theorem zb_eq : Cert.InprojReferenceIdeal.Read.val_main_v45 (F := Ideal) x0 x1 x2 = zbArr x0 x1 x2 := by
  funext i
  exact (congrArg _ (eq_ix2 i)).trans (zb45 x0 x1 x2 (i 0) (i 1))

/-- The reference's values are the kernel's. -/
theorem vt_eq : Cert.InprojReferenceIdeal.Read.val_main_v46 (F := Ideal) x0 x1 x2 = vtArr x0 x1 x2 := by
  funext i
  obtain ⟨a, b, j, q, rfl⟩ : ∃ (a : Fin 4) (b : Fin 16) (j : Fin 512) (q : Fin 256), i = ix4 a b j q := ⟨i 0, i 1, i 2, i 3, eq_ix4 i⟩
  rw [vt46]
  have e0 : a = ⟨(tok a b q).val / 4096, by omega⟩ := Fin.ext (by show a.val = (4096 * a.val + 256 * b.val + q.val) / 4096; omega)
  have e1 : (⟨256 * b.val + q.val, by omega⟩ : Fin 4096) = ⟨(tok a b q).val % 4096, by omega⟩ := Fin.ext (by show 256 * b.val + q.val = (4096 * a.val + 256 * b.val + q.val) % 4096; omega)
  exact congrArg (fun f => vtRow f j) (congrArg₂ (z x0 x1 x2) e0 e1)

/-- The reference's indexer weights are the kernel's. -/
theorem zc_eq : Cert.InprojReferenceIdeal.Read.val_main_v39 (F := Ideal) x0 x1 x2 = zcArr x0 x1 x2 := by
  funext i
  exact (congrArg _ (eq_ix2 i)).trans (zc39 x0 x1 x2 (i 0) (i 1))

/-- The reference's mean keys are the kernel's. -/
theorem km_eq : Cert.InprojReferenceIdeal.Read.val_main_v44 (F := Ideal) x0 x1 x2 = kmArr x0 x1 x2 := by
  funext i
  exact (congrArg _ (eq_ix3 i)).trans (km44 x0 x1 x2 (i 0) (i 1) (i 2))

/-- The reference's mixers are the kernel's. -/
theorem yab_eq (x3 : Vec Ideal Cert.InprojReferenceIdeal.S4x3x256 .f32) (x4 : Vec Ideal Cert.InprojReferenceIdeal.S4x4x64x64 .f32) (x5 : Vec Ideal Cert.InprojReferenceIdeal.S4x256 .f32) :
    Cert.InprojReferenceIdeal.Read.val_main_v207 (F := Ideal) x0 x1 x2 x3 x4 x5 = yabArr x0 x1 x2 x3 x4 x5 := by
  funext i
  have e := eq_ix2 i
  exact (congrArg (Cert.InprojReferenceIdeal.Read.val_main_v207 (F := Ideal) x0 x1 x2 x3 x4 x5) e).trans
    ((yab207 x0 x1 x2 x3 x4 x5 (i 0) (i 1)).trans (congrArg (yabArr x0 x1 x2 x3 x4 x5) e.symm))

/-- On argument arrays that agree the kernel and the reference leave the same five results. -/
theorem algebraic : Cert.algebraic_InprojIdeal_InprojReferenceIdeal := by
  intro m ρ m' ρ' _ hagree
  refine ⟨fun c => yabRes m c, fun c => zbRes m c, fun c => vtRes m c, fun c => zcRes m c, fun c => kmRes m c,
    (θ_run Cert.InprojIdeal.defs _ _).mono (fun _ h c => ⟨(h c).1.trans (yab_final m c), (h c).2.1.trans (zb_final m c), (h c).2.2.1.trans (vt_final m c), (h c).2.2.2.1.trans (zc_final m c), (h c).2.2.2.2.1.trans (km_final m c), (h c).2.2.2.2.2⟩)
      (Cert.InprojIdeal.Value.run_blocks (F := Ideal) m ρ), ?_⟩
  refine (θ_run Cert.InprojReferenceIdeal.defs _ _).mono (fun _ h c => ?_) (Cert.InprojReferenceIdeal.Value.run (F := Ideal) m' ρ')
  obtain ⟨g0, g1, g2, g3, g4, g5⟩ := hagree c
  have e0 : StableHlo.launchContents m' c (Proc.tc.devRef Cert.InprojReferenceIdeal.main_arg0) = m (c.tc.loc Cert.InprojIdeal.main_arg0) := g0
  have e1 : StableHlo.launchContents m' c (Proc.tc.devRef Cert.InprojReferenceIdeal.main_arg1) = m (c.tc.loc Cert.InprojIdeal.main_arg1) := g1
  have e2 : StableHlo.launchContents m' c (Proc.tc.devRef Cert.InprojReferenceIdeal.main_arg2) = m (c.tc.loc Cert.InprojIdeal.main_arg2) := g2
  have e3 : StableHlo.launchContents m' c (Proc.tc.devRef Cert.InprojReferenceIdeal.main_arg3) = m (c.tc.loc Cert.InprojIdeal.main_arg3) := g3
  have e4 : StableHlo.launchContents m' c (Proc.tc.devRef Cert.InprojReferenceIdeal.main_arg4) = m (c.tc.loc Cert.InprojIdeal.main_arg4) := g4
  have e5 : StableHlo.launchContents m' c (Proc.tc.devRef Cert.InprojReferenceIdeal.main_arg5) = m (c.tc.loc Cert.InprojIdeal.main_arg5) := g5
  obtain ⟨h0, h1, h2, h3, h4, h5⟩ := h c
  refine ⟨h0.trans ?_, h1.trans ?_, h2.trans ?_, h3.trans ?_, h4.trans ?_, h5⟩
  · rw [Cert.InprojReferenceIdeal.Read.val_main_v207_eq, e0, e1, e2, e3, e4, e5]
    exact yab_eq _ _ _ _ _ _
  · rw [Cert.InprojReferenceIdeal.Read.val_main_v45_eq, e0, e1, e2]
    exact zb_eq _ _ _
  · rw [Cert.InprojReferenceIdeal.Read.val_main_v46_eq, e0, e1, e2]
    exact vt_eq _ _ _
  · rw [Cert.InprojReferenceIdeal.Read.val_main_v39_eq, e0, e1, e2]
    exact zc_eq _ _ _
  · rw [Cert.InprojReferenceIdeal.Read.val_main_v44_eq, e0, e1, e2]
    exact km_eq _ _ _

end Cert.Proof.InprojClaims

end
-- ==== Proof.lean ====
/- The certificate: the claims about the layer's attention call, its tail and its input projection, assembled behind the witnesses of the programs' stated facts. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailReferenceIdeal
public import proofs.«01_k».proof.Proof.Gen.TailIdeal.Value
public import proofs.«01_k».proof.Proof.Gen.TailReferenceIdeal.Run
public import proofs.«01_k».proof.Proof.Gen.TailReferenceIdeal.Read
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojReferenceIdeal
public import proofs.«01_k».proof.Proof.Gen.InprojIdeal.Value
public import proofs.«01_k».proof.Proof.Gen.InprojReferenceIdeal.Run
public import proofs.«01_k».proof.Proof.Gen.InprojReferenceIdeal.Read
public import proofs.«01_k».proof.Proof.Attn.Run
public import proofs.«01_k».proof.Proof.Tail.Claims
public import proofs.«01_k».proof.Proof.Inproj.Claims
public import Idealize.ShloMosaic.Adequacy
public import Idealize.ShloMosaic.Init

@[expose] public section

noncomputable section

namespace Cert.Proof

open Idealize.ShloMosaic Idealize.SL.Sem Cert.Tail

/-- Every claim of the certificate. -/
theorem claim : Cert.Claim := ⟨Cert.Kernel.Gen.facts, Cert.Tail.Gen.facts, Cert.TailIdeal.Gen.facts, Cert.TailReferenceIdeal.Gen.facts,
  Cert.Inproj.Gen.facts, Cert.InprojIdeal.Gen.facts, Cert.InprojReferenceIdeal.Gen.facts,
  fun m ρ _ => Cert.AttnFrame.frame m ρ, TailClaims.frame_p, TailClaims.frame_pi, TailClaims.frame_ri,
  InprojClaims.frame_p, InprojClaims.frame_pi, InprojClaims.frame_ri,
  trivial, TailClaims.algebraic, trivial, InprojClaims.algebraic⟩

end Cert.Proof

end
